-- ==== Defs.lean ====
def Pre_Kernel [hPre_ranked : Cert.Pre_ranked.Facts] (m : (ℓ : Loc Cert.Kernel.nD Cert.Kernel.τ Cert.Kernel.sig) → Buf (Elt Bits) ℓ) : Prop :=
  ∀ c : Dev Cert.Kernel.nD,
    (Cert.Pre_ranked.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_ranked : Cert.Pre_ranked.Facts] (m : (ℓ : Loc Cert.KernelIdeal.nD Cert.KernelIdeal.τ Cert.KernelIdeal.sig) → Buf (Elt Ideal) ℓ) : Prop :=
  ∀ c : Dev Cert.KernelIdeal.nD,
    (Cert.Pre_ranked.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_ranked [hPre_ranked : Cert.Pre_ranked.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_ranked.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def Pre_Reference [hPre_ranked : Cert.Pre_ranked.Facts] (m : (ℓ : Loc Cert.Reference.nD Cert.Reference.τ Cert.Reference.sig) → Buf (Elt Bits) ℓ) : Prop :=
  ∀ c : Dev Cert.Reference.nD,
    (Cert.Pre_ranked.fn (F := Bits) (m ((c.tc : Thread Cert.Reference.nD Cert.Reference.τ).loc Cert.Reference.main_arg0)) (m ((c.tc : Thread Cert.Reference.nD Cert.Reference.τ).loc Cert.Reference.main_arg1)) (m ((c.tc : Thread Cert.Reference.nD Cert.Reference.τ).loc Cert.Reference.main_arg2)) (m ((c.tc : Thread Cert.Reference.nD Cert.Reference.τ).loc Cert.Reference.main_arg3))) = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 [hPre_ranked3 : Cert.Pre_ranked3.Facts] (m : (ℓ : Loc Cert.Kernel3.nD Cert.Kernel3.τ Cert.Kernel3.sig) → Buf (Elt Bits) ℓ) : Prop :=
  ∀ c : Dev Cert.Kernel3.nD,
    (Cert.Pre_ranked3.fn (F := Bits) (m ((c.tc : Thread Cert.Kernel3.nD Cert.Kernel3.τ).loc Cert.Kernel3.main_arg0)) (m ((c.tc : Thread Cert.Kernel3.nD Cert.Kernel3.τ).loc Cert.Kernel3.main_arg1)) (m ((c.tc : Thread Cert.Kernel3.nD Cert.Kernel3.τ).loc Cert.Kernel3.main_arg2)) (m ((c.tc : Thread Cert.Kernel3.nD Cert.Kernel3.τ).loc Cert.Kernel3.main_arg3)) (m ((c.tc : Thread Cert.Kernel3.nD Cert.Kernel3.τ).loc Cert.Kernel3.main_arg4)) (m ((c.tc : Thread Cert.Kernel3.nD Cert.Kernel3.τ).loc Cert.Kernel3.main_arg5)) (m ((c.tc : Thread Cert.Kernel3.nD Cert.Kernel3.τ).loc Cert.Kernel3.main_arg6)) (m ((c.tc : Thread Cert.Kernel3.nD Cert.Kernel3.τ).loc Cert.Kernel3.main_arg7)) (m ((c.tc : Thread Cert.Kernel3.nD Cert.Kernel3.τ).loc Cert.Kernel3.main_arg8))) = (fun _ => 1#1)

def Pre_Kernel3Ideal [hPre_ranked3 : Cert.Pre_ranked3.Facts] (m : (ℓ : Loc Cert.Kernel3Ideal.nD Cert.Kernel3Ideal.τ Cert.Kernel3Ideal.sig) → Buf (Elt Ideal) ℓ) : Prop :=
  ∀ c : Dev Cert.Kernel3Ideal.nD,
    (Cert.Pre_ranked3.fn (F := Ideal) (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1)) (m ((c.tc : Thread Cert.Kernel3Ideal.nD Cert.Kernel3Ideal.τ).loc Cert.Kernel3Ideal.main_arg2)) (m ((c.tc : Thread Cert.Kernel3Ideal.nD Cert.Kernel3Ideal.τ).loc Cert.Kernel3Ideal.main_arg3)) (m ((c.tc : Thread Cert.Kernel3Ideal.nD Cert.Kernel3Ideal.τ).loc Cert.Kernel3Ideal.main_arg4)) (m ((c.tc : Thread Cert.Kernel3Ideal.nD Cert.Kernel3Ideal.τ).loc Cert.Kernel3Ideal.main_arg5)) (m ((c.tc : Thread Cert.Kernel3Ideal.nD Cert.Kernel3Ideal.τ).loc Cert.Kernel3Ideal.main_arg6)) (m ((c.tc : Thread Cert.Kernel3Ideal.nD Cert.Kernel3Ideal.τ).loc Cert.Kernel3Ideal.main_arg7)) (m ((c.tc : Thread Cert.Kernel3Ideal.nD Cert.Kernel3Ideal.τ).loc Cert.Kernel3Ideal.main_arg8))) = (fun _ => 1#1)

def Pre_Reference3Ideal (m : (ℓ : Loc Cert.Reference3Ideal.nD Cert.Reference3Ideal.τ Cert.Reference3Ideal.sig) → Buf (Elt Ideal) ℓ) : Prop :=
  True

def Pre_Reference3Ideal_ranked3 [hPre_ranked3 : Cert.Pre_ranked3.Facts] (m : (ℓ : Loc Cert.Reference3Ideal.nD Cert.Reference3Ideal.τ Cert.Reference3Ideal.sig) → Buf (Elt Ideal) ℓ) : Prop :=
  ∀ c : Dev Cert.Reference3Ideal.nD,
    (Cert.Pre_ranked3.fn (F := Ideal) (m ((c.tc : Thread Cert.Reference3Ideal.nD Cert.Reference3Ideal.τ).loc Cert.Reference3Ideal.main_arg0)) (m ((c.tc : Thread Cert.Reference3Ideal.nD Cert.Reference3Ideal.τ).loc Cert.Reference3Ideal.main_arg1)) (m ((c.tc : Thread Cert.Reference3Ideal.nD Cert.Reference3Ideal.τ).loc Cert.Reference3Ideal.main_arg2)) (m ((c.tc : Thread Cert.Reference3Ideal.nD Cert.Reference3Ideal.τ).loc Cert.Reference3Ideal.main_arg3)) (m ((c.tc : Thread Cert.Reference3Ideal.nD Cert.Reference3Ideal.τ).loc Cert.Reference3Ideal.main_arg4)) (m ((c.tc : Thread Cert.Reference3Ideal.nD Cert.Reference3Ideal.τ).loc Cert.Reference3Ideal.main_arg5)) (m ((c.tc : Thread Cert.Reference3Ideal.nD Cert.Reference3Ideal.τ).loc Cert.Reference3Ideal.main_arg6)) (m ((c.tc : Thread Cert.Reference3Ideal.nD Cert.Reference3Ideal.τ).loc Cert.Reference3Ideal.main_arg7)) (m ((c.tc : Thread Cert.Reference3Ideal.nD Cert.Reference3Ideal.τ).loc Cert.Reference3Ideal.main_arg8))) = (fun _ => 1#1)

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def quiescent_Kernel [hKernel : Cert.Kernel.Facts] [hPre_ranked : Cert.Pre_ranked.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] [hPre_ranked : Cert.Pre_ranked.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_ReferenceIdeal_pre_ranked [hReferenceIdeal : Cert.ReferenceIdeal.Facts] [hPre_ranked : Cert.Pre_ranked.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_ranked m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_Reference [hReference : Cert.Reference.Facts] [hPre_ranked : Cert.Pre_ranked.Facts] : Prop :=
  ∀ (m : (ℓ : Loc Cert.Reference.nD Cert.Reference.τ Cert.Reference.sig) → Buf (Elt Bits) ℓ) (g : Dev Cert.Reference.nD → PrngReg), Pre_Reference m →
    θ_run (Cert.Reference.defs (F := Bits)) (onTc (τ := Cert.Reference.τ) (Cert.Reference.main (F := Bits))) ⟨m, fun _ => 0, g⟩ (fun r => (∀ c : Dev Cert.Reference.nD,
      r.2.mem ((c.tc : Thread Cert.Reference.nD Cert.Reference.τ).loc Cert.Reference.main_arg0) = m ((c.tc : Thread Cert.Reference.nD Cert.Reference.τ).loc Cert.Reference.main_arg0)
      ∧ r.2.mem ((c.tc : Thread Cert.Reference.nD Cert.Reference.τ).loc Cert.Reference.main_arg1) = m ((c.tc : Thread Cert.Reference.nD Cert.Reference.τ).loc Cert.Reference.main_arg1)
      ∧ r.2.mem ((c.tc : Thread Cert.Reference.nD Cert.Reference.τ).loc Cert.Reference.main_arg2) = m ((c.tc : Thread Cert.Reference.nD Cert.Reference.τ).loc Cert.Reference.main_arg2)
      ∧ r.2.mem ((c.tc : Thread Cert.Reference.nD Cert.Reference.τ).loc Cert.Reference.main_arg3) = m ((c.tc : Thread Cert.Reference.nD Cert.Reference.τ).loc Cert.Reference.main_arg3))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3))
      ∧ r.2.sem = fun _ => 0)

def quiescent_Kernel3 [hKernel3 : Cert.Kernel3.Facts] [hPre_ranked3 : Cert.Pre_ranked3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4)
      ∧ r.2.mem ((c.tc : Thread Cert.Kernel3.nD Cert.Kernel3.τ).loc Cert.Kernel3.main_arg5) = m ((c.tc : Thread Cert.Kernel3.nD Cert.Kernel3.τ).loc Cert.Kernel3.main_arg5)
      ∧ r.2.mem ((c.tc : Thread Cert.Kernel3.nD Cert.Kernel3.τ).loc Cert.Kernel3.main_arg6) = m ((c.tc : Thread Cert.Kernel3.nD Cert.Kernel3.τ).loc Cert.Kernel3.main_arg6)
      ∧ r.2.mem ((c.tc : Thread Cert.Kernel3.nD Cert.Kernel3.τ).loc Cert.Kernel3.main_arg7) = m ((c.tc : Thread Cert.Kernel3.nD Cert.Kernel3.τ).loc Cert.Kernel3.main_arg7)
      ∧ r.2.mem ((c.tc : Thread Cert.Kernel3.nD Cert.Kernel3.τ).loc Cert.Kernel3.main_arg8) = m ((c.tc : Thread Cert.Kernel3.nD Cert.Kernel3.τ).loc Cert.Kernel3.main_arg8))
      ∧ r.2.sem = fun _ => 0)

def quiescent_Kernel3Ideal [hKernel3Ideal : Cert.Kernel3Ideal.Facts] [hPre_ranked3 : Cert.Pre_ranked3.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
      ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
      ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
      ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7)
      ∧ r.2.mem ((c.tc : Thread Cert.Kernel3Ideal.nD Cert.Kernel3Ideal.τ).loc Cert.Kernel3Ideal.main_arg8) = m ((c.tc : Thread Cert.Kernel3Ideal.nD Cert.Kernel3Ideal.τ).loc Cert.Kernel3Ideal.main_arg8))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5)
      ∧ r.2.mem ((c.tc : Thread Cert.Reference3Ideal.nD Cert.Reference3Ideal.τ).loc Cert.Reference3Ideal.main_arg6) = m ((c.tc : Thread Cert.Reference3Ideal.nD Cert.Reference3Ideal.τ).loc Cert.Reference3Ideal.main_arg6)
      ∧ r.2.mem ((c.tc : Thread Cert.Reference3Ideal.nD Cert.Reference3Ideal.τ).loc Cert.Reference3Ideal.main_arg7) = m ((c.tc : Thread Cert.Reference3Ideal.nD Cert.Reference3Ideal.τ).loc Cert.Reference3Ideal.main_arg7)
      ∧ r.2.mem ((c.tc : Thread Cert.Reference3Ideal.nD Cert.Reference3Ideal.τ).loc Cert.Reference3Ideal.main_arg8) = m ((c.tc : Thread Cert.Reference3Ideal.nD Cert.Reference3Ideal.τ).loc Cert.Reference3Ideal.main_arg8))
      ∧ r.2.sem = fun _ => 0)

def quiescent_Reference3Ideal_pre_ranked3 [hReference3Ideal : Cert.Reference3Ideal.Facts] [hPre_ranked3 : Cert.Pre_ranked3.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal_ranked3 m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5)
      ∧ r.2.mem ((c.tc : Thread Cert.Reference3Ideal.nD Cert.Reference3Ideal.τ).loc Cert.Reference3Ideal.main_arg6) = m ((c.tc : Thread Cert.Reference3Ideal.nD Cert.Reference3Ideal.τ).loc Cert.Reference3Ideal.main_arg6)
      ∧ r.2.mem ((c.tc : Thread Cert.Reference3Ideal.nD Cert.Reference3Ideal.τ).loc Cert.Reference3Ideal.main_arg7) = m ((c.tc : Thread Cert.Reference3Ideal.nD Cert.Reference3Ideal.τ).loc Cert.Reference3Ideal.main_arg7)
      ∧ r.2.mem ((c.tc : Thread Cert.Reference3Ideal.nD Cert.Reference3Ideal.τ).loc Cert.Reference3Ideal.main_arg8) = m ((c.tc : Thread Cert.Reference3Ideal.nD Cert.Reference3Ideal.τ).loc Cert.Reference3Ideal.main_arg8))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3)
      ∧ r.2.mem ((c.tc : Thread Cert.Kernel4.nD Cert.Kernel4.τ).loc Cert.Kernel4.main_arg4) = m ((c.tc : Thread Cert.Kernel4.nD Cert.Kernel4.τ).loc Cert.Kernel4.main_arg4))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
      ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3)
      ∧ r.2.mem ((c.tc : Thread Cert.Reference4Ideal.nD Cert.Reference4Ideal.τ).loc Cert.Reference4Ideal.main_arg4) = m ((c.tc : Thread Cert.Reference4Ideal.nD Cert.Reference4Ideal.τ).loc Cert.Reference4Ideal.main_arg4))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] [hPre_ranked : Cert.Pre_ranked.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v26)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v26) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v44) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def bitexact_Kernel_Reference [hKernel : Cert.Kernel.Facts] [hReference : Cert.Reference.Facts] [hPre_ranked : Cert.Pre_ranked.Facts] : Prop :=
  ∀ (m : (ℓ : Loc Cert.Kernel.nD Cert.Kernel.τ Cert.Kernel.sig) → Buf (Elt Bits) ℓ) (g : Dev Cert.Kernel.nD → PrngReg)
    (m' : (ℓ : Loc Cert.Reference.nD Cert.Reference.τ Cert.Reference.sig) → Buf (Elt Bits) ℓ) (g' : Dev Cert.Reference.nD → PrngReg), Pre_Kernel m →
    (∀ c : Dev Cert.Kernel.nD,
      m' ((c.tc : Thread Cert.Reference.nD Cert.Reference.τ).loc Cert.Reference.main_arg0) = m ((c.tc : Thread Cert.Kernel.nD Cert.Kernel.τ).loc Cert.Kernel.main_arg0)
      ∧ m' ((c.tc : Thread Cert.Reference.nD Cert.Reference.τ).loc Cert.Reference.main_arg1) = m ((c.tc : Thread Cert.Kernel.nD Cert.Kernel.τ).loc Cert.Kernel.main_arg1)
      ∧ m' ((c.tc : Thread Cert.Reference.nD Cert.Reference.τ).loc Cert.Reference.main_arg2) = m ((c.tc : Thread Cert.Kernel.nD Cert.Kernel.τ).loc Cert.Kernel.main_arg2)
      ∧ m' ((c.tc : Thread Cert.Reference.nD Cert.Reference.τ).loc Cert.Reference.main_arg3) = m ((c.tc : Thread Cert.Kernel.nD Cert.Kernel.τ).loc Cert.Kernel.main_arg3)) →
    ∃ (v0 : (c : Dev Cert.Kernel.nD) → Buf (Elt Bits) ((c.tc : Thread Cert.Kernel.nD Cert.Kernel.τ).loc Cert.Kernel.main_v26)),
      θ_run (Cert.Kernel.defs (F := Bits)) (onTc (τ := Cert.Kernel.τ) (Cert.Kernel.main (F := Bits))) ⟨m, fun _ => 0, g⟩ (fun r => ∀ c : Dev Cert.Kernel.nD,
          r.2.mem ((c.tc : Thread Cert.Kernel.nD Cert.Kernel.τ).loc Cert.Kernel.main_v26) = v0 c
          ∧ r.2.mem ((c.tc : Thread Cert.Kernel.nD Cert.Kernel.τ).loc Cert.Kernel.main_arg0) = m ((c.tc : Thread Cert.Kernel.nD Cert.Kernel.τ).loc Cert.Kernel.main_arg0)
          ∧ r.2.mem ((c.tc : Thread Cert.Kernel.nD Cert.Kernel.τ).loc Cert.Kernel.main_arg1) = m ((c.tc : Thread Cert.Kernel.nD Cert.Kernel.τ).loc Cert.Kernel.main_arg1)
          ∧ r.2.mem ((c.tc : Thread Cert.Kernel.nD Cert.Kernel.τ).loc Cert.Kernel.main_arg2) = m ((c.tc : Thread Cert.Kernel.nD Cert.Kernel.τ).loc Cert.Kernel.main_arg2)
          ∧ r.2.mem ((c.tc : Thread Cert.Kernel.nD Cert.Kernel.τ).loc Cert.Kernel.main_arg3) = m ((c.tc : Thread Cert.Kernel.nD Cert.Kernel.τ).loc Cert.Kernel.main_arg3))
      ∧ θ_run (Cert.Reference.defs (F := Bits)) (onTc (τ := Cert.Reference.τ) (Cert.Reference.main (F := Bits))) ⟨m', fun _ => 0, g'⟩ (fun r => ∀ c : Dev Cert.Reference.nD,
          r.2.mem ((c.tc : Thread Cert.Reference.nD Cert.Reference.τ).loc Cert.Reference.main_v44) = v0 c
          ∧ r.2.mem ((c.tc : Thread Cert.Reference.nD Cert.Reference.τ).loc Cert.Reference.main_arg0) = m' ((c.tc : Thread Cert.Reference.nD Cert.Reference.τ).loc Cert.Reference.main_arg0)
          ∧ r.2.mem ((c.tc : Thread Cert.Reference.nD Cert.Reference.τ).loc Cert.Reference.main_arg1) = m' ((c.tc : Thread Cert.Reference.nD Cert.Reference.τ).loc Cert.Reference.main_arg1)
          ∧ r.2.mem ((c.tc : Thread Cert.Reference.nD Cert.Reference.τ).loc Cert.Reference.main_arg2) = m' ((c.tc : Thread Cert.Reference.nD Cert.Reference.τ).loc Cert.Reference.main_arg2)
          ∧ r.2.mem ((c.tc : Thread Cert.Reference.nD Cert.Reference.τ).loc Cert.Reference.main_arg3) = m' ((c.tc : Thread Cert.Reference.nD Cert.Reference.τ).loc Cert.Reference.main_arg3))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)) →
    ∃ (v0 : (c : Dev Cert.Kernel2Ideal.nD) → Buf (Elt Ideal) ((c.tc : Thread Cert.Kernel2Ideal.nD Cert.Kernel2Ideal.τ).loc Cert.Kernel2Ideal.main_v19_0)) (v1 : (c : Dev Cert.Kernel2Ideal.nD) → Buf (Elt Ideal) ((c.tc : Thread Cert.Kernel2Ideal.nD Cert.Kernel2Ideal.τ).loc Cert.Kernel2Ideal.main_v19_1)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v19_0) = v0 c
          ∧ r.2.mem ((c.tc : Thread Cert.Kernel2Ideal.nD Cert.Kernel2Ideal.τ).loc Cert.Kernel2Ideal.main_v19_1) = v1 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v28) = v0 c
          ∧ r.2.mem ((c.tc : Thread Cert.Reference2Ideal.nD Cert.Reference2Ideal.τ).loc Cert.Reference2Ideal.main_v29) = v1 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3))

def preserves_Kernel3_Kernel3Ideal : Prop :=
  True

def algebraic_Kernel3Ideal_Reference3Ideal [hKernel3Ideal : Cert.Kernel3Ideal.Facts] [hReference3Ideal : Cert.Reference3Ideal.Facts] [hPre_ranked3 : Cert.Pre_ranked3.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)
      ∧ m' ((c.tc : Thread Cert.Reference3Ideal.nD Cert.Reference3Ideal.τ).loc Cert.Reference3Ideal.main_arg5) = m ((c.tc : Thread Cert.Kernel3Ideal.nD Cert.Kernel3Ideal.τ).loc Cert.Kernel3Ideal.main_arg5)
      ∧ m' ((c.tc : Thread Cert.Reference3Ideal.nD Cert.Reference3Ideal.τ).loc Cert.Reference3Ideal.main_arg6) = m ((c.tc : Thread Cert.Kernel3Ideal.nD Cert.Kernel3Ideal.τ).loc Cert.Kernel3Ideal.main_arg6)
      ∧ m' ((c.tc : Thread Cert.Reference3Ideal.nD Cert.Reference3Ideal.τ).loc Cert.Reference3Ideal.main_arg7) = m ((c.tc : Thread Cert.Kernel3Ideal.nD Cert.Kernel3Ideal.τ).loc Cert.Kernel3Ideal.main_arg7)
      ∧ m' ((c.tc : Thread Cert.Reference3Ideal.nD Cert.Reference3Ideal.τ).loc Cert.Reference3Ideal.main_arg8) = m ((c.tc : Thread Cert.Kernel3Ideal.nD Cert.Kernel3Ideal.τ).loc Cert.Kernel3Ideal.main_arg8)) →
    ∃ (v0 : (c : Dev Cert.Kernel3Ideal.nD) → Buf (Elt Ideal) ((c.tc : Thread Cert.Kernel3Ideal.nD Cert.Kernel3Ideal.τ).loc Cert.Kernel3Ideal.main_v21)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v21) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
          ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
          ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
          ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7)
          ∧ r.2.mem ((c.tc : Thread Cert.Kernel3Ideal.nD Cert.Kernel3Ideal.τ).loc Cert.Kernel3Ideal.main_arg8) = m ((c.tc : Thread Cert.Kernel3Ideal.nD Cert.Kernel3Ideal.τ).loc Cert.Kernel3Ideal.main_arg8))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v69) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4)
          ∧ r.2.mem ((c.tc : Thread Cert.Reference3Ideal.nD Cert.Reference3Ideal.τ).loc Cert.Reference3Ideal.main_arg5) = m' ((c.tc : Thread Cert.Reference3Ideal.nD Cert.Reference3Ideal.τ).loc Cert.Reference3Ideal.main_arg5)
          ∧ r.2.mem ((c.tc : Thread Cert.Reference3Ideal.nD Cert.Reference3Ideal.τ).loc Cert.Reference3Ideal.main_arg6) = m' ((c.tc : Thread Cert.Reference3Ideal.nD Cert.Reference3Ideal.τ).loc Cert.Reference3Ideal.main_arg6)
          ∧ r.2.mem ((c.tc : Thread Cert.Reference3Ideal.nD Cert.Reference3Ideal.τ).loc Cert.Reference3Ideal.main_arg7) = m' ((c.tc : Thread Cert.Reference3Ideal.nD Cert.Reference3Ideal.τ).loc Cert.Reference3Ideal.main_arg7)
          ∧ r.2.mem ((c.tc : Thread Cert.Reference3Ideal.nD Cert.Reference3Ideal.τ).loc Cert.Reference3Ideal.main_arg8) = m' ((c.tc : Thread Cert.Reference3Ideal.nD Cert.Reference3Ideal.τ).loc Cert.Reference3Ideal.main_arg8))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
      ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)
      ∧ m' ((c.tc : Thread Cert.Reference4Ideal.nD Cert.Reference4Ideal.τ).loc Cert.Reference4Ideal.main_arg4) = m ((c.tc : Thread Cert.Kernel4Ideal.nD Cert.Kernel4Ideal.τ).loc Cert.Kernel4Ideal.main_arg4)) →
    ∃ (v0 : (c : Dev Cert.Kernel4Ideal.nD) → Buf (Elt Ideal) ((c.tc : Thread Cert.Kernel4Ideal.nD Cert.Kernel4Ideal.τ).loc Cert.Kernel4Ideal.main_v32)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v32) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
          ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
          ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v44) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
          ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3)
          ∧ r.2.mem ((c.tc : Thread Cert.Reference4Ideal.nD Cert.Reference4Ideal.τ).loc Cert.Reference4Ideal.main_arg4) = m' ((c.tc : Thread Cert.Reference4Ideal.nD Cert.Reference4Ideal.τ).loc Cert.Reference4Ideal.main_arg4))

def Claim : Prop :=
  ∃ (hKernel : Cert.Kernel.Facts) (hKernelIdeal : Cert.KernelIdeal.Facts) (hReferenceIdeal : Cert.ReferenceIdeal.Facts) (hReference : Cert.Reference.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hPre_ranked : Cert.Pre_ranked.Facts) (hPre_ranked3 : Cert.Pre_ranked3.Facts),
    quiescent_Kernel (hKernel := hKernel) (hPre_ranked := hPre_ranked)
    ∧ quiescent_KernelIdeal (hKernelIdeal := hKernelIdeal) (hPre_ranked := hPre_ranked)
    ∧ quiescent_ReferenceIdeal (hReferenceIdeal := hReferenceIdeal)
    ∧ quiescent_ReferenceIdeal_pre_ranked (hReferenceIdeal := hReferenceIdeal) (hPre_ranked := hPre_ranked)
    ∧ quiescent_Reference (hReference := hReference) (hPre_ranked := hPre_ranked)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3) (hPre_ranked3 := hPre_ranked3)
    ∧ quiescent_Kernel3Ideal (hKernel3Ideal := hKernel3Ideal) (hPre_ranked3 := hPre_ranked3)
    ∧ quiescent_Reference3Ideal (hReference3Ideal := hReference3Ideal)
    ∧ quiescent_Reference3Ideal_pre_ranked3 (hReference3Ideal := hReference3Ideal) (hPre_ranked3 := hPre_ranked3)
    ∧ quiescent_Kernel4 (hKernel4 := hKernel4)
    ∧ quiescent_Kernel4Ideal (hKernel4Ideal := hKernel4Ideal)
    ∧ quiescent_Reference4Ideal (hReference4Ideal := hReference4Ideal)
    ∧ preserves_Kernel_KernelIdeal
    ∧ algebraic_KernelIdeal_ReferenceIdeal (hKernelIdeal := hKernelIdeal) (hReferenceIdeal := hReferenceIdeal) (hPre_ranked := hPre_ranked)
    ∧ bitexact_Kernel_Reference (hKernel := hKernel) (hReference := hReference) (hPre_ranked := hPre_ranked)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal) (hPre_ranked3 := hPre_ranked3)
    ∧ preserves_Kernel4_Kernel4Ideal
    ∧ algebraic_Kernel4Ideal_Reference4Ideal (hKernel4Ideal := hKernel4Ideal) (hReference4Ideal := hReference4Ideal)
-- ==== Pre_ranked.lean ====
abbrev S16384x2 : Shape := ⟨2, ![16384, 2]⟩
abbrev S32 : Shape := ⟨1, ![32]⟩
abbrev S16384x1024 : Shape := ⟨2, ![16384, 1024]⟩
abbrev S32768 : Shape := ⟨1, ![32768]⟩
abbrev S32768x1 : Shape := ⟨2, ![32768, 1]⟩
abbrev S1x32 : Shape := ⟨2, ![1, 32]⟩
abbrev S32768x32 : Shape := ⟨2, ![32768, 32]⟩
abbrev S_ : Shape := ⟨0, ![]⟩

class Facts : Prop where
  shapeCasts_S16384x2_S32768 : S16384x2.ShapeCasts S32768
  bcast_S32768_S32768x1_0 : S32768.BroadcastsInDim S32768x1 (![0] : Fin 1 → Fin S32768x1.rank)
  bcast_S32_S1x32_1 : S32.BroadcastsInDim S1x32 (![1] : Fin 1 → Fin S1x32.rank)
  bcast_S32768x1_S32768x32_0_1 : S32768x1.BroadcastsInDim S32768x32 (![0, 1] : Fin 2 → Fin S32768x32.rank)
  bcast_S1x32_S32768x32_0_1 : S1x32.BroadcastsInDim S32768x32 (![0, 1] : Fin 2 → Fin S32768x32.rank)
  natLt_1_32 : 1 < 32
  bcast_S_S_ : S_.BroadcastsInDim S_ (![] : Fin 0 → Fin S_.rank)
  reduceWindows_S32768x32_S32768x32_w32768s1p32767_0_w1s1p0_0 : S32768x32.ReduceWindows (![32768, 1] : Fin 2 → Nat) ![1, 1] ![32767, 0] ![0, 0] S32768x32
  h_S_ : 0 < S_.numel
  bcast_S_S32768x32 : S_.BroadcastsInDim S32768x32 (![] : Fin 0 → Fin S32768x32.rank)
  reducesTo_S32768x32_S32768_d1 : S32768x32.ReducesTo [1] S32768
  bcast_S_S16384x2 : S_.BroadcastsInDim S16384x2 (![] : Fin 0 → Fin S16384x2.rank)
  reducesTo_S16384x2_S_d0_1 : S16384x2.ReducesTo [0, 1] S_
  reducesTo_S32768_S_d0 : S32768.ReducesTo [0] S_
  slices_S32768x32_S1x32_32767_0 : S32768x32.Slices ![32767, 0] S1x32
  shapeCasts_S1x32_S32 : S1x32.ShapeCasts S32
  reducesTo_S32_S_d0 : S32.ReducesTo [0] S_

variable [Facts]

def fn_cumsum_0 {F : FTy → Type} [FloatOps F] (arg0 : IVec S32768x32 32) : IVec S32768x32 32 :=
  let c : IVec S_ 32 := constantI S_ 32 0#32
  let v0 : IVec S_ 32 := broadcastInDim S_ ![] bcast_S_S_ c
  let v1 : IVec S32768x32 32 := (fun x v => Host.reduceWindow IntOp.addi ![32768, 1] ![1, 1] ![32767, 0] ![0, 0] x v reduceWindows_S32768x32_S32768x32_w32768s1p32767_0_w1s1p0_0 h_S_) arg0 v0
  v1

def fn_cumsum {F : FTy → Type} [FloatOps F] (arg0 : IVec S32768x32 32) : IVec S32768x32 32 :=
  let v0 : IVec S32768x32 32 := fn_cumsum_0 (F := F) arg0
  v0

def fn_where {F : FTy → Type} [FloatOps F] (arg0 : IVec S32768x32 1) (arg1 : IVec S32768x32 32) (arg2 : IVec S_ 32) : IVec S32768x32 32 :=
  let v0 : IVec S_ 32 := id arg2
  let v1 : IVec S32768x32 32 := broadcastInDim S32768x32 ![] bcast_S_S32768x32 v0
  let v2 : IVec S32768x32 32 := select arg0 arg1 v1
  v2

def fn_part1 {F : FTy → Type} [FloatOps F] (main_arg0 : IVec S16384x2 32) (main_arg1 : IVec S16384x2 32) (main_arg2 : IVec S32 32) (main_v8 : IVec S32768x32 32) (main_v14 : IVec S32768 32) (main_v17 : IVec S_ 1) : IVec S_ 1 :=
  let main_c_5 : IVec S_ 32 := constantI S_ 32 32#32
  let main_v18 : IVec S16384x2 32 := broadcastInDim S16384x2 ![] bcast_S_S16384x2 main_c_5
  let main_v19 : IVec S16384x2 1 := cmpi .slt main_arg0 main_v18
  let main_c_6 : IVec S_ 1 := constantI S_ 1 1#1
  let main_v20 : IVec S_ 1 := (fun x v => Host.reduce IntOp.andi x v reducesTo_S16384x2_S_d0_1 h_S_) main_v19 main_c_6
  let main_v21 : IVec S_ 1 := andi main_v17 main_v20
  let main_v22 : IVec S32768 32 := shapeCast S32768 main_arg1 shapeCasts_S16384x2_S32768
  let main_v23 : IVec S32768 1 := cmpi .eq main_v22 main_v14
  let main_c_7 : IVec S_ 1 := constantI S_ 1 1#1
  let main_v24 : IVec S_ 1 := (fun x v => Host.reduce IntOp.andi x v reducesTo_S32768_S_d0 h_S_) main_v23 main_c_7
  let main_v25 : IVec S_ 1 := andi main_v21 main_v24
  let main_v26 : IVec S1x32 32 := (extractStridedSlice S1x32 ![32767, 0] · slices_S32768x32_S1x32_32767_0) main_v8
  let main_v27 : IVec S32 32 := shapeCast S32 main_v26 shapeCasts_S1x32_S32
  let main_v28 : IVec S32 1 := cmpi .eq main_arg2 main_v27
  let main_c_8 : IVec S_ 1 := constantI S_ 1 1#1
  let main_v29 : IVec S_ 1 := (fun x v => Host.reduce IntOp.andi x v reducesTo_S32_S_d0 h_S_) main_v28 main_c_8
  let main_v30 : IVec S_ 1 := andi main_v25 main_v29
  main_v30

def fn {F : FTy → Type} [FloatOps F] (main_arg0 : IVec S16384x2 32) (main_arg1 : IVec S16384x2 32) (main_arg2 : IVec S32 32) (main_arg3 : FVec F S16384x1024 .f32) : IVec S_ 1 :=
  let main_v0 : IVec S32768 32 := shapeCast S32768 main_arg0 shapeCasts_S16384x2_S32768
  let main_v1 : IVec S32768x1 32 := broadcastInDim S32768x1 ![0] bcast_S32768_S32768x1_0 main_v0
  let main_v2 : IVec S32 32 := iotaInDim S32 32 0
  let main_v3 : IVec S1x32 32 := broadcastInDim S1x32 ![1] bcast_S32_S1x32_1 main_v2
  let main_v4 : IVec S32768x32 32 := broadcastInDim S32768x32 ![0, 1] bcast_S32768x1_S32768x32_0_1 main_v1
  let main_v5 : IVec S32768x32 32 := broadcastInDim S32768x32 ![0, 1] bcast_S1x32_S32768x32_0_1 main_v3
  let main_v6 : IVec S32768x32 1 := cmpi .eq main_v4 main_v5
  let main_v7 : IVec S32768x32 32 := (extui 32 · natLt_1_32) main_v6
  let main_v8 : IVec S32768x32 32 := fn_cumsum (F := F) main_v7
  let main_c : IVec S_ 32 := constantI S_ 32 1#32
  let main_v9 : IVec S32768x32 32 := broadcastInDim S32768x32 ![] bcast_S_S32768x32 main_c
  let main_v10 : IVec S32768x32 1 := cmpi .eq main_v7 main_v9
  let main_c_0 : IVec S_ 32 := constantI S_ 32 1#32
  let main_v11 : IVec S32768x32 32 := broadcastInDim S32768x32 ![] bcast_S_S32768x32 main_c_0
  let main_v12 : IVec S32768x32 32 := subi main_v8 main_v11
  let main_c_1 : IVec S_ 32 := constantI S_ 32 0#32
  let main_v13 : IVec S32768x32 32 := fn_where (F := F) main_v10 main_v12 main_c_1
  let main_c_2 : IVec S_ 32 := constantI S_ 32 0#32
  let main_v14 : IVec S32768 32 := (fun x v => Host.reduce IntOp.addi x v reducesTo_S32768x32_S32768_d1 h_S_) main_v13 main_c_2
  let main_c_3 : IVec S_ 32 := constantI S_ 32 0#32
  let main_v15 : IVec S16384x2 32 := broadcastInDim S16384x2 ![] bcast_S_S16384x2 main_c_3
  let main_v16 : IVec S16384x2 1 := cmpi .sge main_arg0 main_v15
  let main_c_4 : IVec S_ 1 := constantI S_ 1 1#1
  let main_v17 : IVec S_ 1 := (fun x v => Host.reduce IntOp.andi x v reducesTo_S16384x2_S_d0_1 h_S_) main_v16 main_c_4
  fn_part1 (F := F) main_arg0 main_arg1 main_arg2 main_v8 main_v14 main_v17
-- ==== Pre_ranked3.lean ====
abbrev S16384x2 : Shape := ⟨2, ![16384, 2]⟩
abbrev S32 : Shape := ⟨1, ![32]⟩
abbrev S49152x1024 : Shape := ⟨2, ![49152, 1024]⟩
abbrev S16384x128 : Shape := ⟨2, ![16384, 128]⟩
abbrev S2x8192x1024 : Shape := ⟨3, ![2, 8192, 1024]⟩
abbrev S2x1x1024 : Shape := ⟨3, ![2, 1, 1024]⟩
abbrev S1024 : Shape := ⟨1, ![1024]⟩
abbrev S32768 : Shape := ⟨1, ![32768]⟩
abbrev S32768x1 : Shape := ⟨2, ![32768, 1]⟩
abbrev S1x32 : Shape := ⟨2, ![1, 32]⟩
abbrev S32768x32 : Shape := ⟨2, ![32768, 32]⟩
abbrev S_ : Shape := ⟨0, ![]⟩

class Facts : Prop where
  shapeCasts_S16384x2_S32768 : S16384x2.ShapeCasts S32768
  bcast_S32768_S32768x1_0 : S32768.BroadcastsInDim S32768x1 (![0] : Fin 1 → Fin S32768x1.rank)
  bcast_S32_S1x32_1 : S32.BroadcastsInDim S1x32 (![1] : Fin 1 → Fin S1x32.rank)
  bcast_S32768x1_S32768x32_0_1 : S32768x1.BroadcastsInDim S32768x32 (![0, 1] : Fin 2 → Fin S32768x32.rank)
  bcast_S1x32_S32768x32_0_1 : S1x32.BroadcastsInDim S32768x32 (![0, 1] : Fin 2 → Fin S32768x32.rank)
  natLt_1_32 : 1 < 32
  bcast_S_S_ : S_.BroadcastsInDim S_ (![] : Fin 0 → Fin S_.rank)
  reduceWindows_S32768x32_S32768x32_w32768s1p32767_0_w1s1p0_0 : S32768x32.ReduceWindows (![32768, 1] : Fin 2 → Nat) ![1, 1] ![32767, 0] ![0, 0] S32768x32
  h_S_ : 0 < S_.numel
  bcast_S_S32768x32 : S_.BroadcastsInDim S32768x32 (![] : Fin 0 → Fin S32768x32.rank)
  reducesTo_S32768x32_S32768_d1 : S32768x32.ReducesTo [1] S32768
  bcast_S_S16384x2 : S_.BroadcastsInDim S16384x2 (![] : Fin 0 → Fin S16384x2.rank)
  reducesTo_S16384x2_S_d0_1 : S16384x2.ReducesTo [0, 1] S_
  reducesTo_S32768_S_d0 : S32768.ReducesTo [0] S_
  slices_S32768x32_S1x32_32767_0 : S32768x32.Slices ![32767, 0] S1x32
  shapeCasts_S1x32_S32 : S1x32.ShapeCasts S32
  reducesTo_S32_S_d0 : S32.ReducesTo [0] S_

variable [Facts]

def fn_cumsum_0 {F : FTy → Type} [FloatOps F] (arg0 : IVec S32768x32 32) : IVec S32768x32 32 :=
  let c : IVec S_ 32 := constantI S_ 32 0#32
  let v0 : IVec S_ 32 := broadcastInDim S_ ![] bcast_S_S_ c
  let v1 : IVec S32768x32 32 := (fun x v => Host.reduceWindow IntOp.addi ![32768, 1] ![1, 1] ![32767, 0] ![0, 0] x v reduceWindows_S32768x32_S32768x32_w32768s1p32767_0_w1s1p0_0 h_S_) arg0 v0
  v1

def fn_cumsum {F : FTy → Type} [FloatOps F] (arg0 : IVec S32768x32 32) : IVec S32768x32 32 :=
  let v0 : IVec S32768x32 32 := fn_cumsum_0 (F := F) arg0
  v0

def fn_where {F : FTy → Type} [FloatOps F] (arg0 : IVec S32768x32 1) (arg1 : IVec S32768x32 32) (arg2 : IVec S_ 32) : IVec S32768x32 32 :=
  let v0 : IVec S_ 32 := id arg2
  let v1 : IVec S32768x32 32 := broadcastInDim S32768x32 ![] bcast_S_S32768x32 v0
  let v2 : IVec S32768x32 32 := select arg0 arg1 v1
  v2

def fn_part1 {F : FTy → Type} [FloatOps F] (main_arg0 : IVec S16384x2 32) (main_arg1 : IVec S16384x2 32) (main_arg2 : IVec S32 32) (main_v8 : IVec S32768x32 32) (main_v14 : IVec S32768 32) (main_v17 : IVec S_ 1) : IVec S_ 1 :=
  let main_c_5 : IVec S_ 32 := constantI S_ 32 32#32
  let main_v18 : IVec S16384x2 32 := broadcastInDim S16384x2 ![] bcast_S_S16384x2 main_c_5
  let main_v19 : IVec S16384x2 1 := cmpi .slt main_arg0 main_v18
  let main_c_6 : IVec S_ 1 := constantI S_ 1 1#1
  let main_v20 : IVec S_ 1 := (fun x v => Host.reduce IntOp.andi x v reducesTo_S16384x2_S_d0_1 h_S_) main_v19 main_c_6
  let main_v21 : IVec S_ 1 := andi main_v17 main_v20
  let main_v22 : IVec S32768 32 := shapeCast S32768 main_arg1 shapeCasts_S16384x2_S32768
  let main_v23 : IVec S32768 1 := cmpi .eq main_v22 main_v14
  let main_c_7 : IVec S_ 1 := constantI S_ 1 1#1
  let main_v24 : IVec S_ 1 := (fun x v => Host.reduce IntOp.andi x v reducesTo_S32768_S_d0 h_S_) main_v23 main_c_7
  let main_v25 : IVec S_ 1 := andi main_v21 main_v24
  let main_v26 : IVec S1x32 32 := (extractStridedSlice S1x32 ![32767, 0] · slices_S32768x32_S1x32_32767_0) main_v8
  let main_v27 : IVec S32 32 := shapeCast S32 main_v26 shapeCasts_S1x32_S32
  let main_v28 : IVec S32 1 := cmpi .eq main_arg2 main_v27
  let main_c_8 : IVec S_ 1 := constantI S_ 1 1#1
  let main_v29 : IVec S_ 1 := (fun x v => Host.reduce IntOp.andi x v reducesTo_S32_S_d0 h_S_) main_v28 main_c_8
  let main_v30 : IVec S_ 1 := andi main_v25 main_v29
  main_v30

def fn {F : FTy → Type} [FloatOps F] (main_arg0 : IVec S16384x2 32) (main_arg1 : IVec S16384x2 32) (main_arg2 : IVec S32 32) (main_arg3 : FVec F S49152x1024 .f32) (main_arg4 : FVec F S16384x128 .f32) (main_arg5 : FVec F S2x8192x1024 .f32) (main_arg6 : FVec F S2x1x1024 .f32) (main_arg7 : FVec F S1024 .f32) (main_arg8 : FVec F S1024 .f32) : IVec S_ 1 :=
  let main_v0 : IVec S32768 32 := shapeCast S32768 main_arg0 shapeCasts_S16384x2_S32768
  let main_v1 : IVec S32768x1 32 := broadcastInDim S32768x1 ![0] bcast_S32768_S32768x1_0 main_v0
  let main_v2 : IVec S32 32 := iotaInDim S32 32 0
  let main_v3 : IVec S1x32 32 := broadcastInDim S1x32 ![1] bcast_S32_S1x32_1 main_v2
  let main_v4 : IVec S32768x32 32 := broadcastInDim S32768x32 ![0, 1] bcast_S32768x1_S32768x32_0_1 main_v1
  let main_v5 : IVec S32768x32 32 := broadcastInDim S32768x32 ![0, 1] bcast_S1x32_S32768x32_0_1 main_v3
  let main_v6 : IVec S32768x32 1 := cmpi .eq main_v4 main_v5
  let main_v7 : IVec S32768x32 32 := (extui 32 · natLt_1_32) main_v6
  let main_v8 : IVec S32768x32 32 := fn_cumsum (F := F) main_v7
  let main_c : IVec S_ 32 := constantI S_ 32 1#32
  let main_v9 : IVec S32768x32 32 := broadcastInDim S32768x32 ![] bcast_S_S32768x32 main_c
  let main_v10 : IVec S32768x32 1 := cmpi .eq main_v7 main_v9
  let main_c_0 : IVec S_ 32 := constantI S_ 32 1#32
  let main_v11 : IVec S32768x32 32 := broadcastInDim S32768x32 ![] bcast_S_S32768x32 main_c_0
  let main_v12 : IVec S32768x32 32 := subi main_v8 main_v11
  let main_c_1 : IVec S_ 32 := constantI S_ 32 0#32
  let main_v13 : IVec S32768x32 32 := fn_where (F := F) main_v10 main_v12 main_c_1
  let main_c_2 : IVec S_ 32 := constantI S_ 32 0#32
  let main_v14 : IVec S32768 32 := (fun x v => Host.reduce IntOp.addi x v reducesTo_S32768x32_S32768_d1 h_S_) main_v13 main_c_2
  let main_c_3 : IVec S_ 32 := constantI S_ 32 0#32
  let main_v15 : IVec S16384x2 32 := broadcastInDim S16384x2 ![] bcast_S_S16384x2 main_c_3
  let main_v16 : IVec S16384x2 1 := cmpi .sge main_arg0 main_v15
  let main_c_4 : IVec S_ 1 := constantI S_ 1 1#1
  let main_v17 : IVec S_ 1 := (fun x v => Host.reduce IntOp.andi x v reducesTo_S16384x2_S_d0_1 h_S_) main_v16 main_c_4
  fn_part1 (F := F) main_arg0 main_arg1 main_arg2 main_v8 main_v14 main_v17
-- ==== Kernel.lean ====
abbrev S16384x2 : Shape := ⟨2, ![16384, 2]⟩
abbrev S32 : Shape := ⟨1, ![32]⟩
abbrev S16384x1024 : Shape := ⟨2, ![16384, 1024]⟩
abbrev S_ : Shape := ⟨0, ![]⟩
abbrev S16384x2x1 : Shape := ⟨3, ![16384, 2, 1]⟩
abbrev S1x1x32 : Shape := ⟨3, ![1, 1, 32]⟩
abbrev S16384x2x32 : Shape := ⟨3, ![16384, 2, 32]⟩
abbrev S32768 : Shape := ⟨1, ![32768]⟩
abbrev S1 : Shape := ⟨1, ![1]⟩
abbrev S33 : Shape := ⟨1, ![33]⟩
abbrev S49152x1024 : Shape := ⟨2, ![49152, 1024]⟩
abbrev S1024x1024 : Shape := ⟨2, ![1024, 1024]⟩
abbrev S512x1024 : Shape := ⟨2, ![512, 1024]⟩
abbrev S1x1024 : Shape := ⟨2, ![1, 1024]⟩

abbrev nBuf : Space → Nat
  | .hbm => 61
  | .vmem => 3
  | .smem => 2
  | _ => 0

abbrev bufTy : (tb : Table) → Fin (tcTables nBuf tb) → BufTy
  | .hbm, ⟨0, _⟩ => ⟨S16384x2, .i32⟩
  | .hbm, ⟨1, _⟩ => ⟨S16384x2, .i32⟩
  | .hbm, ⟨2, _⟩ => ⟨S32, .i32⟩
  | .hbm, ⟨3, _⟩ => ⟨S16384x1024, .f32⟩
  | .hbm, ⟨4, _⟩ => ⟨S_, .i32⟩
  | .hbm, ⟨5, _⟩ => ⟨S32, .i32⟩
  | .hbm, ⟨6, _⟩ => ⟨S32, .i32⟩
  | .hbm, ⟨7, _⟩ => ⟨S_, .i32⟩
  | .hbm, ⟨8, _⟩ => ⟨S32, .i32⟩
  | .hbm, ⟨9, _⟩ => ⟨S32, .i32⟩
  | .hbm, ⟨10, _⟩ => ⟨S_, .i32⟩
  | .hbm, ⟨11, _⟩ => ⟨S_, .i32⟩
  | .hbm, ⟨12, _⟩ => ⟨S32, .i32⟩
  | .hbm, ⟨13, _⟩ => ⟨S32, .i32⟩
  | .hbm, ⟨14, _⟩ => ⟨S32, .i32⟩
  | .hbm, ⟨15, _⟩ => ⟨S_, .i32⟩
  | .hbm, ⟨16, _⟩ => ⟨S32, .i32⟩
  | .hbm, ⟨17, _⟩ => ⟨S32, .i1⟩
  | .hbm, ⟨18, _⟩ => ⟨S32, .i32⟩
  | .hbm, ⟨19, _⟩ => ⟨S32, .i32⟩
  | .hbm, ⟨20, _⟩ => ⟨S_, .i32⟩
  | .hbm, ⟨21, _⟩ => ⟨S32, .i32⟩
  | .hbm, ⟨22, _⟩ => ⟨S32, .i1⟩
  | .hbm, ⟨23, _⟩ => ⟨S32, .i1⟩
  | .hbm, ⟨24, _⟩ => ⟨S_, .i32⟩
  | .hbm, ⟨25, _⟩ => ⟨S32, .i32⟩
  | .hbm, ⟨26, _⟩ => ⟨S32, .i32⟩
  | .hbm, ⟨27, _⟩ => ⟨S32, .i32⟩
  | .hbm, ⟨28, _⟩ => ⟨S_, .i32⟩
  | .hbm, ⟨29, _⟩ => ⟨S32, .i32⟩
  | .hbm, ⟨30, _⟩ => ⟨S32, .i32⟩
  | .hbm, ⟨31, _⟩ => ⟨S_, .i32⟩
  | .hbm, ⟨32, _⟩ => ⟨S_, .i32⟩
  | .hbm, ⟨33, _⟩ => ⟨S32, .i32⟩
  | .hbm, ⟨34, _⟩ => ⟨S32, .i32⟩
  | .hbm, ⟨35, _⟩ => ⟨S16384x2x1, .i32⟩
  | .hbm, ⟨36, _⟩ => ⟨S32, .i32⟩
  | .hbm, ⟨37, _⟩ => ⟨S1x1x32, .i32⟩
  | .hbm, ⟨38, _⟩ => ⟨S16384x2x32, .i32⟩
  | .hbm, ⟨39, _⟩ => ⟨S16384x2x32, .i32⟩
  | .hbm, ⟨40, _⟩ => ⟨S16384x2x32, .i1⟩
  | .hbm, ⟨41, _⟩ => ⟨S_, .i32⟩
  | .hbm, ⟨42, _⟩ => ⟨S_, .i32⟩
  | .hbm, ⟨43, _⟩ => ⟨S16384x2x32, .i32⟩
  | .hbm, ⟨44, _⟩ => ⟨S16384x2x32, .i32⟩
  | .hbm, ⟨45, _⟩ => ⟨S16384x2x32, .i32⟩
  | .hbm, ⟨46, _⟩ => ⟨S_, .i32⟩
  | .hbm, ⟨47, _⟩ => ⟨S16384x2, .i32⟩
  | .hbm, ⟨48, _⟩ => ⟨S16384x2, .i32⟩
  | .hbm, ⟨49, _⟩ => ⟨S_, .i32⟩
  | .hbm, ⟨50, _⟩ => ⟨S32, .i32⟩
  | .hbm, ⟨51, _⟩ => ⟨S32, .i1⟩
  | .hbm, ⟨52, _⟩ => ⟨S_, .i32⟩
  | .hbm, ⟨53, _⟩ => ⟨S32, .i32⟩
  | .hbm, ⟨54, _⟩ => ⟨S32, .i32⟩
  | .hbm, ⟨55, _⟩ => ⟨S_, .i32⟩
  | .hbm, ⟨56, _⟩ => ⟨S_, .i32⟩
  | .hbm, ⟨57, _⟩ => ⟨S32, .i32⟩
  | .hbm, ⟨58, _⟩ => ⟨S32, .i32⟩
  | .hbm, ⟨59, _⟩ => ⟨S1, .i32⟩
  | .hbm, ⟨60, _⟩ => ⟨S49152x1024, .f32⟩
  | .local _ .vmem, ⟨0, _⟩ => ⟨S1024x1024, .f32⟩
  | .local _ .vmem, ⟨1, _⟩ => ⟨S1024x1024, .f32⟩
  | .local _ .vmem, ⟨2, _⟩ => ⟨S512x1024, .f32⟩
  | .local _ .smem, ⟨0, _⟩ => ⟨S32768, .i32⟩
  | .local _ .smem, ⟨1, _⟩ => ⟨S33, .i32⟩
  | _, _ => ⟨S16384x2, .i32⟩

abbrev bufScoped : (cs : CoreSpace) → Fin (nBuf (.core cs)) → Bool
  | .vmem, ⟨0, _⟩ => true
  | .vmem, ⟨1, _⟩ => true
  | .vmem, ⟨2, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_c : Ref sig .tc := ⟨.hbm, 4, rfl⟩
abbrev main_v0 : Ref sig .tc := ⟨.hbm, 5, rfl⟩
abbrev main_v1 : Ref sig .tc := ⟨.hbm, 6, rfl⟩
abbrev main_c_0 : Ref sig .tc := ⟨.hbm, 7, rfl⟩
abbrev main_v2 : Ref sig .tc := ⟨.hbm, 8, rfl⟩
abbrev main_v3 : Ref sig .tc := ⟨.hbm, 9, rfl⟩
abbrev main_c_1 : Ref sig .tc := ⟨.hbm, 10, rfl⟩
abbrev main_call0_v0 : Ref sig .tc := ⟨.hbm, 11, rfl⟩
abbrev main_call0_v1 : Ref sig .tc := ⟨.hbm, 12, rfl⟩
abbrev main_call0_v2 : Ref sig .tc := ⟨.hbm, 13, rfl⟩
abbrev main_call0_v3 : Ref sig .tc := ⟨.hbm, 14, rfl⟩
abbrev main_call0_v4 : Ref sig .tc := ⟨.hbm, 15, rfl⟩
abbrev main_call0_v5 : Ref sig .tc := ⟨.hbm, 16, rfl⟩
abbrev main_call0_v6 : Ref sig .tc := ⟨.hbm, 17, rfl⟩
abbrev main_call0_v7 : Ref sig .tc := ⟨.hbm, 18, rfl⟩
abbrev main_call0_v8 : Ref sig .tc := ⟨.hbm, 19, rfl⟩
abbrev main_call0_c : Ref sig .tc := ⟨.hbm, 20, rfl⟩
abbrev main_call0_v9 : Ref sig .tc := ⟨.hbm, 21, rfl⟩
abbrev main_call0_v10 : Ref sig .tc := ⟨.hbm, 22, rfl⟩
abbrev main_call0_v11 : Ref sig .tc := ⟨.hbm, 23, rfl⟩
abbrev main_call0_c_0 : Ref sig .tc := ⟨.hbm, 24, rfl⟩
abbrev main_call0_v12 : Ref sig .tc := ⟨.hbm, 25, rfl⟩
abbrev main_call0_v13 : Ref sig .tc := ⟨.hbm, 26, rfl⟩
abbrev main_v4 : Ref sig .tc := ⟨.hbm, 27, rfl⟩
abbrev main_c_2 : Ref sig .tc := ⟨.hbm, 28, rfl⟩
abbrev main_v5 : Ref sig .tc := ⟨.hbm, 29, rfl⟩
abbrev main_v6 : Ref sig .tc := ⟨.hbm, 30, rfl⟩
abbrev main_call1_call0_c : Ref sig .tc := ⟨.hbm, 31, rfl⟩
abbrev main_call1_call0_v0 : Ref sig .tc := ⟨.hbm, 32, rfl⟩
abbrev main_v7 : Ref sig .tc := ⟨.hbm, 33, rfl⟩
abbrev main_v8 : Ref sig .tc := ⟨.hbm, 34, rfl⟩
abbrev main_v9 : Ref sig .tc := ⟨.hbm, 35, rfl⟩
abbrev main_v10 : Ref sig .tc := ⟨.hbm, 36, rfl⟩
abbrev main_v11 : Ref sig .tc := ⟨.hbm, 37, rfl⟩
abbrev main_v12 : Ref sig .tc := ⟨.hbm, 38, rfl⟩
abbrev main_v13 : Ref sig .tc := ⟨.hbm, 39, rfl⟩
abbrev main_v14 : Ref sig .tc := ⟨.hbm, 40, rfl⟩
abbrev main_c_3 : Ref sig .tc := ⟨.hbm, 41, rfl⟩
abbrev main_call2_v0 : Ref sig .tc := ⟨.hbm, 42, rfl⟩
abbrev main_call2_v1 : Ref sig .tc := ⟨.hbm, 43, rfl⟩
abbrev main_call2_v2 : Ref sig .tc := ⟨.hbm, 44, rfl⟩
abbrev main_v15 : Ref sig .tc := ⟨.hbm, 45, rfl⟩
abbrev main_c_4 : Ref sig .tc := ⟨.hbm, 46, rfl⟩
abbrev main_v16 : Ref sig .tc := ⟨.hbm, 47, rfl⟩
abbrev main_v17 : Ref sig .tc := ⟨.hbm, 48, rfl⟩
abbrev main_c_5 : Ref sig .tc := ⟨.hbm, 49, rfl⟩
abbrev main_v19 : Ref sig .tc := ⟨.hbm, 50, rfl⟩
abbrev main_v20 : Ref sig .tc := ⟨.hbm, 51, rfl⟩
abbrev main_c_6 : Ref sig .tc := ⟨.hbm, 52, rfl⟩
abbrev main_v21 : Ref sig .tc := ⟨.hbm, 53, rfl⟩
abbrev main_v22 : Ref sig .tc := ⟨.hbm, 54, rfl⟩
abbrev main_c_7 : Ref sig .tc := ⟨.hbm, 55, rfl⟩
abbrev main_call3_v0 : Ref sig .tc := ⟨.hbm, 56, rfl⟩
abbrev main_call3_v1 : Ref sig .tc := ⟨.hbm, 57, rfl⟩
abbrev main_v23 : Ref sig .tc := ⟨.hbm, 58, rfl⟩
abbrev main_v24 : Ref sig .tc := ⟨.hbm, 59, rfl⟩
abbrev main_v26 : Ref sig .tc := ⟨.hbm, 60, rfl⟩
abbrev main_v18 : Ref sig .tc := ⟨.smem, 0, rfl⟩
abbrev main_v25 : Ref sig .tc := ⟨.smem, 1, rfl⟩
abbrev cc0_stg0_0 : Ref sig .tc := ⟨.vmem, 0, rfl⟩
abbrev cc0_stg0_1 : Ref sig .tc := ⟨.vmem, 1, rfl⟩
abbrev cc0_scratch0 : Ref sig .tc := ⟨.vmem, 2, rfl⟩
abbrev cc0_sem0_0 : DmaSem sig := 0
abbrev cc0_sem0_1 : DmaSem sig := 1

abbrev nD : Nat := 1
abbrev τ : Topo := Topo.v7x

variable {F : FTy → Type} [FloatOps F]

abbrev grid0 : Pipeline.Grid := ⟨1, ![16], ![false]⟩

abbrev pre0 : Pipeline.Prefetch sig := ⟨2, ![main_v18.idx, main_v25.idx], fun | 0 => main_v18.names | 1 => main_v25.names | ⟨_ + 2, h⟩ => absurd h (Nat.not_lt.2 (Nat.le_add_left _ _)), fun | 0 => rfl | 1 => rfl | ⟨_ + 2, h⟩ => absurd h (Nat.not_lt.2 (Nat.le_add_left _ _))⟩

def k0_cond1 (i : grid0.Coords) : BitVec 1 :=
  let arg0 : BitVec 32 := BitVec.ofNat 32 (i 0).val
  let c0_i32 : BitVec 32 := 0#32
  let v2 : BitVec 1 := Scalar.cmpi .eq arg0 c0_i32
  let v3 : BitVec 32 := Scalar.extui v2
  let c0_i32_0 : BitVec 32 := 0#32
  let v4 : BitVec 1 := Scalar.cmpi .ne v3 c0_i32_0
  v4

def k0_mult1 (v313 : BitVec 32) : BitVec 32 :=
  v313
def k0_cond2 (v11 : BitVec 32) : BitVec 1 :=
  let c0_i32_10 : BitVec 32 := 0#32
  let v12 : BitVec 1 := Scalar.cmpi .sge v11 c0_i32_10
  let v13 : BitVec 32 := Scalar.extui v12
  let c0_i32_11 : BitVec 32 := 0#32
  let v14 : BitVec 1 := Scalar.cmpi .ne v13 c0_i32_11
  v14

def k0_off1 (v313 : BitVec 32) : Fin 2 → Nat :=
  let v314 : BitVec 32 := v313
  let c0_i32_194 : BitVec 32 := 0#32
  ![v314.toNat, 0]

def k0_chk1 (i : grid0.Coords) (v11 : BitVec 32) (v313 : BitVec 32) : Prop :=
  (∀ (k0_h1 : k0_cond1 i = 1#1), ∀ (k0_h2 : k0_cond2 v11 = 1#1), 512 ∣ (k0_mult1 v313).toNat) ∧
  (∀ (k0_h1 : k0_cond1 i = 1#1), ∀ (k0_h2 : k0_cond2 v11 = 1#1), ∀ a, (k0_off1 v313) a + S512x1024.size a ≤ S49152x1024.size a)
theorem k0_mult1_dvd : ∀ (i : grid0.Coords) (v11 : BitVec 32) (v313 : BitVec 32) (k0_hw1 : k0_chk1 i v11 v313), ∀ (k0_h1 : k0_cond1 i = 1#1), ∀ (k0_h2 : k0_cond2 v11 = 1#1), 512 ∣ (k0_mult1 v313).toNat := fun i v11 v313 k0_hw1 k0_h1 k0_h2 => k0_hw1.1 k0_h1 k0_h2
theorem k0_off1_inb : ∀ (i : grid0.Coords) (v11 : BitVec 32) (v313 : BitVec 32) (k0_hw1 : k0_chk1 i v11 v313), ∀ (k0_h1 : k0_cond1 i = 1#1), ∀ (k0_h2 : k0_cond2 v11 = 1#1), ∀ a, (k0_off1 v313) a + S512x1024.size a ≤ S49152x1024.size a := fun i v11 v313 k0_hw1 k0_h1 k0_h2 => k0_hw1.2 k0_h1 k0_h2

def k0_mult2 (v313 : BitVec 32) : BitVec 32 :=
  v313
def k0_cond3 (v15 : BitVec 32) : BitVec 1 :=
  let c0_i32_12 : BitVec 32 := 0#32
  let v16 : BitVec 1 := Scalar.cmpi .sge v15 c0_i32_12
  let v17 : BitVec 32 := Scalar.extui v16
  let c0_i32_13 : BitVec 32 := 0#32
  let v18 : BitVec 1 := Scalar.cmpi .ne v17 c0_i32_13
  v18

def k0_off2 (v313 : BitVec 32) : Fin 2 → Nat :=
  let v314 : BitVec 32 := v313
  let c0_i32_194 : BitVec 32 := 0#32
  ![v314.toNat, 0]

def k0_chk2 (i : grid0.Coords) (v15 : BitVec 32) (v313 : BitVec 32) : Prop :=
  (∀ (k0_h1 : k0_cond1 i = 1#1), ∀ (k0_h3 : k0_cond3 v15 = 1#1), 512 ∣ (k0_mult2 v313).toNat) ∧
  (∀ (k0_h1 : k0_cond1 i = 1#1), ∀ (k0_h3 : k0_cond3 v15 = 1#1), ∀ a, (k0_off2 v313) a + S512x1024.size a ≤ S49152x1024.size a)
theorem k0_mult2_dvd : ∀ (i : grid0.Coords) (v15 : BitVec 32) (v313 : BitVec 32) (k0_hw2 : k0_chk2 i v15 v313), ∀ (k0_h1 : k0_cond1 i = 1#1), ∀ (k0_h3 : k0_cond3 v15 = 1#1), 512 ∣ (k0_mult2 v313).toNat := fun i v15 v313 k0_hw2 k0_h1 k0_h3 => k0_hw2.1 k0_h1 k0_h3
theorem k0_off2_inb : ∀ (i : grid0.Coords) (v15 : BitVec 32) (v313 : BitVec 32) (k0_hw2 : k0_chk2 i v15 v313), ∀ (k0_h1 : k0_cond1 i = 1#1), ∀ (k0_h3 : k0_cond3 v15 = 1#1), ∀ a, (k0_off2 v313) a + S512x1024.size a ≤ S49152x1024.size a := fun i v15 v313 k0_hw2 k0_h1 k0_h3 => k0_hw2.2 k0_h1 k0_h3

def k0_mult3 (v313 : BitVec 32) : BitVec 32 :=
  v313
def k0_cond4 (v19 : BitVec 32) : BitVec 1 :=
  let c0_i32_14 : BitVec 32 := 0#32
  let v20 : BitVec 1 := Scalar.cmpi .sge v19 c0_i32_14
  let v21 : BitVec 32 := Scalar.extui v20
  let c0_i32_15 : BitVec 32 := 0#32
  let v22 : BitVec 1 := Scalar.cmpi .ne v21 c0_i32_15
  v22

def k0_off3 (v313 : BitVec 32) : Fin 2 → Nat :=
  let v314 : BitVec 32 := v313
  let c0_i32_194 : BitVec 32 := 0#32
  ![v314.toNat, 0]

def k0_chk3 (i : grid0.Coords) (v19 : BitVec 32) (v313 : BitVec 32) : Prop :=
  (∀ (k0_h1 : k0_cond1 i = 1#1), ∀ (k0_h4 : k0_cond4 v19 = 1#1), 512 ∣ (k0_mult3 v313).toNat) ∧
  (∀ (k0_h1 : k0_cond1 i = 1#1), ∀ (k0_h4 : k0_cond4 v19 = 1#1), ∀ a, (k0_off3 v313) a + S512x1024.size a ≤ S49152x1024.size a)
theorem k0_mult3_dvd : ∀ (i : grid0.Coords) (v19 : BitVec 32) (v313 : BitVec 32) (k0_hw3 : k0_chk3 i v19 v313), ∀ (k0_h1 : k0_cond1 i = 1#1), ∀ (k0_h4 : k0_cond4 v19 = 1#1), 512 ∣ (k0_mult3 v313).toNat := fun i v19 v313 k0_hw3 k0_h1 k0_h4 => k0_hw3.1 k0_h1 k0_h4
theorem k0_off3_inb : ∀ (i : grid0.Coords) (v19 : BitVec 32) (v313 : BitVec 32) (k0_hw3 : k0_chk3 i v19 v313), ∀ (k0_h1 : k0_cond1 i = 1#1), ∀ (k0_h4 : k0_cond4 v19 = 1#1), ∀ a, (k0_off3 v313) a + S512x1024.size a ≤ S49152x1024.size a := fun i v19 v313 k0_hw3 k0_h1 k0_h4 => k0_hw3.2 k0_h1 k0_h4

def k0_mult4 (v313 : BitVec 32) : BitVec 32 :=
  v313
def k0_cond5 (v23 : BitVec 32) : BitVec 1 :=
  let c0_i32_16 : BitVec 32 := 0#32
  let v24 : BitVec 1 := Scalar.cmpi .sge v23 c0_i32_16
  let v25 : BitVec 32 := Scalar.extui v24
  let c0_i32_17 : BitVec 32 := 0#32
  let v26 : BitVec 1 := Scalar.cmpi .ne v25 c0_i32_17
  v26

def k0_off4 (v313 : BitVec 32) : Fin 2 → Nat :=
  let v314 : BitVec 32 := v313
  let c0_i32_194 : BitVec 32 := 0#32
  ![v314.toNat, 0]

def k0_chk4 (i : grid0.Coords) (v23 : BitVec 32) (v313 : BitVec 32) : Prop :=
  (∀ (k0_h1 : k0_cond1 i = 1#1), ∀ (k0_h5 : k0_cond5 v23 = 1#1), 512 ∣ (k0_mult4 v313).toNat) ∧
  (∀ (k0_h1 : k0_cond1 i = 1#1), ∀ (k0_h5 : k0_cond5 v23 = 1#1), ∀ a, (k0_off4 v313) a + S512x1024.size a ≤ S49152x1024.size a)
theorem k0_mult4_dvd : ∀ (i : grid0.Coords) (v23 : BitVec 32) (v313 : BitVec 32) (k0_hw4 : k0_chk4 i v23 v313), ∀ (k0_h1 : k0_cond1 i = 1#1), ∀ (k0_h5 : k0_cond5 v23 = 1#1), 512 ∣ (k0_mult4 v313).toNat := fun i v23 v313 k0_hw4 k0_h1 k0_h5 => k0_hw4.1 k0_h1 k0_h5
theorem k0_off4_inb : ∀ (i : grid0.Coords) (v23 : BitVec 32) (v313 : BitVec 32) (k0_hw4 : k0_chk4 i v23 v313), ∀ (k0_h1 : k0_cond1 i = 1#1), ∀ (k0_h5 : k0_cond5 v23 = 1#1), ∀ a, (k0_off4 v313) a + S512x1024.size a ≤ S49152x1024.size a := fun i v23 v313 k0_hw4 k0_h1 k0_h5 => k0_hw4.2 k0_h1 k0_h5

def k0_mult5 (v313 : BitVec 32) : BitVec 32 :=
  v313
def k0_cond6 (v27 : BitVec 32) : BitVec 1 :=
  let c0_i32_18 : BitVec 32 := 0#32
  let v28 : BitVec 1 := Scalar.cmpi .sge v27 c0_i32_18
  let v29 : BitVec 32 := Scalar.extui v28
  let c0_i32_19 : BitVec 32 := 0#32
  let v30 : BitVec 1 := Scalar.cmpi .ne v29 c0_i32_19
  v30

def k0_off5 (v313 : BitVec 32) : Fin 2 → Nat :=
  let v314 : BitVec 32 := v313
  let c0_i32_194 : BitVec 32 := 0#32
  ![v314.toNat, 0]

def k0_chk5 (i : grid0.Coords) (v27 : BitVec 32) (v313 : BitVec 32) : Prop :=
  (∀ (k0_h1 : k0_cond1 i = 1#1), ∀ (k0_h6 : k0_cond6 v27 = 1#1), 512 ∣ (k0_mult5 v313).toNat) ∧
  (∀ (k0_h1 : k0_cond1 i = 1#1), ∀ (k0_h6 : k0_cond6 v27 = 1#1), ∀ a, (k0_off5 v313) a + S512x1024.size a ≤ S49152x1024.size a)
theorem k0_mult5_dvd : ∀ (i : grid0.Coords) (v27 : BitVec 32) (v313 : BitVec 32) (k0_hw5 : k0_chk5 i v27 v313), ∀ (k0_h1 : k0_cond1 i = 1#1), ∀ (k0_h6 : k0_cond6 v27 = 1#1), 512 ∣ (k0_mult5 v313).toNat := fun i v27 v313 k0_hw5 k0_h1 k0_h6 => k0_hw5.1 k0_h1 k0_h6
theorem k0_off5_inb : ∀ (i : grid0.Coords) (v27 : BitVec 32) (v313 : BitVec 32) (k0_hw5 : k0_chk5 i v27 v313), ∀ (k0_h1 : k0_cond1 i = 1#1), ∀ (k0_h6 : k0_cond6 v27 = 1#1), ∀ a, (k0_off5 v313) a + S512x1024.size a ≤ S49152x1024.size a := fun i v27 v313 k0_hw5 k0_h1 k0_h6 => k0_hw5.2 k0_h1 k0_h6

def k0_mult6 (v313 : BitVec 32) : BitVec 32 :=
  v313
def k0_cond7 (v31 : BitVec 32) : BitVec 1 :=
  let c0_i32_20 : BitVec 32 := 0#32
  let v32 : BitVec 1 := Scalar.cmpi .sge v31 c0_i32_20
  let v33 : BitVec 32 := Scalar.extui v32
  let c0_i32_21 : BitVec 32 := 0#32
  let v34 : BitVec 1 := Scalar.cmpi .ne v33 c0_i32_21
  v34

def k0_off6 (v313 : BitVec 32) : Fin 2 → Nat :=
  let v314 : BitVec 32 := v313
  let c0_i32_194 : BitVec 32 := 0#32
  ![v314.toNat, 0]

def k0_chk6 (i : grid0.Coords) (v31 : BitVec 32) (v313 : BitVec 32) : Prop :=
  (∀ (k0_h1 : k0_cond1 i = 1#1), ∀ (k0_h7 : k0_cond7 v31 = 1#1), 512 ∣ (k0_mult6 v313).toNat) ∧
  (∀ (k0_h1 : k0_cond1 i = 1#1), ∀ (k0_h7 : k0_cond7 v31 = 1#1), ∀ a, (k0_off6 v313) a + S512x1024.size a ≤ S49152x1024.size a)
theorem k0_mult6_dvd : ∀ (i : grid0.Coords) (v31 : BitVec 32) (v313 : BitVec 32) (k0_hw6 : k0_chk6 i v31 v313), ∀ (k0_h1 : k0_cond1 i = 1#1), ∀ (k0_h7 : k0_cond7 v31 = 1#1), 512 ∣ (k0_mult6 v313).toNat := fun i v31 v313 k0_hw6 k0_h1 k0_h7 => k0_hw6.1 k0_h1 k0_h7
theorem k0_off6_inb : ∀ (i : grid0.Coords) (v31 : BitVec 32) (v313 : BitVec 32) (k0_hw6 : k0_chk6 i v31 v313), ∀ (k0_h1 : k0_cond1 i = 1#1), ∀ (k0_h7 : k0_cond7 v31 = 1#1), ∀ a, (k0_off6 v313) a + S512x1024.size a ≤ S49152x1024.size a := fun i v31 v313 k0_hw6 k0_h1 k0_h7 => k0_hw6.2 k0_h1 k0_h7

def k0_mult7 (v313 : BitVec 32) : BitVec 32 :=
  v313
def k0_cond8 (v35 : BitVec 32) : BitVec 1 :=
  let c0_i32_22 : BitVec 32 := 0#32
  let v36 : BitVec 1 := Scalar.cmpi .sge v35 c0_i32_22
  let v37 : BitVec 32 := Scalar.extui v36
  let c0_i32_23 : BitVec 32 := 0#32
  let v38 : BitVec 1 := Scalar.cmpi .ne v37 c0_i32_23
  v38

def k0_off7 (v313 : BitVec 32) : Fin 2 → Nat :=
  let v314 : BitVec 32 := v313
  let c0_i32_194 : BitVec 32 := 0#32
  ![v314.toNat, 0]

def k0_chk7 (i : grid0.Coords) (v35 : BitVec 32) (v313 : BitVec 32) : Prop :=
  (∀ (k0_h1 : k0_cond1 i = 1#1), ∀ (k0_h8 : k0_cond8 v35 = 1#1), 512 ∣ (k0_mult7 v313).toNat) ∧
  (∀ (k0_h1 : k0_cond1 i = 1#1), ∀ (k0_h8 : k0_cond8 v35 = 1#1), ∀ a, (k0_off7 v313) a + S512x1024.size a ≤ S49152x1024.size a)
theorem k0_mult7_dvd : ∀ (i : grid0.Coords) (v35 : BitVec 32) (v313 : BitVec 32) (k0_hw7 : k0_chk7 i v35 v313), ∀ (k0_h1 : k0_cond1 i = 1#1), ∀ (k0_h8 : k0_cond8 v35 = 1#1), 512 ∣ (k0_mult7 v313).toNat := fun i v35 v313 k0_hw7 k0_h1 k0_h8 => k0_hw7.1 k0_h1 k0_h8
theorem k0_off7_inb : ∀ (i : grid0.Coords) (v35 : BitVec 32) (v313 : BitVec 32) (k0_hw7 : k0_chk7 i v35 v313), ∀ (k0_h1 : k0_cond1 i = 1#1), ∀ (k0_h8 : k0_cond8 v35 = 1#1), ∀ a, (k0_off7 v313) a + S512x1024.size a ≤ S49152x1024.size a := fun i v35 v313 k0_hw7 k0_h1 k0_h8 => k0_hw7.2 k0_h1 k0_h8

def k0_mult8 (v313 : BitVec 32) : BitVec 32 :=
  v313
def k0_cond9 (v39 : BitVec 32) : BitVec 1 :=
  let c0_i32_24 : BitVec 32 := 0#32
  let v40 : BitVec 1 := Scalar.cmpi .sge v39 c0_i32_24
  let v41 : BitVec 32 := Scalar.extui v40
  let c0_i32_25 : BitVec 32 := 0#32
  let v42 : BitVec 1 := Scalar.cmpi .ne v41 c0_i32_25
  v42

def k0_off8 (v313 : BitVec 32) : Fin 2 → Nat :=
  let v314 : BitVec 32 := v313
  let c0_i32_194 : BitVec 32 := 0#32
  ![v314.toNat, 0]

def k0_chk8 (i : grid0.Coords) (v39 : BitVec 32) (v313 : BitVec 32) : Prop :=
  (∀ (k0_h1 : k0_cond1 i = 1#1), ∀ (k0_h9 : k0_cond9 v39 = 1#1), 512 ∣ (k0_mult8 v313).toNat) ∧
  (∀ (k0_h1 : k0_cond1 i = 1#1), ∀ (k0_h9 : k0_cond9 v39 = 1#1), ∀ a, (k0_off8 v313) a + S512x1024.size a ≤ S49152x1024.size a)
theorem k0_mult8_dvd : ∀ (i : grid0.Coords) (v39 : BitVec 32) (v313 : BitVec 32) (k0_hw8 : k0_chk8 i v39 v313), ∀ (k0_h1 : k0_cond1 i = 1#1), ∀ (k0_h9 : k0_cond9 v39 = 1#1), 512 ∣ (k0_mult8 v313).toNat := fun i v39 v313 k0_hw8 k0_h1 k0_h9 => k0_hw8.1 k0_h1 k0_h9
theorem k0_off8_inb : ∀ (i : grid0.Coords) (v39 : BitVec 32) (v313 : BitVec 32) (k0_hw8 : k0_chk8 i v39 v313), ∀ (k0_h1 : k0_cond1 i = 1#1), ∀ (k0_h9 : k0_cond9 v39 = 1#1), ∀ a, (k0_off8 v313) a + S512x1024.size a ≤ S49152x1024.size a := fun i v39 v313 k0_hw8 k0_h1 k0_h9 => k0_hw8.2 k0_h1 k0_h9

def k0_mult9 (v313 : BitVec 32) : BitVec 32 :=
  v313
def k0_cond10 (v43 : BitVec 32) : BitVec 1 :=
  let c0_i32_26 : BitVec 32 := 0#32
  let v44 : BitVec 1 := Scalar.cmpi .sge v43 c0_i32_26
  let v45 : BitVec 32 := Scalar.extui v44
  let c0_i32_27 : BitVec 32 := 0#32
  let v46 : BitVec 1 := Scalar.cmpi .ne v45 c0_i32_27
  v46

def k0_off9 (v313 : BitVec 32) : Fin 2 → Nat :=
  let v314 : BitVec 32 := v313
  let c0_i32_194 : BitVec 32 := 0#32
  ![v314.toNat, 0]

def k0_chk9 (i : grid0.Coords) (v43 : BitVec 32) (v313 : BitVec 32) : Prop :=
  (∀ (k0_h1 : k0_cond1 i = 1#1), ∀ (k0_h10 : k0_cond10 v43 = 1#1), 512 ∣ (k0_mult9 v313).toNat) ∧
  (∀ (k0_h1 : k0_cond1 i = 1#1), ∀ (k0_h10 : k0_cond10 v43 = 1#1), ∀ a, (k0_off9 v313) a + S512x1024.size a ≤ S49152x1024.size a)
theorem k0_mult9_dvd : ∀ (i : grid0.Coords) (v43 : BitVec 32) (v313 : BitVec 32) (k0_hw9 : k0_chk9 i v43 v313), ∀ (k0_h1 : k0_cond1 i = 1#1), ∀ (k0_h10 : k0_cond10 v43 = 1#1), 512 ∣ (k0_mult9 v313).toNat := fun i v43 v313 k0_hw9 k0_h1 k0_h10 => k0_hw9.1 k0_h1 k0_h10
theorem k0_off9_inb : ∀ (i : grid0.Coords) (v43 : BitVec 32) (v313 : BitVec 32) (k0_hw9 : k0_chk9 i v43 v313), ∀ (k0_h1 : k0_cond1 i = 1#1), ∀ (k0_h10 : k0_cond10 v43 = 1#1), ∀ a, (k0_off9 v313) a + S512x1024.size a ≤ S49152x1024.size a := fun i v43 v313 k0_hw9 k0_h1 k0_h10 => k0_hw9.2 k0_h1 k0_h10

def k0_mult10 (v313 : BitVec 32) : BitVec 32 :=
  v313
def k0_cond11 (v47 : BitVec 32) : BitVec 1 :=
  let c0_i32_28 : BitVec 32 := 0#32
  let v48 : BitVec 1 := Scalar.cmpi .sge v47 c0_i32_28
  let v49 : BitVec 32 := Scalar.extui v48
  let c0_i32_29 : BitVec 32 := 0#32
  let v50 : BitVec 1 := Scalar.cmpi .ne v49 c0_i32_29
  v50

def k0_off10 (v313 : BitVec 32) : Fin 2 → Nat :=
  let v314 : BitVec 32 := v313
  let c0_i32_194 : BitVec 32 := 0#32
  ![v314.toNat, 0]

def k0_chk10 (i : grid0.Coords) (v47 : BitVec 32) (v313 : BitVec 32) : Prop :=
  (∀ (k0_h1 : k0_cond1 i = 1#1), ∀ (k0_h11 : k0_cond11 v47 = 1#1), 512 ∣ (k0_mult10 v313).toNat) ∧
  (∀ (k0_h1 : k0_cond1 i = 1#1), ∀ (k0_h11 : k0_cond11 v47 = 1#1), ∀ a, (k0_off10 v313) a + S512x1024.size a ≤ S49152x1024.size a)
theorem k0_mult10_dvd : ∀ (i : grid0.Coords) (v47 : BitVec 32) (v313 : BitVec 32) (k0_hw10 : k0_chk10 i v47 v313), ∀ (k0_h1 : k0_cond1 i = 1#1), ∀ (k0_h11 : k0_cond11 v47 = 1#1), 512 ∣ (k0_mult10 v313).toNat := fun i v47 v313 k0_hw10 k0_h1 k0_h11 => k0_hw10.1 k0_h1 k0_h11
theorem k0_off10_inb : ∀ (i : grid0.Coords) (v47 : BitVec 32) (v313 : BitVec 32) (k0_hw10 : k0_chk10 i v47 v313), ∀ (k0_h1 : k0_cond1 i = 1#1), ∀ (k0_h11 : k0_cond11 v47 = 1#1), ∀ a, (k0_off10 v313) a + S512x1024.size a ≤ S49152x1024.size a := fun i v47 v313 k0_hw10 k0_h1 k0_h11 => k0_hw10.2 k0_h1 k0_h11

def k0_mult11 (v313 : BitVec 32) : BitVec 32 :=
  v313
def k0_cond12 (v51 : BitVec 32) : BitVec 1 :=
  let c0_i32_30 : BitVec 32 := 0#32
  let v52 : BitVec 1 := Scalar.cmpi .sge v51 c0_i32_30
  let v53 : BitVec 32 := Scalar.extui v52
  let c0_i32_31 : BitVec 32 := 0#32
  let v54 : BitVec 1 := Scalar.cmpi .ne v53 c0_i32_31
  v54

def k0_off11 (v313 : BitVec 32) : Fin 2 → Nat :=
  let v314 : BitVec 32 := v313
  let c0_i32_194 : BitVec 32 := 0#32
  ![v314.toNat, 0]

def k0_chk11 (i : grid0.Coords) (v51 : BitVec 32) (v313 : BitVec 32) : Prop :=
  (∀ (k0_h1 : k0_cond1 i = 1#1), ∀ (k0_h12 : k0_cond12 v51 = 1#1), 512 ∣ (k0_mult11 v313).toNat) ∧
  (∀ (k0_h1 : k0_cond1 i = 1#1), ∀ (k0_h12 : k0_cond12 v51 = 1#1), ∀ a, (k0_off11 v313) a + S512x1024.size a ≤ S49152x1024.size a)
theorem k0_mult11_dvd : ∀ (i : grid0.Coords) (v51 : BitVec 32) (v313 : BitVec 32) (k0_hw11 : k0_chk11 i v51 v313), ∀ (k0_h1 : k0_cond1 i = 1#1), ∀ (k0_h12 : k0_cond12 v51 = 1#1), 512 ∣ (k0_mult11 v313).toNat := fun i v51 v313 k0_hw11 k0_h1 k0_h12 => k0_hw11.1 k0_h1 k0_h12
theorem k0_off11_inb : ∀ (i : grid0.Coords) (v51 : BitVec 32) (v313 : BitVec 32) (k0_hw11 : k0_chk11 i v51 v313), ∀ (k0_h1 : k0_cond1 i = 1#1), ∀ (k0_h12 : k0_cond12 v51 = 1#1), ∀ a, (k0_off11 v313) a + S512x1024.size a ≤ S49152x1024.size a := fun i v51 v313 k0_hw11 k0_h1 k0_h12 => k0_hw11.2 k0_h1 k0_h12

def k0_mult12 (v313 : BitVec 32) : BitVec 32 :=
  v313
def k0_cond13 (v55 : BitVec 32) : BitVec 1 :=
  let c0_i32_32 : BitVec 32 := 0#32
  let v56 : BitVec 1 := Scalar.cmpi .sge v55 c0_i32_32
  let v57 : BitVec 32 := Scalar.extui v56
  let c0_i32_33 : BitVec 32 := 0#32
  let v58 : BitVec 1 := Scalar.cmpi .ne v57 c0_i32_33
  v58

def k0_off12 (v313 : BitVec 32) : Fin 2 → Nat :=
  let v314 : BitVec 32 := v313
  let c0_i32_194 : BitVec 32 := 0#32
  ![v314.toNat, 0]

def k0_chk12 (i : grid0.Coords) (v55 : BitVec 32) (v313 : BitVec 32) : Prop :=
  (∀ (k0_h1 : k0_cond1 i = 1#1), ∀ (k0_h13 : k0_cond13 v55 = 1#1), 512 ∣ (k0_mult12 v313).toNat) ∧
  (∀ (k0_h1 : k0_cond1 i = 1#1), ∀ (k0_h13 : k0_cond13 v55 = 1#1), ∀ a, (k0_off12 v313) a + S512x1024.size a ≤ S49152x1024.size a)
theorem k0_mult12_dvd : ∀ (i : grid0.Coords) (v55 : BitVec 32) (v313 : BitVec 32) (k0_hw12 : k0_chk12 i v55 v313), ∀ (k0_h1 : k0_cond1 i = 1#1), ∀ (k0_h13 : k0_cond13 v55 = 1#1), 512 ∣ (k0_mult12 v313).toNat := fun i v55 v313 k0_hw12 k0_h1 k0_h13 => k0_hw12.1 k0_h1 k0_h13
theorem k0_off12_inb : ∀ (i : grid0.Coords) (v55 : BitVec 32) (v313 : BitVec 32) (k0_hw12 : k0_chk12 i v55 v313), ∀ (k0_h1 : k0_cond1 i = 1#1), ∀ (k0_h13 : k0_cond13 v55 = 1#1), ∀ a, (k0_off12 v313) a + S512x1024.size a ≤ S49152x1024.size a := fun i v55 v313 k0_hw12 k0_h1 k0_h13 => k0_hw12.2 k0_h1 k0_h13

def k0_mult13 (v313 : BitVec 32) : BitVec 32 :=
  v313
def k0_cond14 (v59 : BitVec 32) : BitVec 1 :=
  let c0_i32_34 : BitVec 32 := 0#32
  let v60 : BitVec 1 := Scalar.cmpi .sge v59 c0_i32_34
  let v61 : BitVec 32 := Scalar.extui v60
  let c0_i32_35 : BitVec 32 := 0#32
  let v62 : BitVec 1 := Scalar.cmpi .ne v61 c0_i32_35
  v62

def k0_off13 (v313 : BitVec 32) : Fin 2 → Nat :=
  let v314 : BitVec 32 := v313
  let c0_i32_194 : BitVec 32 := 0#32
  ![v314.toNat, 0]

def k0_chk13 (i : grid0.Coords) (v59 : BitVec 32) (v313 : BitVec 32) : Prop :=
  (∀ (k0_h1 : k0_cond1 i = 1#1), ∀ (k0_h14 : k0_cond14 v59 = 1#1), 512 ∣ (k0_mult13 v313).toNat) ∧
  (∀ (k0_h1 : k0_cond1 i = 1#1), ∀ (k0_h14 : k0_cond14 v59 = 1#1), ∀ a, (k0_off13 v313) a + S512x1024.size a ≤ S49152x1024.size a)
theorem k0_mult13_dvd : ∀ (i : grid0.Coords) (v59 : BitVec 32) (v313 : BitVec 32) (k0_hw13 : k0_chk13 i v59 v313), ∀ (k0_h1 : k0_cond1 i = 1#1), ∀ (k0_h14 : k0_cond14 v59 = 1#1), 512 ∣ (k0_mult13 v313).toNat := fun i v59 v313 k0_hw13 k0_h1 k0_h14 => k0_hw13.1 k0_h1 k0_h14
theorem k0_off13_inb : ∀ (i : grid0.Coords) (v59 : BitVec 32) (v313 : BitVec 32) (k0_hw13 : k0_chk13 i v59 v313), ∀ (k0_h1 : k0_cond1 i = 1#1), ∀ (k0_h14 : k0_cond14 v59 = 1#1), ∀ a, (k0_off13 v313) a + S512x1024.size a ≤ S49152x1024.size a := fun i v59 v313 k0_hw13 k0_h1 k0_h14 => k0_hw13.2 k0_h1 k0_h14

def k0_mult14 (v313 : BitVec 32) : BitVec 32 :=
  v313
def k0_cond15 (v63 : BitVec 32) : BitVec 1 :=
  let c0_i32_36 : BitVec 32 := 0#32
  let v64 : BitVec 1 := Scalar.cmpi .sge v63 c0_i32_36
  let v65 : BitVec 32 := Scalar.extui v64
  let c0_i32_37 : BitVec 32 := 0#32
  let v66 : BitVec 1 := Scalar.cmpi .ne v65 c0_i32_37
  v66

def k0_off14 (v313 : BitVec 32) : Fin 2 → Nat :=
  let v314 : BitVec 32 := v313
  let c0_i32_194 : BitVec 32 := 0#32
  ![v314.toNat, 0]

def k0_chk14 (i : grid0.Coords) (v63 : BitVec 32) (v313 : BitVec 32) : Prop :=
  (∀ (k0_h1 : k0_cond1 i = 1#1), ∀ (k0_h15 : k0_cond15 v63 = 1#1), 512 ∣ (k0_mult14 v313).toNat) ∧
  (∀ (k0_h1 : k0_cond1 i = 1#1), ∀ (k0_h15 : k0_cond15 v63 = 1#1), ∀ a, (k0_off14 v313) a + S512x1024.size a ≤ S49152x1024.size a)
theorem k0_mult14_dvd : ∀ (i : grid0.Coords) (v63 : BitVec 32) (v313 : BitVec 32) (k0_hw14 : k0_chk14 i v63 v313), ∀ (k0_h1 : k0_cond1 i = 1#1), ∀ (k0_h15 : k0_cond15 v63 = 1#1), 512 ∣ (k0_mult14 v313).toNat := fun i v63 v313 k0_hw14 k0_h1 k0_h15 => k0_hw14.1 k0_h1 k0_h15
theorem k0_off14_inb : ∀ (i : grid0.Coords) (v63 : BitVec 32) (v313 : BitVec 32) (k0_hw14 : k0_chk14 i v63 v313), ∀ (k0_h1 : k0_cond1 i = 1#1), ∀ (k0_h15 : k0_cond15 v63 = 1#1), ∀ a, (k0_off14 v313) a + S512x1024.size a ≤ S49152x1024.size a := fun i v63 v313 k0_hw14 k0_h1 k0_h15 => k0_hw14.2 k0_h1 k0_h15

def k0_mult15 (v313 : BitVec 32) : BitVec 32 :=
  v313
def k0_cond16 (v67 : BitVec 32) : BitVec 1 :=
  let c0_i32_38 : BitVec 32 := 0#32
  let v68 : BitVec 1 := Scalar.cmpi .sge v67 c0_i32_38
  let v69 : BitVec 32 := Scalar.extui v68
  let c0_i32_39 : BitVec 32 := 0#32
  let v70 : BitVec 1 := Scalar.cmpi .ne v69 c0_i32_39
  v70

def k0_off15 (v313 : BitVec 32) : Fin 2 → Nat :=
  let v314 : BitVec 32 := v313
  let c0_i32_194 : BitVec 32 := 0#32
  ![v314.toNat, 0]

def k0_chk15 (i : grid0.Coords) (v67 : BitVec 32) (v313 : BitVec 32) : Prop :=
  (∀ (k0_h1 : k0_cond1 i = 1#1), ∀ (k0_h16 : k0_cond16 v67 = 1#1), 512 ∣ (k0_mult15 v313).toNat) ∧
  (∀ (k0_h1 : k0_cond1 i = 1#1), ∀ (k0_h16 : k0_cond16 v67 = 1#1), ∀ a, (k0_off15 v313) a + S512x1024.size a ≤ S49152x1024.size a)
theorem k0_mult15_dvd : ∀ (i : grid0.Coords) (v67 : BitVec 32) (v313 : BitVec 32) (k0_hw15 : k0_chk15 i v67 v313), ∀ (k0_h1 : k0_cond1 i = 1#1), ∀ (k0_h16 : k0_cond16 v67 = 1#1), 512 ∣ (k0_mult15 v313).toNat := fun i v67 v313 k0_hw15 k0_h1 k0_h16 => k0_hw15.1 k0_h1 k0_h16
theorem k0_off15_inb : ∀ (i : grid0.Coords) (v67 : BitVec 32) (v313 : BitVec 32) (k0_hw15 : k0_chk15 i v67 v313), ∀ (k0_h1 : k0_cond1 i = 1#1), ∀ (k0_h16 : k0_cond16 v67 = 1#1), ∀ a, (k0_off15 v313) a + S512x1024.size a ≤ S49152x1024.size a := fun i v67 v313 k0_hw15 k0_h1 k0_h16 => k0_hw15.2 k0_h1 k0_h16

def k0_mult16 (v313 : BitVec 32) : BitVec 32 :=
  v313
def k0_cond17 (v71 : BitVec 32) : BitVec 1 :=
  let c0_i32_40 : BitVec 32 := 0#32
  let v72 : BitVec 1 := Scalar.cmpi .sge v71 c0_i32_40
  let v73 : BitVec 32 := Scalar.extui v72
  let c0_i32_41 : BitVec 32 := 0#32
  let v74 : BitVec 1 := Scalar.cmpi .ne v73 c0_i32_41
  v74

def k0_off16 (v313 : BitVec 32) : Fin 2 → Nat :=
  let v314 : BitVec 32 := v313
  let c0_i32_194 : BitVec 32 := 0#32
  ![v314.toNat, 0]

def k0_chk16 (i : grid0.Coords) (v71 : BitVec 32) (v313 : BitVec 32) : Prop :=
  (∀ (k0_h1 : k0_cond1 i = 1#1), ∀ (k0_h17 : k0_cond17 v71 = 1#1), 512 ∣ (k0_mult16 v313).toNat) ∧
  (∀ (k0_h1 : k0_cond1 i = 1#1), ∀ (k0_h17 : k0_cond17 v71 = 1#1), ∀ a, (k0_off16 v313) a + S512x1024.size a ≤ S49152x1024.size a)
theorem k0_mult16_dvd : ∀ (i : grid0.Coords) (v71 : BitVec 32) (v313 : BitVec 32) (k0_hw16 : k0_chk16 i v71 v313), ∀ (k0_h1 : k0_cond1 i = 1#1), ∀ (k0_h17 : k0_cond17 v71 = 1#1), 512 ∣ (k0_mult16 v313).toNat := fun i v71 v313 k0_hw16 k0_h1 k0_h17 => k0_hw16.1 k0_h1 k0_h17
theorem k0_off16_inb : ∀ (i : grid0.Coords) (v71 : BitVec 32) (v313 : BitVec 32) (k0_hw16 : k0_chk16 i v71 v313), ∀ (k0_h1 : k0_cond1 i = 1#1), ∀ (k0_h17 : k0_cond17 v71 = 1#1), ∀ a, (k0_off16 v313) a + S512x1024.size a ≤ S49152x1024.size a := fun i v71 v313 k0_hw16 k0_h1 k0_h17 => k0_hw16.2 k0_h1 k0_h17

def k0_mult17 (v313 : BitVec 32) : BitVec 32 :=
  v313
def k0_cond18 (v75 : BitVec 32) : BitVec 1 :=
  let c0_i32_42 : BitVec 32 := 0#32
  let v76 : BitVec 1 := Scalar.cmpi .sge v75 c0_i32_42
  let v77 : BitVec 32 := Scalar.extui v76
  let c0_i32_43 : BitVec 32 := 0#32
  let v78 : BitVec 1 := Scalar.cmpi .ne v77 c0_i32_43
  v78

def k0_off17 (v313 : BitVec 32) : Fin 2 → Nat :=
  let v314 : BitVec 32 := v313
  let c0_i32_194 : BitVec 32 := 0#32
  ![v314.toNat, 0]

def k0_chk17 (i : grid0.Coords) (v75 : BitVec 32) (v313 : BitVec 32) : Prop :=
  (∀ (k0_h1 : k0_cond1 i = 1#1), ∀ (k0_h18 : k0_cond18 v75 = 1#1), 512 ∣ (k0_mult17 v313).toNat) ∧
  (∀ (k0_h1 : k0_cond1 i = 1#1), ∀ (k0_h18 : k0_cond18 v75 = 1#1), ∀ a, (k0_off17 v313) a + S512x1024.size a ≤ S49152x1024.size a)
theorem k0_mult17_dvd : ∀ (i : grid0.Coords) (v75 : BitVec 32) (v313 : BitVec 32) (k0_hw17 : k0_chk17 i v75 v313), ∀ (k0_h1 : k0_cond1 i = 1#1), ∀ (k0_h18 : k0_cond18 v75 = 1#1), 512 ∣ (k0_mult17 v313).toNat := fun i v75 v313 k0_hw17 k0_h1 k0_h18 => k0_hw17.1 k0_h1 k0_h18
theorem k0_off17_inb : ∀ (i : grid0.Coords) (v75 : BitVec 32) (v313 : BitVec 32) (k0_hw17 : k0_chk17 i v75 v313), ∀ (k0_h1 : k0_cond1 i = 1#1), ∀ (k0_h18 : k0_cond18 v75 = 1#1), ∀ a, (k0_off17 v313) a + S512x1024.size a ≤ S49152x1024.size a := fun i v75 v313 k0_hw17 k0_h1 k0_h18 => k0_hw17.2 k0_h1 k0_h18

def k0_mult18 (v313 : BitVec 32) : BitVec 32 :=
  v313
def k0_cond19 (v79 : BitVec 32) : BitVec 1 :=
  let c0_i32_44 : BitVec 32 := 0#32
  let v80 : BitVec 1 := Scalar.cmpi .sge v79 c0_i32_44
  let v81 : BitVec 32 := Scalar.extui v80
  let c0_i32_45 : BitVec 32 := 0#32
  let v82 : BitVec 1 := Scalar.cmpi .ne v81 c0_i32_45
  v82

def k0_off18 (v313 : BitVec 32) : Fin 2 → Nat :=
  let v314 : BitVec 32 := v313
  let c0_i32_194 : BitVec 32 := 0#32
  ![v314.toNat, 0]

def k0_chk18 (i : grid0.Coords) (v79 : BitVec 32) (v313 : BitVec 32) : Prop :=
  (∀ (k0_h1 : k0_cond1 i = 1#1), ∀ (k0_h19 : k0_cond19 v79 = 1#1), 512 ∣ (k0_mult18 v313).toNat) ∧
  (∀ (k0_h1 : k0_cond1 i = 1#1), ∀ (k0_h19 : k0_cond19 v79 = 1#1), ∀ a, (k0_off18 v313) a + S512x1024.size a ≤ S49152x1024.size a)
theorem k0_mult18_dvd : ∀ (i : grid0.Coords) (v79 : BitVec 32) (v313 : BitVec 32) (k0_hw18 : k0_chk18 i v79 v313), ∀ (k0_h1 : k0_cond1 i = 1#1), ∀ (k0_h19 : k0_cond19 v79 = 1#1), 512 ∣ (k0_mult18 v313).toNat := fun i v79 v313 k0_hw18 k0_h1 k0_h19 => k0_hw18.1 k0_h1 k0_h19
theorem k0_off18_inb : ∀ (i : grid0.Coords) (v79 : BitVec 32) (v313 : BitVec 32) (k0_hw18 : k0_chk18 i v79 v313), ∀ (k0_h1 : k0_cond1 i = 1#1), ∀ (k0_h19 : k0_cond19 v79 = 1#1), ∀ a, (k0_off18 v313) a + S512x1024.size a ≤ S49152x1024.size a := fun i v79 v313 k0_hw18 k0_h1 k0_h19 => k0_hw18.2 k0_h1 k0_h19

def k0_mult19 (v313 : BitVec 32) : BitVec 32 :=
  v313
def k0_cond20 (v83 : BitVec 32) : BitVec 1 :=
  let c0_i32_46 : BitVec 32 := 0#32
  let v84 : BitVec 1 := Scalar.cmpi .sge v83 c0_i32_46
  let v85 : BitVec 32 := Scalar.extui v84
  let c0_i32_47 : BitVec 32 := 0#32
  let v86 : BitVec 1 := Scalar.cmpi .ne v85 c0_i32_47
  v86

def k0_off19 (v313 : BitVec 32) : Fin 2 → Nat :=
  let v314 : BitVec 32 := v313
  let c0_i32_194 : BitVec 32 := 0#32
  ![v314.toNat, 0]

def k0_chk19 (i : grid0.Coords) (v83 : BitVec 32) (v313 : BitVec 32) : Prop :=
  (∀ (k0_h1 : k0_cond1 i = 1#1), ∀ (k0_h20 : k0_cond20 v83 = 1#1), 512 ∣ (k0_mult19 v313).toNat) ∧
  (∀ (k0_h1 : k0_cond1 i = 1#1), ∀ (k0_h20 : k0_cond20 v83 = 1#1), ∀ a, (k0_off19 v313) a + S512x1024.size a ≤ S49152x1024.size a)
theorem k0_mult19_dvd : ∀ (i : grid0.Coords) (v83 : BitVec 32) (v313 : BitVec 32) (k0_hw19 : k0_chk19 i v83 v313), ∀ (k0_h1 : k0_cond1 i = 1#1), ∀ (k0_h20 : k0_cond20 v83 = 1#1), 512 ∣ (k0_mult19 v313).toNat := fun i v83 v313 k0_hw19 k0_h1 k0_h20 => k0_hw19.1 k0_h1 k0_h20
theorem k0_off19_inb : ∀ (i : grid0.Coords) (v83 : BitVec 32) (v313 : BitVec 32) (k0_hw19 : k0_chk19 i v83 v313), ∀ (k0_h1 : k0_cond1 i = 1#1), ∀ (k0_h20 : k0_cond20 v83 = 1#1), ∀ a, (k0_off19 v313) a + S512x1024.size a ≤ S49152x1024.size a := fun i v83 v313 k0_hw19 k0_h1 k0_h20 => k0_hw19.2 k0_h1 k0_h20

def k0_mult20 (v313 : BitVec 32) : BitVec 32 :=
  v313
def k0_cond21 (v87 : BitVec 32) : BitVec 1 :=
  let c0_i32_48 : BitVec 32 := 0#32
  let v88 : BitVec 1 := Scalar.cmpi .sge v87 c0_i32_48
  let v89 : BitVec 32 := Scalar.extui v88
  let c0_i32_49 : BitVec 32 := 0#32
  let v90 : BitVec 1 := Scalar.cmpi .ne v89 c0_i32_49
  v90

def k0_off20 (v313 : BitVec 32) : Fin 2 → Nat :=
  let v314 : BitVec 32 := v313
  let c0_i32_194 : BitVec 32 := 0#32
  ![v314.toNat, 0]

def k0_chk20 (i : grid0.Coords) (v87 : BitVec 32) (v313 : BitVec 32) : Prop :=
  (∀ (k0_h1 : k0_cond1 i = 1#1), ∀ (k0_h21 : k0_cond21 v87 = 1#1), 512 ∣ (k0_mult20 v313).toNat) ∧
  (∀ (k0_h1 : k0_cond1 i = 1#1), ∀ (k0_h21 : k0_cond21 v87 = 1#1), ∀ a, (k0_off20 v313) a + S512x1024.size a ≤ S49152x1024.size a)
theorem k0_mult20_dvd : ∀ (i : grid0.Coords) (v87 : BitVec 32) (v313 : BitVec 32) (k0_hw20 : k0_chk20 i v87 v313), ∀ (k0_h1 : k0_cond1 i = 1#1), ∀ (k0_h21 : k0_cond21 v87 = 1#1), 512 ∣ (k0_mult20 v313).toNat := fun i v87 v313 k0_hw20 k0_h1 k0_h21 => k0_hw20.1 k0_h1 k0_h21
theorem k0_off20_inb : ∀ (i : grid0.Coords) (v87 : BitVec 32) (v313 : BitVec 32) (k0_hw20 : k0_chk20 i v87 v313), ∀ (k0_h1 : k0_cond1 i = 1#1), ∀ (k0_h21 : k0_cond21 v87 = 1#1), ∀ a, (k0_off20 v313) a + S512x1024.size a ≤ S49152x1024.size a := fun i v87 v313 k0_hw20 k0_h1 k0_h21 => k0_hw20.2 k0_h1 k0_h21

def k0_mult21 (v313 : BitVec 32) : BitVec 32 :=
  v313
def k0_cond22 (v91 : BitVec 32) : BitVec 1 :=
  let c0_i32_50 : BitVec 32 := 0#32
  let v92 : BitVec 1 := Scalar.cmpi .sge v91 c0_i32_50
  let v93 : BitVec 32 := Scalar.extui v92
  let c0_i32_51 : BitVec 32 := 0#32
  let v94 : BitVec 1 := Scalar.cmpi .ne v93 c0_i32_51
  v94

def k0_off21 (v313 : BitVec 32) : Fin 2 → Nat :=
  let v314 : BitVec 32 := v313
  let c0_i32_194 : BitVec 32 := 0#32
  ![v314.toNat, 0]

def k0_chk21 (i : grid0.Coords) (v91 : BitVec 32) (v313 : BitVec 32) : Prop :=
  (∀ (k0_h1 : k0_cond1 i = 1#1), ∀ (k0_h22 : k0_cond22 v91 = 1#1), 512 ∣ (k0_mult21 v313).toNat) ∧
  (∀ (k0_h1 : k0_cond1 i = 1#1), ∀ (k0_h22 : k0_cond22 v91 = 1#1), ∀ a, (k0_off21 v313) a + S512x1024.size a ≤ S49152x1024.size a)
theorem k0_mult21_dvd : ∀ (i : grid0.Coords) (v91 : BitVec 32) (v313 : BitVec 32) (k0_hw21 : k0_chk21 i v91 v313), ∀ (k0_h1 : k0_cond1 i = 1#1), ∀ (k0_h22 : k0_cond22 v91 = 1#1), 512 ∣ (k0_mult21 v313).toNat := fun i v91 v313 k0_hw21 k0_h1 k0_h22 => k0_hw21.1 k0_h1 k0_h22
theorem k0_off21_inb : ∀ (i : grid0.Coords) (v91 : BitVec 32) (v313 : BitVec 32) (k0_hw21 : k0_chk21 i v91 v313), ∀ (k0_h1 : k0_cond1 i = 1#1), ∀ (k0_h22 : k0_cond22 v91 = 1#1), ∀ a, (k0_off21 v313) a + S512x1024.size a ≤ S49152x1024.size a := fun i v91 v313 k0_hw21 k0_h1 k0_h22 => k0_hw21.2 k0_h1 k0_h22

def k0_mult22 (v313 : BitVec 32) : BitVec 32 :=
  v313
def k0_cond23 (v95 : BitVec 32) : BitVec 1 :=
  let c0_i32_52 : BitVec 32 := 0#32
  let v96 : BitVec 1 := Scalar.cmpi .sge v95 c0_i32_52
  let v97 : BitVec 32 := Scalar.extui v96
  let c0_i32_53 : BitVec 32 := 0#32
  let v98 : BitVec 1 := Scalar.cmpi .ne v97 c0_i32_53
  v98

def k0_off22 (v313 : BitVec 32) : Fin 2 → Nat :=
  let v314 : BitVec 32 := v313
  let c0_i32_194 : BitVec 32 := 0#32
  ![v314.toNat, 0]

def k0_chk22 (i : grid0.Coords) (v95 : BitVec 32) (v313 : BitVec 32) : Prop :=
  (∀ (k0_h1 : k0_cond1 i = 1#1), ∀ (k0_h23 : k0_cond23 v95 = 1#1), 512 ∣ (k0_mult22 v313).toNat) ∧
  (∀ (k0_h1 : k0_cond1 i = 1#1), ∀ (k0_h23 : k0_cond23 v95 = 1#1), ∀ a, (k0_off22 v313) a + S512x1024.size a ≤ S49152x1024.size a)
theorem k0_mult22_dvd : ∀ (i : grid0.Coords) (v95 : BitVec 32) (v313 : BitVec 32) (k0_hw22 : k0_chk22 i v95 v313), ∀ (k0_h1 : k0_cond1 i = 1#1), ∀ (k0_h23 : k0_cond23 v95 = 1#1), 512 ∣ (k0_mult22 v313).toNat := fun i v95 v313 k0_hw22 k0_h1 k0_h23 => k0_hw22.1 k0_h1 k0_h23
theorem k0_off22_inb : ∀ (i : grid0.Coords) (v95 : BitVec 32) (v313 : BitVec 32) (k0_hw22 : k0_chk22 i v95 v313), ∀ (k0_h1 : k0_cond1 i = 1#1), ∀ (k0_h23 : k0_cond23 v95 = 1#1), ∀ a, (k0_off22 v313) a + S512x1024.size a ≤ S49152x1024.size a := fun i v95 v313 k0_hw22 k0_h1 k0_h23 => k0_hw22.2 k0_h1 k0_h23

def k0_mult23 (v313 : BitVec 32) : BitVec 32 :=
  v313
def k0_cond24 (v99 : BitVec 32) : BitVec 1 :=
  let c0_i32_54 : BitVec 32 := 0#32
  let v100 : BitVec 1 := Scalar.cmpi .sge v99 c0_i32_54
  let v101 : BitVec 32 := Scalar.extui v100
  let c0_i32_55 : BitVec 32 := 0#32
  let v102 : BitVec 1 := Scalar.cmpi .ne v101 c0_i32_55
  v102

def k0_off23 (v313 : BitVec 32) : Fin 2 → Nat :=
  let v314 : BitVec 32 := v313
  let c0_i32_194 : BitVec 32 := 0#32
  ![v314.toNat, 0]

def k0_chk23 (i : grid0.Coords) (v99 : BitVec 32) (v313 : BitVec 32) : Prop :=
  (∀ (k0_h1 : k0_cond1 i = 1#1), ∀ (k0_h24 : k0_cond24 v99 = 1#1), 512 ∣ (k0_mult23 v313).toNat) ∧
  (∀ (k0_h1 : k0_cond1 i = 1#1), ∀ (k0_h24 : k0_cond24 v99 = 1#1), ∀ a, (k0_off23 v313) a + S512x1024.size a ≤ S49152x1024.size a)
theorem k0_mult23_dvd : ∀ (i : grid0.Coords) (v99 : BitVec 32) (v313 : BitVec 32) (k0_hw23 : k0_chk23 i v99 v313), ∀ (k0_h1 : k0_cond1 i = 1#1), ∀ (k0_h24 : k0_cond24 v99 = 1#1), 512 ∣ (k0_mult23 v313).toNat := fun i v99 v313 k0_hw23 k0_h1 k0_h24 => k0_hw23.1 k0_h1 k0_h24
theorem k0_off23_inb : ∀ (i : grid0.Coords) (v99 : BitVec 32) (v313 : BitVec 32) (k0_hw23 : k0_chk23 i v99 v313), ∀ (k0_h1 : k0_cond1 i = 1#1), ∀ (k0_h24 : k0_cond24 v99 = 1#1), ∀ a, (k0_off23 v313) a + S512x1024.size a ≤ S49152x1024.size a := fun i v99 v313 k0_hw23 k0_h1 k0_h24 => k0_hw23.2 k0_h1 k0_h24

def k0_mult24 (v313 : BitVec 32) : BitVec 32 :=
  v313
def k0_cond25 (v103 : BitVec 32) : BitVec 1 :=
  let c0_i32_56 : BitVec 32 := 0#32
  let v104 : BitVec 1 := Scalar.cmpi .sge v103 c0_i32_56
  let v105 : BitVec 32 := Scalar.extui v104
  let c0_i32_57 : BitVec 32 := 0#32
  let v106 : BitVec 1 := Scalar.cmpi .ne v105 c0_i32_57
  v106

def k0_off24 (v313 : BitVec 32) : Fin 2 → Nat :=
  let v314 : BitVec 32 := v313
  let c0_i32_194 : BitVec 32 := 0#32
  ![v314.toNat, 0]

def k0_chk24 (i : grid0.Coords) (v103 : BitVec 32) (v313 : BitVec 32) : Prop :=
  (∀ (k0_h1 : k0_cond1 i = 1#1), ∀ (k0_h25 : k0_cond25 v103 = 1#1), 512 ∣ (k0_mult24 v313).toNat) ∧
  (∀ (k0_h1 : k0_cond1 i = 1#1), ∀ (k0_h25 : k0_cond25 v103 = 1#1), ∀ a, (k0_off24 v313) a + S512x1024.size a ≤ S49152x1024.size a)
theorem k0_mult24_dvd : ∀ (i : grid0.Coords) (v103 : BitVec 32) (v313 : BitVec 32) (k0_hw24 : k0_chk24 i v103 v313), ∀ (k0_h1 : k0_cond1 i = 1#1), ∀ (k0_h25 : k0_cond25 v103 = 1#1), 512 ∣ (k0_mult24 v313).toNat := fun i v103 v313 k0_hw24 k0_h1 k0_h25 => k0_hw24.1 k0_h1 k0_h25
theorem k0_off24_inb : ∀ (i : grid0.Coords) (v103 : BitVec 32) (v313 : BitVec 32) (k0_hw24 : k0_chk24 i v103 v313), ∀ (k0_h1 : k0_cond1 i = 1#1), ∀ (k0_h25 : k0_cond25 v103 = 1#1), ∀ a, (k0_off24 v313) a + S512x1024.size a ≤ S49152x1024.size a := fun i v103 v313 k0_hw24 k0_h1 k0_h25 => k0_hw24.2 k0_h1 k0_h25

def k0_mult25 (v313 : BitVec 32) : BitVec 32 :=
  v313
def k0_cond26 (v107 : BitVec 32) : BitVec 1 :=
  let c0_i32_58 : BitVec 32 := 0#32
  let v108 : BitVec 1 := Scalar.cmpi .sge v107 c0_i32_58
  let v109 : BitVec 32 := Scalar.extui v108
  let c0_i32_59 : BitVec 32 := 0#32
  let v110 : BitVec 1 := Scalar.cmpi .ne v109 c0_i32_59
  v110

def k0_off25 (v313 : BitVec 32) : Fin 2 → Nat :=
  let v314 : BitVec 32 := v313
  let c0_i32_194 : BitVec 32 := 0#32
  ![v314.toNat, 0]

def k0_chk25 (i : grid0.Coords) (v107 : BitVec 32) (v313 : BitVec 32) : Prop :=
  (∀ (k0_h1 : k0_cond1 i = 1#1), ∀ (k0_h26 : k0_cond26 v107 = 1#1), 512 ∣ (k0_mult25 v313).toNat) ∧
  (∀ (k0_h1 : k0_cond1 i = 1#1), ∀ (k0_h26 : k0_cond26 v107 = 1#1), ∀ a, (k0_off25 v313) a + S512x1024.size a ≤ S49152x1024.size a)
theorem k0_mult25_dvd : ∀ (i : grid0.Coords) (v107 : BitVec 32) (v313 : BitVec 32) (k0_hw25 : k0_chk25 i v107 v313), ∀ (k0_h1 : k0_cond1 i = 1#1), ∀ (k0_h26 : k0_cond26 v107 = 1#1), 512 ∣ (k0_mult25 v313).toNat := fun i v107 v313 k0_hw25 k0_h1 k0_h26 => k0_hw25.1 k0_h1 k0_h26
theorem k0_off25_inb : ∀ (i : grid0.Coords) (v107 : BitVec 32) (v313 : BitVec 32) (k0_hw25 : k0_chk25 i v107 v313), ∀ (k0_h1 : k0_cond1 i = 1#1), ∀ (k0_h26 : k0_cond26 v107 = 1#1), ∀ a, (k0_off25 v313) a + S512x1024.size a ≤ S49152x1024.size a := fun i v107 v313 k0_hw25 k0_h1 k0_h26 => k0_hw25.2 k0_h1 k0_h26

def k0_mult26 (v313 : BitVec 32) : BitVec 32 :=
  v313
def k0_cond27 (v111 : BitVec 32) : BitVec 1 :=
  let c0_i32_60 : BitVec 32 := 0#32
  let v112 : BitVec 1 := Scalar.cmpi .sge v111 c0_i32_60
  let v113 : BitVec 32 := Scalar.extui v112
  let c0_i32_61 : BitVec 32 := 0#32
  let v114 : BitVec 1 := Scalar.cmpi .ne v113 c0_i32_61
  v114

def k0_off26 (v313 : BitVec 32) : Fin 2 → Nat :=
  let v314 : BitVec 32 := v313
  let c0_i32_194 : BitVec 32 := 0#32
  ![v314.toNat, 0]

def k0_chk26 (i : grid0.Coords) (v111 : BitVec 32) (v313 : BitVec 32) : Prop :=
  (∀ (k0_h1 : k0_cond1 i = 1#1), ∀ (k0_h27 : k0_cond27 v111 = 1#1), 512 ∣ (k0_mult26 v313).toNat) ∧
  (∀ (k0_h1 : k0_cond1 i = 1#1), ∀ (k0_h27 : k0_cond27 v111 = 1#1), ∀ a, (k0_off26 v313) a + S512x1024.size a ≤ S49152x1024.size a)
theorem k0_mult26_dvd : ∀ (i : grid0.Coords) (v111 : BitVec 32) (v313 : BitVec 32) (k0_hw26 : k0_chk26 i v111 v313), ∀ (k0_h1 : k0_cond1 i = 1#1), ∀ (k0_h27 : k0_cond27 v111 = 1#1), 512 ∣ (k0_mult26 v313).toNat := fun i v111 v313 k0_hw26 k0_h1 k0_h27 => k0_hw26.1 k0_h1 k0_h27
theorem k0_off26_inb : ∀ (i : grid0.Coords) (v111 : BitVec 32) (v313 : BitVec 32) (k0_hw26 : k0_chk26 i v111 v313), ∀ (k0_h1 : k0_cond1 i = 1#1), ∀ (k0_h27 : k0_cond27 v111 = 1#1), ∀ a, (k0_off26 v313) a + S512x1024.size a ≤ S49152x1024.size a := fun i v111 v313 k0_hw26 k0_h1 k0_h27 => k0_hw26.2 k0_h1 k0_h27

def k0_mult27 (v313 : BitVec 32) : BitVec 32 :=
  v313
def k0_cond28 (v115 : BitVec 32) : BitVec 1 :=
  let c0_i32_62 : BitVec 32 := 0#32
  let v116 : BitVec 1 := Scalar.cmpi .sge v115 c0_i32_62
  let v117 : BitVec 32 := Scalar.extui v116
  let c0_i32_63 : BitVec 32 := 0#32
  let v118 : BitVec 1 := Scalar.cmpi .ne v117 c0_i32_63
  v118

def k0_off27 (v313 : BitVec 32) : Fin 2 → Nat :=
  let v314 : BitVec 32 := v313
  let c0_i32_194 : BitVec 32 := 0#32
  ![v314.toNat, 0]

def k0_chk27 (i : grid0.Coords) (v115 : BitVec 32) (v313 : BitVec 32) : Prop :=
  (∀ (k0_h1 : k0_cond1 i = 1#1), ∀ (k0_h28 : k0_cond28 v115 = 1#1), 512 ∣ (k0_mult27 v313).toNat) ∧
  (∀ (k0_h1 : k0_cond1 i = 1#1), ∀ (k0_h28 : k0_cond28 v115 = 1#1), ∀ a, (k0_off27 v313) a + S512x1024.size a ≤ S49152x1024.size a)
theorem k0_mult27_dvd : ∀ (i : grid0.Coords) (v115 : BitVec 32) (v313 : BitVec 32) (k0_hw27 : k0_chk27 i v115 v313), ∀ (k0_h1 : k0_cond1 i = 1#1), ∀ (k0_h28 : k0_cond28 v115 = 1#1), 512 ∣ (k0_mult27 v313).toNat := fun i v115 v313 k0_hw27 k0_h1 k0_h28 => k0_hw27.1 k0_h1 k0_h28
theorem k0_off27_inb : ∀ (i : grid0.Coords) (v115 : BitVec 32) (v313 : BitVec 32) (k0_hw27 : k0_chk27 i v115 v313), ∀ (k0_h1 : k0_cond1 i = 1#1), ∀ (k0_h28 : k0_cond28 v115 = 1#1), ∀ a, (k0_off27 v313) a + S512x1024.size a ≤ S49152x1024.size a := fun i v115 v313 k0_hw27 k0_h1 k0_h28 => k0_hw27.2 k0_h1 k0_h28

def k0_mult28 (v313 : BitVec 32) : BitVec 32 :=
  v313
def k0_cond29 (v119 : BitVec 32) : BitVec 1 :=
  let c0_i32_64 : BitVec 32 := 0#32
  let v120 : BitVec 1 := Scalar.cmpi .sge v119 c0_i32_64
  let v121 : BitVec 32 := Scalar.extui v120
  let c0_i32_65 : BitVec 32 := 0#32
  let v122 : BitVec 1 := Scalar.cmpi .ne v121 c0_i32_65
  v122

def k0_off28 (v313 : BitVec 32) : Fin 2 → Nat :=
  let v314 : BitVec 32 := v313
  let c0_i32_194 : BitVec 32 := 0#32
  ![v314.toNat, 0]

def k0_chk28 (i : grid0.Coords) (v119 : BitVec 32) (v313 : BitVec 32) : Prop :=
  (∀ (k0_h1 : k0_cond1 i = 1#1), ∀ (k0_h29 : k0_cond29 v119 = 1#1), 512 ∣ (k0_mult28 v313).toNat) ∧
  (∀ (k0_h1 : k0_cond1 i = 1#1), ∀ (k0_h29 : k0_cond29 v119 = 1#1), ∀ a, (k0_off28 v313) a + S512x1024.size a ≤ S49152x1024.size a)
theorem k0_mult28_dvd : ∀ (i : grid0.Coords) (v119 : BitVec 32) (v313 : BitVec 32) (k0_hw28 : k0_chk28 i v119 v313), ∀ (k0_h1 : k0_cond1 i = 1#1), ∀ (k0_h29 : k0_cond29 v119 = 1#1), 512 ∣ (k0_mult28 v313).toNat := fun i v119 v313 k0_hw28 k0_h1 k0_h29 => k0_hw28.1 k0_h1 k0_h29
theorem k0_off28_inb : ∀ (i : grid0.Coords) (v119 : BitVec 32) (v313 : BitVec 32) (k0_hw28 : k0_chk28 i v119 v313), ∀ (k0_h1 : k0_cond1 i = 1#1), ∀ (k0_h29 : k0_cond29 v119 = 1#1), ∀ a, (k0_off28 v313) a + S512x1024.size a ≤ S49152x1024.size a := fun i v119 v313 k0_hw28 k0_h1 k0_h29 => k0_hw28.2 k0_h1 k0_h29

def k0_mult29 (v313 : BitVec 32) : BitVec 32 :=
  v313
def k0_cond30 (v123 : BitVec 32) : BitVec 1 :=
  let c0_i32_66 : BitVec 32 := 0#32
  let v124 : BitVec 1 := Scalar.cmpi .sge v123 c0_i32_66
  let v125 : BitVec 32 := Scalar.extui v124
  let c0_i32_67 : BitVec 32 := 0#32
  let v126 : BitVec 1 := Scalar.cmpi .ne v125 c0_i32_67
  v126

def k0_off29 (v313 : BitVec 32) : Fin 2 → Nat :=
  let v314 : BitVec 32 := v313
  let c0_i32_194 : BitVec 32 := 0#32
  ![v314.toNat, 0]

def k0_chk29 (i : grid0.Coords) (v123 : BitVec 32) (v313 : BitVec 32) : Prop :=
  (∀ (k0_h1 : k0_cond1 i = 1#1), ∀ (k0_h30 : k0_cond30 v123 = 1#1), 512 ∣ (k0_mult29 v313).toNat) ∧
  (∀ (k0_h1 : k0_cond1 i = 1#1), ∀ (k0_h30 : k0_cond30 v123 = 1#1), ∀ a, (k0_off29 v313) a + S512x1024.size a ≤ S49152x1024.size a)
theorem k0_mult29_dvd : ∀ (i : grid0.Coords) (v123 : BitVec 32) (v313 : BitVec 32) (k0_hw29 : k0_chk29 i v123 v313), ∀ (k0_h1 : k0_cond1 i = 1#1), ∀ (k0_h30 : k0_cond30 v123 = 1#1), 512 ∣ (k0_mult29 v313).toNat := fun i v123 v313 k0_hw29 k0_h1 k0_h30 => k0_hw29.1 k0_h1 k0_h30
theorem k0_off29_inb : ∀ (i : grid0.Coords) (v123 : BitVec 32) (v313 : BitVec 32) (k0_hw29 : k0_chk29 i v123 v313), ∀ (k0_h1 : k0_cond1 i = 1#1), ∀ (k0_h30 : k0_cond30 v123 = 1#1), ∀ a, (k0_off29 v313) a + S512x1024.size a ≤ S49152x1024.size a := fun i v123 v313 k0_hw29 k0_h1 k0_h30 => k0_hw29.2 k0_h1 k0_h30

def k0_mult30 (v313 : BitVec 32) : BitVec 32 :=
  v313
def k0_cond31 (v127 : BitVec 32) : BitVec 1 :=
  let c0_i32_68 : BitVec 32 := 0#32
  let v128 : BitVec 1 := Scalar.cmpi .sge v127 c0_i32_68
  let v129 : BitVec 32 := Scalar.extui v128
  let c0_i32_69 : BitVec 32 := 0#32
  let v130 : BitVec 1 := Scalar.cmpi .ne v129 c0_i32_69
  v130

def k0_off30 (v313 : BitVec 32) : Fin 2 → Nat :=
  let v314 : BitVec 32 := v313
  let c0_i32_194 : BitVec 32 := 0#32
  ![v314.toNat, 0]

def k0_chk30 (i : grid0.Coords) (v127 : BitVec 32) (v313 : BitVec 32) : Prop :=
  (∀ (k0_h1 : k0_cond1 i = 1#1), ∀ (k0_h31 : k0_cond31 v127 = 1#1), 512 ∣ (k0_mult30 v313).toNat) ∧
  (∀ (k0_h1 : k0_cond1 i = 1#1), ∀ (k0_h31 : k0_cond31 v127 = 1#1), ∀ a, (k0_off30 v313) a + S512x1024.size a ≤ S49152x1024.size a)
theorem k0_mult30_dvd : ∀ (i : grid0.Coords) (v127 : BitVec 32) (v313 : BitVec 32) (k0_hw30 : k0_chk30 i v127 v313), ∀ (k0_h1 : k0_cond1 i = 1#1), ∀ (k0_h31 : k0_cond31 v127 = 1#1), 512 ∣ (k0_mult30 v313).toNat := fun i v127 v313 k0_hw30 k0_h1 k0_h31 => k0_hw30.1 k0_h1 k0_h31
theorem k0_off30_inb : ∀ (i : grid0.Coords) (v127 : BitVec 32) (v313 : BitVec 32) (k0_hw30 : k0_chk30 i v127 v313), ∀ (k0_h1 : k0_cond1 i = 1#1), ∀ (k0_h31 : k0_cond31 v127 = 1#1), ∀ a, (k0_off30 v313) a + S512x1024.size a ≤ S49152x1024.size a := fun i v127 v313 k0_hw30 k0_h1 k0_h31 => k0_hw30.2 k0_h1 k0_h31

def k0_mult31 (v313 : BitVec 32) : BitVec 32 :=
  v313
def k0_cond32 (v131 : BitVec 32) : BitVec 1 :=
  let c0_i32_70 : BitVec 32 := 0#32
  let v132 : BitVec 1 := Scalar.cmpi .sge v131 c0_i32_70
  let v133 : BitVec 32 := Scalar.extui v132
  let c0_i32_71 : BitVec 32 := 0#32
  let v134 : BitVec 1 := Scalar.cmpi .ne v133 c0_i32_71
  v134

def k0_off31 (v313 : BitVec 32) : Fin 2 → Nat :=
  let v314 : BitVec 32 := v313
  let c0_i32_194 : BitVec 32 := 0#32
  ![v314.toNat, 0]

def k0_chk31 (i : grid0.Coords) (v131 : BitVec 32) (v313 : BitVec 32) : Prop :=
  (∀ (k0_h1 : k0_cond1 i = 1#1), ∀ (k0_h32 : k0_cond32 v131 = 1#1), 512 ∣ (k0_mult31 v313).toNat) ∧
  (∀ (k0_h1 : k0_cond1 i = 1#1), ∀ (k0_h32 : k0_cond32 v131 = 1#1), ∀ a, (k0_off31 v313) a + S512x1024.size a ≤ S49152x1024.size a)
theorem k0_mult31_dvd : ∀ (i : grid0.Coords) (v131 : BitVec 32) (v313 : BitVec 32) (k0_hw31 : k0_chk31 i v131 v313), ∀ (k0_h1 : k0_cond1 i = 1#1), ∀ (k0_h32 : k0_cond32 v131 = 1#1), 512 ∣ (k0_mult31 v313).toNat := fun i v131 v313 k0_hw31 k0_h1 k0_h32 => k0_hw31.1 k0_h1 k0_h32
theorem k0_off31_inb : ∀ (i : grid0.Coords) (v131 : BitVec 32) (v313 : BitVec 32) (k0_hw31 : k0_chk31 i v131 v313), ∀ (k0_h1 : k0_cond1 i = 1#1), ∀ (k0_h32 : k0_cond32 v131 = 1#1), ∀ a, (k0_off31 v313) a + S512x1024.size a ≤ S49152x1024.size a := fun i v131 v313 k0_hw31 k0_h1 k0_h32 => k0_hw31.2 k0_h1 k0_h32

def k0_mult32 (v313 : BitVec 32) : BitVec 32 :=
  v313
def k0_cond33 (v135 : BitVec 32) : BitVec 1 :=
  let c0_i32_72 : BitVec 32 := 0#32
  let v136 : BitVec 1 := Scalar.cmpi .sge v135 c0_i32_72
  let v137 : BitVec 32 := Scalar.extui v136
  let c0_i32_73 : BitVec 32 := 0#32
  let v138 : BitVec 1 := Scalar.cmpi .ne v137 c0_i32_73
  v138

def k0_off32 (v313 : BitVec 32) : Fin 2 → Nat :=
  let v314 : BitVec 32 := v313
  let c0_i32_194 : BitVec 32 := 0#32
  ![v314.toNat, 0]

def k0_chk32 (i : grid0.Coords) (v135 : BitVec 32) (v313 : BitVec 32) : Prop :=
  (∀ (k0_h1 : k0_cond1 i = 1#1), ∀ (k0_h33 : k0_cond33 v135 = 1#1), 512 ∣ (k0_mult32 v313).toNat) ∧
  (∀ (k0_h1 : k0_cond1 i = 1#1), ∀ (k0_h33 : k0_cond33 v135 = 1#1), ∀ a, (k0_off32 v313) a + S512x1024.size a ≤ S49152x1024.size a)
theorem k0_mult32_dvd : ∀ (i : grid0.Coords) (v135 : BitVec 32) (v313 : BitVec 32) (k0_hw32 : k0_chk32 i v135 v313), ∀ (k0_h1 : k0_cond1 i = 1#1), ∀ (k0_h33 : k0_cond33 v135 = 1#1), 512 ∣ (k0_mult32 v313).toNat := fun i v135 v313 k0_hw32 k0_h1 k0_h33 => k0_hw32.1 k0_h1 k0_h33
theorem k0_off32_inb : ∀ (i : grid0.Coords) (v135 : BitVec 32) (v313 : BitVec 32) (k0_hw32 : k0_chk32 i v135 v313), ∀ (k0_h1 : k0_cond1 i = 1#1), ∀ (k0_h33 : k0_cond33 v135 = 1#1), ∀ a, (k0_off32 v313) a + S512x1024.size a ≤ S49152x1024.size a := fun i v135 v313 k0_hw32 k0_h1 k0_h33 => k0_hw32.2 k0_h1 k0_h33

@[reducible] def k0_t1_loop (v139 : BitVec 32) : Scf.Loop 32 :=
  let c0_i32_74 : BitVec 32 := 0#32
  let v141 : BitVec 1 := Scalar.cmpi .sgt v139 c0_i32_74
  let v142 : BitVec 32 := Scalar.extui v141
  let c0_i32_75 : BitVec 32 := 0#32
  let v143 : BitVec 1 := Scalar.cmpi .slt v139 c0_i32_75
  let v144 : BitVec 32 := Scalar.extui v143
  let v145 : BitVec 32 := Scalar.subi v142 v144
  let c512_i32 : BitVec 32 := 512#32
  let c0_i32_76 : BitVec 32 := 0#32
  let v146 : BitVec 1 := Scalar.cmpi .sgt c512_i32 c0_i32_76
  let v147 : BitVec 32 := Scalar.extui v146
  let c0_i32_77 : BitVec 32 := 0#32
  let v148 : BitVec 1 := Scalar.cmpi .slt c512_i32 c0_i32_77
  let v149 : BitVec 32 := Scalar.extui v148
  let v150 : BitVec 32 := Scalar.subi v147 v149
  let v151 : BitVec 1 := Scalar.cmpi .ne v145 v150
  let v152 : BitVec 32 := Scalar.remsi v139 c512_i32
  let c0_i32_78 : BitVec 32 := 0#32
  let v153 : BitVec 1 := Scalar.cmpi .ne v152 c0_i32_78
  let v154 : BitVec 1 := Scalar.andi v151 v153
  let v140 : BitVec 32 := Scalar.divsi v139 c512_i32
  let c1_i32_79 : BitVec 32 := 1#32
  let v155 : BitVec 32 := Scalar.subi v140 c1_i32_79
  let v156 : BitVec 32 := Scalar.select v154 v155 v140
  let c96_i32 : BitVec 32 := 96#32
  let v157 : BitVec 32 := Scalar.subi c96_i32 v156
  let c1_i32_81 : BitVec 32 := 1#32
  let v159 : BitVec 32 := Scalar.divsi v157 c1_i32_81
  let v160 : BitVec 32 := Scalar.muli v159 c1_i32_81
  let v161 : BitVec 32 := Scalar.addi v156 v160
  let c1_i32_82 : BitVec 32 := 1#32
  ⟨v156, v161, c1_i32_82⟩

def k0_mult33 (v139 : BitVec 32) (k0_t1 : Fin (k0_t1_loop v139).trips) : BitVec 32 :=
  let c0_i32_74 : BitVec 32 := 0#32
  let v141 : BitVec 1 := Scalar.cmpi .sgt v139 c0_i32_74
  let v142 : BitVec 32 := Scalar.extui v141
  let c0_i32_75 : BitVec 32 := 0#32
  let v143 : BitVec 1 := Scalar.cmpi .slt v139 c0_i32_75
  let v144 : BitVec 32 := Scalar.extui v143
  let v145 : BitVec 32 := Scalar.subi v142 v144
  let c512_i32 : BitVec 32 := 512#32
  let c0_i32_76 : BitVec 32 := 0#32
  let v146 : BitVec 1 := Scalar.cmpi .sgt c512_i32 c0_i32_76
  let v147 : BitVec 32 := Scalar.extui v146
  let c0_i32_77 : BitVec 32 := 0#32
  let v148 : BitVec 1 := Scalar.cmpi .slt c512_i32 c0_i32_77
  let v149 : BitVec 32 := Scalar.extui v148
  let v150 : BitVec 32 := Scalar.subi v147 v149
  let v151 : BitVec 1 := Scalar.cmpi .ne v145 v150
  let v152 : BitVec 32 := Scalar.remsi v139 c512_i32
  let c0_i32_78 : BitVec 32 := 0#32
  let v153 : BitVec 1 := Scalar.cmpi .ne v152 c0_i32_78
  let v154 : BitVec 1 := Scalar.andi v151 v153
  let v140 : BitVec 32 := Scalar.divsi v139 c512_i32
  let c1_i32_79 : BitVec 32 := 1#32
  let v155 : BitVec 32 := Scalar.subi v140 c1_i32_79
  let v156 : BitVec 32 := Scalar.select v154 v155 v140
  let c1_i32_82 : BitVec 32 := 1#32
  let arg8 : BitVec 32 := Scf.iv v156 c1_i32_82 k0_t1
  let c512_i32_193 : BitVec 32 := 512#32
  let v313 : BitVec 32 := Scalar.muli arg8 c512_i32_193
  v313
def k0_off33 (v139 : BitVec 32) (k0_t1 : Fin (k0_t1_loop v139).trips) : Fin 2 → Nat :=
  let c0_i32_74 : BitVec 32 := 0#32
  let v141 : BitVec 1 := Scalar.cmpi .sgt v139 c0_i32_74
  let v142 : BitVec 32 := Scalar.extui v141
  let c0_i32_75 : BitVec 32 := 0#32
  let v143 : BitVec 1 := Scalar.cmpi .slt v139 c0_i32_75
  let v144 : BitVec 32 := Scalar.extui v143
  let v145 : BitVec 32 := Scalar.subi v142 v144
  let c512_i32 : BitVec 32 := 512#32
  let c0_i32_76 : BitVec 32 := 0#32
  let v146 : BitVec 1 := Scalar.cmpi .sgt c512_i32 c0_i32_76
  let v147 : BitVec 32 := Scalar.extui v146
  let c0_i32_77 : BitVec 32 := 0#32
  let v148 : BitVec 1 := Scalar.cmpi .slt c512_i32 c0_i32_77
  let v149 : BitVec 32 := Scalar.extui v148
  let v150 : BitVec 32 := Scalar.subi v147 v149
  let v151 : BitVec 1 := Scalar.cmpi .ne v145 v150
  let v152 : BitVec 32 := Scalar.remsi v139 c512_i32
  let c0_i32_78 : BitVec 32 := 0#32
  let v153 : BitVec 1 := Scalar.cmpi .ne v152 c0_i32_78
  let v154 : BitVec 1 := Scalar.andi v151 v153
  let v140 : BitVec 32 := Scalar.divsi v139 c512_i32
  let c1_i32_79 : BitVec 32 := 1#32
  let v155 : BitVec 32 := Scalar.subi v140 c1_i32_79
  let v156 : BitVec 32 := Scalar.select v154 v155 v140
  let c1_i32_82 : BitVec 32 := 1#32
  let arg8 : BitVec 32 := Scf.iv v156 c1_i32_82 k0_t1
  let c512_i32_193 : BitVec 32 := 512#32
  let v313 : BitVec 32 := Scalar.muli arg8 c512_i32_193
  let v314 : BitVec 32 := v313
  let c0_i32_194 : BitVec 32 := 0#32
  ![v314.toNat, 0]
@[reducible] def k0_t2_loop (v139 : BitVec 32) : Scf.Loop 32 :=
  let c0_i32_74 : BitVec 32 := 0#32
  let v141 : BitVec 1 := Scalar.cmpi .sgt v139 c0_i32_74
  let v142 : BitVec 32 := Scalar.extui v141
  let c0_i32_75 : BitVec 32 := 0#32
  let v143 : BitVec 1 := Scalar.cmpi .slt v139 c0_i32_75
  let v144 : BitVec 32 := Scalar.extui v143
  let v145 : BitVec 32 := Scalar.subi v142 v144
  let c512_i32 : BitVec 32 := 512#32
  let c0_i32_76 : BitVec 32 := 0#32
  let v146 : BitVec 1 := Scalar.cmpi .sgt c512_i32 c0_i32_76
  let v147 : BitVec 32 := Scalar.extui v146
  let c0_i32_77 : BitVec 32 := 0#32
  let v148 : BitVec 1 := Scalar.cmpi .slt c512_i32 c0_i32_77
  let v149 : BitVec 32 := Scalar.extui v148
  let v150 : BitVec 32 := Scalar.subi v147 v149
  let v151 : BitVec 1 := Scalar.cmpi .ne v145 v150
  let v152 : BitVec 32 := Scalar.remsi v139 c512_i32
  let c0_i32_78 : BitVec 32 := 0#32
  let v153 : BitVec 1 := Scalar.cmpi .ne v152 c0_i32_78
  let v154 : BitVec 1 := Scalar.andi v151 v153
  let v140 : BitVec 32 := Scalar.divsi v139 c512_i32
  let c1_i32_79 : BitVec 32 := 1#32
  let v155 : BitVec 32 := Scalar.subi v140 c1_i32_79
  let v156 : BitVec 32 := Scalar.select v154 v155 v140
  let c96_i32 : BitVec 32 := 96#32
  let v157 : BitVec 32 := Scalar.subi c96_i32 v156
  let c1_i32_81 : BitVec 32 := 1#32
  let v159 : BitVec 32 := Scalar.divsi v157 c1_i32_81
  let v160 : BitVec 32 := Scalar.muli v159 c1_i32_81
  let v161 : BitVec 32 := Scalar.addi v156 v160
  let v158 : BitVec 32 := Scalar.addi v156 v157
  let c1_i32_83 : BitVec 32 := 1#32
  ⟨v161, v158, c1_i32_83⟩
def k0_mult34 (v139 : BitVec 32) (k0_t2 : Fin (k0_t2_loop v139).trips) : BitVec 32 :=
  let c0_i32_74 : BitVec 32 := 0#32
  let v141 : BitVec 1 := Scalar.cmpi .sgt v139 c0_i32_74
  let v142 : BitVec 32 := Scalar.extui v141
  let c0_i32_75 : BitVec 32 := 0#32
  let v143 : BitVec 1 := Scalar.cmpi .slt v139 c0_i32_75
  let v144 : BitVec 32 := Scalar.extui v143
  let v145 : BitVec 32 := Scalar.subi v142 v144
  let c512_i32 : BitVec 32 := 512#32
  let c0_i32_76 : BitVec 32 := 0#32
  let v146 : BitVec 1 := Scalar.cmpi .sgt c512_i32 c0_i32_76
  let v147 : BitVec 32 := Scalar.extui v146
  let c0_i32_77 : BitVec 32 := 0#32
  let v148 : BitVec 1 := Scalar.cmpi .slt c512_i32 c0_i32_77
  let v149 : BitVec 32 := Scalar.extui v148
  let v150 : BitVec 32 := Scalar.subi v147 v149
  let v151 : BitVec 1 := Scalar.cmpi .ne v145 v150
  let v152 : BitVec 32 := Scalar.remsi v139 c512_i32
  let c0_i32_78 : BitVec 32 := 0#32
  let v153 : BitVec 1 := Scalar.cmpi .ne v152 c0_i32_78
  let v154 : BitVec 1 := Scalar.andi v151 v153
  let v140 : BitVec 32 := Scalar.divsi v139 c512_i32
  let c1_i32_79 : BitVec 32 := 1#32
  let v155 : BitVec 32 := Scalar.subi v140 c1_i32_79
  let v156 : BitVec 32 := Scalar.select v154 v155 v140
  let c96_i32 : BitVec 32 := 96#32
  let v157 : BitVec 32 := Scalar.subi c96_i32 v156
  let c1_i32_81 : BitVec 32 := 1#32
  let v159 : BitVec 32 := Scalar.divsi v157 c1_i32_81
  let v160 : BitVec 32 := Scalar.muli v159 c1_i32_81
  let v161 : BitVec 32 := Scalar.addi v156 v160
  let c1_i32_83 : BitVec 32 := 1#32
  let arg8 : BitVec 32 := Scf.iv v161 c1_i32_83 k0_t2
  let c512_i32_193 : BitVec 32 := 512#32
  let v313 : BitVec 32 := Scalar.muli arg8 c512_i32_193
  v313
def k0_off34 (v139 : BitVec 32) (k0_t2 : Fin (k0_t2_loop v139).trips) : Fin 2 → Nat :=
  let c0_i32_74 : BitVec 32 := 0#32
  let v141 : BitVec 1 := Scalar.cmpi .sgt v139 c0_i32_74
  let v142 : BitVec 32 := Scalar.extui v141
  let c0_i32_75 : BitVec 32 := 0#32
  let v143 : BitVec 1 := Scalar.cmpi .slt v139 c0_i32_75
  let v144 : BitVec 32 := Scalar.extui v143
  let v145 : BitVec 32 := Scalar.subi v142 v144
  let c512_i32 : BitVec 32 := 512#32
  let c0_i32_76 : BitVec 32 := 0#32
  let v146 : BitVec 1 := Scalar.cmpi .sgt c512_i32 c0_i32_76
  let v147 : BitVec 32 := Scalar.extui v146
  let c0_i32_77 : BitVec 32 := 0#32
  let v148 : BitVec 1 := Scalar.cmpi .slt c512_i32 c0_i32_77
  let v149 : BitVec 32 := Scalar.extui v148
  let v150 : BitVec 32 := Scalar.subi v147 v149
  let v151 : BitVec 1 := Scalar.cmpi .ne v145 v150
  let v152 : BitVec 32 := Scalar.remsi v139 c512_i32
  let c0_i32_78 : BitVec 32 := 0#32
  let v153 : BitVec 1 := Scalar.cmpi .ne v152 c0_i32_78
  let v154 : BitVec 1 := Scalar.andi v151 v153
  let v140 : BitVec 32 := Scalar.divsi v139 c512_i32
  let c1_i32_79 : BitVec 32 := 1#32
  let v155 : BitVec 32 := Scalar.subi v140 c1_i32_79
  let v156 : BitVec 32 := Scalar.select v154 v155 v140
  let c96_i32 : BitVec 32 := 96#32
  let v157 : BitVec 32 := Scalar.subi c96_i32 v156
  let c1_i32_81 : BitVec 32 := 1#32
  let v159 : BitVec 32 := Scalar.divsi v157 c1_i32_81
  let v160 : BitVec 32 := Scalar.muli v159 c1_i32_81
  let v161 : BitVec 32 := Scalar.addi v156 v160
  let c1_i32_83 : BitVec 32 := 1#32
  let arg8 : BitVec 32 := Scf.iv v161 c1_i32_83 k0_t2
  let c512_i32_193 : BitVec 32 := 512#32
  let v313 : BitVec 32 := Scalar.muli arg8 c512_i32_193
  let v314 : BitVec 32 := v313
  let c0_i32_194 : BitVec 32 := 0#32
  ![v314.toNat, 0]

def k0_chk33 (i : grid0.Coords) (v139 : BitVec 32) : Prop :=
  (∀ (k0_h1 : k0_cond1 i = 1#1), (k0_t1_loop v139).OK) ∧
  (∀ k0_t1 : Fin (k0_t1_loop v139).trips, ∀ (k0_h1 : k0_cond1 i = 1#1), 512 ∣ (k0_mult33 v139 k0_t1).toNat) ∧
  (∀ k0_t1 : Fin (k0_t1_loop v139).trips, ∀ (k0_h1 : k0_cond1 i = 1#1), ∀ a, (k0_off33 v139 k0_t1) a + S512x1024.size a ≤ S49152x1024.size a) ∧
  (∀ (k0_h1 : k0_cond1 i = 1#1), (k0_t2_loop v139).OK) ∧
  (∀ k0_t2 : Fin (k0_t2_loop v139).trips, ∀ (k0_h1 : k0_cond1 i = 1#1), 512 ∣ (k0_mult34 v139 k0_t2).toNat) ∧
  (∀ k0_t2 : Fin (k0_t2_loop v139).trips, ∀ (k0_h1 : k0_cond1 i = 1#1), ∀ a, (k0_off34 v139 k0_t2) a + S512x1024.size a ≤ S49152x1024.size a)
theorem k0_t1_ok : ∀ (i : grid0.Coords) (v139 : BitVec 32) (k0_hw33 : k0_chk33 i v139), ∀ (k0_h1 : k0_cond1 i = 1#1), (k0_t1_loop v139).OK := fun i v139 k0_hw33 k0_h1 => k0_hw33.1 k0_h1
theorem k0_mult33_dvd : ∀ (i : grid0.Coords) (v139 : BitVec 32) (k0_hw33 : k0_chk33 i v139) (k0_t1 : Fin (k0_t1_loop v139).trips), ∀ (k0_h1 : k0_cond1 i = 1#1), 512 ∣ (k0_mult33 v139 k0_t1).toNat := fun i v139 k0_hw33 k0_t1 k0_h1 => k0_hw33.2.1 k0_t1 k0_h1
theorem k0_off33_inb : ∀ (i : grid0.Coords) (v139 : BitVec 32) (k0_hw33 : k0_chk33 i v139) (k0_t1 : Fin (k0_t1_loop v139).trips), ∀ (k0_h1 : k0_cond1 i = 1#1), ∀ a, (k0_off33 v139 k0_t1) a + S512x1024.size a ≤ S49152x1024.size a := fun i v139 k0_hw33 k0_t1 k0_h1 => k0_hw33.2.2.1 k0_t1 k0_h1
theorem k0_t2_ok : ∀ (i : grid0.Coords) (v139 : BitVec 32) (k0_hw33 : k0_chk33 i v139), ∀ (k0_h1 : k0_cond1 i = 1#1), (k0_t2_loop v139).OK := fun i v139 k0_hw33 k0_h1 => k0_hw33.2.2.2.1 k0_h1
theorem k0_mult34_dvd : ∀ (i : grid0.Coords) (v139 : BitVec 32) (k0_hw33 : k0_chk33 i v139) (k0_t2 : Fin (k0_t2_loop v139).trips), ∀ (k0_h1 : k0_cond1 i = 1#1), 512 ∣ (k0_mult34 v139 k0_t2).toNat := fun i v139 k0_hw33 k0_t2 k0_h1 => k0_hw33.2.2.2.2.1 k0_t2 k0_h1
theorem k0_off34_inb : ∀ (i : grid0.Coords) (v139 : BitVec 32) (k0_hw33 : k0_chk33 i v139) (k0_t2 : Fin (k0_t2_loop v139).trips), ∀ (k0_h1 : k0_cond1 i = 1#1), ∀ a, (k0_off34 v139 k0_t2) a + S512x1024.size a ≤ S49152x1024.size a := fun i v139 k0_hw33 k0_t2 k0_h1 => k0_hw33.2.2.2.2.2 k0_t2 k0_h1

def k0_mult35 (v313 : BitVec 32) : BitVec 32 :=
  v313
def k0_cond34 (v162 : BitVec 32) : BitVec 1 :=
  let c0_i32_85 : BitVec 32 := 0#32
  let v163 : BitVec 1 := Scalar.cmpi .sge v162 c0_i32_85
  let v164 : BitVec 32 := Scalar.extui v163
  let c0_i32_86 : BitVec 32 := 0#32
  let v165 : BitVec 1 := Scalar.cmpi .ne v164 c0_i32_86
  v165

def k0_off35 (v313 : BitVec 32) : Fin 2 → Nat :=
  let v314 : BitVec 32 := v313
  let c0_i32_194 : BitVec 32 := 0#32
  ![v314.toNat, 0]

def k0_chk34 (i : grid0.Coords) (v162 : BitVec 32) (v313 : BitVec 32) : Prop :=
  (∀ (k0_h1 : k0_cond1 i = 1#1), ∀ (k0_h34 : k0_cond34 v162 = 1#1), 512 ∣ (k0_mult35 v313).toNat) ∧
  (∀ (k0_h1 : k0_cond1 i = 1#1), ∀ (k0_h34 : k0_cond34 v162 = 1#1), ∀ a, (k0_off35 v313) a + S512x1024.size a ≤ S49152x1024.size a)
theorem k0_mult35_dvd : ∀ (i : grid0.Coords) (v162 : BitVec 32) (v313 : BitVec 32) (k0_hw34 : k0_chk34 i v162 v313), ∀ (k0_h1 : k0_cond1 i = 1#1), ∀ (k0_h34 : k0_cond34 v162 = 1#1), 512 ∣ (k0_mult35 v313).toNat := fun i v162 v313 k0_hw34 k0_h1 k0_h34 => k0_hw34.1 k0_h1 k0_h34
theorem k0_off35_inb : ∀ (i : grid0.Coords) (v162 : BitVec 32) (v313 : BitVec 32) (k0_hw34 : k0_chk34 i v162 v313), ∀ (k0_h1 : k0_cond1 i = 1#1), ∀ (k0_h34 : k0_cond34 v162 = 1#1), ∀ a, (k0_off35 v313) a + S512x1024.size a ≤ S49152x1024.size a := fun i v162 v313 k0_hw34 k0_h1 k0_h34 => k0_hw34.2 k0_h1 k0_h34

def k0_mult36 (v313 : BitVec 32) : BitVec 32 :=
  v313
def k0_cond35 (v166 : BitVec 32) : BitVec 1 :=
  let c0_i32_88 : BitVec 32 := 0#32
  let v167 : BitVec 1 := Scalar.cmpi .sge v166 c0_i32_88
  let v168 : BitVec 32 := Scalar.extui v167
  let c0_i32_89 : BitVec 32 := 0#32
  let v169 : BitVec 1 := Scalar.cmpi .ne v168 c0_i32_89
  v169

def k0_off36 (v313 : BitVec 32) : Fin 2 → Nat :=
  let v314 : BitVec 32 := v313
  let c0_i32_194 : BitVec 32 := 0#32
  ![v314.toNat, 0]

def k0_chk35 (i : grid0.Coords) (v166 : BitVec 32) (v313 : BitVec 32) : Prop :=
  (∀ (k0_h1 : k0_cond1 i = 1#1), ∀ (k0_h35 : k0_cond35 v166 = 1#1), 512 ∣ (k0_mult36 v313).toNat) ∧
  (∀ (k0_h1 : k0_cond1 i = 1#1), ∀ (k0_h35 : k0_cond35 v166 = 1#1), ∀ a, (k0_off36 v313) a + S512x1024.size a ≤ S49152x1024.size a)
theorem k0_mult36_dvd : ∀ (i : grid0.Coords) (v166 : BitVec 32) (v313 : BitVec 32) (k0_hw35 : k0_chk35 i v166 v313), ∀ (k0_h1 : k0_cond1 i = 1#1), ∀ (k0_h35 : k0_cond35 v166 = 1#1), 512 ∣ (k0_mult36 v313).toNat := fun i v166 v313 k0_hw35 k0_h1 k0_h35 => k0_hw35.1 k0_h1 k0_h35
theorem k0_off36_inb : ∀ (i : grid0.Coords) (v166 : BitVec 32) (v313 : BitVec 32) (k0_hw35 : k0_chk35 i v166 v313), ∀ (k0_h1 : k0_cond1 i = 1#1), ∀ (k0_h35 : k0_cond35 v166 = 1#1), ∀ a, (k0_off36 v313) a + S512x1024.size a ≤ S49152x1024.size a := fun i v166 v313 k0_hw35 k0_h1 k0_h35 => k0_hw35.2 k0_h1 k0_h35

def k0_mult37 (v313 : BitVec 32) : BitVec 32 :=
  v313
def k0_cond36 (v170 : BitVec 32) : BitVec 1 :=
  let c0_i32_91 : BitVec 32 := 0#32
  let v171 : BitVec 1 := Scalar.cmpi .sge v170 c0_i32_91
  let v172 : BitVec 32 := Scalar.extui v171
  let c0_i32_92 : BitVec 32 := 0#32
  let v173 : BitVec 1 := Scalar.cmpi .ne v172 c0_i32_92
  v173

def k0_off37 (v313 : BitVec 32) : Fin 2 → Nat :=
  let v314 : BitVec 32 := v313
  let c0_i32_194 : BitVec 32 := 0#32
  ![v314.toNat, 0]

def k0_chk36 (i : grid0.Coords) (v170 : BitVec 32) (v313 : BitVec 32) : Prop :=
  (∀ (k0_h1 : k0_cond1 i = 1#1), ∀ (k0_h36 : k0_cond36 v170 = 1#1), 512 ∣ (k0_mult37 v313).toNat) ∧
  (∀ (k0_h1 : k0_cond1 i = 1#1), ∀ (k0_h36 : k0_cond36 v170 = 1#1), ∀ a, (k0_off37 v313) a + S512x1024.size a ≤ S49152x1024.size a)
theorem k0_mult37_dvd : ∀ (i : grid0.Coords) (v170 : BitVec 32) (v313 : BitVec 32) (k0_hw36 : k0_chk36 i v170 v313), ∀ (k0_h1 : k0_cond1 i = 1#1), ∀ (k0_h36 : k0_cond36 v170 = 1#1), 512 ∣ (k0_mult37 v313).toNat := fun i v170 v313 k0_hw36 k0_h1 k0_h36 => k0_hw36.1 k0_h1 k0_h36
theorem k0_off37_inb : ∀ (i : grid0.Coords) (v170 : BitVec 32) (v313 : BitVec 32) (k0_hw36 : k0_chk36 i v170 v313), ∀ (k0_h1 : k0_cond1 i = 1#1), ∀ (k0_h36 : k0_cond36 v170 = 1#1), ∀ a, (k0_off37 v313) a + S512x1024.size a ≤ S49152x1024.size a := fun i v170 v313 k0_hw36 k0_h1 k0_h36 => k0_hw36.2 k0_h1 k0_h36

def k0_mult38 (v313 : BitVec 32) : BitVec 32 :=
  v313
def k0_cond37 (v174 : BitVec 32) : BitVec 1 :=
  let c0_i32_94 : BitVec 32 := 0#32
  let v175 : BitVec 1 := Scalar.cmpi .sge v174 c0_i32_94
  let v176 : BitVec 32 := Scalar.extui v175
  let c0_i32_95 : BitVec 32 := 0#32
  let v177 : BitVec 1 := Scalar.cmpi .ne v176 c0_i32_95
  v177

def k0_off38 (v313 : BitVec 32) : Fin 2 → Nat :=
  let v314 : BitVec 32 := v313
  let c0_i32_194 : BitVec 32 := 0#32
  ![v314.toNat, 0]

def k0_chk37 (i : grid0.Coords) (v174 : BitVec 32) (v313 : BitVec 32) : Prop :=
  (∀ (k0_h1 : k0_cond1 i = 1#1), ∀ (k0_h37 : k0_cond37 v174 = 1#1), 512 ∣ (k0_mult38 v313).toNat) ∧
  (∀ (k0_h1 : k0_cond1 i = 1#1), ∀ (k0_h37 : k0_cond37 v174 = 1#1), ∀ a, (k0_off38 v313) a + S512x1024.size a ≤ S49152x1024.size a)
theorem k0_mult38_dvd : ∀ (i : grid0.Coords) (v174 : BitVec 32) (v313 : BitVec 32) (k0_hw37 : k0_chk37 i v174 v313), ∀ (k0_h1 : k0_cond1 i = 1#1), ∀ (k0_h37 : k0_cond37 v174 = 1#1), 512 ∣ (k0_mult38 v313).toNat := fun i v174 v313 k0_hw37 k0_h1 k0_h37 => k0_hw37.1 k0_h1 k0_h37
theorem k0_off38_inb : ∀ (i : grid0.Coords) (v174 : BitVec 32) (v313 : BitVec 32) (k0_hw37 : k0_chk37 i v174 v313), ∀ (k0_h1 : k0_cond1 i = 1#1), ∀ (k0_h37 : k0_cond37 v174 = 1#1), ∀ a, (k0_off38 v313) a + S512x1024.size a ≤ S49152x1024.size a := fun i v174 v313 k0_hw37 k0_h1 k0_h37 => k0_hw37.2 k0_h1 k0_h37

def k0_mult39 (v313 : BitVec 32) : BitVec 32 :=
  v313
def k0_cond38 (v178 : BitVec 32) : BitVec 1 :=
  let c0_i32_97 : BitVec 32 := 0#32
  let v179 : BitVec 1 := Scalar.cmpi .sge v178 c0_i32_97
  let v180 : BitVec 32 := Scalar.extui v179
  let c0_i32_98 : BitVec 32 := 0#32
  let v181 : BitVec 1 := Scalar.cmpi .ne v180 c0_i32_98
  v181

def k0_off39 (v313 : BitVec 32) : Fin 2 → Nat :=
  let v314 : BitVec 32 := v313
  let c0_i32_194 : BitVec 32 := 0#32
  ![v314.toNat, 0]

def k0_chk38 (i : grid0.Coords) (v178 : BitVec 32) (v313 : BitVec 32) : Prop :=
  (∀ (k0_h1 : k0_cond1 i = 1#1), ∀ (k0_h38 : k0_cond38 v178 = 1#1), 512 ∣ (k0_mult39 v313).toNat) ∧
  (∀ (k0_h1 : k0_cond1 i = 1#1), ∀ (k0_h38 : k0_cond38 v178 = 1#1), ∀ a, (k0_off39 v313) a + S512x1024.size a ≤ S49152x1024.size a)
theorem k0_mult39_dvd : ∀ (i : grid0.Coords) (v178 : BitVec 32) (v313 : BitVec 32) (k0_hw38 : k0_chk38 i v178 v313), ∀ (k0_h1 : k0_cond1 i = 1#1), ∀ (k0_h38 : k0_cond38 v178 = 1#1), 512 ∣ (k0_mult39 v313).toNat := fun i v178 v313 k0_hw38 k0_h1 k0_h38 => k0_hw38.1 k0_h1 k0_h38
theorem k0_off39_inb : ∀ (i : grid0.Coords) (v178 : BitVec 32) (v313 : BitVec 32) (k0_hw38 : k0_chk38 i v178 v313), ∀ (k0_h1 : k0_cond1 i = 1#1), ∀ (k0_h38 : k0_cond38 v178 = 1#1), ∀ a, (k0_off39 v313) a + S512x1024.size a ≤ S49152x1024.size a := fun i v178 v313 k0_hw38 k0_h1 k0_h38 => k0_hw38.2 k0_h1 k0_h38

def k0_mult40 (v313 : BitVec 32) : BitVec 32 :=
  v313
def k0_cond39 (v182 : BitVec 32) : BitVec 1 :=
  let c0_i32_100 : BitVec 32 := 0#32
  let v183 : BitVec 1 := Scalar.cmpi .sge v182 c0_i32_100
  let v184 : BitVec 32 := Scalar.extui v183
  let c0_i32_101 : BitVec 32 := 0#32
  let v185 : BitVec 1 := Scalar.cmpi .ne v184 c0_i32_101
  v185

def k0_off40 (v313 : BitVec 32) : Fin 2 → Nat :=
  let v314 : BitVec 32 := v313
  let c0_i32_194 : BitVec 32 := 0#32
  ![v314.toNat, 0]

def k0_chk39 (i : grid0.Coords) (v182 : BitVec 32) (v313 : BitVec 32) : Prop :=
  (∀ (k0_h1 : k0_cond1 i = 1#1), ∀ (k0_h39 : k0_cond39 v182 = 1#1), 512 ∣ (k0_mult40 v313).toNat) ∧
  (∀ (k0_h1 : k0_cond1 i = 1#1), ∀ (k0_h39 : k0_cond39 v182 = 1#1), ∀ a, (k0_off40 v313) a + S512x1024.size a ≤ S49152x1024.size a)
theorem k0_mult40_dvd : ∀ (i : grid0.Coords) (v182 : BitVec 32) (v313 : BitVec 32) (k0_hw39 : k0_chk39 i v182 v313), ∀ (k0_h1 : k0_cond1 i = 1#1), ∀ (k0_h39 : k0_cond39 v182 = 1#1), 512 ∣ (k0_mult40 v313).toNat := fun i v182 v313 k0_hw39 k0_h1 k0_h39 => k0_hw39.1 k0_h1 k0_h39
theorem k0_off40_inb : ∀ (i : grid0.Coords) (v182 : BitVec 32) (v313 : BitVec 32) (k0_hw39 : k0_chk39 i v182 v313), ∀ (k0_h1 : k0_cond1 i = 1#1), ∀ (k0_h39 : k0_cond39 v182 = 1#1), ∀ a, (k0_off40 v313) a + S512x1024.size a ≤ S49152x1024.size a := fun i v182 v313 k0_hw39 k0_h1 k0_h39 => k0_hw39.2 k0_h1 k0_h39

def k0_mult41 (v313 : BitVec 32) : BitVec 32 :=
  v313
def k0_cond40 (v186 : BitVec 32) : BitVec 1 :=
  let c0_i32_103 : BitVec 32 := 0#32
  let v187 : BitVec 1 := Scalar.cmpi .sge v186 c0_i32_103
  let v188 : BitVec 32 := Scalar.extui v187
  let c0_i32_104 : BitVec 32 := 0#32
  let v189 : BitVec 1 := Scalar.cmpi .ne v188 c0_i32_104
  v189

def k0_off41 (v313 : BitVec 32) : Fin 2 → Nat :=
  let v314 : BitVec 32 := v313
  let c0_i32_194 : BitVec 32 := 0#32
  ![v314.toNat, 0]

def k0_chk40 (i : grid0.Coords) (v186 : BitVec 32) (v313 : BitVec 32) : Prop :=
  (∀ (k0_h1 : k0_cond1 i = 1#1), ∀ (k0_h40 : k0_cond40 v186 = 1#1), 512 ∣ (k0_mult41 v313).toNat) ∧
  (∀ (k0_h1 : k0_cond1 i = 1#1), ∀ (k0_h40 : k0_cond40 v186 = 1#1), ∀ a, (k0_off41 v313) a + S512x1024.size a ≤ S49152x1024.size a)
theorem k0_mult41_dvd : ∀ (i : grid0.Coords) (v186 : BitVec 32) (v313 : BitVec 32) (k0_hw40 : k0_chk40 i v186 v313), ∀ (k0_h1 : k0_cond1 i = 1#1), ∀ (k0_h40 : k0_cond40 v186 = 1#1), 512 ∣ (k0_mult41 v313).toNat := fun i v186 v313 k0_hw40 k0_h1 k0_h40 => k0_hw40.1 k0_h1 k0_h40
theorem k0_off41_inb : ∀ (i : grid0.Coords) (v186 : BitVec 32) (v313 : BitVec 32) (k0_hw40 : k0_chk40 i v186 v313), ∀ (k0_h1 : k0_cond1 i = 1#1), ∀ (k0_h40 : k0_cond40 v186 = 1#1), ∀ a, (k0_off41 v313) a + S512x1024.size a ≤ S49152x1024.size a := fun i v186 v313 k0_hw40 k0_h1 k0_h40 => k0_hw40.2 k0_h1 k0_h40

def k0_mult42 (v313 : BitVec 32) : BitVec 32 :=
  v313
def k0_cond41 (v190 : BitVec 32) : BitVec 1 :=
  let c0_i32_106 : BitVec 32 := 0#32
  let v191 : BitVec 1 := Scalar.cmpi .sge v190 c0_i32_106
  let v192 : BitVec 32 := Scalar.extui v191
  let c0_i32_107 : BitVec 32 := 0#32
  let v193 : BitVec 1 := Scalar.cmpi .ne v192 c0_i32_107
  v193

def k0_off42 (v313 : BitVec 32) : Fin 2 → Nat :=
  let v314 : BitVec 32 := v313
  let c0_i32_194 : BitVec 32 := 0#32
  ![v314.toNat, 0]

def k0_chk41 (i : grid0.Coords) (v190 : BitVec 32) (v313 : BitVec 32) : Prop :=
  (∀ (k0_h1 : k0_cond1 i = 1#1), ∀ (k0_h41 : k0_cond41 v190 = 1#1), 512 ∣ (k0_mult42 v313).toNat) ∧
  (∀ (k0_h1 : k0_cond1 i = 1#1), ∀ (k0_h41 : k0_cond41 v190 = 1#1), ∀ a, (k0_off42 v313) a + S512x1024.size a ≤ S49152x1024.size a)
theorem k0_mult42_dvd : ∀ (i : grid0.Coords) (v190 : BitVec 32) (v313 : BitVec 32) (k0_hw41 : k0_chk41 i v190 v313), ∀ (k0_h1 : k0_cond1 i = 1#1), ∀ (k0_h41 : k0_cond41 v190 = 1#1), 512 ∣ (k0_mult42 v313).toNat := fun i v190 v313 k0_hw41 k0_h1 k0_h41 => k0_hw41.1 k0_h1 k0_h41
theorem k0_off42_inb : ∀ (i : grid0.Coords) (v190 : BitVec 32) (v313 : BitVec 32) (k0_hw41 : k0_chk41 i v190 v313), ∀ (k0_h1 : k0_cond1 i = 1#1), ∀ (k0_h41 : k0_cond41 v190 = 1#1), ∀ a, (k0_off42 v313) a + S512x1024.size a ≤ S49152x1024.size a := fun i v190 v313 k0_hw41 k0_h1 k0_h41 => k0_hw41.2 k0_h1 k0_h41

def k0_mult43 (v313 : BitVec 32) : BitVec 32 :=
  v313
def k0_cond42 (v194 : BitVec 32) : BitVec 1 :=
  let c0_i32_109 : BitVec 32 := 0#32
  let v195 : BitVec 1 := Scalar.cmpi .sge v194 c0_i32_109
  let v196 : BitVec 32 := Scalar.extui v195
  let c0_i32_110 : BitVec 32 := 0#32
  let v197 : BitVec 1 := Scalar.cmpi .ne v196 c0_i32_110
  v197

def k0_off43 (v313 : BitVec 32) : Fin 2 → Nat :=
  let v314 : BitVec 32 := v313
  let c0_i32_194 : BitVec 32 := 0#32
  ![v314.toNat, 0]

def k0_chk42 (i : grid0.Coords) (v194 : BitVec 32) (v313 : BitVec 32) : Prop :=
  (∀ (k0_h1 : k0_cond1 i = 1#1), ∀ (k0_h42 : k0_cond42 v194 = 1#1), 512 ∣ (k0_mult43 v313).toNat) ∧
  (∀ (k0_h1 : k0_cond1 i = 1#1), ∀ (k0_h42 : k0_cond42 v194 = 1#1), ∀ a, (k0_off43 v313) a + S512x1024.size a ≤ S49152x1024.size a)
theorem k0_mult43_dvd : ∀ (i : grid0.Coords) (v194 : BitVec 32) (v313 : BitVec 32) (k0_hw42 : k0_chk42 i v194 v313), ∀ (k0_h1 : k0_cond1 i = 1#1), ∀ (k0_h42 : k0_cond42 v194 = 1#1), 512 ∣ (k0_mult43 v313).toNat := fun i v194 v313 k0_hw42 k0_h1 k0_h42 => k0_hw42.1 k0_h1 k0_h42
theorem k0_off43_inb : ∀ (i : grid0.Coords) (v194 : BitVec 32) (v313 : BitVec 32) (k0_hw42 : k0_chk42 i v194 v313), ∀ (k0_h1 : k0_cond1 i = 1#1), ∀ (k0_h42 : k0_cond42 v194 = 1#1), ∀ a, (k0_off43 v313) a + S512x1024.size a ≤ S49152x1024.size a := fun i v194 v313 k0_hw42 k0_h1 k0_h42 => k0_hw42.2 k0_h1 k0_h42

def k0_mult44 (v313 : BitVec 32) : BitVec 32 :=
  v313
def k0_cond43 (v198 : BitVec 32) : BitVec 1 :=
  let c0_i32_112 : BitVec 32 := 0#32
  let v199 : BitVec 1 := Scalar.cmpi .sge v198 c0_i32_112
  let v200 : BitVec 32 := Scalar.extui v199
  let c0_i32_113 : BitVec 32 := 0#32
  let v201 : BitVec 1 := Scalar.cmpi .ne v200 c0_i32_113
  v201

def k0_off44 (v313 : BitVec 32) : Fin 2 → Nat :=
  let v314 : BitVec 32 := v313
  let c0_i32_194 : BitVec 32 := 0#32
  ![v314.toNat, 0]

def k0_chk43 (i : grid0.Coords) (v198 : BitVec 32) (v313 : BitVec 32) : Prop :=
  (∀ (k0_h1 : k0_cond1 i = 1#1), ∀ (k0_h43 : k0_cond43 v198 = 1#1), 512 ∣ (k0_mult44 v313).toNat) ∧
  (∀ (k0_h1 : k0_cond1 i = 1#1), ∀ (k0_h43 : k0_cond43 v198 = 1#1), ∀ a, (k0_off44 v313) a + S512x1024.size a ≤ S49152x1024.size a)
theorem k0_mult44_dvd : ∀ (i : grid0.Coords) (v198 : BitVec 32) (v313 : BitVec 32) (k0_hw43 : k0_chk43 i v198 v313), ∀ (k0_h1 : k0_cond1 i = 1#1), ∀ (k0_h43 : k0_cond43 v198 = 1#1), 512 ∣ (k0_mult44 v313).toNat := fun i v198 v313 k0_hw43 k0_h1 k0_h43 => k0_hw43.1 k0_h1 k0_h43
theorem k0_off44_inb : ∀ (i : grid0.Coords) (v198 : BitVec 32) (v313 : BitVec 32) (k0_hw43 : k0_chk43 i v198 v313), ∀ (k0_h1 : k0_cond1 i = 1#1), ∀ (k0_h43 : k0_cond43 v198 = 1#1), ∀ a, (k0_off44 v313) a + S512x1024.size a ≤ S49152x1024.size a := fun i v198 v313 k0_hw43 k0_h1 k0_h43 => k0_hw43.2 k0_h1 k0_h43

def k0_mult45 (v313 : BitVec 32) : BitVec 32 :=
  v313
def k0_cond44 (v202 : BitVec 32) : BitVec 1 :=
  let c0_i32_115 : BitVec 32 := 0#32
  let v203 : BitVec 1 := Scalar.cmpi .sge v202 c0_i32_115
  let v204 : BitVec 32 := Scalar.extui v203
  let c0_i32_116 : BitVec 32 := 0#32
  let v205 : BitVec 1 := Scalar.cmpi .ne v204 c0_i32_116
  v205

def k0_off45 (v313 : BitVec 32) : Fin 2 → Nat :=
  let v314 : BitVec 32 := v313
  let c0_i32_194 : BitVec 32 := 0#32
  ![v314.toNat, 0]

def k0_chk44 (i : grid0.Coords) (v202 : BitVec 32) (v313 : BitVec 32) : Prop :=
  (∀ (k0_h1 : k0_cond1 i = 1#1), ∀ (k0_h44 : k0_cond44 v202 = 1#1), 512 ∣ (k0_mult45 v313).toNat) ∧
  (∀ (k0_h1 : k0_cond1 i = 1#1), ∀ (k0_h44 : k0_cond44 v202 = 1#1), ∀ a, (k0_off45 v313) a + S512x1024.size a ≤ S49152x1024.size a)
theorem k0_mult45_dvd : ∀ (i : grid0.Coords) (v202 : BitVec 32) (v313 : BitVec 32) (k0_hw44 : k0_chk44 i v202 v313), ∀ (k0_h1 : k0_cond1 i = 1#1), ∀ (k0_h44 : k0_cond44 v202 = 1#1), 512 ∣ (k0_mult45 v313).toNat := fun i v202 v313 k0_hw44 k0_h1 k0_h44 => k0_hw44.1 k0_h1 k0_h44
theorem k0_off45_inb : ∀ (i : grid0.Coords) (v202 : BitVec 32) (v313 : BitVec 32) (k0_hw44 : k0_chk44 i v202 v313), ∀ (k0_h1 : k0_cond1 i = 1#1), ∀ (k0_h44 : k0_cond44 v202 = 1#1), ∀ a, (k0_off45 v313) a + S512x1024.size a ≤ S49152x1024.size a := fun i v202 v313 k0_hw44 k0_h1 k0_h44 => k0_hw44.2 k0_h1 k0_h44

def k0_mult46 (v313 : BitVec 32) : BitVec 32 :=
  v313
def k0_cond45 (v206 : BitVec 32) : BitVec 1 :=
  let c0_i32_118 : BitVec 32 := 0#32
  let v207 : BitVec 1 := Scalar.cmpi .sge v206 c0_i32_118
  let v208 : BitVec 32 := Scalar.extui v207
  let c0_i32_119 : BitVec 32 := 0#32
  let v209 : BitVec 1 := Scalar.cmpi .ne v208 c0_i32_119
  v209

def k0_off46 (v313 : BitVec 32) : Fin 2 → Nat :=
  let v314 : BitVec 32 := v313
  let c0_i32_194 : BitVec 32 := 0#32
  ![v314.toNat, 0]

def k0_chk45 (i : grid0.Coords) (v206 : BitVec 32) (v313 : BitVec 32) : Prop :=
  (∀ (k0_h1 : k0_cond1 i = 1#1), ∀ (k0_h45 : k0_cond45 v206 = 1#1), 512 ∣ (k0_mult46 v313).toNat) ∧
  (∀ (k0_h1 : k0_cond1 i = 1#1), ∀ (k0_h45 : k0_cond45 v206 = 1#1), ∀ a, (k0_off46 v313) a + S512x1024.size a ≤ S49152x1024.size a)
theorem k0_mult46_dvd : ∀ (i : grid0.Coords) (v206 : BitVec 32) (v313 : BitVec 32) (k0_hw45 : k0_chk45 i v206 v313), ∀ (k0_h1 : k0_cond1 i = 1#1), ∀ (k0_h45 : k0_cond45 v206 = 1#1), 512 ∣ (k0_mult46 v313).toNat := fun i v206 v313 k0_hw45 k0_h1 k0_h45 => k0_hw45.1 k0_h1 k0_h45
theorem k0_off46_inb : ∀ (i : grid0.Coords) (v206 : BitVec 32) (v313 : BitVec 32) (k0_hw45 : k0_chk45 i v206 v313), ∀ (k0_h1 : k0_cond1 i = 1#1), ∀ (k0_h45 : k0_cond45 v206 = 1#1), ∀ a, (k0_off46 v313) a + S512x1024.size a ≤ S49152x1024.size a := fun i v206 v313 k0_hw45 k0_h1 k0_h45 => k0_hw45.2 k0_h1 k0_h45

def k0_mult47 (v313 : BitVec 32) : BitVec 32 :=
  v313
def k0_cond46 (v210 : BitVec 32) : BitVec 1 :=
  let c0_i32_121 : BitVec 32 := 0#32
  let v211 : BitVec 1 := Scalar.cmpi .sge v210 c0_i32_121
  let v212 : BitVec 32 := Scalar.extui v211
  let c0_i32_122 : BitVec 32 := 0#32
  let v213 : BitVec 1 := Scalar.cmpi .ne v212 c0_i32_122
  v213

def k0_off47 (v313 : BitVec 32) : Fin 2 → Nat :=
  let v314 : BitVec 32 := v313
  let c0_i32_194 : BitVec 32 := 0#32
  ![v314.toNat, 0]

def k0_chk46 (i : grid0.Coords) (v210 : BitVec 32) (v313 : BitVec 32) : Prop :=
  (∀ (k0_h1 : k0_cond1 i = 1#1), ∀ (k0_h46 : k0_cond46 v210 = 1#1), 512 ∣ (k0_mult47 v313).toNat) ∧
  (∀ (k0_h1 : k0_cond1 i = 1#1), ∀ (k0_h46 : k0_cond46 v210 = 1#1), ∀ a, (k0_off47 v313) a + S512x1024.size a ≤ S49152x1024.size a)
theorem k0_mult47_dvd : ∀ (i : grid0.Coords) (v210 : BitVec 32) (v313 : BitVec 32) (k0_hw46 : k0_chk46 i v210 v313), ∀ (k0_h1 : k0_cond1 i = 1#1), ∀ (k0_h46 : k0_cond46 v210 = 1#1), 512 ∣ (k0_mult47 v313).toNat := fun i v210 v313 k0_hw46 k0_h1 k0_h46 => k0_hw46.1 k0_h1 k0_h46
theorem k0_off47_inb : ∀ (i : grid0.Coords) (v210 : BitVec 32) (v313 : BitVec 32) (k0_hw46 : k0_chk46 i v210 v313), ∀ (k0_h1 : k0_cond1 i = 1#1), ∀ (k0_h46 : k0_cond46 v210 = 1#1), ∀ a, (k0_off47 v313) a + S512x1024.size a ≤ S49152x1024.size a := fun i v210 v313 k0_hw46 k0_h1 k0_h46 => k0_hw46.2 k0_h1 k0_h46

def k0_mult48 (v313 : BitVec 32) : BitVec 32 :=
  v313
def k0_cond47 (v214 : BitVec 32) : BitVec 1 :=
  let c0_i32_124 : BitVec 32 := 0#32
  let v215 : BitVec 1 := Scalar.cmpi .sge v214 c0_i32_124
  let v216 : BitVec 32 := Scalar.extui v215
  let c0_i32_125 : BitVec 32 := 0#32
  let v217 : BitVec 1 := Scalar.cmpi .ne v216 c0_i32_125
  v217

def k0_off48 (v313 : BitVec 32) : Fin 2 → Nat :=
  let v314 : BitVec 32 := v313
  let c0_i32_194 : BitVec 32 := 0#32
  ![v314.toNat, 0]

def k0_chk47 (i : grid0.Coords) (v214 : BitVec 32) (v313 : BitVec 32) : Prop :=
  (∀ (k0_h1 : k0_cond1 i = 1#1), ∀ (k0_h47 : k0_cond47 v214 = 1#1), 512 ∣ (k0_mult48 v313).toNat) ∧
  (∀ (k0_h1 : k0_cond1 i = 1#1), ∀ (k0_h47 : k0_cond47 v214 = 1#1), ∀ a, (k0_off48 v313) a + S512x1024.size a ≤ S49152x1024.size a)
theorem k0_mult48_dvd : ∀ (i : grid0.Coords) (v214 : BitVec 32) (v313 : BitVec 32) (k0_hw47 : k0_chk47 i v214 v313), ∀ (k0_h1 : k0_cond1 i = 1#1), ∀ (k0_h47 : k0_cond47 v214 = 1#1), 512 ∣ (k0_mult48 v313).toNat := fun i v214 v313 k0_hw47 k0_h1 k0_h47 => k0_hw47.1 k0_h1 k0_h47
theorem k0_off48_inb : ∀ (i : grid0.Coords) (v214 : BitVec 32) (v313 : BitVec 32) (k0_hw47 : k0_chk47 i v214 v313), ∀ (k0_h1 : k0_cond1 i = 1#1), ∀ (k0_h47 : k0_cond47 v214 = 1#1), ∀ a, (k0_off48 v313) a + S512x1024.size a ≤ S49152x1024.size a := fun i v214 v313 k0_hw47 k0_h1 k0_h47 => k0_hw47.2 k0_h1 k0_h47

def k0_mult49 (v313 : BitVec 32) : BitVec 32 :=
  v313
def k0_cond48 (v218 : BitVec 32) : BitVec 1 :=
  let c0_i32_127 : BitVec 32 := 0#32
  let v219 : BitVec 1 := Scalar.cmpi .sge v218 c0_i32_127
  let v220 : BitVec 32 := Scalar.extui v219
  let c0_i32_128 : BitVec 32 := 0#32
  let v221 : BitVec 1 := Scalar.cmpi .ne v220 c0_i32_128
  v221

def k0_off49 (v313 : BitVec 32) : Fin 2 → Nat :=
  let v314 : BitVec 32 := v313
  let c0_i32_194 : BitVec 32 := 0#32
  ![v314.toNat, 0]

def k0_chk48 (i : grid0.Coords) (v218 : BitVec 32) (v313 : BitVec 32) : Prop :=
  (∀ (k0_h1 : k0_cond1 i = 1#1), ∀ (k0_h48 : k0_cond48 v218 = 1#1), 512 ∣ (k0_mult49 v313).toNat) ∧
  (∀ (k0_h1 : k0_cond1 i = 1#1), ∀ (k0_h48 : k0_cond48 v218 = 1#1), ∀ a, (k0_off49 v313) a + S512x1024.size a ≤ S49152x1024.size a)
theorem k0_mult49_dvd : ∀ (i : grid0.Coords) (v218 : BitVec 32) (v313 : BitVec 32) (k0_hw48 : k0_chk48 i v218 v313), ∀ (k0_h1 : k0_cond1 i = 1#1), ∀ (k0_h48 : k0_cond48 v218 = 1#1), 512 ∣ (k0_mult49 v313).toNat := fun i v218 v313 k0_hw48 k0_h1 k0_h48 => k0_hw48.1 k0_h1 k0_h48
theorem k0_off49_inb : ∀ (i : grid0.Coords) (v218 : BitVec 32) (v313 : BitVec 32) (k0_hw48 : k0_chk48 i v218 v313), ∀ (k0_h1 : k0_cond1 i = 1#1), ∀ (k0_h48 : k0_cond48 v218 = 1#1), ∀ a, (k0_off49 v313) a + S512x1024.size a ≤ S49152x1024.size a := fun i v218 v313 k0_hw48 k0_h1 k0_h48 => k0_hw48.2 k0_h1 k0_h48

def k0_mult50 (v313 : BitVec 32) : BitVec 32 :=
  v313
def k0_cond49 (v222 : BitVec 32) : BitVec 1 :=
  let c0_i32_130 : BitVec 32 := 0#32
  let v223 : BitVec 1 := Scalar.cmpi .sge v222 c0_i32_130
  let v224 : BitVec 32 := Scalar.extui v223
  let c0_i32_131 : BitVec 32 := 0#32
  let v225 : BitVec 1 := Scalar.cmpi .ne v224 c0_i32_131
  v225

def k0_off50 (v313 : BitVec 32) : Fin 2 → Nat :=
  let v314 : BitVec 32 := v313
  let c0_i32_194 : BitVec 32 := 0#32
  ![v314.toNat, 0]

def k0_chk49 (i : grid0.Coords) (v222 : BitVec 32) (v313 : BitVec 32) : Prop :=
  (∀ (k0_h1 : k0_cond1 i = 1#1), ∀ (k0_h49 : k0_cond49 v222 = 1#1), 512 ∣ (k0_mult50 v313).toNat) ∧
  (∀ (k0_h1 : k0_cond1 i = 1#1), ∀ (k0_h49 : k0_cond49 v222 = 1#1), ∀ a, (k0_off50 v313) a + S512x1024.size a ≤ S49152x1024.size a)
theorem k0_mult50_dvd : ∀ (i : grid0.Coords) (v222 : BitVec 32) (v313 : BitVec 32) (k0_hw49 : k0_chk49 i v222 v313), ∀ (k0_h1 : k0_cond1 i = 1#1), ∀ (k0_h49 : k0_cond49 v222 = 1#1), 512 ∣ (k0_mult50 v313).toNat := fun i v222 v313 k0_hw49 k0_h1 k0_h49 => k0_hw49.1 k0_h1 k0_h49
theorem k0_off50_inb : ∀ (i : grid0.Coords) (v222 : BitVec 32) (v313 : BitVec 32) (k0_hw49 : k0_chk49 i v222 v313), ∀ (k0_h1 : k0_cond1 i = 1#1), ∀ (k0_h49 : k0_cond49 v222 = 1#1), ∀ a, (k0_off50 v313) a + S512x1024.size a ≤ S49152x1024.size a := fun i v222 v313 k0_hw49 k0_h1 k0_h49 => k0_hw49.2 k0_h1 k0_h49

def k0_mult51 (v313 : BitVec 32) : BitVec 32 :=
  v313
def k0_cond50 (v226 : BitVec 32) : BitVec 1 :=
  let c0_i32_133 : BitVec 32 := 0#32
  let v227 : BitVec 1 := Scalar.cmpi .sge v226 c0_i32_133
  let v228 : BitVec 32 := Scalar.extui v227
  let c0_i32_134 : BitVec 32 := 0#32
  let v229 : BitVec 1 := Scalar.cmpi .ne v228 c0_i32_134
  v229

def k0_off51 (v313 : BitVec 32) : Fin 2 → Nat :=
  let v314 : BitVec 32 := v313
  let c0_i32_194 : BitVec 32 := 0#32
  ![v314.toNat, 0]

def k0_chk50 (i : grid0.Coords) (v226 : BitVec 32) (v313 : BitVec 32) : Prop :=
  (∀ (k0_h1 : k0_cond1 i = 1#1), ∀ (k0_h50 : k0_cond50 v226 = 1#1), 512 ∣ (k0_mult51 v313).toNat) ∧
  (∀ (k0_h1 : k0_cond1 i = 1#1), ∀ (k0_h50 : k0_cond50 v226 = 1#1), ∀ a, (k0_off51 v313) a + S512x1024.size a ≤ S49152x1024.size a)
theorem k0_mult51_dvd : ∀ (i : grid0.Coords) (v226 : BitVec 32) (v313 : BitVec 32) (k0_hw50 : k0_chk50 i v226 v313), ∀ (k0_h1 : k0_cond1 i = 1#1), ∀ (k0_h50 : k0_cond50 v226 = 1#1), 512 ∣ (k0_mult51 v313).toNat := fun i v226 v313 k0_hw50 k0_h1 k0_h50 => k0_hw50.1 k0_h1 k0_h50
theorem k0_off51_inb : ∀ (i : grid0.Coords) (v226 : BitVec 32) (v313 : BitVec 32) (k0_hw50 : k0_chk50 i v226 v313), ∀ (k0_h1 : k0_cond1 i = 1#1), ∀ (k0_h50 : k0_cond50 v226 = 1#1), ∀ a, (k0_off51 v313) a + S512x1024.size a ≤ S49152x1024.size a := fun i v226 v313 k0_hw50 k0_h1 k0_h50 => k0_hw50.2 k0_h1 k0_h50

def k0_mult52 (v313 : BitVec 32) : BitVec 32 :=
  v313
def k0_cond51 (v230 : BitVec 32) : BitVec 1 :=
  let c0_i32_136 : BitVec 32 := 0#32
  let v231 : BitVec 1 := Scalar.cmpi .sge v230 c0_i32_136
  let v232 : BitVec 32 := Scalar.extui v231
  let c0_i32_137 : BitVec 32 := 0#32
  let v233 : BitVec 1 := Scalar.cmpi .ne v232 c0_i32_137
  v233

def k0_off52 (v313 : BitVec 32) : Fin 2 → Nat :=
  let v314 : BitVec 32 := v313
  let c0_i32_194 : BitVec 32 := 0#32
  ![v314.toNat, 0]

def k0_chk51 (i : grid0.Coords) (v230 : BitVec 32) (v313 : BitVec 32) : Prop :=
  (∀ (k0_h1 : k0_cond1 i = 1#1), ∀ (k0_h51 : k0_cond51 v230 = 1#1), 512 ∣ (k0_mult52 v313).toNat) ∧
  (∀ (k0_h1 : k0_cond1 i = 1#1), ∀ (k0_h51 : k0_cond51 v230 = 1#1), ∀ a, (k0_off52 v313) a + S512x1024.size a ≤ S49152x1024.size a)
theorem k0_mult52_dvd : ∀ (i : grid0.Coords) (v230 : BitVec 32) (v313 : BitVec 32) (k0_hw51 : k0_chk51 i v230 v313), ∀ (k0_h1 : k0_cond1 i = 1#1), ∀ (k0_h51 : k0_cond51 v230 = 1#1), 512 ∣ (k0_mult52 v313).toNat := fun i v230 v313 k0_hw51 k0_h1 k0_h51 => k0_hw51.1 k0_h1 k0_h51
theorem k0_off52_inb : ∀ (i : grid0.Coords) (v230 : BitVec 32) (v313 : BitVec 32) (k0_hw51 : k0_chk51 i v230 v313), ∀ (k0_h1 : k0_cond1 i = 1#1), ∀ (k0_h51 : k0_cond51 v230 = 1#1), ∀ a, (k0_off52 v313) a + S512x1024.size a ≤ S49152x1024.size a := fun i v230 v313 k0_hw51 k0_h1 k0_h51 => k0_hw51.2 k0_h1 k0_h51

def k0_mult53 (v313 : BitVec 32) : BitVec 32 :=
  v313
def k0_cond52 (v234 : BitVec 32) : BitVec 1 :=
  let c0_i32_139 : BitVec 32 := 0#32
  let v235 : BitVec 1 := Scalar.cmpi .sge v234 c0_i32_139
  let v236 : BitVec 32 := Scalar.extui v235
  let c0_i32_140 : BitVec 32 := 0#32
  let v237 : BitVec 1 := Scalar.cmpi .ne v236 c0_i32_140
  v237

def k0_off53 (v313 : BitVec 32) : Fin 2 → Nat :=
  let v314 : BitVec 32 := v313
  let c0_i32_194 : BitVec 32 := 0#32
  ![v314.toNat, 0]

def k0_chk52 (i : grid0.Coords) (v234 : BitVec 32) (v313 : BitVec 32) : Prop :=
  (∀ (k0_h1 : k0_cond1 i = 1#1), ∀ (k0_h52 : k0_cond52 v234 = 1#1), 512 ∣ (k0_mult53 v313).toNat) ∧
  (∀ (k0_h1 : k0_cond1 i = 1#1), ∀ (k0_h52 : k0_cond52 v234 = 1#1), ∀ a, (k0_off53 v313) a + S512x1024.size a ≤ S49152x1024.size a)
theorem k0_mult53_dvd : ∀ (i : grid0.Coords) (v234 : BitVec 32) (v313 : BitVec 32) (k0_hw52 : k0_chk52 i v234 v313), ∀ (k0_h1 : k0_cond1 i = 1#1), ∀ (k0_h52 : k0_cond52 v234 = 1#1), 512 ∣ (k0_mult53 v313).toNat := fun i v234 v313 k0_hw52 k0_h1 k0_h52 => k0_hw52.1 k0_h1 k0_h52
theorem k0_off53_inb : ∀ (i : grid0.Coords) (v234 : BitVec 32) (v313 : BitVec 32) (k0_hw52 : k0_chk52 i v234 v313), ∀ (k0_h1 : k0_cond1 i = 1#1), ∀ (k0_h52 : k0_cond52 v234 = 1#1), ∀ a, (k0_off53 v313) a + S512x1024.size a ≤ S49152x1024.size a := fun i v234 v313 k0_hw52 k0_h1 k0_h52 => k0_hw52.2 k0_h1 k0_h52

def k0_mult54 (v313 : BitVec 32) : BitVec 32 :=
  v313
def k0_cond53 (v238 : BitVec 32) : BitVec 1 :=
  let c0_i32_142 : BitVec 32 := 0#32
  let v239 : BitVec 1 := Scalar.cmpi .sge v238 c0_i32_142
  let v240 : BitVec 32 := Scalar.extui v239
  let c0_i32_143 : BitVec 32 := 0#32
  let v241 : BitVec 1 := Scalar.cmpi .ne v240 c0_i32_143
  v241

def k0_off54 (v313 : BitVec 32) : Fin 2 → Nat :=
  let v314 : BitVec 32 := v313
  let c0_i32_194 : BitVec 32 := 0#32
  ![v314.toNat, 0]

def k0_chk53 (i : grid0.Coords) (v238 : BitVec 32) (v313 : BitVec 32) : Prop :=
  (∀ (k0_h1 : k0_cond1 i = 1#1), ∀ (k0_h53 : k0_cond53 v238 = 1#1), 512 ∣ (k0_mult54 v313).toNat) ∧
  (∀ (k0_h1 : k0_cond1 i = 1#1), ∀ (k0_h53 : k0_cond53 v238 = 1#1), ∀ a, (k0_off54 v313) a + S512x1024.size a ≤ S49152x1024.size a)
theorem k0_mult54_dvd : ∀ (i : grid0.Coords) (v238 : BitVec 32) (v313 : BitVec 32) (k0_hw53 : k0_chk53 i v238 v313), ∀ (k0_h1 : k0_cond1 i = 1#1), ∀ (k0_h53 : k0_cond53 v238 = 1#1), 512 ∣ (k0_mult54 v313).toNat := fun i v238 v313 k0_hw53 k0_h1 k0_h53 => k0_hw53.1 k0_h1 k0_h53
theorem k0_off54_inb : ∀ (i : grid0.Coords) (v238 : BitVec 32) (v313 : BitVec 32) (k0_hw53 : k0_chk53 i v238 v313), ∀ (k0_h1 : k0_cond1 i = 1#1), ∀ (k0_h53 : k0_cond53 v238 = 1#1), ∀ a, (k0_off54 v313) a + S512x1024.size a ≤ S49152x1024.size a := fun i v238 v313 k0_hw53 k0_h1 k0_h53 => k0_hw53.2 k0_h1 k0_h53

def k0_mult55 (v313 : BitVec 32) : BitVec 32 :=
  v313
def k0_cond54 (v242 : BitVec 32) : BitVec 1 :=
  let c0_i32_145 : BitVec 32 := 0#32
  let v243 : BitVec 1 := Scalar.cmpi .sge v242 c0_i32_145
  let v244 : BitVec 32 := Scalar.extui v243
  let c0_i32_146 : BitVec 32 := 0#32
  let v245 : BitVec 1 := Scalar.cmpi .ne v244 c0_i32_146
  v245

def k0_off55 (v313 : BitVec 32) : Fin 2 → Nat :=
  let v314 : BitVec 32 := v313
  let c0_i32_194 : BitVec 32 := 0#32
  ![v314.toNat, 0]

def k0_chk54 (i : grid0.Coords) (v242 : BitVec 32) (v313 : BitVec 32) : Prop :=
  (∀ (k0_h1 : k0_cond1 i = 1#1), ∀ (k0_h54 : k0_cond54 v242 = 1#1), 512 ∣ (k0_mult55 v313).toNat) ∧
  (∀ (k0_h1 : k0_cond1 i = 1#1), ∀ (k0_h54 : k0_cond54 v242 = 1#1), ∀ a, (k0_off55 v313) a + S512x1024.size a ≤ S49152x1024.size a)
theorem k0_mult55_dvd : ∀ (i : grid0.Coords) (v242 : BitVec 32) (v313 : BitVec 32) (k0_hw54 : k0_chk54 i v242 v313), ∀ (k0_h1 : k0_cond1 i = 1#1), ∀ (k0_h54 : k0_cond54 v242 = 1#1), 512 ∣ (k0_mult55 v313).toNat := fun i v242 v313 k0_hw54 k0_h1 k0_h54 => k0_hw54.1 k0_h1 k0_h54
theorem k0_off55_inb : ∀ (i : grid0.Coords) (v242 : BitVec 32) (v313 : BitVec 32) (k0_hw54 : k0_chk54 i v242 v313), ∀ (k0_h1 : k0_cond1 i = 1#1), ∀ (k0_h54 : k0_cond54 v242 = 1#1), ∀ a, (k0_off55 v313) a + S512x1024.size a ≤ S49152x1024.size a := fun i v242 v313 k0_hw54 k0_h1 k0_h54 => k0_hw54.2 k0_h1 k0_h54

def k0_mult56 (v313 : BitVec 32) : BitVec 32 :=
  v313
def k0_cond55 (v246 : BitVec 32) : BitVec 1 :=
  let c0_i32_148 : BitVec 32 := 0#32
  let v247 : BitVec 1 := Scalar.cmpi .sge v246 c0_i32_148
  let v248 : BitVec 32 := Scalar.extui v247
  let c0_i32_149 : BitVec 32 := 0#32
  let v249 : BitVec 1 := Scalar.cmpi .ne v248 c0_i32_149
  v249

def k0_off56 (v313 : BitVec 32) : Fin 2 → Nat :=
  let v314 : BitVec 32 := v313
  let c0_i32_194 : BitVec 32 := 0#32
  ![v314.toNat, 0]

def k0_chk55 (i : grid0.Coords) (v246 : BitVec 32) (v313 : BitVec 32) : Prop :=
  (∀ (k0_h1 : k0_cond1 i = 1#1), ∀ (k0_h55 : k0_cond55 v246 = 1#1), 512 ∣ (k0_mult56 v313).toNat) ∧
  (∀ (k0_h1 : k0_cond1 i = 1#1), ∀ (k0_h55 : k0_cond55 v246 = 1#1), ∀ a, (k0_off56 v313) a + S512x1024.size a ≤ S49152x1024.size a)
theorem k0_mult56_dvd : ∀ (i : grid0.Coords) (v246 : BitVec 32) (v313 : BitVec 32) (k0_hw55 : k0_chk55 i v246 v313), ∀ (k0_h1 : k0_cond1 i = 1#1), ∀ (k0_h55 : k0_cond55 v246 = 1#1), 512 ∣ (k0_mult56 v313).toNat := fun i v246 v313 k0_hw55 k0_h1 k0_h55 => k0_hw55.1 k0_h1 k0_h55
theorem k0_off56_inb : ∀ (i : grid0.Coords) (v246 : BitVec 32) (v313 : BitVec 32) (k0_hw55 : k0_chk55 i v246 v313), ∀ (k0_h1 : k0_cond1 i = 1#1), ∀ (k0_h55 : k0_cond55 v246 = 1#1), ∀ a, (k0_off56 v313) a + S512x1024.size a ≤ S49152x1024.size a := fun i v246 v313 k0_hw55 k0_h1 k0_h55 => k0_hw55.2 k0_h1 k0_h55

def k0_mult57 (v313 : BitVec 32) : BitVec 32 :=
  v313
def k0_cond56 (v250 : BitVec 32) : BitVec 1 :=
  let c0_i32_151 : BitVec 32 := 0#32
  let v251 : BitVec 1 := Scalar.cmpi .sge v250 c0_i32_151
  let v252 : BitVec 32 := Scalar.extui v251
  let c0_i32_152 : BitVec 32 := 0#32
  let v253 : BitVec 1 := Scalar.cmpi .ne v252 c0_i32_152
  v253

def k0_off57 (v313 : BitVec 32) : Fin 2 → Nat :=
  let v314 : BitVec 32 := v313
  let c0_i32_194 : BitVec 32 := 0#32
  ![v314.toNat, 0]

def k0_chk56 (i : grid0.Coords) (v250 : BitVec 32) (v313 : BitVec 32) : Prop :=
  (∀ (k0_h1 : k0_cond1 i = 1#1), ∀ (k0_h56 : k0_cond56 v250 = 1#1), 512 ∣ (k0_mult57 v313).toNat) ∧
  (∀ (k0_h1 : k0_cond1 i = 1#1), ∀ (k0_h56 : k0_cond56 v250 = 1#1), ∀ a, (k0_off57 v313) a + S512x1024.size a ≤ S49152x1024.size a)
theorem k0_mult57_dvd : ∀ (i : grid0.Coords) (v250 : BitVec 32) (v313 : BitVec 32) (k0_hw56 : k0_chk56 i v250 v313), ∀ (k0_h1 : k0_cond1 i = 1#1), ∀ (k0_h56 : k0_cond56 v250 = 1#1), 512 ∣ (k0_mult57 v313).toNat := fun i v250 v313 k0_hw56 k0_h1 k0_h56 => k0_hw56.1 k0_h1 k0_h56
theorem k0_off57_inb : ∀ (i : grid0.Coords) (v250 : BitVec 32) (v313 : BitVec 32) (k0_hw56 : k0_chk56 i v250 v313), ∀ (k0_h1 : k0_cond1 i = 1#1), ∀ (k0_h56 : k0_cond56 v250 = 1#1), ∀ a, (k0_off57 v313) a + S512x1024.size a ≤ S49152x1024.size a := fun i v250 v313 k0_hw56 k0_h1 k0_h56 => k0_hw56.2 k0_h1 k0_h56

def k0_mult58 (v313 : BitVec 32) : BitVec 32 :=
  v313
def k0_cond57 (v254 : BitVec 32) : BitVec 1 :=
  let c0_i32_154 : BitVec 32 := 0#32
  let v255 : BitVec 1 := Scalar.cmpi .sge v254 c0_i32_154
  let v256 : BitVec 32 := Scalar.extui v255
  let c0_i32_155 : BitVec 32 := 0#32
  let v257 : BitVec 1 := Scalar.cmpi .ne v256 c0_i32_155
  v257

def k0_off58 (v313 : BitVec 32) : Fin 2 → Nat :=
  let v314 : BitVec 32 := v313
  let c0_i32_194 : BitVec 32 := 0#32
  ![v314.toNat, 0]

def k0_chk57 (i : grid0.Coords) (v254 : BitVec 32) (v313 : BitVec 32) : Prop :=
  (∀ (k0_h1 : k0_cond1 i = 1#1), ∀ (k0_h57 : k0_cond57 v254 = 1#1), 512 ∣ (k0_mult58 v313).toNat) ∧
  (∀ (k0_h1 : k0_cond1 i = 1#1), ∀ (k0_h57 : k0_cond57 v254 = 1#1), ∀ a, (k0_off58 v313) a + S512x1024.size a ≤ S49152x1024.size a)
theorem k0_mult58_dvd : ∀ (i : grid0.Coords) (v254 : BitVec 32) (v313 : BitVec 32) (k0_hw57 : k0_chk57 i v254 v313), ∀ (k0_h1 : k0_cond1 i = 1#1), ∀ (k0_h57 : k0_cond57 v254 = 1#1), 512 ∣ (k0_mult58 v313).toNat := fun i v254 v313 k0_hw57 k0_h1 k0_h57 => k0_hw57.1 k0_h1 k0_h57
theorem k0_off58_inb : ∀ (i : grid0.Coords) (v254 : BitVec 32) (v313 : BitVec 32) (k0_hw57 : k0_chk57 i v254 v313), ∀ (k0_h1 : k0_cond1 i = 1#1), ∀ (k0_h57 : k0_cond57 v254 = 1#1), ∀ a, (k0_off58 v313) a + S512x1024.size a ≤ S49152x1024.size a := fun i v254 v313 k0_hw57 k0_h1 k0_h57 => k0_hw57.2 k0_h1 k0_h57

def k0_mult59 (v313 : BitVec 32) : BitVec 32 :=
  v313
def k0_cond58 (v258 : BitVec 32) : BitVec 1 :=
  let c0_i32_157 : BitVec 32 := 0#32
  let v259 : BitVec 1 := Scalar.cmpi .sge v258 c0_i32_157
  let v260 : BitVec 32 := Scalar.extui v259
  let c0_i32_158 : BitVec 32 := 0#32
  let v261 : BitVec 1 := Scalar.cmpi .ne v260 c0_i32_158
  v261

def k0_off59 (v313 : BitVec 32) : Fin 2 → Nat :=
  let v314 : BitVec 32 := v313
  let c0_i32_194 : BitVec 32 := 0#32
  ![v314.toNat, 0]

def k0_chk58 (i : grid0.Coords) (v258 : BitVec 32) (v313 : BitVec 32) : Prop :=
  (∀ (k0_h1 : k0_cond1 i = 1#1), ∀ (k0_h58 : k0_cond58 v258 = 1#1), 512 ∣ (k0_mult59 v313).toNat) ∧
  (∀ (k0_h1 : k0_cond1 i = 1#1), ∀ (k0_h58 : k0_cond58 v258 = 1#1), ∀ a, (k0_off59 v313) a + S512x1024.size a ≤ S49152x1024.size a)
theorem k0_mult59_dvd : ∀ (i : grid0.Coords) (v258 : BitVec 32) (v313 : BitVec 32) (k0_hw58 : k0_chk58 i v258 v313), ∀ (k0_h1 : k0_cond1 i = 1#1), ∀ (k0_h58 : k0_cond58 v258 = 1#1), 512 ∣ (k0_mult59 v313).toNat := fun i v258 v313 k0_hw58 k0_h1 k0_h58 => k0_hw58.1 k0_h1 k0_h58
theorem k0_off59_inb : ∀ (i : grid0.Coords) (v258 : BitVec 32) (v313 : BitVec 32) (k0_hw58 : k0_chk58 i v258 v313), ∀ (k0_h1 : k0_cond1 i = 1#1), ∀ (k0_h58 : k0_cond58 v258 = 1#1), ∀ a, (k0_off59 v313) a + S512x1024.size a ≤ S49152x1024.size a := fun i v258 v313 k0_hw58 k0_h1 k0_h58 => k0_hw58.2 k0_h1 k0_h58

def k0_mult60 (v313 : BitVec 32) : BitVec 32 :=
  v313
def k0_cond59 (v262 : BitVec 32) : BitVec 1 :=
  let c0_i32_160 : BitVec 32 := 0#32
  let v263 : BitVec 1 := Scalar.cmpi .sge v262 c0_i32_160
  let v264 : BitVec 32 := Scalar.extui v263
  let c0_i32_161 : BitVec 32 := 0#32
  let v265 : BitVec 1 := Scalar.cmpi .ne v264 c0_i32_161
  v265

def k0_off60 (v313 : BitVec 32) : Fin 2 → Nat :=
  let v314 : BitVec 32 := v313
  let c0_i32_194 : BitVec 32 := 0#32
  ![v314.toNat, 0]

def k0_chk59 (i : grid0.Coords) (v262 : BitVec 32) (v313 : BitVec 32) : Prop :=
  (∀ (k0_h1 : k0_cond1 i = 1#1), ∀ (k0_h59 : k0_cond59 v262 = 1#1), 512 ∣ (k0_mult60 v313).toNat) ∧
  (∀ (k0_h1 : k0_cond1 i = 1#1), ∀ (k0_h59 : k0_cond59 v262 = 1#1), ∀ a, (k0_off60 v313) a + S512x1024.size a ≤ S49152x1024.size a)
theorem k0_mult60_dvd : ∀ (i : grid0.Coords) (v262 : BitVec 32) (v313 : BitVec 32) (k0_hw59 : k0_chk59 i v262 v313), ∀ (k0_h1 : k0_cond1 i = 1#1), ∀ (k0_h59 : k0_cond59 v262 = 1#1), 512 ∣ (k0_mult60 v313).toNat := fun i v262 v313 k0_hw59 k0_h1 k0_h59 => k0_hw59.1 k0_h1 k0_h59
theorem k0_off60_inb : ∀ (i : grid0.Coords) (v262 : BitVec 32) (v313 : BitVec 32) (k0_hw59 : k0_chk59 i v262 v313), ∀ (k0_h1 : k0_cond1 i = 1#1), ∀ (k0_h59 : k0_cond59 v262 = 1#1), ∀ a, (k0_off60 v313) a + S512x1024.size a ≤ S49152x1024.size a := fun i v262 v313 k0_hw59 k0_h1 k0_h59 => k0_hw59.2 k0_h1 k0_h59

def k0_mult61 (v313 : BitVec 32) : BitVec 32 :=
  v313
def k0_cond60 (v266 : BitVec 32) : BitVec 1 :=
  let c0_i32_163 : BitVec 32 := 0#32
  let v267 : BitVec 1 := Scalar.cmpi .sge v266 c0_i32_163
  let v268 : BitVec 32 := Scalar.extui v267
  let c0_i32_164 : BitVec 32 := 0#32
  let v269 : BitVec 1 := Scalar.cmpi .ne v268 c0_i32_164
  v269

def k0_off61 (v313 : BitVec 32) : Fin 2 → Nat :=
  let v314 : BitVec 32 := v313
  let c0_i32_194 : BitVec 32 := 0#32
  ![v314.toNat, 0]

def k0_chk60 (i : grid0.Coords) (v266 : BitVec 32) (v313 : BitVec 32) : Prop :=
  (∀ (k0_h1 : k0_cond1 i = 1#1), ∀ (k0_h60 : k0_cond60 v266 = 1#1), 512 ∣ (k0_mult61 v313).toNat) ∧
  (∀ (k0_h1 : k0_cond1 i = 1#1), ∀ (k0_h60 : k0_cond60 v266 = 1#1), ∀ a, (k0_off61 v313) a + S512x1024.size a ≤ S49152x1024.size a)
theorem k0_mult61_dvd : ∀ (i : grid0.Coords) (v266 : BitVec 32) (v313 : BitVec 32) (k0_hw60 : k0_chk60 i v266 v313), ∀ (k0_h1 : k0_cond1 i = 1#1), ∀ (k0_h60 : k0_cond60 v266 = 1#1), 512 ∣ (k0_mult61 v313).toNat := fun i v266 v313 k0_hw60 k0_h1 k0_h60 => k0_hw60.1 k0_h1 k0_h60
theorem k0_off61_inb : ∀ (i : grid0.Coords) (v266 : BitVec 32) (v313 : BitVec 32) (k0_hw60 : k0_chk60 i v266 v313), ∀ (k0_h1 : k0_cond1 i = 1#1), ∀ (k0_h60 : k0_cond60 v266 = 1#1), ∀ a, (k0_off61 v313) a + S512x1024.size a ≤ S49152x1024.size a := fun i v266 v313 k0_hw60 k0_h1 k0_h60 => k0_hw60.2 k0_h1 k0_h60

def k0_mult62 (v313 : BitVec 32) : BitVec 32 :=
  v313
def k0_cond61 (v270 : BitVec 32) : BitVec 1 :=
  let c0_i32_166 : BitVec 32 := 0#32
  let v271 : BitVec 1 := Scalar.cmpi .sge v270 c0_i32_166
  let v272 : BitVec 32 := Scalar.extui v271
  let c0_i32_167 : BitVec 32 := 0#32
  let v273 : BitVec 1 := Scalar.cmpi .ne v272 c0_i32_167
  v273

def k0_off62 (v313 : BitVec 32) : Fin 2 → Nat :=
  let v314 : BitVec 32 := v313
  let c0_i32_194 : BitVec 32 := 0#32
  ![v314.toNat, 0]

def k0_chk61 (i : grid0.Coords) (v270 : BitVec 32) (v313 : BitVec 32) : Prop :=
  (∀ (k0_h1 : k0_cond1 i = 1#1), ∀ (k0_h61 : k0_cond61 v270 = 1#1), 512 ∣ (k0_mult62 v313).toNat) ∧
  (∀ (k0_h1 : k0_cond1 i = 1#1), ∀ (k0_h61 : k0_cond61 v270 = 1#1), ∀ a, (k0_off62 v313) a + S512x1024.size a ≤ S49152x1024.size a)
theorem k0_mult62_dvd : ∀ (i : grid0.Coords) (v270 : BitVec 32) (v313 : BitVec 32) (k0_hw61 : k0_chk61 i v270 v313), ∀ (k0_h1 : k0_cond1 i = 1#1), ∀ (k0_h61 : k0_cond61 v270 = 1#1), 512 ∣ (k0_mult62 v313).toNat := fun i v270 v313 k0_hw61 k0_h1 k0_h61 => k0_hw61.1 k0_h1 k0_h61
theorem k0_off62_inb : ∀ (i : grid0.Coords) (v270 : BitVec 32) (v313 : BitVec 32) (k0_hw61 : k0_chk61 i v270 v313), ∀ (k0_h1 : k0_cond1 i = 1#1), ∀ (k0_h61 : k0_cond61 v270 = 1#1), ∀ a, (k0_off62 v313) a + S512x1024.size a ≤ S49152x1024.size a := fun i v270 v313 k0_hw61 k0_h1 k0_h61 => k0_hw61.2 k0_h1 k0_h61

def k0_mult63 (v313 : BitVec 32) : BitVec 32 :=
  v313
def k0_cond62 (v274 : BitVec 32) : BitVec 1 :=
  let c0_i32_169 : BitVec 32 := 0#32
  let v275 : BitVec 1 := Scalar.cmpi .sge v274 c0_i32_169
  let v276 : BitVec 32 := Scalar.extui v275
  let c0_i32_170 : BitVec 32 := 0#32
  let v277 : BitVec 1 := Scalar.cmpi .ne v276 c0_i32_170
  v277

def k0_off63 (v313 : BitVec 32) : Fin 2 → Nat :=
  let v314 : BitVec 32 := v313
  let c0_i32_194 : BitVec 32 := 0#32
  ![v314.toNat, 0]

def k0_chk62 (i : grid0.Coords) (v274 : BitVec 32) (v313 : BitVec 32) : Prop :=
  (∀ (k0_h1 : k0_cond1 i = 1#1), ∀ (k0_h62 : k0_cond62 v274 = 1#1), 512 ∣ (k0_mult63 v313).toNat) ∧
  (∀ (k0_h1 : k0_cond1 i = 1#1), ∀ (k0_h62 : k0_cond62 v274 = 1#1), ∀ a, (k0_off63 v313) a + S512x1024.size a ≤ S49152x1024.size a)
theorem k0_mult63_dvd : ∀ (i : grid0.Coords) (v274 : BitVec 32) (v313 : BitVec 32) (k0_hw62 : k0_chk62 i v274 v313), ∀ (k0_h1 : k0_cond1 i = 1#1), ∀ (k0_h62 : k0_cond62 v274 = 1#1), 512 ∣ (k0_mult63 v313).toNat := fun i v274 v313 k0_hw62 k0_h1 k0_h62 => k0_hw62.1 k0_h1 k0_h62
theorem k0_off63_inb : ∀ (i : grid0.Coords) (v274 : BitVec 32) (v313 : BitVec 32) (k0_hw62 : k0_chk62 i v274 v313), ∀ (k0_h1 : k0_cond1 i = 1#1), ∀ (k0_h62 : k0_cond62 v274 = 1#1), ∀ a, (k0_off63 v313) a + S512x1024.size a ≤ S49152x1024.size a := fun i v274 v313 k0_hw62 k0_h1 k0_h62 => k0_hw62.2 k0_h1 k0_h62

def k0_mult64 (v313 : BitVec 32) : BitVec 32 :=
  v313
def k0_cond63 (v278 : BitVec 32) : BitVec 1 :=
  let c0_i32_172 : BitVec 32 := 0#32
  let v279 : BitVec 1 := Scalar.cmpi .sge v278 c0_i32_172
  let v280 : BitVec 32 := Scalar.extui v279
  let c0_i32_173 : BitVec 32 := 0#32
  let v281 : BitVec 1 := Scalar.cmpi .ne v280 c0_i32_173
  v281

def k0_off64 (v313 : BitVec 32) : Fin 2 → Nat :=
  let v314 : BitVec 32 := v313
  let c0_i32_194 : BitVec 32 := 0#32
  ![v314.toNat, 0]

def k0_chk63 (i : grid0.Coords) (v278 : BitVec 32) (v313 : BitVec 32) : Prop :=
  (∀ (k0_h1 : k0_cond1 i = 1#1), ∀ (k0_h63 : k0_cond63 v278 = 1#1), 512 ∣ (k0_mult64 v313).toNat) ∧
  (∀ (k0_h1 : k0_cond1 i = 1#1), ∀ (k0_h63 : k0_cond63 v278 = 1#1), ∀ a, (k0_off64 v313) a + S512x1024.size a ≤ S49152x1024.size a)
theorem k0_mult64_dvd : ∀ (i : grid0.Coords) (v278 : BitVec 32) (v313 : BitVec 32) (k0_hw63 : k0_chk63 i v278 v313), ∀ (k0_h1 : k0_cond1 i = 1#1), ∀ (k0_h63 : k0_cond63 v278 = 1#1), 512 ∣ (k0_mult64 v313).toNat := fun i v278 v313 k0_hw63 k0_h1 k0_h63 => k0_hw63.1 k0_h1 k0_h63
theorem k0_off64_inb : ∀ (i : grid0.Coords) (v278 : BitVec 32) (v313 : BitVec 32) (k0_hw63 : k0_chk63 i v278 v313), ∀ (k0_h1 : k0_cond1 i = 1#1), ∀ (k0_h63 : k0_cond63 v278 = 1#1), ∀ a, (k0_off64 v313) a + S512x1024.size a ≤ S49152x1024.size a := fun i v278 v313 k0_hw63 k0_h1 k0_h63 => k0_hw63.2 k0_h1 k0_h63

def k0_mult65 (v313 : BitVec 32) : BitVec 32 :=
  v313
def k0_cond64 (v282 : BitVec 32) : BitVec 1 :=
  let c0_i32_175 : BitVec 32 := 0#32
  let v283 : BitVec 1 := Scalar.cmpi .sge v282 c0_i32_175
  let v284 : BitVec 32 := Scalar.extui v283
  let c0_i32_176 : BitVec 32 := 0#32
  let v285 : BitVec 1 := Scalar.cmpi .ne v284 c0_i32_176
  v285

def k0_off65 (v313 : BitVec 32) : Fin 2 → Nat :=
  let v314 : BitVec 32 := v313
  let c0_i32_194 : BitVec 32 := 0#32
  ![v314.toNat, 0]

def k0_chk64 (i : grid0.Coords) (v282 : BitVec 32) (v313 : BitVec 32) : Prop :=
  (∀ (k0_h1 : k0_cond1 i = 1#1), ∀ (k0_h64 : k0_cond64 v282 = 1#1), 512 ∣ (k0_mult65 v313).toNat) ∧
  (∀ (k0_h1 : k0_cond1 i = 1#1), ∀ (k0_h64 : k0_cond64 v282 = 1#1), ∀ a, (k0_off65 v313) a + S512x1024.size a ≤ S49152x1024.size a)
theorem k0_mult65_dvd : ∀ (i : grid0.Coords) (v282 : BitVec 32) (v313 : BitVec 32) (k0_hw64 : k0_chk64 i v282 v313), ∀ (k0_h1 : k0_cond1 i = 1#1), ∀ (k0_h64 : k0_cond64 v282 = 1#1), 512 ∣ (k0_mult65 v313).toNat := fun i v282 v313 k0_hw64 k0_h1 k0_h64 => k0_hw64.1 k0_h1 k0_h64
theorem k0_off65_inb : ∀ (i : grid0.Coords) (v282 : BitVec 32) (v313 : BitVec 32) (k0_hw64 : k0_chk64 i v282 v313), ∀ (k0_h1 : k0_cond1 i = 1#1), ∀ (k0_h64 : k0_cond64 v282 = 1#1), ∀ a, (k0_off65 v313) a + S512x1024.size a ≤ S49152x1024.size a := fun i v282 v313 k0_hw64 k0_h1 k0_h64 => k0_hw64.2 k0_h1 k0_h64

def k0_mult66 (v313 : BitVec 32) : BitVec 32 :=
  v313
def k0_cond65 (v286 : BitVec 32) : BitVec 1 :=
  let c0_i32_178 : BitVec 32 := 0#32
  let v287 : BitVec 1 := Scalar.cmpi .sge v286 c0_i32_178
  let v288 : BitVec 32 := Scalar.extui v287
  let c0_i32_179 : BitVec 32 := 0#32
  let v289 : BitVec 1 := Scalar.cmpi .ne v288 c0_i32_179
  v289

def k0_off66 (v313 : BitVec 32) : Fin 2 → Nat :=
  let v314 : BitVec 32 := v313
  let c0_i32_194 : BitVec 32 := 0#32
  ![v314.toNat, 0]

def k0_chk65 (i : grid0.Coords) (v286 : BitVec 32) (v313 : BitVec 32) : Prop :=
  (∀ (k0_h1 : k0_cond1 i = 1#1), ∀ (k0_h65 : k0_cond65 v286 = 1#1), 512 ∣ (k0_mult66 v313).toNat) ∧
  (∀ (k0_h1 : k0_cond1 i = 1#1), ∀ (k0_h65 : k0_cond65 v286 = 1#1), ∀ a, (k0_off66 v313) a + S512x1024.size a ≤ S49152x1024.size a)
theorem k0_mult66_dvd : ∀ (i : grid0.Coords) (v286 : BitVec 32) (v313 : BitVec 32) (k0_hw65 : k0_chk65 i v286 v313), ∀ (k0_h1 : k0_cond1 i = 1#1), ∀ (k0_h65 : k0_cond65 v286 = 1#1), 512 ∣ (k0_mult66 v313).toNat := fun i v286 v313 k0_hw65 k0_h1 k0_h65 => k0_hw65.1 k0_h1 k0_h65
theorem k0_off66_inb : ∀ (i : grid0.Coords) (v286 : BitVec 32) (v313 : BitVec 32) (k0_hw65 : k0_chk65 i v286 v313), ∀ (k0_h1 : k0_cond1 i = 1#1), ∀ (k0_h65 : k0_cond65 v286 = 1#1), ∀ a, (k0_off66 v313) a + S512x1024.size a ≤ S49152x1024.size a := fun i v286 v313 k0_hw65 k0_h1 k0_h65 => k0_hw65.2 k0_h1 k0_h65

@[reducible] def k0_t3_loop (v290 : BitVec 32) : Scf.Loop 32 :=
  let c0_i32_182 : BitVec 32 := 0#32
  let v292 : BitVec 1 := Scalar.cmpi .sgt v290 c0_i32_182
  let v293 : BitVec 32 := Scalar.extui v292
  let c0_i32_183 : BitVec 32 := 0#32
  let v294 : BitVec 1 := Scalar.cmpi .slt v290 c0_i32_183
  let v295 : BitVec 32 := Scalar.extui v294
  let v296 : BitVec 32 := Scalar.subi v293 v295
  let c512_i32_181 : BitVec 32 := 512#32
  let c0_i32_184 : BitVec 32 := 0#32
  let v297 : BitVec 1 := Scalar.cmpi .sgt c512_i32_181 c0_i32_184
  let v298 : BitVec 32 := Scalar.extui v297
  let c0_i32_185 : BitVec 32 := 0#32
  let v299 : BitVec 1 := Scalar.cmpi .slt c512_i32_181 c0_i32_185
  let v300 : BitVec 32 := Scalar.extui v299
  let v301 : BitVec 32 := Scalar.subi v298 v300
  let v302 : BitVec 1 := Scalar.cmpi .ne v296 v301
  let v303 : BitVec 32 := Scalar.remsi v290 c512_i32_181
  let c0_i32_186 : BitVec 32 := 0#32
  let v304 : BitVec 1 := Scalar.cmpi .ne v303 c0_i32_186
  let v305 : BitVec 1 := Scalar.andi v302 v304
  let v291 : BitVec 32 := Scalar.divsi v290 c512_i32_181
  let c1_i32_187 : BitVec 32 := 1#32
  let v306 : BitVec 32 := Scalar.subi v291 c1_i32_187
  let v307 : BitVec 32 := Scalar.select v305 v306 v291
  let c96_i32_189 : BitVec 32 := 96#32
  let v308 : BitVec 32 := Scalar.subi c96_i32_189 v307
  let c1_i32_190 : BitVec 32 := 1#32
  let v310 : BitVec 32 := Scalar.divsi v308 c1_i32_190
  let v311 : BitVec 32 := Scalar.muli v310 c1_i32_190
  let v312 : BitVec 32 := Scalar.addi v307 v311
  let c1_i32_191 : BitVec 32 := 1#32
  ⟨v307, v312, c1_i32_191⟩

def k0_mult67 (v290 : BitVec 32) (k0_t3 : Fin (k0_t3_loop v290).trips) : BitVec 32 :=
  let c0_i32_182 : BitVec 32 := 0#32
  let v292 : BitVec 1 := Scalar.cmpi .sgt v290 c0_i32_182
  let v293 : BitVec 32 := Scalar.extui v292
  let c0_i32_183 : BitVec 32 := 0#32
  let v294 : BitVec 1 := Scalar.cmpi .slt v290 c0_i32_183
  let v295 : BitVec 32 := Scalar.extui v294
  let v296 : BitVec 32 := Scalar.subi v293 v295
  let c512_i32_181 : BitVec 32 := 512#32
  let c0_i32_184 : BitVec 32 := 0#32
  let v297 : BitVec 1 := Scalar.cmpi .sgt c512_i32_181 c0_i32_184
  let v298 : BitVec 32 := Scalar.extui v297
  let c0_i32_185 : BitVec 32 := 0#32
  let v299 : BitVec 1 := Scalar.cmpi .slt c512_i32_181 c0_i32_185
  let v300 : BitVec 32 := Scalar.extui v299
  let v301 : BitVec 32 := Scalar.subi v298 v300
  let v302 : BitVec 1 := Scalar.cmpi .ne v296 v301
  let v303 : BitVec 32 := Scalar.remsi v290 c512_i32_181
  let c0_i32_186 : BitVec 32 := 0#32
  let v304 : BitVec 1 := Scalar.cmpi .ne v303 c0_i32_186
  let v305 : BitVec 1 := Scalar.andi v302 v304
  let v291 : BitVec 32 := Scalar.divsi v290 c512_i32_181
  let c1_i32_187 : BitVec 32 := 1#32
  let v306 : BitVec 32 := Scalar.subi v291 c1_i32_187
  let v307 : BitVec 32 := Scalar.select v305 v306 v291
  let c1_i32_191 : BitVec 32 := 1#32
  let arg8 : BitVec 32 := Scf.iv v307 c1_i32_191 k0_t3
  let c512_i32_193 : BitVec 32 := 512#32
  let v313 : BitVec 32 := Scalar.muli arg8 c512_i32_193
  v313
def k0_off67 (v290 : BitVec 32) (k0_t3 : Fin (k0_t3_loop v290).trips) : Fin 2 → Nat :=
  let c0_i32_182 : BitVec 32 := 0#32
  let v292 : BitVec 1 := Scalar.cmpi .sgt v290 c0_i32_182
  let v293 : BitVec 32 := Scalar.extui v292
  let c0_i32_183 : BitVec 32 := 0#32
  let v294 : BitVec 1 := Scalar.cmpi .slt v290 c0_i32_183
  let v295 : BitVec 32 := Scalar.extui v294
  let v296 : BitVec 32 := Scalar.subi v293 v295
  let c512_i32_181 : BitVec 32 := 512#32
  let c0_i32_184 : BitVec 32 := 0#32
  let v297 : BitVec 1 := Scalar.cmpi .sgt c512_i32_181 c0_i32_184
  let v298 : BitVec 32 := Scalar.extui v297
  let c0_i32_185 : BitVec 32 := 0#32
  let v299 : BitVec 1 := Scalar.cmpi .slt c512_i32_181 c0_i32_185
  let v300 : BitVec 32 := Scalar.extui v299
  let v301 : BitVec 32 := Scalar.subi v298 v300
  let v302 : BitVec 1 := Scalar.cmpi .ne v296 v301
  let v303 : BitVec 32 := Scalar.remsi v290 c512_i32_181
  let c0_i32_186 : BitVec 32 := 0#32
  let v304 : BitVec 1 := Scalar.cmpi .ne v303 c0_i32_186
  let v305 : BitVec 1 := Scalar.andi v302 v304
  let v291 : BitVec 32 := Scalar.divsi v290 c512_i32_181
  let c1_i32_187 : BitVec 32 := 1#32
  let v306 : BitVec 32 := Scalar.subi v291 c1_i32_187
  let v307 : BitVec 32 := Scalar.select v305 v306 v291
  let c1_i32_191 : BitVec 32 := 1#32
  let arg8 : BitVec 32 := Scf.iv v307 c1_i32_191 k0_t3
  let c512_i32_193 : BitVec 32 := 512#32
  let v313 : BitVec 32 := Scalar.muli arg8 c512_i32_193
  let v314 : BitVec 32 := v313
  let c0_i32_194 : BitVec 32 := 0#32
  ![v314.toNat, 0]
@[reducible] def k0_t4_loop (v290 : BitVec 32) : Scf.Loop 32 :=
  let c0_i32_182 : BitVec 32 := 0#32
  let v292 : BitVec 1 := Scalar.cmpi .sgt v290 c0_i32_182
  let v293 : BitVec 32 := Scalar.extui v292
  let c0_i32_183 : BitVec 32 := 0#32
  let v294 : BitVec 1 := Scalar.cmpi .slt v290 c0_i32_183
  let v295 : BitVec 32 := Scalar.extui v294
  let v296 : BitVec 32 := Scalar.subi v293 v295
  let c512_i32_181 : BitVec 32 := 512#32
  let c0_i32_184 : BitVec 32 := 0#32
  let v297 : BitVec 1 := Scalar.cmpi .sgt c512_i32_181 c0_i32_184
  let v298 : BitVec 32 := Scalar.extui v297
  let c0_i32_185 : BitVec 32 := 0#32
  let v299 : BitVec 1 := Scalar.cmpi .slt c512_i32_181 c0_i32_185
  let v300 : BitVec 32 := Scalar.extui v299
  let v301 : BitVec 32 := Scalar.subi v298 v300
  let v302 : BitVec 1 := Scalar.cmpi .ne v296 v301
  let v303 : BitVec 32 := Scalar.remsi v290 c512_i32_181
  let c0_i32_186 : BitVec 32 := 0#32
  let v304 : BitVec 1 := Scalar.cmpi .ne v303 c0_i32_186
  let v305 : BitVec 1 := Scalar.andi v302 v304
  let v291 : BitVec 32 := Scalar.divsi v290 c512_i32_181
  let c1_i32_187 : BitVec 32 := 1#32
  let v306 : BitVec 32 := Scalar.subi v291 c1_i32_187
  let v307 : BitVec 32 := Scalar.select v305 v306 v291
  let c96_i32_189 : BitVec 32 := 96#32
  let v308 : BitVec 32 := Scalar.subi c96_i32_189 v307
  let c1_i32_190 : BitVec 32 := 1#32
  let v310 : BitVec 32 := Scalar.divsi v308 c1_i32_190
  let v311 : BitVec 32 := Scalar.muli v310 c1_i32_190
  let v312 : BitVec 32 := Scalar.addi v307 v311
  let v309 : BitVec 32 := Scalar.addi v307 v308
  let c1_i32_192 : BitVec 32 := 1#32
  ⟨v312, v309, c1_i32_192⟩
def k0_mult68 (v290 : BitVec 32) (k0_t4 : Fin (k0_t4_loop v290).trips) : BitVec 32 :=
  let c0_i32_182 : BitVec 32 := 0#32
  let v292 : BitVec 1 := Scalar.cmpi .sgt v290 c0_i32_182
  let v293 : BitVec 32 := Scalar.extui v292
  let c0_i32_183 : BitVec 32 := 0#32
  let v294 : BitVec 1 := Scalar.cmpi .slt v290 c0_i32_183
  let v295 : BitVec 32 := Scalar.extui v294
  let v296 : BitVec 32 := Scalar.subi v293 v295
  let c512_i32_181 : BitVec 32 := 512#32
  let c0_i32_184 : BitVec 32 := 0#32
  let v297 : BitVec 1 := Scalar.cmpi .sgt c512_i32_181 c0_i32_184
  let v298 : BitVec 32 := Scalar.extui v297
  let c0_i32_185 : BitVec 32 := 0#32
  let v299 : BitVec 1 := Scalar.cmpi .slt c512_i32_181 c0_i32_185
  let v300 : BitVec 32 := Scalar.extui v299
  let v301 : BitVec 32 := Scalar.subi v298 v300
  let v302 : BitVec 1 := Scalar.cmpi .ne v296 v301
  let v303 : BitVec 32 := Scalar.remsi v290 c512_i32_181
  let c0_i32_186 : BitVec 32 := 0#32
  let v304 : BitVec 1 := Scalar.cmpi .ne v303 c0_i32_186
  let v305 : BitVec 1 := Scalar.andi v302 v304
  let v291 : BitVec 32 := Scalar.divsi v290 c512_i32_181
  let c1_i32_187 : BitVec 32 := 1#32
  let v306 : BitVec 32 := Scalar.subi v291 c1_i32_187
  let v307 : BitVec 32 := Scalar.select v305 v306 v291
  let c96_i32_189 : BitVec 32 := 96#32
  let v308 : BitVec 32 := Scalar.subi c96_i32_189 v307
  let c1_i32_190 : BitVec 32 := 1#32
  let v310 : BitVec 32 := Scalar.divsi v308 c1_i32_190
  let v311 : BitVec 32 := Scalar.muli v310 c1_i32_190
  let v312 : BitVec 32 := Scalar.addi v307 v311
  let c1_i32_192 : BitVec 32 := 1#32
  let arg8 : BitVec 32 := Scf.iv v312 c1_i32_192 k0_t4
  let c512_i32_193 : BitVec 32 := 512#32
  let v313 : BitVec 32 := Scalar.muli arg8 c512_i32_193
  v313
def k0_off68 (v290 : BitVec 32) (k0_t4 : Fin (k0_t4_loop v290).trips) : Fin 2 → Nat :=
  let c0_i32_182 : BitVec 32 := 0#32
  let v292 : BitVec 1 := Scalar.cmpi .sgt v290 c0_i32_182
  let v293 : BitVec 32 := Scalar.extui v292
  let c0_i32_183 : BitVec 32 := 0#32
  let v294 : BitVec 1 := Scalar.cmpi .slt v290 c0_i32_183
  let v295 : BitVec 32 := Scalar.extui v294
  let v296 : BitVec 32 := Scalar.subi v293 v295
  let c512_i32_181 : BitVec 32 := 512#32
  let c0_i32_184 : BitVec 32 := 0#32
  let v297 : BitVec 1 := Scalar.cmpi .sgt c512_i32_181 c0_i32_184
  let v298 : BitVec 32 := Scalar.extui v297
  let c0_i32_185 : BitVec 32 := 0#32
  let v299 : BitVec 1 := Scalar.cmpi .slt c512_i32_181 c0_i32_185
  let v300 : BitVec 32 := Scalar.extui v299
  let v301 : BitVec 32 := Scalar.subi v298 v300
  let v302 : BitVec 1 := Scalar.cmpi .ne v296 v301
  let v303 : BitVec 32 := Scalar.remsi v290 c512_i32_181
  let c0_i32_186 : BitVec 32 := 0#32
  let v304 : BitVec 1 := Scalar.cmpi .ne v303 c0_i32_186
  let v305 : BitVec 1 := Scalar.andi v302 v304
  let v291 : BitVec 32 := Scalar.divsi v290 c512_i32_181
  let c1_i32_187 : BitVec 32 := 1#32
  let v306 : BitVec 32 := Scalar.subi v291 c1_i32_187
  let v307 : BitVec 32 := Scalar.select v305 v306 v291
  let c96_i32_189 : BitVec 32 := 96#32
  let v308 : BitVec 32 := Scalar.subi c96_i32_189 v307
  let c1_i32_190 : BitVec 32 := 1#32
  let v310 : BitVec 32 := Scalar.divsi v308 c1_i32_190
  let v311 : BitVec 32 := Scalar.muli v310 c1_i32_190
  let v312 : BitVec 32 := Scalar.addi v307 v311
  let c1_i32_192 : BitVec 32 := 1#32
  let arg8 : BitVec 32 := Scf.iv v312 c1_i32_192 k0_t4
  let c512_i32_193 : BitVec 32 := 512#32
  let v313 : BitVec 32 := Scalar.muli arg8 c512_i32_193
  let v314 : BitVec 32 := v313
  let c0_i32_194 : BitVec 32 := 0#32
  ![v314.toNat, 0]

def k0_chk66 (i : grid0.Coords) (v290 : BitVec 32) : Prop :=
  (∀ (k0_h1 : k0_cond1 i = 1#1), (k0_t3_loop v290).OK) ∧
  (∀ k0_t3 : Fin (k0_t3_loop v290).trips, ∀ (k0_h1 : k0_cond1 i = 1#1), 512 ∣ (k0_mult67 v290 k0_t3).toNat) ∧
  (∀ k0_t3 : Fin (k0_t3_loop v290).trips, ∀ (k0_h1 : k0_cond1 i = 1#1), ∀ a, (k0_off67 v290 k0_t3) a + S512x1024.size a ≤ S49152x1024.size a) ∧
  (∀ (k0_h1 : k0_cond1 i = 1#1), (k0_t4_loop v290).OK) ∧
  (∀ k0_t4 : Fin (k0_t4_loop v290).trips, ∀ (k0_h1 : k0_cond1 i = 1#1), 512 ∣ (k0_mult68 v290 k0_t4).toNat) ∧
  (∀ k0_t4 : Fin (k0_t4_loop v290).trips, ∀ (k0_h1 : k0_cond1 i = 1#1), ∀ a, (k0_off68 v290 k0_t4) a + S512x1024.size a ≤ S49152x1024.size a)
theorem k0_t3_ok : ∀ (i : grid0.Coords) (v290 : BitVec 32) (k0_hw66 : k0_chk66 i v290), ∀ (k0_h1 : k0_cond1 i = 1#1), (k0_t3_loop v290).OK := fun i v290 k0_hw66 k0_h1 => k0_hw66.1 k0_h1
theorem k0_mult67_dvd : ∀ (i : grid0.Coords) (v290 : BitVec 32) (k0_hw66 : k0_chk66 i v290) (k0_t3 : Fin (k0_t3_loop v290).trips), ∀ (k0_h1 : k0_cond1 i = 1#1), 512 ∣ (k0_mult67 v290 k0_t3).toNat := fun i v290 k0_hw66 k0_t3 k0_h1 => k0_hw66.2.1 k0_t3 k0_h1
theorem k0_off67_inb : ∀ (i : grid0.Coords) (v290 : BitVec 32) (k0_hw66 : k0_chk66 i v290) (k0_t3 : Fin (k0_t3_loop v290).trips), ∀ (k0_h1 : k0_cond1 i = 1#1), ∀ a, (k0_off67 v290 k0_t3) a + S512x1024.size a ≤ S49152x1024.size a := fun i v290 k0_hw66 k0_t3 k0_h1 => k0_hw66.2.2.1 k0_t3 k0_h1
theorem k0_t4_ok : ∀ (i : grid0.Coords) (v290 : BitVec 32) (k0_hw66 : k0_chk66 i v290), ∀ (k0_h1 : k0_cond1 i = 1#1), (k0_t4_loop v290).OK := fun i v290 k0_hw66 k0_h1 => k0_hw66.2.2.2.1 k0_h1
theorem k0_mult68_dvd : ∀ (i : grid0.Coords) (v290 : BitVec 32) (k0_hw66 : k0_chk66 i v290) (k0_t4 : Fin (k0_t4_loop v290).trips), ∀ (k0_h1 : k0_cond1 i = 1#1), 512 ∣ (k0_mult68 v290 k0_t4).toNat := fun i v290 k0_hw66 k0_t4 k0_h1 => k0_hw66.2.2.2.2.1 k0_t4 k0_h1
theorem k0_off68_inb : ∀ (i : grid0.Coords) (v290 : BitVec 32) (k0_hw66 : k0_chk66 i v290) (k0_t4 : Fin (k0_t4_loop v290).trips), ∀ (k0_h1 : k0_cond1 i = 1#1), ∀ a, (k0_off68 v290 k0_t4) a + S512x1024.size a ≤ S49152x1024.size a := fun i v290 k0_hw66 k0_t4 k0_h1 => k0_hw66.2.2.2.2.2 k0_t4 k0_h1

@[reducible] def k0_t5_loop : Scf.Loop 32 :=
  let c0_i32_1 : BitVec 32 := 0#32
  let c1024_i32_2 : BitVec 32 := 1024#32
  let v5 : BitVec 32 := Scalar.addi c0_i32_1 c1024_i32_2
  let c1_i32 : BitVec 32 := 1#32
  ⟨c0_i32_1, v5, c1_i32⟩
def k0_off69 (i : grid0.Coords) (k0_t5 : Fin k0_t5_loop.trips) : Fin 1 → Nat :=
  let arg0 : BitVec 32 := BitVec.ofNat 32 (i 0).val
  let c1024_i32 : BitVec 32 := 1024#32
  let v0 : BitVec 32 := Scalar.muli arg0 c1024_i32
  let c2_i32 : BitVec 32 := 2#32
  let v1 : BitVec 32 := Scalar.muli v0 c2_i32
  let c0_i32_1 : BitVec 32 := 0#32
  let c1_i32 : BitVec 32 := 1#32
  let arg8 : BitVec 32 := Scf.iv c0_i32_1 c1_i32 k0_t5
  let c2_i32_8 : BitVec 32 := 2#32
  let v7 : BitVec 32 := Scalar.muli arg8 c2_i32_8
  let v8 : BitVec 32 := Scalar.addi v1 v7
  let c0_i32_9 : BitVec 32 := 0#32
  let v9 : BitVec 32 := Scalar.addi v8 c0_i32_9
  let v10 : Index := Scalar.indexCast v9
  ![v10.toNat]
def k0_off70 (v11 : BitVec 32) : Fin 2 → Nat :=
  let c0_i32_10 : BitVec 32 := 0#32
  ![v11.toNat, 0]

def k0_chk67 (v11 : BitVec 32) : Prop :=
  (∀ a, (k0_off70 v11) a + S1x1024.size a ≤ S49152x1024.size a)
theorem k0_off70_inb : ∀ (v11 : BitVec 32) (k0_hw67 : k0_chk67 v11), ∀ a, (k0_off70 v11) a + S1x1024.size a ≤ S49152x1024.size a := fun v11 k0_hw67 => k0_hw67

def k0_off71 (k0_t5 : Fin k0_t5_loop.trips) : Fin 2 → Nat :=
  let c0_i32_1 : BitVec 32 := 0#32
  let c1_i32 : BitVec 32 := 1#32
  let arg8 : BitVec 32 := Scf.iv c0_i32_1 c1_i32 k0_t5
  let c0_i32_11 : BitVec 32 := 0#32
  ![arg8.toNat, 0]
def k0_off72 (i : grid0.Coords) (k0_t5 : Fin k0_t5_loop.trips) : Fin 1 → Nat :=
  let arg0 : BitVec 32 := BitVec.ofNat 32 (i 0).val
  let c1024_i32 : BitVec 32 := 1024#32
  let v0 : BitVec 32 := Scalar.muli arg0 c1024_i32
  let c2_i32 : BitVec 32 := 2#32
  let v1 : BitVec 32 := Scalar.muli v0 c2_i32
  let c0_i32_1 : BitVec 32 := 0#32
  let c1_i32 : BitVec 32 := 1#32
  let arg8 : BitVec 32 := Scf.iv c0_i32_1 c1_i32 k0_t5
  let c2_i32_12 : BitVec 32 := 2#32
  let v14 : BitVec 32 := Scalar.muli arg8 c2_i32_12
  let v15 : BitVec 32 := Scalar.addi v1 v14
  let c1_i32_13 : BitVec 32 := 1#32
  let v16 : BitVec 32 := Scalar.addi v15 c1_i32_13
  let v17 : Index := Scalar.indexCast v16
  ![v17.toNat]
def k0_off73 (v18 : BitVec 32) : Fin 2 → Nat :=
  let c0_i32_14 : BitVec 32 := 0#32
  ![v18.toNat, 0]

def k0_chk68 (v18 : BitVec 32) : Prop :=
  (∀ a, (k0_off73 v18) a + S1x1024.size a ≤ S49152x1024.size a)
theorem k0_off73_inb : ∀ (v18 : BitVec 32) (k0_hw68 : k0_chk68 v18), ∀ a, (k0_off73 v18) a + S1x1024.size a ≤ S49152x1024.size a := fun v18 k0_hw68 => k0_hw68

def k0_off74 (k0_t5 : Fin k0_t5_loop.trips) : Fin 2 → Nat :=
  let c0_i32_1 : BitVec 32 := 0#32
  let c1_i32 : BitVec 32 := 1#32
  let arg8 : BitVec 32 := Scf.iv c0_i32_1 c1_i32 k0_t5
  let c0_i32_15 : BitVec 32 := 0#32
  ![arg8.toNat, 0]
@[reducible] def k0_t6_loop : Scf.Loop 32 :=
  let c0_i32_4 : BitVec 32 := 0#32
  let c1024_i32_5 : BitVec 32 := 1024#32
  let v6 : BitVec 32 := Scalar.addi c0_i32_4 c1024_i32_5
  let c1_i32_6 : BitVec 32 := 1#32
  ⟨c0_i32_4, v6, c1_i32_6⟩
def k0_off75 (i : grid0.Coords) (k0_t6 : Fin k0_t6_loop.trips) : Fin 1 → Nat :=
  let arg0 : BitVec 32 := BitVec.ofNat 32 (i 0).val
  let c1024_i32 : BitVec 32 := 1024#32
  let v0 : BitVec 32 := Scalar.muli arg0 c1024_i32
  let c2_i32 : BitVec 32 := 2#32
  let v1 : BitVec 32 := Scalar.muli v0 c2_i32
  let c0_i32_4 : BitVec 32 := 0#32
  let c1_i32_6 : BitVec 32 := 1#32
  let arg8 : BitVec 32 := Scf.iv c0_i32_4 c1_i32_6 k0_t6
  let c2_i32_8 : BitVec 32 := 2#32
  let v7 : BitVec 32 := Scalar.muli arg8 c2_i32_8
  let v8 : BitVec 32 := Scalar.addi v1 v7
  let c0_i32_9 : BitVec 32 := 0#32
  let v9 : BitVec 32 := Scalar.addi v8 c0_i32_9
  let v10 : Index := Scalar.indexCast v9
  ![v10.toNat]
def k0_off76 (v11 : BitVec 32) : Fin 2 → Nat :=
  let c0_i32_10 : BitVec 32 := 0#32
  ![v11.toNat, 0]

def k0_chk69 (v11 : BitVec 32) : Prop :=
  (∀ a, (k0_off76 v11) a + S1x1024.size a ≤ S49152x1024.size a)
theorem k0_off76_inb : ∀ (v11 : BitVec 32) (k0_hw69 : k0_chk69 v11), ∀ a, (k0_off76 v11) a + S1x1024.size a ≤ S49152x1024.size a := fun v11 k0_hw69 => k0_hw69

def k0_off77 (k0_t6 : Fin k0_t6_loop.trips) : Fin 2 → Nat :=
  let c0_i32_4 : BitVec 32 := 0#32
  let c1_i32_6 : BitVec 32 := 1#32
  let arg8 : BitVec 32 := Scf.iv c0_i32_4 c1_i32_6 k0_t6
  let c0_i32_11 : BitVec 32 := 0#32
  ![arg8.toNat, 0]
def k0_off78 (i : grid0.Coords) (k0_t6 : Fin k0_t6_loop.trips) : Fin 1 → Nat :=
  let arg0 : BitVec 32 := BitVec.ofNat 32 (i 0).val
  let c1024_i32 : BitVec 32 := 1024#32
  let v0 : BitVec 32 := Scalar.muli arg0 c1024_i32
  let c2_i32 : BitVec 32 := 2#32
  let v1 : BitVec 32 := Scalar.muli v0 c2_i32
  let c0_i32_4 : BitVec 32 := 0#32
  let c1_i32_6 : BitVec 32 := 1#32
  let arg8 : BitVec 32 := Scf.iv c0_i32_4 c1_i32_6 k0_t6
  let c2_i32_12 : BitVec 32 := 2#32
  let v14 : BitVec 32 := Scalar.muli arg8 c2_i32_12
  let v15 : BitVec 32 := Scalar.addi v1 v14
  let c1_i32_13 : BitVec 32 := 1#32
  let v16 : BitVec 32 := Scalar.addi v15 c1_i32_13
  let v17 : Index := Scalar.indexCast v16
  ![v17.toNat]
def k0_off79 (v18 : BitVec 32) : Fin 2 → Nat :=
  let c0_i32_14 : BitVec 32 := 0#32
  ![v18.toNat, 0]

def k0_chk70 (v18 : BitVec 32) : Prop :=
  (∀ a, (k0_off79 v18) a + S1x1024.size a ≤ S49152x1024.size a)
theorem k0_off79_inb : ∀ (v18 : BitVec 32) (k0_hw70 : k0_chk70 v18), ∀ a, (k0_off79 v18) a + S1x1024.size a ≤ S49152x1024.size a := fun v18 k0_hw70 => k0_hw70

def k0_off80 (k0_t6 : Fin k0_t6_loop.trips) : Fin 2 → Nat :=
  let c0_i32_4 : BitVec 32 := 0#32
  let c1_i32_6 : BitVec 32 := 1#32
  let arg8 : BitVec 32 := Scf.iv c0_i32_4 c1_i32_6 k0_t6
  let c0_i32_15 : BitVec 32 := 0#32
  ![arg8.toNat, 0]
def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]
-- ==== Reference.lean ====
abbrev S16384x2 : Shape := ⟨2, ![16384, 2]⟩
abbrev S32 : Shape := ⟨1, ![32]⟩
abbrev S16384x1024 : Shape := ⟨2, ![16384, 1024]⟩
abbrev S32768 : Shape := ⟨1, ![32768]⟩
abbrev S32768x1 : Shape := ⟨2, ![32768, 1]⟩
abbrev S1x32 : Shape := ⟨2, ![1, 32]⟩
abbrev S32768x32 : Shape := ⟨2, ![32768, 32]⟩
abbrev S_ : Shape := ⟨0, ![]⟩
abbrev S16384x1x1024 : Shape := ⟨3, ![16384, 1, 1024]⟩
abbrev S16384x2x1024 : Shape := ⟨3, ![16384, 2, 1024]⟩
abbrev S32768x1024 : Shape := ⟨2, ![32768, 1024]⟩
abbrev S49152x1024 : Shape := ⟨2, ![49152, 1024]⟩

abbrev nBuf : Space → Nat
  | .hbm => 84
  | .vmem => 0
  | .smem => 0
  | _ => 0

abbrev bufTy : (tb : Table) → Fin (tcTables nBuf tb) → BufTy
  | .hbm, ⟨0, _⟩ => ⟨S16384x2, .i32⟩
  | .hbm, ⟨1, _⟩ => ⟨S16384x2, .i32⟩
  | .hbm, ⟨2, _⟩ => ⟨S32, .i32⟩
  | .hbm, ⟨3, _⟩ => ⟨S16384x1024, .f32⟩
  | .hbm, ⟨4, _⟩ => ⟨S32768, .i32⟩
  | .hbm, ⟨5, _⟩ => ⟨S32768x1, .i32⟩
  | .hbm, ⟨6, _⟩ => ⟨S32, .i32⟩
  | .hbm, ⟨7, _⟩ => ⟨S1x32, .i32⟩
  | .hbm, ⟨8, _⟩ => ⟨S32768x32, .i32⟩
  | .hbm, ⟨9, _⟩ => ⟨S32768x32, .i32⟩
  | .hbm, ⟨10, _⟩ => ⟨S32768x32, .i1⟩
  | .hbm, ⟨11, _⟩ => ⟨S32768x32, .i32⟩
  | .hbm, ⟨12, _⟩ => ⟨S_, .i32⟩
  | .hbm, ⟨13, _⟩ => ⟨S_, .i32⟩
  | .hbm, ⟨14, _⟩ => ⟨S32768x32, .i32⟩
  | .hbm, ⟨15, _⟩ => ⟨S_, .i32⟩
  | .hbm, ⟨16, _⟩ => ⟨S32768x32, .i32⟩
  | .hbm, ⟨17, _⟩ => ⟨S32768x32, .i1⟩
  | .hbm, ⟨18, _⟩ => ⟨S_, .i32⟩
  | .hbm, ⟨19, _⟩ => ⟨S32768x32, .i32⟩
  | .hbm, ⟨20, _⟩ => ⟨S32768x32, .i32⟩
  | .hbm, ⟨21, _⟩ => ⟨S_, .i32⟩
  | .hbm, ⟨22, _⟩ => ⟨S_, .i32⟩
  | .hbm, ⟨23, _⟩ => ⟨S32768x32, .i32⟩
  | .hbm, ⟨24, _⟩ => ⟨S32768x32, .i32⟩
  | .hbm, ⟨25, _⟩ => ⟨S_, .i32⟩
  | .hbm, ⟨26, _⟩ => ⟨S32768, .i32⟩
  | .hbm, ⟨27, _⟩ => ⟨S1x32, .i32⟩
  | .hbm, ⟨28, _⟩ => ⟨S32, .i32⟩
  | .hbm, ⟨29, _⟩ => ⟨S_, .i32⟩
  | .hbm, ⟨30, _⟩ => ⟨S32, .i32⟩
  | .hbm, ⟨31, _⟩ => ⟨S32, .i32⟩
  | .hbm, ⟨32, _⟩ => ⟨S_, .i32⟩
  | .hbm, ⟨33, _⟩ => ⟨S32, .i32⟩
  | .hbm, ⟨34, _⟩ => ⟨S32, .i32⟩
  | .hbm, ⟨35, _⟩ => ⟨S_, .i32⟩
  | .hbm, ⟨36, _⟩ => ⟨S_, .i32⟩
  | .hbm, ⟨37, _⟩ => ⟨S32, .i32⟩
  | .hbm, ⟨38, _⟩ => ⟨S32, .i32⟩
  | .hbm, ⟨39, _⟩ => ⟨S32, .i32⟩
  | .hbm, ⟨40, _⟩ => ⟨S_, .i32⟩
  | .hbm, ⟨41, _⟩ => ⟨S32, .i32⟩
  | .hbm, ⟨42, _⟩ => ⟨S32, .i1⟩
  | .hbm, ⟨43, _⟩ => ⟨S32, .i32⟩
  | .hbm, ⟨44, _⟩ => ⟨S32, .i32⟩
  | .hbm, ⟨45, _⟩ => ⟨S_, .i32⟩
  | .hbm, ⟨46, _⟩ => ⟨S32, .i32⟩
  | .hbm, ⟨47, _⟩ => ⟨S32, .i1⟩
  | .hbm, ⟨48, _⟩ => ⟨S32, .i1⟩
  | .hbm, ⟨49, _⟩ => ⟨S_, .i32⟩
  | .hbm, ⟨50, _⟩ => ⟨S32, .i32⟩
  | .hbm, ⟨51, _⟩ => ⟨S32, .i32⟩
  | .hbm, ⟨52, _⟩ => ⟨S32, .i32⟩
  | .hbm, ⟨53, _⟩ => ⟨S_, .i32⟩
  | .hbm, ⟨54, _⟩ => ⟨S32, .i32⟩
  | .hbm, ⟨55, _⟩ => ⟨S32, .i32⟩
  | .hbm, ⟨56, _⟩ => ⟨S_, .i32⟩
  | .hbm, ⟨57, _⟩ => ⟨S_, .i32⟩
  | .hbm, ⟨58, _⟩ => ⟨S32, .i32⟩
  | .hbm, ⟨59, _⟩ => ⟨S32, .i32⟩
  | .hbm, ⟨60, _⟩ => ⟨S16384x1x1024, .f32⟩
  | .hbm, ⟨61, _⟩ => ⟨S16384x2x1024, .f32⟩
  | .hbm, ⟨62, _⟩ => ⟨S32768x1024, .f32⟩
  | .hbm, ⟨63, _⟩ => ⟨S_, .f32⟩
  | .hbm, ⟨64, _⟩ => ⟨S49152x1024, .f32⟩
  | .hbm, ⟨65, _⟩ => ⟨S_, .i32⟩
  | .hbm, ⟨66, _⟩ => ⟨S32768, .i32⟩
  | .hbm, ⟨67, _⟩ => ⟨S32768, .i1⟩
  | .hbm, ⟨68, _⟩ => ⟨S_, .i32⟩
  | .hbm, ⟨69, _⟩ => ⟨S32768, .i32⟩
  | .hbm, ⟨70, _⟩ => ⟨S32768, .i32⟩
  | .hbm, ⟨71, _⟩ => ⟨S32768, .i32⟩
  | .hbm, ⟨72, _⟩ => ⟨S32768x1, .i32⟩
  | .hbm, ⟨73, _⟩ => ⟨S32768, .i32⟩
  | .hbm, ⟨74, _⟩ => ⟨S32768, .i32⟩
  | .hbm, ⟨75, _⟩ => ⟨S_, .i32⟩
  | .hbm, ⟨76, _⟩ => ⟨S32768, .i32⟩
  | .hbm, ⟨77, _⟩ => ⟨S32768, .i1⟩
  | .hbm, ⟨78, _⟩ => ⟨S_, .i32⟩
  | .hbm, ⟨79, _⟩ => ⟨S32768, .i32⟩
  | .hbm, ⟨80, _⟩ => ⟨S32768, .i32⟩
  | .hbm, ⟨81, _⟩ => ⟨S32768, .i32⟩
  | .hbm, ⟨82, _⟩ => ⟨S32768x1, .i32⟩
  | .hbm, ⟨83, _⟩ => ⟨S49152x1024, .f32⟩
  | _, _ => ⟨S16384x2, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_call0_call0_c : Ref sig .tc := ⟨.hbm, 12, rfl⟩
abbrev main_call0_call0_v0 : Ref sig .tc := ⟨.hbm, 13, rfl⟩
abbrev main_v8 : Ref sig .tc := ⟨.hbm, 14, rfl⟩
abbrev main_c : Ref sig .tc := ⟨.hbm, 15, rfl⟩
abbrev main_v9 : Ref sig .tc := ⟨.hbm, 16, rfl⟩
abbrev main_v10 : Ref sig .tc := ⟨.hbm, 17, rfl⟩
abbrev main_c_0 : Ref sig .tc := ⟨.hbm, 18, rfl⟩
abbrev main_v11 : Ref sig .tc := ⟨.hbm, 19, rfl⟩
abbrev main_v12 : Ref sig .tc := ⟨.hbm, 20, rfl⟩
abbrev main_c_1 : Ref sig .tc := ⟨.hbm, 21, rfl⟩
abbrev main_call1_v0 : Ref sig .tc := ⟨.hbm, 22, rfl⟩
abbrev main_call1_v1 : Ref sig .tc := ⟨.hbm, 23, rfl⟩
abbrev main_v13 : Ref sig .tc := ⟨.hbm, 24, rfl⟩
abbrev main_c_2 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_c_3 : Ref sig .tc := ⟨.hbm, 29, rfl⟩
abbrev main_v17 : Ref sig .tc := ⟨.hbm, 30, rfl⟩
abbrev main_v18 : Ref sig .tc := ⟨.hbm, 31, rfl⟩
abbrev main_c_4 : Ref sig .tc := ⟨.hbm, 32, rfl⟩
abbrev main_v19 : Ref sig .tc := ⟨.hbm, 33, rfl⟩
abbrev main_v20 : Ref sig .tc := ⟨.hbm, 34, rfl⟩
abbrev main_c_5 : Ref sig .tc := ⟨.hbm, 35, rfl⟩
abbrev main_call2_v0 : Ref sig .tc := ⟨.hbm, 36, rfl⟩
abbrev main_call2_v1 : Ref sig .tc := ⟨.hbm, 37, rfl⟩
abbrev main_call2_v2 : Ref sig .tc := ⟨.hbm, 38, rfl⟩
abbrev main_call2_v3 : Ref sig .tc := ⟨.hbm, 39, rfl⟩
abbrev main_call2_v4 : Ref sig .tc := ⟨.hbm, 40, rfl⟩
abbrev main_call2_v5 : Ref sig .tc := ⟨.hbm, 41, rfl⟩
abbrev main_call2_v6 : Ref sig .tc := ⟨.hbm, 42, rfl⟩
abbrev main_call2_v7 : Ref sig .tc := ⟨.hbm, 43, rfl⟩
abbrev main_call2_v8 : Ref sig .tc := ⟨.hbm, 44, rfl⟩
abbrev main_call2_c : Ref sig .tc := ⟨.hbm, 45, rfl⟩
abbrev main_call2_v9 : Ref sig .tc := ⟨.hbm, 46, rfl⟩
abbrev main_call2_v10 : Ref sig .tc := ⟨.hbm, 47, rfl⟩
abbrev main_call2_v11 : Ref sig .tc := ⟨.hbm, 48, rfl⟩
abbrev main_call2_c_0 : Ref sig .tc := ⟨.hbm, 49, rfl⟩
abbrev main_call2_v12 : Ref sig .tc := ⟨.hbm, 50, rfl⟩
abbrev main_call2_v13 : Ref sig .tc := ⟨.hbm, 51, rfl⟩
abbrev main_v21 : Ref sig .tc := ⟨.hbm, 52, rfl⟩
abbrev main_c_6 : Ref sig .tc := ⟨.hbm, 53, rfl⟩
abbrev main_v22 : Ref sig .tc := ⟨.hbm, 54, rfl⟩
abbrev main_v23 : Ref sig .tc := ⟨.hbm, 55, rfl⟩
abbrev main_call3_call0_c : Ref sig .tc := ⟨.hbm, 56, rfl⟩
abbrev main_call3_call0_v0 : Ref sig .tc := ⟨.hbm, 57, rfl⟩
abbrev main_v24 : Ref sig .tc := ⟨.hbm, 58, rfl⟩
abbrev main_v25 : Ref sig .tc := ⟨.hbm, 59, rfl⟩
abbrev main_v26 : Ref sig .tc := ⟨.hbm, 60, rfl⟩
abbrev main_v27 : Ref sig .tc := ⟨.hbm, 61, rfl⟩
abbrev main_v28 : Ref sig .tc := ⟨.hbm, 62, rfl⟩
abbrev main_cst : Ref sig .tc := ⟨.hbm, 63, rfl⟩
abbrev main_v29 : Ref sig .tc := ⟨.hbm, 64, rfl⟩
abbrev main_c_7 : Ref sig .tc := ⟨.hbm, 65, rfl⟩
abbrev main_v30 : Ref sig .tc := ⟨.hbm, 66, rfl⟩
abbrev main_v31 : Ref sig .tc := ⟨.hbm, 67, rfl⟩
abbrev main_c_8 : Ref sig .tc := ⟨.hbm, 68, rfl⟩
abbrev main_v32 : Ref sig .tc := ⟨.hbm, 69, rfl⟩
abbrev main_v33 : Ref sig .tc := ⟨.hbm, 70, rfl⟩
abbrev main_v34 : Ref sig .tc := ⟨.hbm, 71, rfl⟩
abbrev main_v35 : Ref sig .tc := ⟨.hbm, 72, rfl⟩
abbrev main_v36 : Ref sig .tc := ⟨.hbm, 73, rfl⟩
abbrev main_v37 : Ref sig .tc := ⟨.hbm, 74, rfl⟩
abbrev main_c_9 : Ref sig .tc := ⟨.hbm, 75, rfl⟩
abbrev main_v38 : Ref sig .tc := ⟨.hbm, 76, rfl⟩
abbrev main_v39 : Ref sig .tc := ⟨.hbm, 77, rfl⟩
abbrev main_c_10 : Ref sig .tc := ⟨.hbm, 78, rfl⟩
abbrev main_v40 : Ref sig .tc := ⟨.hbm, 79, rfl⟩
abbrev main_v41 : Ref sig .tc := ⟨.hbm, 80, rfl⟩
abbrev main_v42 : Ref sig .tc := ⟨.hbm, 81, rfl⟩
abbrev main_v43 : Ref sig .tc := ⟨.hbm, 82, rfl⟩
abbrev main_v44 : Ref sig .tc := ⟨.hbm, 83, rfl⟩

abbrev nD : Nat := 1
abbrev τ : Topo := Topo.v7x

variable {F : FTy → Type} [FloatOps F]
-- ==== Kernel2.lean ====
abbrev S2x8192x1024 : Shape := ⟨3, ![2, 8192, 1024]⟩
abbrev S2x1x1024 : Shape := ⟨3, ![2, 1, 1024]⟩
abbrev S1024x7456 : Shape := ⟨2, ![1024, 7456]⟩
abbrev S1024x1024 : Shape := ⟨2, ![1024, 1024]⟩
abbrev S1x1024x1024 : Shape := ⟨3, ![1, 1024, 1024]⟩
abbrev S7x1024x1024 : Shape := ⟨3, ![7, 1024, 1024]⟩
abbrev S1024x288 : Shape := ⟨2, ![1024, 288]⟩
abbrev S_ : Shape := ⟨0, ![]⟩
abbrev S1024x384 : Shape := ⟨2, ![1024, 384]⟩
abbrev S2x8192x7168 : Shape := ⟨3, ![2, 8192, 7168]⟩
abbrev S2x8192x384 : Shape := ⟨3, ![2, 8192, 384]⟩
abbrev S1x1x1024 : Shape := ⟨3, ![1, 1, 1024]⟩
abbrev S1x1024x384 : Shape := ⟨3, ![1, 1024, 384]⟩
abbrev S1024 : Shape := ⟨1, ![1024]⟩
abbrev S1024x1 : Shape := ⟨2, ![1024, 1]⟩
abbrev S1x1024 : Shape := ⟨2, ![1, 1024]⟩

abbrev nBuf : Space → Nat
  | .hbm => 27
  | .vmem => 13
  | .smem => 0
  | _ => 0

abbrev bufTy : (tb : Table) → Fin (tcTables nBuf tb) → BufTy
  | .hbm, ⟨0, _⟩ => ⟨S2x8192x1024, .f32⟩
  | .hbm, ⟨1, _⟩ => ⟨S2x1x1024, .f32⟩
  | .hbm, ⟨2, _⟩ => ⟨S2x1x1024, .f32⟩
  | .hbm, ⟨3, _⟩ => ⟨S1024x7456, .f32⟩
  | .hbm, ⟨4, _⟩ => ⟨S1024x1024, .f32⟩
  | .hbm, ⟨5, _⟩ => ⟨S1024x1024, .f32⟩
  | .hbm, ⟨6, _⟩ => ⟨S1024x1024, .f32⟩
  | .hbm, ⟨7, _⟩ => ⟨S1024x1024, .f32⟩
  | .hbm, ⟨8, _⟩ => ⟨S1024x1024, .f32⟩
  | .hbm, ⟨9, _⟩ => ⟨S1024x1024, .f32⟩
  | .hbm, ⟨10, _⟩ => ⟨S1024x1024, .f32⟩
  | .hbm, ⟨11, _⟩ => ⟨S1x1024x1024, .f32⟩
  | .hbm, ⟨12, _⟩ => ⟨S1x1024x1024, .f32⟩
  | .hbm, ⟨13, _⟩ => ⟨S1x1024x1024, .f32⟩
  | .hbm, ⟨14, _⟩ => ⟨S1x1024x1024, .f32⟩
  | .hbm, ⟨15, _⟩ => ⟨S1x1024x1024, .f32⟩
  | .hbm, ⟨16, _⟩ => ⟨S1x1024x1024, .f32⟩
  | .hbm, ⟨17, _⟩ => ⟨S1x1024x1024, .f32⟩
  | .hbm, ⟨18, _⟩ => ⟨S7x1024x1024, .f32⟩
  | .hbm, ⟨19, _⟩ => ⟨S7x1024x1024, .bf16⟩
  | .hbm, ⟨20, _⟩ => ⟨S1024x288, .f32⟩
  | .hbm, ⟨21, _⟩ => ⟨S_, .i32⟩
  | .hbm, ⟨22, _⟩ => ⟨S_, .f32⟩
  | .hbm, ⟨23, _⟩ => ⟨S1024x384, .f32⟩
  | .hbm, ⟨24, _⟩ => ⟨S1024x384, .bf16⟩
  | .hbm, ⟨25, _⟩ => ⟨S2x8192x7168, .f32⟩
  | .hbm, ⟨26, _⟩ => ⟨S2x8192x384, .f32⟩
  | .local _ .vmem, ⟨0, _⟩ => ⟨S1x1024x1024, .f32⟩
  | .local _ .vmem, ⟨1, _⟩ => ⟨S1x1024x1024, .f32⟩
  | .local _ .vmem, ⟨2, _⟩ => ⟨S1x1x1024, .f32⟩
  | .local _ .vmem, ⟨3, _⟩ => ⟨S1x1x1024, .f32⟩
  | .local _ .vmem, ⟨4, _⟩ => ⟨S1x1x1024, .f32⟩
  | .local _ .vmem, ⟨5, _⟩ => ⟨S1x1x1024, .f32⟩
  | .local _ .vmem, ⟨6, _⟩ => ⟨S7x1024x1024, .bf16⟩
  | .local _ .vmem, ⟨7, _⟩ => ⟨S1024x384, .bf16⟩
  | .local _ .vmem, ⟨8, _⟩ => ⟨S1x1024x1024, .f32⟩
  | .local _ .vmem, ⟨9, _⟩ => ⟨S1x1024x1024, .f32⟩
  | .local _ .vmem, ⟨10, _⟩ => ⟨S1x1024x384, .f32⟩
  | .local _ .vmem, ⟨11, _⟩ => ⟨S1x1024x384, .f32⟩
  | .local _ .vmem, ⟨12, _⟩ => ⟨S1024x1024, .bf16⟩
  | _, _ => ⟨S2x8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_c : Ref sig .tc := ⟨.hbm, 21, rfl⟩
abbrev main_call0_v0 : Ref sig .tc := ⟨.hbm, 22, rfl⟩
abbrev main_v17 : Ref sig .tc := ⟨.hbm, 23, rfl⟩
abbrev main_v18 : Ref sig .tc := ⟨.hbm, 24, rfl⟩
abbrev main_v19_0 : Ref sig .tc := ⟨.hbm, 25, rfl⟩
abbrev main_v19_1 : Ref sig .tc := ⟨.hbm, 26, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_scratch0 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem5_1 : DmaSem sig := 9
abbrev cc0_sem6_0 : DmaSem sig := 10
abbrev cc0_sem6_1 : DmaSem sig := 11

abbrev nD : Nat := 1
abbrev τ : Topo := Topo.v7x

variable {F : FTy → Type} [FloatOps F]

abbrev grid0 : Pipeline.Grid := ⟨3, ![2, 8, 8], ![false, false, false]⟩

def k0_cond2 (i : grid0.Coords) : BitVec 1 :=
  let arg2 : BitVec 32 := BitVec.ofNat 32 (i 2).val
  let c7_i32 : BitVec 32 := 7#32
  let v3 : BitVec 1 := Scalar.cmpi .slt arg2 c7_i32
  let v4 : BitVec 32 := Scalar.extui v3
  let c0_i32_1 : BitVec 32 := 0#32
  let v5 : BitVec 1 := Scalar.cmpi .ne v4 c0_i32_1
  v5

def k0_off1 (i : grid0.Coords) : Fin 3 → Nat :=
  let arg2 : BitVec 32 := BitVec.ofNat 32 (i 2).val
  let v10 : Index := Scalar.indexCast arg2
  let c0_5 : Index := 0#32
  let c0_6 : Index := 0#32
  ![v10.toNat, 0, 0]
def k0_cond3 (i : grid0.Coords) : BitVec 1 :=
  let arg2 : BitVec 32 := BitVec.ofNat 32 (i 2).val
  let c7_i32_2 : BitVec 32 := 7#32
  let v6 : BitVec 1 := Scalar.cmpi .eq arg2 c7_i32_2
  let v7 : BitVec 32 := Scalar.extui v6
  let c0_i32_3 : BitVec 32 := 0#32
  let v8 : BitVec 1 := Scalar.cmpi .ne v7 c0_i32_3
  v8

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c6_i32 : BitVec 32 := 6#32
  let v0 : BitVec 32 := Scalar.minsi arg2 c6_i32
  let c0_i32 : BitVec 32 := 0#32
  ![arg0.toNat, arg1.toNat, v0.toNat]

def cc0_transform_6 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

abbrev stage0_0 : Fin 2 → Memref sig .tc .vmem S1x1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, false]

abbrev stage0_1 : Fin 2 → Memref sig .tc .vmem S1x1x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, false]

abbrev stage0_2 : Fin 2 → Memref sig .tc .vmem S1x1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false, false]

abbrev stage0_3 : Fin 1 → Memref sig .tc .vmem S7x1024x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false, false]

abbrev stage0_4 : Fin 1 → Memref sig .tc .vmem S1024x384 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false, false]

abbrev stage0_5 : Fin 2 → Memref sig .tc .vmem S1x1024x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, true]

abbrev stage0_6 : Fin 2 → Memref sig .tc .vmem S1x1024x384 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true, false]
-- ==== Reference2Ideal.lean ====
abbrev S2x8192x1024 : Shape := ⟨3, ![2, 8192, 1024]⟩
abbrev S2x1x1024 : Shape := ⟨3, ![2, 1, 1024]⟩
abbrev S1024x7456 : Shape := ⟨2, ![1024, 7456]⟩
abbrev S_ : Shape := ⟨0, ![]⟩
abbrev S2x8192 : Shape := ⟨2, ![2, 8192]⟩
abbrev S2x8192x1 : Shape := ⟨3, ![2, 8192, 1]⟩
abbrev S2x8192x7456 : Shape := ⟨3, ![2, 8192, 7456]⟩
abbrev S2x8192x3072 : Shape := ⟨3, ![2, 8192, 3072]⟩
abbrev S2x8192x288 : Shape := ⟨3, ![2, 8192, 288]⟩
abbrev S2x8192x4096 : Shape := ⟨3, ![2, 8192, 4096]⟩
abbrev S2x8192x7168 : Shape := ⟨3, ![2, 8192, 7168]⟩
abbrev S2x8192x384 : Shape := ⟨3, ![2, 8192, 384]⟩

abbrev nBuf : Space → Nat
  | .hbm => 42
  | .vmem => 0
  | .smem => 0
  | _ => 0

abbrev bufTy : (tb : Table) → Fin (tcTables nBuf tb) → BufTy
  | .hbm, ⟨0, _⟩ => ⟨S2x8192x1024, .f32⟩
  | .hbm, ⟨1, _⟩ => ⟨S2x1x1024, .f32⟩
  | .hbm, ⟨2, _⟩ => ⟨S2x1x1024, .f32⟩
  | .hbm, ⟨3, _⟩ => ⟨S1024x7456, .f32⟩
  | .hbm, ⟨4, _⟩ => ⟨S_, .f32⟩
  | .hbm, ⟨5, _⟩ => ⟨S2x8192, .f32⟩
  | .hbm, ⟨6, _⟩ => ⟨S2x8192x1, .f32⟩
  | .hbm, ⟨7, _⟩ => ⟨S_, .f32⟩
  | .hbm, ⟨8, _⟩ => ⟨S2x8192x1, .f32⟩
  | .hbm, ⟨9, _⟩ => ⟨S2x8192x1, .f32⟩
  | .hbm, ⟨10, _⟩ => ⟨S2x8192x1024, .f32⟩
  | .hbm, ⟨11, _⟩ => ⟨S2x8192x1024, .f32⟩
  | .hbm, ⟨12, _⟩ => ⟨S2x8192x1024, .f32⟩
  | .hbm, ⟨13, _⟩ => ⟨S_, .f32⟩
  | .hbm, ⟨14, _⟩ => ⟨S2x8192, .f32⟩
  | .hbm, ⟨15, _⟩ => ⟨S2x8192x1, .f32⟩
  | .hbm, ⟨16, _⟩ => ⟨S_, .f32⟩
  | .hbm, ⟨17, _⟩ => ⟨S2x8192x1, .f32⟩
  | .hbm, ⟨18, _⟩ => ⟨S2x8192x1, .f32⟩
  | .hbm, ⟨19, _⟩ => ⟨S2x8192x1024, .f32⟩
  | .hbm, ⟨20, _⟩ => ⟨S2x8192x1024, .f32⟩
  | .hbm, ⟨21, _⟩ => ⟨S_, .f32⟩
  | .hbm, ⟨22, _⟩ => ⟨S2x8192x1, .f32⟩
  | .hbm, ⟨23, _⟩ => ⟨S2x8192x1, .f32⟩
  | .hbm, ⟨24, _⟩ => ⟨S2x8192x1, .f32⟩
  | .hbm, ⟨25, _⟩ => ⟨S2x8192x1024, .f32⟩
  | .hbm, ⟨26, _⟩ => ⟨S2x8192x1024, .f32⟩
  | .hbm, ⟨27, _⟩ => ⟨S_, .f32⟩
  | .hbm, ⟨28, _⟩ => ⟨S2x1x1024, .f32⟩
  | .hbm, ⟨29, _⟩ => ⟨S2x1x1024, .f32⟩
  | .hbm, ⟨30, _⟩ => ⟨S2x8192x1024, .f32⟩
  | .hbm, ⟨31, _⟩ => ⟨S2x8192x1024, .f32⟩
  | .hbm, ⟨32, _⟩ => ⟨S2x8192x1024, .f32⟩
  | .hbm, ⟨33, _⟩ => ⟨S2x8192x1024, .f32⟩
  | .hbm, ⟨34, _⟩ => ⟨S2x8192x7456, .f32⟩
  | .hbm, ⟨35, _⟩ => ⟨S2x8192x3072, .f32⟩
  | .hbm, ⟨36, _⟩ => ⟨S2x8192x288, .f32⟩
  | .hbm, ⟨37, _⟩ => ⟨S2x8192x4096, .f32⟩
  | .hbm, ⟨38, _⟩ => ⟨S2x8192x7168, .f32⟩
  | .hbm, ⟨39, _⟩ => ⟨S_, .i32⟩
  | .hbm, ⟨40, _⟩ => ⟨S_, .f32⟩
  | .hbm, ⟨41, _⟩ => ⟨S2x8192x384, .f32⟩
  | _, _ => ⟨S2x8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst_1 : Ref sig .tc := ⟨.hbm, 13, rfl⟩
abbrev main_v7 : Ref sig .tc := ⟨.hbm, 14, rfl⟩
abbrev main_v8 : Ref sig .tc := ⟨.hbm, 15, rfl⟩
abbrev main_cst_2 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_cst_3 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_cst_4 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_c : Ref sig .tc := ⟨.hbm, 39, rfl⟩
abbrev main_call0_v0 : Ref sig .tc := ⟨.hbm, 40, rfl⟩
abbrev main_v29 : Ref sig .tc := ⟨.hbm, 41, rfl⟩

abbrev nD : Nat := 1
abbrev τ : Topo := Topo.v7x

variable {F : FTy → Type} [FloatOps F]
-- ==== Kernel3.lean ====
abbrev S16384x2 : Shape := ⟨2, ![16384, 2]⟩
abbrev S32 : Shape := ⟨1, ![32]⟩
abbrev S49152x1024 : Shape := ⟨2, ![49152, 1024]⟩
abbrev S16384x128 : Shape := ⟨2, ![16384, 128]⟩
abbrev S2x8192x1024 : Shape := ⟨3, ![2, 8192, 1024]⟩
abbrev S2x1x1024 : Shape := ⟨3, ![2, 1, 1024]⟩
abbrev S1024 : Shape := ⟨1, ![1024]⟩
abbrev S_ : Shape := ⟨0, ![]⟩
abbrev S16384x2x1 : Shape := ⟨3, ![16384, 2, 1]⟩
abbrev S1x1x32 : Shape := ⟨3, ![1, 1, 32]⟩
abbrev S16384x2x32 : Shape := ⟨3, ![16384, 2, 32]⟩
abbrev S32768 : Shape := ⟨1, ![32768]⟩
abbrev S1x1024 : Shape := ⟨2, ![1, 1024]⟩
abbrev S1x1024x1024 : Shape := ⟨3, ![1, 1024, 1024]⟩
abbrev S1024x128 : Shape := ⟨2, ![1024, 128]⟩
abbrev S1x1x1024 : Shape := ⟨3, ![1, 1, 1024]⟩
abbrev S2x1024x1024 : Shape := ⟨3, ![2, 1024, 1024]⟩
abbrev S1 : Shape := ⟨1, ![1]⟩
abbrev S1024x1 : Shape := ⟨2, ![1024, 1]⟩
abbrev S1024x1024 : Shape := ⟨2, ![1024, 1024]⟩

abbrev nBuf : Space → Nat
  | .hbm => 57
  | .vmem => 11
  | .smem => 1
  | _ => 0

abbrev bufTy : (tb : Table) → Fin (tcTables nBuf tb) → BufTy
  | .hbm, ⟨0, _⟩ => ⟨S16384x2, .i32⟩
  | .hbm, ⟨1, _⟩ => ⟨S16384x2, .i32⟩
  | .hbm, ⟨2, _⟩ => ⟨S32, .i32⟩
  | .hbm, ⟨3, _⟩ => ⟨S49152x1024, .f32⟩
  | .hbm, ⟨4, _⟩ => ⟨S16384x128, .f32⟩
  | .hbm, ⟨5, _⟩ => ⟨S2x8192x1024, .f32⟩
  | .hbm, ⟨6, _⟩ => ⟨S2x1x1024, .f32⟩
  | .hbm, ⟨7, _⟩ => ⟨S1024, .f32⟩
  | .hbm, ⟨8, _⟩ => ⟨S1024, .f32⟩
  | .hbm, ⟨9, _⟩ => ⟨S_, .i32⟩
  | .hbm, ⟨10, _⟩ => ⟨S32, .i32⟩
  | .hbm, ⟨11, _⟩ => ⟨S32, .i32⟩
  | .hbm, ⟨12, _⟩ => ⟨S_, .i32⟩
  | .hbm, ⟨13, _⟩ => ⟨S32, .i32⟩
  | .hbm, ⟨14, _⟩ => ⟨S32, .i32⟩
  | .hbm, ⟨15, _⟩ => ⟨S_, .i32⟩
  | .hbm, ⟨16, _⟩ => ⟨S_, .i32⟩
  | .hbm, ⟨17, _⟩ => ⟨S32, .i32⟩
  | .hbm, ⟨18, _⟩ => ⟨S32, .i32⟩
  | .hbm, ⟨19, _⟩ => ⟨S32, .i32⟩
  | .hbm, ⟨20, _⟩ => ⟨S_, .i32⟩
  | .hbm, ⟨21, _⟩ => ⟨S32, .i32⟩
  | .hbm, ⟨22, _⟩ => ⟨S32, .i1⟩
  | .hbm, ⟨23, _⟩ => ⟨S32, .i32⟩
  | .hbm, ⟨24, _⟩ => ⟨S32, .i32⟩
  | .hbm, ⟨25, _⟩ => ⟨S_, .i32⟩
  | .hbm, ⟨26, _⟩ => ⟨S32, .i32⟩
  | .hbm, ⟨27, _⟩ => ⟨S32, .i1⟩
  | .hbm, ⟨28, _⟩ => ⟨S32, .i1⟩
  | .hbm, ⟨29, _⟩ => ⟨S_, .i32⟩
  | .hbm, ⟨30, _⟩ => ⟨S32, .i32⟩
  | .hbm, ⟨31, _⟩ => ⟨S32, .i32⟩
  | .hbm, ⟨32, _⟩ => ⟨S32, .i32⟩
  | .hbm, ⟨33, _⟩ => ⟨S_, .i32⟩
  | .hbm, ⟨34, _⟩ => ⟨S32, .i32⟩
  | .hbm, ⟨35, _⟩ => ⟨S32, .i32⟩
  | .hbm, ⟨36, _⟩ => ⟨S_, .i32⟩
  | .hbm, ⟨37, _⟩ => ⟨S_, .i32⟩
  | .hbm, ⟨38, _⟩ => ⟨S32, .i32⟩
  | .hbm, ⟨39, _⟩ => ⟨S32, .i32⟩
  | .hbm, ⟨40, _⟩ => ⟨S16384x2x1, .i32⟩
  | .hbm, ⟨41, _⟩ => ⟨S32, .i32⟩
  | .hbm, ⟨42, _⟩ => ⟨S1x1x32, .i32⟩
  | .hbm, ⟨43, _⟩ => ⟨S16384x2x32, .i32⟩
  | .hbm, ⟨44, _⟩ => ⟨S16384x2x32, .i32⟩
  | .hbm, ⟨45, _⟩ => ⟨S16384x2x32, .i1⟩
  | .hbm, ⟨46, _⟩ => ⟨S_, .i32⟩
  | .hbm, ⟨47, _⟩ => ⟨S_, .i32⟩
  | .hbm, ⟨48, _⟩ => ⟨S16384x2x32, .i32⟩
  | .hbm, ⟨49, _⟩ => ⟨S16384x2x32, .i32⟩
  | .hbm, ⟨50, _⟩ => ⟨S16384x2x32, .i32⟩
  | .hbm, ⟨51, _⟩ => ⟨S_, .i32⟩
  | .hbm, ⟨52, _⟩ => ⟨S16384x2, .i32⟩
  | .hbm, ⟨53, _⟩ => ⟨S16384x2, .i32⟩
  | .hbm, ⟨54, _⟩ => ⟨S1x1024, .f32⟩
  | .hbm, ⟨55, _⟩ => ⟨S1x1024, .f32⟩
  | .hbm, ⟨56, _⟩ => ⟨S2x8192x1024, .f32⟩
  | .local _ .vmem, ⟨0, _⟩ => ⟨S1x1024x1024, .f32⟩
  | .local _ .vmem, ⟨1, _⟩ => ⟨S1x1024x1024, .f32⟩
  | .local _ .vmem, ⟨2, _⟩ => ⟨S1024x128, .f32⟩
  | .local _ .vmem, ⟨3, _⟩ => ⟨S1024x128, .f32⟩
  | .local _ .vmem, ⟨4, _⟩ => ⟨S1x1x1024, .f32⟩
  | .local _ .vmem, ⟨5, _⟩ => ⟨S1x1x1024, .f32⟩
  | .local _ .vmem, ⟨6, _⟩ => ⟨S1x1024, .f32⟩
  | .local _ .vmem, ⟨7, _⟩ => ⟨S1x1024, .f32⟩
  | .local _ .vmem, ⟨8, _⟩ => ⟨S1x1024x1024, .f32⟩
  | .local _ .vmem, ⟨9, _⟩ => ⟨S1x1024x1024, .f32⟩
  | .local _ .vmem, ⟨10, _⟩ => ⟨S2x1024x1024, .f32⟩
  | .local _ .smem, ⟨0, _⟩ => ⟨S32768, .i32⟩
  | _, _ => ⟨S16384x2, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_c : Ref sig .tc := ⟨.hbm, 9, rfl⟩
abbrev main_v0 : Ref sig .tc := ⟨.hbm, 10, rfl⟩
abbrev main_v1 : Ref sig .tc := ⟨.hbm, 11, rfl⟩
abbrev main_c_0 : Ref sig .tc := ⟨.hbm, 12, rfl⟩
abbrev main_v2 : Ref sig .tc := ⟨.hbm, 13, rfl⟩
abbrev main_v3 : Ref sig .tc := ⟨.hbm, 14, rfl⟩
abbrev main_c_1 : Ref sig .tc := ⟨.hbm, 15, rfl⟩
abbrev main_call0_v0 : Ref sig .tc := ⟨.hbm, 16, rfl⟩
abbrev main_call0_v1 : Ref sig .tc := ⟨.hbm, 17, rfl⟩
abbrev main_call0_v2 : Ref sig .tc := ⟨.hbm, 18, rfl⟩
abbrev main_call0_v3 : Ref sig .tc := ⟨.hbm, 19, rfl⟩
abbrev main_call0_v4 : Ref sig .tc := ⟨.hbm, 20, rfl⟩
abbrev main_call0_v5 : Ref sig .tc := ⟨.hbm, 21, rfl⟩
abbrev main_call0_v6 : Ref sig .tc := ⟨.hbm, 22, rfl⟩
abbrev main_call0_v7 : Ref sig .tc := ⟨.hbm, 23, rfl⟩
abbrev main_call0_v8 : Ref sig .tc := ⟨.hbm, 24, rfl⟩
abbrev main_call0_c : Ref sig .tc := ⟨.hbm, 25, rfl⟩
abbrev main_call0_v9 : Ref sig .tc := ⟨.hbm, 26, rfl⟩
abbrev main_call0_v10 : Ref sig .tc := ⟨.hbm, 27, rfl⟩
abbrev main_call0_v11 : Ref sig .tc := ⟨.hbm, 28, rfl⟩
abbrev main_call0_c_0 : Ref sig .tc := ⟨.hbm, 29, rfl⟩
abbrev main_call0_v12 : Ref sig .tc := ⟨.hbm, 30, rfl⟩
abbrev main_call0_v13 : Ref sig .tc := ⟨.hbm, 31, rfl⟩
abbrev main_v4 : Ref sig .tc := ⟨.hbm, 32, rfl⟩
abbrev main_c_2 : Ref sig .tc := ⟨.hbm, 33, rfl⟩
abbrev main_v5 : Ref sig .tc := ⟨.hbm, 34, rfl⟩
abbrev main_v6 : Ref sig .tc := ⟨.hbm, 35, rfl⟩
abbrev main_call1_call0_c : Ref sig .tc := ⟨.hbm, 36, rfl⟩
abbrev main_call1_call0_v0 : Ref sig .tc := ⟨.hbm, 37, rfl⟩
abbrev main_v7 : Ref sig .tc := ⟨.hbm, 38, rfl⟩
abbrev main_v8 : Ref sig .tc := ⟨.hbm, 39, rfl⟩
abbrev main_v9 : Ref sig .tc := ⟨.hbm, 40, rfl⟩
abbrev main_v10 : Ref sig .tc := ⟨.hbm, 41, rfl⟩
abbrev main_v11 : Ref sig .tc := ⟨.hbm, 42, rfl⟩
abbrev main_v12 : Ref sig .tc := ⟨.hbm, 43, rfl⟩
abbrev main_v13 : Ref sig .tc := ⟨.hbm, 44, rfl⟩
abbrev main_v14 : Ref sig .tc := ⟨.hbm, 45, rfl⟩
abbrev main_c_3 : Ref sig .tc := ⟨.hbm, 46, rfl⟩
abbrev main_call2_v0 : Ref sig .tc := ⟨.hbm, 47, rfl⟩
abbrev main_call2_v1 : Ref sig .tc := ⟨.hbm, 48, rfl⟩
abbrev main_call2_v2 : Ref sig .tc := ⟨.hbm, 49, rfl⟩
abbrev main_v15 : Ref sig .tc := ⟨.hbm, 50, rfl⟩
abbrev main_c_4 : Ref sig .tc := ⟨.hbm, 51, rfl⟩
abbrev main_v16 : Ref sig .tc := ⟨.hbm, 52, rfl⟩
abbrev main_v17 : Ref sig .tc := ⟨.hbm, 53, rfl⟩
abbrev main_v19 : Ref sig .tc := ⟨.hbm, 54, rfl⟩
abbrev main_v20 : Ref sig .tc := ⟨.hbm, 55, rfl⟩
abbrev main_v21 : Ref sig .tc := ⟨.hbm, 56, rfl⟩
abbrev main_v18 : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_scratch0 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨2, ![2, 8], ![false, false]⟩

abbrev pre0 : Pipeline.Prefetch sig := ⟨1, ![main_v18.idx], fun | 0 => main_v18.names | ⟨_ + 1, h⟩ => absurd h (Nat.not_lt.2 (Nat.le_add_left _ _)), fun | 0 => rfl | ⟨_ + 1, h⟩ => absurd h (Nat.not_lt.2 (Nat.le_add_left _ _))⟩

@[reducible] def k0_t1_loop : Scf.Loop 32 :=
  let c0_i32 : BitVec 32 := 0#32
  let c1024_i32_0 : BitVec 32 := 1024#32
  let v4 : BitVec 32 := Scalar.addi c0_i32 c1024_i32_0
  let c1_i32 : BitVec 32 := 1#32
  ⟨c0_i32, v4, c1_i32⟩
def k0_off1 (i : grid0.Coords) (k0_t1 : Fin k0_t1_loop.trips) : Fin 1 → Nat :=
  let arg0 : BitVec 32 := BitVec.ofNat 32 (i 0).val
  let c8_i32 : BitVec 32 := 8#32
  let v0 : BitVec 32 := Scalar.muli arg0 c8_i32
  let arg1 : BitVec 32 := BitVec.ofNat 32 (i 1).val
  let v1 : BitVec 32 := Scalar.addi v0 arg1
  let c1024_i32 : BitVec 32 := 1024#32
  let v2 : BitVec 32 := Scalar.muli v1 c1024_i32
  let c2_i32 : BitVec 32 := 2#32
  let v3 : BitVec 32 := Scalar.muli v2 c2_i32
  let c0_i32 : BitVec 32 := 0#32
  let c1_i32 : BitVec 32 := 1#32
  let arg12 : BitVec 32 := Scf.iv c0_i32 c1_i32 k0_t1
  let c2_i32_30 : BitVec 32 := 2#32
  let v54 : BitVec 32 := Scalar.muli arg12 c2_i32_30
  let v55 : BitVec 32 := Scalar.addi v3 v54
  let c0_i32_31 : BitVec 32 := 0#32
  let v56 : BitVec 32 := Scalar.addi v55 c0_i32_31
  let v57 : Index := Scalar.indexCast v56
  ![v57.toNat]
def k0_off2 (k0_t1 : Fin k0_t1_loop.trips) : Fin 3 → Nat :=
  let c0_i32_32 : BitVec 32 := 0#32
  let c0_i32 : BitVec 32 := 0#32
  let c1_i32 : BitVec 32 := 1#32
  let arg12 : BitVec 32 := Scf.iv c0_i32 c1_i32 k0_t1
  let c0_i32_33 : BitVec 32 := 0#32
  ![0, arg12.toNat, 0]
def k0_off3 (v58 : BitVec 32) : Fin 2 → Nat :=
  let c0_i32_34 : BitVec 32 := 0#32
  ![v58.toNat, 0]

def k0_chk1 (v58 : BitVec 32) : Prop :=
  (∀ a, (k0_off3 v58) a + S1x1024.size a ≤ S49152x1024.size a)
theorem k0_off3_inb : ∀ (v58 : BitVec 32) (k0_hw1 : k0_chk1 v58), ∀ a, (k0_off3 v58) a + S1x1024.size a ≤ S49152x1024.size a := fun v58 k0_hw1 => k0_hw1

def k0_off4 (i : grid0.Coords) (k0_t1 : Fin k0_t1_loop.trips) : Fin 1 → Nat :=
  let arg0 : BitVec 32 := BitVec.ofNat 32 (i 0).val
  let c8_i32 : BitVec 32 := 8#32
  let v0 : BitVec 32 := Scalar.muli arg0 c8_i32
  let arg1 : BitVec 32 := BitVec.ofNat 32 (i 1).val
  let v1 : BitVec 32 := Scalar.addi v0 arg1
  let c1024_i32 : BitVec 32 := 1024#32
  let v2 : BitVec 32 := Scalar.muli v1 c1024_i32
  let c2_i32 : BitVec 32 := 2#32
  let v3 : BitVec 32 := Scalar.muli v2 c2_i32
  let c0_i32 : BitVec 32 := 0#32
  let c1_i32 : BitVec 32 := 1#32
  let arg12 : BitVec 32 := Scf.iv c0_i32 c1_i32 k0_t1
  let c2_i32_35 : BitVec 32 := 2#32
  let v62 : BitVec 32 := Scalar.muli arg12 c2_i32_35
  let v63 : BitVec 32 := Scalar.addi v3 v62
  let c1_i32_36 : BitVec 32 := 1#32
  let v64 : BitVec 32 := Scalar.addi v63 c1_i32_36
  let v65 : Index := Scalar.indexCast v64
  ![v65.toNat]
def k0_off5 (k0_t1 : Fin k0_t1_loop.trips) : Fin 3 → Nat :=
  let c1_i32_37 : BitVec 32 := 1#32
  let c0_i32 : BitVec 32 := 0#32
  let c1_i32 : BitVec 32 := 1#32
  let arg12 : BitVec 32 := Scf.iv c0_i32 c1_i32 k0_t1
  let c0_i32_38 : BitVec 32 := 0#32
  ![1, arg12.toNat, 0]
def k0_off6 (v66 : BitVec 32) : Fin 2 → Nat :=
  let c0_i32_39 : BitVec 32 := 0#32
  ![v66.toNat, 0]

def k0_chk2 (v66 : BitVec 32) : Prop :=
  (∀ a, (k0_off6 v66) a + S1x1024.size a ≤ S49152x1024.size a)
theorem k0_off6_inb : ∀ (v66 : BitVec 32) (k0_hw2 : k0_chk2 v66), ∀ a, (k0_off6 v66) a + S1x1024.size a ≤ S49152x1024.size a := fun v66 k0_hw2 => k0_hw2

@[reducible] def k0_t2_loop : Scf.Loop 32 :=
  let c0_i32_2 : BitVec 32 := 0#32
  let c1024_i32_3 : BitVec 32 := 1024#32
  let v5 : BitVec 32 := Scalar.addi c0_i32_2 c1024_i32_3
  let c1_i32_4 : BitVec 32 := 1#32
  ⟨c0_i32_2, v5, c1_i32_4⟩
def k0_off7 (i : grid0.Coords) (k0_t2 : Fin k0_t2_loop.trips) : Fin 1 → Nat :=
  let arg0 : BitVec 32 := BitVec.ofNat 32 (i 0).val
  let c8_i32 : BitVec 32 := 8#32
  let v0 : BitVec 32 := Scalar.muli arg0 c8_i32
  let arg1 : BitVec 32 := BitVec.ofNat 32 (i 1).val
  let v1 : BitVec 32 := Scalar.addi v0 arg1
  let c1024_i32 : BitVec 32 := 1024#32
  let v2 : BitVec 32 := Scalar.muli v1 c1024_i32
  let c2_i32 : BitVec 32 := 2#32
  let v3 : BitVec 32 := Scalar.muli v2 c2_i32
  let c0_i32_2 : BitVec 32 := 0#32
  let c1_i32_4 : BitVec 32 := 1#32
  let arg12 : BitVec 32 := Scf.iv c0_i32_2 c1_i32_4 k0_t2
  let c2_i32_30 : BitVec 32 := 2#32
  let v54 : BitVec 32 := Scalar.muli arg12 c2_i32_30
  let v55 : BitVec 32 := Scalar.addi v3 v54
  let c0_i32_31 : BitVec 32 := 0#32
  let v56 : BitVec 32 := Scalar.addi v55 c0_i32_31
  let v57 : Index := Scalar.indexCast v56
  ![v57.toNat]
def k0_off8 (k0_t2 : Fin k0_t2_loop.trips) : Fin 3 → Nat :=
  let c0_i32_32 : BitVec 32 := 0#32
  let c0_i32_2 : BitVec 32 := 0#32
  let c1_i32_4 : BitVec 32 := 1#32
  let arg12 : BitVec 32 := Scf.iv c0_i32_2 c1_i32_4 k0_t2
  let c0_i32_33 : BitVec 32 := 0#32
  ![0, arg12.toNat, 0]
def k0_off9 (v58 : BitVec 32) : Fin 2 → Nat :=
  let c0_i32_34 : BitVec 32 := 0#32
  ![v58.toNat, 0]

def k0_chk3 (v58 : BitVec 32) : Prop :=
  (∀ a, (k0_off9 v58) a + S1x1024.size a ≤ S49152x1024.size a)
theorem k0_off9_inb : ∀ (v58 : BitVec 32) (k0_hw3 : k0_chk3 v58), ∀ a, (k0_off9 v58) a + S1x1024.size a ≤ S49152x1024.size a := fun v58 k0_hw3 => k0_hw3

def k0_off10 (i : grid0.Coords) (k0_t2 : Fin k0_t2_loop.trips) : Fin 1 → Nat :=
  let arg0 : BitVec 32 := BitVec.ofNat 32 (i 0).val
  let c8_i32 : BitVec 32 := 8#32
  let v0 : BitVec 32 := Scalar.muli arg0 c8_i32
  let arg1 : BitVec 32 := BitVec.ofNat 32 (i 1).val
  let v1 : BitVec 32 := Scalar.addi v0 arg1
  let c1024_i32 : BitVec 32 := 1024#32
  let v2 : BitVec 32 := Scalar.muli v1 c1024_i32
  let c2_i32 : BitVec 32 := 2#32
  let v3 : BitVec 32 := Scalar.muli v2 c2_i32
  let c0_i32_2 : BitVec 32 := 0#32
  let c1_i32_4 : BitVec 32 := 1#32
  let arg12 : BitVec 32 := Scf.iv c0_i32_2 c1_i32_4 k0_t2
  let c2_i32_35 : BitVec 32 := 2#32
  let v62 : BitVec 32 := Scalar.muli arg12 c2_i32_35
  let v63 : BitVec 32 := Scalar.addi v3 v62
  let c1_i32_36 : BitVec 32 := 1#32
  let v64 : BitVec 32 := Scalar.addi v63 c1_i32_36
  let v65 : Index := Scalar.indexCast v64
  ![v65.toNat]
def k0_off11 (k0_t2 : Fin k0_t2_loop.trips) : Fin 3 → Nat :=
  let c1_i32_37 : BitVec 32 := 1#32
  let c0_i32_2 : BitVec 32 := 0#32
  let c1_i32_4 : BitVec 32 := 1#32
  let arg12 : BitVec 32 := Scf.iv c0_i32_2 c1_i32_4 k0_t2
  let c0_i32_38 : BitVec 32 := 0#32
  ![1, arg12.toNat, 0]
def k0_off12 (v66 : BitVec 32) : Fin 2 → Nat :=
  let c0_i32_39 : BitVec 32 := 0#32
  ![v66.toNat, 0]

def k0_chk4 (v66 : BitVec 32) : Prop :=
  (∀ a, (k0_off12 v66) a + S1x1024.size a ≤ S49152x1024.size a)
theorem k0_off12_inb : ∀ (v66 : BitVec 32) (k0_hw4 : k0_chk4 v66), ∀ a, (k0_off12 v66) a + S1x1024.size a ≤ S49152x1024.size a := fun v66 k0_hw4 => k0_hw4

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  ![v1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1024x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S1x1024x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== Reference3Ideal.lean ====
abbrev S16384x2 : Shape := ⟨2, ![16384, 2]⟩
abbrev S32 : Shape := ⟨1, ![32]⟩
abbrev S49152x1024 : Shape := ⟨2, ![49152, 1024]⟩
abbrev S16384x128 : Shape := ⟨2, ![16384, 128]⟩
abbrev S2x8192x1024 : Shape := ⟨3, ![2, 8192, 1024]⟩
abbrev S2x1x1024 : Shape := ⟨3, ![2, 1, 1024]⟩
abbrev S1024 : Shape := ⟨1, ![1024]⟩
abbrev S32768 : Shape := ⟨1, ![32768]⟩
abbrev S32768x1 : Shape := ⟨2, ![32768, 1]⟩
abbrev S1x32 : Shape := ⟨2, ![1, 32]⟩
abbrev S32768x32 : Shape := ⟨2, ![32768, 32]⟩
abbrev S_ : Shape := ⟨0, ![]⟩
abbrev S32768x1024 : Shape := ⟨2, ![32768, 1024]⟩
abbrev S2x8192x2x1024 : Shape := ⟨4, ![2, 8192, 2, 1024]⟩
abbrev S2x8192x2x1 : Shape := ⟨4, ![2, 8192, 2, 1]⟩
abbrev S2x8192 : Shape := ⟨2, ![2, 8192]⟩
abbrev S2x8192x1 : Shape := ⟨3, ![2, 8192, 1]⟩
abbrev S1x1x1024 : Shape := ⟨3, ![1, 1, 1024]⟩

abbrev nBuf : Space → Nat
  | .hbm => 119
  | .vmem => 0
  | .smem => 0
  | _ => 0

abbrev bufTy : (tb : Table) → Fin (tcTables nBuf tb) → BufTy
  | .hbm, ⟨0, _⟩ => ⟨S16384x2, .i32⟩
  | .hbm, ⟨1, _⟩ => ⟨S16384x2, .i32⟩
  | .hbm, ⟨2, _⟩ => ⟨S32, .i32⟩
  | .hbm, ⟨3, _⟩ => ⟨S49152x1024, .f32⟩
  | .hbm, ⟨4, _⟩ => ⟨S16384x128, .f32⟩
  | .hbm, ⟨5, _⟩ => ⟨S2x8192x1024, .f32⟩
  | .hbm, ⟨6, _⟩ => ⟨S2x1x1024, .f32⟩
  | .hbm, ⟨7, _⟩ => ⟨S1024, .f32⟩
  | .hbm, ⟨8, _⟩ => ⟨S1024, .f32⟩
  | .hbm, ⟨9, _⟩ => ⟨S32768, .i32⟩
  | .hbm, ⟨10, _⟩ => ⟨S32768x1, .i32⟩
  | .hbm, ⟨11, _⟩ => ⟨S32, .i32⟩
  | .hbm, ⟨12, _⟩ => ⟨S1x32, .i32⟩
  | .hbm, ⟨13, _⟩ => ⟨S32768x32, .i32⟩
  | .hbm, ⟨14, _⟩ => ⟨S32768x32, .i32⟩
  | .hbm, ⟨15, _⟩ => ⟨S32768x32, .i1⟩
  | .hbm, ⟨16, _⟩ => ⟨S32768x32, .i32⟩
  | .hbm, ⟨17, _⟩ => ⟨S_, .i32⟩
  | .hbm, ⟨18, _⟩ => ⟨S_, .i32⟩
  | .hbm, ⟨19, _⟩ => ⟨S32768x32, .i32⟩
  | .hbm, ⟨20, _⟩ => ⟨S_, .i32⟩
  | .hbm, ⟨21, _⟩ => ⟨S32768x32, .i32⟩
  | .hbm, ⟨22, _⟩ => ⟨S32768x32, .i1⟩
  | .hbm, ⟨23, _⟩ => ⟨S_, .i32⟩
  | .hbm, ⟨24, _⟩ => ⟨S32768x32, .i32⟩
  | .hbm, ⟨25, _⟩ => ⟨S32768x32, .i32⟩
  | .hbm, ⟨26, _⟩ => ⟨S_, .i32⟩
  | .hbm, ⟨27, _⟩ => ⟨S_, .i32⟩
  | .hbm, ⟨28, _⟩ => ⟨S32768x32, .i32⟩
  | .hbm, ⟨29, _⟩ => ⟨S32768x32, .i32⟩
  | .hbm, ⟨30, _⟩ => ⟨S_, .i32⟩
  | .hbm, ⟨31, _⟩ => ⟨S32768, .i32⟩
  | .hbm, ⟨32, _⟩ => ⟨S1x32, .i32⟩
  | .hbm, ⟨33, _⟩ => ⟨S32, .i32⟩
  | .hbm, ⟨34, _⟩ => ⟨S_, .i32⟩
  | .hbm, ⟨35, _⟩ => ⟨S32, .i32⟩
  | .hbm, ⟨36, _⟩ => ⟨S32, .i32⟩
  | .hbm, ⟨37, _⟩ => ⟨S_, .i32⟩
  | .hbm, ⟨38, _⟩ => ⟨S32, .i32⟩
  | .hbm, ⟨39, _⟩ => ⟨S32, .i32⟩
  | .hbm, ⟨40, _⟩ => ⟨S_, .i32⟩
  | .hbm, ⟨41, _⟩ => ⟨S_, .i32⟩
  | .hbm, ⟨42, _⟩ => ⟨S32, .i32⟩
  | .hbm, ⟨43, _⟩ => ⟨S32, .i32⟩
  | .hbm, ⟨44, _⟩ => ⟨S32, .i32⟩
  | .hbm, ⟨45, _⟩ => ⟨S_, .i32⟩
  | .hbm, ⟨46, _⟩ => ⟨S32, .i32⟩
  | .hbm, ⟨47, _⟩ => ⟨S32, .i1⟩
  | .hbm, ⟨48, _⟩ => ⟨S32, .i32⟩
  | .hbm, ⟨49, _⟩ => ⟨S32, .i32⟩
  | .hbm, ⟨50, _⟩ => ⟨S_, .i32⟩
  | .hbm, ⟨51, _⟩ => ⟨S32, .i32⟩
  | .hbm, ⟨52, _⟩ => ⟨S32, .i1⟩
  | .hbm, ⟨53, _⟩ => ⟨S32, .i1⟩
  | .hbm, ⟨54, _⟩ => ⟨S_, .i32⟩
  | .hbm, ⟨55, _⟩ => ⟨S32, .i32⟩
  | .hbm, ⟨56, _⟩ => ⟨S32, .i32⟩
  | .hbm, ⟨57, _⟩ => ⟨S32, .i32⟩
  | .hbm, ⟨58, _⟩ => ⟨S_, .i32⟩
  | .hbm, ⟨59, _⟩ => ⟨S32, .i32⟩
  | .hbm, ⟨60, _⟩ => ⟨S32, .i32⟩
  | .hbm, ⟨61, _⟩ => ⟨S_, .i32⟩
  | .hbm, ⟨62, _⟩ => ⟨S_, .i32⟩
  | .hbm, ⟨63, _⟩ => ⟨S32, .i32⟩
  | .hbm, ⟨64, _⟩ => ⟨S32, .i32⟩
  | .hbm, ⟨65, _⟩ => ⟨S_, .i32⟩
  | .hbm, ⟨66, _⟩ => ⟨S32768, .i32⟩
  | .hbm, ⟨67, _⟩ => ⟨S32768, .i1⟩
  | .hbm, ⟨68, _⟩ => ⟨S_, .i32⟩
  | .hbm, ⟨69, _⟩ => ⟨S32768, .i32⟩
  | .hbm, ⟨70, _⟩ => ⟨S32768, .i32⟩
  | .hbm, ⟨71, _⟩ => ⟨S32768, .i32⟩
  | .hbm, ⟨72, _⟩ => ⟨S32768x1, .i32⟩
  | .hbm, ⟨73, _⟩ => ⟨S32768, .i32⟩
  | .hbm, ⟨74, _⟩ => ⟨S32768, .i32⟩
  | .hbm, ⟨75, _⟩ => ⟨S32768x1, .i32⟩
  | .hbm, ⟨76, _⟩ => ⟨S32768x1024, .f32⟩
  | .hbm, ⟨77, _⟩ => ⟨S2x8192x2x1024, .f32⟩
  | .hbm, ⟨78, _⟩ => ⟨S16384x2, .f32⟩
  | .hbm, ⟨79, _⟩ => ⟨S2x8192x2x1, .f32⟩
  | .hbm, ⟨80, _⟩ => ⟨S_, .f32⟩
  | .hbm, ⟨81, _⟩ => ⟨S2x8192x1024, .f32⟩
  | .hbm, ⟨82, _⟩ => ⟨S2x8192x1024, .f32⟩
  | .hbm, ⟨83, _⟩ => ⟨S2x8192x2x1024, .f32⟩
  | .hbm, ⟨84, _⟩ => ⟨S2x8192x2x1024, .f32⟩
  | .hbm, ⟨85, _⟩ => ⟨S_, .f32⟩
  | .hbm, ⟨86, _⟩ => ⟨S2x8192x1024, .f32⟩
  | .hbm, ⟨87, _⟩ => ⟨S2x8192x1024, .f32⟩
  | .hbm, ⟨88, _⟩ => ⟨S2x8192x1024, .f32⟩
  | .hbm, ⟨89, _⟩ => ⟨S2x8192x1024, .f32⟩
  | .hbm, ⟨90, _⟩ => ⟨S_, .f32⟩
  | .hbm, ⟨91, _⟩ => ⟨S2x8192, .f32⟩
  | .hbm, ⟨92, _⟩ => ⟨S2x8192x1, .f32⟩
  | .hbm, ⟨93, _⟩ => ⟨S_, .f32⟩
  | .hbm, ⟨94, _⟩ => ⟨S2x8192x1, .f32⟩
  | .hbm, ⟨95, _⟩ => ⟨S2x8192x1, .f32⟩
  | .hbm, ⟨96, _⟩ => ⟨S2x8192x1024, .f32⟩
  | .hbm, ⟨97, _⟩ => ⟨S2x8192x1024, .f32⟩
  | .hbm, ⟨98, _⟩ => ⟨S2x8192x1024, .f32⟩
  | .hbm, ⟨99, _⟩ => ⟨S_, .f32⟩
  | .hbm, ⟨100, _⟩ => ⟨S2x8192, .f32⟩
  | .hbm, ⟨101, _⟩ => ⟨S2x8192x1, .f32⟩
  | .hbm, ⟨102, _⟩ => ⟨S_, .f32⟩
  | .hbm, ⟨103, _⟩ => ⟨S2x8192x1, .f32⟩
  | .hbm, ⟨104, _⟩ => ⟨S2x8192x1, .f32⟩
  | .hbm, ⟨105, _⟩ => ⟨S2x8192x1024, .f32⟩
  | .hbm, ⟨106, _⟩ => ⟨S2x8192x1024, .f32⟩
  | .hbm, ⟨107, _⟩ => ⟨S_, .f32⟩
  | .hbm, ⟨108, _⟩ => ⟨S2x8192x1, .f32⟩
  | .hbm, ⟨109, _⟩ => ⟨S2x8192x1, .f32⟩
  | .hbm, ⟨110, _⟩ => ⟨S2x8192x1, .f32⟩
  | .hbm, ⟨111, _⟩ => ⟨S2x8192x1024, .f32⟩
  | .hbm, ⟨112, _⟩ => ⟨S2x8192x1024, .f32⟩
  | .hbm, ⟨113, _⟩ => ⟨S1x1x1024, .f32⟩
  | .hbm, ⟨114, _⟩ => ⟨S2x8192x1024, .f32⟩
  | .hbm, ⟨115, _⟩ => ⟨S2x8192x1024, .f32⟩
  | .hbm, ⟨116, _⟩ => ⟨S1x1x1024, .f32⟩
  | .hbm, ⟨117, _⟩ => ⟨S2x8192x1024, .f32⟩
  | .hbm, ⟨118, _⟩ => ⟨S2x8192x1024, .f32⟩
  | _, _ => ⟨S16384x2, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_call0_call0_c : Ref sig .tc := ⟨.hbm, 17, rfl⟩
abbrev main_call0_call0_v0 : Ref sig .tc := ⟨.hbm, 18, rfl⟩
abbrev main_v8 : Ref sig .tc := ⟨.hbm, 19, rfl⟩
abbrev main_c : Ref sig .tc := ⟨.hbm, 20, rfl⟩
abbrev main_v9 : Ref sig .tc := ⟨.hbm, 21, rfl⟩
abbrev main_v10 : Ref sig .tc := ⟨.hbm, 22, rfl⟩
abbrev main_c_0 : Ref sig .tc := ⟨.hbm, 23, rfl⟩
abbrev main_v11 : Ref sig .tc := ⟨.hbm, 24, rfl⟩
abbrev main_v12 : Ref sig .tc := ⟨.hbm, 25, rfl⟩
abbrev main_c_1 : Ref sig .tc := ⟨.hbm, 26, rfl⟩
abbrev main_call1_v0 : Ref sig .tc := ⟨.hbm, 27, rfl⟩
abbrev main_call1_v1 : Ref sig .tc := ⟨.hbm, 28, rfl⟩
abbrev main_v13 : Ref sig .tc := ⟨.hbm, 29, rfl⟩
abbrev main_c_2 : Ref sig .tc := ⟨.hbm, 30, rfl⟩
abbrev main_v14 : Ref sig .tc := ⟨.hbm, 31, rfl⟩
abbrev main_v15 : Ref sig .tc := ⟨.hbm, 32, rfl⟩
abbrev main_v16 : Ref sig .tc := ⟨.hbm, 33, rfl⟩
abbrev main_c_3 : Ref sig .tc := ⟨.hbm, 34, rfl⟩
abbrev main_v17 : Ref sig .tc := ⟨.hbm, 35, rfl⟩
abbrev main_v18 : Ref sig .tc := ⟨.hbm, 36, rfl⟩
abbrev main_c_4 : Ref sig .tc := ⟨.hbm, 37, rfl⟩
abbrev main_v19 : Ref sig .tc := ⟨.hbm, 38, rfl⟩
abbrev main_v20 : Ref sig .tc := ⟨.hbm, 39, rfl⟩
abbrev main_c_5 : Ref sig .tc := ⟨.hbm, 40, rfl⟩
abbrev main_call2_v0 : Ref sig .tc := ⟨.hbm, 41, rfl⟩
abbrev main_call2_v1 : Ref sig .tc := ⟨.hbm, 42, rfl⟩
abbrev main_call2_v2 : Ref sig .tc := ⟨.hbm, 43, rfl⟩
abbrev main_call2_v3 : Ref sig .tc := ⟨.hbm, 44, rfl⟩
abbrev main_call2_v4 : Ref sig .tc := ⟨.hbm, 45, rfl⟩
abbrev main_call2_v5 : Ref sig .tc := ⟨.hbm, 46, rfl⟩
abbrev main_call2_v6 : Ref sig .tc := ⟨.hbm, 47, rfl⟩
abbrev main_call2_v7 : Ref sig .tc := ⟨.hbm, 48, rfl⟩
abbrev main_call2_v8 : Ref sig .tc := ⟨.hbm, 49, rfl⟩
abbrev main_call2_c : Ref sig .tc := ⟨.hbm, 50, rfl⟩
abbrev main_call2_v9 : Ref sig .tc := ⟨.hbm, 51, rfl⟩
abbrev main_call2_v10 : Ref sig .tc := ⟨.hbm, 52, rfl⟩
abbrev main_call2_v11 : Ref sig .tc := ⟨.hbm, 53, rfl⟩
abbrev main_call2_c_0 : Ref sig .tc := ⟨.hbm, 54, rfl⟩
abbrev main_call2_v12 : Ref sig .tc := ⟨.hbm, 55, rfl⟩
abbrev main_call2_v13 : Ref sig .tc := ⟨.hbm, 56, rfl⟩
abbrev main_v21 : Ref sig .tc := ⟨.hbm, 57, rfl⟩
abbrev main_c_6 : Ref sig .tc := ⟨.hbm, 58, rfl⟩
abbrev main_v22 : Ref sig .tc := ⟨.hbm, 59, rfl⟩
abbrev main_v23 : Ref sig .tc := ⟨.hbm, 60, rfl⟩
abbrev main_call3_call0_c : Ref sig .tc := ⟨.hbm, 61, rfl⟩
abbrev main_call3_call0_v0 : Ref sig .tc := ⟨.hbm, 62, rfl⟩
abbrev main_v24 : Ref sig .tc := ⟨.hbm, 63, rfl⟩
abbrev main_v25 : Ref sig .tc := ⟨.hbm, 64, rfl⟩
abbrev main_c_7 : Ref sig .tc := ⟨.hbm, 65, rfl⟩
abbrev main_v26 : Ref sig .tc := ⟨.hbm, 66, rfl⟩
abbrev main_v27 : Ref sig .tc := ⟨.hbm, 67, rfl⟩
abbrev main_c_8 : Ref sig .tc := ⟨.hbm, 68, rfl⟩
abbrev main_v28 : Ref sig .tc := ⟨.hbm, 69, rfl⟩
abbrev main_v29 : Ref sig .tc := ⟨.hbm, 70, rfl⟩
abbrev main_v30 : Ref sig .tc := ⟨.hbm, 71, rfl⟩
abbrev main_v31 : Ref sig .tc := ⟨.hbm, 72, rfl⟩
abbrev main_v32 : Ref sig .tc := ⟨.hbm, 73, rfl⟩
abbrev main_v33 : Ref sig .tc := ⟨.hbm, 74, rfl⟩
abbrev main_call4_v0 : Ref sig .tc := ⟨.hbm, 75, rfl⟩
abbrev main_v34 : Ref sig .tc := ⟨.hbm, 76, rfl⟩
abbrev main_v35 : Ref sig .tc := ⟨.hbm, 77, rfl⟩
abbrev main_v36 : Ref sig .tc := ⟨.hbm, 78, rfl⟩
abbrev main_v37 : Ref sig .tc := ⟨.hbm, 79, rfl⟩
abbrev main_cst : Ref sig .tc := ⟨.hbm, 80, rfl⟩
abbrev main_v38 : Ref sig .tc := ⟨.hbm, 81, rfl⟩
abbrev main_v39 : Ref sig .tc := ⟨.hbm, 82, rfl⟩
abbrev main_v40 : Ref sig .tc := ⟨.hbm, 83, rfl⟩
abbrev main_v41 : Ref sig .tc := ⟨.hbm, 84, rfl⟩
abbrev main_cst_9 : Ref sig .tc := ⟨.hbm, 85, rfl⟩
abbrev main_v42 : Ref sig .tc := ⟨.hbm, 86, rfl⟩
abbrev main_v43 : Ref sig .tc := ⟨.hbm, 87, rfl⟩
abbrev main_v44 : Ref sig .tc := ⟨.hbm, 88, rfl⟩
abbrev main_v45 : Ref sig .tc := ⟨.hbm, 89, rfl⟩
abbrev main_cst_10 : Ref sig .tc := ⟨.hbm, 90, rfl⟩
abbrev main_v46 : Ref sig .tc := ⟨.hbm, 91, rfl⟩
abbrev main_v47 : Ref sig .tc := ⟨.hbm, 92, rfl⟩
abbrev main_cst_11 : Ref sig .tc := ⟨.hbm, 93, rfl⟩
abbrev main_v48 : Ref sig .tc := ⟨.hbm, 94, rfl⟩
abbrev main_v49 : Ref sig .tc := ⟨.hbm, 95, rfl⟩
abbrev main_v50 : Ref sig .tc := ⟨.hbm, 96, rfl⟩
abbrev main_v51 : Ref sig .tc := ⟨.hbm, 97, rfl⟩
abbrev main_v52 : Ref sig .tc := ⟨.hbm, 98, rfl⟩
abbrev main_cst_12 : Ref sig .tc := ⟨.hbm, 99, rfl⟩
abbrev main_v53 : Ref sig .tc := ⟨.hbm, 100, rfl⟩
abbrev main_v54 : Ref sig .tc := ⟨.hbm, 101, rfl⟩
abbrev main_cst_13 : Ref sig .tc := ⟨.hbm, 102, rfl⟩
abbrev main_v55 : Ref sig .tc := ⟨.hbm, 103, rfl⟩
abbrev main_v56 : Ref sig .tc := ⟨.hbm, 104, rfl⟩
abbrev main_v57 : Ref sig .tc := ⟨.hbm, 105, rfl⟩
abbrev main_v58 : Ref sig .tc := ⟨.hbm, 106, rfl⟩
abbrev main_cst_14 : Ref sig .tc := ⟨.hbm, 107, rfl⟩
abbrev main_v59 : Ref sig .tc := ⟨.hbm, 108, rfl⟩
abbrev main_v60 : Ref sig .tc := ⟨.hbm, 109, rfl⟩
abbrev main_v61 : Ref sig .tc := ⟨.hbm, 110, rfl⟩
abbrev main_v62 : Ref sig .tc := ⟨.hbm, 111, rfl⟩
abbrev main_v63 : Ref sig .tc := ⟨.hbm, 112, rfl⟩
abbrev main_v64 : Ref sig .tc := ⟨.hbm, 113, rfl⟩
abbrev main_v65 : Ref sig .tc := ⟨.hbm, 114, rfl⟩
abbrev main_v66 : Ref sig .tc := ⟨.hbm, 115, rfl⟩
abbrev main_v67 : Ref sig .tc := ⟨.hbm, 116, rfl⟩
abbrev main_v68 : Ref sig .tc := ⟨.hbm, 117, rfl⟩
abbrev main_v69 : Ref sig .tc := ⟨.hbm, 118, rfl⟩

abbrev nD : Nat := 1
abbrev τ : Topo := Topo.v7x

variable {F : FTy → Type} [FloatOps F]
-- ==== Kernel4.lean ====
abbrev S32 : Shape := ⟨1, ![32]⟩
abbrev S49152x1024 : Shape := ⟨2, ![49152, 1024]⟩
abbrev S32x1024x512 : Shape := ⟨3, ![32, 1024, 512]⟩
abbrev S32x512x1024 : Shape := ⟨3, ![32, 512, 1024]⟩
abbrev S_ : Shape := ⟨0, ![]⟩
abbrev S96 : Shape := ⟨1, ![96]⟩
abbrev S96x1 : Shape := ⟨2, ![96, 1]⟩
abbrev S1x32 : Shape := ⟨2, ![1, 32]⟩
abbrev S96x32 : Shape := ⟨2, ![96, 32]⟩
abbrev S512x1024 : Shape := ⟨2, ![512, 1024]⟩
abbrev S1x1024x512 : Shape := ⟨3, ![1, 1024, 512]⟩
abbrev S1 : Shape := ⟨1, ![1]⟩
abbrev S1x512x1024 : Shape := ⟨3, ![1, 512, 1024]⟩
abbrev S1024x512 : Shape := ⟨2, ![1024, 512]⟩
abbrev S512x512 : Shape := ⟨2, ![512, 512]⟩

abbrev nBuf : Space → Nat
  | .hbm => 73
  | .vmem => 13
  | .smem => 2
  | _ => 0

abbrev bufTy : (tb : Table) → Fin (tcTables nBuf tb) → BufTy
  | .hbm, ⟨0, _⟩ => ⟨S32, .i32⟩
  | .hbm, ⟨1, _⟩ => ⟨S49152x1024, .f32⟩
  | .hbm, ⟨2, _⟩ => ⟨S32x1024x512, .f32⟩
  | .hbm, ⟨3, _⟩ => ⟨S32x1024x512, .f32⟩
  | .hbm, ⟨4, _⟩ => ⟨S32x512x1024, .f32⟩
  | .hbm, ⟨5, _⟩ => ⟨S_, .i32⟩
  | .hbm, ⟨6, _⟩ => ⟨S32, .i32⟩
  | .hbm, ⟨7, _⟩ => ⟨S32, .i32⟩
  | .hbm, ⟨8, _⟩ => ⟨S_, .i32⟩
  | .hbm, ⟨9, _⟩ => ⟨S32, .i32⟩
  | .hbm, ⟨10, _⟩ => ⟨S32, .i32⟩
  | .hbm, ⟨11, _⟩ => ⟨S_, .i32⟩
  | .hbm, ⟨12, _⟩ => ⟨S_, .i32⟩
  | .hbm, ⟨13, _⟩ => ⟨S32, .i32⟩
  | .hbm, ⟨14, _⟩ => ⟨S32, .i32⟩
  | .hbm, ⟨15, _⟩ => ⟨S32, .i32⟩
  | .hbm, ⟨16, _⟩ => ⟨S_, .i32⟩
  | .hbm, ⟨17, _⟩ => ⟨S32, .i32⟩
  | .hbm, ⟨18, _⟩ => ⟨S32, .i1⟩
  | .hbm, ⟨19, _⟩ => ⟨S32, .i32⟩
  | .hbm, ⟨20, _⟩ => ⟨S32, .i32⟩
  | .hbm, ⟨21, _⟩ => ⟨S_, .i32⟩
  | .hbm, ⟨22, _⟩ => ⟨S32, .i32⟩
  | .hbm, ⟨23, _⟩ => ⟨S32, .i1⟩
  | .hbm, ⟨24, _⟩ => ⟨S32, .i1⟩
  | .hbm, ⟨25, _⟩ => ⟨S_, .i32⟩
  | .hbm, ⟨26, _⟩ => ⟨S32, .i32⟩
  | .hbm, ⟨27, _⟩ => ⟨S32, .i32⟩
  | .hbm, ⟨28, _⟩ => ⟨S32, .i32⟩
  | .hbm, ⟨29, _⟩ => ⟨S_, .i32⟩
  | .hbm, ⟨30, _⟩ => ⟨S32, .i32⟩
  | .hbm, ⟨31, _⟩ => ⟨S32, .i32⟩
  | .hbm, ⟨32, _⟩ => ⟨S_, .i32⟩
  | .hbm, ⟨33, _⟩ => ⟨S_, .i32⟩
  | .hbm, ⟨34, _⟩ => ⟨S32, .i32⟩
  | .hbm, ⟨35, _⟩ => ⟨S32, .i32⟩
  | .hbm, ⟨36, _⟩ => ⟨S96, .i32⟩
  | .hbm, ⟨37, _⟩ => ⟨S_, .i32⟩
  | .hbm, ⟨38, _⟩ => ⟨S96, .i32⟩
  | .hbm, ⟨39, _⟩ => ⟨S96, .i32⟩
  | .hbm, ⟨40, _⟩ => ⟨S96x1, .i32⟩
  | .hbm, ⟨41, _⟩ => ⟨S1x32, .i32⟩
  | .hbm, ⟨42, _⟩ => ⟨S96x32, .i32⟩
  | .hbm, ⟨43, _⟩ => ⟨S96x32, .i32⟩
  | .hbm, ⟨44, _⟩ => ⟨S96x32, .i1⟩
  | .hbm, ⟨45, _⟩ => ⟨S96x32, .i32⟩
  | .hbm, ⟨46, _⟩ => ⟨S_, .i32⟩
  | .hbm, ⟨47, _⟩ => ⟨S96, .i32⟩
  | .hbm, ⟨48, _⟩ => ⟨S_, .i32⟩
  | .hbm, ⟨49, _⟩ => ⟨S96, .i32⟩
  | .hbm, ⟨50, _⟩ => ⟨S96x1, .i32⟩
  | .hbm, ⟨51, _⟩ => ⟨S32, .i32⟩
  | .hbm, ⟨52, _⟩ => ⟨S1x32, .i32⟩
  | .hbm, ⟨53, _⟩ => ⟨S96x32, .i32⟩
  | .hbm, ⟨54, _⟩ => ⟨S96x32, .i32⟩
  | .hbm, ⟨55, _⟩ => ⟨S96x32, .i1⟩
  | .hbm, ⟨56, _⟩ => ⟨S32, .i32⟩
  | .hbm, ⟨57, _⟩ => ⟨S_, .i32⟩
  | .hbm, ⟨58, _⟩ => ⟨S_, .i32⟩
  | .hbm, ⟨59, _⟩ => ⟨S96x32, .i32⟩
  | .hbm, ⟨60, _⟩ => ⟨S96x32, .i32⟩
  | .hbm, ⟨61, _⟩ => ⟨S96x32, .i32⟩
  | .hbm, ⟨62, _⟩ => ⟨S_, .i32⟩
  | .hbm, ⟨63, _⟩ => ⟨S96, .i32⟩
  | .hbm, ⟨64, _⟩ => ⟨S96, .i32⟩
  | .hbm, ⟨65, _⟩ => ⟨S_, .i32⟩
  | .hbm, ⟨66, _⟩ => ⟨S_, .i32⟩
  | .hbm, ⟨67, _⟩ => ⟨S_, .i32⟩
  | .hbm, ⟨68, _⟩ => ⟨S96, .i32⟩
  | .hbm, ⟨69, _⟩ => ⟨S96, .i32⟩
  | .hbm, ⟨70, _⟩ => ⟨S_, .i32⟩
  | .hbm, ⟨71, _⟩ => ⟨S96, .i32⟩
  | .hbm, ⟨72, _⟩ => ⟨S49152x1024, .f32⟩
  | .local _ .vmem, ⟨0, _⟩ => ⟨S512x1024, .f32⟩
  | .local _ .vmem, ⟨1, _⟩ => ⟨S512x1024, .f32⟩
  | .local _ .vmem, ⟨2, _⟩ => ⟨S1x1024x512, .f32⟩
  | .local _ .vmem, ⟨3, _⟩ => ⟨S1x1024x512, .f32⟩
  | .local _ .vmem, ⟨4, _⟩ => ⟨S1x1024x512, .f32⟩
  | .local _ .vmem, ⟨5, _⟩ => ⟨S1x1024x512, .f32⟩
  | .local _ .vmem, ⟨6, _⟩ => ⟨S1x512x1024, .f32⟩
  | .local _ .vmem, ⟨7, _⟩ => ⟨S1x512x1024, .f32⟩
  | .local _ .vmem, ⟨8, _⟩ => ⟨S512x1024, .f32⟩
  | .local _ .vmem, ⟨9, _⟩ => ⟨S512x1024, .f32⟩
  | .local _ .vmem, ⟨10, _⟩ => ⟨S1024x512, .bf16⟩
  | .local _ .vmem, ⟨11, _⟩ => ⟨S1024x512, .bf16⟩
  | .local _ .vmem, ⟨12, _⟩ => ⟨S512x1024, .bf16⟩
  | .local _ .smem, ⟨0, _⟩ => ⟨S96, .i32⟩
  | .local _ .smem, ⟨1, _⟩ => ⟨S96, .i32⟩
  | _, _ => ⟨S32, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_c : Ref sig .tc := ⟨.hbm, 5, rfl⟩
abbrev main_v0 : Ref sig .tc := ⟨.hbm, 6, rfl⟩
abbrev main_v1 : Ref sig .tc := ⟨.hbm, 7, rfl⟩
abbrev main_c_0 : Ref sig .tc := ⟨.hbm, 8, rfl⟩
abbrev main_v2 : Ref sig .tc := ⟨.hbm, 9, rfl⟩
abbrev main_v3 : Ref sig .tc := ⟨.hbm, 10, rfl⟩
abbrev main_c_1 : Ref sig .tc := ⟨.hbm, 11, rfl⟩
abbrev main_call0_v0 : Ref sig .tc := ⟨.hbm, 12, rfl⟩
abbrev main_call0_v1 : Ref sig .tc := ⟨.hbm, 13, rfl⟩
abbrev main_call0_v2 : Ref sig .tc := ⟨.hbm, 14, rfl⟩
abbrev main_call0_v3 : Ref sig .tc := ⟨.hbm, 15, rfl⟩
abbrev main_call0_v4 : Ref sig .tc := ⟨.hbm, 16, rfl⟩
abbrev main_call0_v5 : Ref sig .tc := ⟨.hbm, 17, rfl⟩
abbrev main_call0_v6 : Ref sig .tc := ⟨.hbm, 18, rfl⟩
abbrev main_call0_v7 : Ref sig .tc := ⟨.hbm, 19, rfl⟩
abbrev main_call0_v8 : Ref sig .tc := ⟨.hbm, 20, rfl⟩
abbrev main_call0_c : Ref sig .tc := ⟨.hbm, 21, rfl⟩
abbrev main_call0_v9 : Ref sig .tc := ⟨.hbm, 22, rfl⟩
abbrev main_call0_v10 : Ref sig .tc := ⟨.hbm, 23, rfl⟩
abbrev main_call0_v11 : Ref sig .tc := ⟨.hbm, 24, rfl⟩
abbrev main_call0_c_0 : Ref sig .tc := ⟨.hbm, 25, rfl⟩
abbrev main_call0_v12 : Ref sig .tc := ⟨.hbm, 26, rfl⟩
abbrev main_call0_v13 : Ref sig .tc := ⟨.hbm, 27, rfl⟩
abbrev main_v4 : Ref sig .tc := ⟨.hbm, 28, rfl⟩
abbrev main_c_2 : Ref sig .tc := ⟨.hbm, 29, rfl⟩
abbrev main_v5 : Ref sig .tc := ⟨.hbm, 30, rfl⟩
abbrev main_v6 : Ref sig .tc := ⟨.hbm, 31, rfl⟩
abbrev main_call1_call0_c : Ref sig .tc := ⟨.hbm, 32, rfl⟩
abbrev main_call1_call0_v0 : Ref sig .tc := ⟨.hbm, 33, rfl⟩
abbrev main_v7 : Ref sig .tc := ⟨.hbm, 34, rfl⟩
abbrev main_v8 : Ref sig .tc := ⟨.hbm, 35, rfl⟩
abbrev main_v9 : Ref sig .tc := ⟨.hbm, 36, rfl⟩
abbrev main_c_3 : Ref sig .tc := ⟨.hbm, 37, rfl⟩
abbrev main_v10 : Ref sig .tc := ⟨.hbm, 38, rfl⟩
abbrev main_v11 : Ref sig .tc := ⟨.hbm, 39, rfl⟩
abbrev main_v12 : Ref sig .tc := ⟨.hbm, 40, rfl⟩
abbrev main_v13 : Ref sig .tc := ⟨.hbm, 41, rfl⟩
abbrev main_v14 : Ref sig .tc := ⟨.hbm, 42, rfl⟩
abbrev main_v15 : Ref sig .tc := ⟨.hbm, 43, rfl⟩
abbrev main_v16 : Ref sig .tc := ⟨.hbm, 44, rfl⟩
abbrev main_v17 : Ref sig .tc := ⟨.hbm, 45, rfl⟩
abbrev main_c_4 : Ref sig .tc := ⟨.hbm, 46, rfl⟩
abbrev main_v18 : Ref sig .tc := ⟨.hbm, 47, rfl⟩
abbrev main_c_5 : Ref sig .tc := ⟨.hbm, 48, rfl⟩
abbrev main_v19 : Ref sig .tc := ⟨.hbm, 49, rfl⟩
abbrev main_v21 : Ref sig .tc := ⟨.hbm, 50, rfl⟩
abbrev main_v22 : Ref sig .tc := ⟨.hbm, 51, rfl⟩
abbrev main_v23 : Ref sig .tc := ⟨.hbm, 52, rfl⟩
abbrev main_v24 : Ref sig .tc := ⟨.hbm, 53, rfl⟩
abbrev main_v25 : Ref sig .tc := ⟨.hbm, 54, rfl⟩
abbrev main_v26 : Ref sig .tc := ⟨.hbm, 55, rfl⟩
abbrev main_v27 : Ref sig .tc := ⟨.hbm, 56, rfl⟩
abbrev main_c_6 : Ref sig .tc := ⟨.hbm, 57, rfl⟩
abbrev main_call2_v0 : Ref sig .tc := ⟨.hbm, 58, rfl⟩
abbrev main_call2_v1 : Ref sig .tc := ⟨.hbm, 59, rfl⟩
abbrev main_call2_v2 : Ref sig .tc := ⟨.hbm, 60, rfl⟩
abbrev main_v28 : Ref sig .tc := ⟨.hbm, 61, rfl⟩
abbrev main_c_7 : Ref sig .tc := ⟨.hbm, 62, rfl⟩
abbrev main_v29 : Ref sig .tc := ⟨.hbm, 63, rfl⟩
abbrev main_v30 : Ref sig .tc := ⟨.hbm, 64, rfl⟩
abbrev main_c_8 : Ref sig .tc := ⟨.hbm, 65, rfl⟩
abbrev main_c_9 : Ref sig .tc := ⟨.hbm, 66, rfl⟩
abbrev main_call3_v0 : Ref sig .tc := ⟨.hbm, 67, rfl⟩
abbrev main_call3_v1 : Ref sig .tc := ⟨.hbm, 68, rfl⟩
abbrev main_call3_v2 : Ref sig .tc := ⟨.hbm, 69, rfl⟩
abbrev main_call3_v3 : Ref sig .tc := ⟨.hbm, 70, rfl⟩
abbrev main_call3_v4 : Ref sig .tc := ⟨.hbm, 71, rfl⟩
abbrev main_v32 : Ref sig .tc := ⟨.hbm, 72, rfl⟩
abbrev main_v20 : Ref sig .tc := ⟨.smem, 0, rfl⟩
abbrev main_v31 : Ref sig .tc := ⟨.smem, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_scratch0 : Ref sig .tc := ⟨.vmem, 10, rfl⟩
abbrev cc0_scratch1 : Ref sig .tc := ⟨.vmem, 11, rfl⟩
abbrev cc0_scratch2 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨1, ![96], ![false]⟩

abbrev pre0 : Pipeline.Prefetch sig := ⟨2, ![main_v20.idx, main_v31.idx], fun | 0 => main_v20.names | 1 => main_v31.names | ⟨_ + 2, h⟩ => absurd h (Nat.not_lt.2 (Nat.le_add_left _ _)), fun | 0 => rfl | 1 => rfl | ⟨_ + 2, h⟩ => absurd h (Nat.not_lt.2 (Nat.le_add_left _ _))⟩

def k0_off1 (i : grid0.Coords) : Fin 1 → Nat :=
  let arg0 : BitVec 32 := BitVec.ofNat 32 (i 0).val
  let v0 : Index := Scalar.indexCast arg0
  ![v0.toNat]
def k0_off2 (i : grid0.Coords) : Fin 1 → Nat :=
  let arg0 : BitVec 32 := BitVec.ofNat 32 (i 0).val
  let c1_i32 : BitVec 32 := 1#32
  let v3 : BitVec 32 := Scalar.subi arg0 c1_i32
  let c0_i32_0 : BitVec 32 := 0#32
  let v4 : BitVec 32 := Scalar.maxsi v3 c0_i32_0
  let v5 : Index := Scalar.indexCast v4
  ![v5.toNat]
def k0_off3 (i : grid0.Coords) : Fin 1 → Nat :=
  let arg0 : BitVec 32 := BitVec.ofNat 32 (i 0).val
  let v11 : Index := Scalar.indexCast arg0
  ![v11.toNat]
def k0_off4 (i : grid0.Coords) : Fin 1 → Nat :=
  let arg0 : BitVec 32 := BitVec.ofNat 32 (i 0).val
  let v16 : Index := Scalar.indexCast arg0
  ![v16.toNat]
def k0_cond2 (v12 : BitVec 32) : BitVec 1 :=
  let c0_i32_2 : BitVec 32 := 0#32
  let v13 : BitVec 1 := Scalar.cmpi .sgt v12 c0_i32_2
  let v14 : BitVec 32 := Scalar.extui v13
  let c0_i32_3 : BitVec 32 := 0#32
  let v15 : BitVec 1 := Scalar.cmpi .ne v14 c0_i32_3
  v15

def k0_cond3 (v17 : BitVec 32) : BitVec 1 :=
  let c0_i32_4 : BitVec 32 := 0#32
  let v18 : BitVec 1 := Scalar.cmpi .eq v17 c0_i32_4
  let v19 : BitVec 32 := Scalar.extui v18
  let c0_i32_5 : BitVec 32 := 0#32
  let v20 : BitVec 1 := Scalar.cmpi .ne v19 c0_i32_5
  v20

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (k0_off1_inb : ∀ i : grid0.Coords, ∀ a, (k0_off1 i) a + S1.size a ≤ S96.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 0 (Rect.unit (s := S96) ![v0.toNat] S1.size (k0_off1_inb i)) numel1_S1
  let c0_i32 : BitVec 32 := 0#32
  let c0_i32_0 : BitVec 32 := 0#32
  let c0_i32_1 : BitVec 32 := 0#32
  ![v1.toNat, c0_i32.toNat, c0_i32_0.toNat]

def cc0_transform_2 (k0_off1_inb : ∀ i : grid0.Coords, ∀ a, (k0_off1 i) a + S1.size a ≤ S96.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 0 (Rect.unit (s := S96) ![v0.toNat] S1.size (k0_off1_inb i)) numel1_S1
  let c0_i32 : BitVec 32 := 0#32
  let c0_i32_0 : BitVec 32 := 0#32
  let c0_i32_1 : BitVec 32 := 0#32
  ![v1.toNat, c0_i32.toNat, c0_i32_0.toNat]

def cc0_transform_3 (k0_off1_inb : ∀ i : grid0.Coords, ∀ a, (k0_off1 i) a + S1.size a ≤ S96.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 0 (Rect.unit (s := S96) ![v0.toNat] S1.size (k0_off1_inb i)) numel1_S1
  let c0_i32 : BitVec 32 := 0#32
  let c0_i32_0 : BitVec 32 := 0#32
  let c0_i32_1 : BitVec 32 := 0#32
  ![v1.toNat, c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x1024x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== Reference4Ideal.lean ====
abbrev S32 : Shape := ⟨1, ![32]⟩
abbrev S49152x1024 : Shape := ⟨2, ![49152, 1024]⟩
abbrev S32x1024x512 : Shape := ⟨3, ![32, 1024, 512]⟩
abbrev S32x512x1024 : Shape := ⟨3, ![32, 512, 1024]⟩
abbrev S_ : Shape := ⟨0, ![]⟩
abbrev S96 : Shape := ⟨1, ![96]⟩
abbrev S96x1 : Shape := ⟨2, ![96, 1]⟩
abbrev S1x32 : Shape := ⟨2, ![1, 32]⟩
abbrev S96x32 : Shape := ⟨2, ![96, 32]⟩
abbrev S96x512x1024 : Shape := ⟨3, ![96, 512, 1024]⟩
abbrev S96x1024x512 : Shape := ⟨3, ![96, 1024, 512]⟩
abbrev S96x512x512 : Shape := ⟨3, ![96, 512, 512]⟩
abbrev S96x1x1 : Shape := ⟨3, ![96, 1, 1]⟩

abbrev nBuf : Space → Nat
  | .hbm => 96
  | .vmem => 0
  | .smem => 0
  | _ => 0

abbrev bufTy : (tb : Table) → Fin (tcTables nBuf tb) → BufTy
  | .hbm, ⟨0, _⟩ => ⟨S32, .i32⟩
  | .hbm, ⟨1, _⟩ => ⟨S49152x1024, .f32⟩
  | .hbm, ⟨2, _⟩ => ⟨S32x1024x512, .f32⟩
  | .hbm, ⟨3, _⟩ => ⟨S32x1024x512, .f32⟩
  | .hbm, ⟨4, _⟩ => ⟨S32x512x1024, .f32⟩
  | .hbm, ⟨5, _⟩ => ⟨S_, .i32⟩
  | .hbm, ⟨6, _⟩ => ⟨S32, .i32⟩
  | .hbm, ⟨7, _⟩ => ⟨S32, .i32⟩
  | .hbm, ⟨8, _⟩ => ⟨S_, .i32⟩
  | .hbm, ⟨9, _⟩ => ⟨S32, .i32⟩
  | .hbm, ⟨10, _⟩ => ⟨S32, .i32⟩
  | .hbm, ⟨11, _⟩ => ⟨S_, .i32⟩
  | .hbm, ⟨12, _⟩ => ⟨S_, .i32⟩
  | .hbm, ⟨13, _⟩ => ⟨S32, .i32⟩
  | .hbm, ⟨14, _⟩ => ⟨S32, .i32⟩
  | .hbm, ⟨15, _⟩ => ⟨S32, .i32⟩
  | .hbm, ⟨16, _⟩ => ⟨S_, .i32⟩
  | .hbm, ⟨17, _⟩ => ⟨S32, .i32⟩
  | .hbm, ⟨18, _⟩ => ⟨S32, .i1⟩
  | .hbm, ⟨19, _⟩ => ⟨S32, .i32⟩
  | .hbm, ⟨20, _⟩ => ⟨S32, .i32⟩
  | .hbm, ⟨21, _⟩ => ⟨S_, .i32⟩
  | .hbm, ⟨22, _⟩ => ⟨S32, .i32⟩
  | .hbm, ⟨23, _⟩ => ⟨S32, .i1⟩
  | .hbm, ⟨24, _⟩ => ⟨S32, .i1⟩
  | .hbm, ⟨25, _⟩ => ⟨S_, .i32⟩
  | .hbm, ⟨26, _⟩ => ⟨S32, .i32⟩
  | .hbm, ⟨27, _⟩ => ⟨S32, .i32⟩
  | .hbm, ⟨28, _⟩ => ⟨S32, .i32⟩
  | .hbm, ⟨29, _⟩ => ⟨S_, .i32⟩
  | .hbm, ⟨30, _⟩ => ⟨S32, .i32⟩
  | .hbm, ⟨31, _⟩ => ⟨S32, .i32⟩
  | .hbm, ⟨32, _⟩ => ⟨S_, .i32⟩
  | .hbm, ⟨33, _⟩ => ⟨S_, .i32⟩
  | .hbm, ⟨34, _⟩ => ⟨S32, .i32⟩
  | .hbm, ⟨35, _⟩ => ⟨S96, .i32⟩
  | .hbm, ⟨36, _⟩ => ⟨S_, .i32⟩
  | .hbm, ⟨37, _⟩ => ⟨S96, .i32⟩
  | .hbm, ⟨38, _⟩ => ⟨S96, .i32⟩
  | .hbm, ⟨39, _⟩ => ⟨S96x1, .i32⟩
  | .hbm, ⟨40, _⟩ => ⟨S1x32, .i32⟩
  | .hbm, ⟨41, _⟩ => ⟨S96x32, .i32⟩
  | .hbm, ⟨42, _⟩ => ⟨S96x32, .i32⟩
  | .hbm, ⟨43, _⟩ => ⟨S96x32, .i1⟩
  | .hbm, ⟨44, _⟩ => ⟨S96x32, .i32⟩
  | .hbm, ⟨45, _⟩ => ⟨S_, .i32⟩
  | .hbm, ⟨46, _⟩ => ⟨S96, .i32⟩
  | .hbm, ⟨47, _⟩ => ⟨S_, .i32⟩
  | .hbm, ⟨48, _⟩ => ⟨S96, .i32⟩
  | .hbm, ⟨49, _⟩ => ⟨S96, .i32⟩
  | .hbm, ⟨50, _⟩ => ⟨S96x1, .i32⟩
  | .hbm, ⟨51, _⟩ => ⟨S32, .i32⟩
  | .hbm, ⟨52, _⟩ => ⟨S1x32, .i32⟩
  | .hbm, ⟨53, _⟩ => ⟨S96x32, .i32⟩
  | .hbm, ⟨54, _⟩ => ⟨S96x32, .i32⟩
  | .hbm, ⟨55, _⟩ => ⟨S96x32, .i1⟩
  | .hbm, ⟨56, _⟩ => ⟨S32, .i32⟩
  | .hbm, ⟨57, _⟩ => ⟨S32, .i32⟩
  | .hbm, ⟨58, _⟩ => ⟨S_, .i32⟩
  | .hbm, ⟨59, _⟩ => ⟨S_, .i32⟩
  | .hbm, ⟨60, _⟩ => ⟨S96x32, .i32⟩
  | .hbm, ⟨61, _⟩ => ⟨S96x32, .i32⟩
  | .hbm, ⟨62, _⟩ => ⟨S96x32, .i32⟩
  | .hbm, ⟨63, _⟩ => ⟨S_, .i32⟩
  | .hbm, ⟨64, _⟩ => ⟨S96, .i32⟩
  | .hbm, ⟨65, _⟩ => ⟨S96x512x1024, .f32⟩
  | .hbm, ⟨66, _⟩ => ⟨S96x1, .i32⟩
  | .hbm, ⟨67, _⟩ => ⟨S96x1024x512, .f32⟩
  | .hbm, ⟨68, _⟩ => ⟨S96x512x512, .f32⟩
  | .hbm, ⟨69, _⟩ => ⟨S96x512x512, .f32⟩
  | .hbm, ⟨70, _⟩ => ⟨S96x512x512, .f32⟩
  | .hbm, ⟨71, _⟩ => ⟨S_, .f32⟩
  | .hbm, ⟨72, _⟩ => ⟨S96x512x512, .f32⟩
  | .hbm, ⟨73, _⟩ => ⟨S96x512x512, .f32⟩
  | .hbm, ⟨74, _⟩ => ⟨S_, .f32⟩
  | .hbm, ⟨75, _⟩ => ⟨S96x512x512, .f32⟩
  | .hbm, ⟨76, _⟩ => ⟨S96x512x512, .f32⟩
  | .hbm, ⟨77, _⟩ => ⟨S96x512x512, .f32⟩
  | .hbm, ⟨78, _⟩ => ⟨S96x1, .i32⟩
  | .hbm, ⟨79, _⟩ => ⟨S96x1024x512, .f32⟩
  | .hbm, ⟨80, _⟩ => ⟨S96x512x512, .f32⟩
  | .hbm, ⟨81, _⟩ => ⟨S96x512x512, .f32⟩
  | .hbm, ⟨82, _⟩ => ⟨S96x1, .i32⟩
  | .hbm, ⟨83, _⟩ => ⟨S96x512x1024, .f32⟩
  | .hbm, ⟨84, _⟩ => ⟨S96x512x1024, .f32⟩
  | .hbm, ⟨85, _⟩ => ⟨S96, .i32⟩
  | .hbm, ⟨86, _⟩ => ⟨S_, .i32⟩
  | .hbm, ⟨87, _⟩ => ⟨S96, .i32⟩
  | .hbm, ⟨88, _⟩ => ⟨S96, .i1⟩
  | .hbm, ⟨89, _⟩ => ⟨S96x1x1, .i1⟩
  | .hbm, ⟨90, _⟩ => ⟨S_, .f32⟩
  | .hbm, ⟨91, _⟩ => ⟨S_, .f32⟩
  | .hbm, ⟨92, _⟩ => ⟨S96x512x1024, .i1⟩
  | .hbm, ⟨93, _⟩ => ⟨S96x512x1024, .f32⟩
  | .hbm, ⟨94, _⟩ => ⟨S96x512x1024, .f32⟩
  | .hbm, ⟨95, _⟩ => ⟨S49152x1024, .f32⟩
  | _, _ => ⟨S32, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_c : Ref sig .tc := ⟨.hbm, 5, rfl⟩
abbrev main_v0 : Ref sig .tc := ⟨.hbm, 6, rfl⟩
abbrev main_v1 : Ref sig .tc := ⟨.hbm, 7, rfl⟩
abbrev main_c_0 : Ref sig .tc := ⟨.hbm, 8, rfl⟩
abbrev main_v2 : Ref sig .tc := ⟨.hbm, 9, rfl⟩
abbrev main_v3 : Ref sig .tc := ⟨.hbm, 10, rfl⟩
abbrev main_c_1 : Ref sig .tc := ⟨.hbm, 11, rfl⟩
abbrev main_call0_v0 : Ref sig .tc := ⟨.hbm, 12, rfl⟩
abbrev main_call0_v1 : Ref sig .tc := ⟨.hbm, 13, rfl⟩
abbrev main_call0_v2 : Ref sig .tc := ⟨.hbm, 14, rfl⟩
abbrev main_call0_v3 : Ref sig .tc := ⟨.hbm, 15, rfl⟩
abbrev main_call0_v4 : Ref sig .tc := ⟨.hbm, 16, rfl⟩
abbrev main_call0_v5 : Ref sig .tc := ⟨.hbm, 17, rfl⟩
abbrev main_call0_v6 : Ref sig .tc := ⟨.hbm, 18, rfl⟩
abbrev main_call0_v7 : Ref sig .tc := ⟨.hbm, 19, rfl⟩
abbrev main_call0_v8 : Ref sig .tc := ⟨.hbm, 20, rfl⟩
abbrev main_call0_c : Ref sig .tc := ⟨.hbm, 21, rfl⟩
abbrev main_call0_v9 : Ref sig .tc := ⟨.hbm, 22, rfl⟩
abbrev main_call0_v10 : Ref sig .tc := ⟨.hbm, 23, rfl⟩
abbrev main_call0_v11 : Ref sig .tc := ⟨.hbm, 24, rfl⟩
abbrev main_call0_c_0 : Ref sig .tc := ⟨.hbm, 25, rfl⟩
abbrev main_call0_v12 : Ref sig .tc := ⟨.hbm, 26, rfl⟩
abbrev main_call0_v13 : Ref sig .tc := ⟨.hbm, 27, rfl⟩
abbrev main_v4 : Ref sig .tc := ⟨.hbm, 28, rfl⟩
abbrev main_c_2 : Ref sig .tc := ⟨.hbm, 29, rfl⟩
abbrev main_v5 : Ref sig .tc := ⟨.hbm, 30, rfl⟩
abbrev main_v6 : Ref sig .tc := ⟨.hbm, 31, rfl⟩
abbrev main_call1_call0_c : Ref sig .tc := ⟨.hbm, 32, rfl⟩
abbrev main_call1_call0_v0 : Ref sig .tc := ⟨.hbm, 33, rfl⟩
abbrev main_v7 : Ref sig .tc := ⟨.hbm, 34, rfl⟩
abbrev main_v8 : Ref sig .tc := ⟨.hbm, 35, rfl⟩
abbrev main_c_3 : Ref sig .tc := ⟨.hbm, 36, rfl⟩
abbrev main_v9 : Ref sig .tc := ⟨.hbm, 37, rfl⟩
abbrev main_v10 : Ref sig .tc := ⟨.hbm, 38, rfl⟩
abbrev main_v11 : Ref sig .tc := ⟨.hbm, 39, rfl⟩
abbrev main_v12 : Ref sig .tc := ⟨.hbm, 40, rfl⟩
abbrev main_v13 : Ref sig .tc := ⟨.hbm, 41, rfl⟩
abbrev main_v14 : Ref sig .tc := ⟨.hbm, 42, rfl⟩
abbrev main_v15 : Ref sig .tc := ⟨.hbm, 43, rfl⟩
abbrev main_v16 : Ref sig .tc := ⟨.hbm, 44, rfl⟩
abbrev main_c_4 : Ref sig .tc := ⟨.hbm, 45, rfl⟩
abbrev main_v17 : Ref sig .tc := ⟨.hbm, 46, rfl⟩
abbrev main_c_5 : Ref sig .tc := ⟨.hbm, 47, rfl⟩
abbrev main_v18 : Ref sig .tc := ⟨.hbm, 48, rfl⟩
abbrev main_v19 : Ref sig .tc := ⟨.hbm, 49, rfl⟩
abbrev main_v20 : Ref sig .tc := ⟨.hbm, 50, rfl⟩
abbrev main_v21 : Ref sig .tc := ⟨.hbm, 51, rfl⟩
abbrev main_v22 : Ref sig .tc := ⟨.hbm, 52, rfl⟩
abbrev main_v23 : Ref sig .tc := ⟨.hbm, 53, rfl⟩
abbrev main_v24 : Ref sig .tc := ⟨.hbm, 54, rfl⟩
abbrev main_v25 : Ref sig .tc := ⟨.hbm, 55, rfl⟩
abbrev main_v26 : Ref sig .tc := ⟨.hbm, 56, rfl⟩
abbrev main_v27 : Ref sig .tc := ⟨.hbm, 57, rfl⟩
abbrev main_c_6 : Ref sig .tc := ⟨.hbm, 58, rfl⟩
abbrev main_call2_v0 : Ref sig .tc := ⟨.hbm, 59, rfl⟩
abbrev main_call2_v1 : Ref sig .tc := ⟨.hbm, 60, rfl⟩
abbrev main_call2_v2 : Ref sig .tc := ⟨.hbm, 61, rfl⟩
abbrev main_v28 : Ref sig .tc := ⟨.hbm, 62, rfl⟩
abbrev main_c_7 : Ref sig .tc := ⟨.hbm, 63, rfl⟩
abbrev main_v29 : Ref sig .tc := ⟨.hbm, 64, rfl⟩
abbrev main_v30 : Ref sig .tc := ⟨.hbm, 65, rfl⟩
abbrev main_call3_v0 : Ref sig .tc := ⟨.hbm, 66, rfl⟩
abbrev main_v31 : Ref sig .tc := ⟨.hbm, 67, rfl⟩
abbrev main_v32 : Ref sig .tc := ⟨.hbm, 68, rfl⟩
abbrev main_call4_v0 : Ref sig .tc := ⟨.hbm, 69, rfl⟩
abbrev main_call4_v1 : Ref sig .tc := ⟨.hbm, 70, rfl⟩
abbrev main_call4_cst : Ref sig .tc := ⟨.hbm, 71, rfl⟩
abbrev main_call4_v2 : Ref sig .tc := ⟨.hbm, 72, rfl⟩
abbrev main_call4_v3 : Ref sig .tc := ⟨.hbm, 73, rfl⟩
abbrev main_call4_cst_0 : Ref sig .tc := ⟨.hbm, 74, rfl⟩
abbrev main_call4_v4 : Ref sig .tc := ⟨.hbm, 75, rfl⟩
abbrev main_call4_v5 : Ref sig .tc := ⟨.hbm, 76, rfl⟩
abbrev main_v33 : Ref sig .tc := ⟨.hbm, 77, rfl⟩
abbrev main_call5_v0 : Ref sig .tc := ⟨.hbm, 78, rfl⟩
abbrev main_v34 : Ref sig .tc := ⟨.hbm, 79, rfl⟩
abbrev main_v35 : Ref sig .tc := ⟨.hbm, 80, rfl⟩
abbrev main_v36 : Ref sig .tc := ⟨.hbm, 81, rfl⟩
abbrev main_call6_v0 : Ref sig .tc := ⟨.hbm, 82, rfl⟩
abbrev main_v37 : Ref sig .tc := ⟨.hbm, 83, rfl⟩
abbrev main_v38 : Ref sig .tc := ⟨.hbm, 84, rfl⟩
abbrev main_v39 : Ref sig .tc := ⟨.hbm, 85, rfl⟩
abbrev main_c_8 : Ref sig .tc := ⟨.hbm, 86, rfl⟩
abbrev main_v40 : Ref sig .tc := ⟨.hbm, 87, rfl⟩
abbrev main_v41 : Ref sig .tc := ⟨.hbm, 88, rfl⟩
abbrev main_v42 : Ref sig .tc := ⟨.hbm, 89, rfl⟩
abbrev main_cst : Ref sig .tc := ⟨.hbm, 90, rfl⟩
abbrev main_call7_v0 : Ref sig .tc := ⟨.hbm, 91, rfl⟩
abbrev main_call7_v1 : Ref sig .tc := ⟨.hbm, 92, rfl⟩
abbrev main_call7_v2 : Ref sig .tc := ⟨.hbm, 93, rfl⟩
abbrev main_v43 : Ref sig .tc := ⟨.hbm, 94, rfl⟩
abbrev main_v44 : Ref sig .tc := ⟨.hbm, 95, rfl⟩

abbrev nD : Nat := 1
abbrev τ : Topo := Topo.v7x

variable {F : FTy → Type} [FloatOps F]
-- ==== Proof.Routes.lean ====
/-
  The routing in natural numbers: assignment `r` chose expert `e r`; every expert's assignments get a segment padded to whole
  blocks of 512 rows, and assignment `r` gets the row after those of the earlier assignments to its expert.
-/
module

public import Idealize.ShloMosaic.Lib.Routing.Count

@[expose] public section

namespace Cert.Routes

/-- The sum of `f` over the numbers below `n`. -/
def psum (f : ℕ → ℕ) (n : ℕ) : ℕ := ((List.range n).map f).sum

theorem psum_zero (f : ℕ → ℕ) : psum f 0 = 0 := rfl

theorem psum_succ (f : ℕ → ℕ) (n : ℕ) : psum f (n + 1) = psum f n + f n := by
  unfold psum; rw [List.range_succ, List.map_append, List.sum_append]; simp

theorem psum_mono (f : ℕ → ℕ) {a b : ℕ} (h : a ≤ b) : psum f a ≤ psum f b := by
  induction b, h using Nat.le_induction with
  | base => exact le_rfl
  | succ n _ ih => rw [psum_succ]; omega

variable (e : ℕ → ℕ)

/-- How many of the first `n` assignments chose expert `x`. -/
def occ (x n : ℕ) : ℕ := Nat.count (fun s => e s = x) n

/-- How many assignments chose expert `x`. -/
def tot (x : ℕ) : ℕ := occ e x 32768

/-- That number rounded up to whole blocks. -/
def pad (c : ℕ) : ℕ := (c + 511) / 512 * 512

/-- Where expert `x`'s segment starts. -/
def pst (x : ℕ) : ℕ := psum (fun y => pad (tot e y)) x

/-- The row of assignment `r`. -/
def dst (r : ℕ) : ℕ := pst e (e r) + occ e (e r) r

theorem pst_succ (x : ℕ) : pst e (x + 1) = pst e x + pad (tot e x) := psum_succ _ _

theorem pst_mono {a b : ℕ} (h : a ≤ b) : pst e a ≤ pst e b := psum_mono _ h

theorem pst_dvd (x : ℕ) : pst e x % 512 = 0 := by
  induction x with
  | zero => rfl
  | succ n ih => rw [pst_succ]; unfold pad; omega

theorem occ_le (x n : ℕ) : occ e x n ≤ n := Nat.count_le _

theorem occ_succ (x n : ℕ) : occ e x (n + 1) = occ e x n + if e n = x then 1 else 0 := Nat.count_succ _ _

theorem psum_occ (N : ℕ) (he : ∀ r < N, e r < 32) : psum (fun x => occ e x N) 32 = N := by
  induction N with
  | zero => simp [psum, occ]
  | succ N ih =>
    have h1 : ∀ n, psum (fun x => occ e x (N + 1)) n = psum (fun x => occ e x N) n + if e N < n then 1 else 0 := by
      intro n
      induction n with
      | zero => simp [psum]
      | succ n ih' =>
        rw [psum_succ, psum_succ, ih', occ_succ]
        by_cases h : e N = n
        · rw [if_neg (by omega), if_pos h, if_pos (by omega)]; omega
        · by_cases h2 : e N < n
          · rw [if_pos h2, if_neg h, if_pos (by omega)]; omega
          · rw [if_neg h2, if_neg h, if_neg (by omega)]; omega
    rw [h1, ih fun r hr => he r (by omega), if_pos (he N (by omega))]

theorem pst_le (x : ℕ) : pst e x ≤ psum (tot e) x + x * 511 := by
  induction x with
  | zero => exact le_rfl
  | succ n ih => rw [pst_succ, psum_succ]; unfold pad; omega

section
variable {e} (he : ∀ r < 32768, e r < 32)
include he

theorem pst_top : pst e 32 < 49152 := by
  have := pst_le e 32
  have h : psum (tot e) 32 = 32768 := psum_occ e 32768 he
  omega

omit he in
theorem tot_le (x : ℕ) : tot e x ≤ pad (tot e x) := by unfold pad; omega

omit he in
theorem occ_lt {r : ℕ} (hr : r < 32768) : occ e (e r) r < tot e (e r) := by
  unfold tot occ
  exact Nat.count_strict_mono (p := fun s => e s = e r) rfl hr

omit he in
theorem dst_lt_seg {r : ℕ} (hr : r < 32768) : dst e r < pst e (e r + 1) := by
  rw [pst_succ]; unfold dst
  have := occ_lt (e := e) hr
  have := tot_le (e := e) (e r)
  omega

theorem dst_lt {r : ℕ} (hr : r < 32768) : dst e r < 49152 := by
  have h1 := dst_lt_seg (e := e) hr
  have h2 := pst_mono e (show e r + 1 ≤ 32 from he r hr)
  have := pst_top he
  omega

omit he in
theorem dst_inj {r s : ℕ} (hr : r < 32768) (hs : s < 32768) (h : dst e r = dst e s) : r = s := by
  have h1 := dst_lt_seg (e := e) hr
  have h2 := dst_lt_seg (e := e) hs
  have hx : e r = e s := by
    rcases Nat.lt_trichotomy (e r) (e s) with hl | hl | hl
    · have := pst_mono e (show e r + 1 ≤ e s from hl)
      have : pst e (e s) ≤ dst e s := Nat.le_add_right _ _
      omega
    · exact hl
    · have := pst_mono e (show e s + 1 ≤ e r from hl)
      have : pst e (e r) ≤ dst e r := Nat.le_add_right _ _
      omega
  have ho : occ e (e s) r = occ e (e s) s := by
    unfold dst at h; rw [hx] at h; omega
  exact Nat.count_injective (p := fun t => e t = e s) hx rfl ho

omit he in
/-- Every place below an expert's count is some assignment's. -/
theorem exists_occ (x : ℕ) (N o : ℕ) (ho : o < occ e x N) : ∃ r < N, e r = x ∧ occ e x r = o := by
  induction N with
  | zero => exact absurd ho (by simp [occ])
  | succ N ih =>
    rw [occ_succ] at ho
    by_cases h : o < occ e x N
    · obtain ⟨r, hr, h1, h2⟩ := ih h; exact ⟨r, by omega, h1, h2⟩
    · by_cases hx : e N = x
      · rw [if_pos hx] at ho; exact ⟨N, by omega, hx, by omega⟩
      · rw [if_neg hx] at ho; omega

omit he in
theorem seg_of_lt (y n : ℕ) (hy : y < pst e n) : ∃ x < n, pst e x ≤ y ∧ y < pst e (x + 1) := by
  induction n with
  | zero => exact absurd hy (by simp [pst, psum])
  | succ n ih =>
    by_cases h : y < pst e n
    · obtain ⟨x, hx, h1⟩ := ih h; exact ⟨x, by omega, h1⟩
    · exact ⟨n, by omega, by omega, hy⟩

omit he in
/-- A row that no assignment gets lies behind the segments or in the last block of a segment that is not empty. -/
theorem cover (y : ℕ) (hn : ∀ r < 32768, dst e r ≠ y) :
    pst e 32 ≤ y ∨ ∃ x < 32, 0 < tot e x ∧ y / 512 = pst e (x + 1) / 512 - 1 := by
  by_cases h : pst e 32 ≤ y
  · exact Or.inl h
  · obtain ⟨x, hx, h1, h2⟩ := seg_of_lt (e := e) y 32 (by omega)
    refine Or.inr ⟨x, hx, ?_⟩
    have ho : ¬ y - pst e x < tot e x := by
      intro ho
      obtain ⟨r, hr, h3, h4⟩ := exists_occ (e := e) x 32768 (y - pst e x) ho
      exact hn r hr (by unfold dst; rw [h3, h4]; omega)
    have hd := pst_dvd e x
    rw [pst_succ] at h2 ⊢
    unfold pad at h2 ⊢
    omega

end

/-! ## The blocks to be zeroed -/

/-- How many segments before `x`'s are not empty. -/
def lives (x : ℕ) : ℕ := Nat.count (fun x => 0 < tot e x) x

open Classical in
/-- The blocks the kernel zeroes: the last block of every segment that is not empty, in order, then those behind the segments. -/
noncomputable def blk (j : ℕ) : ℕ :=
  if h : ∃ x < 32, 0 < tot e x ∧ lives e x = j then pst e (h.choose + 1) / 512 - 1
  else pst e 32 / 512 + (j - lives e 32)

theorem lives_lt {x : ℕ} (hx : x < 32) (hl : 0 < tot e x) : lives e x < lives e 32 :=
  Nat.count_strict_mono (p := fun x => 0 < tot e x) hl hx

theorem blk_live {x : ℕ} (hx : x < 32) (hl : 0 < tot e x) : blk e (lives e x) = pst e (x + 1) / 512 - 1 := by
  have h : ∃ x' < 32, 0 < tot e x' ∧ lives e x' = lives e x := ⟨x, hx, hl, rfl⟩
  have hc : h.choose = x := Nat.count_injective (p := fun x => 0 < tot e x) h.choose_spec.2.1 hl h.choose_spec.2.2
  unfold blk; rw [dif_pos h, hc]

theorem blk_tail (k : ℕ) : blk e (lives e 32 + k) = pst e 32 / 512 + k := by
  unfold blk
  rw [dif_neg]
  · omega
  · rintro ⟨x, hx, hl, h⟩
    have := lives_lt e hx hl
    omega

theorem exists_live {j : ℕ} (hj : j < lives e 32) : ∃ x < 32, 0 < tot e x ∧ lives e x = j := by
  have key : ∀ n, j < lives e n → ∃ x < n, 0 < tot e x ∧ lives e x = j := by
    intro n
    induction n with
    | zero => intro h; exact absurd h (by simp [lives])
    | succ n ih =>
      intro h
      unfold lives at h
      rw [Nat.count_succ] at h
      by_cases h' : j < lives e n
      · obtain ⟨x, hx, h1⟩ := ih h'; exact ⟨x, by omega, h1⟩
      · by_cases hl : 0 < tot e n
        · rw [if_pos hl] at h; exact ⟨n, by omega, hl, by unfold lives at h' ⊢; omega⟩
        · rw [if_neg hl] at h; exact absurd h h'
  exact key 32 hj

theorem live_seg {x : ℕ} (hl : 0 < tot e x) : pst e x + 512 ≤ pst e (x + 1) := by
  rw [pst_succ]; unfold pad; omega

/-- A live segment's last block is before the tail's. -/
theorem live_blk_lt {x : ℕ} (hx : x < 32) (hl : 0 < tot e x) : pst e (x + 1) / 512 - 1 < pst e 32 / 512 := by
  have := live_seg e hl
  have := pst_mono e (show x + 1 ≤ 32 from hx)
  omega

theorem live_blk_inj {x x' : ℕ} (hl : 0 < tot e x) (hl' : 0 < tot e x')
    (h : pst e (x + 1) / 512 - 1 = pst e (x' + 1) / 512 - 1) : x = x' := by
  have h1 := live_seg e hl
  have h2 := live_seg e hl'
  have d1 := pst_dvd e (x + 1)
  have d2 := pst_dvd e (x' + 1)
  rcases Nat.lt_trichotomy x x' with hh | hh | hh
  · have := pst_mono e (show x + 1 ≤ x' from hh); omega
  · exact hh
  · have := pst_mono e (show x' + 1 ≤ x from hh); omega

variable {e} (he : ∀ r < 32768, e r < 32)
include he

theorem blk_lt {j : ℕ} (hj : j < lives e 32 + (96 - pst e 32 / 512)) : blk e j < 96 := by
  have ht := pst_top he
  by_cases h : j < lives e 32
  · obtain ⟨x, hx, hl, rfl⟩ := exists_live e h
    rw [blk_live e hx hl]
    have := live_blk_lt e hx hl
    omega
  · obtain ⟨k, rfl⟩ := Nat.exists_eq_add_of_le (Nat.le_of_not_lt h)
    rw [blk_tail]; omega

omit he in
theorem blk_ne {i j : ℕ} (hij : i ≠ j) : blk e i ≠ blk e j := by
  intro h
  by_cases hi : i < lives e 32 <;> by_cases hj : j < lives e 32
  · obtain ⟨x, hx, hl, rfl⟩ := exists_live e hi
    obtain ⟨x', hx', hl', rfl⟩ := exists_live e hj
    rw [blk_live e hx hl, blk_live e hx' hl'] at h
    exact hij (congrArg _ (live_blk_inj e hl hl' h))
  · obtain ⟨x, hx, hl, rfl⟩ := exists_live e hi
    obtain ⟨k, rfl⟩ := Nat.exists_eq_add_of_le (Nat.le_of_not_lt hj)
    rw [blk_live e hx hl, blk_tail] at h
    have := live_blk_lt e hx hl; omega
  · obtain ⟨x, hx, hl, rfl⟩ := exists_live e hj
    obtain ⟨k, rfl⟩ := Nat.exists_eq_add_of_le (Nat.le_of_not_lt hi)
    rw [blk_live e hx hl, blk_tail] at h
    have := live_blk_lt e hx hl; omega
  · obtain ⟨k, rfl⟩ := Nat.exists_eq_add_of_le (Nat.le_of_not_lt hi)
    obtain ⟨k', rfl⟩ := Nat.exists_eq_add_of_le (Nat.le_of_not_lt hj)
    rw [blk_tail, blk_tail] at h; omega

omit he in
/-- A row below 49152 that no assignment gets lies in a zeroed block. -/
theorem exists_blk {y : ℕ} (hy : y < 49152) (hn : ∀ r < 32768, dst e r ≠ y) :
    ∃ j < lives e 32 + (96 - pst e 32 / 512), y / 512 = blk e j := by
  rcases cover (e := e) y hn with h | ⟨x, hx, hl, h⟩
  · refine ⟨lives e 32 + (y / 512 - pst e 32 / 512), by omega, ?_⟩
    rw [blk_tail]; omega
  · exact ⟨lives e x, by have := lives_lt e hx hl; omega, by rw [blk_live e hx hl]; exact h⟩

end Cert.Routes
-- ==== Proof.Words.lean ====
/-
  The routing tables' operations on words, each read at one index: the rounding up to whole blocks, the running sums, and the
  sum of one expert's value out of a row of zeros.
-/
module

public import Idealize.ShloMosaic.Lib.Routing.OpsSet
public import Idealize.ShloMosaic.Lib.Routing.OpsOne
public import Idealize.ShloMosaic.Lib.Pipeline.Value
public import Idealize.ShloMosaic.Lib.ReduceAll
public import proofs.«01_k».proof.Proof.Routes

@[expose] public section

noncomputable section

namespace Cert.Routes

open Idealize.ShloMosaic Idealize.ShloMosaic.ValueIdx Idealize.ShloMosaic.Routing

/-! ## Words -/

theorem toNat_ofNat {n : ℕ} (h : n < 2 ^ 32) : (BitVec.ofNat 32 n).toNat = n := by
  rw [BitVec.toNat_ofNat, Nat.mod_eq_of_lt h]

theorem msb_ofNat {n : ℕ} (h : n < 2 ^ 31) : (BitVec.ofNat 32 n).msb = false :=
  BitVec.msb_eq_false_iff_two_mul_lt.mpr (by rw [toNat_ofNat (by omega)]; omega)

theorem ofNat_sub {a b : ℕ} (h : b ≤ a) (ha : a < 2 ^ 32) : BitVec.ofNat 32 a - BitVec.ofNat 32 b = BitVec.ofNat 32 (a - b) := by
  apply BitVec.eq_of_toNat_eq
  rw [BitVec.toNat_sub, toNat_ofNat ha, toNat_ofNat (by omega), toNat_ofNat (by omega)]
  omega

/-- Division of a positive small word by 512. -/
theorem divsi_512 (u : ArithUnit) {n : ℕ} (h : n < 2 ^ 31) :
    IntOp.divsi u (BitVec.ofNat 32 n) 512#32 = BitVec.ofNat 32 (n / 512) := by
  have hc : ¬ IntOp.SDivCorner (BitVec.ofNat 32 n) 512#32 := by
    intro hc; rcases hc with hc | ⟨_, hc⟩ <;> exact absurd hc (by decide)
  apply BitVec.eq_of_toNat_eq
  simp only [IntOp.divsi, if_neg hc, BitVec.sdiv_eq, msb_ofNat h, show (512#32 : BitVec 32).msb = false from by decide, BitVec.udiv_eq,
    BitVec.toNat_udiv]
  rw [toNat_ofNat (by omega), toNat_ofNat (n := n / 512) (by omega)]; rfl

/-- The host's floor division by 512, as it prints. -/
def floorW (b0 : (shape0).BroadcastsInDim (shape1 32) (![] : Fin 0 → Fin (shape1 32).rank)) (x : IVec (shape1 32) 32) : IVec (shape1 32) 32 :=
  select (andi (cmpi .ne (signi x) (broadcastInDim (shape1 32) ![] b0 (signi (constantI shape0 32 512#32))))
      (cmpi .ne (Host.remsi x (broadcastInDim (shape1 32) ![] b0 (constantI shape0 32 512#32)))
        (broadcastInDim (shape1 32) ![] b0 (constantI shape0 32 0#32))))
    (subi (Host.divsi x (broadcastInDim (shape1 32) ![] b0 (constantI shape0 32 512#32)))
      (broadcastInDim (shape1 32) ![] b0 (constantI shape0 32 1#32)))
    (Host.divsi x (broadcastInDim (shape1 32) ![] b0 (constantI shape0 32 512#32)))

theorem floorW_at (b0) (x : IVec (shape1 32) 32) (i : Fin 32) (n : ℕ) (h0 : 0 < n) (h : n < 2 ^ 31) (hx : x (ix1 i) = BitVec.ofNat 32 n) :
    floorW b0 x (ix1 i) = BitVec.ofNat 32 (n / 512) := by
  have hne : BitVec.ofNat 32 n ≠ 0 := by
    intro e; have := congrArg BitVec.toNat e; rw [toNat_ofNat (by omega)] at this; exact absurd this (by simpa using h0.ne')
  have hs : signi x (ix1 i) = 1#32 := by
    unfold signi; rw [hx, if_neg hne, msb_ofNat h]; rfl
  have hd : Host.divsi x (broadcastInDim (shape1 32) ![] b0 (constantI shape0 32 512#32)) (ix1 i) = BitVec.ofNat 32 (n / 512) := by
    show IntOp.divsi .host (x (ix1 i)) (broadcastInDim (shape1 32) ![] b0 (constantI shape0 32 512#32) (ix1 i)) = _
    rw [bc0, hx]; exact divsi_512 .host h
  have hc : cmpi .ne (signi x) (broadcastInDim (shape1 32) ![] b0 (signi (constantI shape0 32 512#32))) (ix1 i) = 0#1 := by
    show IntOp.cmpi .ne (signi x (ix1 i)) (broadcastInDim (shape1 32) ![] b0 (signi (constantI shape0 32 512#32)) (ix1 i)) = _
    rw [bc0, hs]; rfl
  show Scalar.select (IntOp.andi (cmpi .ne (signi x) (broadcastInDim (shape1 32) ![] b0 (signi (constantI shape0 32 512#32))) (ix1 i)) _) _ _ = _
  rw [hc, show ∀ b : BitVec 1, IntOp.andi 0#1 b = 0#1 from by decide, select_zero]
  exact hd

section
variable (b0 : (shape0).BroadcastsInDim (shape1 32) (![] : Fin 0 → Fin (shape1 32).rank))
  (b00 : (shape0).BroadcastsInDim shape0 (![] : Fin 0 → Fin shape0.rank))
  (rw1 : (shape1 32).ReduceWindows (![32] : Fin 1 → Nat) ![1] ![31] ![0] (shape1 32)) (h0 : 0 < shape0.numel)

/-- The counts rounded up to whole blocks, as the host computes them. -/
def padW (cn : IVec (shape1 32) 32) : IVec (shape1 32) 32 :=
  muli (floorW b0 (subi (addi cn (broadcastInDim (shape1 32) ![] b0 (constantI shape0 32 512#32)))
    (broadcastInDim (shape1 32) ![] b0 (constantI shape0 32 1#32)))) (broadcastInDim (shape1 32) ![] b0 (constantI shape0 32 512#32))

/-- Where the segments end. -/
def endW (cn : IVec (shape1 32) 32) : IVec (shape1 32) 32 :=
  Host.reduceWindow IntOp.addi ![32] ![1] ![31] ![0] (padW b0 cn) (broadcastInDim shape0 ![] b00 (constantI shape0 32 0#32)) rw1 h0

/-- Where the segments start. -/
def startW (cn : IVec (shape1 32) 32) : IVec (shape1 32) 32 := subi (endW b0 b00 rw1 h0 cn) (padW b0 cn)

variable (e : ℕ → ℕ) (cn : IVec (shape1 32) 32) (hcn : ∀ x : Fin 32, cn (ix1 x) = BitVec.ofNat 32 (tot e x.val))
include hcn

theorem padW_at (x : Fin 32) : padW b0 cn (ix1 x) = BitVec.ofNat 32 (pad (tot e x.val)) := by
  have ht : tot e x.val ≤ 32768 := occ_le e _ _
  have h1 : subi (addi cn (broadcastInDim (shape1 32) ![] b0 (constantI shape0 32 512#32)))
      (broadcastInDim (shape1 32) ![] b0 (constantI shape0 32 1#32)) (ix1 x) = BitVec.ofNat 32 (tot e x.val + 511) := by
    show cn (ix1 x) + broadcastInDim (shape1 32) ![] b0 (constantI shape0 32 512#32) (ix1 x)
      - broadcastInDim (shape1 32) ![] b0 (constantI shape0 32 1#32) (ix1 x) = _
    rw [bc0, bc0, hcn]
    show BitVec.ofNat 32 (tot e x.val) + BitVec.ofNat 32 512 - BitVec.ofNat 32 1 = _
    rw [← BitVec.ofNat_add, ofNat_sub (by omega) (by omega)]
    congr 1
  show floorW b0 _ (ix1 x) * broadcastInDim (shape1 32) ![] b0 (constantI shape0 32 512#32) (ix1 x) = _
  rw [bc0, floorW_at b0 _ x _ (by omega) (by omega) h1]
  show BitVec.ofNat 32 _ * BitVec.ofNat 32 512 = _
  rw [← BitVec.ofNat_mul]; rfl

theorem endW_at (x : Fin 32) : endW b0 b00 rw1 h0 cn (ix1 x) = BitVec.ofNat 32 (pst e (x.val + 1)) :=
  cumsum1 (by rfl) (padW b0 cn) (fun y => pad (tot e y)) (padW_at b0 e cn hcn) _ (bc0 b00 _ _) rw1 h0 x

theorem startW_at (he : ∀ r < 32768, e r < 32) (x : Fin 32) : startW b0 b00 rw1 h0 cn (ix1 x) = BitVec.ofNat 32 (pst e x.val) := by
  have ht := pst_top he
  have hm := pst_mono e (show x.val + 1 ≤ 32 from x.isLt)
  show endW b0 b00 rw1 h0 cn (ix1 x) - padW b0 cn (ix1 x) = _
  rw [endW_at b0 b00 rw1 h0 e cn hcn, padW_at b0 e cn hcn, ofNat_sub (by rw [pst_succ]; omega) (by omega), pst_succ]
  congr 1; omega

end

/-! ## A sum with one entry that is not zero -/

theorem fold_zero {ι : Type} [DecidableEq ι] (S : Finset ι) (f : ι → BitVec 32) (h : ∀ i ∈ S, f i = 0#32) :
    S.fold IntOp.addi 0#32 f = 0#32 := by
  induction S using Finset.cons_induction with
  | empty => rfl
  | cons a S ha ih =>
    rw [Finset.fold_cons, h a (Finset.mem_cons_self ..), ih fun i hi => h i (Finset.mem_cons_of_mem hi)]; rfl

/-- A sum over an axis whose entries are zero but for one is that one. -/
theorem reduce_one {s t u : Shape} {axes : List (Fin s.rank)} (x : IVec s 32) (init : IVec u 32) (h : s.ReducesTo axes t) (hu : 0 < u.numel)
    (hi : init (Shape.Idx.first hu) = 0#32) (j : t.Idx) (i0 : s.Idx) (hd : h.drop i0 = j) (hz : ∀ i, h.drop i = j → i ≠ i0 → x i = 0#32) :
    Host.reduce IntOp.addi x init h hu j = x i0 := by
  classical
  have hm : i0 ∈ Finset.univ.filter fun i => h.drop i = j := Finset.mem_filter.2 ⟨Finset.mem_univ _, hd⟩
  rw [Host.reduce_eq_fold, hi, ← Finset.insert_erase hm, Finset.fold_insert (Finset.notMem_erase _ _), fold_zero _ _ fun i hi => ?_]
  · exact BitVec.add_zero _
  · obtain ⟨h1, h2⟩ := Finset.mem_erase.1 hi
    exact hz i (Finset.mem_filter.1 h2).2 h1

end Cert.Routes

end
-- ==== Proof.Places.lean ====
/-
  The counting of places, as the reference and the precondition compute it: a one-hot row for every assignment, its running sum
  down the assignments, and each assignment's own entry of that sum.
-/
module

public import proofs.«01_k».proof.Proof.Words

@[expose] public section

noncomputable section

namespace Cert.Routes

open Idealize.ShloMosaic Idealize.ShloMosaic.ValueIdx Idealize.ShloMosaic.Routing

section
variable (c1 : (shape1 32768).BroadcastsInDim (shape2 32768 1) (![0] : Fin 1 → Fin (shape2 32768 1).rank))
  (r1 : (shape1 32).BroadcastsInDim (shape2 1 32) (![1] : Fin 1 → Fin (shape2 1 32).rank))
  (c2 : (shape2 32768 1).BroadcastsInDim (shape2 32768 32) (![0, 1] : Fin 2 → Fin (shape2 32768 32).rank))
  (r2 : (shape2 1 32).BroadcastsInDim (shape2 32768 32) (![0, 1] : Fin 2 → Fin (shape2 32768 32).rank))
  (hlt : 1 < 32)
  (b00 : (shape0).BroadcastsInDim shape0 (![] : Fin 0 → Fin shape0.rank))
  (b2 : (shape0).BroadcastsInDim (shape2 32768 32) (![] : Fin 0 → Fin (shape2 32768 32).rank))
  (rw2 : (shape2 32768 32).ReduceWindows (![32768, 1] : Fin 2 → Nat) ![1, 1] ![32767, 0] ![0, 0] (shape2 32768 32))
  (rd : (shape2 32768 32).ReducesTo [1] (shape1 32768)) (h0 : 0 < shape0.numel)

/-- One row per assignment, one at its expert. -/
def ohW (ev : IVec (shape1 32768) 32) : IVec (shape2 32768 32) 32 :=
  extui 32 (cmpi .eq (broadcastInDim (shape2 32768 32) ![0, 1] c2 (broadcastInDim (shape2 32768 1) ![0] c1 ev))
    (broadcastInDim (shape2 32768 32) ![0, 1] r2 (broadcastInDim (shape2 1 32) ![1] r1 (iotaInDim (shape1 32) 32 0)))) hlt

/-- Its running sum. -/
def uptoW (ev : IVec (shape1 32768) 32) : IVec (shape2 32768 32) 32 :=
  Host.reduceWindow IntOp.addi ![32768, 1] ![1, 1] ![32767, 0] ![0, 0] (ohW c1 r1 c2 r2 hlt ev)
    (broadcastInDim shape0 ![] b00 (constantI shape0 32 0#32)) rw2 h0

/-- Each assignment's place among its expert's. -/
def placeW (ev : IVec (shape1 32768) 32) : IVec (shape1 32768) 32 :=
  Host.reduce IntOp.addi (select (cmpi .eq (ohW c1 r1 c2 r2 hlt ev) (broadcastInDim (shape2 32768 32) ![] b2 (constantI shape0 32 1#32)))
    (subi (uptoW c1 r1 c2 r2 hlt b00 rw2 h0 ev) (broadcastInDim (shape2 32768 32) ![] b2 (constantI shape0 32 1#32)))
    (broadcastInDim (shape2 32768 32) ![] b2 (constantI shape0 32 0#32))) (constantI shape0 32 0#32) rd h0

variable (e : ℕ → ℕ) (he : ∀ r < 32768, e r < 32) (ev : IVec (shape1 32768) 32)
  (hev : ∀ r : Fin 32768, ev (ix1 r) = BitVec.ofNat 32 (e r.val))
include he hev

theorem ohW_at (r : Fin 32768) (x : Fin 32) :
    ohW c1 r1 c2 r2 hlt ev (ix2 r x) = BitVec.ofNat 32 (if e r.val = x.val then 1 else 0) := by
  have hb := he r.val r.isLt
  show (IntOp.cmpi .eq (broadcastInDim (shape2 32768 32) ![0, 1] c2 (broadcastInDim (shape2 32768 1) ![0] c1 ev) (ix2 r x))
    (broadcastInDim (shape2 32768 32) ![0, 1] r2 (broadcastInDim (shape2 1 32) ![1] r1 (iotaInDim (shape1 32) 32 0)) (ix2 r x))).setWidth 32 = _
  rw [bcRows, bcCols, hev]
  show (IntOp.cmpi .eq (BitVec.ofNat 32 (e r.val)) (BitVec.ofNat 32 x.val)).setWidth 32 = _
  by_cases h : e r.val = x.val
  · rw [if_pos h, StableHlo.Predicate.cmpi_eq_iff.2 (by rw [h])]; rfl
  · rw [if_neg h, eq_zero_of_ne_one (b := IntOp.cmpi .eq (BitVec.ofNat 32 (e r.val)) (BitVec.ofNat 32 x.val)) fun hh => h ?_]
    · rfl
    · have := congrArg BitVec.toNat (StableHlo.Predicate.cmpi_eq_iff.1 hh)
      rwa [toNat_ofNat (by omega), toNat_ofNat (by omega)] at this

theorem uptoW_at (r : Fin 32768) (x : Fin 32) :
    uptoW c1 r1 c2 r2 hlt b00 rw2 h0 ev (ix2 r x) = BitVec.ofNat 32 (occ e x.val (r.val + 1)) := by
  unfold uptoW
  rw [cumsum_rows (by rfl) _ (fun i c => if e i = c then 1 else 0) (ohW_at c1 r1 c2 r2 hlt e he ev hev) _ (bc0 b00 _ _) rw2 h0 r x,
    sum_map_ite (fun i => e i = x.val)]
  rfl

theorem placeW_at (r : Fin 32768) : placeW c1 r1 c2 r2 hlt b00 b2 rw2 rd h0 ev (ix1 r) = BitVec.ofNat 32 (occ e (e r.val) r.val) := by
  have hb := he r.val r.isLt
  have hrow : ∀ i : (shape2 32768 32).Idx, rd.drop i = ix1 r → ∃ x : Fin 32, i = ix2 r x := by
    intro i hi
    have hv : (rd.drop i 0 : Nat) = i 0 := Shape.ReducesTo.drop_apply_val rd i 0
    rw [hi] at hv
    refine ⟨i 1, funext fun a => ?_⟩
    match a with
    | ⟨0, _⟩ => exact Fin.ext hv.symm
    | ⟨1, _⟩ => rfl
  have hcond : ∀ x : Fin 32, cmpi .eq (ohW c1 r1 c2 r2 hlt ev) (broadcastInDim (shape2 32768 32) ![] b2 (constantI shape0 32 1#32)) (ix2 r x)
      = if e r.val = x.val then 1#1 else 0#1 := by
    intro x
    show IntOp.cmpi .eq (ohW c1 r1 c2 r2 hlt ev (ix2 r x)) (broadcastInDim (shape2 32768 32) ![] b2 (constantI shape0 32 1#32) (ix2 r x)) = _
    rw [ohW_at c1 r1 c2 r2 hlt e he ev hev, bc0]
    by_cases h : e r.val = x.val
    · rw [if_pos h, if_pos h]; rfl
    · rw [if_neg h, if_neg h]; rfl
  unfold placeW
  refine (reduce_one _ _ rd h0 rfl (ix1 r) (ix2 r ⟨e r.val, hb⟩) ?_ fun i hi hne => ?_).trans ?_
  · have hv : (rd.drop (ix2 r ⟨e r.val, hb⟩) 0 : Nat) = r.val := Shape.ReducesTo.drop_apply_val rd _ 0
    funext a
    match a with
    | ⟨0, _⟩ => exact Fin.ext hv
  · obtain ⟨x, rfl⟩ := hrow i hi
    have hx : e r.val ≠ x.val := fun h => hne (congrArg (ix2 r) (Fin.ext h.symm))
    show Scalar.select (cmpi .eq (ohW c1 r1 c2 r2 hlt ev) (broadcastInDim (shape2 32768 32) ![] b2 (constantI shape0 32 1#32)) (ix2 r x)) _ _ = _
    rw [hcond, if_neg hx, select_zero, bc0]; rfl
  · show Scalar.select (cmpi .eq (ohW c1 r1 c2 r2 hlt ev) (broadcastInDim (shape2 32768 32) ![] b2 (constantI shape0 32 1#32)) (ix2 r ⟨e r.val, hb⟩))
      (uptoW c1 r1 c2 r2 hlt b00 rw2 h0 ev (ix2 r ⟨e r.val, hb⟩) - broadcastInDim (shape2 32768 32) ![] b2 (constantI shape0 32 1#32) (ix2 r ⟨e r.val, hb⟩)) _ = _
    rw [hcond, if_pos rfl, select_one, bc0, uptoW_at c1 r1 c2 r2 hlt b00 rw2 h0 e he ev hev]
    have ho : occ e (e r.val) (r.val + 1) = occ e (e r.val) r.val + 1 := by rw [occ_succ, if_pos rfl]
    have hl := occ_le e (e r.val) r.val
    have hr := r.isLt
    show BitVec.ofNat 32 _ - BitVec.ofNat 32 1 = _
    rw [ofNat_sub (by rw [ho]; omega) (by rw [ho]; omega)]
    show BitVec.ofNat 32 (occ e (e r.val) (r.val + 1) - 1) = _
    rw [ho, Nat.add_sub_cancel]

end

/-- The last row of a table, as the slice of it reads. -/
theorem slice_last {α : Type} (x : (shape2 32768 32).Idx → α) (h : (shape2 32768 32).Slices (![32767, 0] : Fin 2 → Nat) (shape2 1 32)) (j : Fin 32) :
    extractStridedSlice (shape2 1 32) ![32767, 0] x h (ix2 0 j) = x (ix2 ⟨32767, by omega⟩ j) := by
  unfold extractStridedSlice
  congr 1
  funext a
  match a with
  | ⟨0, _⟩ => rfl
  | ⟨1, _⟩ => exact Fin.ext (Nat.zero_add _)

/-! ## What the precondition says of the arguments -/

/-- The arguments `a0` (the experts), `a1` (the places) and `a2` (the counts), read as the routing `e`. -/
structure Routed (a0 a1 : IVec (shape2 16384 2) 32) (a2 : IVec (shape1 32) 32) (e : ℕ → ℕ) : Prop where
  lt : ∀ r < 32768, e r < 32
  id : ∀ (t : Fin 16384) (s : Fin 2), a0 (ix2 t s) = BitVec.ofNat 32 (e (t.val * 2 + s.val))
  place : ∀ (t : Fin 16384) (s : Fin 2), a1 (ix2 t s) = BitVec.ofNat 32 (occ e (e (t.val * 2 + s.val)) (t.val * 2 + s.val))
  count : ∀ x : Fin 32, a2 (ix1 x) = BitVec.ofNat 32 (tot e x.val)

/-- The routing that a table of experts gives. -/
def chosen (a0 : IVec (shape2 16384 2) 32) (r : ℕ) : ℕ := (a0 (ix2 ⟨r / 2 % 16384, Nat.mod_lt _ (by decide)⟩ ⟨r % 2, Nat.mod_lt _ (by decide)⟩)).toNat

theorem chosen_at (a0 : IVec (shape2 16384 2) 32) (t : Fin 16384) (s : Fin 2) : chosen a0 (t.val * 2 + s.val) = (a0 (ix2 t s)).toNat := by
  unfold chosen
  congr 2
  have := t.isLt; have := s.isLt
  exact congrArg₂ ix2 (Fin.ext (by show (t.val * 2 + s.val) / 2 % 16384 = t.val; omega)) (Fin.ext (by show (t.val * 2 + s.val) % 2 = s.val; omega))

end Cert.Routes

end
-- ==== Proof.Copies.lean ====
/-
  A run of transfers on one semaphore, all started before the first wait: what is held while `k` of them are
  started, what each one delivers, and what comes back when every one has been waited for. The destinations are
  disjoint parts of one buffer, the sources parts of another; the contents the destination ends with are one function.
-/
module

public import Idealize.ShloMosaic.PureOps
public import Idealize.ShloMosaic.Lib.Batch
public import Idealize.ShloMosaic.Lib.Ring
public import Idealize.ShloMosaic.Lib.Tactic

@[expose] public section

noncomputable section

namespace Dispatch

open Idealize.ShloMosaic Idealize.ShloMosaic.TcCoe Idealize.ShloMosaic.Tactic
open Idealize.SL Idealize.SL.RA
open Idealize.SL.BI (sProp bigSep bigSep_insert bigSep_empty)
open scoped Idealize.SL.BI
open Idealize.SL.BI.BIBase Idealize.SL.BI.Laws Idealize.SL.ProofMode Idealize.SL.Sem

variable {nD : Nat} {τ : Topo} {sig : RefSig} {Val : EltTy → Type}
variable {U : Type} [URA U] [CountersIn U]

local notation "𝕄" => MT nD τ sig Unit Val ℕ U ℕ

/-- `n` transfers into disjoint parts `dst j` of one buffer from parts `src j` of another. `before` is the
    destination's contents at the start, `final` at the end, `from_` the source's contents throughout; `held` is the
    part of the source at hand, at the share `q`. -/
structure Copies (Val : EltTy → Type) (ld ls : Loc nD τ sig) where
  before : Buf Val ld
  final : Buf Val ld
  from_ : Buf Val ls
  held : Finset (Idx ls)
  q : PosShare TreeShare
  n : ℕ
  dst : ℕ → Finset (Idx ld)
  src : ℕ → Finset (Idx ls)
  disj : ∀ i j, i < n → j < n → i ≠ j → Disjoint (dst i) (dst j)
  sub : ∀ j, j < n → src j ⊆ held
  off : ∀ y, (∀ j, j < n → y ∉ dst j) → before y = final y

namespace Copies

variable {ld ls : Loc nD τ sig} (C : Copies Val ld ls)

/-- The destinations of the first `k` transfers together. -/
def done (k : ℕ) : Finset (Idx ld) := (Finset.range k).biUnion C.dst

theorem mem_done {k : ℕ} {y : Idx ld} : y ∈ C.done k ↔ ∃ j, j < k ∧ y ∈ C.dst j := by
  simp [done]

/-- What transfer `j` delivers: its destination at the final contents, and the part of the source it read. -/
def deliver (j : Fin C.n) : sProp 𝕄 :=
  iprop((ld ↦[C.dst j.val]{fullShare} C.final) ∗ (ls ↦[C.src j.val]{Transfers.shareTokN C.q j.val} C.from_))

instance deliver_storable (j : Fin C.n) : BI.Storable (upEmb : UEmb _ 𝕄) (C.deliver (U := U) j) := by
  unfold deliver; infer_instance

/-- What is still at hand with `k` transfers started: the rest of the destination, the share of the source no
    transfer has, and of each started transfer's share the part it does not read. -/
def rest (k : ℕ) : sProp 𝕄 :=
  iprop((ld ↦[Finset.univ \ C.done k]{fullShare} C.before)
    ∗ (ls ↦[C.held]{Transfers.shareDrop C.q k} C.from_)
    ∗ bigSep (Finset.range k) (fun j => ls ↦[C.held \ C.src j]{Transfers.shareTokN C.q j} C.from_))

/-- `k` transfers of `N` units started and `u` units waited for. -/
def pend (c : Dev nD) (sm : SemLoc sig) (N k u : ℕ) : sProp 𝕄 :=
  iprop(C.rest (U := U) k ∗ Transfers.Batch (countersEmb (U := U)) (c : Thread nD τ) sm () N (C.deliver (U := U)) k u)

/-- The start: the whole destination, the source at hand and the semaphore at zero. -/
theorem start (c : Dev nD) (sm : SemLoc sig) (N : ℕ) :
    iprop((ld ↦{fullShare} C.before) ∗ (ls ↦[C.held]{C.q} C.from_) ∗ semVal ((c : Thread nD τ), sm) 0)
      ⊢ (|={Set.univ}=> C.pend (U := U) c sm N 0 0 : sProp 𝕄) := by
  iintro ⟨Hd, Hs, Hv⟩
  imod (Transfers.batch_alloc' (Lvl := ℕ) (countersEmb (U := U)) (c : Thread nD τ) () N (C.deliver (U := U)) (sm := sm) (E := Set.univ)) $$ Hv with HB
  imodintro
  unfold pend rest done
  rw [Finset.range_zero, Finset.biUnion_empty, Finset.sdiff_empty, bigSep_empty]
  isplitr [HB]
  · isplitl [Hd]; · iexact Hd
    isplitl [Hs]; · iexact Hs
    iempintro
  iexact HB

/-- The rest of the destination is transfer `k`'s part and the rest after it. -/
theorem rest_succ {k : ℕ} (hk : k < C.n) :
    (C.rest (U := U) k : sProp 𝕄)
      ⊢ iprop((ld ↦[C.dst k]{fullShare} C.before) ∗ (ls ↦[C.src k]{Transfers.shareTokN C.q k} C.from_) ∗ C.rest (U := U) (k + 1)) := by
  unfold rest
  iintro ⟨Hd, Hs, Ht⟩
  have hsub : C.dst k ⊆ Finset.univ \ C.done k := by
    intro y hy
    simp only [Finset.mem_sdiff, Finset.mem_univ, _root_.true_and, mem_done, not_exists, not_and]
    intro j hj hyj
    exact Finset.disjoint_left.mp (C.disj j k (by omega) hk (by omega)) hyj hy
  have hset : (Finset.univ \ C.done k) \ C.dst k = Finset.univ \ C.done (k + 1) := by
    ext y
    simp only [Finset.mem_sdiff, Finset.mem_univ, _root_.true_and, mem_done, not_exists, not_and]
    constructor
    · rintro ⟨h1, h2⟩ j hj
      rcases Nat.lt_or_ge j k with h | h
      · exact h1 j h
      · obtain rfl : j = k := by omega
        exact h2
    · exact fun h => ⟨fun j hj => h j (by omega), h k (by omega)⟩
  ihave Hd' := (pointsTo_split_subset (U := U) (Ix := Unit) (Name := ℕ) (Lvl := ℕ) (q := fullShare) (f := C.before) hsub).1 $$ Hd
  icases Hd' with ⟨Hk, Hd⟩
  ihave Hs' := (pointsTo_share (U := U) (Ix := Unit) (Name := ℕ) (Lvl := ℕ) (f := C.from_) (I := C.held) (PosShare.mem_left_op_right (Transfers.shareDrop C.q k))).1 $$ Hs
  icases Hs' with ⟨Hs, Hr⟩
  ihave Hr := (show ((ls ↦[C.held]{(Transfers.shareDrop C.q k).right} C.from_ : sProp 𝕄) ⊢ (ls ↦[C.held]{Transfers.shareTokN C.q k} C.from_)) from Entails.rfl) $$ Hr
  ihave Hr' := (pointsTo_split_subset (U := U) (Ix := Unit) (Name := ℕ) (Lvl := ℕ) (q := Transfers.shareTokN C.q k) (f := C.from_) (C.sub k hk)).1 $$ Hr
  icases Hr' with ⟨Hr, Hr2⟩
  rw [hset]
  isplitl [Hk]; · iexact Hk
  isplitl [Hr]; · iexact Hr
  isplitl [Hd]; · iexact Hd
  isplitl [Hs]; · iexact Hs
  iapply (show iprop((ls ↦[C.held \ C.src k]{Transfers.shareTokN C.q k} C.from_)
      ∗ bigSep (Finset.range k) (fun j => ls ↦[C.held \ C.src j]{Transfers.shareTokN C.q j} C.from_))
      ⊢ (bigSep (Finset.range (k + 1)) (fun j => ls ↦[C.held \ C.src j]{Transfers.shareTokN C.q j} C.from_) : sProp 𝕄) from
    Entails.of_eq (by rw [Finset.range_add_one, bigSep_insert Finset.notMem_range_self]; rfl))
  isplitl [Hr2]; · iexact Hr2
  iexact Ht

section Steps

variable {Λ : Labels} {defs : Defs nD τ sig Val Λ} (𝒱 : Variants) (c : Dev nD) (bd : Option 𝒱.V)
variable {α : Type} {sp sp' : Space} {s : Shape} {e : EltTy}

/-- Starting transfer `k`. -/
theorem issue {s₀ : Shape} {e₀ : EltTy}
    {src : Memref sig (c : Thread nD τ).2.kind sp s₀ e₀} {Q : α → sProp 𝕄} {via : ReadAs Val s₀ e₀ s e} {dst : Memref sig (c : Thread nD τ).2.kind sp' s e} {sm : SemLoc sig}
    {hsrc : src.view.WordExact} {hdst : dst.view.WordExact} {hsem : DmaTarget.Typed (nD := nD) sp sm (.here dst)}
    {kk : PUnit → Prog (TpuEff nD τ sig Val Λ (c : Thread nD τ).2) α}
    (C : Copies Val (dst.view.loc (c : Thread nD τ)) (src.view.loc (c : Thread nD τ))) {N k : ℕ} (hk : k < C.n)
    (hN : dst.view.amount sm = N) (hd : dst.view.set = C.dst k) (hs : src.view.set = C.src k)
    (hval : ∀ y ∈ C.dst k, dst.view.write Val C.before (via.apply (src.view.read Val C.from_)) Finset.univ y = C.final y) :
    (C.pend (U := U) c sm N k 0 : sProp 𝕄)
      ⊢ iprop((C.pend (U := U) c sm N (k + 1) 0 -∗ wp frame (wpE defs 𝒱 (c : Thread nD τ) bd) Set.univ (kk ⟨⟩) Q)
          -∗ wp frame (wpE defs 𝒱 (c : Thread nD τ) bd) Set.univ (.op (.enqueueDmaAs src (.here dst) via sm hsrc hdst hsem) kk) Q) := by
  unfold pend
  iintro ⟨HR, HB⟩ Hk
  ihave HR' := (C.rest_succ (U := U) hk) $$ HR
  icases HR' with ⟨Hd, Hs, HR⟩
  iapply (Transfers.wp_dmaBatch (countersEmb (U := U)) 𝒱 (c : Thread nD τ) bd (src := src) (dst := dst) (fs := C.from_) (fd := C.before)
    (Sd := C.dst k) (D := C.deliver (U := U)) (q := Transfers.shareTokN C.q k) () N hN (hd ▸ Finset.Subset.refl _) hk (Nat.zero_le _) (by
      unfold deliver
      rw [pointsTo_congr hval, hs])) $$ [Hd Hs HB]
  · isplitl [Hs]; · rw [hs]; iexact Hs
    isplitl [Hd]; · iexact Hd
    iexact HB
  iintro HB
  iapply Hk
  isplitl [HR]; · iexact HR
  iexact HB

/-- One wait, `k` of them before it. -/
theorem wait {ld ls : Loc nD τ sig} (C : Copies Val ld ls)
    {s' : Shape} {e' : EltTy} {κ' : Kind} {sem : DmaSem sig} {Q : α → sProp 𝕄}
    {srcw : Memref sig (c : Thread nD τ).2.kind sp' s' e'} {dstw : Memref sig κ' sp s e} {hsrc : srcw.view.WordExact} {hdst : dstw.view.WordExact}
    {kk : PUnit → Prog (TpuEff nD τ sig Val Λ (c : Thread nD τ).2) α} {N k : ℕ} (hN : dstw.view.dmaCredit = N) (hk : k < C.n) :
    iprop(C.pend (U := U) c (.dma sem) N C.n (k * N) ∗ (∃ W, owes (c : Thread nD τ) 0 W))
      ⊢ iprop((iprop(C.pend (U := U) c (.dma sem) N C.n ((k + 1) * N) ∗ (∃ W, owes (c : Thread nD τ) 0 W)) -∗ wp frame (wpE defs 𝒱 (c : Thread nD τ) bd) Set.univ (kk ⟨⟩) Q)
          -∗ wp frame (wpE defs 𝒱 (c : Thread nD τ) bd) Set.univ (.op (.waitDma2 sem srcw dstw hsrc hdst) kk) Q) := by
  unfold pend
  iintro ⟨⟨HR, HB⟩, ⟨%W, HO⟩⟩ Hk
  iapply (Transfers.wp_waitBatchMul (countersEmb (U := U)) 𝒱 (c : Thread nD τ) bd () (N := N) 1 (by rw [hN, one_mul]) (D := C.deliver (U := U)) (j := C.n) (u := k * N) (by
      rw [one_mul, ← Nat.succ_mul, Nat.mul_comm]; exact Nat.mul_le_mul_left _ hk) (W := W)) $$ [HB HO]
  · isplitl [HB]; · iexact HB
    iexact HO
  rw [one_mul, ← Nat.succ_mul]
  iintro ⟨HB, HO⟩
  iapply Hk
  isplitr [HO]
  · isplitl [HR]; · iexact HR
    iexact HB
  iexists _; iexact HO

end Steps

/-- Every transfer waited for: the whole destination at the final contents, the source back, the semaphore at zero. -/
theorem finish (c : Dev nD) (sm : SemLoc sig) {N : ℕ} (hN : 0 < N) :
    (C.pend (U := U) c sm N C.n (C.n * N) : sProp 𝕄)
      ⊢ (|={Set.univ}=> iprop((ld ↦{fullShare} C.final) ∗ (ls ↦[C.held]{C.q} C.from_) ∗ semVal ((c : Thread nD τ), sm) 0) : sProp 𝕄) := by
  unfold pend rest
  rw [Nat.mul_comm C.n N]
  iintro ⟨⟨Hd, Hs, Ht⟩, HB⟩
  imod (Transfers.batch_collect' (countersEmb (U := U)) (c : Thread nD τ) (sm := sm) (ι := ()) hN (D := C.deliver (U := U))) $$ HB with ⟨HD, Hv⟩
  imodintro
  ihave HD' := (show bigSep Finset.univ (C.deliver (U := U))
      ⊢ (iprop(bigSep (Finset.range C.n) (fun j => ld ↦[C.dst j]{fullShare} C.final)
        ∗ bigSep (Finset.range C.n) (fun j => ls ↦[C.src j]{Transfers.shareTokN C.q j} C.from_)) : sProp 𝕄) by
    exact Entails.of_eq ((Ring.bigSep_fin_eq_range _ (C.deliver (U := U)) (fun j => iprop((ld ↦[C.dst j]{fullShare} C.final) ∗ (ls ↦[C.src j]{Transfers.shareTokN C.q j} C.from_)))
      (fun _ _ => rfl)).trans (BI.bigSep_sep _ _ _))) $$ HD
  icases HD' with ⟨HDd, HDs⟩
  isplitl [Hd HDd]
  · ihave Hd := (Entails.of_eq (pointsTo_congr (U := U) (Ix := Unit) (Name := ℕ) (Lvl := ℕ) (q := fullShare) (g := C.final) (fun y hy => C.off y (fun j hj hyj => by
      simp only [Finset.mem_sdiff, Finset.mem_univ, _root_.true_and, mem_done, not_exists, not_and] at hy
      exact hy j hj hyj)))) $$ Hd
    ihave HDd := (Entails.of_eq (pointsTo_biUnion (U := U) (Ix := Unit) (Name := ℕ) (Lvl := ℕ) (q := fullShare) (f := C.final) (Finset.range C.n) C.dst (fun i hi j hj hij => C.disj i j (Finset.mem_range.mp hi) (Finset.mem_range.mp hj) hij)).symm) $$ HDd
    iapply (pointsTo_split_subset (U := U) (Ix := Unit) (Name := ℕ) (Lvl := ℕ) (q := fullShare) (f := C.final) (Finset.subset_univ (C.done C.n))).2
    isplitl [HDd]; · iexact HDd
    iexact Hd
  isplitr [Hv]
  · iapply (Transfers.pointsTo_toks_range (U := U) (Ix := Unit) (Name := ℕ) (Lvl := ℕ) (f := C.from_) C.q C.n).2
    isplitl [Hs]; · iexact Hs
    ihave H := (show iprop(bigSep (Finset.range C.n) (fun j => ls ↦[C.src j]{Transfers.shareTokN C.q j} C.from_)
        ∗ bigSep (Finset.range C.n) (fun j => ls ↦[C.held \ C.src j]{Transfers.shareTokN C.q j} C.from_))
        ⊢ (bigSep (Finset.range C.n) (fun j => ls ↦[C.held]{Transfers.shareTokN C.q j} C.from_) : sProp 𝕄) by
      refine (Entails.of_eq (BI.bigSep_sep _ _ _).symm).trans ?_
      exact BI.bigSep_mono fun j hj => (pointsTo_split_subset (C.sub j (Finset.mem_range.mp hj))).2) $$ [HDs Ht]
    · isplitl [HDs] <;> iassumption
    iexact H
  iexact Hv

end Copies

end Dispatch

end
-- ==== Proof.Step.lean ====
/-
  The effects the dispatch's body is made of, each at the head of a program that goes on: reading a word of a table,
  the condition a word must meet, starting a transfer and waiting for one.
-/
module

public import Idealize.ShloMosaic.PureOps
public import Idealize.ShloMosaic.Lib.Tactic
public import proofs.«01_k».proof.Proof.Copies

@[expose] public section

noncomputable section

namespace Dispatch

open Idealize.ShloMosaic Idealize.ShloMosaic.TcCoe Idealize.ShloMosaic.Tactic
open Idealize.SL Idealize.SL.RA
open Idealize.SL.BI (sProp bigSep)
open scoped Idealize.SL.BI
open Idealize.SL.BI.BIBase Idealize.SL.BI.Laws Idealize.SL.ProofMode Idealize.SL.Sem

variable {nD : Nat} {τ : Topo} {sig : RefSig} {Val : EltTy → Type}
variable {U : Type} [URA U] [CountersIn U]

local notation "𝕄" => MT nD τ sig Unit Val ℕ U ℕ

variable {Λ : Labels} {defs : Defs nD τ sig Val Λ} (𝒱 : Variants) (c : Dev nD) (bd : Option 𝒱.V)
variable {α : Type}

/-- A word of a table held at any share. -/
theorem load_bind {Q : α → sProp 𝕄} {s : Shape} {e : EltTy} (m : Memref sig (c : Thread nD τ).2.kind .smem s e) {r : Rect s} {h1 : r.shape.numel = 1} {hp : e.packing = 1}
    {k : Val e → Prog (TpuEff nD τ sig Val Λ (c : Thread nD τ).2) α} {q : PosShare TreeShare}
    {f : Buf Val (m.view.loc (c : Thread nD τ))} :
    (m.view.loc (c : Thread nD τ) ↦{q} f : sProp 𝕄)
      ⊢ iprop(((m.view.loc (c : Thread nD τ) ↦{q} f)
            -∗ wp frame (wpE defs 𝒱 (c : Thread nD τ) bd) Set.univ (k ((m.access r).read Val f (Shape.Idx.first (h1.symm ▸ Nat.one_pos)))) Q)
          -∗ wp frame (wpE defs 𝒱 (c : Thread nD τ) bd) Set.univ (smemLoad m r h1 hp >>= k) Q) := by
  rw [wp_bind]
  iintro H Hk
  unfold smemLoad
  iapply (wp_smemLoadElt 𝒱 (c : Thread nD τ) bd Set.univ (m := m) (r := r) (f := f) (q := q) (Finset.subset_univ _)) $$ H
  iintro H
  rw [wp_ret]
  imodintro
  iapply Hk; iexact H

/-- A condition that holds. -/
theorem assume_bind {Q : α → sProp 𝕄} {P : Prop} {d : Decidable P} {k : PLift P → Prog (TpuEff nD τ sig Val Λ (c : Thread nD τ).2) α} (h : P) :
    wp frame (wpE defs 𝒱 (c : Thread nD τ) bd) Set.univ (k ⟨h⟩) Q
      ⊢ (wp frame (wpE defs 𝒱 (c : Thread nD τ) bd) Set.univ (Prog.lift (TpuEff.assume P d) >>= k) Q : sProp 𝕄) := by
  rw [wp_bind]
  refine Entails.trans ?_ (wp_assume 𝒱 (c : Thread nD τ) bd Set.univ h)
  rw [wp_ret]
  exact BI.fupd_intro

/-- Starting transfer `k` of a run of transfers. -/
theorem issue_bind {Q : α → sProp 𝕄} {sp sp' : Space} {s : Shape} {e : EltTy}
    {src : Memref sig (c : Thread nD τ).2.kind sp s e} {dst : Memref sig (c : Thread nD τ).2.kind sp' s e} {sm : SemLoc sig}
    {hsrc : src.view.WordExact} {hdst : dst.view.WordExact} {hsem : DmaTarget.Typed (nD := nD) sp sm (.here dst)}
    {kk : PUnit → Prog (TpuEff nD τ sig Val Λ (c : Thread nD τ).2) α}
    (C : Copies Val (dst.view.loc (c : Thread nD τ)) (src.view.loc (c : Thread nD τ))) {N k : ℕ} (hk : k < C.n)
    (hN : dst.view.amount sm = N) (hd : dst.view.set = C.dst k) (hs : src.view.set = C.src k)
    (hval : ∀ y ∈ C.dst k, dst.view.write Val C.before (src.view.read Val C.from_) Finset.univ y = C.final y) :
    (C.pend (U := U) c sm N k 0 : sProp 𝕄)
      ⊢ iprop((C.pend (U := U) c sm N (k + 1) 0 -∗ wp frame (wpE defs 𝒱 (c : Thread nD τ) bd) Set.univ (kk ⟨⟩) Q)
          -∗ wp frame (wpE defs 𝒱 (c : Thread nD τ) bd) Set.univ (Prog.lift (.enqueueDma src (.here dst) sm hsrc hdst hsem) >>= kk) Q) := by
  rw [wp_bind]
  iintro H Hk
  iapply (Copies.issue 𝒱 c bd (via := .same) (kk := .ret) C hk hN hd hs hval) $$ H
  iintro H
  rw [wp_ret]
  imodintro
  iapply Hk; iexact H

/-- One wait of a run of transfers. -/
theorem wait_bind {Q : α → sProp 𝕄} {ld ls : Loc nD τ sig} (C : Copies Val ld ls) {sp sp' : Space} {s : Shape} {e : EltTy}
    {s' : Shape} {e' : EltTy} {κ' : Kind} {sem : DmaSem sig}
    {srcw : Memref sig (c : Thread nD τ).2.kind sp' s' e'} {dstw : Memref sig κ' sp s e} {hsrc : srcw.view.WordExact} {hdst : dstw.view.WordExact}
    {kk : PUnit → Prog (TpuEff nD τ sig Val Λ (c : Thread nD τ).2) α} {N k : ℕ} (hN : dstw.view.dmaCredit = N) (hk : k < C.n) :
    iprop(C.pend (U := U) c (.dma sem) N C.n (k * N) ∗ (∃ W, owes (c : Thread nD τ) 0 W))
      ⊢ iprop((iprop(C.pend (U := U) c (.dma sem) N C.n ((k + 1) * N) ∗ (∃ W, owes (c : Thread nD τ) 0 W)) -∗ wp frame (wpE defs 𝒱 (c : Thread nD τ) bd) Set.univ (kk ⟨⟩) Q)
          -∗ wp frame (wpE defs 𝒱 (c : Thread nD τ) bd) Set.univ (Prog.lift (.waitDma2 sem srcw dstw hsrc hdst) >>= kk) Q) := by
  rw [wp_bind]
  iintro H Hk
  iapply (Copies.wait 𝒱 c bd C (kk := .ret) hN hk) $$ H
  iintro H
  rw [wp_ret]
  imodintro
  iapply Hk; iexact H

end Dispatch

end
-- ==== Proof.Rows.lean ====
/-
  The rows of one point: the point's 2 048 rows of the output are each one row of the point's window, placed where the
  table's word says. The issue loop starts them two to a trip, the drain loop waits for them two to a trip.
-/
module

public import proofs.«01_k».proof.Proof.Step
public import proofs.«01_k».proof.Proof.Gen.KernelIdeal.Launch
public import proofs.«01_k».proof.Proof.Gen.KernelIdeal.Skeleton
public import Idealize.ShloMosaic.Lib.WordArith.Masks
public import Idealize.ShloMosaic.Lib.Pipeline.FrameValue

@[expose] public section

noncomputable section

namespace Cert.KernelIdeal.Dispatched

open Idealize.ShloMosaic Idealize.ShloMosaic.TcCoe Idealize.ShloMosaic.Tactic
open Idealize.SL Idealize.SL.RA
open Idealize.SL.BI (sProp bigSep)
open scoped Idealize.SL.BI
open Idealize.SL.BI.BIBase Idealize.SL.BI.Laws Idealize.SL.ProofMode Idealize.SL.Sem
open Dispatch Cert.KernelIdeal.Gen

variable {F : FTy → Type} [FloatOps F]

local notation "𝕄" => MT nD τ sig Unit (Elt F) ℕ (Idealize.ShloMosaic.Pipeline.UD sig nD τ) ℕ

/-! ## Places in the arrays -/

/-- Place `r` of a table. -/
def at1 {n : ℕ} (r : Fin n) : (⟨1, ![n]⟩ : Shape).Idx := Fin.cons r (fun i => i.elim0)

/-- Place `(r, k)` of a matrix. -/
def at2 {a b : ℕ} (r : Fin a) (k : Fin b) : (⟨2, ![a, b]⟩ : Shape).Idx := Fin.cons r (Fin.cons k (fun i => i.elim0))

theorem at2_eta {a b : ℕ} (y : (⟨2, ![a, b]⟩ : Shape).Idx) : at2 (y 0) (y 1) = y := by
  funext i; fin_cases i <;> rfl

/-- The output array, whole. -/
abbrev outM : Memref sig .tc .hbm S49152x1024 .f32 := Memref.whole main_v26
/-- The output's contents. -/
abbrev OutC (F : FTy → Type) : Type := S49152x1024.Idx → Elt F .f32

theorem rows_inb (b : ℕ) (hb : b < 49152) : ∀ a, (![b, 0] : Fin 2 → ℕ) a + S1x1024.size a ≤ S49152x1024.size a := by
  intro a; fin_cases a
  · show b + 1 ≤ 49152; omega
  · show 0 + 1024 ≤ 1024; omega
theorem win_inb (j : ℕ) : ∀ a, (![j / 2 % 1024, 0] : Fin 2 → ℕ) a + S1x1024.size a ≤ S1024x1024.size a := by
  intro a
  have := Nat.mod_lt (j / 2) (show 0 < 1024 by decide)
  fin_cases a
  · show j / 2 % 1024 + 1 ≤ 1024; omega
  · show 0 + 1024 ≤ 1024; omega

/-- Row `j / 2` of a window. -/
abbrev winRow (st : Memref sig .tc .vmem S1024x1024 .f32) (j : ℕ) : Memref sig .tc .vmem S1x1024 .f32 :=
  st.slice (Rect.unit (s := S1024x1024) ![j / 2 % 1024, 0] S1x1024.size (win_inb j)) (fun _ => rfl)

/-- The output rows at `b`. -/
def rowSet (b : ℕ) : Finset S49152x1024.Idx := Finset.univ.filter fun y => (y 0).val = b

theorem mem_rowSet {b : ℕ} {y : S49152x1024.Idx} : y ∈ rowSet b ↔ (y 0).val = b := by simp [rowSet]

section Point

variable (c : Dev nD) (st : Memref sig .tc .vmem S1024x1024 .f32)

/-- The rows of a point as a run of transfers: transfer `j` writes row `d j` of the output from row `j / 2` of the
    window. -/
def rowCopies (f g : OutC F) (fs : Buf (Elt F) (st.view.loc (c : Thread nD τ))) (d : ℕ → ℕ)
    (hd : ∀ i j, i < 2048 → j < 2048 → i ≠ j → d i ≠ d j)
    (hg : ∀ y : S49152x1024.Idx, (∀ j, j < 2048 → (y 0).val ≠ d j) → f y = g y) :
    Copies (Elt F) (outM.view.loc (c : Thread nD τ)) (st.view.loc (c : Thread nD τ)) where
  before := f
  final := g
  from_ := fs
  held := st.view.set
  q := fullShare
  n := 2048
  dst j := rowSet (d j)
  src j := (winRow st j).view.set
  disj i j hi hj hij := by
    rw [Finset.disjoint_left]; intro y h1 h2
    rw [mem_rowSet] at h1 h2
    exact hd i j hi hj hij (h1.symm.trans h2)
  sub j _ := View.set_slice_subset _ _
  off y h := hg y fun j hj e => h j hj (mem_rowSet.mpr e)

/-- The units a row's transfer counts. -/
abbrev rowN : ℕ := (main_v26 : Ref sig .tc).dmaCredit S1x1024 .f32

/-- The first table, whole. -/
abbrev tbM0 : Memref sig .tc .smem S32768 .i32 := Memref.whole main_v18
/-- The second table, whole. -/
abbrev tbM1 : Memref sig .tc .smem S33 .i32 := Memref.whole main_v25

/-- A table's word read through the rectangle of one place. -/
theorem read_tb0 (f : S32768.Idx → Elt F .i32) (off : Fin 1 → ℕ) (hin : ∀ a, off a + S1.size a ≤ S32768.size a) (r : Fin 32768) (h : off 0 = r.val)
    (x : S1.Idx) : (tbM0.access (Rect.unit (s := S32768) off S1.size hin)).read (Elt F) f x = f (at1 r) := by
  show f _ = f _
  congr 1
  funext a
  fin_cases a
  apply Fin.ext
  have hx : (x 0).val = 0 := by have : (x 0).val < 1 := (x 0).isLt; omega
  show off 0 + 1 * (x 0).val = r.val
  omega

theorem trips5 : k0_t5_loop.trips = 1024 := by decide
theorem trips6 : k0_t6_loop.trips = 1024 := by decide

theorem off69 (i : grid0.Coords) (k : Fin k0_t5_loop.trips) : k0_off69 i k 0 = (i 0).val * 2048 + 2 * k.val := by
  have hi : (i 0).val < 16 := (i 0).isLt
  have hk : k.val < 1024 := trips5 ▸ k.isLt
  show (BitVec.ofNat 32 (i 0).val * 1024#32 * 2#32 + Scf.iv 0#32 1#32 k * 2#32 + 0#32).toNat = _
  simp only [BitVec.toNat_add, BitVec.toNat_mul, BitVec.toNat_ofNat, Scf.iv]
  omega
theorem off72 (i : grid0.Coords) (k : Fin k0_t5_loop.trips) : k0_off72 i k 0 = (i 0).val * 2048 + (2 * k.val + 1) := by
  have hi : (i 0).val < 16 := (i 0).isLt
  have hk : k.val < 1024 := trips5 ▸ k.isLt
  show (BitVec.ofNat 32 (i 0).val * 1024#32 * 2#32 + Scf.iv 0#32 1#32 k * 2#32 + 1#32).toNat = _
  simp only [BitVec.toNat_add, BitVec.toNat_mul, BitVec.toNat_ofNat, Scf.iv]
  omega
theorem off71 (k : Fin k0_t5_loop.trips) : k0_off71 k = ![2 * k.val / 2 % 1024, 0] := by
  have hk : k.val < 1024 := trips5 ▸ k.isLt
  show ![(Scf.iv 0#32 1#32 k).toNat, 0] = _
  rw [WordArith.toNat_iv_zero_one _ (by omega)]
  congr 1; omega
theorem off74 (k : Fin k0_t5_loop.trips) : k0_off74 k = ![(2 * k.val + 1) / 2 % 1024, 0] := by
  have hk : k.val < 1024 := trips5 ▸ k.isLt
  show ![(Scf.iv 0#32 1#32 k).toNat, 0] = _
  rw [WordArith.toNat_iv_zero_one _ (by omega)]
  congr 1; omega
theorem off75 (i : grid0.Coords) (k : Fin k0_t6_loop.trips) : k0_off75 i k 0 = (i 0).val * 2048 + 2 * k.val := by
  have hi : (i 0).val < 16 := (i 0).isLt
  have hk : k.val < 1024 := trips6 ▸ k.isLt
  show (BitVec.ofNat 32 (i 0).val * 1024#32 * 2#32 + Scf.iv 0#32 1#32 k * 2#32 + 0#32).toNat = _
  simp only [BitVec.toNat_add, BitVec.toNat_mul, BitVec.toNat_ofNat, Scf.iv]
  omega
theorem off78 (i : grid0.Coords) (k : Fin k0_t6_loop.trips) : k0_off78 i k 0 = (i 0).val * 2048 + (2 * k.val + 1) := by
  have hi : (i 0).val < 16 := (i 0).isLt
  have hk : k.val < 1024 := trips6 ▸ k.isLt
  show (BitVec.ofNat 32 (i 0).val * 1024#32 * 2#32 + Scf.iv 0#32 1#32 k * 2#32 + 1#32).toNat = _
  simp only [BitVec.toNat_add, BitVec.toNat_mul, BitVec.toNat_ofNat, Scf.iv]
  omega

theorem chk_row (v : BitVec 32) (hv : v.toNat < 49152) : ∀ a, (![v.toNat, 0] : Fin 2 → ℕ) a + S1x1024.size a ≤ S49152x1024.size a :=
  rows_inb v.toNat hv

/-- An output row's elements. -/
theorem row_view (off : Fin 2 → ℕ) (hin : ∀ a, off a + S1x1024.size a ≤ S49152x1024.size a) (b : ℕ) (h : off = ![b, 0]) :
    (outM.slice (Rect.unit (s := S49152x1024) off S1x1024.size hin) (fun _ => rfl)).view.set = rowSet b := by
  subst h
  refine (View.set_slice_whole main_v26 _).trans ?_
  ext y
  rw [Rect.mem_set_unit, mem_rowSet]
  have h1 : (y 1).val < 1024 := (y 1).isLt
  constructor
  · intro H; have a0 : b ≤ (y 0).val ∧ (y 0).val < b + 1 := H 0; omega
  · intro H a; fin_cases a
    · show b ≤ (y 0).val ∧ (y 0).val < b + 1; omega
    · show 0 ≤ (y 1).val ∧ (y 1).val < 0 + 1024; omega

/-- A window row's elements depend on where it starts alone. -/
theorem win_view (off : Fin 2 → ℕ) (hin : ∀ a, off a + S1x1024.size a ≤ S1024x1024.size a) (j : ℕ) (h : off = ![j / 2 % 1024, 0]) :
    (st.slice (Rect.unit (s := S1024x1024) off S1x1024.size hin) (fun _ => rfl)).view.set = (winRow st j).view.set := by
  subst h; rfl

/-- What writing a row of the window over an output row leaves there. -/
theorem row_write (f g : OutC F) (fs : Buf (Elt F) (st.view.loc (c : Thread nD τ))) (X : S1024x1024.Idx → Elt F .f32) (hX : st.view.read (Elt F) fs = X)
    (off : Fin 2 → ℕ) (hin : ∀ a, off a + S1x1024.size a ≤ S49152x1024.size a) (b : ℕ) (h : off = ![b, 0])
    (off' : Fin 2 → ℕ) (hin' : ∀ a, off' a + S1x1024.size a ≤ S1024x1024.size a) (j : Fin 1024) (h' : off' = ![j.val, 0])
    (hg : ∀ y : S49152x1024.Idx, (y 0).val = b → g y = X (at2 j (y 1))) :
    ∀ y ∈ rowSet b, (outM.slice (Rect.unit (s := S49152x1024) off S1x1024.size hin) (fun _ => rfl)).view.write (Elt F) f
      ((st.slice (Rect.unit (s := S1024x1024) off' S1x1024.size hin') (fun _ => rfl)).view.read (Elt F) fs) Finset.univ y = g y := by
  intro y hy
  subst h; subst h'
  rw [mem_rowSet] at hy
  obtain ⟨z, hz⟩ : ∃ z : S1x1024.Idx, (outM.slice (Rect.unit (s := S49152x1024) ![b, 0] S1x1024.size hin) (fun _ => rfl)).view.emb z = y := by
    refine ⟨at2 (0 : Fin 1) (y 1), ?_⟩
    funext a
    fin_cases a <;> apply Fin.ext
    · show b + 1 * 0 = (y 0).val; omega
    · show 0 + 1 * (y 1).val = (y 1).val; omega
  rw [← hz, View.write_emb_of_mem _ _ (x := z) (Finset.mem_univ z), hz, hg y hy, ← hX]
  show st.view.read (Elt F) fs _ = st.view.read (Elt F) fs _
  congr 1
  have e1 : (y 1).val = 0 + 1 * (z 1).val := by rw [← hz]; rfl
  funext a
  fin_cases a <;> apply Fin.ext
  · show j.val + 1 * (z 0).val = j.val
    have : (z 0).val < 1 := (z 0).isLt
    omega
  · show 0 + 1 * (z 1).val = (y 1).val; omega

variable (hst : st.IsWhole) (i : grid0.Coords) (tb : S32768.Idx → Elt F .i32)
variable (f g : OutC F) (fs : Buf (Elt F) (st.view.loc (c : Thread nD τ))) (X : S1024x1024.Idx → Elt F .f32)

/-- The table's word at place `r`. -/
def dw (tb : S32768.Idx → Elt F .i32) (r : ℕ) : BitVec 32 := tb (at1 ⟨r % 32768, Nat.mod_lt _ (by decide)⟩)

/-- The row the point's transfer `j` writes. -/
abbrev rowAt (tb : S32768.Idx → Elt F .i32) (p j : ℕ) : ℕ := (dw (F := F) tb (p * 2048 + j)).toNat

/-- What the rows of a point need: their places are rows of the output, no two alike, and the contents they leave are
    `g` — row `j / 2` of the window at the place of `j`, unchanged elsewhere. -/
structure RowFacts (tb : S32768.Idx → Elt F .i32) (p : ℕ) (f g : OutC F) (X : S1024x1024.Idx → Elt F .f32) : Prop where
  lt : ∀ j, j < 2048 → rowAt tb p j < 49152
  ne : ∀ i j, i < 2048 → j < 2048 → i ≠ j → rowAt tb p i ≠ rowAt tb p j
  on : ∀ (j : ℕ) (hj : j < 2048) (y : S49152x1024.Idx), (y 0).val = rowAt tb p j → g y = X (at2 ⟨j / 2, by omega⟩ (y 1))
  off : ∀ y : S49152x1024.Idx, (∀ j, j < 2048 → (y 0).val ≠ rowAt tb p j) → f y = g y

/-- The point's transfers. -/
abbrev RowC (H : RowFacts tb (i 0).val f g X) := rowCopies c st f g fs (rowAt tb (i 0).val) H.ne H.off

theorem dw_at (r : ℕ) (h : r < 32768) : dw (F := F) tb r = tb (at1 ⟨r, h⟩) := by
  unfold dw; congr 2; exact Fin.ext (Nat.mod_eq_of_lt h)

/-- The first table's word at `r`, read. -/
theorem load_dw {α : Type} {Q : α → sProp 𝕄} {off : Fin 1 → ℕ} {hin : ∀ a, off a + S1.size a ≤ S32768.size a} {h1 : (Rect.unit (s := S32768) off S1.size hin).shape.numel = 1}
    {hp : EltTy.packing .i32 = 1} {k : Elt F .i32 → Prog (TpuEff nD τ sig (Elt F) Λ₀ (c : Thread nD τ).2) α} {q : PosShare TreeShare}
    (r : ℕ) (hr : r < 32768) (h : off 0 = r) :
    (tbM0.view.loc (c : Thread nD τ) ↦{q} tb : sProp 𝕄)
      ⊢ iprop(((tbM0.view.loc (c : Thread nD τ) ↦{q} tb)
            -∗ wp frame (wpE defs₀ Variants.none (c : Thread nD τ) none) Set.univ (k (dw (F := F) tb r)) Q)
          -∗ wp frame (wpE defs₀ Variants.none (c : Thread nD τ) none) Set.univ (smemLoad tbM0 (Rect.unit (s := S32768) off S1.size hin) h1 hp >>= k) Q) := by
  have e := read_tb0 tb off hin ⟨r, hr⟩ h (Shape.Idx.first (h1.symm ▸ Nat.one_pos))
  rw [← dw_at tb r hr] at e
  rw [← e]
  exact load_bind Variants.none c none tbM0

/-- A run of the point's rows: `j` started, `u` units waited for. -/
abbrev rowPend (H : RowFacts tb (i 0).val f g X) (j u : ℕ) : sProp 𝕄 :=
  (RowC c st i tb f g fs X H).pend (U := Pipeline.UD sig nD τ) c (.dma cc0_scratch1.sem) rowN j u

/-- Starting row `j`. -/
theorem issue_row {α : Type} {Q : α → sProp 𝕄} (H : RowFacts tb (i 0).val f g X) (hX : st.view.read (Elt F) fs = X) (j : ℕ) (hj : j < 2048)
    {off : Fin 2 → ℕ} {hin : ∀ a, off a + S1x1024.size a ≤ S49152x1024.size a} (h : off = ![rowAt (F := F) tb (i 0).val j, 0])
    {off' : Fin 2 → ℕ} {hin' : ∀ a, off' a + S1x1024.size a ≤ S1024x1024.size a} (h' : off' = ![j / 2 % 1024, 0])
    {hsrc : (st.slice (Rect.unit (s := S1024x1024) off' S1x1024.size hin') (fun _ => rfl)).view.WordExact}
    {hdst : (outM.slice (Rect.unit (s := S49152x1024) off S1x1024.size hin) (fun _ => rfl)).view.WordExact}
    {hsem : DmaTarget.Typed (nD := nD) (τ := τ) .vmem (.dma cc0_scratch1.sem) (DmaTarget.here (p := (c : Thread nD τ).2) (outM.slice (Rect.unit (s := S49152x1024) off S1x1024.size hin) (fun _ => rfl)))}
    {kk : PUnit → Prog (TpuEff nD τ sig (Elt F) Λ₀ (c : Thread nD τ).2) α} :
    rowPend c st i tb f g fs X H j 0
      ⊢ iprop((rowPend c st i tb f g fs X H (j + 1) 0 -∗ wp frame (wpE defs₀ Variants.none (c : Thread nD τ) none) Set.univ (kk ⟨⟩) Q)
          -∗ wp frame (wpE defs₀ Variants.none (c : Thread nD τ) none) Set.univ
            (Prog.lift (.enqueueDma (st.slice (Rect.unit (s := S1024x1024) off' S1x1024.size hin') (fun _ => rfl))
              (.here (outM.slice (Rect.unit (s := S49152x1024) off S1x1024.size hin) (fun _ => rfl))) (.dma cc0_scratch1.sem) hsrc hdst hsem) >>= kk) Q) :=
  issue_bind Variants.none c none (src := st.slice (Rect.unit (s := S1024x1024) off' S1x1024.size hin') (fun _ => rfl))
    (dst := outM.slice (Rect.unit (s := S49152x1024) off S1x1024.size hin) (fun _ => rfl)) (sm := .dma cc0_scratch1.sem)
    (RowC c st i tb f g fs X H) (k := j) hj rfl
    (row_view _ _ _ h) (win_view st _ _ _ h')
    (row_write c st f g fs X hX _ _ _ h _ _ ⟨j / 2 % 1024, Nat.mod_lt _ (by decide)⟩ h' (fun y hy => by
      rw [H.on j hj y hy]; congr 2; apply Fin.ext; show j / 2 = j / 2 % 1024; omega))

/-- Waiting for a row, `j` waited for before it. -/
theorem wait_row {α : Type} {Q : α → sProp 𝕄} (H : RowFacts tb (i 0).val f g X) (j : ℕ) (hj : j < 2048)
    {off : Fin 2 → ℕ} {hin : ∀ a, off a + S1x1024.size a ≤ S49152x1024.size a}
    {off' : Fin 2 → ℕ} {hin' : ∀ a, off' a + S1x1024.size a ≤ S1024x1024.size a}
    {hsrc : (st.slice (Rect.unit (s := S1024x1024) off' S1x1024.size hin') (fun _ => rfl)).view.WordExact}
    {hdst : (outM.slice (Rect.unit (s := S49152x1024) off S1x1024.size hin) (fun _ => rfl)).view.WordExact}
    {kk : PUnit → Prog (TpuEff nD τ sig (Elt F) Λ₀ (c : Thread nD τ).2) α} :
    iprop(rowPend c st i tb f g fs X H 2048 (j * rowN) ∗ (∃ W, owes (c : Thread nD τ) 0 W))
      ⊢ iprop((iprop(rowPend c st i tb f g fs X H 2048 ((j + 1) * rowN) ∗ (∃ W, owes (c : Thread nD τ) 0 W))
            -∗ wp frame (wpE defs₀ Variants.none (c : Thread nD τ) none) Set.univ (kk ⟨⟩) Q)
          -∗ wp frame (wpE defs₀ Variants.none (c : Thread nD τ) none) Set.univ
            (Prog.lift (.waitDma2 cc0_scratch1.sem (st.slice (Rect.unit (s := S1024x1024) off' S1x1024.size hin') (fun _ => rfl))
              (outM.slice (Rect.unit (s := S49152x1024) off S1x1024.size hin) (fun _ => rfl)) hsrc hdst) >>= kk) Q) :=
  wait_bind Variants.none c none (RowC c st i tb f g fs X H) (srcw := st.slice (Rect.unit (s := S1024x1024) off' S1x1024.size hin') (fun _ => rfl))
    (dstw := outM.slice (Rect.unit (s := S49152x1024) off S1x1024.size hin) (fun _ => rfl)) (N := rowN) (k := j) rfl hj

/-- One trip of the issue loop. -/
theorem t5_step (H : RowFacts tb (i 0).val f g X) (hX : st.view.read (Elt F) fs = X) (q : PosShare TreeShare) (k : Fin k0_t5_loop.trips) (acc : Unit) :
    iprop((tbM0.view.loc (c : Thread nD τ) ↦{q} tb) ∗ rowPend c st i tb f g fs X H (2 * k.val) 0)
      ⊢ wp frame (wpE defs₀ Variants.none (c : Thread nD τ) none) Set.univ
        (k0_t5_body (F := F) i tbM0 (Memref.isWhole_whole _) tbM1 (Memref.isWhole_whole _) st hst outM (Memref.isWhole_whole _) (Memref.whole cc0_scratch0) (Memref.isWhole_whole _) cc0_scratch1 cc0_scratch2 k acc)
        (fun _ => (iprop((tbM0.view.loc (c : Thread nD τ) ↦{q} tb) ∗ rowPend c st i tb f g fs X H (2 * (k.val + 1)) 0) : sProp 𝕄)) := by
  have hk : k.val < 1024 := trips5 ▸ k.isLt
  have hi : (i 0).val < 16 := (i 0).isLt
  unfold k0_t5_body
  iintro ⟨HT, HP⟩
  iapply (load_dw c tb ((i 0).val * 2048 + 2 * k.val) (by omega) (off69 i k)) $$ HT
  iintro HT
  iapply (assume_bind Variants.none c none (chk_row _ (H.lt (2 * k.val) (by omega))))
  iapply (issue_row c st i tb f g fs X H hX (2 * k.val) (by omega) rfl (off71 k)) $$ HP
  iintro HP
  iapply (load_dw c tb ((i 0).val * 2048 + (2 * k.val + 1)) (by omega) (off72 i k)) $$ HT
  iintro HT
  iapply (assume_bind Variants.none c none (chk_row _ (H.lt (2 * k.val + 1) (by omega))))
  iapply (issue_row c st i tb f g fs X H hX (2 * k.val + 1) (by omega) rfl (off74 k)) $$ HP
  iintro HP
  rw [wp_pure]
  imodintro
  isplitl [HT]; · iexact HT
  iexact HP

/-- One trip of the drain loop. -/
theorem t6_step (H : RowFacts tb (i 0).val f g X) (q : PosShare TreeShare) (k : Fin k0_t6_loop.trips) (acc : Unit) :
    iprop((tbM0.view.loc (c : Thread nD τ) ↦{q} tb) ∗ rowPend c st i tb f g fs X H 2048 (2 * k.val * rowN) ∗ (∃ W, owes (c : Thread nD τ) 0 W))
      ⊢ wp frame (wpE defs₀ Variants.none (c : Thread nD τ) none) Set.univ
        (k0_t6_body (F := F) i tbM0 (Memref.isWhole_whole _) tbM1 (Memref.isWhole_whole _) st hst outM (Memref.isWhole_whole _) (Memref.whole cc0_scratch0) (Memref.isWhole_whole _) cc0_scratch1 cc0_scratch2 k acc)
        (fun _ => (iprop((tbM0.view.loc (c : Thread nD τ) ↦{q} tb) ∗ rowPend c st i tb f g fs X H 2048 (2 * (k.val + 1) * rowN) ∗ (∃ W, owes (c : Thread nD τ) 0 W)) : sProp 𝕄)) := by
  have hk : k.val < 1024 := trips6 ▸ k.isLt
  have hi : (i 0).val < 16 := (i 0).isLt
  unfold k0_t6_body
  iintro ⟨HT, HP⟩
  iapply (load_dw c tb ((i 0).val * 2048 + 2 * k.val) (by omega) (off75 i k)) $$ HT
  iintro HT
  iapply (assume_bind Variants.none c none (chk_row _ (H.lt (2 * k.val) (by omega))))
  iapply (wait_row c st i tb f g fs X H (2 * k.val) (by omega)) $$ HP
  iintro HP
  iapply (load_dw c tb ((i 0).val * 2048 + (2 * k.val + 1)) (by omega) (off78 i k)) $$ HT
  iintro HT
  iapply (assume_bind Variants.none c none (chk_row _ (H.lt (2 * k.val + 1) (by omega))))
  iapply (wait_row c st i tb f g fs X H (2 * k.val + 1) (by omega)) $$ HP
  iintro HP
  rw [wp_pure]
  imodintro
  isplitl [HT]; · iexact HT
  iexact HP

end Point

end Cert.KernelIdeal.Dispatched

end
-- ==== Proof.Kit.lean ====
/-
  The launch of the dispatch: the host operations before it, the tables they leave, and the resources of the call.
-/
module

public import proofs.«01_k».proof.Proof.Rows
public import proofs.«01_k».proof.Proof.Gen.KernelIdeal.Launch
public import Idealize.ShloMosaic.Lib.Pipeline.FrameValue
public import Idealize.ShloMosaic.Lib.Pipeline.FrameBody

@[expose] public section

noncomputable section

namespace Cert.KernelIdeal.Dispatched

open Idealize.ShloMosaic Idealize.ShloMosaic.TcCoe Idealize.ShloMosaic.Tactic
open Idealize.SL Idealize.SL.RA
open Idealize.SL.BI
open scoped Idealize.SL.BI
open Idealize.SL.BI.BIBase Idealize.SL.BI.Laws Idealize.SL.ProofMode Idealize.SL.Sem
open Cert.KernelIdeal.Gen

variable {F : FTy → Type} [FloatOps F]

local notation "𝕄" => MT nD τ sig Unit (Elt F) ℕ (Idealize.ShloMosaic.Pipeline.UD sig nD τ) ℕ

/-- The host operations before the call, stretch by stretch. -/
abbrev hostSegs : List (List (HloOp τ sig (Elt F))) :=
  [hostOps0, hostOps0_1, hostOps0_2, hostOps0_3, hostOps0_4, hostOps0_5, hostOps0_6, hostOps0_7, hostOps0_8]

theorem hostSegs_sub : (hostSegs (F := F)).Forall fun ops => ops.Forall fun op => op.bufs ⊆ StableHlo.tcRefs τ sig := by
  simp only [List.Forall]
  exact ⟨hostOps0_sub, hostOps0_1_sub, hostOps0_2_sub, hostOps0_3_sub, hostOps0_4_sub, hostOps0_5_sub, hostOps0_6_sub, hostOps0_7_sub, hostOps0_8_sub⟩

/-- None of them makes a buffer of its own. -/
theorem hostSegs_fresh : (hostSegs (F := F)).Forall fun ops => ops.Forall fun op => op.fresh = ∅ := by
  simp only [List.Forall]
  refine ⟨?_, ?_, ?_, ?_, ?_, ?_, ?_, ?_, ?_⟩ <;> (repeat' constructor)

variable (m : (ℓ : Loc nD τ sig) → Buf (Elt F) ℓ) (ρ : Dev nD → PrngReg)

/-- The contents of every buffer when the call is entered. -/
def V (c : Dev nD) (b : Ref sig .tc) : Buf (Elt F) ((c : Thread nD τ).loc b) :=
  StableHlo.after (List.flatten hostSegs) (fun b => m (c, b)) b

/-- The program is the host operations and then the call. -/
theorem hmain (𝒱₀ : Variants) :
    Pipeline.HMainP (Ix := Unit) (Name := ℕ) (U := Pipeline.UD sig nD τ) (Lvl := ℕ) pcfgs 0 defs₀ 𝒱₀ m main (V m) :=
  Pipeline.hmainP_prefixes pcfgs 0 defs₀ 𝒱₀ m main hostSegs hostSegs_sub hostSegs_fresh main_chain

/-- The tables as the call finds them. -/
def tbl : pre0.Contents (Elt F) := fun j => V m (0 : Dev nD) (pre0.ref j)

theorem V_pre (c : Dev nD) (j : Fin 2) : V m c (pre0.ref j) = tbl m j := by
  obtain rfl : c = 0 := Subsingleton.elim _ _; rfl

/-- The index maps read no table: any tables will do. -/
abbrev adm : (pcfg0 (F := F)).Adm := ⟨tbl m, trivial⟩
abbrev cfgM : Pipeline.Cfg sig Λ₀ := cfg0 (adm m)

/-- The first table: where each assignment's row goes. -/
abbrev tb0 : S32768.Idx → Elt F .i32 := V m (0 : Dev nD) main_v18
/-- The second table: where each expert's last block starts, and the end of the last expert's. -/
abbrev tb1 : S33.Idx → Elt F .i32 := V m (0 : Dev nD) main_v25

/-- The body's own semaphores. -/
abbrev osem0 : Fin 2 → SemLoc sig := fun j => (![.dma cc0_scratch1.sem, .dma cc0_scratch2.sem] : Fin 2 → SemLoc sig) j

theorem ownSemFacts0 : Pipeline.OwnSemFacts spec0 osem0 := by decide

theorem ownSems0_eq (c : Dev nD) :
    (Pipeline.ownSems0 (Ix := Unit) (Name := ℕ) (U := Pipeline.UD sig nD τ) (Lvl := ℕ) (Val := Elt F) (τ := τ) osem0 c : sProp 𝕄)
      = iprop(semVal ((c : Thread nD τ), .dma cc0_scratch1.sem) 0 ∗ semVal ((c : Thread nD τ), .dma cc0_scratch2.sem) 0) := by
  rw [Pipeline.ownSems0_eq_of_list c osem0 [(0 : Fin 2), (1 : Fin 2)] (by decide) (by decide)]; rfl

/-- The body moves no buffer by its own copies but the output, … -/
abbrev H0 : Finset (Ref sig .tc) := ∅
/-- … which is this one. -/
abbrev R0 : Finset (Ref sig .tc) := {main_v26}

theorem H0_sub : H0 ⊆ Pipeline.restRefsP sig pre0 spec0 := Finset.empty_subset _
theorem R0_sub : R0 ⊆ Pipeline.restRefsP sig pre0 spec0 \ H0 := by decide

/-- The tables' halves the call lends the body. -/
theorem PhiT0_eq (c : Dev nD) :
    (Pipeline.ΦT pre0 (tbl m) c : sProp 𝕄)
      = iprop((tbM0.view.loc (c : Thread nD τ) ↦{fullShare.right} tb0 m) ∗ (tbM1.view.loc (c : Thread nD τ) ↦{fullShare.right} tb1 m)) := by
  unfold Pipeline.ΦT Pipeline.prefHeld
  rw [show (Finset.univ : Finset (Fin 2)) = insert (0 : Fin 2) {(1 : Fin 2)} from by decide, bigSep_insert (by decide), bigSep_singleton]
  rfl

end Cert.KernelIdeal.Dispatched

end
-- ==== Proof.Tables.lean ====
/-
  The two tables the kernel's host operations compute: the row each assignment goes to, and the first row of the last block of
  every expert's segment followed by the end of the last segment.
-/
module

public import proofs.«01_k».proof.Proof.Places
public import proofs.«01_k».proof.Proof.Kit

@[expose] public section

noncomputable section

namespace Cert.Routes

open Idealize.ShloMosaic Idealize.ShloMosaic.ValueIdx Idealize.ShloMosaic.Routing

abbrev shape3 (a b c : ℕ) : Shape := ⟨3, ![a, b, c]⟩

section
variable (b0 : (shape0).BroadcastsInDim (shape1 32) (![] : Fin 0 → Fin (shape1 32).rank))
  (b00 : (shape0).BroadcastsInDim shape0 (![] : Fin 0 → Fin shape0.rank))
  (rw1 : (shape1 32).ReduceWindows (![32] : Fin 1 → Nat) ![1] ![31] ![0] (shape1 32)) (h0 : 0 < shape0.numel)
  (c3 : (shape2 16384 2).BroadcastsInDim (shape3 16384 2 1) (![0, 1] : Fin 2 → Fin (shape3 16384 2 1).rank))
  (r3 : (shape1 32).BroadcastsInDim (shape3 1 1 32) (![2] : Fin 1 → Fin (shape3 1 1 32).rank))
  (c4 : (shape3 16384 2 1).BroadcastsInDim (shape3 16384 2 32) (![0, 1, 2] : Fin 3 → Fin (shape3 16384 2 32).rank))
  (r4 : (shape3 1 1 32).BroadcastsInDim (shape3 16384 2 32) (![0, 1, 2] : Fin 3 → Fin (shape3 16384 2 32).rank))
  (s4 : (shape1 32).BroadcastsInDim (shape3 16384 2 32) (![2] : Fin 1 → Fin (shape3 16384 2 32).rank))
  (z4 : (shape0).BroadcastsInDim (shape3 16384 2 32) (![] : Fin 0 → Fin (shape3 16384 2 32).rank))
  (rd3 : (shape3 16384 2 32).ReducesTo [2] (shape2 16384 2))
  (sc : (shape2 16384 2).ShapeCasts (shape1 32768))
  (sl : (shape1 32).Slices (![31] : Fin 1 → Nat) (shape1 1)) (cc : Shape.Concatenates [shape1 32, shape1 1] (shape1 33) 0)

/-- The first row of every assignment's expert. -/
def firstW (a0 : IVec (shape2 16384 2) 32) (st : IVec (shape1 32) 32) : IVec (shape2 16384 2) 32 :=
  Host.reduce IntOp.addi (select (cmpi .eq (broadcastInDim (shape3 16384 2 32) ![0, 1, 2] c4 (broadcastInDim (shape3 16384 2 1) ![0, 1] c3 a0))
      (broadcastInDim (shape3 16384 2 32) ![0, 1, 2] r4 (broadcastInDim (shape3 1 1 32) ![2] r3 (iotaInDim (shape1 32) 32 0))))
    (broadcastInDim (shape3 16384 2 32) ![2] s4 st) (broadcastInDim (shape3 16384 2 32) ![] z4 (constantI shape0 32 0#32)))
    (constantI shape0 32 0#32) rd3 h0

/-- The first table. -/
def rowsW (a0 a1 : IVec (shape2 16384 2) 32) (a2 : IVec (shape1 32) 32) : IVec (shape1 32768) 32 :=
  shapeCast (shape1 32768) (addi a1 (firstW h0 c3 r3 c4 r4 s4 z4 rd3 a0 (startW b0 b00 rw1 h0 a2))) sc

/-- The blocks' starts. -/
def lastW (a2 : IVec (shape1 32) 32) : IVec (shape1 32) 32 :=
  select (cmpi .sgt a2 (broadcastInDim (shape1 32) ![] b0 (constantI shape0 32 0#32)))
    (subi (endW b0 b00 rw1 h0 a2) (broadcastInDim (shape1 32) ![] b0 (constantI shape0 32 512#32)))
    (broadcastInDim (shape1 32) ![] b0 (constantI shape0 32 4294967295#32))

/-- A vector of 32 and one of 1, joined. -/
def joinW (a : IVec (shape1 32) 32) (b : IVec (shape1 1) 32) : IVec (shape1 33) 32 :=
  concatenate (shape1 33) 0 [⟨shape1 32, a⟩, ⟨shape1 1, b⟩] cc

/-- The second table. -/
def cellsW (a2 : IVec (shape1 32) 32) : IVec (shape1 33) 32 :=
  joinW cc (lastW b0 b00 rw1 h0 a2) (extractStridedSlice (shape1 1) ![31] (endW b0 b00 rw1 h0 a2) sl)

end

end Cert.Routes

namespace Cert.KernelIdeal.Dispatched

open Idealize.ShloMosaic Idealize.ShloMosaic.TcCoe
open Idealize.ShloMosaic.StableHlo
open Cert.KernelIdeal.Gen Cert.Routes

variable {F : FTy → Type} [FloatOps F]
variable (m : (ℓ : Loc nD τ sig) → Buf (Elt F) ℓ)

/-- The contents before the last stretch of host operations. -/
def W (c : Dev nD) : Valuation τ sig (Elt F) := StableHlo.after (hostOps0 ++ (hostOps0_1 ++ (hostOps0_2 ++ (hostOps0_3 ++ (hostOps0_4
    ++ (hostOps0_5 ++ (hostOps0_6 ++ hostOps0_7))))))) (fun b => m (c, b))

theorem after_append (l k : List (HloOp τ sig (Elt F))) (V : Valuation τ sig (Elt F)) : StableHlo.after (l ++ k) V = StableHlo.after k (StableHlo.after l V) := by
  induction l generalizing V with
  | nil => rfl
  | cons a l ih => exact ih _

theorem V_eq (c : Dev nD) (b : Ref sig .tc) : V m c b = StableHlo.after hostOps0_8 (W m c) (Proc.devRef .tc b) := by
  unfold V W
  rw [← after_append]
  simp only [List.append_assoc]
  rfl

theorem V_of_ne (c : Dev nD) (b : Ref sig .tc) (h : b ≠ main_v24) (h' : b ≠ main_v25) : V m c b = W m c (Proc.devRef .tc b) := by
  rw [V_eq]
  exact after_of_writes_sub (W := [main_v24, main_v25]) _ _ (StableHlo.forall_writes_sub_of_map rfl) (by simp [h, h'])

theorem V_cells (c : Dev nD) : V m c main_v25 = joinW concatenates_S32_S1_S33_d0 (W m c (Proc.devRef .tc main_v23))
    (extractStridedSlice S1 ![31] (W m c (Proc.devRef .tc main_v7)) slices_S32_S1_31) := by
  rw [V_eq]
  show StableHlo.after [StableHlo.unary main_v7 main_v24 ((extractStridedSlice S1 ![31] · slices_S32_S1_31) : (⟨S32, .i32⟩ : BufTy).Contents (Elt F) → (⟨S1, .i32⟩ : BufTy).Contents (Elt F)),
    StableHlo.binary main_v23 main_v24 main_v25 (joinW concatenates_S32_S1_S33_d0 : (⟨S32, .i32⟩ : BufTy).Contents (Elt F) → (⟨S1, .i32⟩ : BufTy).Contents (Elt F) → (⟨S33, .i32⟩ : BufTy).Contents (Elt F))] (W m c) _ = _
  after_results_simp <;> rfl

set_option maxRecDepth 8192 in
set_option maxHeartbeats 1000000 in
theorem W_args (c : Dev nD) : W m c (Proc.devRef .tc main_arg0) = m (c, Proc.devRef .tc main_arg0) ∧ W m c (Proc.devRef .tc main_arg1) = m (c, Proc.devRef .tc main_arg1)
    ∧ W m c (Proc.devRef .tc main_arg2) = m (c, Proc.devRef .tc main_arg2) ∧ W m c (Proc.devRef .tc main_arg3) = m (c, Proc.devRef .tc main_arg3) := by
  refine ⟨?_, ?_, ?_, ?_⟩ <;>
  · unfold W
    simp only [hostOps0, hostOps0_1, hostOps0_2, hostOps0_3, hostOps0_4, hostOps0_5, hostOps0_6, hostOps0_7, List.cons_append,
      List.nil_append, TRef.binary, TRef.nullary, TRef.ternary, TRef.unary, TRef.toBuf, TRef.ofBuf, cast_eq]
    after_results_simp <;> rfl

set_option maxRecDepth 8192 in
set_option maxHeartbeats 1000000 in
theorem W_rows (c : Dev nD) : W m c (Proc.devRef .tc main_v18) = rowsW bcast_S_S32 bcast_S_S_ reduceWindows_S32_S32_w32s1p31_0 h_S_ bcast_S16384x2_S16384x2x1_0_1 bcast_S32_S1x1x32_2
    bcast_S16384x2x1_S16384x2x32_0_1_2 bcast_S1x1x32_S16384x2x32_0_1_2 bcast_S32_S16384x2x32_2 bcast_S_S16384x2x32
    reducesTo_S16384x2x32_S16384x2_d2 shapeCasts_S16384x2_S32768 (m (c, Proc.devRef .tc main_arg0)) (m (c, Proc.devRef .tc main_arg1))
    (m (c, Proc.devRef .tc main_arg2)) := by
  unfold W
  simp only [hostOps0, hostOps0_1, hostOps0_2, hostOps0_3, hostOps0_4, hostOps0_5, hostOps0_6, hostOps0_7, List.cons_append,
    List.nil_append, TRef.binary, TRef.nullary, TRef.ternary, TRef.unary, TRef.toBuf, TRef.ofBuf, cast_eq]
  after_results_simp <;> rfl

set_option maxRecDepth 8192 in
set_option maxHeartbeats 1000000 in
theorem W_ends (c : Dev nD) : W m c (Proc.devRef .tc main_v7) = endW bcast_S_S32 bcast_S_S_ reduceWindows_S32_S32_w32s1p31_0 h_S_ (m (c, Proc.devRef .tc main_arg2)) := by
  unfold W
  simp only [hostOps0, hostOps0_1, hostOps0_2, hostOps0_3, hostOps0_4, hostOps0_5, hostOps0_6, hostOps0_7, List.cons_append,
    List.nil_append, TRef.binary, TRef.nullary, TRef.ternary, TRef.unary, TRef.toBuf, TRef.ofBuf, cast_eq]
  after_results_simp <;> rfl

set_option maxRecDepth 8192 in
set_option maxHeartbeats 1000000 in
theorem W_last (c : Dev nD) : W m c (Proc.devRef .tc main_v23) = lastW bcast_S_S32 bcast_S_S_ reduceWindows_S32_S32_w32s1p31_0 h_S_ (m (c, Proc.devRef .tc main_arg2)) := by
  unfold W
  simp only [hostOps0, hostOps0_1, hostOps0_2, hostOps0_3, hostOps0_4, hostOps0_5, hostOps0_6, hostOps0_7, List.cons_append,
    List.nil_append, TRef.binary, TRef.nullary, TRef.ternary, TRef.unary, TRef.toBuf, TRef.ofBuf, cast_eq]
  after_results_simp <;> rfl

theorem tb0_eq : tb0 m = rowsW bcast_S_S32 bcast_S_S_ reduceWindows_S32_S32_w32s1p31_0 h_S_ bcast_S16384x2_S16384x2x1_0_1 bcast_S32_S1x1x32_2
    bcast_S16384x2x1_S16384x2x32_0_1_2 bcast_S1x1x32_S16384x2x32_0_1_2 bcast_S32_S16384x2x32_2 bcast_S_S16384x2x32
    reducesTo_S16384x2x32_S16384x2_d2 shapeCasts_S16384x2_S32768 (m (0, Proc.devRef .tc main_arg0)) (m (0, Proc.devRef .tc main_arg1))
    (m (0, Proc.devRef .tc main_arg2)) :=
  (V_of_ne m 0 main_v18 (by decide) (by decide)).trans (W_rows m 0)

theorem tb1_eq : tb1 m = cellsW bcast_S_S32 bcast_S_S_ reduceWindows_S32_S32_w32s1p31_0 h_S_ slices_S32_S1_31 concatenates_S32_S1_S33_d0
    (m (0, Proc.devRef .tc main_arg2)) := by
  refine (V_cells m 0).trans ?_
  rw [W_last, W_ends]; rfl

theorem V_args (c : Dev nD) : V m c main_arg0 = m (c, Proc.devRef .tc main_arg0) ∧ V m c main_arg1 = m (c, Proc.devRef .tc main_arg1)
    ∧ V m c main_arg2 = m (c, Proc.devRef .tc main_arg2) ∧ V m c main_arg3 = m (c, Proc.devRef .tc main_arg3) :=
  ⟨(V_of_ne m c main_arg0 (by decide) (by decide)).trans (W_args m c).1, (V_of_ne m c main_arg1 (by decide) (by decide)).trans (W_args m c).2.1,
    (V_of_ne m c main_arg2 (by decide) (by decide)).trans (W_args m c).2.2.1, (V_of_ne m c main_arg3 (by decide) (by decide)).trans (W_args m c).2.2.2⟩

end Cert.KernelIdeal.Dispatched

end
-- ==== Proof.Zero.lean ====
/-
  The zeroing phase of the first point: a block of zeros of the scratch is copied over the last block of every expert
  that has rows and over the blocks past the last expert's. The copies are all started before the first wait.
-/
module

public import proofs.«01_k».proof.Proof.Rows

@[expose] public section

noncomputable section

namespace Cert.KernelIdeal.Dispatched

open Idealize.ShloMosaic Idealize.ShloMosaic.TcCoe Idealize.ShloMosaic.Tactic
open Idealize.SL Idealize.SL.RA
open Idealize.SL.BI (sProp bigSep)
open scoped Idealize.SL.BI
open Idealize.SL.BI.BIBase Idealize.SL.BI.Laws Idealize.SL.ProofMode Idealize.SL.Sem
open Dispatch Cert.KernelIdeal.Gen

variable {F : FTy → Type} [FloatOps F]

local notation "𝕄" => MT nD τ sig Unit (Elt F) ℕ (Idealize.ShloMosaic.Pipeline.UD sig nD τ) ℕ

/-- The scratch, whole. -/
abbrev scM : Memref sig .tc .vmem S512x1024 .f32 := Memref.whole cc0_scratch0

/-- The output's rows of block `b`, of 512 rows each. -/
def blockSet (b : ℕ) : Finset S49152x1024.Idx := Finset.univ.filter fun y => (y 0).val / 512 = b

theorem mem_blockSet {b : ℕ} {y : S49152x1024.Idx} : y ∈ blockSet b ↔ (y 0).val / 512 = b := by simp [blockSet]

/-- Word `e` of the second table. -/
def zw (tb : S33.Idx → Elt F .i32) (e : ℕ) : BitVec 32 := tb (at1 ⟨e % 33, Nat.mod_lt _ (by decide)⟩)

/-- A word that names a block: it is not negative. -/
def liveW (v : BitVec 32) : Prop := Scalar.cmpi .ne (Scalar.extui (Scalar.cmpi .sge v 0#32) : BitVec 32) 0#32 = 1#1

instance (v : BitVec 32) : Decidable (liveW v) := inferInstanceAs (Decidable (_ = _))

/-- How many of the first `e` experts have a block to be zeroed. -/
def cnt (tb : S33.Idx → Elt F .i32) : ℕ → ℕ
  | 0 => 0
  | e + 1 => if liveW (zw (F := F) tb e) then cnt tb e + 1 else cnt tb e

theorem cnt_live {tb : S33.Idx → Elt F .i32} {e : ℕ} (h : liveW (zw (F := F) tb e)) : cnt tb (e + 1) = cnt tb e + 1 := if_pos h
theorem cnt_dead {tb : S33.Idx → Elt F .i32} {e : ℕ} (h : ¬ liveW (zw (F := F) tb e)) : cnt tb (e + 1) = cnt tb e := if_neg h
theorem cnt_le {tb : S33.Idx → Elt F .i32} (a b : ℕ) : cnt tb a ≤ cnt tb (a + b) := by
  induction b with
  | zero => exact le_refl _
  | succ b ih =>
    rcases em (liveW (zw (F := F) tb (a + b))) with h | h
    · rw [show a + (b + 1) = (a + b) + 1 from rfl, cnt_live h]; omega
    · rw [show a + (b + 1) = (a + b) + 1 from rfl, cnt_dead h]; exact ih
theorem cnt_lt {tb : S33.Idx → Elt F .i32} {e : ℕ} (he : e < 32) (h : liveW (zw (F := F) tb e)) : cnt tb e < cnt tb 32 := by
  have := cnt_le (tb := tb) (e + 1) (32 - (e + 1))
  rw [show e + 1 + (32 - (e + 1)) = 32 by omega, cnt_live h] at this
  omega

/-- The blocks zeroed: `zs j` the `j`-th of them. The experts' come first, in order; then the blocks from `m` on. -/
structure ZeroFacts (tb : S33.Idx → Elt F .i32) (m : ℕ) (zs : ℕ → ℕ) : Prop where
  live : ∀ e, e < 32 → liveW (zw (F := F) tb e) → (zw (F := F) tb e).toNat = 512 * zs (cnt tb e)
  last : zw (F := F) tb 32 = BitVec.ofNat 32 (512 * m)
  le : m ≤ 96
  tail : ∀ k, k < 96 - m → zs (cnt tb 32 + k) = m + k
  lt : ∀ j, j < cnt tb 32 + (96 - m) → zs j < 96
  ne : ∀ i j, i < cnt tb 32 + (96 - m) → j < cnt tb 32 + (96 - m) → i ≠ j → zs i ≠ zs j

theorem block_inb (b : ℕ) (hb : b < 96) : ∀ a, (![512 * b, 0] : Fin 2 → ℕ) a + S512x1024.size a ≤ S49152x1024.size a := by
  intro a; fin_cases a
  · show 512 * b + 512 ≤ 49152; omega
  · show 0 + 1024 ≤ 1024; omega

/-- A block's elements. -/
theorem block_view (off : Fin 2 → ℕ) (hin : ∀ a, off a + S512x1024.size a ≤ S49152x1024.size a) (b : ℕ) (h : off = ![512 * b, 0]) :
    (outM.slice (Rect.unit (s := S49152x1024) off S512x1024.size hin) (fun _ => rfl)).view.set = blockSet b := by
  subst h
  refine (View.set_slice_whole main_v26 _).trans ?_
  ext y
  rw [Rect.mem_set_unit, mem_blockSet]
  have h1 : (y 1).val < 1024 := (y 1).isLt
  constructor
  · intro H; have a0 : 512 * b ≤ (y 0).val ∧ (y 0).val < 512 * b + 512 := H 0; omega
  · intro H a; fin_cases a
    · show 512 * b ≤ (y 0).val ∧ (y 0).val < 512 * b + 512; omega
    · show 0 ≤ (y 1).val ∧ (y 1).val < 0 + 1024; omega

/-- Zero. -/
abbrev zeroF : Elt F .f32 := (Scalar.ofBits .f32 0x00000000#32 : F .f32)
/-- A scratch of zeros. -/
abbrev zeros : S512x1024.Idx → Elt F .f32 := fun _ => zeroF

open Classical in
/-- The output with the first `n` blocks of `zs` zeroed. -/
def zeroed (f : OutC F) (n : ℕ) (zs : ℕ → ℕ) : OutC F := fun y => if ∃ j, j < n ∧ (y 0).val / 512 = zs j then zeroF else f y

section Point

variable (c : Dev nD) (i : grid0.Coords) (tb : S33.Idx → Elt F .i32) (q : PosShare TreeShare) (m : ℕ) (zs : ℕ → ℕ) (f : OutC F)

/-- How many blocks are zeroed. -/
abbrev zn (tb : S33.Idx → Elt F .i32) (m : ℕ) : ℕ := cnt tb 32 + (96 - m)

/-- The zeroing as a run of transfers. -/
def zeroCopies (H : ZeroFacts tb m zs) : Copies (Elt F) (outM.view.loc (c : Thread nD τ)) (scM.view.loc (c : Thread nD τ)) where
  before := f
  final := zeroed f (zn tb m) zs
  from_ := zeros
  held := Finset.univ
  q := fullShare
  n := zn tb m
  dst j := blockSet (zs j)
  src j := scM.view.set
  disj i j hi hj hij := by
    rw [Finset.disjoint_left]; intro y h1 h2
    rw [mem_blockSet] at h1 h2
    exact H.ne i j hi hj hij (h1.symm.trans h2)
  sub j _ := Finset.subset_univ _
  off y h := by
    unfold zeroed
    rw [if_neg]
    rintro ⟨j, hj, e⟩
    exact h j hj (mem_blockSet.mpr e)

/-- The units a block's transfer counts. -/
abbrev zeroN : ℕ := (main_v26 : Ref sig .tc).dmaCredit S512x1024 .f32

/-- A run of the zeroing: `j` blocks started, `u` units waited for. -/
abbrev zeroPend (H : ZeroFacts tb m zs) (j u : ℕ) : sProp 𝕄 :=
  (zeroCopies c tb m zs f H).pend (U := Pipeline.UD sig nD τ) c (.dma cc0_scratch2.sem) zeroN j u

variable (H : ZeroFacts tb m zs)

/-- The second table, the run with `j` blocks started, and whatever else is held. -/
abbrev Issuing (R : sProp 𝕄) (j : ℕ) : sProp 𝕄 :=
  iprop((tbM1.view.loc (c : Thread nD τ) ↦{q} tb) ∗ zeroPend c tb m zs f H j 0 ∗ (∃ W, owes (c : Thread nD τ) 0 W) ∗ R)
/-- The same with every block started and `j` of them waited for. -/
abbrev Waiting (R : sProp 𝕄) (j : ℕ) : sProp 𝕄 :=
  iprop((tbM1.view.loc (c : Thread nD τ) ↦{q} tb) ∗ zeroPend c tb m zs f H (zn tb m) (j * zeroN) ∗ (∃ W, owes (c : Thread nD τ) 0 W) ∗ R)

theorem read_tb1 (off : Fin 1 → ℕ) (hin : ∀ a, off a + S1.size a ≤ S33.size a) (r : Fin 33) (h : off 0 = r.val)
    (x : S1.Idx) : (tbM1.access (Rect.unit (s := S33) off S1.size hin)).read (Elt F) tb x = tb (at1 r) := by
  show tb _ = tb _
  congr 1
  funext a
  fin_cases a
  apply Fin.ext
  have hx : (x 0).val = 0 := by have : (x 0).val < 1 := (x 0).isLt; omega
  show off 0 + 1 * (x 0).val = r.val
  omega

/-- Word `e` read, whatever else is held. -/
theorem load_zw {α : Type} {Q : α → sProp 𝕄} {R : sProp 𝕄} (e : ℕ) {hin : ∀ a, (![e] : Fin 1 → ℕ) a + S1.size a ≤ S33.size a} {h1 : (Rect.unit (s := S33) ![e] S1.size hin).shape.numel = 1}
    {hp : EltTy.packing .i32 = 1} {k : Elt F .i32 → Prog (TpuEff nD τ sig (Elt F) Λ₀ (c : Thread nD τ).2) α} (he : e < 33)
    (h : iprop((tbM1.view.loc (c : Thread nD τ) ↦{q} tb) ∗ R) ⊢ wp frame (wpE defs₀ Variants.none (c : Thread nD τ) none) Set.univ (k (zw (F := F) tb e)) Q) :
    (iprop((tbM1.view.loc (c : Thread nD τ) ↦{q} tb) ∗ R) : sProp 𝕄)
      ⊢ wp frame (wpE defs₀ Variants.none (c : Thread nD τ) none) Set.univ (smemLoad tbM1 (Rect.unit (s := S33) ![e] S1.size hin) h1 hp >>= k) Q := by
  have e0 := read_tb1 tb ![e] hin ⟨e, he⟩ rfl (Shape.Idx.first (h1.symm ▸ Nat.one_pos))
  have e1 : zw (F := F) tb e = tb (at1 ⟨e, he⟩) := by
    unfold zw; congr 2; exact Fin.ext (Nat.mod_eq_of_lt he)
  rw [e1, ← e0] at h
  iintro ⟨HT, HR⟩
  iapply (load_bind Variants.none c none tbM1) $$ HT
  iintro HT
  iapply h
  isplitl [HT]; · iexact HT
  iexact HR

/-- A condition that holds. -/
theorem assume_zw {α : Type} {Q : α → sProp 𝕄} {R : sProp 𝕄} {P : Prop} {d : Decidable P} {k : PLift P → Prog (TpuEff nD τ sig (Elt F) Λ₀ (c : Thread nD τ).2) α} (h : P)
    (hk : R ⊢ wp frame (wpE defs₀ Variants.none (c : Thread nD τ) none) Set.univ (k ⟨h⟩) Q) :
    R ⊢ wp frame (wpE defs₀ Variants.none (c : Thread nD τ) none) Set.univ (Prog.lift (TpuEff.assume P d) >>= k) Q :=
  hk.trans (assume_bind Variants.none c none h)

/-- Starting block `j`. -/
theorem issue_zero (R : sProp 𝕄) {α : Type} {Q : α → sProp 𝕄} (j : ℕ) (hj : j < zn tb m)
    {off : Fin 2 → ℕ} {hin : ∀ a, off a + S512x1024.size a ≤ S49152x1024.size a} (h : off = ![512 * zs j, 0])
    {hsrc : scM.view.WordExact}
    {hdst : (outM.slice (Rect.unit (s := S49152x1024) off S512x1024.size hin) (fun _ => rfl)).view.WordExact}
    {hsem : DmaTarget.Typed (nD := nD) (τ := τ) .vmem (.dma cc0_scratch2.sem) (DmaTarget.here (p := (c : Thread nD τ).2) (outM.slice (Rect.unit (s := S49152x1024) off S512x1024.size hin) (fun _ => rfl)))}
    {kk : PUnit → Prog (TpuEff nD τ sig (Elt F) Λ₀ (c : Thread nD τ).2) α}
    (hk : Issuing c tb q m zs f H R (j + 1) ⊢ wp frame (wpE defs₀ Variants.none (c : Thread nD τ) none) Set.univ (kk ⟨⟩) Q) :
    Issuing c tb q m zs f H R j
      ⊢ wp frame (wpE defs₀ Variants.none (c : Thread nD τ) none) Set.univ
            (Prog.lift (.enqueueDma scM
              (.here (outM.slice (Rect.unit (s := S49152x1024) off S512x1024.size hin) (fun _ => rfl))) (.dma cc0_scratch2.sem) hsrc hdst hsem) >>= kk) Q := by
  have hb := issue_bind (U := Pipeline.UD sig nD τ) (defs := defs₀ (F := F)) Variants.none c none (Q := Q) (kk := kk) (hsrc := hsrc) (hdst := hdst) (hsem := hsem) (src := scM)
    (dst := outM.slice (Rect.unit (s := S49152x1024) off S512x1024.size hin) (fun _ => rfl)) (sm := .dma cc0_scratch2.sem)
    (zeroCopies c tb m zs f H) (N := zeroN) (k := j) hj rfl
    (block_view _ _ _ h) rfl (by
      intro y hy
      have hy' : y ∈ (outM.slice (Rect.unit (s := S49152x1024) off S512x1024.size hin) (fun _ => rfl)).view.set := by
        rw [block_view off hin (zs j) h]; exact hy
      obtain ⟨z, hz⟩ : ∃ z, (outM.slice (Rect.unit (s := S49152x1024) off S512x1024.size hin) (fun _ => rfl)).view.emb z = y := by
        simpa [View.set] using hy'
      rw [← hz, View.write_emb_of_mem _ _ (x := z) (Finset.mem_univ z), hz]
      have hfin : (zeroCopies c tb m zs f H).final y = zeroF := if_pos ⟨j, hj, mem_blockSet.mp hy⟩
      exact hfin.symm ▸ rfl)
  iintro ⟨HT, HP, HR⟩
  iapply hb $$ HP
  iintro HP
  iapply hk
  isplitl [HT]; · iexact HT
  isplitl [HP]; · iexact HP
  iexact HR

/-- Waiting for a block, `j` waited for before it. -/
theorem wait_zero (R : sProp 𝕄) {α : Type} {Q : α → sProp 𝕄} (j : ℕ) (hj : j < zn tb m)
    {off : Fin 2 → ℕ} {hin : ∀ a, off a + S512x1024.size a ≤ S49152x1024.size a}
    {hsrc : scM.view.WordExact}
    {hdst : (outM.slice (Rect.unit (s := S49152x1024) off S512x1024.size hin) (fun _ => rfl)).view.WordExact}
    {kk : PUnit → Prog (TpuEff nD τ sig (Elt F) Λ₀ (c : Thread nD τ).2) α}
    (hk : Waiting c tb q m zs f H R (j + 1) ⊢ wp frame (wpE defs₀ Variants.none (c : Thread nD τ) none) Set.univ (kk ⟨⟩) Q) :
    Waiting c tb q m zs f H R j
      ⊢ wp frame (wpE defs₀ Variants.none (c : Thread nD τ) none) Set.univ
            (Prog.lift (.waitDma2 cc0_scratch2.sem scM
              (outM.slice (Rect.unit (s := S49152x1024) off S512x1024.size hin) (fun _ => rfl)) hsrc hdst) >>= kk) Q := by
  have hb : iprop(zeroPend c tb m zs f H (zn tb m) (j * zeroN) ∗ (∃ W, owes (c : Thread nD τ) 0 W))
      ⊢ iprop((iprop(zeroPend c tb m zs f H (zn tb m) ((j + 1) * zeroN) ∗ (∃ W, owes (c : Thread nD τ) 0 W)) -∗ wp frame (wpE defs₀ Variants.none (c : Thread nD τ) none) Set.univ (kk ⟨⟩) Q)
          -∗ wp frame (wpE defs₀ Variants.none (c : Thread nD τ) none) Set.univ
            (Prog.lift (.waitDma2 cc0_scratch2.sem scM
              (outM.slice (Rect.unit (s := S49152x1024) off S512x1024.size hin) (fun _ => rfl)) hsrc hdst) >>= kk) Q) :=
    wait_bind (U := Pipeline.UD sig nD τ) (defs := defs₀ (F := F)) Variants.none c none (Q := Q) (kk := kk) (hsrc := hsrc) (hdst := hdst) (zeroCopies c tb m zs f H) (srcw := scM)
    (dstw := outM.slice (Rect.unit (s := S49152x1024) off S512x1024.size hin) (fun _ => rfl)) (sem := cc0_scratch2.sem) (N := zeroN) (k := j) rfl hj
  iintro ⟨HT, HP, HO, HR⟩
  iapply hb $$ [HP HO]
  · isplitl [HP]; · iexact HP
    iexact HO
  iintro ⟨HP, HO⟩
  iapply hk
  isplitl [HT]; · iexact HT
  isplitl [HP]; · iexact HP
  isplitl [HO]; · iexact HO
  iexact HR

/-- The condition of an expert's block holds where the expert has one. -/
theorem ZeroFacts.chk (H : ZeroFacts tb m zs) {e : ℕ} (he : e < 32) (h : liveW (zw (F := F) tb e)) :
    512 ∣ (zw (F := F) tb e).toNat ∧ ∀ a, (![(zw (F := F) tb e).toNat, 0] : Fin 2 → ℕ) a + S512x1024.size a ≤ S49152x1024.size a := by
  rw [H.live e he h]
  exact ⟨⟨_, rfl⟩, block_inb _ (H.lt _ (by have := cnt_lt he h; omega))⟩

/-- An expert's turn in the start of the copies, its word read. -/
theorem issue_turn (R : sProp 𝕄) {α : Type} {Q : α → sProp 𝕄} (e : ℕ) (he : e < 32) {cond : Prop} {d : Decidable cond} (hc : cond ↔ liveW (zw (F := F) tb e))
    {hin : cond → ∀ a, (![e] : Fin 1 → ℕ) a + S1.size a ≤ S33.size a} {h1 : ∀ h : cond, (Rect.unit (s := S33) ![e] S1.size (hin h)).shape.numel = 1} {hp : cond → EltTy.packing .i32 = 1}
    {chk : BitVec 32 → Prop} {dec : ∀ v, Decidable (chk v)} {off : BitVec 32 → Fin 2 → ℕ} (hoff : ∀ v, off v = ![v.toNat, 0])
    {inb : cond → ∀ v, PLift (chk v) → ∀ a, off v a + S512x1024.size a ≤ S49152x1024.size a}
    (hchk : (512 ∣ (zw (F := F) tb e).toNat ∧ ∀ a, (![(zw (F := F) tb e).toNat, 0] : Fin 2 → ℕ) a + S512x1024.size a ≤ S49152x1024.size a) → chk (zw (F := F) tb e))
    {hsrc : cond → ∀ v, PLift (chk v) → scM.view.WordExact}
    {hdst : ∀ (h : cond) v (w : PLift (chk v)), (outM.slice (Rect.unit (s := S49152x1024) (off v) S512x1024.size (inb h v w)) (fun _ => rfl)).view.WordExact}
    {hsem : ∀ (h : cond) v (w : PLift (chk v)), DmaTarget.Typed (nD := nD) (τ := τ) .vmem (.dma cc0_scratch2.sem) (DmaTarget.here (p := (c : Thread nD τ).2) (outM.slice (Rect.unit (s := S49152x1024) (off v) S512x1024.size (inb h v w)) (fun _ => rfl)))}
    {kk : Prog (TpuEff nD τ sig (Elt F) Λ₀ (c : Thread nD τ).2) α}
    (hk : Issuing c tb q m zs f H R (cnt tb (e + 1)) ⊢ wp frame (wpE defs₀ Variants.none (c : Thread nD τ) none) Set.univ kk Q) :
    Issuing c tb q m zs f H R (cnt tb e)
      ⊢ wp frame (wpE defs₀ Variants.none (c : Thread nD τ) none) Set.univ
          (dite cond (fun h => smemLoad tbM1 (Rect.unit (s := S33) ![e] S1.size (hin h)) (h1 h) (hp h) >>= fun v =>
            Prog.lift (TpuEff.assume (chk v) (dec v)) >>= fun w =>
              Prog.lift (.enqueueDma scM (.here (outM.slice (Rect.unit (s := S49152x1024) (off v) S512x1024.size (inb h v w)) (fun _ => rfl))) (.dma cc0_scratch2.sem) (hsrc h v w) (hdst h v w) (hsem h v w)) >>= fun _ => kk)
            (fun _ => kk)) Q := by
  rcases em cond with h | h
  · have hl := hc.mp h
    rw [dif_pos h]
    refine load_zw c tb q e (by omega) ?_
    refine assume_zw c (hchk (H.chk tb m zs he hl)) ?_
    refine issue_zero c tb q m zs f H R (cnt tb e) (Nat.lt_of_lt_of_le (cnt_lt he hl) (Nat.le_add_right _ _)) ?_ ?_
    · rw [hoff, H.live e he hl]
    · rw [cnt_live hl] at hk; exact hk
  · have hl : ¬ liveW (zw (F := F) tb e) := fun x => h (hc.mpr x)
    rw [dif_neg h]
    rw [cnt_dead hl] at hk; exact hk

/-- An expert's turn in the waits, its word read. -/
theorem wait_turn (R : sProp 𝕄) {α : Type} {Q : α → sProp 𝕄} (e : ℕ) (he : e < 32) {cond : Prop} {d : Decidable cond} (hc : cond ↔ liveW (zw (F := F) tb e))
    {hin : cond → ∀ a, (![e] : Fin 1 → ℕ) a + S1.size a ≤ S33.size a} {h1 : ∀ h : cond, (Rect.unit (s := S33) ![e] S1.size (hin h)).shape.numel = 1} {hp : cond → EltTy.packing .i32 = 1}
    {chk : BitVec 32 → Prop} {dec : ∀ v, Decidable (chk v)} {off : BitVec 32 → Fin 2 → ℕ}
    {inb : cond → ∀ v, PLift (chk v) → ∀ a, off v a + S512x1024.size a ≤ S49152x1024.size a}
    (hchk : (512 ∣ (zw (F := F) tb e).toNat ∧ ∀ a, (![(zw (F := F) tb e).toNat, 0] : Fin 2 → ℕ) a + S512x1024.size a ≤ S49152x1024.size a) → chk (zw (F := F) tb e))
    {hsrc : cond → ∀ v, PLift (chk v) → scM.view.WordExact}
    {hdst : ∀ (h : cond) v (w : PLift (chk v)), (outM.slice (Rect.unit (s := S49152x1024) (off v) S512x1024.size (inb h v w)) (fun _ => rfl)).view.WordExact}
    {kk : Prog (TpuEff nD τ sig (Elt F) Λ₀ (c : Thread nD τ).2) α}
    (hk : Waiting c tb q m zs f H R (cnt tb (e + 1)) ⊢ wp frame (wpE defs₀ Variants.none (c : Thread nD τ) none) Set.univ kk Q) :
    Waiting c tb q m zs f H R (cnt tb e)
      ⊢ wp frame (wpE defs₀ Variants.none (c : Thread nD τ) none) Set.univ
          (dite cond (fun h => smemLoad tbM1 (Rect.unit (s := S33) ![e] S1.size (hin h)) (h1 h) (hp h) >>= fun v =>
            Prog.lift (TpuEff.assume (chk v) (dec v)) >>= fun w =>
              Prog.lift (.waitDma2 cc0_scratch2.sem scM (outM.slice (Rect.unit (s := S49152x1024) (off v) S512x1024.size (inb h v w)) (fun _ => rfl)) (hsrc h v w) (hdst h v w)) >>= fun _ => kk)
            (fun _ => kk)) Q := by
  rcases em cond with h | h
  · have hl := hc.mp h
    rw [dif_pos h]
    refine load_zw c tb q e (by omega) ?_
    refine assume_zw c (hchk (H.chk tb m zs he hl)) ?_
    refine wait_zero c tb q m zs f H R (cnt tb e) (Nat.lt_of_lt_of_le (cnt_lt he hl) (Nat.le_add_right _ _)) ?_
    rw [cnt_live hl] at hk; exact hk
  · have hl : ¬ liveW (zw (F := F) tb e) := fun x => h (hc.mpr x)
    rw [dif_neg h]
    rw [cnt_dead hl] at hk; exact hk

end Point

end Cert.KernelIdeal.Dispatched

end
-- ==== Proof.Phase.lean ====
/-
  The zeroing phase as a whole: the pieces the body's first part is printed in, one after the other, and the loops
  over the blocks past the last expert's.
-/
module

public import proofs.«01_k».proof.Proof.Zero

@[expose] public section

noncomputable section

namespace Cert.KernelIdeal.Dispatched

open Idealize.ShloMosaic Idealize.ShloMosaic.TcCoe Idealize.ShloMosaic.Tactic
open Idealize.SL Idealize.SL.RA
open Idealize.SL.BI (sProp bigSep)
open scoped Idealize.SL.BI
open Idealize.SL.BI.BIBase Idealize.SL.BI.Laws Idealize.SL.ProofMode Idealize.SL.Sem
open Dispatch Cert.KernelIdeal.Gen

variable {F : FTy → Type} [FloatOps F]

local notation "𝕄" => MT nD τ sig Unit (Elt F) ℕ (Idealize.ShloMosaic.Pipeline.UD sig nD τ) ℕ

/-! ## The loops' words -/

theorem tail_lb : ∀ m : Fin 97, (k0_t1_loop (BitVec.ofNat 32 (512 * m.val))).lb = BitVec.ofNat 32 m.val := by decide +kernel
theorem tail_ub : ∀ m : Fin 97, (k0_t1_loop (BitVec.ofNat 32 (512 * m.val))).ub = 96#32 := by decide +kernel
theorem rest_lb : ∀ m : Fin 97, (k0_t2_loop (BitVec.ofNat 32 (512 * m.val))).lb = 96#32 := by decide +kernel
theorem rest_ub : ∀ m : Fin 97, (k0_t2_loop (BitVec.ofNat 32 (512 * m.val))).ub = 96#32 := by decide +kernel
theorem tail_trips' : ∀ m : Fin 97, Scf.trips (BitVec.ofNat 32 m.val) 96#32 1#32 = 96 - m.val := by decide +kernel

/-- The loop over the blocks past the last expert's. -/
theorem tail_loop {v : BitVec 32} {m : ℕ} (hm : m ≤ 96) (hv : v = BitVec.ofNat 32 (512 * m)) :
    k0_t1_loop v = ⟨BitVec.ofNat 32 m, 96#32, 1#32⟩ := by
  subst hv
  have h1 := tail_lb ⟨m, by omega⟩
  have h2 := tail_ub ⟨m, by omega⟩
  exact congrArg₂ (fun a b => (⟨a, b, 1#32⟩ : Scf.Loop 32)) h1 h2

/-- The remainder loop has no trips. -/
theorem rest_loop {v : BitVec 32} {m : ℕ} (hm : m ≤ 96) (hv : v = BitVec.ofNat 32 (512 * m)) :
    k0_t2_loop v = ⟨96#32, 96#32, 1#32⟩ := by
  subst hv
  have h1 := rest_lb ⟨m, by omega⟩
  have h2 := rest_ub ⟨m, by omega⟩
  exact congrArg₂ (fun a b => (⟨a, b, 1#32⟩ : Scf.Loop 32)) h1 h2

theorem tail_trips {v : BitVec 32} {m : ℕ} (hm : m ≤ 96) (hv : v = BitVec.ofNat 32 (512 * m)) : (k0_t1_loop v).trips = 96 - m := by
  rw [tail_loop hm hv]; exact tail_trips' ⟨m, by omega⟩
theorem rest_trips {v : BitVec 32} {m : ℕ} (hm : m ≤ 96) (hv : v = BitVec.ofNat 32 (512 * m)) : (k0_t2_loop v).trips = 0 := by
  rw [rest_loop hm hv]; decide

theorem tail_ok {v : BitVec 32} {m : ℕ} (hm : m ≤ 96) (hv : v = BitVec.ofNat 32 (512 * m)) : (k0_t1_loop v).OK := by
  rw [tail_loop hm hv]
  have : ∀ m : Fin 97, (⟨BitVec.ofNat 32 m.val, 96#32, 1#32⟩ : Scf.Loop 32).OK := by decide +kernel
  exact this ⟨m, by omega⟩
theorem rest_ok {v : BitVec 32} {m : ℕ} (hm : m ≤ 96) (hv : v = BitVec.ofNat 32 (512 * m)) : (k0_t2_loop v).OK := by
  rw [rest_loop hm hv]; decide

/-- Where the loop's trip `k` puts its block. -/
theorem tail_word {v : BitVec 32} {m : ℕ} (hm : m ≤ 96) (hv : v = BitVec.ofNat 32 (512 * m)) (k : ℕ) (hk : k < 96 - m) :
    (Scf.iv (k0_t1_loop v).lb 1#32 k * 512#32).toNat = 512 * (m + k) := by
  rw [tail_loop hm hv]
  simp only [Scf.iv, BitVec.toNat_add, BitVec.toNat_mul, BitVec.toNat_ofNat]
  omega

theorem tail_off {v : BitVec 32} {m : ℕ} (hm : m ≤ 96) (hv : v = BitVec.ofNat 32 (512 * m)) (k : Fin (k0_t1_loop v).trips) :
    k0_off33 v k = ![512 * (m + k.val), 0] := by
  have hk : k.val < 96 - m := tail_trips hm hv ▸ k.isLt
  show ![(Scf.iv (k0_t1_loop v).lb 1#32 k.val * 512#32).toNat, 0] = _
  rw [tail_word hm hv k.val hk]
theorem tail_mult {v : BitVec 32} {m : ℕ} (hm : m ≤ 96) (hv : v = BitVec.ofNat 32 (512 * m)) (k : Fin (k0_t1_loop v).trips) :
    512 ∣ (k0_mult33 v k).toNat := by
  have hk : k.val < 96 - m := tail_trips hm hv ▸ k.isLt
  show 512 ∣ (Scf.iv (k0_t1_loop v).lb 1#32 k.val * 512#32).toNat
  rw [tail_word hm hv k.val hk]
  exact ⟨_, rfl⟩

theorem chk_tail (i : grid0.Coords) {v : BitVec 32} {m : ℕ} (hm : m ≤ 96) (hv : v = BitVec.ofNat 32 (512 * m)) : k0_chk33 i v := by
  have hno : ∀ k : Fin (k0_t2_loop v).trips, False := fun k => Nat.not_lt_zero _ (lt_of_lt_of_eq k.isLt (rest_trips hm hv))
  refine ⟨fun _ => tail_ok hm hv, fun k _ => tail_mult hm hv k, fun k _ => ?_, fun _ => rest_ok hm hv, fun k => (hno k).elim, fun k => (hno k).elim⟩
  have hk : k.val < 96 - m := tail_trips hm hv ▸ k.isLt
  rw [tail_off hm hv k]
  exact block_inb _ (by omega)
theorem chk_tail' (i : grid0.Coords) {v : BitVec 32} {m : ℕ} (hm : m ≤ 96) (hv : v = BitVec.ofNat 32 (512 * m)) : k0_chk66 i v :=
  chk_tail i hm hv

/-- A loop at the head of a program, by an invariant that ignores what the loop carries. -/
theorem loop_bind (c : Dev nD) {α : Type} {Q : α → sProp 𝕄} {l : Scf.Loop 32} {hok : l.OK}
    {body : Fin l.trips → PUnit → Prog (TpuEff nD τ sig (Elt F) Λ₀ (c : Thread nD τ).2) PUnit} {kk : PUnit → Prog (TpuEff nD τ sig (Elt F) Λ₀ (c : Thread nD τ).2) α}
    (I : ℕ → sProp 𝕄) (n : ℕ) (hn : l.trips = n)
    (hbody : ∀ k acc, I k.val ⊢ wp frame (wpE defs₀ Variants.none (c : Thread nD τ) none) Set.univ (body k acc) (fun _ => I (k.val + 1)))
    (hk : I n ⊢ wp frame (wpE defs₀ Variants.none (c : Thread nD τ) none) Set.univ (kk ⟨⟩) Q) :
    I 0 ⊢ wp frame (wpE defs₀ Variants.none (c : Thread nD τ) none) Set.univ (Scf.Loop.for l hok ⟨⟩ body >>= kk) Q := by
  subst hn
  have := Scf.wp_for_bind frame (wpE defs₀ Variants.none (c : Thread nD τ) none) Set.univ l.lb l.ub l.st hok (⟨⟩ : PUnit) body (fun k _ => I k) hbody (kk := kk) (Q := Q)
  iintro HI
  iapply this $$ HI
  iintro %acc HI
  iapply hk
  iexact HI

section Point

variable (c : Dev nD) (i : grid0.Coords) (tb : S33.Idx → Elt F .i32) (q : PosShare TreeShare) (m : ℕ) (zs : ℕ → ℕ) (f : OutC F)
variable (st : Memref sig .tc .vmem S1024x1024 .f32) (hst : st.IsWhole) (h1 : k0_cond1 i = 1#1)
variable (H : ZeroFacts tb m zs)

theorem done_pure {α : Type} {Q : α → sProp 𝕄} {P : sProp 𝕄} {x : α} (h : P ⊢ Q x) :
    P ⊢ wp frame (wpE defs₀ Variants.none (c : Thread nD τ) none) Set.univ (pure x : Prog (TpuEff nD τ sig (Elt F) Λ₀ (c : Thread nD τ).2) α) Q := by
  rw [wp_pure]; exact h.trans BI.fupd_intro

/-- An update in front of a program. -/
theorem update_first {α : Type} {Q : α → sProp 𝕄} {P P' : sProp 𝕄} {e : Prog (TpuEff nD τ sig (Elt F) Λ₀ (c : Thread nD τ).2) α} (h : P ⊢ (|={Set.univ}=> P' : sProp 𝕄))
    (hk : P' ⊢ wp frame (wpE defs₀ Variants.none (c : Thread nD τ) none) Set.univ e Q) : P ⊢ wp frame (wpE defs₀ Variants.none (c : Thread nD τ) none) Set.univ e Q := by
  iintro HP
  imod h $$ HP with HP
  iapply hk
  iexact HP

/-- The whole scratch read and written over. -/
theorem fill_scratch {α : Type} {Q : α → sProp 𝕄} {R : sProp 𝕄} {g : S512x1024.Idx → Elt F .f32}
    {hin : ∀ a, (![0, 0] : Fin 2 → ℕ) a + S512x1024.size a ≤ S512x1024.size a} {hl hx hm} {w : S512x1024.Idx → Elt F .f32}
    {kk : PUnit → Prog (TpuEff nD τ sig (Elt F) Λ₀ (c : Thread nD τ).2) α}
    (hk : iprop((scM.view.loc (c : Thread nD τ) ↦{fullShare} w) ∗ R) ⊢ wp frame (wpE defs₀ Variants.none (c : Thread nD τ) none) Set.univ (kk ⟨⟩) Q) :
    (iprop((scM.view.loc (c : Thread nD τ) ↦{fullShare} g) ∗ R) : sProp 𝕄)
    ⊢ wp frame (wpE defs₀ Variants.none (c : Thread nD τ) none) Set.univ
      (Prog.lift (.load scM (Rect.unit (s := S512x1024) ![0, 0] S512x1024.size hin).toLoadRect hl) >>= fun _ =>
        Prog.lift (.store scM (Rect.unit (s := S512x1024) ![0, 0] S512x1024.size hin) w Finset.univ hx hm) >>= kk) Q := by
  have hz : (![0, 0] : Fin 2 → ℕ) = fun _ => 0 := by funext a; fin_cases a <;> rfl
  have hw := Memref.write_access_unit_zero_univ (Elt F) cc0_scratch0 hz hin g w
  rw [wp_bind]
  iintro ⟨HS, HR⟩
  iapply (wp_load Variants.none (c : Thread nD τ) none Set.univ (m := scM) (f := g) (q := fullShare) (k := .ret) (Finset.subset_univ _)) $$ HS
  iintro HS
  rw [wp_ret]
  imodintro
  rw [wp_bind]
  iapply (wp_store Variants.none (c : Thread nD τ) none Set.univ (m := scM) (r := Rect.unit (s := S512x1024) ![0, 0] S512x1024.size hin) (f := g) (k := .ret) (Finset.subset_univ _)) $$ HS
  iintro HS
  rw [wp_ret]
  imodintro
  iapply hk
  isplitl [HS]
  · iapply (show ((scM.view.loc (c : Thread nD τ) ↦{fullShare} ((scM.access (Rect.unit (s := S512x1024) ![0, 0] S512x1024.size hin)).write (Elt F) g w Finset.univ) : sProp 𝕄)
        ⊢ (scM.view.loc (c : Thread nD τ) ↦{fullShare} w)) from Entails.of_eq (congrArg (fun x => (scM.view.loc (c : Thread nD τ) ↦{fullShare} x : sProp 𝕄)) hw))
    iexact HS
  iexact HR

/-- What the phase starts from and ends with: the second table, the scratch, the output at some contents, the phase's
    semaphore at zero, and whatever else is held. -/
abbrev AtRest (R : sProp 𝕄) (f : OutC F) : sProp 𝕄 :=
  iprop((tbM1.view.loc (c : Thread nD τ) ↦{q} tb) ∗ (∃ g, scM.view.loc (c : Thread nD τ) ↦{fullShare} g) ∗ (outM.view.loc (c : Thread nD τ) ↦{fullShare} f)
      ∗ semVal ((c : Thread nD τ), .dma cc0_scratch2.sem) 0 ∗ (∃ W, owes (c : Thread nD τ) 0 W) ∗ R)

/-- The scratch zeroed, and the first copies started. -/
theorem part1_spec (R : sProp 𝕄) {Q : (Σ' (_ : Elt F .i32), BitVec 1) → sProp 𝕄} (hk : ∀ w, Issuing c tb q m zs f H R (cnt tb 6) ⊢ Q ⟨zw (F := F) tb 6, w⟩) :
    AtRest c tb q R f
    ⊢ wp frame (wpE defs₀ Variants.none (c : Thread nD τ) none) Set.univ
     (k0_part1 (F := F) i tbM0 (Memref.isWhole_whole _) tbM1 (Memref.isWhole_whole _) st hst outM (Memref.isWhole_whole _) scM (Memref.isWhole_whole _) cc0_scratch1 cc0_scratch2 h1) Q := by
  have key : ∀ g : S512x1024.Idx → Elt F .f32, iprop((scM.view.loc (c : Thread nD τ) ↦{fullShare} g) ∗ (tbM1.view.loc (c : Thread nD τ) ↦{q} tb) ∗ (outM.view.loc (c : Thread nD τ) ↦{fullShare} f)
      ∗ semVal ((c : Thread nD τ), .dma cc0_scratch2.sem) 0 ∗ (∃ W, owes (c : Thread nD τ) 0 W) ∗ R) ⊢ wp frame (wpE defs₀ Variants.none (c : Thread nD τ) none) Set.univ
     (k0_part1 (F := F) i tbM0 (Memref.isWhole_whole _) tbM1 (Memref.isWhole_whole _) st hst outM (Memref.isWhole_whole _) scM (Memref.isWhole_whole _) cc0_scratch1 cc0_scratch2 h1) Q := by
    intro g
    unfold k0_part1
    refine fill_scratch c (w := zeros) ?_
    refine update_first c (P' := Issuing c tb q m zs f H R (cnt tb 0)) ?_ ?_
    · iintro ⟨HS, HT, HO, HV, HW, HR⟩
      imod ((zeroCopies c tb m zs f H).start (U := Pipeline.UD sig nD τ) c (.dma cc0_scratch2.sem) zeroN) $$ [HS HO HV] with HP
      · isplitl [HO]; · iexact HO
        isplitl [HS]; · iexact HS
        iexact HV
      imodintro
      isplitl [HT]; · iexact HT
      isplitl [HP]; · iexact HP
      isplitl [HW]; · iexact HW
      iexact HR
    iterate 6
      refine load_zw c tb q _ (by decide) ?_
      refine issue_turn c tb q m zs f H R _ (by decide) Iff.rfl (fun _ => rfl) (fun h => ⟨fun _ _ => h.1, fun _ _ => h.2⟩) ?_
    refine load_zw c tb q 6 (by decide) ?_
    exact done_pure c (hk _)
  iintro ⟨HT, ⟨%g, HS⟩, HO, HV, HW, HR⟩
  iapply (key g)
  isplitl [HS]; · iexact HS
  isplitl [HT]; · iexact HT
  isplitl [HO]; · iexact HO
  isplitl [HV]; · iexact HV
  isplitl [HW]; · iexact HW
  iexact HR

theorem part2_spec (R : sProp 𝕄) {Q : PUnit → sProp 𝕄} {w : BitVec 1} (hk : Issuing c tb q m zs f H R (cnt tb 14) ⊢ Q ⟨⟩) :
    Issuing c tb q m zs f H R (cnt tb 6) ⊢ wp frame (wpE defs₀ Variants.none (c : Thread nD τ) none) Set.univ
     (k0_part2 (F := F) i tbM0 (Memref.isWhole_whole _) tbM1 (Memref.isWhole_whole _) st hst outM (Memref.isWhole_whole _) scM (Memref.isWhole_whole _) cc0_scratch1 cc0_scratch2 h1 (zw (F := F) tb 6) w) Q := by
  unfold k0_part2
  refine issue_turn c tb q m zs f H R 6 (by decide) Iff.rfl (fun _ => rfl) (fun h => ⟨fun _ _ => h.1, fun _ _ => h.2⟩) ?_
  iterate 7
    refine load_zw c tb q _ (by decide) ?_
    refine issue_turn c tb q m zs f H R _ (by decide) Iff.rfl (fun _ => rfl) (fun h => ⟨fun _ _ => h.1, fun _ _ => h.2⟩) ?_
  exact done_pure c hk

theorem part3_spec (R : sProp 𝕄) {Q : (Σ' (_ : Elt F .i32), BitVec 1) → sProp 𝕄} (hk : ∀ w, Issuing c tb q m zs f H R (cnt tb 21) ⊢ Q ⟨zw (F := F) tb 21, w⟩) :
    Issuing c tb q m zs f H R (cnt tb 14) ⊢ wp frame (wpE defs₀ Variants.none (c : Thread nD τ) none) Set.univ
     (k0_part3 (F := F) i tbM0 (Memref.isWhole_whole _) tbM1 (Memref.isWhole_whole _) st hst outM (Memref.isWhole_whole _) scM (Memref.isWhole_whole _) cc0_scratch1 cc0_scratch2 h1) Q := by
  unfold k0_part3
  iterate 7
    refine load_zw c tb q _ (by decide) ?_
    refine issue_turn c tb q m zs f H R _ (by decide) Iff.rfl (fun _ => rfl) (fun h => ⟨fun _ _ => h.1, fun _ _ => h.2⟩) ?_
  refine load_zw c tb q 21 (by decide) ?_
  exact done_pure c (hk _)

theorem part4_spec (R : sProp 𝕄) {Q : PUnit → sProp 𝕄} {w : BitVec 1} (hk : Issuing c tb q m zs f H R (cnt tb 29) ⊢ Q ⟨⟩) :
    Issuing c tb q m zs f H R (cnt tb 21) ⊢ wp frame (wpE defs₀ Variants.none (c : Thread nD τ) none) Set.univ
     (k0_part4 (F := F) i tbM0 (Memref.isWhole_whole _) tbM1 (Memref.isWhole_whole _) st hst outM (Memref.isWhole_whole _) scM (Memref.isWhole_whole _) cc0_scratch1 cc0_scratch2 h1 (zw (F := F) tb 21) w) Q := by
  unfold k0_part4
  refine issue_turn c tb q m zs f H R 21 (by decide) Iff.rfl (fun _ => rfl) (fun h => ⟨fun _ _ => h.1, fun _ _ => h.2⟩) ?_
  iterate 7
    refine load_zw c tb q _ (by decide) ?_
    refine issue_turn c tb q m zs f H R _ (by decide) Iff.rfl (fun _ => rfl) (fun h => ⟨fun _ _ => h.1, fun _ _ => h.2⟩) ?_
  exact done_pure c hk

theorem part5_spec (R : sProp 𝕄) {Q : (Σ' (v : Elt F .i32) (_ : k0_chk33 i v) (_ : BitVec 32) (_ : BitVec 32), BitVec 32) → sProp 𝕄}
    (hk : ∀ hw a b d, Issuing c tb q m zs f H R (cnt tb 32) ⊢ Q ⟨zw (F := F) tb 32, hw, a, b, d⟩) :
    Issuing c tb q m zs f H R (cnt tb 29) ⊢ wp frame (wpE defs₀ Variants.none (c : Thread nD τ) none) Set.univ
     (k0_part5 (F := F) i tbM0 (Memref.isWhole_whole _) tbM1 (Memref.isWhole_whole _) st hst outM (Memref.isWhole_whole _) scM (Memref.isWhole_whole _) cc0_scratch1 cc0_scratch2 h1) Q := by
  unfold k0_part5
  iterate 3
    refine load_zw c tb q _ (by decide) ?_
    refine issue_turn c tb q m zs f H R _ (by decide) Iff.rfl (fun _ => rfl) (fun h => ⟨fun _ _ => h.1, fun _ _ => h.2⟩) ?_
  refine load_zw c tb q 32 (by decide) ?_
  refine assume_zw c (chk_tail i H.le H.last) ?_
  exact done_pure c (hk _ _ _ _)

theorem part6_spec (R : sProp 𝕄) {Q : PUnit → sProp 𝕄} {hw : k0_chk33 i (zw (F := F) tb 32)} {a b d : BitVec 32} (hk : Waiting c tb q m zs f H R (cnt tb 7) ⊢ Q ⟨⟩) :
    Issuing c tb q m zs f H R (cnt tb 32) ⊢ wp frame (wpE defs₀ Variants.none (c : Thread nD τ) none) Set.univ
     (k0_part6 (F := F) i tbM0 (Memref.isWhole_whole _) tbM1 (Memref.isWhole_whole _) st hst outM (Memref.isWhole_whole _) scM (Memref.isWhole_whole _) cc0_scratch1 cc0_scratch2 h1 (zw (F := F) tb 32) hw a b d) Q := by
  unfold k0_part6
  refine loop_bind c (fun j => Issuing c tb q m zs f H R (cnt tb 32 + j)) (96 - m) (tail_trips H.le H.last) (fun k _ => ?_) ?_
  · have hk : k.val < 96 - m := tail_trips H.le H.last ▸ k.isLt
    refine issue_zero c tb q m zs f H R _ (by show _ < cnt tb 32 + (96 - m); omega) ?_ ?_
    · rw [H.tail k.val hk]; exact tail_off H.le H.last k
    · exact done_pure c Entails.rfl
  refine loop_bind c (fun _ => Issuing c tb q m zs f H R (cnt tb 32 + (96 - m))) 0 (rest_trips H.le H.last) (fun k _ => ?_) ?_
  · exact (Nat.not_lt_zero _ (lt_of_lt_of_eq k.isLt (rest_trips H.le H.last))).elim
  show Issuing c tb q m zs f H R (zn tb m) ⊢ _
  have e0 : Issuing c tb q m zs f H R (zn tb m) = Waiting c tb q m zs f H R (cnt tb 0) := by
    show iprop(_ ∗ zeroPend c tb m zs f H (zn tb m) 0 ∗ _) = iprop(_ ∗ zeroPend c tb m zs f H (zn tb m) (0 * zeroN) ∗ _)
    rw [Nat.zero_mul]
  rw [e0]
  iterate 7
    refine load_zw c tb q _ (by decide) ?_
    refine wait_turn c tb q m zs f H R _ (by decide) Iff.rfl (fun h => ⟨fun _ _ => h.1, fun _ _ => h.2⟩) ?_
  exact done_pure c hk

theorem part7_spec (R : sProp 𝕄) {Q : (Σ' (_ : Elt F .i32), BitVec 32) → sProp 𝕄} (hk : ∀ w, Waiting c tb q m zs f H R (cnt tb 14) ⊢ Q ⟨zw (F := F) tb 14, w⟩) :
    Waiting c tb q m zs f H R (cnt tb 7) ⊢ wp frame (wpE defs₀ Variants.none (c : Thread nD τ) none) Set.univ
     (k0_part7 (F := F) i tbM0 (Memref.isWhole_whole _) tbM1 (Memref.isWhole_whole _) st hst outM (Memref.isWhole_whole _) scM (Memref.isWhole_whole _) cc0_scratch1 cc0_scratch2 h1) Q := by
  unfold k0_part7
  iterate 7
    refine load_zw c tb q _ (by decide) ?_
    refine wait_turn c tb q m zs f H R _ (by decide) Iff.rfl (fun h => ⟨fun _ _ => h.1, fun _ _ => h.2⟩) ?_
  refine load_zw c tb q 14 (by decide) ?_
  exact done_pure c (hk _)

theorem part8_spec (R : sProp 𝕄) {Q : PUnit → sProp 𝕄} {w : BitVec 32} (hk : Waiting c tb q m zs f H R (cnt tb 22) ⊢ Q ⟨⟩) :
    Waiting c tb q m zs f H R (cnt tb 14) ⊢ wp frame (wpE defs₀ Variants.none (c : Thread nD τ) none) Set.univ
     (k0_part8 (F := F) i tbM0 (Memref.isWhole_whole _) tbM1 (Memref.isWhole_whole _) st hst outM (Memref.isWhole_whole _) scM (Memref.isWhole_whole _) cc0_scratch1 cc0_scratch2 h1 (zw (F := F) tb 14) w) Q := by
  unfold k0_part8
  refine wait_turn c tb q m zs f H R 14 (by decide) Iff.rfl (fun h => ⟨fun _ _ => h.1, fun _ _ => h.2⟩) ?_
  iterate 7
    refine load_zw c tb q _ (by decide) ?_
    refine wait_turn c tb q m zs f H R _ (by decide) Iff.rfl (fun h => ⟨fun _ _ => h.1, fun _ _ => h.2⟩) ?_
  exact done_pure c hk

theorem part9_spec (R : sProp 𝕄) {Q : (Σ' (_ : Elt F .i32), BitVec 32) → sProp 𝕄} (hk : ∀ w, Waiting c tb q m zs f H R (cnt tb 29) ⊢ Q ⟨zw (F := F) tb 29, w⟩) :
    Waiting c tb q m zs f H R (cnt tb 22) ⊢ wp frame (wpE defs₀ Variants.none (c : Thread nD τ) none) Set.univ
     (k0_part9 (F := F) i tbM0 (Memref.isWhole_whole _) tbM1 (Memref.isWhole_whole _) st hst outM (Memref.isWhole_whole _) scM (Memref.isWhole_whole _) cc0_scratch1 cc0_scratch2 h1) Q := by
  unfold k0_part9
  iterate 7
    refine load_zw c tb q _ (by decide) ?_
    refine wait_turn c tb q m zs f H R _ (by decide) Iff.rfl (fun h => ⟨fun _ _ => h.1, fun _ _ => h.2⟩) ?_
  refine load_zw c tb q 29 (by decide) ?_
  exact done_pure c (hk _)

/-- The whole of the first part: every copy started, the experts' waited for. -/
theorem part10_spec (R : sProp 𝕄) {Q : (Σ' (v : Elt F .i32) (_ : k0_chk66 i v) (_ : BitVec 32) (_ : BitVec 32), BitVec 32) → sProp 𝕄}
    (hk : ∀ hw a b d, Waiting c tb q m zs f H R (cnt tb 32) ⊢ Q ⟨zw (F := F) tb 32, hw, a, b, d⟩) :
    AtRest c tb q R f ⊢ wp frame (wpE defs₀ Variants.none (c : Thread nD τ) none) Set.univ
     (k0_part10 (F := F) i tbM0 (Memref.isWhole_whole _) tbM1 (Memref.isWhole_whole _) st hst outM (Memref.isWhole_whole _) scM (Memref.isWhole_whole _) cc0_scratch1 cc0_scratch2 h1) Q := by
  unfold k0_part10
  rw [wp_bind]
  refine part1_spec c i tb q m zs f st hst h1 H R fun w => ?_
  show _ ⊢ wp _ _ _ _ _
  rw [wp_bind]
  refine part2_spec c i tb q m zs f st hst h1 H R ?_
  rw [wp_bind]
  refine part3_spec c i tb q m zs f st hst h1 H R fun w => ?_
  show _ ⊢ wp _ _ _ _ _
  rw [wp_bind]
  refine part4_spec c i tb q m zs f st hst h1 H R ?_
  rw [wp_bind]
  refine part5_spec c i tb q m zs f st hst h1 H R fun hw a b d => ?_
  show _ ⊢ wp _ _ _ _ _
  rw [wp_bind]
  refine part6_spec c i tb q m zs f st hst h1 H R ?_
  rw [wp_bind]
  refine part7_spec c i tb q m zs f st hst h1 H R fun w => ?_
  show _ ⊢ wp _ _ _ _ _
  rw [wp_bind]
  refine part8_spec c i tb q m zs f st hst h1 H R ?_
  rw [wp_bind]
  refine part9_spec c i tb q m zs f st hst h1 H R fun w => ?_
  show _ ⊢ wp _ _ _ _ _
  refine wait_turn c tb q m zs f H R 29 (by decide) Iff.rfl (fun h => ⟨fun _ _ => h.1, fun _ _ => h.2⟩) ?_
  iterate 2
    refine load_zw c tb q _ (by decide) ?_
    refine wait_turn c tb q m zs f H R _ (by decide) Iff.rfl (fun h => ⟨fun _ _ => h.1, fun _ _ => h.2⟩) ?_
  refine load_zw c tb q 32 (by decide) ?_
  refine assume_zw c (chk_tail' i H.le H.last) ?_
  exact done_pure c (hk _ _ _ _)

/-- The phase's end: every block waited for, the output zeroed where it is to be. -/
theorem waited (R : sProp 𝕄) : Waiting c tb q m zs f H R (zn tb m) ⊢ (|={Set.univ}=> AtRest c tb q R (zeroed f (zn tb m) zs) : sProp 𝕄) := by
  have hf : zeroPend c tb m zs f H (zn tb m) (zn tb m * zeroN) ⊢ iprop(|={Set.univ}=> ((outM.view.loc (c : Thread nD τ) ↦{fullShare} (zeroed f (zn tb m) zs))
      ∗ (scM.view.loc (c : Thread nD τ) ↦{fullShare} zeros) ∗ semVal ((c : Thread nD τ), .dma cc0_scratch2.sem) 0)) :=
    (zeroCopies c tb m zs f H).finish (U := Pipeline.UD sig nD τ) c (.dma cc0_scratch2.sem) (N := zeroN) (by decide)
  iintro ⟨HT, HP, HW, HR⟩
  imod hf $$ HP with ⟨HO, HS, HV⟩
  imodintro
  isplitl [HT]; · iexact HT
  isplitl [HS]; · iexists zeros; iexact HS
  isplitl [HO]; · iexact HO
  isplitl [HV]; · iexact HV
  isplitl [HW]; · iexact HW
  iexact HR

end Point

end Cert.KernelIdeal.Dispatched

end
-- ==== Proof.Point.lean ====
/-
  One run of the body: at the first point the output is zeroed where it is to be; at every point the point's rows are
  placed.
-/
module

public import proofs.«01_k».proof.Proof.Phase

@[expose] public section

noncomputable section

namespace Cert.KernelIdeal.Dispatched

open Idealize.ShloMosaic Idealize.ShloMosaic.TcCoe Idealize.ShloMosaic.Tactic
open Idealize.SL Idealize.SL.RA
open Idealize.SL.BI (sProp bigSep)
open scoped Idealize.SL.BI
open Idealize.SL.BI.BIBase Idealize.SL.BI.Laws Idealize.SL.ProofMode Idealize.SL.Sem
open Dispatch Cert.KernelIdeal.Gen

variable {F : FTy → Type} [FloatOps F]

local notation "𝕄" => MT nD τ sig Unit (Elt F) ℕ (Idealize.ShloMosaic.Pipeline.UD sig nD τ) ℕ

section Point

variable (c : Dev nD) (i : grid0.Coords) (tb0 : S32768.Idx → Elt F .i32) (tb : S33.Idx → Elt F .i32) (q : PosShare TreeShare) (m : ℕ) (zs : ℕ → ℕ) (f g : OutC F)
variable (st : Memref sig .tc .vmem S1024x1024 .f32) (hst : st.IsWhole)
variable (fs : Buf (Elt F) (st.view.loc (c : Thread nD τ))) (X : S1024x1024.Idx → Elt F .f32)

/-- What the body holds besides the second table, the scratch, the output and the first phase's semaphore. -/
abbrev RowSide : sProp 𝕄 :=
  iprop((tbM0.view.loc (c : Thread nD τ) ↦{q} tb0) ∗ (st.view.loc (c : Thread nD τ) ↦[st.view.set]{fullShare} fs)
    ∗ semVal ((c : Thread nD τ), .dma cc0_scratch1.sem) 0)

/-- What the body holds, the output at `f`. -/
abbrev Held (f : OutC F) : sProp 𝕄 := AtRest c tb q (RowSide c tb0 q st fs) f

/-- What the rows leave alone. -/
abbrev ZeroSide : sProp 𝕄 :=
  iprop((tbM1.view.loc (c : Thread nD τ) ↦{q} tb) ∗ (∃ g, scM.view.loc (c : Thread nD τ) ↦{fullShare} g) ∗ semVal ((c : Thread nD τ), .dma cc0_scratch2.sem) 0)

/-- The point's rows at the head of a program. -/
theorem rows_run {α : Type} {Q : α → sProp 𝕄} (H : RowFacts tb0 (i 0).val f g X) (hX : st.view.read (Elt F) fs = X)
    {kk : Prog (TpuEff nD τ sig (Elt F) Λ₀ (c : Thread nD τ).2) α}
    (hk : Held c tb0 tb q st fs g ⊢ wp frame (wpE defs₀ Variants.none (c : Thread nD τ) none) Set.univ kk Q) :
    Held c tb0 tb q st fs f ⊢ wp frame (wpE defs₀ Variants.none (c : Thread nD τ) none) Set.univ
      (Scf.Loop.for k0_t5_loop k0_t5_ok ⟨⟩ (k0_t5_body (F := F) i tbM0 (Memref.isWhole_whole _) tbM1 (Memref.isWhole_whole _) st hst outM (Memref.isWhole_whole _) scM (Memref.isWhole_whole _) cc0_scratch1 cc0_scratch2) >>= fun _ =>
        Scf.Loop.for k0_t6_loop k0_t6_ok ⟨⟩ (k0_t6_body (F := F) i tbM0 (Memref.isWhole_whole _) tbM1 (Memref.isWhole_whole _) st hst outM (Memref.isWhole_whole _) scM (Memref.isWhole_whole _) cc0_scratch1 cc0_scratch2) >>= fun _ => kk) Q := by
  have hs : iprop((outM.view.loc (c : Thread nD τ) ↦{fullShare} f) ∗ (st.view.loc (c : Thread nD τ) ↦[st.view.set]{fullShare} fs) ∗ semVal ((c : Thread nD τ), .dma cc0_scratch1.sem) 0)
      ⊢ (|={Set.univ}=> rowPend c st i tb0 f g fs X H 0 0 : sProp 𝕄) :=
    (RowC c st i tb0 f g fs X H).start (U := Pipeline.UD sig nD τ) c (.dma cc0_scratch1.sem) rowN
  have he : rowPend c st i tb0 f g fs X H 2048 (2048 * rowN)
      ⊢ (|={Set.univ}=> iprop((outM.view.loc (c : Thread nD τ) ↦{fullShare} g) ∗ (st.view.loc (c : Thread nD τ) ↦[st.view.set]{fullShare} fs) ∗ semVal ((c : Thread nD τ), .dma cc0_scratch1.sem) 0) : sProp 𝕄) :=
    (RowC c st i tb0 f g fs X H).finish (U := Pipeline.UD sig nD τ) c (.dma cc0_scratch1.sem) (N := rowN) (by decide)
  refine update_first c (P' := iprop(((tbM0.view.loc (c : Thread nD τ) ↦{q} tb0) ∗ rowPend c st i tb0 f g fs X H (2 * 0) 0) ∗ (∃ W, owes (c : Thread nD τ) 0 W) ∗ ZeroSide c tb q)) ?_ ?_
  · iintro ⟨HT, HS, HO, HV, HW, HT0, Hst, HV1⟩
    imod hs $$ [HO Hst HV1] with HP
    · isplitl [HO]; · iexact HO
      isplitl [Hst]; · iexact Hst
      iexact HV1
    imodintro
    isplitl [HT0 HP]
    · isplitl [HT0]; · iexact HT0
      iexact HP
    isplitl [HW]; · iexact HW
    isplitl [HT]; · iexact HT
    isplitl [HS]; · iexact HS
    iexact HV
  refine loop_bind c (fun k => iprop(((tbM0.view.loc (c : Thread nD τ) ↦{q} tb0) ∗ rowPend c st i tb0 f g fs X H (2 * k) 0) ∗ (∃ W, owes (c : Thread nD τ) 0 W) ∗ ZeroSide c tb q)) 1024 trips5 (fun k acc => ?_) ?_
  · exact (BI.sep_mono (t5_step c st hst i tb0 f g fs X H hX q k acc) (BI.Entails.refl _)).trans (wp_frame_r frame _ _)
  refine Entails.trans (Q := iprop(((tbM0.view.loc (c : Thread nD τ) ↦{q} tb0) ∗ rowPend c st i tb0 f g fs X H 2048 (2 * 0 * rowN) ∗ (∃ W, owes (c : Thread nD τ) 0 W)) ∗ ZeroSide c tb q)) ?_ ?_
  · rw [show 2 * 0 * rowN = 0 by simp]
    iintro ⟨⟨HT0, HP⟩, HW, HR⟩
    isplitl [HT0 HP HW]
    · isplitl [HT0]; · iexact HT0
      isplitl [HP]; · iexact HP
      iexact HW
    iexact HR
  refine loop_bind c (fun k => iprop(((tbM0.view.loc (c : Thread nD τ) ↦{q} tb0) ∗ rowPend c st i tb0 f g fs X H 2048 (2 * k * rowN) ∗ (∃ W, owes (c : Thread nD τ) 0 W)) ∗ ZeroSide c tb q)) 1024 trips6 (fun k acc => ?_) ?_
  · exact (BI.sep_mono (t6_step c st hst i tb0 f g fs X H q k acc) (BI.Entails.refl _)).trans (wp_frame_r frame _ _)
  refine update_first c (P' := Held c tb0 tb q st fs g) ?_ hk
  iintro ⟨⟨HT0, HP, HW⟩, HT, HS, HV⟩
  imod he $$ HP with ⟨HO, Hst, HV1⟩
  imodintro
  isplitl [HT]; · iexact HT
  isplitl [HS]; · iexact HS
  isplitl [HO]; · iexact HO
  isplitl [HV]; · iexact HV
  isplitl [HW]; · iexact HW
  isplitl [HT0]; · iexact HT0
  isplitl [Hst]; · iexact Hst
  iexact HV1

/-- The body at a point past the first. -/
theorem body_next (h1 : ¬ k0_cond1 i = 1#1) (H : RowFacts tb0 (i 0).val f g X) (hX : st.view.read (Elt F) fs = X) :
    Held c tb0 tb q st fs f ⊢ wp frame (wpE defs₀ Variants.none (c : Thread nD τ) none) Set.univ
      (cc0_dispatch (F := F) i tbM0 (Memref.isWhole_whole _) tbM1 (Memref.isWhole_whole _) st hst outM (Memref.isWhole_whole _) scM (Memref.isWhole_whole _) cc0_scratch1 cc0_scratch2)
      (fun _ => Held c tb0 tb q st fs g) := by
  rw [cc0_dispatch_eq_skeleton]
  unfold cc0_dispatch_skel
  rw [dif_neg h1]
  exact rows_run c i tb0 tb q f g st hst fs X H hX (done_pure c Entails.rfl)

/-- The body at the first point. -/
theorem body_first (h1 : k0_cond1 i = 1#1) (HZ : ZeroFacts tb m zs) (H : RowFacts tb0 (i 0).val (zeroed f (zn tb m) zs) g X) (hX : st.view.read (Elt F) fs = X) :
    Held c tb0 tb q st fs f ⊢ wp frame (wpE defs₀ Variants.none (c : Thread nD τ) none) Set.univ
      (cc0_dispatch (F := F) i tbM0 (Memref.isWhole_whole _) tbM1 (Memref.isWhole_whole _) st hst outM (Memref.isWhole_whole _) scM (Memref.isWhole_whole _) cc0_scratch1 cc0_scratch2)
      (fun _ => Held c tb0 tb q st fs g) := by
  unfold cc0_dispatch
  simp only [dif_pos h1]
  rw [wp_bind]
  refine part10_spec c i tb q m zs f st hst h1 HZ (RowSide c tb0 q st fs) fun hw a b d => ?_
  show _ ⊢ wp _ _ _ _ _
  refine loop_bind c (fun j => Waiting c tb q m zs f HZ (RowSide c tb0 q st fs) (cnt tb 32 + j)) (96 - m) (tail_trips HZ.le HZ.last) (fun k _ => ?_) ?_
  · have hk : k.val < 96 - m := lt_of_lt_of_eq k.isLt (tail_trips HZ.le HZ.last)
    refine wait_zero c tb q m zs f HZ (RowSide c tb0 q st fs) _ (by show _ < cnt tb 32 + (96 - m); omega) ?_
    exact done_pure c Entails.rfl
  refine loop_bind c (fun _ => Waiting c tb q m zs f HZ (RowSide c tb0 q st fs) (cnt tb 32 + (96 - m))) 0 (rest_trips HZ.le HZ.last) (fun k _ => ?_) ?_
  · exact (Nat.not_lt_zero _ (lt_of_lt_of_eq k.isLt (rest_trips HZ.le HZ.last))).elim
  refine update_first c (waited c tb q m zs f HZ (RowSide c tb0 q st fs)) ?_
  exact rows_run c i tb0 tb q _ g st hst fs X H hX (done_pure c Entails.rfl)

end Point

end Cert.KernelIdeal.Dispatched

end
-- ==== Proof.Place.lean ====
/-
  The output after so many assignments are placed, as a function of the table, the rows and what was there before.
-/
module

public import proofs.«01_k».proof.Proof.Zero
public import proofs.«01_k».proof.Proof.Gen.KernelIdeal.Launch

@[expose] public section

noncomputable section

namespace Cert.KernelIdeal.Dispatched

open Idealize.ShloMosaic Idealize.ShloMosaic.TcCoe
open Cert.KernelIdeal.Gen

variable {F : FTy → Type} [FloatOps F]

/-- What the tables must satisfy for the dispatch to run: the blocks to be zeroed, and the assignments' rows in range and
    distinct. -/
structure TableFacts (tb0 : S32768.Idx → Elt F .i32) (tb : S33.Idx → Elt F .i32) (mz : ℕ) (zs : ℕ → ℕ) : Prop where
  zero : ZeroFacts tb mz zs
  lt : ∀ r < 32768, (dw tb0 r).toNat < 49152
  inj : ∀ r s, r < 32768 → s < 32768 → (dw tb0 r).toNat = (dw tb0 s).toNat → r = s

open Classical in
/-- The output with the first `n` assignments placed over `f`: where an assignment goes, its token's row. -/
def placed (tb0 : S32768.Idx → Elt F .i32) (h : S16384x1024.Idx → Elt F .f32) (f : OutC F) (n : ℕ) : OutC F := fun y =>
  if H : ∃ r, r < n ∧ (dw tb0 r).toNat = (y 0).val then
    h (at2 ⟨H.choose / 2 % 16384, Nat.mod_lt _ (by decide)⟩ (y 1)) else f y

theorem placed_off (tb0 : S32768.Idx → Elt F .i32) (h : S16384x1024.Idx → Elt F .f32) (f : OutC F) (n : ℕ) (y : S49152x1024.Idx)
    (H : ∀ r < n, (dw tb0 r).toNat ≠ (y 0).val) : placed tb0 h f n y = f y := by
  unfold placed; rw [dif_neg]; rintro ⟨r, hr, e⟩; exact H r hr e

theorem placed_zero (tb0 : S32768.Idx → Elt F .i32) (h : S16384x1024.Idx → Elt F .f32) (f : OutC F) : placed tb0 h f 0 = f := by
  funext y; exact placed_off tb0 h f 0 y fun r hr => absurd hr (Nat.not_lt_zero r)

section
variable {tb0 : S32768.Idx → Elt F .i32} {tb : S33.Idx → Elt F .i32} {mz : ℕ} {zs : ℕ → ℕ} (T : TableFacts tb0 tb mz zs)
  (h : S16384x1024.Idx → Elt F .f32) (f : OutC F)

include T in
theorem placed_on (n : ℕ) (hn : n ≤ 32768) (y : S49152x1024.Idx) (r : ℕ) (hr : r < n) (e : (dw tb0 r).toNat = (y 0).val) :
    placed tb0 h f n y = h (at2 ⟨r / 2 % 16384, Nat.mod_lt _ (by decide)⟩ (y 1)) := by
  have H : ∃ r, r < n ∧ (dw tb0 r).toNat = (y 0).val := ⟨r, hr, e⟩
  have hc : H.choose = r := T.inj _ _ (by have := H.choose_spec.1; omega) (by omega) (H.choose_spec.2.trans e.symm)
  unfold placed; rw [dif_pos H]
  congr 2
  exact Fin.ext (by show H.choose / 2 % 16384 = _; rw [hc])

include T in
/-- One point's rows, over what the points before it placed. -/
theorem rowFacts (p : ℕ) (hp : p < 16) (X : S1024x1024.Idx → Elt F .f32)
    (hX : ∀ (a : Fin 1024) (b : Fin 1024), X (at2 a b) = h (at2 ⟨p * 1024 + a.val, by omega⟩ b)) :
    RowFacts tb0 p (placed tb0 h f (p * 2048)) (placed tb0 h f ((p + 1) * 2048)) X where
  lt j hj := T.lt _ (by omega)
  ne i j hi hj hij e := hij (by have := T.inj (p * 2048 + i) (p * 2048 + j) (by omega) (by omega) e; omega)
  on j hj y e := by
    rw [placed_on T h f _ (by omega) y (p * 2048 + j) (by omega) e.symm]
    refine Eq.trans ?_ (hX ⟨j / 2, by omega⟩ (y 1)).symm
    congr 2
    exact Fin.ext (by show (p * 2048 + j) / 2 % 16384 = p * 1024 + j / 2; omega)
  off y hy := by
    by_cases H : ∃ r, r < p * 2048 ∧ (dw tb0 r).toNat = (y 0).val
    · obtain ⟨r, hr, e⟩ := H
      rw [placed_on T h f _ (by omega) y r hr e, placed_on T h f _ (by omega) y r (by omega) e]
    · rw [placed_off tb0 h f _ y fun r hr e => H ⟨r, hr, e⟩, placed_off tb0 h f _ y fun r hr e => ?_]
      by_cases hr' : r < p * 2048
      · exact H ⟨r, hr', e⟩
      · exact hy (r - p * 2048) (by omega) (by show _ = (dw tb0 (p * 2048 + (r - p * 2048))).toNat; rw [show p * 2048 + (r - p * 2048) = r by omega]; exact e.symm)

end

end Cert.KernelIdeal.Dispatched

end
-- ==== Proof.Run.lean ====
/-
  The run of the dispatch: from tables that satisfy the facts, it ends with the output zeroed where it is to be and every
  assignment's row placed.
-/
module

public import proofs.«01_k».proof.Proof.Kit
public import proofs.«01_k».proof.Proof.Point
public import proofs.«01_k».proof.Proof.Place

@[expose] public section

noncomputable section

namespace Cert.KernelIdeal.Dispatched

open Idealize.ShloMosaic Idealize.ShloMosaic.TcCoe Idealize.ShloMosaic.Tactic
open Idealize.SL Idealize.SL.RA
open Idealize.SL.BI (sProp bigSep)
open scoped Idealize.SL.BI
open Idealize.SL.BI.BIBase Idealize.SL.BI.Laws Idealize.SL.ProofMode Idealize.SL.Sem
open Cert.KernelIdeal.Gen

variable {F : FTy → Type} [FloatOps F]

local notation "𝕄" => MT nD τ sig Unit (Elt F) ℕ (Idealize.ShloMosaic.Pipeline.UD sig nD τ) ℕ

variable (m : (ℓ : Loc nD τ sig) → Buf (Elt F) ℓ) (ρ : Dev nD → PrngReg) (mz : ℕ) (zs : ℕ → ℕ)

/-- The output zeroed. -/
abbrev base (c : Dev nD) : OutC F := zeroed (V m c main_v26) (zn (tb1 m) mz) zs

/-- The output before point `n`: as the launch found it, then zeroed with the points' rows placed. -/
def outAt (c : Dev nD) (n : ℕ) : OutC F :=
  if n = 0 then V m c main_v26 else placed (tb0 m) (V m c main_arg3) (base m mz zs c) (n * 2048)

/-- What the body carries from point to point. -/
def Inv (c : Dev nD) (n : ℕ) : sProp 𝕄 :=
  iprop((∃ g : Buf (Elt F) ((c : Thread nD τ).loc cc0_scratch0), ((c : Thread nD τ).loc cc0_scratch0) ↦{fullShare} g) ∗ (∃ r, prngReg c r)
    ∗ (semVal ((c : Thread nD τ), .dma cc0_scratch1.sem) 0 ∗ semVal ((c : Thread nD τ), .dma cc0_scratch2.sem) 0)
    ∗ (((c : Thread nD τ).loc main_v26) ↦{fullShare} outAt m mz zs c n)
    ∗ (tbM0.view.loc (c : Thread nD τ) ↦{fullShare.right} tb0 m) ∗ (tbM1.view.loc (c : Thread nD τ) ↦{fullShare.right} tb1 m))

/-- A point's window: its rows of the tokens. -/
def winAt (c : Dev nD) (t : Fin (cfgM m).N) : S1024x1024.Idx → Elt F .f32 :=
  (((cfgM m).win 0).blk t).view.read (Elt F) (V m c main_arg3)

/-- The run's data. -/
def dats (p : Fin 1) (c : Dev nD) : Pipeline.Dat τ (Elt F) Unit ℕ (Pipeline.UD sig nD τ) ℕ (Pipeline.pin (pcfgs (F := F)) (fun _ => adm m) p) c :=
  match p with
  | 0 => { A := fun w => V m c (Pipeline.arrRef spec0 w)
           after := fun | 0 => winAt m c | ⟨_ + 1, h⟩ => absurd h (Nat.not_lt.2 (Nat.le_add_left _ _))
           Φ := fun t => Inv m mz zs c t.val
           q := fun _ => fullShare
           owed := fun _ => 0 }
  | ⟨_ + 1, h⟩ => absurd h (Nat.not_lt.2 (Nat.le_add_left _ _))

theorem before_eq (c : Dev nD) (t : Fin (cfgM m).N) (d) : (dats m mz zs 0 c).before (0 : Fin 1) t d = winAt m c t :=
  (dats m mz zs 0 c).before_in_eq_fetched (0 : Fin 1) rfl (fun _ => rfl) (fun _ _ _ => rfl) (fun _ => rfl) t d

theorem coords_val (t : Fin grid0.N) : (grid0.coords t 0).val = t.val := by
  rcases fin_N0 t with h | h | h | h | h | h | h | h | h | h | h | h | h | h | h | h <;> subst h <;> decide

theorem t_lt (t : Fin grid0.N) : t.val < 16 := lt_of_lt_of_eq t.isLt N_0

/-- A point's window, element by element. -/
theorem winAt_at (c : Dev nD) (t : Fin (cfgM m).N) (p : ℕ) (hp : p < 16) (ht : t.val = p) (a b : Fin 1024) :
    winAt m c t (at2 a b) = V m c main_arg3 (at2 ⟨p * 1024 + a.val, by omega⟩ b) := by
  show V m c main_arg3 _ = V m c main_arg3 _
  congr 1
  have hc : (grid0.coords t 0).val = p := (coords_val t).trans ht
  funext x
  fin_cases x <;> apply Fin.ext
  · show (BitVec.ofNat 32 (grid0.coords t 0).val).toNat * 1024 + 1 * a.val = p * 1024 + a.val
    rw [hc, BitVec.toNat_ofNat]; omega
  · show 0 * 1024 + 1 * b.val = b.val
    omega

theorem cond_first (i : grid0.Coords) (h : (i 0).val = 0) : k0_cond1 i = 1#1 := by
  unfold k0_cond1; rw [h]; decide
theorem cond_next (i : grid0.Coords) (h : (i 0).val ≠ 0) : ¬ k0_cond1 i = 1#1 := by
  have hi : (i 0).val < 16 := (i 0).isLt
  have key : ∀ n : Fin 16, n.val ≠ 0 → ¬ (Scalar.cmpi .ne (Scalar.extui (Scalar.cmpi .eq (BitVec.ofNat 32 n.val) 0#32) : BitVec 32) 0#32) = 1#1 := by decide
  exact key ⟨_, hi⟩ h

variable {mz zs}

/-- One run of the body at a point, the output from what the points before left to what this one leaves. -/
theorem body_at (T : TableFacts (tb0 m) (tb1 m) mz zs) (c : Dev nD) (t : Fin (cfgM m).N) (s : (w : Fin 1) → Fin (spec0 w).nbuf)
    (fs : Buf (Elt F) ((spec0_0.stage (s 0)).view.loc (c : Thread nD τ)))
    (hX : (spec0_0.stage (s 0)).view.read (Elt F) fs = winAt m c t) :
    Held c (tb0 m) (tb1 m) fullShare.right (spec0_0.stage (s 0)) fs (outAt m mz zs c t.val)
    ⊢ wp frame (wpE defs₀ Variants.none (c : Thread nD τ) none) Set.univ
      (cc0_dispatch (F := F) (grid0.coords t) tbM0 (Memref.isWhole_whole _) tbM1 (Memref.isWhole_whole _) (spec0_0.stage (s 0)) (hstage0_0 ((s 0).cast nbuf0_0)) outM (Memref.isWhole_whole _) scM (Memref.isWhole_whole _) cc0_scratch1 cc0_scratch2)
      (fun _ => Held c (tb0 m) (tb1 m) fullShare.right (spec0_0.stage (s 0)) fs (outAt m mz zs c (t.val + 1))) := by
  have h16 := t_lt t
  have hc : (grid0.coords t 0).val = t.val := coords_val t
  have RF := rowFacts T (V m c main_arg3) (base m mz zs c) t.val h16 (winAt m c t) (winAt_at m c t t.val h16 rfl)
  have ho : outAt m mz zs c (t.val + 1) = placed (tb0 m) (V m c main_arg3) (base m mz zs c) ((t.val + 1) * 2048) := by
    unfold outAt; rw [if_neg (Nat.succ_ne_zero _)]
  rw [ho]
  by_cases h0 : t.val = 0
  · have hi : outAt m mz zs c t.val = V m c main_v26 := by unfold outAt; rw [if_pos h0]
    rw [hi]
    refine body_first c (grid0.coords t) (tb0 m) (tb1 m) fullShare.right mz zs _ _ _ _ fs (winAt m c t) (cond_first _ (hc.trans h0)) T.zero ?_ hX
    rw [hc]
    have e0 : placed (tb0 m) (V m c main_arg3) (base m mz zs c) (t.val * 2048) = base m mz zs c := by rw [h0, Nat.zero_mul, placed_zero]
    rw [e0] at RF; exact RF
  · have hi : outAt m mz zs c t.val = placed (tb0 m) (V m c main_arg3) (base m mz zs c) (t.val * 2048) := by unfold outAt; rw [if_neg h0]
    rw [hi]
    refine body_next c (grid0.coords t) (tb0 m) (tb1 m) fullShare.right _ _ _ _ fs (winAt m c t) (cond_next _ (fun e => h0 (hc.symm.trans e))) ?_ hX
    rw [hc]; exact RF

/-- What the body leaves, put back together. -/
theorem inv_intro (c : Dev nD) (n : ℕ) (st : Memref sig .tc .vmem S1024x1024 .f32) (fs : Buf (Elt F) (st.view.loc (c : Thread nD τ)))
    (X : S1024x1024.Idx → Elt F .f32) (hX : st.view.read (Elt F) fs = X) :
    (iprop(Held c (tb0 m) (tb1 m) fullShare.right st fs (outAt m mz zs c n) ∗ (∃ r, prngReg c r)) : sProp 𝕄)
    ⊢ iprop(Inv m mz zs c n ∗ (∃ W, owes (c : Thread nD τ) 0 W) ∗ owns c st fullShare X) := by
  unfold Inv owns
  iintro ⟨⟨HT1, Hsc, HO, HV2, HW, HT0, Hst, HV1⟩, Hr⟩
  isplitr [HW Hst]
  · isplitl [Hsc]; · iexact Hsc
    isplitl [Hr]; · iexact Hr
    isplitl [HV1 HV2]
    · isplitl [HV1]; · iexact HV1
      iexact HV2
    isplitl [HO]; · iexact HO
    isplitl [HT0]; · iexact HT0
    iexact HT1
  isplitl [HW]; · iexact HW
  iexists fs
  isplitr
  · ipureintro; exact hX
  iexact Hst

theorem inv_elim (c : Dev nD) (n : ℕ) (st : Memref sig .tc .vmem S1024x1024 .f32) (fs : Buf (Elt F) (st.view.loc (c : Thread nD τ))) :
    (iprop(Inv m mz zs c n ∗ (∃ W, owes (c : Thread nD τ) 0 W) ∗ (st.view.loc (c : Thread nD τ) ↦[st.view.set]{fullShare} fs)) : sProp 𝕄)
    ⊢ iprop(Held c (tb0 m) (tb1 m) fullShare.right st fs (outAt m mz zs c n) ∗ (∃ r, prngReg c r)) := by
  unfold Inv
  iintro ⟨⟨Hsc, Hr, ⟨HV1, HV2⟩, HO, HT0, HT1⟩, HW, Hst⟩
  isplitr [Hr]
  · isplitl [HT1]; · iexact HT1
    isplitl [Hsc]; · iexact Hsc
    isplitl [HO]; · iexact HO
    isplitl [HV2]; · iexact HV2
    isplitl [HW]; · iexact HW
    isplitl [HT0]; · iexact HT0
    isplitl [Hst]; · iexact Hst
    iexact HV1
  iexact Hr

theorem point_run (T : TableFacts (tb0 m) (tb1 m) mz zs) (c : Dev nD) (t : Fin (cfgM m).N) (s : (w : Fin 1) → Fin (spec0 w).nbuf) :
    (iprop(Inv m mz zs c t.val ∗ (∃ W, owes (c : Thread nD τ) 0 W) ∗ owns c (spec0_0.stage (s 0)) fullShare (winAt m c t)) : sProp 𝕄)
      ⊢ wp frame (wpE defs₀ Variants.none (c : Thread nD τ) none) Set.univ
      (cc0_dispatch (F := F) (grid0.coords t) tbM0 (Memref.isWhole_whole _) tbM1 (Memref.isWhole_whole _) (spec0_0.stage (s 0)) (hstage0_0 ((s 0).cast nbuf0_0)) outM (Memref.isWhole_whole _) scM (Memref.isWhole_whole _) cc0_scratch1 cc0_scratch2)
      (fun _ => iprop(Inv m mz zs c (t.val + 1) ∗ (∃ W, owes (c : Thread nD τ) 0 W) ∗ owns c (spec0_0.stage (s 0)) fullShare (winAt m c t))) := by
  have key : ∀ fs : Buf (Elt F) ((spec0_0.stage (s 0)).view.loc (c : Thread nD τ)), (spec0_0.stage (s 0)).view.read (Elt F) fs = winAt m c t →
      (iprop(Inv m mz zs c t.val ∗ (∃ W, owes (c : Thread nD τ) 0 W) ∗ ((spec0_0.stage (s 0)).view.loc (c : Thread nD τ) ↦[(spec0_0.stage (s 0)).view.set]{fullShare} fs)) : sProp 𝕄)
      ⊢ wp frame (wpE defs₀ Variants.none (c : Thread nD τ) none) Set.univ
      (cc0_dispatch (F := F) (grid0.coords t) tbM0 (Memref.isWhole_whole _) tbM1 (Memref.isWhole_whole _) (spec0_0.stage (s 0)) (hstage0_0 ((s 0).cast nbuf0_0)) outM (Memref.isWhole_whole _) scM (Memref.isWhole_whole _) cc0_scratch1 cc0_scratch2)
      (fun _ => iprop(Inv m mz zs c (t.val + 1) ∗ (∃ W, owes (c : Thread nD τ) 0 W) ∗ owns c (spec0_0.stage (s 0)) fullShare (winAt m c t))) := fun fs hX =>
    (inv_elim m c t.val (spec0_0.stage (s 0)) fs).trans
      ((BI.sep_mono (body_at m T c t s fs hX) (BI.Entails.refl _)).trans
        ((wp_frame_r frame _ _).trans (wp_mono _ _ _ fun _ => inv_intro m c (t.val + 1) (spec0_0.stage (s 0)) fs _ hX)))
  iintro ⟨HI, HW, HS⟩
  unfold owns
  icases HS with ⟨%fs, %hX, Hst⟩
  iapply (key fs hX)
  isplitl [HI]; · iexact HI
  isplitl [HW]; · iexact HW
  iexact Hst

/-- The body's obligation. -/
theorem body_obligation (T : TableFacts (tb0 m) (tb1 m) mz zs) (c : Dev nD) :
    Pipeline.BodyObligationLoose (dats m mz zs 0 c) defs₀ Variants.none () Set.univ := by
  intro t
  have e0 := point_run m T c t ((cfgM m).slots t)
  rw [bigSep_W0, bigSep_W0]
  refine Entails.trans ?_ (e0.trans (wp_mono _ _ _ fun _ => ?_))
  · show iprop(Inv m mz zs c t.val ∗ (dats m mz zs 0 c).owesAt () t.castSucc
      ∗ (∃ d, owns c (spec0_0.stage ((cfgM m).slots t (0 : Fin 1))) fullShare ((dats m mz zs 0 c).before (0 : Fin 1) t d))) ⊢ _
    iintro ⟨HI, ⟨%W, -, HW⟩, %d, HS⟩
    isplitl [HI]; · iexact HI
    isplitl [HW]
    · iexists W; iexact HW
    rw [before_eq m mz zs c t d]
    iexact HS
  · show _ ⊢ iprop(Inv m mz zs c (t.val + 1) ∗ (dats m mz zs 0 c).owesAt () t.succ
      ∗ owns c (spec0_0.stage ((cfgM m).slots t (0 : Fin 1))) fullShare (winAt m c t))
    iintro ⟨HI, ⟨%W, HW⟩, HS⟩
    isplitl [HI]; · iexact HI
    isplitl [HW]
    · unfold Pipeline.Dat.owesAt Pipeline.owesWithin Pipeline.Dat.bound
      iexists W
      isplitr
      · ipureintro; exact fun _ _ => Or.inl trivial
      iexact HW
    iexact HS

/-! ## The launch -/

theorem outAt_last (c : Dev nD) : outAt m mz zs c 16 = placed (tb0 m) (V m c main_arg3) (base m mz zs c) (16 * 2048) := by
  unfold outAt; rw [if_neg (by decide)]

/-- The contents the call leaves its output at. -/
def final (mz : ℕ) (zs : ℕ → ℕ) (c : Dev nD) (b : Ref sig .tc) : Buf (Elt F) ((c : Thread nD τ).loc b) :=
  Function.update (V m c) main_v26 (outAt m mz zs c 16) b

theorem final_out (c : Dev nD) : final m mz zs c main_v26 = outAt m mz zs c 16 := Function.update_self ..

theorem enter (c : Dev nD) :
    iprop(Pipeline.ΦDRG osem0 spec0 H0 R0 (V m) (V m) c ∗ Pipeline.ΦT pre0 (tbl m) c) ⊢ (Inv m mz zs c 0 : sProp 𝕄) := by
  rw [Pipeline.ΦDRG_eq, scopedRest0_eq, ownSems0_eq, PhiT0_eq, Pipeline.routed_singleton]
  have h0 : outAt m mz zs c 0 = V m c main_v26 := rfl
  unfold Inv; rw [h0]
  iintro ⟨⟨Hsc, Hr, ⟨HV1, HV2⟩, -, HO⟩, HT0, HT1⟩
  isplitl [Hsc]; · iexact Hsc
  isplitl [Hr]; · iexact Hr
  isplitl [HV1 HV2]
  · isplitl [HV1]; · iexact HV1
    iexact HV2
  isplitl [HO]; · iexact HO
  isplitl [HT0]; · iexact HT0
  iexact HT1

theorem leave (c : Dev nD) : (Inv m mz zs c 16 : sProp 𝕄) ⊢ Pipeline.ΦDRG osem0 spec0 H0 R0 (V m) (final m mz zs) c := by
  rw [Pipeline.ΦDRG_eq, scopedRest0_eq, ownSems0_eq, Pipeline.routed_singleton, final_out, show (H0 : Finset (Ref sig .tc)) = ∅ from rfl, Idealize.SL.BI.bigSep_empty]
  unfold Inv
  iintro ⟨Hsc, Hr, ⟨HV1, HV2⟩, HO, -, -⟩
  isplitl [Hsc]; · iexact Hsc
  isplitl [Hr]; · iexact Hr
  isplitl [HV1 HV2]
  · isplitl [HV1]; · iexact HV1
    iexact HV2
  isplitr
  · exact Idealize.SL.BI.Entails.refl _
  iexact HO

set_option backward.isDefEq.respectTransparency.types false in
/-- The run: every execution ends, its output as the last point left it, every other array as the call found it, every
    semaphore at zero. -/
theorem run_main (T : TableFacts (tb0 m) (tb1 m) mz zs) :
    θ_run defs (onTc (τ := τ) (main (F := F))) (s₀ m ρ) (fun r =>
      Pipeline.FramePostRG (Pipeline.pin (pcfgs (F := F)) (fun _ => adm m)) (dats m mz zs) 0 R0 (V m) (final m mz zs) r ∧ r.2.sem = fun _ => 0) :=
  Pipeline.θ_run_frameP_dmaRG pcfgs (fun _ => adm m) (dats m mz zs) (0 : Fin 1) launch0 osem0 defs₀ Variants.none ownSemFacts0 H0 R0 H0_sub R0_sub m ρ main
    (hbody := fun c => body_obligation m T c) (hshare := fun c w => by obtain rfl : w = (0 : Fin 1) := Subsingleton.elim _ _; rfl)
    (howed := fun _ _ => rfl) (V := V m) (hmain := hmain m Variants.none) (hA := fun _ _ => rfl) (hpf := V_pre m) (G := final m mz zs)
    (hin := fun c => enter m c) (hout := fun c => leave m c) (Q' := fun r => Pipeline.FramePostRG (Pipeline.pin (pcfgs (F := F)) (fun _ => adm m)) (dats m mz zs) 0 R0 (V m) (final m mz zs) r ∧ r.2.sem = fun _ => 0)
    (hQ' := fun _ h => h)

end Cert.KernelIdeal.Dispatched

end
-- ==== Proof.Cells.lean ====
/-
  The two tables read at an index, under a routing.
-/
module

public import proofs.«01_k».proof.Proof.Tables
public import proofs.«01_k».proof.Proof.Run

@[expose] public section

noncomputable section

namespace Cert.Routes

open Idealize.ShloMosaic Idealize.ShloMosaic.ValueIdx Idealize.ShloMosaic.Routing

section
variable (b0 : (shape0).BroadcastsInDim (shape1 32) (![] : Fin 0 → Fin (shape1 32).rank))
  (b00 : (shape0).BroadcastsInDim shape0 (![] : Fin 0 → Fin shape0.rank))
  (rw1 : (shape1 32).ReduceWindows (![32] : Fin 1 → Nat) ![1] ![31] ![0] (shape1 32)) (h0 : 0 < shape0.numel)
  (c3 : (shape2 16384 2).BroadcastsInDim (shape3 16384 2 1) (![0, 1] : Fin 2 → Fin (shape3 16384 2 1).rank))
  (r3 : (shape1 32).BroadcastsInDim (shape3 1 1 32) (![2] : Fin 1 → Fin (shape3 1 1 32).rank))
  (c4 : (shape3 16384 2 1).BroadcastsInDim (shape3 16384 2 32) (![0, 1, 2] : Fin 3 → Fin (shape3 16384 2 32).rank))
  (r4 : (shape3 1 1 32).BroadcastsInDim (shape3 16384 2 32) (![0, 1, 2] : Fin 3 → Fin (shape3 16384 2 32).rank))
  (s4 : (shape1 32).BroadcastsInDim (shape3 16384 2 32) (![2] : Fin 1 → Fin (shape3 16384 2 32).rank))
  (z4 : (shape0).BroadcastsInDim (shape3 16384 2 32) (![] : Fin 0 → Fin (shape3 16384 2 32).rank))
  (rd3 : (shape3 16384 2 32).ReducesTo [2] (shape2 16384 2))
  (sc : (shape2 16384 2).ShapeCasts (shape1 32768))
  (sl : (shape1 32).Slices (![31] : Fin 1 → Nat) (shape1 1)) (cc : Shape.Concatenates [shape1 32, shape1 1] (shape1 33) 0)

theorem col3 {α : Type} (a : (shape2 16384 2).Idx → α) (t : Fin 16384) (s : Fin 2) (x : Fin 32) :
    broadcastInDim (shape3 16384 2 32) ![0, 1, 2] c4 (broadcastInDim (shape3 16384 2 1) ![0, 1] c3 a) (ix3 t s x) = a (ix2 t s) := by
  refine (broadcastInDim_apply _ c4 _ _ (ix3 t s (0 : Fin 1)) fun a => ?_).trans (broadcastInDim_apply _ c3 _ _ (ix2 t s) fun a => ?_)
  · match a with
    | ⟨0, _⟩ => rfl
    | ⟨1, _⟩ => rfl
    | ⟨2, _⟩ => rfl
  · match a with
    | ⟨0, _⟩ => rfl
    | ⟨1, _⟩ => rfl

theorem row3 {α : Type} (v : (shape1 32).Idx → α) (t : Fin 16384) (s : Fin 2) (x : Fin 32) :
    broadcastInDim (shape3 16384 2 32) ![0, 1, 2] r4 (broadcastInDim (shape3 1 1 32) ![2] r3 v) (ix3 t s x) = v (ix1 x) := by
  refine (broadcastInDim_apply _ r4 _ _ (ix3 (0 : Fin 1) (0 : Fin 1) x) fun a => ?_).trans (broadcastInDim_apply _ r3 _ _ (ix1 x) fun a => ?_)
  · match a with
    | ⟨0, _⟩ => rfl
    | ⟨1, _⟩ => rfl
    | ⟨2, _⟩ => rfl
  · match a with
    | ⟨0, _⟩ => rfl

theorem seg3 {α : Type} (v : (shape1 32).Idx → α) (t : Fin 16384) (s : Fin 2) (x : Fin 32) :
    broadcastInDim (shape3 16384 2 32) ![2] s4 v (ix3 t s x) = v (ix1 x) := by
  refine broadcastInDim_apply _ s4 _ _ (ix1 x) fun a => ?_
  match a with
  | ⟨0, _⟩ => rfl

theorem firstW_at (a0 : IVec (shape2 16384 2) 32) (st : IVec (shape1 32) 32) (t : Fin 16384) (s : Fin 2) (n : Fin 32)
    (ha : a0 (ix2 t s) = BitVec.ofNat 32 n.val) : firstW h0 c3 r3 c4 r4 s4 z4 rd3 a0 st (ix2 t s) = st (ix1 n) := by
  have hn := n.isLt
  have hcond : ∀ x : Fin 32, (cmpi .eq (broadcastInDim (shape3 16384 2 32) ![0, 1, 2] c4 (broadcastInDim (shape3 16384 2 1) ![0, 1] c3 a0))
      (broadcastInDim (shape3 16384 2 32) ![0, 1, 2] r4 (broadcastInDim (shape3 1 1 32) ![2] r3 (iotaInDim (shape1 32) 32 0)))) (ix3 t s x)
      = if n = x then 1#1 else 0#1 := by
    intro x
    have hx := x.isLt
    show IntOp.cmpi .eq (broadcastInDim (shape3 16384 2 32) ![0, 1, 2] c4 (broadcastInDim (shape3 16384 2 1) ![0, 1] c3 a0) (ix3 t s x))
      (broadcastInDim (shape3 16384 2 32) ![0, 1, 2] r4 (broadcastInDim (shape3 1 1 32) ![2] r3 (iotaInDim (shape1 32) 32 0)) (ix3 t s x)) = _
    rw [col3, row3, ha]
    show IntOp.cmpi .eq (BitVec.ofNat 32 n.val) (BitVec.ofNat 32 x.val) = _
    by_cases h : n = x
    · rw [if_pos h, StableHlo.Predicate.cmpi_eq_iff.2 (by rw [h])]
    · rw [if_neg h]
      refine eq_zero_of_ne_one fun hh => h (Fin.ext ?_)
      have := congrArg BitVec.toNat (StableHlo.Predicate.cmpi_eq_iff.1 hh)
      rwa [toNat_ofNat (by omega), toNat_ofNat (by omega)] at this
  unfold firstW
  refine (reduce_one _ _ rd3 h0 rfl (ix2 t s) (ix3 t s n) ?_ fun i hi hne => ?_).trans ?_
  · have hv0 : (rd3.drop (ix3 t s n) 0 : Nat) = t.val := Shape.ReducesTo.drop_apply_val rd3 _ 0
    have hv1 : (rd3.drop (ix3 t s n) 1 : Nat) = s.val := Shape.ReducesTo.drop_apply_val rd3 _ 1
    funext a
    match a with
    | ⟨0, _⟩ => exact Fin.ext hv0
    | ⟨1, _⟩ => exact Fin.ext hv1
  · have hx : ∃ x : Fin 32, i = ix3 t s x := by
      have hv0 : (rd3.drop i 0 : Nat) = i 0 := Shape.ReducesTo.drop_apply_val rd3 _ 0
      have hv1 : (rd3.drop i 1 : Nat) = i 1 := Shape.ReducesTo.drop_apply_val rd3 _ 1
      rw [hi] at hv0 hv1
      refine ⟨i 2, funext fun a => ?_⟩
      match a with
      | ⟨0, _⟩ => exact Fin.ext hv0.symm
      | ⟨1, _⟩ => exact Fin.ext hv1.symm
      | ⟨2, _⟩ => rfl
    obtain ⟨x, rfl⟩ := hx
    have hx : n ≠ x := fun h => hne (by rw [h])
    show Scalar.select (cmpi .eq (broadcastInDim (shape3 16384 2 32) ![0, 1, 2] c4 (broadcastInDim (shape3 16384 2 1) ![0, 1] c3 a0))
      (broadcastInDim (shape3 16384 2 32) ![0, 1, 2] r4 (broadcastInDim (shape3 1 1 32) ![2] r3 (iotaInDim (shape1 32) 32 0))) (ix3 t s x)) _ _ = _
    rw [hcond, if_neg hx, select_zero, bc0]; rfl
  · show Scalar.select (cmpi .eq (broadcastInDim (shape3 16384 2 32) ![0, 1, 2] c4 (broadcastInDim (shape3 16384 2 1) ![0, 1] c3 a0))
      (broadcastInDim (shape3 16384 2 32) ![0, 1, 2] r4 (broadcastInDim (shape3 1 1 32) ![2] r3 (iotaInDim (shape1 32) 32 0))) (ix3 t s n)) _ _ = _
    rw [hcond, if_pos rfl, select_one, seg3]

variable {e : ℕ → ℕ} {a0 a1 : IVec (shape2 16384 2) 32} {a2 : IVec (shape1 32) 32} (R : Routed a0 a1 a2 e)
include R

theorem rowsW_at (r : Fin 32768) :
    rowsW b0 b00 rw1 h0 c3 r3 c4 r4 s4 z4 rd3 sc a0 a1 a2 (ix1 r) = BitVec.ofNat 32 (dst e r.val) := by
  have hr := r.isLt
  have hd : r.val / 2 * 2 + r.val % 2 = r.val := by omega
  have hid := R.id ⟨r.val / 2, by omega⟩ ⟨r.val % 2, by omega⟩
  have hpl := R.place ⟨r.val / 2, by omega⟩ ⟨r.val % 2, by omega⟩
  simp only [hd] at hid hpl
  unfold rowsW
  rw [cast21 _ _ ⟨r.val / 2, by omega⟩ ⟨r.val % 2, by omega⟩ r hd.symm]
  show a1 (ix2 ⟨r.val / 2, _⟩ ⟨r.val % 2, _⟩) + firstW h0 c3 r3 c4 r4 s4 z4 rd3 a0 (startW b0 b00 rw1 h0 a2) (ix2 ⟨r.val / 2, _⟩ ⟨r.val % 2, _⟩) = _
  rw [hpl, firstW_at h0 c3 r3 c4 r4 s4 z4 rd3 a0 _ _ _ ⟨e r.val, R.lt _ hr⟩ hid, startW_at b0 b00 rw1 h0 e a2 R.count R.lt,
    ← BitVec.ofNat_add, Nat.add_comm]
  rfl

/-- A segment's cell: its last block when it is not empty. -/
theorem cellsW_at (x : Fin 32) : cellsW b0 b00 rw1 h0 sl cc a2 (ix1 ⟨x.val, by omega⟩)
    = if 0 < tot e x.val then BitVec.ofNat 32 (pst e (x.val + 1) - 512) else 4294967295#32 := by
  have hx := x.isLt
  have ht : tot e x.val ≤ 32768 := occ_le e _ _
  have hp := pst_top R.lt
  have hm := pst_mono e (show x.val + 1 ≤ 32 from hx)
  unfold cellsW joinW
  rw [concatenate_pair_apply_left 0 _ _ cc _ rfl (ix1 x) fun b => by match b with | ⟨0, _⟩ => rfl]
  have hc : cmpi .sgt a2 (broadcastInDim (shape1 32) ![] b0 (constantI shape0 32 0#32)) (ix1 x) = if 0 < tot e x.val then 1#1 else 0#1 := by
    show IntOp.cmpi .sgt (a2 (ix1 x)) (broadcastInDim (shape1 32) ![] b0 (constantI shape0 32 0#32) (ix1 x)) = _
    rw [bc0, R.count]
    have hn : (BitVec.ofNat 32 (tot e x.val)).toNat = tot e x.val := toNat_ofNat (by omega)
    have hiff := StableHlo.Predicate.sgt_iff_toNat (a := BitVec.ofNat 32 (tot e x.val)) (b := 0#32) (by rw [hn]; omega) (by decide)
    rw [hn] at hiff
    by_cases h : 0 < tot e x.val
    · rw [if_pos h]; exact hiff.2 h
    · rw [if_neg h]; exact eq_zero_of_ne_one fun hh => h (hiff.1 hh)
  show Scalar.select (cmpi .sgt a2 (broadcastInDim (shape1 32) ![] b0 (constantI shape0 32 0#32)) (ix1 x))
    (endW b0 b00 rw1 h0 a2 (ix1 x) - broadcastInDim (shape1 32) ![] b0 (constantI shape0 32 512#32) (ix1 x)) _ = _
  rw [hc]
  by_cases h : 0 < tot e x.val
  · have hs := live_seg e h
    rw [if_pos h, if_pos h, select_one, bc0, endW_at b0 b00 rw1 h0 e a2 R.count]
    show BitVec.ofNat 32 _ - BitVec.ofNat 32 512 = _
    rw [ofNat_sub (by omega) (by omega)]
  · rw [if_neg h, if_neg h, select_zero, bc0]; rfl

theorem cellsW_last : cellsW b0 b00 rw1 h0 sl cc a2 (ix1 ⟨32, by omega⟩) = BitVec.ofNat 32 (pst e 32) := by
  unfold cellsW joinW
  rw [concatenate_pair_apply_right 0 _ _ cc _ rfl rfl (ix1 (0 : Fin 1)) (fun b hb => absurd (by match b with | ⟨0, _⟩ => rfl) hb) rfl]
  have hs : extractStridedSlice (shape1 1) ![31] (endW b0 b00 rw1 h0 a2) sl (ix1 0) = endW b0 b00 rw1 h0 a2 (ix1 ⟨31, by omega⟩) := by
    unfold extractStridedSlice
    congr 1
    funext a
    match a with
    | ⟨0, _⟩ => rfl
  rw [hs, endW_at b0 b00 rw1 h0 e a2 R.count]

end

end Cert.Routes

namespace Cert.KernelIdeal.Dispatched

open Idealize.ShloMosaic Idealize.ShloMosaic.TcCoe Idealize.ShloMosaic.ValueIdx Idealize.ShloMosaic.Routing
open Cert.KernelIdeal.Gen Cert.Routes

variable {F : FTy → Type} [FloatOps F]
variable (m : (ℓ : Loc nD τ sig) → Buf (Elt F) ℓ)

/-- The routing of the kernel's arguments. -/
abbrev RoutedAt (e : ℕ → ℕ) : Prop := Routed (m ((0 : Dev nD), Proc.devRef .tc main_arg0)) (m ((0 : Dev nD), Proc.devRef .tc main_arg1)) (m ((0 : Dev nD), Proc.devRef .tc main_arg2)) e

variable {m} {e : ℕ → ℕ} (R : RoutedAt m e)
include R

theorem dw_toNat (r : ℕ) (hr : r < 32768) : (dw (tb0 m) r).toNat = dst e r := by
  have hd := dst_lt R.lt hr
  rw [dw_at (F := F) (tb := tb0 m) r hr, tb0_eq]
  refine (congrArg BitVec.toNat ((congrArg _ (?_ : at1 ⟨r, hr⟩ = ix1 ⟨r, hr⟩)).trans (rowsW_at _ _ _ _ _ _ _ _ _ _ _ _ R ⟨r, hr⟩))).trans (toNat_ofNat (show dst e r < 2 ^ 32 by omega))
  exact eq_ix1 _

theorem zw_live (x : ℕ) (hx : x < 32) : zw (F := F) (tb1 m) x = if 0 < tot e x then BitVec.ofNat 32 (pst e (x + 1) - 512) else 4294967295#32 := by
  unfold zw
  rw [tb1_eq]
  refine (congrArg _ (?_ : at1 _ = ix1 ⟨(⟨x, hx⟩ : Fin 32).val, by omega⟩)).trans (cellsW_at _ _ _ _ _ _ R ⟨x, hx⟩)
  rw [eq_ix1 (at1 _)]
  exact congrArg ix1 (Fin.ext (Nat.mod_eq_of_lt (by omega)))

theorem zw_last : zw (F := F) (tb1 m) 32 = BitVec.ofNat 32 (pst e 32) := by
  unfold zw
  rw [tb1_eq]
  refine (congrArg _ (?_ : at1 _ = ix1 ⟨32, by omega⟩)).trans (cellsW_last _ _ _ _ _ _ R)
  exact eq_ix1 _

omit R in
theorem liveW_of_lt {n : ℕ} (h : n < 2 ^ 31) : liveW (BitVec.ofNat 32 n) := by
  have h1 : IntOp.cmpi .sge (BitVec.ofNat 32 n) 0#32 = 1#1 :=
    (StableHlo.Predicate.sge_iff_toNat (by rw [toNat_ofNat (by omega)]; exact h) (by decide)).2 (by simp)
  unfold liveW
  show Scalar.cmpi .ne (Scalar.extui (IntOp.cmpi .sge (BitVec.ofNat 32 n) 0#32) : BitVec 32) 0#32 = 1#1
  rw [h1]; rfl

theorem liveW_iff (x : ℕ) (hx : x < 32) : liveW (zw (F := F) (tb1 m) x) ↔ 0 < tot e x := by
  have hp := pst_top R.lt
  have hm := pst_mono e (show x + 1 ≤ 32 from hx)
  rw [zw_live R x hx]
  by_cases h : 0 < tot e x
  · rw [if_pos h]; exact ⟨fun _ => h, fun _ => liveW_of_lt (by omega)⟩
  · rw [if_neg h]; exact ⟨fun hl => absurd hl (by decide), fun h' => absurd h' h⟩

theorem cnt_eq (n : ℕ) (hn : n ≤ 32) : cnt (F := F) (tb1 m) n = lives e n := by
  induction n with
  | zero => exact (Nat.count_zero _).symm
  | succ n ih =>
    have ih := ih (by omega)
    have hl := liveW_iff R n (by omega)
    unfold lives at ih ⊢
    rw [Nat.count_succ]
    by_cases h : 0 < tot e n
    · rw [cnt_live (hl.2 h), ih, if_pos h]
    · rw [cnt_dead (fun h' => h (hl.1 h')), ih, if_neg h]; rfl

theorem zw_block (x : ℕ) (hx : x < 32) (hl : liveW (zw (F := F) (tb1 m) x)) :
    (zw (F := F) (tb1 m) x).toNat = 512 * blk e (cnt (F := F) (tb1 m) x) := by
  have h := (liveW_iff R x hx).1 hl
  have hs := live_seg e h
  have hp := pst_top R.lt
  have hm := pst_mono e (show x + 1 ≤ 32 from hx)
  have hd := pst_dvd e (x + 1)
  rw [cnt_eq R x (by omega), zw_live R x hx, if_pos h, toNat_ofNat (by omega), blk_live e hx h]
  omega

theorem zw_end : zw (F := F) (tb1 m) 32 = BitVec.ofNat 32 (512 * (pst e 32 / 512)) := by
  have hd := pst_dvd e 32
  have h : 512 * (pst e 32 / 512) = pst e 32 := by omega
  rw [h]; exact zw_last R

theorem blk_all (j : ℕ) (hj : j < cnt (F := F) (tb1 m) 32 + (96 - pst e 32 / 512)) : blk e j < 96 := by
  have hc : cnt (F := F) (tb1 m) 32 ≤ lives e 32 := Nat.le_of_eq (cnt_eq R 32 (Nat.le_refl _))
  exact blk_lt R.lt (Nat.lt_of_lt_of_le hj (Nat.add_le_add_right hc _))

theorem end_le : pst e 32 / 512 ≤ 96 := by have hp := pst_top R.lt; omega

theorem blk_rest (k : ℕ) : blk e (cnt (F := F) (tb1 m) 32 + k) = pst e 32 / 512 + k :=
  (congrArg (fun c => blk e (c + k)) (cnt_eq R 32 le_rfl)).trans (blk_tail e k)

theorem zeroFacts : ZeroFacts (F := F) (tb1 m) (pst e 32 / 512) (blk e) :=
  ⟨zw_block R, zw_end R, end_le R, fun k _ => blk_rest R k, blk_all R, fun _ _ _ _ hij => blk_ne hij⟩

theorem rows_lt (r : ℕ) (hr : r < 32768) : (dw (F := F) (tb0 m) r).toNat < 49152 := by
  rw [dw_toNat R r hr]; exact dst_lt R.lt hr

theorem rows_inj (r s : ℕ) (hr : r < 32768) (hs : s < 32768) (h : (dw (F := F) (tb0 m) r).toNat = (dw (F := F) (tb0 m) s).toNat) : r = s := by
  rw [dw_toNat R r hr, dw_toNat R s hs] at h
  exact dst_inj hr hs h

theorem tableFacts : TableFacts (F := F) (tb0 m) (tb1 m) (pst e 32 / 512) (blk e) := ⟨zeroFacts R, rows_lt R, rows_inj R⟩

end Cert.KernelIdeal.Dispatched

end
-- ==== Proof.Layout.lean ====
/-
  The dispatched array of a routing: the row of every assignment's token at the assignment's place, and zero elsewhere.
-/
module

public import proofs.«01_k».proof.Proof.Places

@[expose] public section

noncomputable section

namespace Cert.Routes

open Idealize.ShloMosaic Idealize.ShloMosaic.ValueIdx Idealize.ShloMosaic.Routing

variable {F : FTy → Type} [FloatOps F]

open Classical in
def rowsOf (e : ℕ → ℕ) (h : (shape2 16384 1024).Idx → Elt F .f32) : (shape2 49152 1024).Idx → Elt F .f32 := fun y =>
  if H : ∃ r, r < 32768 ∧ dst e r = (y 0).val then h (ix2 ⟨H.choose / 2 % 16384, Nat.mod_lt _ (by decide)⟩ (y 1))
  else Scalar.ofBits .f32 0x00000000#32

variable (e : ℕ → ℕ) (h : (shape2 16384 1024).Idx → Elt F .f32)

theorem rowsOf_on (y : (shape2 49152 1024).Idx) (r : ℕ) (hr : r < 32768) (hd : dst e r = (y 0).val) :
    rowsOf e h y = h (ix2 ⟨r / 2 % 16384, Nat.mod_lt _ (by decide)⟩ (y 1)) := by
  have H : ∃ r, r < 32768 ∧ dst e r = (y 0).val := ⟨r, hr, hd⟩
  have hc : H.choose = r := dst_inj H.choose_spec.1 hr (H.choose_spec.2.trans hd.symm)
  unfold rowsOf
  rw [dif_pos H]
  congr 2
  exact Fin.ext (by show H.choose / 2 % 16384 = _; rw [hc])

theorem rowsOf_off (y : (shape2 49152 1024).Idx) (H : ∀ r < 32768, dst e r ≠ (y 0).val) : rowsOf e h y = Scalar.ofBits .f32 0x00000000#32 := by
  unfold rowsOf
  rw [dif_neg]
  rintro ⟨r, hr, hd⟩
  exact H r hr hd

end Cert.Routes

end
-- ==== Proof.Out.lean ====
/-
  What the kernel leaves: its arguments, its counters at zero, and the dispatched array of the routing.
-/
module

public import proofs.«01_k».proof.Proof.Cells
public import proofs.«01_k».proof.Proof.Layout

@[expose] public section

noncomputable section

namespace Cert.KernelIdeal.Dispatched

open Idealize.ShloMosaic Idealize.ShloMosaic.TcCoe Idealize.ShloMosaic.ValueIdx Idealize.ShloMosaic.Routing Idealize.SL.Sem
open Cert.KernelIdeal.Gen Cert.Routes

variable {F : FTy → Type} [FloatOps F]
variable {m : (ℓ : Loc nD τ sig) → Buf (Elt F) ℓ} {e : ℕ → ℕ} (R : RoutedAt m e)
include R

theorem base_zero (c : Dev nD) (y : S49152x1024.Idx) (hn : ∀ r < 32768, dst e r ≠ (y 0).val) :
    base m (pst e 32 / 512) (blk e) c y = zeroF := by
  have hc : cnt (F := F) (tb1 m) 32 = lives e 32 := cnt_eq R 32 (Nat.le_refl _)
  have hy : (y 0).val < 49152 := (y 0).isLt
  obtain ⟨j, hj, hb⟩ := exists_blk (e := e) hy hn
  unfold base zeroed
  refine if_pos ⟨j, ?_, hb⟩
  unfold zn
  exact Nat.lt_of_lt_of_le hj (Nat.add_le_add_right (Nat.le_of_eq hc.symm) _)

theorem out_eq (c : Dev nD) : outAt m (pst e 32 / 512) (blk e) c 16 = rowsOf e (V m c main_arg3) := by
  rw [outAt_last]
  have T := tableFacts (F := F) R
  funext y
  by_cases H : ∃ r, r < 32768 ∧ dst e r = (y 0).val
  · obtain ⟨r, hr, hd⟩ := H
    rw [placed_on T _ _ (16 * 2048) (by decide) y r hr ((dw_toNat R r hr).trans hd), rowsOf_on e _ y r hr hd]
    exact congrArg _ (eq_ix2 _)
  · have hn : ∀ r < 32768, dst e r ≠ (y 0).val := fun r hr hd => H ⟨r, hr, hd⟩
    rw [placed_off _ _ _ (16 * 2048) y fun r hr => by rw [dw_toNat R r hr]; exact hn r hr, base_zero R c y hn, rowsOf_off e _ y hn]

/-- The kernel's run. -/
theorem run_value (ρ : Dev nD → PrngReg) :
    θ_run defs (onTc (τ := τ) (main (F := F))) ⟨m, fun _ => 0, ρ⟩ (fun r =>
      (∀ c : Dev nD, r.2.mem ((c.tc : Thread nD τ).loc main_v26) = rowsOf e (m ((c.tc : Thread nD τ).loc main_arg3))
        ∧ r.2.mem ((c.tc : Thread nD τ).loc main_arg0) = m ((c.tc : Thread nD τ).loc main_arg0)
        ∧ r.2.mem ((c.tc : Thread nD τ).loc main_arg1) = m ((c.tc : Thread nD τ).loc main_arg1)
        ∧ r.2.mem ((c.tc : Thread nD τ).loc main_arg2) = m ((c.tc : Thread nD τ).loc main_arg2)
        ∧ r.2.mem ((c.tc : Thread nD τ).loc main_arg3) = m ((c.tc : Thread nD τ).loc main_arg3))
      ∧ r.2.sem = fun _ => 0) := by
  refine (θ_run defs _ _).mono (fun r h => ⟨fun c => ?_, h.2⟩) (run_main m ρ (tableFacts R))
  obtain ⟨v0, v1, v2, v3⟩ := V_args m c
  have hr := (h.1.toR c).2
  refine ⟨?_, (hr main_arg0 (by decide : main_arg0 ∈ Pipeline.restRefs sig spec0 \ R0)).trans v0, (hr main_arg1 (by decide : main_arg1 ∈ Pipeline.restRefs sig spec0 \ R0)).trans v1, (hr main_arg2 (by decide : main_arg2 ∈ Pipeline.restRefs sig spec0 \ R0)).trans v2, ?_⟩
  · refine (h.1.written c (by decide : main_v26 ∈ R0)).trans ?_
    rw [final_out, out_eq R, v3]
  · exact (((h.1.toR c).1 (0 : Fin 1)).trans ((dats m (pst e 32 / 512) (blk e) 0 c).arrAt_in (0 : Fin 1) rfl _)).trans v3

end Cert.KernelIdeal.Dispatched

end
-- ==== Proof.Ranked.lean ====
/-
  The precondition read back: the experts are below 32, every assignment's rank is its place among its expert's, and the counts
  are the numbers of assignments.
-/
module

public import proofs.«01_k».proof.Proof.Places
public import proofs.«01_k».proof.Pre_ranked

@[expose] public section

noncomputable section

namespace Cert.Routes

open Idealize.ShloMosaic Idealize.ShloMosaic.ValueIdx Idealize.ShloMosaic.Routing
open Cert.Pre_ranked Cert.Pre_ranked.Facts

variable {F : FTy → Type} [FloatOps F] [Cert.Pre_ranked.Facts]

theorem routed_of_pre (a0 a1 : IVec (shape2 16384 2) 32) (a2 : IVec (shape1 32) 32) (a3 : FVec F Cert.Pre_ranked.S16384x1024 .f32)
    (h : Cert.Pre_ranked.fn (F := F) a0 a1 a2 a3 = fun _ => 1#1) : Routed a0 a1 a2 (chosen a0) := by
  have h := congrFun h ix0
  haveI : Subsingleton (shape0).Idx := ⟨fun a b => funext fun i => i.elim0⟩
  have h' : IntOp.andi (IntOp.andi (IntOp.andi
      (Host.reduce IntOp.andi (cmpi .sge a0 (broadcastInDim (shape2 16384 2) ![] bcast_S_S16384x2 (constantI shape0 32 0#32)))
        (constantI shape0 1 1#1) reducesTo_S16384x2_S_d0_1 h_S_ ix0)
      (Host.reduce IntOp.andi (cmpi .slt a0 (broadcastInDim (shape2 16384 2) ![] bcast_S_S16384x2 (constantI shape0 32 32#32)))
        (constantI shape0 1 1#1) reducesTo_S16384x2_S_d0_1 h_S_ ix0))
      (Host.reduce IntOp.andi (cmpi .eq (shapeCast (shape1 32768) a1 shapeCasts_S16384x2_S32768)
          (placeW bcast_S32768_S32768x1_0 bcast_S32_S1x32_1 bcast_S32768x1_S32768x32_0_1 bcast_S1x32_S32768x32_0_1 natLt_1_32 bcast_S_S_
            bcast_S_S32768x32 reduceWindows_S32768x32_S32768x32_w32768s1p32767_0_w1s1p0_0 reducesTo_S32768x32_S32768_d1 h_S_
            (shapeCast (shape1 32768) a0 shapeCasts_S16384x2_S32768)))
        (constantI shape0 1 1#1) reducesTo_S32768_S_d0 h_S_ ix0))
      (Host.reduce IntOp.andi (cmpi .eq a2 (shapeCast (shape1 32) (extractStridedSlice (shape2 1 32) ![32767, 0]
          (uptoW bcast_S32768_S32768x1_0 bcast_S32_S1x32_1 bcast_S32768x1_S32768x32_0_1 bcast_S1x32_S32768x32_0_1 natLt_1_32 bcast_S_S_
            reduceWindows_S32768x32_S32768x32_w32768s1p32767_0_w1s1p0_0 h_S_
            (shapeCast (shape1 32768) a0 shapeCasts_S16384x2_S32768)) slices_S32768x32_S1x32_32767_0) shapeCasts_S1x32_S32))
        (constantI shape0 1 1#1) reducesTo_S32_S_d0 h_S_ ix0) = 1#1 := h
  obtain ⟨h, hcnt⟩ := IntOp.andi_eq_one.1 h'
  obtain ⟨h, hrank⟩ := IntOp.andi_eq_one.1 h
  obtain ⟨hge, hlt⟩ := IntOp.andi_eq_one.1 h
  have hge := Host.reduce_andi_all _ _ _ _ _ hge
  have hlt := Host.reduce_andi_all _ _ _ _ _ hlt
  have hrank := Host.reduce_andi_all _ _ _ _ _ hrank
  have hcnt := Host.reduce_andi_all _ _ _ _ _ hcnt
  have hw : ∀ i : (shape2 16384 2).Idx, (a0 i).toNat < 32 := by
    intro i
    have h1 : IntOp.cmpi .sge (a0 i) 0#32 = 1#1 := by
      have h := hge i
      show IntOp.cmpi .sge (a0 i) _ = 1#1
      exact (congrArg (IntOp.cmpi .sge (a0 i)) (bc0 bcast_S_S16384x2 (constantI shape0 32 0#32) i).symm).trans h
    have h2 : IntOp.cmpi .slt (a0 i) 32#32 = 1#1 :=
      (congrArg (IntOp.cmpi .slt (a0 i)) (bc0 bcast_S_S16384x2 (constantI shape0 32 32#32) i).symm).trans (hlt i)
    have h3 : (a0 i).toInt ≥ 0 := by
      have h := (StableHlo.Predicate.ofBool_eq_one_iff _).1 h1
      simpa [BitVec.sle] using h
    have h4 : (a0 i).toInt < 32 := by
      have h := (StableHlo.Predicate.ofBool_eq_one_iff _).1 h2
      simpa [BitVec.slt] using h
    have h5 := BitVec.toInt_eq_toNat_cond (a0 i)
    have h6 := (a0 i).isLt
    split at h5 <;> omega
  have hlt32 : ∀ r < 32768, chosen a0 r < 32 := fun r _ => hw _
  have hid : ∀ (t : Fin 16384) (s : Fin 2), a0 (ix2 t s) = BitVec.ofNat 32 (chosen a0 (t.val * 2 + s.val)) := by
    intro t s
    rw [chosen_at, BitVec.ofNat_toNat, BitVec.setWidth_eq]
  have hev : ∀ r : Fin 32768, shapeCast (shape1 32768) a0 shapeCasts_S16384x2_S32768 (ix1 r) = BitVec.ofNat 32 (chosen a0 r.val) := by
    intro r
    have hr := r.isLt
    have hd : r.val / 2 * 2 + r.val % 2 = r.val := by omega
    rw [cast21 a0 _ ⟨r.val / 2, by omega⟩ ⟨r.val % 2, by omega⟩ r hd.symm, hid]
    show BitVec.ofNat 32 (chosen a0 (r.val / 2 * 2 + r.val % 2)) = _
    rw [hd]
  refine ⟨hlt32, hid, fun t s => ?_, fun x => ?_⟩
  · have ht := t.isLt
    have hs := s.isLt
    have h := StableHlo.Predicate.cmpi_eq_iff.1 (hrank (ix1 ⟨t.val * 2 + s.val, by omega⟩))
    rw [cast21 a1 _ t s ⟨t.val * 2 + s.val, by omega⟩ rfl, placeW_at _ _ _ _ _ _ _ _ _ _ (chosen a0) hlt32 _ hev] at h
    exact h
  · have h := StableHlo.Predicate.cmpi_eq_iff.1 (hcnt (ix1 x))
    rw [cast21 _ _ 0 x x (by simp), slice_last, uptoW_at _ _ _ _ _ _ _ _ (chosen a0) hlt32 _ hev] at h
    exact h

end Cert.Routes

end
-- ==== Proof.Scatter.lean ====
/-
  A scatter of whole rows, and the reference's array read at an index.
-/
module

public import proofs.«01_k».proof.Proof.Layout
public import proofs.«01_k».proof.Proof.Places
public import Idealize.ShloMosaic.Lib.Routing.OpsSet
public import Idealize.ShloMosaic.Lib.Routing.OpsPair

@[expose] public section

noncomputable section

namespace Cert.Routes

open Idealize.ShloMosaic Idealize.ShloMosaic.ValueIdx Idealize.ShloMosaic.Routing

/-- The dimension numbers of `x.at[i].set(u)` for a vector `i` of row numbers and a matrix `u`, row by row. -/
def rowDims (R N C : ℕ) (h : ScatterDims.WF (shape2 R C) (shape2 N 1) (shape2 N C) [1] [0] [0] 1) : ScatterDims (shape2 R C) (shape2 N 1) (shape2 N C) where
  updateWindowDims := [1]
  insertedWindowDims := [0]
  scatterDimsToOperandDims := [0]
  indexVectorDim := 1
  wf := h

/-- Entry `(n, c)` of the updates lands at `(r, k)` when row word `n`, read signed, is `r`, and `c` is `k`. -/
theorem lands_row {R N C : ℕ} (h : ScatterDims.WF (shape2 R C) (shape2 N 1) (shape2 N C) [1] [0] [0] 1) (idx : IVec (shape2 N 1) 32)
    (n : Fin N) (c k : Fin C) (r : Fin R) :
    (rowDims R N C h).resultIdx? (ix2 n c) idx = some (ix2 r k) ↔ (idx (ix2 n (0 : Fin 1))).toInt = (r.val : Int) ∧ c = k := by
  have hm : (0 : Fin 2) ∈ (rowDims R N C h).scatterDimsToOperandDims := List.mem_singleton.2 rfl
  have hw0 : (rowDims R N C h).window (ix2 n c) 0 = 0 := by
    unfold ScatterDims.window
    rw [dif_neg fun h => (of_decide_eq_true (List.mem_filter.1 h).2) (List.mem_singleton.2 rfl)]
  have hw1 : (rowDims R N C h).window (ix2 n c) 1 = c.val := by
    unfold ScatterDims.window
    have hk : (rowDims R N C h).sKept = [1] := rfl
    rw [dif_pos (by rw [hk]; exact List.mem_singleton.2 rfl)]
    rfl
  have hs1 : (rowDims R N C h).start (ix2 n c) idx 1 = 0 := by
    unfold ScatterDims.start
    rw [dif_neg (show (1 : Fin 2) ∉ (rowDims R N C h).scatterDimsToOperandDims from
      fun h => (show (1 : Fin 2) ≠ 0 by decide) (List.mem_singleton.1 h))]
  have hs0 : (rowDims R N C h).start (ix2 n c) idx 0 = (idx (ix2 n (0 : Fin 1))).toInt := by
    unfold ScatterDims.start
    rw [dif_pos hm]
    have hsi : (rowDims R N C h).siIdx (ix2 n c) ⟨(rowDims R N C h).scatterDimsToOperandDims.idxOf 0, List.idxOf_lt_length_iff.2 hm⟩ = ix2 n (0 : Fin 1) := by
      funext b'
      match b' with
      | ⟨0, _⟩ => exact Fin.ext rfl
      | ⟨1, _⟩ => exact Subsingleton.elim (α := Fin 1) _ _
    rw [hsi]
  rw [resultIdx?_ix2, hs0, hw0, hs1, hw1, Fin.ext_iff]
  omega

theorem addi_at {s : Shape} (a b : IVec s 32) (i : s.Idx) : addi a b i = a i + b i := rfl

/-- A negative index wrapped round, as it prints: nothing to a small word. -/
theorem wrap_at {n : ℕ} (b : (shape0).BroadcastsInDim (shape1 n) (![] : Fin 0 → Fin (shape1 n).rank)) (v : IVec (shape1 n) 32) (C : BitVec 32) (p : Fin n) (k : ℕ)
    (hk : k < 2 ^ 31) (hv : v (ix1 p) = BitVec.ofNat 32 k) :
    select (cmpi .slt v (broadcastInDim (shape1 n) ![] b (constantI shape0 32 0#32))) (addi v (broadcastInDim (shape1 n) ![] b (constantI shape0 32 C))) v (ix1 p)
      = BitVec.ofNat 32 k := by
  have hn : (BitVec.ofNat 32 k).toNat = k := toNat_ofNat (by omega)
  have hc : cmpi .slt v (broadcastInDim (shape1 n) ![] b (constantI shape0 32 0#32)) (ix1 p) = 0#1 := by
    show IntOp.cmpi .slt (v (ix1 p)) (broadcastInDim (shape1 n) ![] b (constantI shape0 32 0#32) (ix1 p)) = _
    rw [bc0, hv]
    refine eq_zero_of_ne_one fun hh => ?_
    have := (StableHlo.Predicate.slt_iff_toNat (a := BitVec.ofNat 32 k) (b := 0#32) (by rw [hn]; exact hk) (by decide)).1 hh
    exact absurd this (Nat.not_lt_zero _)
  show Scalar.select (cmpi .slt v (broadcastInDim (shape1 n) ![] b (constantI shape0 32 0#32)) (ix1 p)) _ (v (ix1 p)) = _
  rw [hc, select_zero, hv]

abbrev shape3' (a b c : ℕ) : Shape := ⟨3, ![a, b, c]⟩

/-- Every token's row, twice. -/
theorem twice_at {α : Type} (x1 : (shape2 16384 1024).BroadcastsInDim (shape3' 16384 1 1024) (![0, 2] : Fin 2 → Fin (shape3' 16384 1 1024).rank))
    (x2 : (shape3' 16384 1 1024).BroadcastsInDim (shape3' 16384 2 1024) (![0, 1, 2] : Fin 3 → Fin (shape3' 16384 2 1024).rank))
    (sc : (shape3' 16384 2 1024).ShapeCasts (shape2 32768 1024)) (h : (shape2 16384 1024).Idx → α) (r : Fin 32768) (c : Fin 1024) :
    shapeCast (shape2 32768 1024) (broadcastInDim (shape3' 16384 2 1024) ![0, 1, 2] x2 (broadcastInDim (shape3' 16384 1 1024) ![0, 2] x1 h)) sc (ix2 r c)
      = h (ix2 ⟨r.val / 2 % 16384, Nat.mod_lt _ (by decide)⟩ c) := by
  have hr := r.isLt
  refine (shapeCast_apply _ sc _ (ix3 (⟨r.val / 2 % 16384, Nat.mod_lt _ (by decide)⟩ : Fin 16384) (⟨r.val % 2, by omega⟩ : Fin 2) c) ?_).trans ?_
  · rw [Shape.rowMajor_val_three, Shape.rowMajor_val_two]
    show (r.val / 2 % 16384 * 2 + r.val % 2) * 1024 + c.val = r.val * 1024 + c.val
    omega
  · refine (broadcastInDim_apply _ x2 _ _ (ix3 (⟨r.val / 2 % 16384, Nat.mod_lt _ (by decide)⟩ : Fin 16384) (0 : Fin 1) c) fun a => ?_).trans
      (broadcastInDim_apply _ x1 _ _ (ix2 ⟨r.val / 2 % 16384, Nat.mod_lt _ (by decide)⟩ c) fun a => ?_)
    · match a with
      | ⟨0, _⟩ => rfl
      | ⟨1, _⟩ => rfl
      | ⟨2, _⟩ => rfl
    · match a with
      | ⟨0, _⟩ => rfl
      | ⟨1, _⟩ => rfl

section
variable {F : FTy → Type} [FloatOps F]
variable (c1 : (shape1 32768).BroadcastsInDim (shape2 32768 1) (![0] : Fin 1 → Fin (shape2 32768 1).rank))
  (r1 : (shape1 32).BroadcastsInDim (shape2 1 32) (![1] : Fin 1 → Fin (shape2 1 32).rank))
  (c2 : (shape2 32768 1).BroadcastsInDim (shape2 32768 32) (![0, 1] : Fin 2 → Fin (shape2 32768 32).rank))
  (r2 : (shape2 1 32).BroadcastsInDim (shape2 32768 32) (![0, 1] : Fin 2 → Fin (shape2 32768 32).rank))
  (hlt : 1 < 32)
  (b00 : (shape0).BroadcastsInDim shape0 (![] : Fin 0 → Fin shape0.rank))
  (b2 : (shape0).BroadcastsInDim (shape2 32768 32) (![] : Fin 0 → Fin (shape2 32768 32).rank))
  (rw2 : (shape2 32768 32).ReduceWindows (![32768, 1] : Fin 2 → Nat) ![1, 1] ![32767, 0] ![0, 0] (shape2 32768 32))
  (rd : (shape2 32768 32).ReducesTo [1] (shape1 32768)) (h0 : 0 < shape0.numel)
  (b0 : (shape0).BroadcastsInDim (shape1 32) (![] : Fin 0 → Fin (shape1 32).rank))
  (rw1 : (shape1 32).ReduceWindows (![32] : Fin 1 → Nat) ![1] ![31] ![0] (shape1 32))
  (sl : (shape2 32768 32).Slices (![32767, 0] : Fin 2 → Nat) (shape2 1 32)) (sc1 : (shape2 1 32).ShapeCasts (shape1 32))
  (bN : (shape0).BroadcastsInDim (shape1 32768) (![] : Fin 0 → Fin (shape1 32768).rank))
  (gd : GatherDims (shape1 32) (shape2 32768 1) (shape1 32768)) (hcoll : gd.collapsedSliceDims = [0]) (hob : gd.operandBatchingDims = [])
  (hsim : gd.startIndexMap = [0]) (hivd : gd.indexVectorDim = 1)
  (wf : ScatterDims.WF (shape2 49152 1024) (shape2 32768 1) (shape2 32768 1024) [1] [0] [0] 1)
  (bz : (shape0).BroadcastsInDim (shape2 49152 1024) (![] : Fin 0 → Fin (shape2 49152 1024).rank))
  (x1 : (shape2 16384 1024).BroadcastsInDim (shape3' 16384 1 1024) (![0, 2] : Fin 2 → Fin (shape3' 16384 1 1024).rank))
  (x2 : (shape3' 16384 1 1024).BroadcastsInDim (shape3' 16384 2 1024) (![0, 1, 2] : Fin 3 → Fin (shape3' 16384 2 1024).rank))
  (sc3 : (shape3' 16384 2 1024).ShapeCasts (shape2 32768 1024))

/-- The counts, from the last row of the running sum. -/
def countsW (ev : IVec (shape1 32768) 32) : IVec (shape1 32) 32 :=
  shapeCast (shape1 32) (extractStridedSlice (shape2 1 32) ![32767, 0] (uptoW c1 r1 c2 r2 hlt b00 rw2 h0 ev) sl) sc1

/-- Where every assignment goes, before the index is wrapped. -/
def goesW (ev : IVec (shape1 32768) 32) : IVec (shape1 32768) 32 :=
  addi (Host.gather gd (startW b0 b00 rw1 h0 (countsW c1 r1 c2 r2 hlt b00 rw2 h0 sl sc1 ev))
      (broadcastInDim (shape2 32768 1) ![0] c1
        (select (cmpi .slt ev (broadcastInDim (shape1 32768) ![] bN (constantI shape0 32 0#32))) (addi ev (broadcastInDim (shape1 32768) ![] bN (constantI shape0 32 32#32))) ev)))
    (placeW c1 r1 c2 r2 hlt b00 b2 rw2 rd h0 ev)

/-- The reference's array. -/
def refW (ev : IVec (shape1 32768) 32) (h : (shape2 16384 1024).Idx → Elt F .f32) : (shape2 49152 1024).Idx → Elt F .f32 :=
  Host.scatter (rowDims 49152 32768 1024 wf) (fun _ b => b) (broadcastInDim (shape2 49152 1024) ![] bz (constant shape0 .f32 0x00000000#32))
    (broadcastInDim (shape2 32768 1) ![0] c1
      (select (cmpi .slt (goesW c1 r1 c2 r2 hlt b00 b2 rw2 rd h0 b0 rw1 sl sc1 bN gd ev) (broadcastInDim (shape1 32768) ![] bN (constantI shape0 32 0#32)))
        (addi (goesW c1 r1 c2 r2 hlt b00 b2 rw2 rd h0 b0 rw1 sl sc1 bN gd ev) (broadcastInDim (shape1 32768) ![] bN (constantI shape0 32 49152#32)))
        (goesW c1 r1 c2 r2 hlt b00 b2 rw2 rd h0 b0 rw1 sl sc1 bN gd ev)))
    (shapeCast (shape2 32768 1024) (broadcastInDim (shape3' 16384 2 1024) ![0, 1, 2] x2 (broadcastInDim (shape3' 16384 1 1024) ![0, 2] x1 h)) sc3)

variable (e : ℕ → ℕ) (he : ∀ r < 32768, e r < 32) (ev : IVec (shape1 32768) 32)
  (hev : ∀ r : Fin 32768, ev (ix1 r) = BitVec.ofNat 32 (e r.val))
include he hev

theorem countsW_at (x : Fin 32) : countsW c1 r1 c2 r2 hlt b00 rw2 h0 sl sc1 ev (ix1 x) = BitVec.ofNat 32 (tot e x.val) := by
  unfold countsW
  rw [cast21 _ _ 0 x x (by simp), slice_last, uptoW_at _ _ _ _ _ _ _ _ e he _ hev]
  rfl

include hcoll hob hsim hivd

theorem goes_first (r : Fin 32768) : Host.gather gd (startW b0 b00 rw1 h0 (countsW c1 r1 c2 r2 hlt b00 rw2 h0 sl sc1 ev))
    (broadcastInDim (shape2 32768 1) ![0] c1
        (select (cmpi .slt ev (broadcastInDim (shape1 32768) ![] bN (constantI shape0 32 0#32))) (addi ev (broadcastInDim (shape1 32768) ![] bN (constantI shape0 32 32#32))) ev))
    (ix1 r) = BitVec.ofNat 32 (pst e (e r.val)) := by
  have hb := he r.val r.isLt
  have h31 : e r.val < 2 ^ 31 := Nat.lt_trans hb (by decide)
  have hw := (bcCol c1 _ r).trans (wrap_at bN ev 32#32 r (e r.val) h31 (hev r))
  exact (gather_take1 gd hcoll hob hsim hivd _ _ r ⟨e r.val, hb⟩ hw (by decide)).trans
    (startW_at b0 b00 rw1 h0 e _ (countsW_at c1 r1 c2 r2 hlt b00 rw2 h0 sl sc1 e he ev hev) he ⟨e r.val, hb⟩)

theorem goesW_at (r : Fin 32768) : goesW c1 r1 c2 r2 hlt b00 b2 rw2 rd h0 b0 rw1 sl sc1 bN gd ev (ix1 r) = BitVec.ofNat 32 (dst e r.val) := by
  unfold goesW
  rw [addi_at, goes_first c1 r1 c2 r2 hlt b00 rw2 h0 b0 rw1 sl sc1 bN gd hcoll hob hsim hivd e he ev hev r,
    placeW_at c1 r1 c2 r2 hlt b00 b2 rw2 rd h0 e he ev hev r, ← BitVec.ofNat_add]
  unfold dst
  rfl

theorem refW_eq (h : (shape2 16384 1024).Idx → Elt F .f32) :
    refW c1 r1 c2 r2 hlt b00 b2 rw2 rd h0 b0 rw1 sl sc1 bN gd wf bz x1 x2 sc3 ev h = rowsOf e h := by
  funext y
  obtain ⟨r, k, rfl⟩ : ∃ (r : Fin 49152) (k : Fin 1024), y = ix2 r k := ⟨y 0, y 1, eq_ix2 y⟩
  have hidx : ∀ n : Fin 32768, ((broadcastInDim (shape2 32768 1) ![0] c1
      (select (cmpi .slt (goesW c1 r1 c2 r2 hlt b00 b2 rw2 rd h0 b0 rw1 sl sc1 bN gd ev) (broadcastInDim (shape1 32768) ![] bN (constantI shape0 32 0#32)))
        (addi (goesW c1 r1 c2 r2 hlt b00 b2 rw2 rd h0 b0 rw1 sl sc1 bN gd ev) (broadcastInDim (shape1 32768) ![] bN (constantI shape0 32 49152#32)))
        (goesW c1 r1 c2 r2 hlt b00 b2 rw2 rd h0 b0 rw1 sl sc1 bN gd ev))) (ix2 n (0 : Fin 1))).toInt = (dst e n.val : Int) := by
    intro n
    have hd := dst_lt he n.isLt
    rw [bcCol, wrap_at bN _ _ n (dst e n.val) (by omega) (goesW_at c1 r1 c2 r2 hlt b00 b2 rw2 rd h0 b0 rw1 sl sc1 bN gd hcoll hob hsim hivd e he ev hev n),
      StableHlo.Predicate.toInt_ofNat_small _ (by omega)]
  unfold refW
  by_cases H : ∃ n, n < 32768 ∧ dst e n = r.val
  · obtain ⟨n, hn, hd⟩ := H
    rw [rowsOf_on e h (ix2 r k) n hn hd]
    refine scatter_set_hit _ _ _ _ _ _ (fun j hj => ?_) (ix2 (⟨n, hn⟩ : Fin 32768) k) ((lands_row wf _ _ _ _ _).2 ⟨(hidx ⟨n, hn⟩).trans (by rw [hd]), rfl⟩)
    obtain ⟨n', k', rfl⟩ : ∃ (n' : Fin 32768) (k' : Fin 1024), j = ix2 n' k' := ⟨j 0, j 1, eq_ix2 j⟩
    obtain ⟨h1, rfl⟩ := (lands_row wf _ _ _ _ _).1 hj
    rw [hidx] at h1
    have hnn : n'.val = n := dst_inj (e := e) n'.isLt hn (by omega)
    rw [twice_at]
    subst hnn; rfl
  · rw [rowsOf_off e h (ix2 r k) fun n hn hd => H ⟨n, hn, hd⟩, scatter_set_miss _ _ _ _ _ fun j hj => ?_, bc0]
    · rfl
    · obtain ⟨n', k', rfl⟩ : ∃ (n' : Fin 32768) (k' : Fin 1024), j = ix2 n' k' := ⟨j 0, j 1, eq_ix2 j⟩
      obtain ⟨h1, -⟩ := (lands_row wf _ _ _ _ _).1 hj
      rw [hidx] at h1
      exact H ⟨n'.val, n'.isLt, by omega⟩

end

end Cert.Routes

end
-- ==== Proof.RefValue.lean ====
/-
  The reference's run: the array it leaves is the one that puts every row at its place.
-/
module

public import proofs.«01_k».proof.Proof.Scatter
public import proofs.«01_k».proof.Proof.Gen.ReferenceIdeal.Run
public import proofs.«01_k».proof.Proof.Gen.Reference.Run
public import Idealize.ShloMosaic.Lib.Quiescent

@[expose] public section

noncomputable section

namespace Cert.Routes

open Idealize.ShloMosaic Idealize.ShloMosaic.TcCoe Idealize.ShloMosaic.ValueIdx Idealize.ShloMosaic.Routing Idealize.SL.Sem

/-- The experts in a row: assignment `r`'s expert is slot `r % 2` of token `r / 2`. -/
theorem flat_at {a0 a1 : IVec (shape2 16384 2) 32} {a2 : IVec (shape1 32) 32} {e : ℕ → ℕ} (R : Routed a0 a1 a2 e)
    (sc : (shape2 16384 2).ShapeCasts (shape1 32768)) (r : Fin 32768) : shapeCast (shape1 32768) a0 sc (ix1 r) = BitVec.ofNat 32 (e r.val) := by
  have hr := r.isLt
  have hd : r.val / 2 * 2 + r.val % 2 = r.val := by omega
  rw [cast21 a0 sc ⟨r.val / 2, by omega⟩ ⟨r.val % 2, by omega⟩ r hd.symm, R.id]
  exact congrArg (fun k => BitVec.ofNat 32 (e k)) hd

variable {F : FTy → Type} [FloatOps F]

section
open Cert.ReferenceIdeal Cert.ReferenceIdeal.Gen

theorem ideal_value (m : (ℓ : Loc nD τ sig) → Buf (Elt F) ℓ) (c : Dev nD) (e : ℕ → ℕ)
    {a1 : IVec (shape2 16384 2) 32} {a2 : IVec (shape1 32) 32} (R : Routed (m ((c.tc : Thread nD τ).loc main_arg0)) a1 a2 e) :
    Value.res_main_v44 m c = rowsOf (F := F) e (m ((c.tc : Thread nD τ).loc main_arg3)) := by
  have key := refW_eq (F := F) bcast_S32768_S32768x1_0 bcast_S32_S1x32_1 bcast_S32768x1_S32768x32_0_1 bcast_S1x32_S32768x32_0_1 natLt_1_32 bcast_S_S_
    bcast_S_S32768x32 reduceWindows_S32768x32_S32768x32_w32768s1p32767_0_w1s1p0_0 reducesTo_S32768x32_S32768_d1 h_S_ bcast_S_S32
    reduceWindows_S32_S32_w32s1p31_0 slices_S32768x32_S1x32_32767_0 shapeCasts_S1x32_S32 bcast_S_S32768 gather_S32_S32768x1_S32768_n_0_n_n_0_1_1
    rfl rfl rfl rfl scatter_S49152x1024_S32768x1_S32768x1024_1_0_0_1_wf bcast_S_S49152x1024 bcast_S16384x1024_S16384x1x1024_0_2
    bcast_S16384x1x1024_S16384x2x1024_0_1_2 shapeCasts_S16384x2x1024_S32768x1024 e R.lt
    (shapeCast (shape1 32768) (m ((c.tc : Thread nD τ).loc main_arg0)) shapeCasts_S16384x2_S32768) (flat_at R _)
    (m ((c.tc : Thread nD τ).loc main_arg3))
  rw [← key]
  unfold Value.res_main_v44
  rfl

theorem frame_ideal (m : (ℓ : Loc nD τ sig) → Buf (Elt F) ℓ) (ρ : Dev nD → PrngReg) :
    θ_run defs (onTc (τ := τ) (main (F := F))) ⟨m, fun _ => 0, ρ⟩ (fun r => (∀ c : Dev nD,
        r.2.mem ((c.tc : Thread nD τ).loc main_arg0) = m ((c.tc : Thread nD τ).loc main_arg0)
        ∧ r.2.mem ((c.tc : Thread nD τ).loc main_arg1) = m ((c.tc : Thread nD τ).loc main_arg1)
        ∧ r.2.mem ((c.tc : Thread nD τ).loc main_arg2) = m ((c.tc : Thread nD τ).loc main_arg2)
        ∧ r.2.mem ((c.tc : Thread nD τ).loc main_arg3) = m ((c.tc : Thread nD τ).loc main_arg3))
      ∧ r.2.sem = fun _ => 0) :=
  (θ_run defs _ _).mono (fun r h => ⟨fun c => (h c).2, sem_eq_zero_of_no_sems (by decide) r.2⟩) (Value.run m ρ)

end

section
open Cert.Reference Cert.Reference.Gen

theorem plain_value (m : (ℓ : Loc nD τ sig) → Buf (Elt F) ℓ) (c : Dev nD) (e : ℕ → ℕ)
    {a1 : IVec (shape2 16384 2) 32} {a2 : IVec (shape1 32) 32} (R : Routed (m ((c.tc : Thread nD τ).loc main_arg0)) a1 a2 e) :
    Value.res_main_v44 m c = rowsOf (F := F) e (m ((c.tc : Thread nD τ).loc main_arg3)) := by
  have key := refW_eq (F := F) bcast_S32768_S32768x1_0 bcast_S32_S1x32_1 bcast_S32768x1_S32768x32_0_1 bcast_S1x32_S32768x32_0_1 natLt_1_32 bcast_S_S_
    bcast_S_S32768x32 reduceWindows_S32768x32_S32768x32_w32768s1p32767_0_w1s1p0_0 reducesTo_S32768x32_S32768_d1 h_S_ bcast_S_S32
    reduceWindows_S32_S32_w32s1p31_0 slices_S32768x32_S1x32_32767_0 shapeCasts_S1x32_S32 bcast_S_S32768 gather_S32_S32768x1_S32768_n_0_n_n_0_1_1
    rfl rfl rfl rfl scatter_S49152x1024_S32768x1_S32768x1024_1_0_0_1_wf bcast_S_S49152x1024 bcast_S16384x1024_S16384x1x1024_0_2
    bcast_S16384x1x1024_S16384x2x1024_0_1_2 shapeCasts_S16384x2x1024_S32768x1024 e R.lt
    (shapeCast (shape1 32768) (m ((c.tc : Thread nD τ).loc main_arg0)) shapeCasts_S16384x2_S32768) (flat_at R _)
    (m ((c.tc : Thread nD τ).loc main_arg3))
  rw [← key]
  unfold Value.res_main_v44
  rfl

theorem frame_plain (m : (ℓ : Loc nD τ sig) → Buf (Elt F) ℓ) (ρ : Dev nD → PrngReg) :
    θ_run defs (onTc (τ := τ) (main (F := F))) ⟨m, fun _ => 0, ρ⟩ (fun r => (∀ c : Dev nD,
        r.2.mem ((c.tc : Thread nD τ).loc main_arg0) = m ((c.tc : Thread nD τ).loc main_arg0)
        ∧ r.2.mem ((c.tc : Thread nD τ).loc main_arg1) = m ((c.tc : Thread nD τ).loc main_arg1)
        ∧ r.2.mem ((c.tc : Thread nD τ).loc main_arg2) = m ((c.tc : Thread nD τ).loc main_arg2)
        ∧ r.2.mem ((c.tc : Thread nD τ).loc main_arg3) = m ((c.tc : Thread nD τ).loc main_arg3))
      ∧ r.2.sem = fun _ => 0) :=
  (θ_run defs _ _).mono (fun r h => ⟨fun c => (h c).2, sem_eq_zero_of_no_sems (by decide) r.2⟩) (Value.run m ρ)

end

end Cert.Routes

end
-- ==== Proof.SameFirst.lean ====
/-
  The kernel's text and its idealization's are one text: the first five windows of the body.
-/
module

public import proofs.«01_k».proof.Proof.Gen.Kernel
public import proofs.«01_k».proof.Proof.Gen.KernelIdeal

@[expose] public section

noncomputable section

namespace Cert.Same

open Idealize.ShloMosaic

variable {F : FTy → Type} [FloatOps F]

set_option maxRecDepth 100000 in
set_option maxHeartbeats 4000000 in
theorem part1 : Cert.Kernel.k0_part1 (F := F) = Cert.KernelIdeal.k0_part1 (F := F) := by
  unfold Cert.Kernel.k0_part1 Cert.KernelIdeal.k0_part1; rfl

set_option maxRecDepth 100000 in
set_option maxHeartbeats 4000000 in
theorem part2 : Cert.Kernel.k0_part2 (F := F) = Cert.KernelIdeal.k0_part2 (F := F) := by
  unfold Cert.Kernel.k0_part2 Cert.KernelIdeal.k0_part2; rfl

set_option maxRecDepth 100000 in
set_option maxHeartbeats 4000000 in
theorem part3 : Cert.Kernel.k0_part3 (F := F) = Cert.KernelIdeal.k0_part3 (F := F) := by
  unfold Cert.Kernel.k0_part3 Cert.KernelIdeal.k0_part3; rfl

set_option maxRecDepth 100000 in
set_option maxHeartbeats 4000000 in
theorem part4 : Cert.Kernel.k0_part4 (F := F) = Cert.KernelIdeal.k0_part4 (F := F) := by
  unfold Cert.Kernel.k0_part4 Cert.KernelIdeal.k0_part4; rfl

set_option maxRecDepth 100000 in
set_option maxHeartbeats 4000000 in
theorem part5 : Cert.Kernel.k0_part5 (F := F) = Cert.KernelIdeal.k0_part5 (F := F) := by
  unfold Cert.Kernel.k0_part5 Cert.KernelIdeal.k0_part5; rfl

end Cert.Same

end
-- ==== Proof.SameSecond.lean ====
/-
  The kernel's text and its idealization's are one text: the next four windows of the body.
-/
module

public import proofs.«01_k».proof.Proof.Gen.Kernel
public import proofs.«01_k».proof.Proof.Gen.KernelIdeal

@[expose] public section

noncomputable section

namespace Cert.Same

open Idealize.ShloMosaic

variable {F : FTy → Type} [FloatOps F]

set_option maxRecDepth 100000 in
set_option maxHeartbeats 4000000 in
theorem part6 : Cert.Kernel.k0_part6 (F := F) = Cert.KernelIdeal.k0_part6 (F := F) := by
  unfold Cert.Kernel.k0_part6 Cert.KernelIdeal.k0_part6; rfl

set_option maxRecDepth 100000 in
set_option maxHeartbeats 4000000 in
theorem part7 : Cert.Kernel.k0_part7 (F := F) = Cert.KernelIdeal.k0_part7 (F := F) := by
  unfold Cert.Kernel.k0_part7 Cert.KernelIdeal.k0_part7; rfl

set_option maxRecDepth 100000 in
set_option maxHeartbeats 4000000 in
theorem part8 : Cert.Kernel.k0_part8 (F := F) = Cert.KernelIdeal.k0_part8 (F := F) := by
  unfold Cert.Kernel.k0_part8 Cert.KernelIdeal.k0_part8; rfl

set_option maxRecDepth 100000 in
set_option maxHeartbeats 4000000 in
theorem part9 : Cert.Kernel.k0_part9 (F := F) = Cert.KernelIdeal.k0_part9 (F := F) := by
  unfold Cert.Kernel.k0_part9 Cert.KernelIdeal.k0_part9; rfl

end Cert.Same

end
-- ==== Proof.SameThird.lean ====
/-
  The kernel's text and its idealization's are one text: the body's last window.
-/
module

public import proofs.«01_k».proof.Proof.Gen.Kernel
public import proofs.«01_k».proof.Proof.Gen.KernelIdeal

@[expose] public section

noncomputable section

namespace Cert.Same

open Idealize.ShloMosaic

variable {F : FTy → Type} [FloatOps F]

set_option maxRecDepth 100000 in
set_option maxHeartbeats 4000000 in
theorem part10 : Cert.Kernel.k0_part10 (F := F) = Cert.KernelIdeal.k0_part10 (F := F) := by
  unfold Cert.Kernel.k0_part10 Cert.KernelIdeal.k0_part10; rfl

end Cert.Same

end
-- ==== Proof.SameBody.lean ====
/-
  The kernel's text and its idealization's are one text: the body, and the definitions the launch calls.
-/
module

public import proofs.«01_k».proof.Proof.Gen.Kernel
public import proofs.«01_k».proof.Proof.Gen.KernelIdeal
public import proofs.«01_k».proof.Proof.SameFirst
public import proofs.«01_k».proof.Proof.SameSecond
public import proofs.«01_k».proof.Proof.SameThird

@[expose] public section

noncomputable section

namespace Cert.Same

open Idealize.ShloMosaic

variable {F : FTy → Type} [FloatOps F]

set_option maxRecDepth 100000 in
set_option maxHeartbeats 4000000 in
theorem body : Cert.Kernel.cc0_dispatch (F := F) = Cert.KernelIdeal.cc0_dispatch (F := F) := by
  unfold Cert.Kernel.cc0_dispatch Cert.KernelIdeal.cc0_dispatch
  rw [part10]
  rfl

/-- The body at two namings of the staging buffer that are one. -/
theorem part_stage (i : Cert.KernelIdeal.grid0.Coords) (a a' : Memref Cert.KernelIdeal.sig .tc .vmem Cert.KernelIdeal.S1024x1024 .f32) (ha : a = a') (h : a.IsWhole) (h' : a'.IsWhole)
    (b : _) (hb : _) (d : _) (hd : _) (f : _) (hf : _) (g : _) (hg : _) (u v : _) :
    Cert.KernelIdeal.cc0_dispatch (F := F) i b hb d hd a h f hf g hg u v = Cert.KernelIdeal.cc0_dispatch (F := F) i b hb d hd a' h' f hf g hg u v := by
  subst ha; rfl

set_option maxRecDepth 100000 in
set_option maxHeartbeats 4000000 in
theorem defs₀ : Cert.Kernel.defs₀ (F := F) = Cert.KernelIdeal.defs₀ (F := F) := by
  unfold Cert.Kernel.defs₀ Cert.KernelIdeal.defs₀
  rw [body]
  refine congrArg _ (funext fun l => funext fun a => ?_)
  match l, a with
  | ⟨0, _⟩, (t, s) =>
    have hs : Cert.Kernel.spec0_0.stage (s 0) = Cert.KernelIdeal.spec0_0.stage (s 0) := by
      generalize s 0 = x
      match x with
      | ⟨0, _⟩ => rfl
      | ⟨1, _⟩ => rfl
    exact part_stage (F := F) (Cert.KernelIdeal.grid0.coords t) _ _ hs _ _ _ _ _ _ _ _ _ _ _ _
  | ⟨_ + 1, h⟩, _ => exact absurd h (Nat.not_lt.2 (Nat.le_add_left _ _))

set_option maxRecDepth 100000 in
set_option maxHeartbeats 4000000 in
theorem defs : Cert.Kernel.defs (F := F) = Cert.KernelIdeal.defs (F := F) := by
  unfold Cert.Kernel.defs Cert.KernelIdeal.defs
  rw [defs₀]
  rfl

end Cert.Same

end
-- ==== Proof.SameMain.lean ====
/-
  The kernel's text and its idealization's are one text: the host's program.
-/
module

public import proofs.«01_k».proof.Proof.Gen.Kernel
public import proofs.«01_k».proof.Proof.Gen.KernelIdeal

@[expose] public section

noncomputable section

namespace Cert.Same

open Idealize.ShloMosaic

variable {F : FTy → Type} [FloatOps F]

set_option maxRecDepth 100000 in
set_option maxHeartbeats 4000000 in
theorem main : Cert.Kernel.main (F := F) = Cert.KernelIdeal.main (F := F) := rfl

end Cert.Same

end
-- ==== Proof.ProjBody.lean ====
/-
  The body of the projection at a point: which of its three branches run, and what each leaves.
-/
module

public import proofs.«01_k».proof.Proof.Gen.Kernel2Ideal.Skeleton
public import proofs.«01_k».proof.Proof.Gen.Kernel2Ideal.Launch
public import Idealize.ShloMosaic.Lib.Tactic
public import Idealize.ShloMosaic.Lib.Exec
public import Idealize.ShloMosaic.Lib.Pipeline.FrameValue
public import Idealize.ShloMosaic.Lib.Pipeline.FrameBody

@[expose] public section

noncomputable section

namespace Cert.Kernel2Ideal.Projected

open Idealize.ShloMosaic Idealize.ShloMosaic.TcCoe Idealize.ShloMosaic.Tactic
open Idealize.SL Idealize.SL.RA
open Idealize.SL.BI
open scoped Idealize.SL.BI
open Idealize.SL.BI.BIBase Idealize.SL.BI.Laws Idealize.SL.ProofMode Idealize.SL.Sem
open Cert.Kernel2Ideal.Gen

variable {F : FTy → Type} [FloatOps F]

local notation "𝕄" => MT nD τ sig Unit (Elt F) ℕ (Idealize.ShloMosaic.UR sig nD τ) ℕ

/-! ## The conditions -/

/-- The first branch's condition, as the body computes it. -/
abbrev k0_cond1 (i : grid0.Coords) : BitVec 1 :=
  Scalar.cmpi .ne (Scalar.extui (Scalar.cmpi .eq (BitVec.ofNat 32 (i 2).val) 0#32) : BitVec 32) 0#32

theorem conds : ∀ n : Fin 8,
    ((Scalar.cmpi .ne (Scalar.extui (Scalar.cmpi .eq (BitVec.ofNat 32 n.val) 0#32) : BitVec 32) 0#32 = 1#1) ↔ n.val = 0)
    ∧ ((Scalar.cmpi .ne (Scalar.extui (Scalar.cmpi .slt (BitVec.ofNat 32 n.val) 7#32) : BitVec 32) 0#32 = 1#1) ↔ n.val ≠ 7)
    ∧ ((Scalar.cmpi .ne (Scalar.extui (Scalar.cmpi .eq (BitVec.ofNat 32 n.val) 7#32) : BitVec 32) 0#32 = 1#1) ↔ n.val = 7) := by
  decide

theorem cond1_iff (i : grid0.Coords) : k0_cond1 i = 1#1 ↔ (i 2).val = 0 := (conds ⟨(i 2).val, (i 2).isLt⟩).1
theorem cond2_iff (i : grid0.Coords) : k0_cond2 i = 1#1 ↔ (i 2).val ≠ 7 := (conds ⟨(i 2).val, (i 2).isLt⟩).2.1
theorem cond3_iff (i : grid0.Coords) : k0_cond3 i = 1#1 ↔ (i 2).val = 7 := (conds ⟨(i 2).val, (i 2).isLt⟩).2.2

/-! ## The accesses -/

abbrev rX : Rect S1x1024x1024 := Rect.unit (s := S1x1024x1024) ![0, 0, 0] S1x1024x1024.size inb_S1x1024x1024_S1x1024x1024_0_0_0
abbrev rV : Rect S1x1x1024 := Rect.unit (s := S1x1x1024) ![0, 0, 0] S1x1x1024.size inb_S1x1x1024_S1x1x1024_0_0_0
abbrev rH : Rect S1024x1024 := Rect.unit (s := S1024x1024) ![0, 0] S1024x1024.size inb_S1024x1024_S1024x1024_0_0
abbrev rL : Rect S1024x384 := Rect.unit (s := S1024x384) ![0, 0] S1024x384.size inb_S1024x384_S1024x384_0_0
abbrev rO : Rect S1x1024x384 := Rect.unit (s := S1x1024x384) ![0, 0, 0] S1x1024x384.size inb_S1x1024x384_S1x1024x384_0_0_0
abbrev rW (i : grid0.Coords) (h : k0_cond2 i = 1#1) : Rect S7x1024x1024 :=
  Rect.unit (s := S7x1024x1024) (k0_off1 i) S1x1024x1024.size (k0_off1_inb i h)

/-! ## What the branches leave -/

/-- The normalised rows, in the scratch. -/
def rowsOf (x : Vec F S1x1024x1024 .f32) (s h : Vec F S1x1x1024 .f32) : Vec F S1024x1024 .bf16 :=
  View.canon [⟨rH, k0_pay1 (View.ld x rX) (View.ld s rV) (View.ld h rV)⟩]

/-- The rows times one slice of the weights. -/
def mainOf (i : grid0.Coords) (hi : k0_cond2 i = 1#1) (r : Vec F S1024x1024 .bf16) (w : Vec F S7x1024x1024 .bf16) : Vec F S1x1024x1024 .f32 :=
  View.canon [⟨rX, k0_pay2 (View.ld r rH) (View.ld w (rW i hi))⟩]

/-- The rows times the narrow weights. -/
def loraOf (r : Vec F S1024x1024 .bf16) (w : Vec F S1024x384 .bf16) : Vec F S1x1024x384 .f32 :=
  View.canon [⟨rO, k0_pay3 (View.ld r rH) (View.ld w rL)⟩]

theorem coverH (p : Vec F S1024x1024 .bf16) (y : S1024x1024.Idx) :
    ∃ pc ∈ ([⟨rH, p⟩] : List (View.Piece (Elt F) S1024x1024 .bf16)), y ∈ pc.1.set :=
  View.cover_of_tiled [⟨rH, p⟩] S1024x1024.size (by rfl) y
theorem coverX (p : Vec F S1x1024x1024 .f32) (y : S1x1024x1024.Idx) :
    ∃ pc ∈ ([⟨rX, p⟩] : List (View.Piece (Elt F) S1x1024x1024 .f32)), y ∈ pc.1.set :=
  View.cover_of_tiled [⟨rX, p⟩] S1x1024x1024.size (by rfl) y
theorem coverO (p : Vec F S1x1024x384 .f32) (y : S1x1024x384.Idx) :
    ∃ pc ∈ ([⟨rO, p⟩] : List (View.Piece (Elt F) S1x1024x384 .f32)), y ∈ pc.1.set :=
  View.cover_of_tiled [⟨rO, p⟩] S1x1024x384.size (by rfl) y

/-! ## The branches -/

variable (c : Dev nD) (E : Set ℕ) (i : grid0.Coords)
  (arg3 : Memref sig .tc .vmem S1x1024x1024 .f32) (harg3 : arg3.IsWhole) (arg4 : Memref sig .tc .vmem S1x1x1024 .f32) (harg4 : arg4.IsWhole)
  (arg5 : Memref sig .tc .vmem S1x1x1024 .f32) (harg5 : arg5.IsWhole) (arg6 : Memref sig .tc .vmem S7x1024x1024 .bf16) (harg6 : arg6.IsWhole)
  (arg7 : Memref sig .tc .vmem S1024x384 .bf16) (harg7 : arg7.IsWhole) (arg8 : Memref sig .tc .vmem S1x1024x1024 .f32) (harg8 : arg8.IsWhole)
  (arg9 : Memref sig .tc .vmem S1x1024x384 .f32) (harg9 : arg9.IsWhole) (arg10 : Memref sig .tc .vmem S1024x1024 .bf16) (harg10 : arg10.IsWhole)
  (x0 : Vec F S1x1024x1024 .f32) (x1 x2 : Vec F S1x1x1024 .f32) (x3 : Vec F S7x1024x1024 .bf16) (x4 : Vec F S1024x384 .bf16)
  (s : Vec F S1024x1024 .bf16)

/-- At a block's first point: the rows, and their product with the first slice. -/
theorem body_first (K : PUnit → sProp 𝕄) (h0 : (i 2).val = 0) (h2 : k0_cond2 i = 1#1) :
    iprop(owns (c : Thread nD τ) arg3 fullShare x0 ∗ owns (c : Thread nD τ) arg4 fullShare x1 ∗ owns (c : Thread nD τ) arg5 fullShare x2
        ∗ owns (c : Thread nD τ) arg6 fullShare x3 ∗ (∃ d, owns (c : Thread nD τ) arg8 fullShare d) ∗ (∃ d, owns (c : Thread nD τ) arg10 fullShare d)
        ∗ (iprop(owns (c : Thread nD τ) arg3 fullShare x0 ∗ owns (c : Thread nD τ) arg4 fullShare x1 ∗ owns (c : Thread nD τ) arg5 fullShare x2
          ∗ owns (c : Thread nD τ) arg6 fullShare x3 ∗ owns (c : Thread nD τ) arg8 fullShare (mainOf i h2 (rowsOf x0 x1 x2) x3)
          ∗ owns (c : Thread nD τ) arg10 fullShare (rowsOf x0 x1 x2)) -∗ K ⟨⟩))
      ⊢ wp frame (wpE (defs₀ (F := F)) Variants.none c none) E
        (cc0_inproj i arg3 harg3 arg4 harg4 arg5 harg5 arg6 harg6 arg7 harg7 arg8 harg8 arg9 harg9 arg10 harg10) K := by
  have h1 : k0_cond1 i = 1#1 := (cond1_iff i).2 h0
  have h3 : ¬ k0_cond3 i = 1#1 := fun e => absurd ((cond3_iff i).1 e) (by omega)
  simp only [cc0_inproj_eq_skeleton]; unfold cc0_inproj_skel
  simp only [dif_pos h1, dif_pos h2, dif_neg h3]
  unfold owns
  iintro ⟨⟨%f3, %hf3, H3⟩, ⟨%f4, %hf4, H4⟩, ⟨%f5, %hf5, H5⟩, ⟨%f6, %hf6, H6⟩, ⟨%d8, %f8, -, H8⟩, ⟨%d10, %f10, -, H10⟩, Hk⟩
  subst hf3 hf4 hf5 hf6
  sl_exec
  sl_step
  iapply Hk
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H8]
  · iexists _; isplitr
    swap; · iexact H8
    ipureintro
    refine (View.read_writes_eq_canon _ _ _ (coverX _)).trans ?_
    exact congrArg (fun v => View.canon [(⟨rX, k0_pay2 v (View.ld (arg6.view.read (Elt F) f6) (rW i h2))⟩ : View.Piece (Elt F) S1x1024x1024 .f32)])
      (View.readCov_eq_canon' arg10.view _ _)
  iexists _; isplitr
  swap; · iexact H10
  ipureintro
  exact View.read_writes_eq_canon _ _ _ (coverH _)

/-- At the points after it: the product with the point's slice. -/
theorem body_next (K : PUnit → sProp 𝕄) (h0 : (i 2).val ≠ 0) (h2 : k0_cond2 i = 1#1) :
    iprop(owns (c : Thread nD τ) arg6 fullShare x3 ∗ (∃ d, owns (c : Thread nD τ) arg8 fullShare d) ∗ owns (c : Thread nD τ) arg10 fullShare s
        ∗ (iprop(owns (c : Thread nD τ) arg6 fullShare x3 ∗ owns (c : Thread nD τ) arg8 fullShare (mainOf i h2 s x3)
          ∗ owns (c : Thread nD τ) arg10 fullShare s) -∗ K ⟨⟩))
      ⊢ wp frame (wpE (defs₀ (F := F)) Variants.none c none) E
        (cc0_inproj i arg3 harg3 arg4 harg4 arg5 harg5 arg6 harg6 arg7 harg7 arg8 harg8 arg9 harg9 arg10 harg10) K := by
  have h1 : ¬ k0_cond1 i = 1#1 := fun e => h0 ((cond1_iff i).1 e)
  have h3 : ¬ k0_cond3 i = 1#1 := fun e => (cond2_iff i).1 h2 ((cond3_iff i).1 e)
  simp only [cc0_inproj_eq_skeleton]; unfold cc0_inproj_skel
  simp only [dif_neg h1, dif_pos h2, dif_neg h3]
  unfold owns
  iintro ⟨⟨%f6, %hf6, H6⟩, ⟨%d8, %f8, -, H8⟩, ⟨%f10, %hf10, H10⟩, Hk⟩
  subst hf6 hf10
  sl_exec
  sl_step
  iapply Hk
  isplitl [H6]
  · iexists f6; isplitr; · ipureintro; rfl
    iexact H6
  isplitl [H8]
  · iexists _; isplitr
    swap; · iexact H8
    ipureintro
    exact View.read_writes_eq_canon _ _ _ (coverX _)
  iexists f10; isplitr; · ipureintro; rfl
  iexact H10

/-- At the block's last point: the product with the narrow weights. -/
theorem body_last (K : PUnit → sProp 𝕄) (h7 : (i 2).val = 7) :
    iprop(owns (c : Thread nD τ) arg7 fullShare x4 ∗ (∃ d, owns (c : Thread nD τ) arg9 fullShare d) ∗ owns (c : Thread nD τ) arg10 fullShare s
        ∗ (iprop(owns (c : Thread nD τ) arg7 fullShare x4 ∗ owns (c : Thread nD τ) arg9 fullShare (loraOf s x4)
          ∗ owns (c : Thread nD τ) arg10 fullShare s) -∗ K ⟨⟩))
      ⊢ wp frame (wpE (defs₀ (F := F)) Variants.none c none) E
        (cc0_inproj i arg3 harg3 arg4 harg4 arg5 harg5 arg6 harg6 arg7 harg7 arg8 harg8 arg9 harg9 arg10 harg10) K := by
  have h1 : ¬ k0_cond1 i = 1#1 := fun e => absurd ((cond1_iff i).1 e) (by omega)
  have h2 : ¬ k0_cond2 i = 1#1 := fun e => (cond2_iff i).1 e h7
  have h3 : k0_cond3 i = 1#1 := (cond3_iff i).2 h7
  simp only [cc0_inproj_eq_skeleton]; unfold cc0_inproj_skel
  simp only [dif_neg h1, dif_neg h2, dif_pos h3]
  unfold owns
  iintro ⟨⟨%f7, %hf7, H7⟩, ⟨%d9, %f9, -, H9⟩, ⟨%f10, %hf10, H10⟩, Hk⟩
  subst hf7 hf10
  sl_exec
  sl_step
  iapply Hk
  isplitl [H7]
  · iexists f7; isplitr; · ipureintro; rfl
    iexact H7
  isplitl [H9]
  · iexists _; isplitr
    swap; · iexact H9
    ipureintro
    exact View.read_writes_eq_canon _ _ _ (coverO _)
  iexists f10; isplitr; · ipureintro; rfl
  iexact H10

end Cert.Kernel2Ideal.Projected

end
-- ==== Proof.ProjRun.lean ====
/-
  The run of the projection: the rows a block's first point leaves in the scratch, carried to its last point, and what each
  point leaves in the two results' buffers.
-/
module

public import proofs.«01_k».proof.Proof.ProjBody

@[expose] public section

noncomputable section

namespace Cert.Kernel2Ideal.Projected

open Idealize.ShloMosaic Idealize.ShloMosaic.TcCoe Idealize.ShloMosaic.Tactic
open Idealize.SL Idealize.SL.RA
open Idealize.SL.BI
open scoped Idealize.SL.BI
open Idealize.SL.BI.BIBase Idealize.SL.BI.Laws Idealize.SL.ProofMode Idealize.SL.Sem
open Cert.Kernel2Ideal.Gen
open Idealize.ShloMosaic.Pipeline (Dat Cfg Window BodyObligation cellOf)

variable {F : FTy → Type} [FloatOps F]

local notation "𝕄" => MT nD τ sig Unit (Elt F) ℕ (Idealize.ShloMosaic.UR sig nD τ) ℕ

/-! ## The host operations before the call -/

abbrev hostSegs : List (List (HloOp τ sig (Elt F))) := [hostOps0, hostOps0_1, hostOps0_2]

theorem hostSegs_sub : (hostSegs (F := F)).Forall fun ops => ops.Forall fun op => op.bufs ⊆ StableHlo.tcRefs τ sig := by
  simp only [List.Forall]
  exact ⟨hostOps0_sub, hostOps0_1_sub, hostOps0_2_sub⟩

/-- None of them makes a buffer of its own. -/
theorem hostSegs_fresh : (hostSegs (F := F)).Forall fun ops => ops.Forall fun op => op.fresh = ∅ := by
  simp only [List.Forall]
  refine ⟨?_, ?_, ?_⟩ <;> (repeat' constructor)

variable (m : (ℓ : Loc nD τ sig) → Buf (Elt F) ℓ) (ρ : Dev nD → PrngReg)

/-- The contents of every buffer when the call is entered. -/
def V (c : Dev nD) (b : Ref sig .tc) : Buf (Elt F) ((c : Thread nD τ).loc b) :=
  StableHlo.after (List.flatten hostSegs) (fun b => m (c, b)) b

theorem hmain (𝒱₀ : Variants) :
    Pipeline.HMain (Ix := Unit) (Name := ℕ) (U := UR sig nD τ) (Lvl := ℕ) cfgs 0 defs₀ 𝒱₀ m main (V m) :=
  Pipeline.hmain_prefixes cfgs 0 defs₀ 𝒱₀ m main hostSegs hostSegs_sub hostSegs_fresh main_chain

/-! ## The points -/

theorem t_lt (t : Fin grid0.N) : t.val < 128 := lt_of_lt_of_eq t.isLt N_0

theorem coord0 (t : Fin grid0.N) : (grid0.coords t 0).val = t.val / 64 := by
  have h : ∀ t : Fin grid0.N, (grid0.coords t 0).val = t.val / 64 := by decide +kernel
  exact h t
theorem coord1 (t : Fin grid0.N) : (grid0.coords t 1).val = t.val / 8 % 8 := by
  have h : ∀ t : Fin grid0.N, (grid0.coords t 1).val = t.val / 8 % 8 := by decide +kernel
  exact h t
theorem coord2 (t : Fin grid0.N) : (grid0.coords t 2).val = t.val % 8 := by
  have h : ∀ t : Fin grid0.N, (grid0.coords t 2).val = t.val % 8 := by decide +kernel
  exact h t

/-- The first result's block is written back at every point but those a slice before a block's last. -/
theorem flush5 (t : Fin grid0.N) : win0_5.flush t = decide (t.val % 8 ≠ 6) := by
  have h : ∀ t : Fin grid0.N, Window.flushOf grid0 true cc0_transform_5 t = decide (t.val % 8 ≠ 6) := by decide +kernel
  exact h t
/-- The second's at a block's last point. -/
theorem flush6 (t : Fin grid0.N) : win0_6.flush t = decide (t.val % 8 = 7) := by
  have h : ∀ t : Fin grid0.N, Window.flushOf grid0 true cc0_transform_6 t = decide (t.val % 8 = 7) := by decide +kernel
  exact h t

/-- A block's first point. -/
def base (t : Fin grid0.N) : Fin grid0.N := ⟨t.val - t.val % 8, Nat.lt_of_le_of_lt (Nat.sub_le _ _) t.isLt⟩

theorem base_first (t : Fin grid0.N) (h : t.val % 8 = 0) : base t = t := Fin.ext (by show t.val - t.val % 8 = t.val; omega)

/-- The point whose product the first result's buffer holds after point `t`: `t`, or at a block's last the one before. -/
def src (t : Fin grid0.N) : Fin grid0.N :=
  if t.val % 8 = 7 then ⟨t.val - 1, Nat.lt_of_le_of_lt (Nat.sub_le _ _) t.isLt⟩ else t

theorem src_mod (t : Fin grid0.N) : (src t).val % 8 ≠ 7 := by
  unfold src; split
  · show (t.val - 1) % 8 ≠ 7; omega
  · assumption

theorem src_cond (t : Fin grid0.N) : k0_cond2 (grid0.coords (src t)) = 1#1 :=
  (cond2_iff _).2 (by rw [coord2]; exact src_mod t)

theorem src_self (t : Fin grid0.N) (h : t.val % 8 ≠ 7) : src t = t := by unfold src; rw [if_neg h]

/-- A window's block at a point. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- The rows of the block that holds point `t`. -/
def rowsAt (c : Dev nD) (t : Fin grid0.N) : Vec F S1024x1024 .bf16 :=
  rowsOf (iblk m c 0 (base t)) (iblk m c 1 (base t)) (iblk m c 2 (base t))

/-- The first result's block after point `t`. -/
def mainAt (c : Dev nD) (t : Fin grid0.N) : Vec F S1x1024x1024 .f32 :=
  mainOf (grid0.coords (src t)) (src_cond t) (rowsAt m c (src t)) (iblk m c 3 (src t))

theorem mainOf_congr (c : Dev nD) (t t' : Fin grid0.N) (e : t = t') (h : k0_cond2 (grid0.coords t) = 1#1) (h' : k0_cond2 (grid0.coords t') = 1#1) :
    mainOf (grid0.coords t) h (rowsAt m c t) (iblk m c 3 t) = mainOf (grid0.coords t') h' (rowsAt m c t') (iblk m c 3 t') := by
  subst e; rfl

/-- The second result's, after a block's last point. -/
def loraAt (c : Dev nD) (t : Fin grid0.N) : Vec F S1x1024x384 .f32 := loraOf (rowsAt m c t) (iblk m c 4 t)

/-- The scratch before point `n`: anything at a block's first, its rows after. -/
def Held (c : Dev nD) (n : Fin (grid0.N + 1)) (f : Vec F S1024x1024 .bf16) : Prop :=
  ∀ t : Fin grid0.N, t.val + 1 = n.val → n.val % 8 ≠ 0 → f = rowsAt m c t

/-- What the body carries from point to point. -/
def Inv (c : Dev nD) (n : Fin (grid0.N + 1)) : sProp 𝕄 :=
  iprop((∃ f, ⌜Held m c n f⌝ ∗ owns (c : Thread nD τ) (Memref.whole cc0_scratch0) fullShare f) ∗ (∃ r, prngReg c r))

def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => mainAt m c t
    | ⟨6, _⟩ => loraAt m c t
  Φ t := Inv m c t
  q _ := fullShare
  owed _ := 0

theorem A_eq (c : Dev nD) (w : Fin cfg0.W) : (dats m 0 c).A w = V m c (Pipeline.arrRef spec0 w) := by
  dsimp only [dats]

theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = iblk m c 2 t := by dsimp only [dats]
theorem after3 (c : Dev nD) (t : Fin cfg0.N) : (dats m 0 c).after 3 t = iblk m c 3 t := by dsimp only [dats]
theorem after4 (c : Dev nD) (t : Fin cfg0.N) : (dats m 0 c).after 4 t = iblk m c 4 t := by dsimp only [dats]
theorem after5 (c : Dev nD) (t : Fin cfg0.N) : (dats m 0 c).after 5 t = mainAt m c t := by dsimp only [dats]
theorem after6 (c : Dev nD) (t : Fin cfg0.N) : (dats m 0 c).after 6 t = loraAt m c t := by dsimp only [dats]

theorem before0 (c : Dev nD) (t : Fin cfg0.N) (d) : (dats m 0 c).before 0 t d = iblk m c 0 t :=
  ((dats m 0 c).before_in_eq_fetched 0 rfl (fun _ => rfl) (fun _ _ _ => rfl) (fun t => by rw [after0]; unfold Dat.blockOf iblk; rw [A_eq]; try rfl) t d).trans
    (by unfold Dat.fetched Dat.blockOf iblk; rw [A_eq]; try rfl)
theorem before1 (c : Dev nD) (t : Fin cfg0.N) (d) : (dats m 0 c).before 1 t d = iblk m c 1 t :=
  ((dats m 0 c).before_in_eq_fetched 1 rfl (fun _ => rfl) (fun _ _ _ => rfl) (fun t => by rw [after1]; unfold Dat.blockOf iblk; rw [A_eq]; try rfl) t d).trans
    (by unfold Dat.fetched Dat.blockOf iblk; rw [A_eq]; try rfl)
theorem before2 (c : Dev nD) (t : Fin cfg0.N) (d) : (dats m 0 c).before 2 t d = iblk m c 2 t :=
  ((dats m 0 c).before_in_eq_fetched 2 rfl (fun _ => rfl) (fun _ _ _ => rfl) (fun t => by rw [after2]; unfold Dat.blockOf iblk; rw [A_eq]; try rfl) t d).trans
    (by unfold Dat.fetched Dat.blockOf iblk; rw [A_eq]; try rfl)
theorem before3 (c : Dev nD) (t : Fin cfg0.N) (d) : (dats m 0 c).before 3 t d = iblk m c 3 t :=
  ((dats m 0 c).before_in_eq_fetched 3 rfl (fun _ => rfl) (fun _ _ _ => rfl) (fun t => by rw [after3]; unfold Dat.blockOf iblk; rw [A_eq]; try rfl) t d).trans
    (by unfold Dat.fetched Dat.blockOf iblk; rw [A_eq]; try rfl)
theorem before4 (c : Dev nD) (t : Fin cfg0.N) (d) : (dats m 0 c).before 4 t d = iblk m c 4 t :=
  ((dats m 0 c).before_in_eq_fetched 4 rfl (fun _ => rfl) (fun _ _ _ => rfl) (fun t => by rw [after4]; unfold Dat.blockOf iblk; rw [A_eq]; try rfl) t d).trans
    (by unfold Dat.fetched Dat.blockOf iblk; rw [A_eq]; try rfl)

theorem idle5 (t : Fin cfg0.N) : cfg0.idle 5 (cfg0.grid.coords t) = decide (t.val % 8 = 7) := by
  show (!(k0_cond2 (grid0.coords t) == 1#1)) = _
  have h := cond2_iff (grid0.coords t)
  rw [coord2] at h
  by_cases e : t.val % 8 = 7
  · rw [decide_eq_true e, beq_eq_false_iff_ne.2 (fun x => h.1 x e)]; rfl
  · rw [decide_eq_false e, beq_iff_eq.2 (h.2 e)]; rfl

theorem idle6 (t : Fin cfg0.N) : cfg0.idle 6 (cfg0.grid.coords t) = decide (t.val % 8 ≠ 7) := by
  show (!(k0_cond3 (grid0.coords t) == 1#1)) = _
  have h := cond3_iff (grid0.coords t)
  rw [coord2] at h
  by_cases e : t.val % 8 = 7
  · rw [decide_eq_false (fun x => x e), beq_iff_eq.2 (h.2 e)]; rfl
  · rw [decide_eq_true e, beq_eq_false_iff_ne.2 (fun x => e (h.1 x))]; rfl

/-- At a block's last point the first result's buffer holds what the point before left. -/
theorem before5_last (c : Dev nD) (t : Fin cfg0.N) (h : t.val % 8 = 7) (d) : (dats m 0 c).before 5 t d = mainAt m c t := by
  rw [(dats m 0 c).before_of_pos 5 t (by omega) (Window.fetch_out win0_5 rfl t) d]
  have hf : (cfg0.win 5).flush ⟨t.val - 1, Nat.lt_of_le_of_lt (Nat.sub_le _ _) t.isLt⟩ = false :=
    (flush5 _).trans (decide_eq_false (by show ¬ (t.val - 1) % 8 ≠ 6; omega))
  rw [hf, if_neg Bool.false_ne_true]
  unfold Dat.left
  rw [idle5, decide_eq_false (by show ¬ (t.val - 1) % 8 = 7; omega)]
  show (dats m 0 c).after 5 ⟨t.val - 1, Nat.lt_of_le_of_lt (Nat.sub_le _ _) t.isLt⟩ = mainAt m c t
  rw [after5]
  have e : src ⟨t.val - 1, Nat.lt_of_le_of_lt (Nat.sub_le _ _) t.isLt⟩ = src t := by
    rw [src_self _ (by show (t.val - 1) % 8 ≠ 7; omega)]; unfold src; rw [if_pos h]
  exact mainOf_congr m c _ _ e _ _

theorem leaves5_live (c : Dev nD) (t : Fin cfg0.N) (h : t.val % 8 ≠ 7) :
    (dats m 0 c).leavesExact 5 t = owns (c : Thread nD τ) (win0_5.stage (cfg0.slots t 5)) fullShare (mainAt m c t) := by
  unfold Dat.leavesExact
  rw [idle5, decide_eq_false h, after5]
theorem leaves5_last (c : Dev nD) (t : Fin cfg0.N) (h : t.val % 8 = 7) :
    (dats m 0 c).leavesExact 5 t = owns (c : Thread nD τ) (win0_5.stage (cfg0.slots t 5)) fullShare (mainAt m c t) := by
  unfold Dat.leavesExact
  rw [idle5, decide_eq_true h, show (cfg0.win 5).flush t = true from (flush5 t).trans (decide_eq_true (by omega)), after5]
theorem leaves6_idle (c : Dev nD) (t : Fin cfg0.N) (h : t.val % 8 ≠ 7) :
    (dats m 0 c).leavesExact 6 t = iprop(∃ d, owns (c : Thread nD τ) (win0_6.stage (cfg0.slots t 6)) fullShare ((dats m 0 c).before 6 t d)) :=
  (dats m 0 c).leavesExact_idle 6 t ((idle6 t).trans (decide_eq_true h)) ((flush6 t).trans (decide_eq_false h))
theorem leaves6_last (c : Dev nD) (t : Fin cfg0.N) (h : t.val % 8 = 7) :
    (dats m 0 c).leavesExact 6 t = owns (c : Thread nD τ) (win0_6.stage (cfg0.slots t 6)) fullShare (loraAt m c t) := by
  unfold Dat.leavesExact
  rw [idle6, decide_eq_false (fun x => x h), after6]

/-! ## The body's obligation -/

abbrev bodyAt (t : Fin cfg0.N) : Prog (TpuEff nD τ sig (Elt F) Λ₀ .tc) PUnit :=
  cc0_inproj (grid0.coords t) (win0_0.stage (cfg0.slots t 0)) (hstage0_0 ((cfg0.slots t 0).cast nbuf0_0)) (win0_1.stage (cfg0.slots t 1)) (hstage0_1 ((cfg0.slots t 1).cast nbuf0_1)) (win0_2.stage (cfg0.slots t 2)) (hstage0_2 ((cfg0.slots t 2).cast nbuf0_2)) (win0_3.stage (cfg0.slots t 3)) (hstage0_3 ((cfg0.slots t 3).cast nbuf0_3)) (win0_4.stage (cfg0.slots t 4)) (hstage0_4 ((cfg0.slots t 4).cast nbuf0_4)) (win0_5.stage (cfg0.slots t 5)) (hstage0_5 ((cfg0.slots t 5).cast nbuf0_5)) (win0_6.stage (cfg0.slots t 6)) (hstage0_6 ((cfg0.slots t 6).cast nbuf0_6)) (Memref.whole cc0_scratch0) (Memref.isWhole_whole _)

def bodyPre (c : Dev nD) (t : Fin cfg0.N) : sProp 𝕄 :=
  iprop(Inv m c t.castSucc ∗ (dats m 0 c).owesAt () t.castSucc
    ∗ (∃ d, owns (c : Thread nD τ) (win0_0.stage (cfg0.slots t 0)) fullShare ((dats m 0 c).before 0 t d))
    ∗ (∃ d, owns (c : Thread nD τ) (win0_1.stage (cfg0.slots t 1)) fullShare ((dats m 0 c).before 1 t d))
    ∗ (∃ d, owns (c : Thread nD τ) (win0_2.stage (cfg0.slots t 2)) fullShare ((dats m 0 c).before 2 t d))
    ∗ (∃ d, owns (c : Thread nD τ) (win0_3.stage (cfg0.slots t 3)) fullShare ((dats m 0 c).before 3 t d))
    ∗ (∃ d, owns (c : Thread nD τ) (win0_4.stage (cfg0.slots t 4)) fullShare ((dats m 0 c).before 4 t d))
    ∗ (∃ d, owns (c : Thread nD τ) (win0_5.stage (cfg0.slots t 5)) fullShare ((dats m 0 c).before 5 t d))
    ∗ (∃ d, owns (c : Thread nD τ) (win0_6.stage (cfg0.slots t 6)) fullShare ((dats m 0 c).before 6 t d)))

def bodyPost (c : Dev nD) (t : Fin cfg0.N) : sProp 𝕄 :=
  iprop(Inv m c t.succ ∗ (dats m 0 c).owesAt () t.succ
    ∗ owns (c : Thread nD τ) (win0_0.stage (cfg0.slots t 0)) fullShare ((dats m 0 c).after 0 t)
    ∗ owns (c : Thread nD τ) (win0_1.stage (cfg0.slots t 1)) fullShare ((dats m 0 c).after 1 t)
    ∗ owns (c : Thread nD τ) (win0_2.stage (cfg0.slots t 2)) fullShare ((dats m 0 c).after 2 t)
    ∗ owns (c : Thread nD τ) (win0_3.stage (cfg0.slots t 3)) fullShare ((dats m 0 c).after 3 t)
    ∗ owns (c : Thread nD τ) (win0_4.stage (cfg0.slots t 4)) fullShare ((dats m 0 c).after 4 t)
    ∗ (dats m 0 c).leavesExact 5 t
    ∗ (dats m 0 c).leavesExact 6 t)

theorem held_succ (c : Dev nD) (t : Fin grid0.N) : Held m c t.succ (rowsAt m c t) := fun t' e _ => by
  have : t' = t := Fin.ext (by simpa using e)
  rw [this]

theorem held_rows (c : Dev nD) (t : Fin grid0.N) (h : t.val % 8 ≠ 0) (f : Vec F S1024x1024 .bf16) (hf : Held m c t.castSucc f) :
    f = rowsAt m c t := by
  have h1 := hf ⟨t.val - 1, Nat.lt_of_le_of_lt (Nat.sub_le _ _) t.isLt⟩ (by show t.val - 1 + 1 = t.val; omega) h
  rw [h1]
  unfold rowsAt
  have e : base ⟨t.val - 1, Nat.lt_of_le_of_lt (Nat.sub_le _ _) t.isLt⟩ = base t :=
    Fin.ext (by show t.val - 1 - (t.val - 1) % 8 = t.val - t.val % 8; omega)
  rw [e]

theorem sound_first (c : Dev nD) (t : Fin cfg0.N) (h : t.val % 8 = 0) :
    bodyPre m c t ⊢ wp frame (wpE (defs₀ (F := F)) Variants.none c none) Set.univ (bodyAt t) (fun _ => bodyPost m c t) := by
  unfold bodyPre bodyPost bodyAt
  simp only [before0, before1, before2, before3, before4]
  rw [leaves5_live m c t (by omega), leaves6_idle m c t (by omega), after0, after1, after2, after3, after4,
    show (dats m 0 c).owesAt () t.succ = (dats m 0 c).owesAt () t.castSucc from rfl]
  have er : rowsOf (iblk m c 0 t) (iblk m c 1 t) (iblk m c 2 t) = rowsAt m c t := by unfold rowsAt; rw [base_first t h]
  have hc : k0_cond2 (grid0.coords t) = 1#1 := (cond2_iff _).2 (by rw [coord2]; omega)
  have em : mainOf (grid0.coords t) hc (rowsAt m c t) (iblk m c 3 t) = mainAt m c t := by
    exact (mainOf_congr m c _ _ (src_self t (by omega)) _ _).symm
  unfold Inv
  iintro ⟨⟨⟨%f, -, HS⟩, Hr⟩, Ho, ⟨%d0, H0⟩, ⟨%d1, H1⟩, ⟨%d2, H2⟩, ⟨%d3, H3⟩, ⟨%d4, H4⟩, ⟨%d5, H5⟩, H6⟩
  iapply (body_first c Set.univ (grid0.coords t) _ _ _ _ _ _ _ _ _ _ _ _ _ _ _ _ (iblk m c 0 t) (iblk m c 1 t) (iblk m c 2 t) (iblk m c 3 t) _
    ((coord2 t).trans h) hc)
  isplitl [H0]; · iexact H0
  isplitl [H1]; · iexact H1
  isplitl [H2]; · iexact H2
  isplitl [H3]; · iexact H3
  isplitl [H5]; · iexists _; iexact H5
  isplitl [HS]; · iexists _; iexact HS
  rw [er, em]
  iintro ⟨H0, H1, H2, H3, H5, HS⟩
  isplitl [HS Hr]
  · isplitl [HS]
    · iexists (rowsAt m c t)
      isplitr
      · ipureintro; exact held_succ m c t
      iexact HS
    iexact Hr
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

theorem sound_next (c : Dev nD) (t : Fin cfg0.N) (h : t.val % 8 ≠ 0) (h7 : t.val % 8 ≠ 7) :
    bodyPre m c t ⊢ wp frame (wpE (defs₀ (F := F)) Variants.none c none) Set.univ (bodyAt t) (fun _ => bodyPost m c t) := by
  unfold bodyPre bodyPost bodyAt
  simp only [before0, before1, before2, before3, before4]
  rw [leaves5_live m c t h7, leaves6_idle m c t h7, after0, after1, after2, after3, after4,
    show (dats m 0 c).owesAt () t.succ = (dats m 0 c).owesAt () t.castSucc from rfl]
  have hc : k0_cond2 (grid0.coords t) = 1#1 := (cond2_iff _).2 (by rw [coord2]; exact h7)
  have em : mainOf (grid0.coords t) hc (rowsAt m c t) (iblk m c 3 t) = mainAt m c t := by
    exact (mainOf_congr m c _ _ (src_self t h7) _ _).symm
  unfold Inv
  iintro ⟨⟨⟨%f, %hf, HS⟩, Hr⟩, Ho, ⟨%d0, H0⟩, ⟨%d1, H1⟩, ⟨%d2, H2⟩, ⟨%d3, H3⟩, ⟨%d4, H4⟩, ⟨%d5, H5⟩, H6⟩
  obtain rfl := held_rows m c t h f hf
  iapply (body_next c Set.univ (grid0.coords t) _ _ _ _ _ _ _ _ _ _ _ _ _ _ _ _ (iblk m c 3 t) (rowsAt m c t) _
    (by rw [coord2]; exact h) hc)
  isplitl [H3]; · iexact H3
  isplitl [H5]; · iexists _; iexact H5
  isplitl [HS]; · iexact HS
  rw [em]
  iintro ⟨H3, H5, HS⟩
  isplitl [HS Hr]
  · isplitl [HS]
    · iexists (rowsAt m c t)
      isplitr
      · ipureintro; exact held_succ m c t
      iexact HS
    iexact Hr
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

theorem sound_last (c : Dev nD) (t : Fin cfg0.N) (h7 : t.val % 8 = 7) :
    bodyPre m c t ⊢ wp frame (wpE (defs₀ (F := F)) Variants.none c none) Set.univ (bodyAt t) (fun _ => bodyPost m c t) := by
  unfold bodyPre bodyPost bodyAt
  simp only [before0, before1, before2, before3, before4, before5_last m c t h7]
  rw [leaves5_last m c t h7, leaves6_last m c t h7, after0, after1, after2, after3, after4,
    show (dats m 0 c).owesAt () t.succ = (dats m 0 c).owesAt () t.castSucc from rfl]
  unfold Inv
  iintro ⟨⟨⟨%f, %hf, HS⟩, Hr⟩, Ho, ⟨%d0, H0⟩, ⟨%d1, H1⟩, ⟨%d2, H2⟩, ⟨%d3, H3⟩, ⟨%d4, H4⟩, ⟨%d5, H5⟩, ⟨%d6, H6⟩⟩
  obtain rfl := held_rows m c t (by omega) f hf
  iapply (body_last c Set.univ (grid0.coords t) _ _ _ _ _ _ _ _ _ _ _ _ _ _ _ _ (iblk m c 4 t) (rowsAt m c t) _
    ((coord2 t).trans h7))
  isplitl [H4]; · iexact H4
  isplitl [H6]; · iexists _; iexact H6
  isplitl [HS]; · iexact HS
  iintro ⟨H4, H6, HS⟩
  isplitl [HS Hr]
  · isplitl [HS]
    · iexists (rowsAt m c t)
      isplitr
      · ipureintro; exact held_succ m c t
      iexact HS
    iexact Hr
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

theorem sound_body (c : Dev nD) (t : Fin cfg0.N) :
    bodyPre m c t ⊢ wp frame (wpE (defs₀ (F := F)) Variants.none c none) Set.univ (bodyAt t) (fun _ => bodyPost m c t) := by
  by_cases h : t.val % 8 = 0
  · exact sound_first m c t h
  · by_cases h7 : t.val % 8 = 7
    · exact sound_last m c t h7
    · exact sound_next m c t h h7

theorem defs₀_row (t : Fin cfg0.N) :
    defs₀ (F := F) .tc cfg0.body (cfg0.bodyArgs t (cfg0.slots t)) = bodyAt t := by
  unfold defs₀; rw [Defs.onTc_tc]

theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-! ## The run -/

theorem enter (c : Dev nD) : Pipeline.ΦA spec0 c ⊢ (Inv m c 0 : sProp 𝕄) := by
  unfold Pipeline.ΦA Inv
  rw [scopedRest0_eq]
  simp only [owns_whole]
  iintro ⟨⟨%f, Hsc⟩, Hr⟩
  isplitl [Hsc]
  · iexists f
    isplitr
    · ipureintro; exact fun _ e => absurd e (Nat.succ_ne_zero _)
    iexact Hsc
  iexact Hr

theorem leave (c : Dev nD) : (Inv m c (Fin.last grid0.N) : sProp 𝕄) ⊢ Pipeline.ΦA spec0 c := by
  unfold Pipeline.ΦA Inv
  rw [scopedRest0_eq]
  simp only [owns_whole]
  iintro ⟨⟨%f, -, Hsc⟩, Hr⟩
  isplitl [Hsc]
  · iexists f; iexact Hsc
  iexact Hr

set_option backward.isDefEq.respectTransparency.types false in
/-- The run: every execution ends, with each window's array as the points leave it, every other array as the call found it,
    every semaphore at zero. -/
theorem run_main : θ_run defs (onTc (τ := τ) (main (F := F))) (s₀ m ρ)
    (fun r => (Pipeline.FramePost cfgs (dats m) 0 (V m)) r ∧ r.2.sem = fun _ => 0) :=
  Pipeline.θ_run_frame_track (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m)
    (hin := fun c => enter m c) (hout := fun c => leave m c)

end Cert.Kernel2Ideal.Projected

end
-- ==== Proof.ProjFrame.lean ====
/-
  What the host's operations leave before the projection's call, and the call's frame.
-/
module

public import proofs.«01_k».proof.Proof.ProjRun
public import Idealize.ShloMosaic.Lib.StableHlo.Run
public import Idealize.ShloMosaic.Lib.Pipeline.ValueKit.Geometry

@[expose] public section

noncomputable section

namespace Cert.Kernel2Ideal.Projected

open Idealize.ShloMosaic Idealize.ShloMosaic.TcCoe
open Idealize.SL.Sem
open Cert.Kernel2Ideal.Gen

variable {F : FTy → Type} [FloatOps F]
variable (m : (ℓ : Loc nD τ sig) → Buf (Elt F) ℓ) (ρ : Dev nD → PrngReg)

theorem V_args (c : Dev nD) : V m c main_arg0 = m (c, Proc.devRef .tc main_arg0) ∧ V m c main_arg1 = m (c, Proc.devRef .tc main_arg1)
    ∧ V m c main_arg2 = m (c, Proc.devRef .tc main_arg2) ∧ V m c main_arg3 = m (c, Proc.devRef .tc main_arg3) := by
  unfold V hostSegs
  simp only [List.flatten_cons, List.flatten_nil, List.append_nil]
  unfold hostOps0 hostOps0_1 hostOps0_2
  refine ⟨?_, ?_, ?_, ?_⟩ <;> after_results_simp <;> rfl

/-- The run, its arguments as they were. -/
theorem run_args : θ_run defs (onTc (τ := τ) (main (F := F))) (s₀ m ρ)
    (fun r => (∀ c : Dev nD,
        r.2.mem ((c.tc : Thread nD τ).loc main_v19_0) = (dats m 0 c).arrAt 5 cfg0.N
        ∧ r.2.mem ((c.tc : Thread nD τ).loc main_v19_1) = (dats m 0 c).arrAt 6 cfg0.N
        ∧ r.2.mem ((c.tc : Thread nD τ).loc main_arg0) = m ((c.tc : Thread nD τ).loc main_arg0)
        ∧ r.2.mem ((c.tc : Thread nD τ).loc main_arg1) = m ((c.tc : Thread nD τ).loc main_arg1)
        ∧ r.2.mem ((c.tc : Thread nD τ).loc main_arg2) = m ((c.tc : Thread nD τ).loc main_arg2)
        ∧ r.2.mem ((c.tc : Thread nD τ).loc main_arg3) = m ((c.tc : Thread nD τ).loc main_arg3))
      ∧ r.2.sem = fun _ => 0) :=
  (θ_run defs _ _).mono (fun _ h => ⟨fun c => ⟨h.1.out_eq c 5, h.1.out_eq c 6,
    ((h.1.in_eq c 0 rfl).trans (A_eq m c 0)).trans (V_args m c).1,
    ((h.1.in_eq c 1 rfl).trans (A_eq m c 1)).trans (V_args m c).2.1,
    ((h.1.in_eq c 2 rfl).trans (A_eq m c 2)).trans (V_args m c).2.2.1,
    (h.1.rest_eq c main_arg3 (by decide)).trans (V_args m c).2.2.2⟩, h.2⟩) (run_main m ρ)

end Cert.Kernel2Ideal.Projected

end
-- ==== Proof.ProjRows.lean ====
/-
  The projection's payloads, read at an index over the reals.
-/
module

public import proofs.«01_k».proof.Proof.Gen.Kernel2Ideal.Skeleton
public import Idealize.ShloMosaic.Lib.Pointwise

@[expose] public section

noncomputable section

namespace Cert.Projection

open Idealize.ShloMosaic Idealize.ShloMosaic.TcCoe

/-- A row's mean. -/
def mean (f : Fin 1024 → EReal) : EReal := Ideal.div (∑ d : Fin 1024, f d) (Ideal.ofBits .f32 0x44800000#32)

/-- A row normalised, scaled and shifted. -/
def normed (f s h : Fin 1024 → EReal) (d : Fin 1024) : EReal :=
  (f d - mean f) * Ideal.rsqrt (mean (fun e => (f e - mean f) * (f e - mean f)) + Ideal.ofBits .f32 0x3727C5AC#32)
    * (Ideal.ofBits .f32 0x3F800000#32 + s d) + h d

/-- A normalised row times a column of the weights. -/
def entry (x : (⟨3, ![2, 8192, 1024]⟩ : Shape).Idx → EReal) (s h : (⟨3, ![2, 1, 1024]⟩ : Shape).Idx → EReal)
    (w : (⟨2, ![1024, 7456]⟩ : Shape).Idx → EReal) (b : Fin 2) (r : Fin 8192) (j : Fin 7456) : EReal :=
  ∑ d : Fin 1024, normed (fun e => x (ix3 b r e)) (fun e => s (ix3 b 0 e)) (fun e => h (ix3 b 0 e)) d * w (ix2 d j)

/-- The column of the weights a column of the first result is a product with: those of the narrow part left out. -/
def col (j : ℕ) : ℕ := if j < 3072 then j else j + 288

theorem col_lt (j : ℕ) (h : j < 7168) : col j < 7456 := by unfold col; split <;> omega

/-- The first result. -/
def wide (x : (⟨3, ![2, 8192, 1024]⟩ : Shape).Idx → EReal) (s h : (⟨3, ![2, 1, 1024]⟩ : Shape).Idx → EReal)
    (w : (⟨2, ![1024, 7456]⟩ : Shape).Idx → EReal) (i : (⟨3, ![2, 8192, 7168]⟩ : Shape).Idx) : EReal :=
  entry x s h w (i 0) (i 1) ⟨col (i 2).val, col_lt _ (i 2).isLt⟩

/-- The second: the narrow part's columns, then zeros. -/
def narrow (x : (⟨3, ![2, 8192, 1024]⟩ : Shape).Idx → EReal) (s h : (⟨3, ![2, 1, 1024]⟩ : Shape).Idx → EReal)
    (w : (⟨2, ![1024, 7456]⟩ : Shape).Idx → EReal) (i : (⟨3, ![2, 8192, 384]⟩ : Shape).Idx) : EReal :=
  if q : (i 2).val < 288 then entry x s h w (i 0) (i 1) ⟨3072 + (i 2).val, by omega⟩ else 0

end Cert.Projection

namespace Cert.Kernel2Ideal.Projected

open Idealize.ShloMosaic Idealize.ShloMosaic.TcCoe
open Cert.Kernel2Ideal.Gen Cert.Projection

theorem pay1_at (x : Vec Ideal S1x1024x1024 .f32) (s h : Vec Ideal S1x1x1024 .f32) (a d : Fin 1024) :
    k0_pay1 x s h (ix2 a d) = normed (fun e => x (ix3 0 a e)) (fun e => s (ix3 0 0 e)) (fun e => h (ix3 0 0 e)) d := by
  pointwise [k0_pay1, normed, mean]

theorem pay2_at (r : Vec Ideal S1024x1024 .bf16) (w : Vec Ideal S1x1024x1024 .bf16) (a c : Fin 1024) :
    k0_pay2 r w (ix3 0 a c) = ∑ d : Fin 1024, r (ix2 a d) * w (ix3 0 d c) := by
  pointwise [k0_pay2]

theorem pay3_at (r : Vec Ideal S1024x1024 .bf16) (w : Vec Ideal S1024x384 .bf16) (a : Fin 1024) (c : Fin 384) :
    k0_pay3 r w (ix3 0 a c) = ∑ d : Fin 1024, r (ix2 a d) * w (ix2 d c) := by
  pointwise [k0_pay3]

end Cert.Kernel2Ideal.Projected

end
-- ==== Proof.ProjWeights.lean ====
/-
  The weights the host lays out before the projection's call, read at an index over the reals.
-/
module

public import proofs.«01_k».proof.Proof.ProjFrame
public import proofs.«01_k».proof.Proof.ProjRows
public import Idealize.ShloMosaic.Lib.KernelVsHost

@[expose] public section

noncomputable section

namespace Cert.Kernel2Ideal.Projected

open Idealize.ShloMosaic Idealize.ShloMosaic.TcCoe
open Cert.Kernel2Ideal.Gen Cert.Projection

/-- The wide weights, as the host stacks them. -/
def stackW {F : FTy → Type} [FloatOps F] (w : Vec F S1024x7456 .f32) : Vec F S7x1024x1024 .bf16 :=
  truncf .bf16 (concatenate S7x1024x1024 0
    [⟨S1x1024x1024, broadcastInDim S1x1024x1024 ![1, 2] bcast_S1024x1024_S1x1024x1024_1_2 (extractStridedSlice S1024x1024 ![0, 0] w slices_S1024x7456_S1024x1024_0_0)⟩,
     ⟨S1x1024x1024, broadcastInDim S1x1024x1024 ![1, 2] bcast_S1024x1024_S1x1024x1024_1_2 (extractStridedSlice S1024x1024 ![0, 1024] w slices_S1024x7456_S1024x1024_0_1024)⟩,
     ⟨S1x1024x1024, broadcastInDim S1x1024x1024 ![1, 2] bcast_S1024x1024_S1x1024x1024_1_2 (extractStridedSlice S1024x1024 ![0, 2048] w slices_S1024x7456_S1024x1024_0_2048)⟩,
     ⟨S1x1024x1024, broadcastInDim S1x1024x1024 ![1, 2] bcast_S1024x1024_S1x1024x1024_1_2 (extractStridedSlice S1024x1024 ![0, 3360] w slices_S1024x7456_S1024x1024_0_3360)⟩,
     ⟨S1x1024x1024, broadcastInDim S1x1024x1024 ![1, 2] bcast_S1024x1024_S1x1024x1024_1_2 (extractStridedSlice S1024x1024 ![0, 4384] w slices_S1024x7456_S1024x1024_0_4384)⟩,
     ⟨S1x1024x1024, broadcastInDim S1x1024x1024 ![1, 2] bcast_S1024x1024_S1x1024x1024_1_2 (extractStridedSlice S1024x1024 ![0, 5408] w slices_S1024x7456_S1024x1024_0_5408)⟩,
     ⟨S1x1024x1024, broadcastInDim S1x1024x1024 ![1, 2] bcast_S1024x1024_S1x1024x1024_1_2 (extractStridedSlice S1024x1024 ![0, 6432] w slices_S1024x7456_S1024x1024_0_6432)⟩]
    concatenates_S1x1024x1024_S1x1024x1024_S1x1024x1024_S1x1024x1024_S1x1024x1024_S1x1024x1024_S1x1024x1024_S7x1024x1024_d0) bitsLt_bf16_f32

/-- The narrow weights, as the host pads them. -/
def padW {F : FTy → Type} [FloatOps F] (w : Vec F S1024x7456 .f32) : Vec F S1024x384 .bf16 :=
  truncf .bf16 (pad S1024x384 ![0, 0] ![0, 96] ![0, 0] (extractStridedSlice S1024x288 ![0, 3072] w slices_S1024x7456_S1024x288_0_3072)
    (sitofp .f32 (constantI S_ 32 0#32)) pads_S1024x288_S1024x384_000_0960 h_S_) bitsLt_bf16_f32

section
variable {F : FTy → Type} [FloatOps F]
variable (m : (ℓ : Loc nD τ sig) → Buf (Elt F) ℓ)

theorem V_stack (c : Dev nD) : V m c main_v15 = stackW (F := F) (m (c, Proc.devRef .tc main_arg3)) := by
  unfold V hostSegs
  simp only [List.flatten_cons, List.flatten_nil, List.append_nil]
  unfold hostOps0 hostOps0_1 hostOps0_2
  after_results_simp <;> rfl

theorem V_pad (c : Dev nD) : V m c main_v18 = padW (F := F) (m (c, Proc.devRef .tc main_arg3)) := by
  unfold V hostSegs
  simp only [List.flatten_cons, List.flatten_nil, List.append_nil]
  unfold hostOps0 hostOps0_1 hostOps0_2
  after_results_simp <;> rfl
end

theorem stackW_at (w : Vec Ideal S1024x7456 .f32) (k : Fin 7) (d e : Fin 1024) :
    stackW (F := Ideal) w (ix3 k d e) = w (ix2 d ⟨col (k.val * 1024 + e.val), col_lt _ (by omega)⟩) := by
  fin_cases k <;> (pointwise [stackW, col]; refine congrArg w (congrArg (ix2 d) (Fin.ext ?_)); dsimp only; first | omega | (split <;> omega))

theorem padW_at (w : Vec Ideal S1024x7456 .f32) (d : Fin 1024) (q : Fin 384) :
    padW (F := Ideal) w (ix2 d q) = if h : q.val < 288 then w (ix2 d ⟨3072 + q.val, by omega⟩) else 0 := by
  pointwise [padW]
  split
  · rfl
  · exact sitofp_zero (φ := .f32)

end Cert.Kernel2Ideal.Projected

end
-- ==== Proof.ProjValue.lean ====
/-
  What the projection's call leaves in its two results, over the reals.
-/
module

public import proofs.«01_k».proof.Proof.ProjWeights
public import Idealize.ShloMosaic.Lib.Pipeline.ValueKit.Tiles

@[expose] public section

noncomputable section

namespace Cert.Kernel2Ideal.Projected

open Idealize.ShloMosaic Idealize.ShloMosaic.TcCoe
open Idealize.SL.Sem
open Cert.Kernel2Ideal.Gen Cert.Projection
open Idealize.ShloMosaic.Pipeline (Dat Cfg Window)

/-! ## The windows' blocks -/

theorem index0 (t : Fin grid0.N) : cc0_transform_0 (grid0.coords t) = ![t.val / 64, t.val / 8 % 8, 0] := by
  have h : ∀ t : Fin grid0.N, cc0_transform_0 (grid0.coords t) = ![t.val / 64, t.val / 8 % 8, 0] := by decide +kernel
  exact h t
theorem index1 (t : Fin grid0.N) : cc0_transform_1 (grid0.coords t) = ![t.val / 64, 0, 0] := by
  have h : ∀ t : Fin grid0.N, cc0_transform_1 (grid0.coords t) = ![t.val / 64, 0, 0] := by decide +kernel
  exact h t
theorem index2 (t : Fin grid0.N) : cc0_transform_2 (grid0.coords t) = ![t.val / 64, 0, 0] := by
  have h : ∀ t : Fin grid0.N, cc0_transform_2 (grid0.coords t) = ![t.val / 64, 0, 0] := by decide +kernel
  exact h t
theorem index3 (t : Fin grid0.N) : cc0_transform_3 (grid0.coords t) = ![0, 0, 0] := by
  have h : ∀ t : Fin grid0.N, cc0_transform_3 (grid0.coords t) = ![0, 0, 0] := by decide +kernel
  exact h t
theorem index4 (t : Fin grid0.N) : cc0_transform_4 (grid0.coords t) = ![0, 0] := by
  have h : ∀ t : Fin grid0.N, cc0_transform_4 (grid0.coords t) = ![0, 0] := by decide +kernel
  exact h t
theorem index5 (t : Fin grid0.N) : cc0_transform_5 (grid0.coords t) = ![t.val / 64, t.val / 8 % 8, min (t.val % 8) 6] := by
  have h : ∀ t : Fin grid0.N, cc0_transform_5 (grid0.coords t) = ![t.val / 64, t.val / 8 % 8, min (t.val % 8) 6] := by decide +kernel
  exact h t
theorem index6 (t : Fin grid0.N) : cc0_transform_6 (grid0.coords t) = ![t.val / 64, t.val / 8 % 8, 0] := by
  have h : ∀ t : Fin grid0.N, cc0_transform_6 (grid0.coords t) = ![t.val / 64, t.val / 8 % 8, 0] := by decide +kernel
  exact h t

/-- A point's batch. -/
def bat (t : Fin grid0.N) : Fin 2 := ⟨t.val / 64, by have := t_lt t; omega⟩
/-- A row of a point's block, in the whole array. -/
def row (t : Fin grid0.N) (a : Fin 1024) : Fin 8192 := ⟨t.val / 8 % 8 * 1024 + a.val, by omega⟩

section
variable {F : FTy → Type} [FloatOps F]
variable (m : (ℓ : Loc nD τ sig) → Buf (Elt F) ℓ) (c : Dev nD)

theorem iblk0_at (t : Fin grid0.N) (a d : Fin 1024) :
    iblk m c 0 t (ix3 (n0 := 1) (n1 := 1024) (n2 := 1024) 0 a d) = m (c, Proc.devRef .tc main_arg0) (ix3 (n0 := 2) (n1 := 8192) (n2 := 1024) (bat t) (row t a) d) := by
  refine Eq.trans ?_ (congrFun (V_args m c).1 _)
  show V m c main_arg0 _ = V m c main_arg0 _
  congr 1
  funext x
  have e := index0 t
  apply Fin.ext
  refine (Window.rect_emb_val win0_0 t _ x).trans ?_
  show cc0_transform_0 (grid0.coords t) x * _ + _ = _
  rw [e]
  fin_cases x
  · show t.val / 64 * 1 + 0 = t.val / 64; omega
  · show t.val / 8 % 8 * 1024 + a.val = t.val / 8 % 8 * 1024 + a.val; rfl
  · show 0 * 1024 + d.val = d.val; omega

theorem iblk1_at (t : Fin grid0.N) (d : Fin 1024) :
    iblk m c 1 t (ix3 (n0 := 1) (n1 := 1) (n2 := 1024) 0 0 d) = m (c, Proc.devRef .tc main_arg1) (ix3 (n0 := 2) (n1 := 1) (n2 := 1024) (bat t) 0 d) := by
  refine Eq.trans ?_ (congrFun (V_args m c).2.1 _)
  show V m c main_arg1 _ = V m c main_arg1 _
  congr 1
  funext x
  have e := index1 t
  apply Fin.ext
  refine (Window.rect_emb_val win0_1 t _ x).trans ?_
  show cc0_transform_1 (grid0.coords t) x * _ + _ = _
  rw [e]
  fin_cases x
  · show t.val / 64 * 1 + 0 = t.val / 64; omega
  · rfl
  · show 0 * 1024 + d.val = d.val; omega

theorem iblk2_at (t : Fin grid0.N) (d : Fin 1024) :
    iblk m c 2 t (ix3 (n0 := 1) (n1 := 1) (n2 := 1024) 0 0 d) = m (c, Proc.devRef .tc main_arg2) (ix3 (n0 := 2) (n1 := 1) (n2 := 1024) (bat t) 0 d) := by
  refine Eq.trans ?_ (congrFun (V_args m c).2.2.1 _)
  show V m c main_arg2 _ = V m c main_arg2 _
  congr 1
  funext x
  have e := index2 t
  apply Fin.ext
  refine (Window.rect_emb_val win0_2 t _ x).trans ?_
  show cc0_transform_2 (grid0.coords t) x * _ + _ = _
  rw [e]
  fin_cases x
  · show t.val / 64 * 1 + 0 = t.val / 64; omega
  · rfl
  · show 0 * 1024 + d.val = d.val; omega

theorem iblk3_eq (t : Fin grid0.N) : iblk m c 3 t = stackW (F := F) (m (c, Proc.devRef .tc main_arg3)) := by
  refine Eq.trans ?_ (V_stack m c)
  funext y
  show V m c main_v15 _ = V m c main_v15 _
  congr 1
  funext x
  have e := index3 t
  apply Fin.ext
  refine (Window.rect_emb_val win0_3 t _ x).trans ?_
  show cc0_transform_3 (grid0.coords t) x * _ + _ = _
  rw [e]
  fin_cases x
  · show 0 * 7 + (y 0).val = (y 0).val; omega
  · show 0 * 1024 + (y 1).val = (y 1).val; omega
  · show 0 * 1024 + (y 2).val = (y 2).val; omega

theorem iblk4_eq (t : Fin grid0.N) : iblk m c 4 t = padW (F := F) (m (c, Proc.devRef .tc main_arg3)) := by
  refine Eq.trans ?_ (V_pad m c)
  funext y
  show V m c main_v18 _ = V m c main_v18 _
  congr 1
  funext x
  have e := index4 t
  apply Fin.ext
  refine (Window.rect_emb_val win0_4 t _ x).trans ?_
  show cc0_transform_4 (grid0.coords t) x * _ + _ = _
  rw [e]
  fin_cases x
  · show 0 * 1024 + (y 0).val = (y 0).val; omega
  · show 0 * 384 + (y 1).val = (y 1).val; omega
end

theorem zero2 : (![0, 0] : Fin 2 → ℕ) = fun _ => 0 := by decide
theorem zero3 : (![0, 0, 0] : Fin 3 → ℕ) = fun _ => 0 := by decide

/-- A slice of the stacked weights, read. -/
theorem ldW_at (w : Vec Ideal S7x1024x1024 .bf16) (t : Fin grid0.N) (h : k0_cond2 (grid0.coords t) = 1#1) (k : Fin 7) (hk : t.val % 8 = k.val)
    (d e : Fin 1024) : View.ld w (rW (grid0.coords t) h) (ix3 (n0 := 1) (n1 := 1024) (n2 := 1024) 0 d e) = w (ix3 k d e) := by
  refine View.ld_unit_apply_of w (k0_off1 (grid0.coords t)) S1x1024x1024.size (k0_off1_inb _ h) _ _ fun a => ?_
  have eo : ∀ t : Fin grid0.N, k0_off1 (grid0.coords t) = ![t.val % 8, 0, 0] := by decide +kernel
  refine Eq.trans ?_ (congrArg (· + _) (congrFun (eo t) a).symm)
  fin_cases a
  · show k.val = t.val % 8 + 0; omega
  · show d.val = 0 + d.val; omega
  · show e.val = 0 + e.val; omega

variable (m : (ℓ : Loc nD τ sig) → Buf (Elt Ideal) ℓ) (ρ : Dev nD → PrngReg) (c : Dev nD)

abbrev A0 : Vec Ideal S2x8192x1024 .f32 := m (c, Proc.devRef .tc main_arg0)
abbrev A1 : Vec Ideal S2x1x1024 .f32 := m (c, Proc.devRef .tc main_arg1)
abbrev A2 : Vec Ideal S2x1x1024 .f32 := m (c, Proc.devRef .tc main_arg2)
abbrev A3 : Vec Ideal S1024x7456 .f32 := m (c, Proc.devRef .tc main_arg3)

theorem rowsAt_at (t : Fin grid0.N) (a d : Fin 1024) :
    rowsAt m c t (ix2 a d) = normed (fun e => A0 m c (ix3 (bat t) (row t a) e)) (fun e => A1 m c (ix3 (bat t) 0 e)) (fun e => A2 m c (ix3 (bat t) 0 e)) d := by
  have hb : bat (base t) = bat t := Fin.ext (by show (t.val - t.val % 8) / 64 = t.val / 64; omega)
  have hr : row (base t) a = row t a := Fin.ext (by show (t.val - t.val % 8) / 8 % 8 * 1024 + a.val = t.val / 8 % 8 * 1024 + a.val; omega)
  unfold rowsAt rowsOf rH rX rV
  rw [View.canon_unit_zero zero2, View.ld_unit_zero zero3, View.ld_unit_zero zero3, View.ld_unit_zero zero3, pay1_at]
  rw [← hb, ← hr]
  congr 1
  · exact funext fun e => iblk0_at m c (base t) a e
  · exact funext fun e => iblk1_at m c (base t) e
  · exact funext fun e => iblk2_at m c (base t) e

theorem mainAt_at (t : Fin grid0.N) (k : Fin 7) (hk : (src t).val % 8 = k.val) (a e : Fin 1024) :
    mainAt m c t (ix3 0 a e) = entry (A0 m c) (A1 m c) (A2 m c) (A3 m c) (bat t) (row t a) ⟨col (k.val * 1024 + e.val), col_lt _ (by omega)⟩ := by
  have hs : (src t).val / 64 = t.val / 64 ∧ (src t).val / 8 % 8 = t.val / 8 % 8 := by
    unfold src; split
    · show (t.val - 1) / 64 = t.val / 64 ∧ (t.val - 1) / 8 % 8 = t.val / 8 % 8; omega
    · exact ⟨rfl, rfl⟩
  have hb : bat (src t) = bat t := Fin.ext hs.1
  have hr : row (src t) a = row t a := Fin.ext (by show (src t).val / 8 % 8 * 1024 + a.val = t.val / 8 % 8 * 1024 + a.val; rw [hs.2])
  unfold mainAt mainOf rX rH
  rw [View.canon_unit_zero zero3, View.ld_unit_zero zero2, pay2_at]
  unfold entry
  refine Finset.sum_congr rfl fun d _ => ?_
  rw [rowsAt_at, hb, hr, ldW_at _ _ _ k hk, iblk3_eq, stackW_at]

theorem loraAt_at (t : Fin grid0.N) (a : Fin 1024) (q : Fin 384) :
    loraAt m c t (ix3 0 a q) = if h : q.val < 288 then entry (A0 m c) (A1 m c) (A2 m c) (A3 m c) (bat t) (row t a) ⟨3072 + q.val, by omega⟩ else 0 := by
  unfold loraAt loraOf rO rH rL
  rw [View.canon_unit_zero zero3, View.ld_unit_zero zero2, View.ld_unit_zero zero2, pay3_at, iblk4_eq]
  split
  · rename_i h
    unfold entry
    refine Finset.sum_congr rfl fun d _ => ?_
    rw [rowsAt_at, padW_at, dif_pos h]
  · rename_i h
    refine Finset.sum_eq_zero fun d _ => ?_
    rw [padW_at, dif_neg h]
    exact mul_zero (M₀ := EReal) _

theorem out0 : (dats m 0 c).arrAt 5 cfg0.N = wide (A0 m c) (A1 m c) (A2 m c) (A3 m c) := by
  refine (dats m 0 c).arrAt_eq_of_covers 5 _ (by decide +kernel) fun t hf y => ?_
  have hf' : t.val % 8 ≠ 6 := of_decide_eq_true ((flush5 t).symm.trans hf)
  have h8 : t.val % 8 < 8 := Nat.mod_lt _ (by decide)
  have hk : (src t).val % 8 = (⟨min (t.val % 8) 6, by omega⟩ : Fin 7).val := by
    show (src t).val % 8 = min (t.val % 8) 6
    unfold src; split
    · show (t.val - 1) % 8 = _; omega
    · omega
  have e5 := index5 t
  have em : ∀ x, ((((cfg0.win 5).blk t).view.emb y : S2x8192x7168.Idx) x).val
      = cc0_transform_5 (grid0.coords t) x * S1x1024x1024.size x + (y x).val := fun x => Window.rect_emb_val win0_5 t y x
  have hy0 : (y 0).val = 0 := Nat.lt_one_iff.1 (y 0).isLt
  have key := mainAt_at m c t ⟨min (t.val % 8) 6, by omega⟩ hk (y 1) (y 2)
  refine Eq.trans ?_ (key.trans ?_)
  · show (dats m 0 c).after 5 t y = _
    rw [after5]
    refine congrArg (mainAt m c t) ((eq_ix3 (n0 := 1) (n1 := 1024) (n2 := 1024) y).trans ?_)
    exact congrArg (fun z => ix3 (n0 := 1) (n1 := 1024) (n2 := 1024) z (y 1) (y 2)) (Fin.ext hy0)
  · unfold wide
    have i0 : bat t = (((cfg0.win 5).blk t).view.emb y : S2x8192x7168.Idx) 0 := Fin.ext (by
      rw [em 0, e5]; show t.val / 64 = t.val / 64 * 1 + (y 0).val; omega)
    have i1 : row t (y 1) = (((cfg0.win 5).blk t).view.emb y : S2x8192x7168.Idx) 1 := Fin.ext (by
      rw [em 1, e5]; rfl)
    have i2 : min (t.val % 8) 6 * 1024 + (y 2).val = ((((cfg0.win 5).blk t).view.emb y : S2x8192x7168.Idx) 2).val := by
      rw [em 2, e5]; rfl
    rw [i0, i1]
    refine congrArg _ (Fin.ext (congrArg col i2))

theorem out1 : (dats m 0 c).arrAt 6 cfg0.N = narrow (A0 m c) (A1 m c) (A2 m c) (A3 m c) := by
  refine (dats m 0 c).arrAt_eq_of_covers 6 _ (by decide +kernel) fun t hf y => ?_
  have e6 := index6 t
  have em : ∀ x, ((((cfg0.win 6).blk t).view.emb y : S2x8192x384.Idx) x).val
      = cc0_transform_6 (grid0.coords t) x * S1x1024x384.size x + (y x).val := fun x => Window.rect_emb_val win0_6 t y x
  have hy0 : (y 0).val = 0 := Nat.lt_one_iff.1 (y 0).isLt
  have key := loraAt_at m c t (y 1) (y 2)
  refine Eq.trans ?_ (key.trans ?_)
  · show (dats m 0 c).after 6 t y = _
    rw [after6]
    refine congrArg (loraAt m c t) ((eq_ix3 (n0 := 1) (n1 := 1024) (n2 := 384) y).trans ?_)
    exact congrArg (fun z => ix3 (n0 := 1) (n1 := 1024) (n2 := 384) z (y 1) (y 2)) (Fin.ext hy0)
  · unfold narrow
    have i0 : bat t = (((cfg0.win 6).blk t).view.emb y : S2x8192x384.Idx) 0 := Fin.ext (by
      rw [em 0, e6]; show t.val / 64 = t.val / 64 * 1 + (y 0).val; omega)
    have i1 : row t (y 1) = (((cfg0.win 6).blk t).view.emb y : S2x8192x384.Idx) 1 := Fin.ext (by
      rw [em 1, e6]; rfl)
    have i2 : y 2 = (((cfg0.win 6).blk t).view.emb y : S2x8192x384.Idx) 2 := Fin.ext (by
      rw [em 2, e6]; show (y 2).val = 0 * 384 + (y 2).val; omega)
    rw [i0, i1, i2]

/-- The run's results. -/
theorem run_value : θ_run defs (onTc (τ := τ) (main (F := Ideal))) (s₀ m ρ)
    (fun r => (∀ c : Dev nD,
        r.2.mem ((c.tc : Thread nD τ).loc main_v19_0) = wide (A0 m c) (A1 m c) (A2 m c) (A3 m c)
        ∧ r.2.mem ((c.tc : Thread nD τ).loc main_v19_1) = narrow (A0 m c) (A1 m c) (A2 m c) (A3 m c)
        ∧ r.2.mem ((c.tc : Thread nD τ).loc main_arg0) = m ((c.tc : Thread nD τ).loc main_arg0)
        ∧ r.2.mem ((c.tc : Thread nD τ).loc main_arg1) = m ((c.tc : Thread nD τ).loc main_arg1)
        ∧ r.2.mem ((c.tc : Thread nD τ).loc main_arg2) = m ((c.tc : Thread nD τ).loc main_arg2)
        ∧ r.2.mem ((c.tc : Thread nD τ).loc main_arg3) = m ((c.tc : Thread nD τ).loc main_arg3))
      ∧ r.2.sem = fun _ => 0) :=
  (θ_run defs _ _).mono (fun _ h => ⟨fun c => ⟨(h.1 c).1.trans (out0 m c), (h.1 c).2.1.trans (out1 m c), (h.1 c).2.2⟩, h.2⟩) (run_args m ρ)

end Cert.Kernel2Ideal.Projected

end
-- ==== Proof.ProjRef.lean ====
/-
  The reference's two results, read at an index over the reals.
-/
module

public import proofs.«01_k».proof.Proof.Gen.Reference2Ideal.Run
public import proofs.«01_k».proof.Proof.ProjRows
public import Idealize.ShloMosaic.Lib.KernelVsHost
public import Idealize.ShloMosaic.Lib.Quiescent

@[expose] public section

noncomputable section

namespace Cert.Reference2Ideal.Projected

open Idealize.ShloMosaic Idealize.ShloMosaic.TcCoe Idealize.SL.Sem
open Cert.Reference2Ideal Cert.Reference2Ideal.Gen Cert.Projection

/-- The rows' means, as the reference writes them. -/
def meanT (x : FVec Ideal S2x8192x1024 .f32) : FVec Ideal S2x8192x1 .f32 :=
  Host.divf (broadcastInDim S2x8192x1 ![0, 1] bcast_S2x8192_S2x8192x1_0_1 (Host.reduceAdd x (constant S_ .f32 0x00000000#32) reducesTo_S2x8192x1024_S2x8192_d2 h_S_)) (broadcastInDim S2x8192x1 ![] bcast_S_S2x8192x1 (constant S_ .f32 0x44800000#32))

/-- The normalised rows. -/
def rowsT (x : FVec Ideal S2x8192x1024 .f32) (s h : FVec Ideal S2x1x1024 .f32) : FVec Ideal S2x8192x1024 .f32 :=
  addf (mulf (mulf (subf x (broadcastInDim S2x8192x1024 ![0, 1, 2] bcast_S2x8192x1_S2x8192x1024_0_1_2 (meanT x))) (broadcastInDim S2x8192x1024 ![0, 1, 2] bcast_S2x8192x1_S2x8192x1024_0_1_2 (Host.rsqrt (addf (Host.divf (broadcastInDim S2x8192x1 ![0, 1] bcast_S2x8192_S2x8192x1_0_1 (Host.reduceAdd (mulf (subf x (broadcastInDim S2x8192x1024 ![0, 1, 2] bcast_S2x8192x1_S2x8192x1024_0_1_2 (meanT x))) (subf x (broadcastInDim S2x8192x1024 ![0, 1, 2] bcast_S2x8192x1_S2x8192x1024_0_1_2 (meanT x)))) (constant S_ .f32 0x00000000#32) reducesTo_S2x8192x1024_S2x8192_d2 h_S_)) (broadcastInDim S2x8192x1 ![] bcast_S_S2x8192x1 (constant S_ .f32 0x44800000#32))) (broadcastInDim S2x8192x1 ![] bcast_S_S2x8192x1 (constant S_ .f32 0x3727C5AC#32)))))) (broadcastInDim S2x8192x1024 ![0, 1, 2] bcast_S2x1x1024_S2x8192x1024_0_1_2 (addf (broadcastInDim S2x1x1024 ![] bcast_S_S2x1x1024 (constant S_ .f32 0x3F800000#32)) s))) (broadcastInDim S2x8192x1024 ![0, 1, 2] bcast_S2x1x1024_S2x8192x1024_0_1_2 h)

/-- Their product with the weights. -/
def slabT (x : FVec Ideal S2x8192x1024 .f32) (s h : FVec Ideal S2x1x1024 .f32) (w : FVec Ideal S1024x7456 .f32) : FVec Ideal S2x8192x7456 .f32 :=
  Host.dotGeneral dot_S2x8192x1024_S1024x7456_S2x8192x7456_2_0_01_1_n_n none (rowsT x s h) w

def term0 (x : FVec Ideal S2x8192x1024 .f32) (s h : FVec Ideal S2x1x1024 .f32) (w : FVec Ideal S1024x7456 .f32) : FVec Ideal S2x8192x7168 .f32 :=
  concatenate S2x8192x7168 2 [⟨S2x8192x3072, (extractStridedSlice S2x8192x3072 ![0, 0, 0] (slabT x s h w) slices_S2x8192x7456_S2x8192x3072_0_0_0)⟩, ⟨S2x8192x4096, (extractStridedSlice S2x8192x4096 ![0, 0, 3360] (slabT x s h w) slices_S2x8192x7456_S2x8192x4096_0_0_3360)⟩] concatenates_S2x8192x3072_S2x8192x4096_S2x8192x7168_d2

def term1 (x : FVec Ideal S2x8192x1024 .f32) (s h : FVec Ideal S2x1x1024 .f32) (w : FVec Ideal S1024x7456 .f32) : FVec Ideal S2x8192x384 .f32 :=
  pad S2x8192x384 ![0, 0, 0] ![0, 0, 96] ![0, 0, 0] (extractStridedSlice S2x8192x288 ![0, 0, 3072] (slabT x s h w) slices_S2x8192x7456_S2x8192x288_0_0_3072) (sitofp .f32 (constantI S_ 32 0#32) : FVec Ideal S_ .f32) pads_S2x8192x288_S2x8192x384_000_000_0960 h_S_

theorem slab_at (x : FVec Ideal S2x8192x1024 .f32) (s h : FVec Ideal S2x1x1024 .f32) (w : FVec Ideal S1024x7456 .f32) (b : Fin 2) (r : Fin 8192) (j : Fin 7456) :
    slabT x s h w (ix3 b r j) = entry x s h w b r j := by
  pointwise [slabT, rowsT, meanT, entry, normed, mean]

theorem term0_eq (x : FVec Ideal S2x8192x1024 .f32) (s h : FVec Ideal S2x1x1024 .f32) (w : FVec Ideal S1024x7456 .f32) : term0 x s h w = wide x s h w := by
  funext i
  pointwise [term0, wide]
  split
  · rename_i q
    refine (slab_at x s h w _ _ _).trans (congrArg (entry x s h w (i 0) (i 1)) (Fin.ext ?_))
    exact (if_pos q).symm
  · rename_i q
    refine (slab_at x s h w _ _ _).trans (congrArg (entry x s h w (i 0) (i 1)) (Fin.ext ?_))
    refine Eq.trans ?_ (if_neg q).symm
    show 3360 + ((i 2).val - 3072) = (i 2).val + 288
    omega

theorem term1_eq (x : FVec Ideal S2x8192x1024 .f32) (s h : FVec Ideal S2x1x1024 .f32) (w : FVec Ideal S1024x7456 .f32) : term1 x s h w = narrow x s h w := by
  funext i
  pointwise [term1, narrow]
  split
  · exact slab_at x s h w _ _ _
  · exact sitofp_zero (φ := .f32)

variable (m : (ℓ : Loc nD τ sig) → Buf (Elt Ideal) ℓ) (ρ : Dev nD → PrngReg)

/-- The reference's run: its two results as functions of the arguments, the arguments as they were. -/
theorem run_value : θ_run defs (onTc (τ := τ) (main (F := Ideal))) ⟨m, fun _ => 0, ρ⟩ (fun r => ∀ c : Dev nD,
      r.2.mem ((c.tc : Thread nD τ).loc main_v28) = wide (m ((c.tc : Thread nD τ).loc main_arg0)) (m ((c.tc : Thread nD τ).loc main_arg1))
        (m ((c.tc : Thread nD τ).loc main_arg2)) (m ((c.tc : Thread nD τ).loc main_arg3))
      ∧ r.2.mem ((c.tc : Thread nD τ).loc main_v29) = narrow (m ((c.tc : Thread nD τ).loc main_arg0)) (m ((c.tc : Thread nD τ).loc main_arg1))
        (m ((c.tc : Thread nD τ).loc main_arg2)) (m ((c.tc : Thread nD τ).loc main_arg3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ k c => ⟨(k c).1.trans (term0_eq _ _ _ _), (k c).2.1.trans (term1_eq _ _ _ _), (k c).2.2⟩) (Value.run (F := Ideal) m ρ)

/-- Its frame. -/
theorem frame : θ_run defs (onTc (τ := τ) (main (F := Ideal))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
    ∧ r.2.sem = fun _ => 0) :=
  (θ_run defs _ _).mono (fun r k => ⟨fun c => (k c).2.2, sem_eq_zero_of_no_sems (by decide) r.2⟩) (Value.run (F := Ideal) m ρ)

end Cert.Reference2Ideal.Projected

end
-- ==== Proof.ProjSame.lean ====
/-
  The projection's text and its idealization's are one text.
-/
module

public import proofs.«01_k».proof.Proof.Gen.Kernel2
public import proofs.«01_k».proof.Proof.Gen.Kernel2Ideal

@[expose] public section

noncomputable section

namespace Cert.ProjSame

open Idealize.ShloMosaic

variable {F : FTy → Type} [FloatOps F]

set_option maxRecDepth 100000 in
set_option maxHeartbeats 4000000 in
theorem main : Cert.Kernel2.main (F := F) = Cert.Kernel2Ideal.main (F := F) := rfl

set_option maxRecDepth 100000 in
set_option maxHeartbeats 4000000 in
theorem body : Cert.Kernel2.cc0_inproj (F := F) = Cert.Kernel2Ideal.cc0_inproj (F := F) := rfl

/-- The body at two namings of the staging buffers that are one. -/
theorem stages (i : Cert.Kernel2Ideal.grid0.Coords)
    {a3 b3 : Memref Cert.Kernel2Ideal.sig .tc .vmem Cert.Kernel2Ideal.S1x1024x1024 .f32} (h3 : a3 = b3) (p3 : a3.IsWhole) (q3 : b3.IsWhole)
    {a4 b4 : Memref Cert.Kernel2Ideal.sig .tc .vmem Cert.Kernel2Ideal.S1x1x1024 .f32} (h4 : a4 = b4) (p4 : a4.IsWhole) (q4 : b4.IsWhole)
    {a5 b5 : Memref Cert.Kernel2Ideal.sig .tc .vmem Cert.Kernel2Ideal.S1x1x1024 .f32} (h5 : a5 = b5) (p5 : a5.IsWhole) (q5 : b5.IsWhole)
    {a6 b6 : Memref Cert.Kernel2Ideal.sig .tc .vmem Cert.Kernel2Ideal.S7x1024x1024 .bf16} (h6 : a6 = b6) (p6 : a6.IsWhole) (q6 : b6.IsWhole)
    {a7 b7 : Memref Cert.Kernel2Ideal.sig .tc .vmem Cert.Kernel2Ideal.S1024x384 .bf16} (h7 : a7 = b7) (p7 : a7.IsWhole) (q7 : b7.IsWhole)
    {a8 b8 : Memref Cert.Kernel2Ideal.sig .tc .vmem Cert.Kernel2Ideal.S1x1024x1024 .f32} (h8 : a8 = b8) (p8 : a8.IsWhole) (q8 : b8.IsWhole)
    {a9 b9 : Memref Cert.Kernel2Ideal.sig .tc .vmem Cert.Kernel2Ideal.S1x1024x384 .f32} (h9 : a9 = b9) (p9 : a9.IsWhole) (q9 : b9.IsWhole)
    (a10 : Memref Cert.Kernel2Ideal.sig .tc .vmem Cert.Kernel2Ideal.S1024x1024 .bf16) (p10 : a10.IsWhole) :
    Cert.Kernel2Ideal.cc0_inproj (F := F) i a3 p3 a4 p4 a5 p5 a6 p6 a7 p7 a8 p8 a9 p9 a10 p10
      = Cert.Kernel2Ideal.cc0_inproj (F := F) i b3 q3 b4 q4 b5 q5 b6 q6 b7 q7 b8 q8 b9 q9 a10 p10 := by
  subst h3 h4 h5 h6 h7 h8 h9; rfl

theorem stage0 (x : Fin Cert.Kernel2Ideal.win0_0.nbuf) : Cert.Kernel2.win0_0.stage x = Cert.Kernel2Ideal.win0_0.stage x := by
  match x with
  | ⟨0, _⟩ => rfl
  | ⟨1, _⟩ => rfl

theorem stage1 (x : Fin Cert.Kernel2Ideal.win0_1.nbuf) : Cert.Kernel2.win0_1.stage x = Cert.Kernel2Ideal.win0_1.stage x := by
  match x with
  | ⟨0, _⟩ => rfl
  | ⟨1, _⟩ => rfl

theorem stage2 (x : Fin Cert.Kernel2Ideal.win0_2.nbuf) : Cert.Kernel2.win0_2.stage x = Cert.Kernel2Ideal.win0_2.stage x := by
  match x with
  | ⟨0, _⟩ => rfl
  | ⟨1, _⟩ => rfl

theorem stage3 (x : Fin Cert.Kernel2Ideal.win0_3.nbuf) : Cert.Kernel2.win0_3.stage x = Cert.Kernel2Ideal.win0_3.stage x := by
  match x with
  | ⟨0, _⟩ => rfl

theorem stage4 (x : Fin Cert.Kernel2Ideal.win0_4.nbuf) : Cert.Kernel2.win0_4.stage x = Cert.Kernel2Ideal.win0_4.stage x := by
  match x with
  | ⟨0, _⟩ => rfl

theorem stage5 (x : Fin Cert.Kernel2Ideal.win0_5.nbuf) : Cert.Kernel2.win0_5.stage x = Cert.Kernel2Ideal.win0_5.stage x := by
  match x with
  | ⟨0, _⟩ => rfl
  | ⟨1, _⟩ => rfl

theorem stage6 (x : Fin Cert.Kernel2Ideal.win0_6.nbuf) : Cert.Kernel2.win0_6.stage x = Cert.Kernel2Ideal.win0_6.stage x := by
  match x with
  | ⟨0, _⟩ => rfl
  | ⟨1, _⟩ => rfl

set_option maxRecDepth 100000 in
set_option maxHeartbeats 4000000 in
theorem defs₀ : Cert.Kernel2.defs₀ (F := F) = Cert.Kernel2Ideal.defs₀ (F := F) := by
  unfold Cert.Kernel2.defs₀ Cert.Kernel2Ideal.defs₀
  rw [body]
  refine congrArg _ (funext fun l => funext fun a => ?_)
  match l, a with
  | ⟨0, _⟩, (t, s) =>
    exact stages (F := F) (Cert.Kernel2Ideal.grid0.coords t) (stage0 (s 0)) _ _ (stage1 (s 1)) _ _ (stage2 (s 2)) _ _ (stage3 (s 3)) _ _
      (stage4 (s 4)) _ _ (stage5 (s 5)) _ _ (stage6 (s 6)) _ _ _ _
  | ⟨_ + 1, h⟩, _ => exact absurd h (Nat.not_lt.2 (Nat.le_add_left _ _))

set_option maxRecDepth 100000 in
set_option maxHeartbeats 4000000 in
theorem defs : Cert.Kernel2.defs (F := F) = Cert.Kernel2Ideal.defs (F := F) := by
  unfold Cert.Kernel2.defs Cert.Kernel2Ideal.defs
  rw [defs₀]
  rfl

end Cert.ProjSame

end
-- ==== Proof.CombRows.lean ====
/-
  The rows of one point: the point's 2 048 rows of the scratch are each one row of the experts' outputs, fetched from
  where the table's word says. The issue loop starts them two to a trip, the drain loop waits for them two to a trip.
-/
module

public import proofs.«01_k».proof.Proof.Step
public import proofs.«01_k».proof.Proof.Gen.Kernel3Ideal.Launch
public import proofs.«01_k».proof.Proof.Gen.Kernel3Ideal.Skeleton
public import Idealize.ShloMosaic.Lib.WordArith.Masks
public import Idealize.ShloMosaic.Lib.ValueLayout
public import Idealize.ShloMosaic.Lib.Pipeline.FrameValue

@[expose] public section

noncomputable section

namespace Cert.Kernel3Ideal.Combined

open Idealize.ShloMosaic Idealize.ShloMosaic.TcCoe Idealize.ShloMosaic.Tactic Idealize.ShloMosaic.ValueIdx
open Idealize.SL Idealize.SL.RA
open Idealize.SL.BI (sProp bigSep)
open scoped Idealize.SL.BI
open Idealize.SL.BI.BIBase Idealize.SL.BI.Laws Idealize.SL.ProofMode Idealize.SL.Sem
open Dispatch Cert.Kernel3Ideal.Gen

variable {F : FTy → Type} [FloatOps F]

local notation "𝕄" => MT nD τ sig Unit (Elt F) ℕ (Idealize.ShloMosaic.Pipeline.UD sig nD τ) ℕ

/-- The experts' outputs, whole. -/
abbrev ysM : Memref sig .tc .hbm S49152x1024 .f32 := Memref.whole main_arg3
/-- The scratch, whole. -/
abbrev bufM : Memref sig .tc .vmem S2x1024x1024 .f32 := Memref.whole cc0_scratch0
/-- The table, whole. -/
abbrev tbM : Memref sig .tc .smem S32768 .i32 := Memref.whole main_v18

/-- The experts' outputs. -/
abbrev YsC (F : FTy → Type) : Type := S49152x1024.Idx → Elt F .f32
/-- The scratch's contents. -/
abbrev BufC (F : FTy → Type) : Type := S2x1024x1024.Idx → Elt F .f32

theorem rows_inb (b : ℕ) (hb : b < 49152) : ∀ a, (![b, 0] : Fin 2 → ℕ) a + S1x1024.size a ≤ S49152x1024.size a := by
  intro a; fin_cases a
  · show b + 1 ≤ 49152; omega
  · show 0 + 1024 ≤ 1024; omega

/-- Row `b` of the experts' outputs. -/
def rowSet (b : ℕ) : Finset S49152x1024.Idx := Finset.univ.filter fun y => (y 0).val = b

theorem mem_rowSet {b : ℕ} {y : S49152x1024.Idx} : y ∈ rowSet b ↔ (y 0).val = b := by simp [rowSet]

/-- Row `j / 2` of half `j % 2` of the scratch. -/
def slotSet (j : ℕ) : Finset S2x1024x1024.Idx := Finset.univ.filter fun y => (y 0).val = j % 2 ∧ (y 1).val = j / 2

theorem mem_slotSet {j : ℕ} {y : S2x1024x1024.Idx} : y ∈ slotSet j ↔ (y 0).val = j % 2 ∧ (y 1).val = j / 2 := by simp [slotSet]

/-- The table's word at place `r`. -/
def dw (tb : S32768.Idx → Elt F .i32) (r : ℕ) : BitVec 32 := tb (ix1 ⟨r % 32768, Nat.mod_lt _ (by decide)⟩)

/-- The row the point's transfer `j` reads. -/
abbrev rowAt (tb : S32768.Idx → Elt F .i32) (p j : ℕ) : ℕ := (dw (F := F) tb (p * 2048 + j)).toNat

/-- The scratch after a point's transfers. -/
def gath (tb : S32768.Idx → Elt F .i32) (ys : YsC F) (p : ℕ) : BufC F := fun y =>
  ys (ix2 ⟨rowAt tb p (2 * (y 1).val + (y 0).val) % 49152, Nat.mod_lt _ (by decide)⟩ (y 2))

theorem dw_at (tb : S32768.Idx → Elt F .i32) (r : ℕ) (h : r < 32768) : dw (F := F) tb r = tb (ix1 ⟨r, h⟩) := by
  unfold dw; congr 2; exact Fin.ext (Nat.mod_eq_of_lt h)

section Point

variable (c : Dev nD) (tb : S32768.Idx → Elt F .i32) (ys : YsC F) (p : ℕ) (f : BufC F)

/-- The transfers of a point. -/
def rowC : Copies (Elt F) (bufM.view.loc (c : Thread nD τ)) (ysM.view.loc (c : Thread nD τ)) where
  before := f
  final := gath tb ys p
  from_ := ys
  held := Finset.univ
  q := fullShare
  n := 2048
  dst j := slotSet j
  src j := rowSet (rowAt tb p j)
  disj i j hi hj hij := by
    rw [Finset.disjoint_left]; intro y h1 h2
    rw [mem_slotSet] at h1 h2
    omega
  sub j _ := Finset.subset_univ _
  off y h := by
    have h0 : (y 0).val < 2 := (y 0).isLt
    have h1 : (y 1).val < 1024 := (y 1).isLt
    exact absurd (mem_slotSet.mpr ⟨by omega, by omega⟩) (h (2 * (y 1).val + (y 0).val) (by omega))

/-- The units a row's transfer counts. -/
abbrev rowN : ℕ := (cc0_scratch0 : Ref sig .tc).dmaCredit S1x1024 .f32

/-- A table's word read through the rectangle of one place. -/
theorem read_tb (g : S32768.Idx → Elt F .i32) (off : Fin 1 → ℕ) (hin : ∀ a, off a + S1.size a ≤ S32768.size a) (r : Fin 32768) (h : off 0 = r.val)
    (x : S1.Idx) : (tbM.access (Rect.unit (s := S32768) off S1.size hin)).read (Elt F) g x = g (ix1 r) := by
  show g _ = g _
  congr 1
  funext a
  fin_cases a
  apply Fin.ext
  have hx : (x 0).val = 0 := by have : (x 0).val < 1 := (x 0).isLt; omega
  show off 0 + 1 * (x 0).val = r.val
  omega

theorem trips1 : k0_t1_loop.trips = 1024 := by decide
theorem trips2 : k0_t2_loop.trips = 1024 := by decide

/-- A point's number. -/
abbrev pt (i : grid0.Coords) : ℕ := (i 0).val * 8 + (i 1).val

theorem pt_lt (i : grid0.Coords) : pt i < 16 := by
  have h0 : (i 0).val < 2 := (i 0).isLt
  have h1 : (i 1).val < 8 := (i 1).isLt
  show (i 0).val * 8 + (i 1).val < 16; omega

theorem off1 (i : grid0.Coords) (k : Fin k0_t1_loop.trips) : k0_off1 i k 0 = pt i * 2048 + 2 * k.val := by
  have h0 : (i 0).val < 2 := (i 0).isLt
  have h1 : (i 1).val < 8 := (i 1).isLt
  have hk : k.val < 1024 := trips1 ▸ k.isLt
  show ((BitVec.ofNat 32 (i 0).val * 8#32 + BitVec.ofNat 32 (i 1).val) * 1024#32 * 2#32 + Scf.iv 0#32 1#32 k * 2#32 + 0#32).toNat = ((i 0).val * 8 + (i 1).val) * 2048 + 2 * k.val
  simp only [BitVec.toNat_add, BitVec.toNat_mul, BitVec.toNat_ofNat, Scf.iv]
  omega
theorem off4 (i : grid0.Coords) (k : Fin k0_t1_loop.trips) : k0_off4 i k 0 = pt i * 2048 + (2 * k.val + 1) := by
  have h0 : (i 0).val < 2 := (i 0).isLt
  have h1 : (i 1).val < 8 := (i 1).isLt
  have hk : k.val < 1024 := trips1 ▸ k.isLt
  show ((BitVec.ofNat 32 (i 0).val * 8#32 + BitVec.ofNat 32 (i 1).val) * 1024#32 * 2#32 + Scf.iv 0#32 1#32 k * 2#32 + 1#32).toNat = ((i 0).val * 8 + (i 1).val) * 2048 + (2 * k.val + 1)
  simp only [BitVec.toNat_add, BitVec.toNat_mul, BitVec.toNat_ofNat, Scf.iv]
  omega
theorem off2 (k : Fin k0_t1_loop.trips) : k0_off2 k = ![2 * k.val % 2, 2 * k.val / 2, 0] := by
  have hk : k.val < 1024 := trips1 ▸ k.isLt
  show ![0, (Scf.iv 0#32 1#32 k).toNat, 0] = _
  rw [WordArith.toNat_iv_zero_one _ (by omega), show 2 * k.val % 2 = 0 by omega, show 2 * k.val / 2 = k.val by omega]
theorem off5 (k : Fin k0_t1_loop.trips) : k0_off5 k = ![(2 * k.val + 1) % 2, (2 * k.val + 1) / 2, 0] := by
  have hk : k.val < 1024 := trips1 ▸ k.isLt
  show ![1, (Scf.iv 0#32 1#32 k).toNat, 0] = _
  rw [WordArith.toNat_iv_zero_one _ (by omega), show (2 * k.val + 1) % 2 = 1 by omega, show (2 * k.val + 1) / 2 = k.val by omega]
theorem off7 (i : grid0.Coords) (k : Fin k0_t2_loop.trips) : k0_off7 i k 0 = pt i * 2048 + 2 * k.val := by
  have h0 : (i 0).val < 2 := (i 0).isLt
  have h1 : (i 1).val < 8 := (i 1).isLt
  have hk : k.val < 1024 := trips2 ▸ k.isLt
  show ((BitVec.ofNat 32 (i 0).val * 8#32 + BitVec.ofNat 32 (i 1).val) * 1024#32 * 2#32 + Scf.iv 0#32 1#32 k * 2#32 + 0#32).toNat = ((i 0).val * 8 + (i 1).val) * 2048 + 2 * k.val
  simp only [BitVec.toNat_add, BitVec.toNat_mul, BitVec.toNat_ofNat, Scf.iv]
  omega
theorem off10 (i : grid0.Coords) (k : Fin k0_t2_loop.trips) : k0_off10 i k 0 = pt i * 2048 + (2 * k.val + 1) := by
  have h0 : (i 0).val < 2 := (i 0).isLt
  have h1 : (i 1).val < 8 := (i 1).isLt
  have hk : k.val < 1024 := trips2 ▸ k.isLt
  show ((BitVec.ofNat 32 (i 0).val * 8#32 + BitVec.ofNat 32 (i 1).val) * 1024#32 * 2#32 + Scf.iv 0#32 1#32 k * 2#32 + 1#32).toNat = ((i 0).val * 8 + (i 1).val) * 2048 + (2 * k.val + 1)
  simp only [BitVec.toNat_add, BitVec.toNat_mul, BitVec.toNat_ofNat, Scf.iv]
  omega

/-- A row's elements. -/
theorem row_view (off : Fin 2 → ℕ) (hin : ∀ a, off a + S1x1024.size a ≤ S49152x1024.size a) (b : ℕ) (h : off = ![b, 0]) :
    (ysM.slice (Rect.unit (s := S49152x1024) off S1x1024.size hin) (fun _ => rfl)).view.set = rowSet b := by
  subst h
  refine (View.set_slice_whole main_arg3 _).trans ?_
  ext y
  rw [Rect.mem_set_unit, mem_rowSet]
  have h1 : (y 1).val < 1024 := (y 1).isLt
  constructor
  · intro H; have a0 : b ≤ (y 0).val ∧ (y 0).val < b + 1 := H 0; omega
  · intro H a; fin_cases a
    · show b ≤ (y 0).val ∧ (y 0).val < b + 1; omega
    · show 0 ≤ (y 1).val ∧ (y 1).val < 0 + 1024; omega

/-- A row of the scratch. -/
abbrev slotM (off : Fin 3 → ℕ) (hin : ∀ a, off a + S1x1x1024.size a ≤ S2x1024x1024.size a) : Memref sig .tc .vmem S1x1024 .f32 :=
  (bufM.slice (Rect.unit (s := S2x1024x1024) off S1x1x1024.size hin) (fun _ => rfl)).squeeze S1x1024 squeezes_S1x1x1024_S1x1024

theorem slot_view (off : Fin 3 → ℕ) (hin : ∀ a, off a + S1x1x1024.size a ≤ S2x1024x1024.size a) (j : ℕ) (h : off = ![j % 2, j / 2, 0]) :
    (slotM off hin).view.set = slotSet j := by
  subst h
  refine (View.set_reshape _ _).trans ((View.set_slice_whole cc0_scratch0 _).trans ?_)
  ext y
  rw [Rect.mem_set_unit, mem_slotSet]
  have h2 : (y 2).val < 1024 := (y 2).isLt
  constructor
  · intro H
    have a0 : j % 2 ≤ (y 0).val ∧ (y 0).val < j % 2 + 1 := H 0
    have a1 : j / 2 ≤ (y 1).val ∧ (y 1).val < j / 2 + 1 := H 1
    omega
  · rintro ⟨e0, e1⟩ a; fin_cases a
    · show j % 2 ≤ (y 0).val ∧ (y 0).val < j % 2 + 1; omega
    · show j / 2 ≤ (y 1).val ∧ (y 1).val < j / 2 + 1; omega
    · show 0 ≤ (y 2).val ∧ (y 2).val < 0 + 1024; omega

/-- What writing a row over a row of the scratch leaves there. -/
theorem slot_write (off : Fin 3 → ℕ) (hin : ∀ a, off a + S1x1x1024.size a ≤ S2x1024x1024.size a) (j : ℕ) (h : off = ![j % 2, j / 2, 0])
    (off' : Fin 2 → ℕ) (hin' : ∀ a, off' a + S1x1024.size a ≤ S49152x1024.size a) (h' : off' = ![rowAt (F := F) tb p j, 0]) :
    ∀ y ∈ slotSet j, (slotM off hin).view.write (Elt F) f
      ((ysM.slice (Rect.unit (s := S49152x1024) off' S1x1024.size hin') (fun _ => rfl)).view.read (Elt F) ys) Finset.univ y = gath tb ys p y := by
  intro y hy
  subst h; subst h'
  rw [mem_slotSet] at hy
  obtain ⟨e0, e1⟩ := hy
  have hz : (slotM ![j % 2, j / 2, 0] hin).view.emb (ix2 (0 : Fin 1) (y 2)) = y := by
    show (Rect.unit (s := S2x1024x1024) ![j % 2, j / 2, 0] S1x1x1024.size hin).emb
      (Shape.reshapeEquiv squeezes_S1x1x1024_S1x1024.numel_eq (ix2 (0 : Fin 1) (y 2))) = y
    refine (congrArg _ (reshapeEquiv_ix2_1ab (a := 1) (b := 1024) squeezes_S1x1x1024_S1x1024.numel_eq 0 (y 2))).trans ?_
    funext a
    fin_cases a <;> apply Fin.ext
    · show j % 2 + 1 * 0 = (y 0).val; omega
    · show j / 2 + 1 * 0 = (y 1).val; omega
    · show 0 + 1 * (y 2).val = (y 2).val; omega
  have hb : rowAt (F := F) tb p j + 1 ≤ 49152 := hin' 0
  conv_lhs => rw [← hz]
  rw [View.write_emb_of_mem _ _ (Finset.mem_univ _)]
  show ys _ = ys _
  congr 1
  funext a
  fin_cases a <;> apply Fin.ext
  · show rowAt (F := F) tb p j + 1 * 0 = rowAt (F := F) tb p (2 * (y 1).val + (y 0).val) % 49152
    rw [show 2 * (y 1).val + (y 0).val = j by omega]
    omega
  · show 0 + 1 * (y 2).val = (y 2).val; omega

/-- The table's word at `r`, read. -/
theorem load_dw {α : Type} {Q : α → sProp 𝕄} {off : Fin 1 → ℕ} {hin : ∀ a, off a + S1.size a ≤ S32768.size a} {h1 : (Rect.unit (s := S32768) off S1.size hin).shape.numel = 1}
    {hp : EltTy.packing .i32 = 1} {k : Elt F .i32 → Prog (TpuEff nD τ sig (Elt F) Λ₀ (c : Thread nD τ).2) α} {q : PosShare TreeShare}
    (r : ℕ) (hr : r < 32768) (h : off 0 = r) :
    (tbM.view.loc (c : Thread nD τ) ↦{q} tb : sProp 𝕄)
      ⊢ iprop(((tbM.view.loc (c : Thread nD τ) ↦{q} tb)
            -∗ wp frame (wpE defs₀ Variants.none (c : Thread nD τ) none) Set.univ (k (dw (F := F) tb r)) Q)
          -∗ wp frame (wpE defs₀ Variants.none (c : Thread nD τ) none) Set.univ (smemLoad tbM (Rect.unit (s := S32768) off S1.size hin) h1 hp >>= k) Q) := by
  have e := read_tb tb off hin ⟨r, hr⟩ h (Shape.Idx.first (h1.symm ▸ Nat.one_pos))
  rw [← dw_at tb r hr] at e
  rw [← e]
  exact load_bind Variants.none c none tbM

/-- A run of the point's rows: `j` started, `u` units waited for. -/
abbrev rowPend (j u : ℕ) : sProp 𝕄 :=
  (rowC c tb ys p f).pend (U := Pipeline.UD sig nD τ) c (.dma cc0_scratch1.sem) rowN j u

/-- Starting row `j`. -/
theorem issue_row {α : Type} {Q : α → sProp 𝕄} (j : ℕ) (hj : j < 2048)
    {off : Fin 3 → ℕ} {hin : ∀ a, off a + S1x1x1024.size a ≤ S2x1024x1024.size a} (h : off = ![j % 2, j / 2, 0])
    {off' : Fin 2 → ℕ} {hin' : ∀ a, off' a + S1x1024.size a ≤ S49152x1024.size a} (h' : off' = ![rowAt (F := F) tb p j, 0])
    {hsrc : (ysM.slice (Rect.unit (s := S49152x1024) off' S1x1024.size hin') (fun _ => rfl)).view.WordExact}
    {hdst : (slotM off hin).view.WordExact}
    {hsem : DmaTarget.Typed (nD := nD) (τ := τ) .hbm (.dma cc0_scratch1.sem) (DmaTarget.here (p := (c : Thread nD τ).2) (slotM off hin))}
    {kk : PUnit → Prog (TpuEff nD τ sig (Elt F) Λ₀ (c : Thread nD τ).2) α} :
    rowPend c tb ys p f j 0
      ⊢ iprop((rowPend c tb ys p f (j + 1) 0 -∗ wp frame (wpE defs₀ Variants.none (c : Thread nD τ) none) Set.univ (kk ⟨⟩) Q)
          -∗ wp frame (wpE defs₀ Variants.none (c : Thread nD τ) none) Set.univ
            (Prog.lift (.enqueueDma (ysM.slice (Rect.unit (s := S49152x1024) off' S1x1024.size hin') (fun _ => rfl))
              (.here (slotM off hin)) (.dma cc0_scratch1.sem) hsrc hdst hsem) >>= kk) Q) :=
  issue_bind Variants.none c none (src := ysM.slice (Rect.unit (s := S49152x1024) off' S1x1024.size hin') (fun _ => rfl))
    (dst := slotM off hin) (sm := .dma cc0_scratch1.sem)
    (rowC c tb ys p f) (k := j) hj rfl (slot_view _ _ _ h) (row_view _ _ _ h') (slot_write tb ys p f _ _ _ h _ _ h')

/-- Waiting for a row, `j` waited for before it. -/
theorem wait_row {α : Type} {Q : α → sProp 𝕄} (j : ℕ) (hj : j < 2048)
    {off : Fin 3 → ℕ} {hin : ∀ a, off a + S1x1x1024.size a ≤ S2x1024x1024.size a}
    {off' : Fin 2 → ℕ} {hin' : ∀ a, off' a + S1x1024.size a ≤ S49152x1024.size a}
    {hsrc : (ysM.slice (Rect.unit (s := S49152x1024) off' S1x1024.size hin') (fun _ => rfl)).view.WordExact}
    {hdst : (slotM off hin).view.WordExact}
    {kk : PUnit → Prog (TpuEff nD τ sig (Elt F) Λ₀ (c : Thread nD τ).2) α} :
    iprop(rowPend c tb ys p f 2048 (j * rowN) ∗ (∃ W, owes (c : Thread nD τ) 0 W))
      ⊢ iprop((iprop(rowPend c tb ys p f 2048 ((j + 1) * rowN) ∗ (∃ W, owes (c : Thread nD τ) 0 W))
            -∗ wp frame (wpE defs₀ Variants.none (c : Thread nD τ) none) Set.univ (kk ⟨⟩) Q)
          -∗ wp frame (wpE defs₀ Variants.none (c : Thread nD τ) none) Set.univ
            (Prog.lift (.waitDma2 cc0_scratch1.sem (ysM.slice (Rect.unit (s := S49152x1024) off' S1x1024.size hin') (fun _ => rfl))
              (slotM off hin) hsrc hdst) >>= kk) Q) :=
  wait_bind Variants.none c none (rowC c tb ys p f) (srcw := ysM.slice (Rect.unit (s := S49152x1024) off' S1x1024.size hin') (fun _ => rfl))
    (dstw := slotM off hin) (N := rowN) (k := j) rfl hj

variable (i : grid0.Coords)
  (arg3 : Memref sig .tc .vmem S1x1024x1024 .f32) (harg3 : arg3.IsWhole) (arg4 : Memref sig .tc .vmem S1024x128 .f32) (harg4 : arg4.IsWhole)
  (arg5 : Memref sig .tc .vmem S1x1x1024 .f32) (harg5 : arg5.IsWhole) (arg6 : Memref sig .tc .vmem S1x1024 .f32) (harg6 : arg6.IsWhole)
  (arg7 : Memref sig .tc .vmem S1x1024 .f32) (harg7 : arg7.IsWhole) (arg9 : Memref sig .tc .vmem S1x1024x1024 .f32) (harg9 : arg9.IsWhole)

/-- The table's words are rows of the experts' outputs. -/
def InRange (tb : S32768.Idx → Elt F .i32) : Prop := ∀ r, r < 32768 → (dw (F := F) tb r).toNat < 49152

/-- One trip of the issue loop. -/
theorem t1_step (H : InRange (F := F) tb) (q : PosShare TreeShare) (k : Fin k0_t1_loop.trips) (acc : Unit) :
    iprop((tbM.view.loc (c : Thread nD τ) ↦{q} tb) ∗ rowPend c tb ys (pt i) f (2 * k.val) 0)
      ⊢ wp frame (wpE defs₀ Variants.none (c : Thread nD τ) none) Set.univ
        (k0_t1_body (F := F) i tbM (Memref.isWhole_whole _) arg3 harg3 arg4 harg4 arg5 harg5 arg6 harg6 arg7 harg7 ysM (Memref.isWhole_whole _) arg9 harg9 bufM (Memref.isWhole_whole _) cc0_scratch1 k acc)
        (fun _ => (iprop((tbM.view.loc (c : Thread nD τ) ↦{q} tb) ∗ rowPend c tb ys (pt i) f (2 * (k.val + 1)) 0) : sProp 𝕄)) := by
  have hk : k.val < 1024 := trips1 ▸ k.isLt
  have hi := pt_lt i
  unfold k0_t1_body
  iintro ⟨HT, HP⟩
  iapply (load_dw c tb (pt i * 2048 + 2 * k.val) (by omega) (off1 i k)) $$ HT
  iintro HT
  iapply (assume_bind Variants.none c none (rows_inb _ (H (pt i * 2048 + 2 * k.val) (by omega))))
  iapply (issue_row c tb ys (pt i) f (2 * k.val) (by omega) (off2 k) rfl) $$ HP
  iintro HP
  iapply (load_dw c tb (pt i * 2048 + (2 * k.val + 1)) (by omega) (off4 i k)) $$ HT
  iintro HT
  iapply (assume_bind Variants.none c none (rows_inb _ (H (pt i * 2048 + (2 * k.val + 1)) (by omega))))
  iapply (issue_row c tb ys (pt i) f (2 * k.val + 1) (by omega) (off5 k) rfl) $$ HP
  iintro HP
  rw [wp_pure]
  imodintro
  isplitl [HT]; · iexact HT
  iexact HP

/-- One trip of the drain loop. -/
theorem t2_step (H : InRange (F := F) tb) (q : PosShare TreeShare) (k : Fin k0_t2_loop.trips) (acc : Unit) :
    iprop((tbM.view.loc (c : Thread nD τ) ↦{q} tb) ∗ rowPend c tb ys (pt i) f 2048 (2 * k.val * rowN) ∗ (∃ W, owes (c : Thread nD τ) 0 W))
      ⊢ wp frame (wpE defs₀ Variants.none (c : Thread nD τ) none) Set.univ
        (k0_t2_body (F := F) i tbM (Memref.isWhole_whole _) arg3 harg3 arg4 harg4 arg5 harg5 arg6 harg6 arg7 harg7 ysM (Memref.isWhole_whole _) arg9 harg9 bufM (Memref.isWhole_whole _) cc0_scratch1 k acc)
        (fun _ => (iprop((tbM.view.loc (c : Thread nD τ) ↦{q} tb) ∗ rowPend c tb ys (pt i) f 2048 (2 * (k.val + 1) * rowN) ∗ (∃ W, owes (c : Thread nD τ) 0 W)) : sProp 𝕄)) := by
  have hk : k.val < 1024 := trips2 ▸ k.isLt
  have hi := pt_lt i
  unfold k0_t2_body
  iintro ⟨HT, HP⟩
  iapply (load_dw c tb (pt i * 2048 + 2 * k.val) (by omega) (off7 i k)) $$ HT
  iintro HT
  iapply (assume_bind Variants.none c none (rows_inb _ (H (pt i * 2048 + 2 * k.val) (by omega))))
  iapply (wait_row c tb ys (pt i) f (2 * k.val) (by omega)) $$ HP
  iintro HP
  iapply (load_dw c tb (pt i * 2048 + (2 * k.val + 1)) (by omega) (off10 i k)) $$ HT
  iintro HT
  iapply (assume_bind Variants.none c none (rows_inb _ (H (pt i * 2048 + (2 * k.val + 1)) (by omega))))
  iapply (wait_row c tb ys (pt i) f (2 * k.val + 1) (by omega)) $$ HP
  iintro HP
  rw [wp_pure]
  imodintro
  isplitl [HT]; · iexact HT
  iexact HP

end Point

end Cert.Kernel3Ideal.Combined

end
-- ==== Proof.CombBody.lean ====
/-
  One run of the combination's body: its rows fetched into the scratch, then summed, added to the stream and normalised.
-/
module

public import proofs.«01_k».proof.Proof.CombRows
public import Idealize.ShloMosaic.Lib.Tactic
public import Idealize.ShloMosaic.Lib.Exec
public import Idealize.ShloMosaic.Lib.Pipeline.FrameBody

@[expose] public section

noncomputable section

namespace Cert.Kernel3Ideal.Combined

open Idealize.ShloMosaic Idealize.ShloMosaic.TcCoe Idealize.ShloMosaic.Tactic
open Idealize.SL Idealize.SL.RA
open Idealize.SL.BI (sProp bigSep)
open scoped Idealize.SL.BI
open Idealize.SL.BI.BIBase Idealize.SL.BI.Laws Idealize.SL.ProofMode Idealize.SL.Sem
open Dispatch Cert.Kernel3Ideal.Gen

variable {F : FTy → Type} [FloatOps F]

local notation "𝕄" => MT nD τ sig Unit (Elt F) ℕ (Idealize.ShloMosaic.Pipeline.UD sig nD τ) ℕ

/-- A loop at the head of a program, by an invariant that ignores what the loop carries. -/
theorem loop_bind (c : Dev nD) {α : Type} {Q : α → sProp 𝕄} {l : Scf.Loop 32} {hok : l.OK}
    {body : Fin l.trips → PUnit → Prog (TpuEff nD τ sig (Elt F) Λ₀ (c : Thread nD τ).2) PUnit} {kk : PUnit → Prog (TpuEff nD τ sig (Elt F) Λ₀ (c : Thread nD τ).2) α}
    (I : ℕ → sProp 𝕄) (n : ℕ) (hn : l.trips = n)
    (hbody : ∀ k acc, I k.val ⊢ wp frame (wpE defs₀ Variants.none (c : Thread nD τ) none) Set.univ (body k acc) (fun _ => I (k.val + 1)))
    (hk : I n ⊢ wp frame (wpE defs₀ Variants.none (c : Thread nD τ) none) Set.univ (kk ⟨⟩) Q) :
    I 0 ⊢ wp frame (wpE defs₀ Variants.none (c : Thread nD τ) none) Set.univ (Scf.Loop.for l hok ⟨⟩ body >>= kk) Q := by
  subst hn
  have := Scf.wp_for_bind frame (wpE defs₀ Variants.none (c : Thread nD τ) none) Set.univ l.lb l.ub l.st hok (⟨⟩ : PUnit) body (fun k _ => I k) hbody (kk := kk) (Q := Q)
  iintro HI
  iapply this $$ HI
  iintro %acc HI
  iapply hk
  iexact HI

/-- An update in front of a program. -/
theorem update_first (c : Dev nD) {α : Type} {Q : α → sProp 𝕄} {P P' : sProp 𝕄} {e : Prog (TpuEff nD τ sig (Elt F) Λ₀ (c : Thread nD τ).2) α} (h : P ⊢ (|={Set.univ}=> P' : sProp 𝕄))
    (hk : P' ⊢ wp frame (wpE defs₀ Variants.none (c : Thread nD τ) none) Set.univ e Q) : P ⊢ wp frame (wpE defs₀ Variants.none (c : Thread nD τ) none) Set.univ e Q := by
  iintro HP
  imod h $$ HP with HP
  iapply hk
  iexact HP

variable (c : Dev nD) (i : grid0.Coords) (tb : S32768.Idx → Elt F .i32) (ys : YsC F) (q : PosShare TreeShare) (f : BufC F)
  (arg3 : Memref sig .tc .vmem S1x1024x1024 .f32) (harg3 : arg3.IsWhole) (arg4 : Memref sig .tc .vmem S1024x128 .f32) (harg4 : arg4.IsWhole)
  (arg5 : Memref sig .tc .vmem S1x1x1024 .f32) (harg5 : arg5.IsWhole) (arg6 : Memref sig .tc .vmem S1x1024 .f32) (harg6 : arg6.IsWhole)
  (arg7 : Memref sig .tc .vmem S1x1024 .f32) (harg7 : arg7.IsWhole) (arg9 : Memref sig .tc .vmem S1x1024x1024 .f32) (harg9 : arg9.IsWhole)

/-- What the rows use, the scratch at `f`. -/
abbrev Side (f : BufC F) : sProp 𝕄 :=
  iprop((bufM.view.loc (c : Thread nD τ) ↦{fullShare} f) ∗ (tbM.view.loc (c : Thread nD τ) ↦{q} tb)
    ∗ (ysM.view.loc (c : Thread nD τ) ↦{fullShare} ys) ∗ semVal ((c : Thread nD τ), .dma cc0_scratch1.sem) 0 ∗ (∃ W, owes (c : Thread nD τ) 0 W))

/-- The point's rows at the head of a program. -/
theorem rows_run {α : Type} {Q : α → sProp 𝕄} (R : sProp 𝕄) (H : InRange (F := F) tb)
    {kk : Prog (TpuEff nD τ sig (Elt F) Λ₀ (c : Thread nD τ).2) α}
    (hk : iprop(Side c tb ys q (gath tb ys (pt i)) ∗ R) ⊢ wp frame (wpE defs₀ Variants.none (c : Thread nD τ) none) Set.univ kk Q) :
    iprop(Side c tb ys q f ∗ R) ⊢ wp frame (wpE defs₀ Variants.none (c : Thread nD τ) none) Set.univ
      (Scf.Loop.for k0_t1_loop k0_t1_ok ⟨⟩ (k0_t1_body (F := F) i tbM (Memref.isWhole_whole _) arg3 harg3 arg4 harg4 arg5 harg5 arg6 harg6 arg7 harg7 ysM (Memref.isWhole_whole _) arg9 harg9 bufM (Memref.isWhole_whole _) cc0_scratch1) >>= fun _ =>
        Scf.Loop.for k0_t2_loop k0_t2_ok ⟨⟩ (k0_t2_body (F := F) i tbM (Memref.isWhole_whole _) arg3 harg3 arg4 harg4 arg5 harg5 arg6 harg6 arg7 harg7 ysM (Memref.isWhole_whole _) arg9 harg9 bufM (Memref.isWhole_whole _) cc0_scratch1) >>= fun _ => kk) Q := by
  have hs : iprop((bufM.view.loc (c : Thread nD τ) ↦{fullShare} f) ∗ (ysM.view.loc (c : Thread nD τ) ↦{fullShare} ys) ∗ semVal ((c : Thread nD τ), .dma cc0_scratch1.sem) 0)
      ⊢ (|={Set.univ}=> rowPend c tb ys (pt i) f 0 0 : sProp 𝕄) :=
    (rowC c tb ys (pt i) f).start (U := Pipeline.UD sig nD τ) c (.dma cc0_scratch1.sem) rowN
  have he : rowPend c tb ys (pt i) f 2048 (2048 * rowN)
      ⊢ (|={Set.univ}=> iprop((bufM.view.loc (c : Thread nD τ) ↦{fullShare} gath tb ys (pt i)) ∗ (ysM.view.loc (c : Thread nD τ) ↦{fullShare} ys) ∗ semVal ((c : Thread nD τ), .dma cc0_scratch1.sem) 0) : sProp 𝕄) :=
    (rowC c tb ys (pt i) f).finish (U := Pipeline.UD sig nD τ) c (.dma cc0_scratch1.sem) (N := rowN) (by decide)
  refine update_first c (P' := iprop(((tbM.view.loc (c : Thread nD τ) ↦{q} tb) ∗ rowPend c tb ys (pt i) f (2 * 0) 0) ∗ (∃ W, owes (c : Thread nD τ) 0 W) ∗ R)) ?_ ?_
  · iintro ⟨⟨HB, HT, HY, HV, HW⟩, HR⟩
    imod hs $$ [HB HY HV] with HP
    · isplitl [HB]; · iexact HB
      isplitl [HY]; · iexact HY
      iexact HV
    imodintro
    isplitl [HT HP]
    · isplitl [HT]; · iexact HT
      iexact HP
    isplitl [HW]; · iexact HW
    iexact HR
  refine loop_bind c (fun k => iprop(((tbM.view.loc (c : Thread nD τ) ↦{q} tb) ∗ rowPend c tb ys (pt i) f (2 * k) 0) ∗ (∃ W, owes (c : Thread nD τ) 0 W) ∗ R)) 1024 trips1 (fun k acc => ?_) ?_
  · exact (BI.sep_mono (t1_step c tb ys f i arg3 harg3 arg4 harg4 arg5 harg5 arg6 harg6 arg7 harg7 arg9 harg9 H q k acc) (BI.Entails.refl _)).trans (wp_frame_r frame _ _)
  refine Entails.trans (Q := iprop(((tbM.view.loc (c : Thread nD τ) ↦{q} tb) ∗ rowPend c tb ys (pt i) f 2048 (2 * 0 * rowN) ∗ (∃ W, owes (c : Thread nD τ) 0 W)) ∗ R)) ?_ ?_
  · rw [show 2 * 0 * rowN = 0 by simp]
    iintro ⟨⟨HT0, HP⟩, HW, HR⟩
    isplitl [HT0 HP HW]
    · isplitl [HT0]; · iexact HT0
      isplitl [HP]; · iexact HP
      iexact HW
    iexact HR
  refine loop_bind c (fun k => iprop(((tbM.view.loc (c : Thread nD τ) ↦{q} tb) ∗ rowPend c tb ys (pt i) f 2048 (2 * k * rowN) ∗ (∃ W, owes (c : Thread nD τ) 0 W)) ∗ R)) 1024 trips2 (fun k acc => ?_) ?_
  · exact (BI.sep_mono (t2_step c tb ys f i arg3 harg3 arg4 harg4 arg5 harg5 arg6 harg6 arg7 harg7 arg9 harg9 H q k acc) (BI.Entails.refl _)).trans (wp_frame_r frame _ _)
  refine update_first c (P' := iprop(Side c tb ys q (gath tb ys (pt i)) ∗ R)) ?_ hk
  iintro ⟨⟨HT, HP, HW⟩, HR⟩
  imod he $$ HP with ⟨HB, HY, HV⟩
  imodintro
  isplitr [HR]
  · isplitl [HB]; · iexact HB
    isplitl [HT]; · iexact HT
    isplitl [HY]; · iexact HY
    isplitl [HV]; · iexact HV
    iexact HW
  iexact HR

abbrev rX : Rect S1x1024x1024 := Rect.unit (s := S1x1024x1024) ![0, 0, 0] S1x1024x1024.size inb_S1x1024x1024_S1x1024x1024_0_0_0
abbrev rR : Rect S1024x128 := Rect.unit (s := S1024x128) ![0, 0] S1024x128.size inb_S1024x128_S1024x128_0_0
abbrev rB0 : Rect S2x1024x1024 := Rect.unit (s := S2x1024x1024) ![0, 0, 0] S1x1024x1024.size inb_S2x1024x1024_S1x1024x1024_0_0_0
abbrev rB1 : Rect S2x1024x1024 := Rect.unit (s := S2x1024x1024) ![1, 0, 0] S1x1024x1024.size inb_S2x1024x1024_S1x1024x1024_1_0_0
abbrev rG : Rect S1x1x1024 := Rect.unit (s := S1x1x1024) ![0, 0, 0] S1x1x1024.size inb_S1x1x1024_S1x1x1024_0_0_0
abbrev rN : Rect S1x1024 := Rect.unit (s := S1x1024) ![0, 0] S1x1024.size inb_S1x1024_S1x1024_0_0

/-- What the body leaves in the output's block. -/
def outOf (x : Vec F S1x1024x1024 .f32) (r : Vec F S1024x128 .f32) (gt : Vec F S1x1x1024 .f32) (g b : Vec F S1x1024 .f32) (y : Vec F S2x1024x1024 .f32) :
    Vec F S1x1024x1024 .f32 :=
  View.canon [⟨rX, k0_pay1 (k0_pay2 (View.ld r rR) (View.ld y rB0) (View.ld y rB1) (View.ld x rX) (View.ld gt rG))
    (k0_pay3 (View.ld r rR) (View.ld y rB0) (View.ld y rB1) (View.ld x rX) (View.ld gt rG)) (View.ld g rN) (View.ld b rN)⟩]

theorem coverX (p : Vec F S1x1024x1024 .f32) (y : S1x1024x1024.Idx) :
    ∃ pc ∈ ([⟨rX, p⟩] : List (View.Piece (Elt F) S1x1024x1024 .f32)), y ∈ pc.1.set :=
  View.cover_of_tiled [⟨rX, p⟩] S1x1024x1024.size (by rfl) y

variable (x : Vec F S1x1024x1024 .f32) (r : Vec F S1024x128 .f32) (gt : Vec F S1x1x1024 .f32) (g b : Vec F S1x1024 .f32)

/-- The windows, the output's at `d`. -/
abbrev Wins (d : Vec F S1x1024x1024 .f32) : sProp 𝕄 :=
  iprop(owns (c : Thread nD τ) arg3 fullShare x ∗ owns (c : Thread nD τ) arg4 fullShare r ∗ owns (c : Thread nD τ) arg5 fullShare gt
    ∗ owns (c : Thread nD τ) arg6 fullShare g ∗ owns (c : Thread nD τ) arg7 fullShare b ∗ owns (c : Thread nD τ) arg9 fullShare d)

/-- The body at a point. -/
theorem body_run (H : InRange (F := F) tb) (d : Vec F S1x1024x1024 .f32) (K : PUnit → sProp 𝕄) :
    iprop(Side c tb ys q f ∗ Wins c arg3 arg4 arg5 arg6 arg7 arg9 x r gt g b d
        ∗ (iprop(Side c tb ys q (gath tb ys (pt i)) ∗ Wins c arg3 arg4 arg5 arg6 arg7 arg9 x r gt g b (outOf x r gt g b (gath tb ys (pt i)))) -∗ K ⟨⟩))
      ⊢ wp frame (wpE (defs₀ (F := F)) Variants.none c none) Set.univ
        (cc0_combine_ln (F := F) i tbM (Memref.isWhole_whole _) arg3 harg3 arg4 harg4 arg5 harg5 arg6 harg6 arg7 harg7 ysM (Memref.isWhole_whole _) arg9 harg9 bufM (Memref.isWhole_whole _) cc0_scratch1) K := by
  rw [cc0_combine_ln_eq_skeleton]
  unfold cc0_combine_ln_skel
  rw [k0_part1_eq_skeleton]
  unfold k0_part1_skel
  rw [wp_bind]
  refine rows_run c i tb ys q f arg3 harg3 arg4 harg4 arg5 harg5 arg6 harg6 arg7 harg7 arg9 harg9
    (iprop(Wins c arg3 arg4 arg5 arg6 arg7 arg9 x r gt g b d
        ∗ (iprop(Side c tb ys q (gath tb ys (pt i)) ∗ Wins c arg3 arg4 arg5 arg6 arg7 arg9 x r gt g b (outOf x r gt g b (gath tb ys (pt i)))) -∗ K ⟨⟩))) H ?_
  unfold Side Wins owns
  iintro ⟨⟨HB, HT, HY, HV, HW⟩, ⟨⟨%f3, %hf3, H3⟩, ⟨%f4, %hf4, H4⟩, ⟨%f5, %hf5, H5⟩, ⟨%f6, %hf6, H6⟩, ⟨%f7, %hf7, H7⟩, ⟨%f9, -, H9⟩⟩, Hk⟩
  subst hf3 hf4 hf5 hf6 hf7
  sl_exec
  sl_step
  iapply Hk
  isplitl [HB HT HY HV HW]
  · isplitl [HB]; · iexact HB
    isplitl [HT]; · iexact HT
    isplitl [HY]; · iexact HY
    isplitl [HV]; · iexact HV
    iexact HW
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  iexists _; isplitr
  swap; · iexact H9
  ipureintro
  exact View.read_writes_eq_canon _ _ _ (coverX _)

end Cert.Kernel3Ideal.Combined

end
-- ==== Proof.CombKit.lean ====
/-
  The launch of the combination: the host operations before it, the table they leave, and the resources of the call.
-/
module

public import proofs.«01_k».proof.Proof.CombBody

@[expose] public section

noncomputable section

namespace Cert.Kernel3Ideal.Combined

open Idealize.ShloMosaic Idealize.ShloMosaic.TcCoe Idealize.ShloMosaic.Tactic
open Idealize.SL Idealize.SL.RA
open Idealize.SL.BI
open scoped Idealize.SL.BI
open Idealize.SL.BI.BIBase Idealize.SL.BI.Laws Idealize.SL.ProofMode Idealize.SL.Sem
open Cert.Kernel3Ideal.Gen

variable {F : FTy → Type} [FloatOps F]

local notation "𝕄" => MT nD τ sig Unit (Elt F) ℕ (Idealize.ShloMosaic.Pipeline.UD sig nD τ) ℕ

/-- The host operations before the call, stretch by stretch. -/
abbrev hostSegs : List (List (HloOp τ sig (Elt F))) :=
  [hostOps0, hostOps0_1, hostOps0_2, hostOps0_3, hostOps0_4, hostOps0_5, hostOps0_6]

theorem hostSegs_sub : (hostSegs (F := F)).Forall fun ops => ops.Forall fun op => op.bufs ⊆ StableHlo.tcRefs τ sig := by
  simp only [List.Forall]
  exact ⟨hostOps0_sub, hostOps0_1_sub, hostOps0_2_sub, hostOps0_3_sub, hostOps0_4_sub, hostOps0_5_sub, hostOps0_6_sub⟩

/-- None of them makes a buffer of its own. -/
theorem hostSegs_fresh : (hostSegs (F := F)).Forall fun ops => ops.Forall fun op => op.fresh = ∅ := by
  simp only [List.Forall]
  refine ⟨?_, ?_, ?_, ?_, ?_, ?_, ?_⟩ <;> (repeat' constructor)

variable (m : (ℓ : Loc nD τ sig) → Buf (Elt F) ℓ) (ρ : Dev nD → PrngReg)

/-- The contents of every buffer when the call is entered. -/
def V (c : Dev nD) (b : Ref sig .tc) : Buf (Elt F) ((c : Thread nD τ).loc b) :=
  StableHlo.after (List.flatten hostSegs) (fun b => m (c, b)) b

/-- The program is the host operations and then the call. -/
theorem hmain (𝒱₀ : Variants) :
    Pipeline.HMainP (Ix := Unit) (Name := ℕ) (U := Pipeline.UD sig nD τ) (Lvl := ℕ) pcfgs 0 defs₀ 𝒱₀ m main (V m) :=
  Pipeline.hmainP_prefixes pcfgs 0 defs₀ 𝒱₀ m main hostSegs hostSegs_sub hostSegs_fresh main_chain

/-- The table as the call finds it. -/
def tbl : pre0.Contents (Elt F) := fun j => V m (0 : Dev nD) (pre0.ref j)

theorem V_pre (c : Dev nD) (j : Fin 1) : V m c (pre0.ref j) = tbl m j := by
  obtain rfl : c = 0 := Subsingleton.elim _ _; rfl

/-- The index maps read no table: any table will do. -/
abbrev adm : (pcfg0 (F := F)).Adm := ⟨tbl m, trivial⟩
abbrev cfgM : Pipeline.Cfg sig Λ₀ := cfg0 (adm m)

/-- The table: the row of the experts' outputs each assignment took. -/
abbrev tb0 : S32768.Idx → Elt F .i32 := V m (0 : Dev nD) main_v18

/-- The body's own semaphore. -/
abbrev osem0 : Fin 1 → SemLoc sig := fun j => (![.dma cc0_scratch1.sem] : Fin 1 → SemLoc sig) j

theorem ownSemFacts0 : Pipeline.OwnSemFacts spec0 osem0 := by decide

theorem ownSems0_eq (c : Dev nD) :
    (Pipeline.ownSems0 (Ix := Unit) (Name := ℕ) (U := Pipeline.UD sig nD τ) (Lvl := ℕ) (Val := Elt F) (τ := τ) osem0 c : sProp 𝕄)
      = semVal ((c : Thread nD τ), .dma cc0_scratch1.sem) 0 := by
  rw [Pipeline.ownSems0_eq_of_list c osem0 [(0 : Fin 1)] (by decide) (by decide)]; rfl

/-- The body reads one buffer by its own copies, the experts' outputs, … -/
abbrev H0 : Finset (Ref sig .tc) := {main_arg3}
/-- … and writes none. -/
abbrev R0 : Finset (Ref sig .tc) := ∅

theorem H0_sub : H0 ⊆ Pipeline.restRefsP sig pre0 spec0 := by decide
theorem R0_sub : R0 ⊆ Pipeline.restRefsP sig pre0 spec0 \ H0 := Finset.empty_subset _

/-- The table's half the call lends the body. -/
theorem PhiT0_eq (c : Dev nD) :
    (Pipeline.ΦT pre0 (tbl m) c : sProp 𝕄) = (tbM.view.loc (c : Thread nD τ) ↦{fullShare.right} tb0 m) := by
  unfold Pipeline.ΦT Pipeline.prefHeld
  rw [show (Finset.univ : Finset (Fin 1)) = {(0 : Fin 1)} from by decide, bigSep_singleton]
  rfl

end Cert.Kernel3Ideal.Combined

end
-- ==== Proof.CombRun.lean ====
/-
  The run of the combination: from a table of rows of the experts' outputs, it ends with every block of its output at what
  its point computes.
-/
module

public import proofs.«01_k».proof.Proof.CombKit

@[expose] public section

noncomputable section

namespace Cert.Kernel3Ideal.Combined

open Idealize.ShloMosaic Idealize.ShloMosaic.TcCoe Idealize.ShloMosaic.Tactic
open Idealize.SL Idealize.SL.RA
open Idealize.SL.BI (sProp bigSep)
open scoped Idealize.SL.BI
open Idealize.SL.BI.BIBase Idealize.SL.BI.Laws Idealize.SL.ProofMode Idealize.SL.Sem
open Cert.Kernel3Ideal.Gen
open Idealize.ShloMosaic.Pipeline (Dat Cfg Window)

variable {F : FTy → Type} [FloatOps F]

local notation "𝕄" => MT nD τ sig Unit (Elt F) ℕ (Idealize.ShloMosaic.Pipeline.UD sig nD τ) ℕ

variable (m : (ℓ : Loc nD τ sig) → Buf (Elt F) ℓ) (ρ : Dev nD → PrngReg)

/-- What the body carries from point to point. -/
def Inv (c : Dev nD) : sProp 𝕄 :=
  iprop((∃ g : Buf (Elt F) ((c : Thread nD τ).loc cc0_scratch0), ((c : Thread nD τ).loc cc0_scratch0) ↦{fullShare} g) ∗ (∃ r, prngReg c r)
    ∗ semVal ((c : Thread nD τ), .dma cc0_scratch1.sem) 0
    ∗ (((c : Thread nD τ).loc main_arg3) ↦{fullShare} V m c main_arg3)
    ∗ (tbM.view.loc (c : Thread nD τ) ↦{fullShare.right} tb0 m))

/-- A window's block at a point. -/
def iblk (c : Dev nD) (w : Fin 6) (t : Fin (cfgM m).N) : (((cfgM m).win w).xblock ((cfgM m).grid.coords t)).Idx → Elt F ((cfgM m).win w).elt :=
  (((cfgM m).win w).blk t).view.read (Elt F) (V m c (Pipeline.arrRef spec0 w))

/-- The output's block after its point. -/
def outAt (c : Dev nD) (t : Fin (cfgM m).N) : Vec F S1x1024x1024 .f32 :=
  outOf (iblk m c 0 t) (iblk m c 1 t) (iblk m c 2 t) (iblk m c 3 t) (iblk m c 4 t)
    (gath (tb0 m) (V m c main_arg3) (pt (grid0.coords t)))

/-- The run's data. -/
def dats (p : Fin 1) (c : Dev nD) : Pipeline.Dat τ (Elt F) Unit ℕ (Pipeline.UD sig nD τ) ℕ (Pipeline.pin (pcfgs (F := F)) (fun _ => adm m) p) c :=
  match p with
  | 0 => { A := fun w => V m c (Pipeline.arrRef spec0 w)
           after := fun w t => match w with
             | ⟨0, _⟩ => iblk m c 0 t
             | ⟨1, _⟩ => iblk m c 1 t
             | ⟨2, _⟩ => iblk m c 2 t
             | ⟨3, _⟩ => iblk m c 3 t
             | ⟨4, _⟩ => iblk m c 4 t
             | ⟨5, _⟩ => outAt m c t
           Φ := fun _ => Inv m c
           q := fun _ => fullShare
           owed := fun _ => 0 }
  | ⟨_ + 1, h⟩ => absurd h (Nat.not_lt.2 (Nat.le_add_left _ _))

theorem after0 (c : Dev nD) (t : Fin (cfgM m).N) : (dats m 0 c).after (0 : Fin 6) t = iblk m c 0 t := by dsimp only [dats]
theorem after1 (c : Dev nD) (t : Fin (cfgM m).N) : (dats m 0 c).after (1 : Fin 6) t = iblk m c 1 t := by dsimp only [dats]
theorem after2 (c : Dev nD) (t : Fin (cfgM m).N) : (dats m 0 c).after (2 : Fin 6) t = iblk m c 2 t := by dsimp only [dats]
theorem after3 (c : Dev nD) (t : Fin (cfgM m).N) : (dats m 0 c).after (3 : Fin 6) t = iblk m c 3 t := by dsimp only [dats]
theorem after4 (c : Dev nD) (t : Fin (cfgM m).N) : (dats m 0 c).after (4 : Fin 6) t = iblk m c 4 t := by dsimp only [dats]
theorem after5 (c : Dev nD) (t : Fin (cfgM m).N) : (dats m 0 c).after (5 : Fin 6) t = outAt m c t := by dsimp only [dats]

theorem before0 (c : Dev nD) (t : Fin (cfgM m).N) (d) : (dats m 0 c).before (0 : Fin 6) t d = iblk m c 0 t :=
  (dats m 0 c).before_in_eq_fetched (0 : Fin 6) rfl (fun _ => rfl) (fun _ _ _ => rfl) (fun _ => rfl) t d
theorem before1 (c : Dev nD) (t : Fin (cfgM m).N) (d) : (dats m 0 c).before (1 : Fin 6) t d = iblk m c 1 t :=
  (dats m 0 c).before_in_eq_fetched (1 : Fin 6) rfl (fun _ => rfl) (fun _ _ _ => rfl) (fun _ => rfl) t d
theorem before2 (c : Dev nD) (t : Fin (cfgM m).N) (d) : (dats m 0 c).before (2 : Fin 6) t d = iblk m c 2 t :=
  (dats m 0 c).before_in_eq_fetched (2 : Fin 6) rfl (fun _ => rfl) (fun _ _ _ => rfl) (fun _ => rfl) t d
theorem before3 (c : Dev nD) (t : Fin (cfgM m).N) (d) : (dats m 0 c).before (3 : Fin 6) t d = iblk m c 3 t :=
  (dats m 0 c).before_in_eq_fetched (3 : Fin 6) rfl (fun _ => rfl) (fun _ _ _ => rfl) (fun _ => rfl) t d
theorem before4 (c : Dev nD) (t : Fin (cfgM m).N) (d) : (dats m 0 c).before (4 : Fin 6) t d = iblk m c 4 t :=
  (dats m 0 c).before_in_eq_fetched (4 : Fin 6) rfl (fun _ => rfl) (fun _ _ _ => rfl) (fun _ => rfl) t d

theorem t_lt (t : Fin grid0.N) : t.val < 16 := lt_of_lt_of_eq t.isLt N_0

/-- The windows' buffers at a point, the output's at `d`. -/
abbrev Stages (c : Dev nD) (t : Fin (cfgM m).N) (s : (w : Fin 6) → Fin (spec0 w).nbuf) (d : Vec F S1x1024x1024 .f32) : sProp 𝕄 :=
  Wins c (spec0_0.stage (s 0)) (spec0_1.stage (s 1)) (spec0_2.stage (s 2)) (spec0_3.stage (s 3)) (spec0_4.stage (s 4)) (spec0_5.stage (s 5))
    (iblk m c 0 t) (iblk m c 1 t) (iblk m c 2 t) (iblk m c 3 t) (iblk m c 4 t) d

theorem point_run (T : InRange (F := F) (tb0 m)) (c : Dev nD) (t : Fin (cfgM m).N) (s : (w : Fin 6) → Fin (spec0 w).nbuf) :
    (iprop(Inv m c ∗ (∃ W, owes (c : Thread nD τ) 0 W) ∗ (∃ d, Stages m c t s d)) : sProp 𝕄)
      ⊢ wp frame (wpE defs₀ Variants.none (c : Thread nD τ) none) Set.univ
      (cc0_combine_ln (F := F) (grid0.coords t) tbM (Memref.isWhole_whole _) (spec0_0.stage (s 0)) (hstage0_0 ((s 0).cast nbuf0_0)) (spec0_1.stage (s 1)) (hstage0_1 ((s 1).cast nbuf0_1)) (spec0_2.stage (s 2)) (hstage0_2 ((s 2).cast nbuf0_2)) (spec0_3.stage (s 3)) (hstage0_3 ((s 3).cast nbuf0_3)) (spec0_4.stage (s 4)) (hstage0_4 ((s 4).cast nbuf0_4)) ysM (Memref.isWhole_whole _) (spec0_5.stage (s 5)) (hstage0_5 ((s 5).cast nbuf0_5)) bufM (Memref.isWhole_whole _) cc0_scratch1)
      (fun _ => iprop(Inv m c ∗ (∃ W, owes (c : Thread nD τ) 0 W) ∗ Stages m c t s (outAt m c t))) := by
  iintro ⟨HI, HW, %d, HS⟩
  unfold Inv
  icases HI with ⟨⟨%f, HB⟩, HP, HV, HY, HT⟩
  iapply (body_run c (grid0.coords t) (tb0 m) (V m c main_arg3) fullShare.right f (spec0_0.stage (s 0)) (hstage0_0 ((s 0).cast nbuf0_0)) (spec0_1.stage (s 1)) (hstage0_1 ((s 1).cast nbuf0_1)) (spec0_2.stage (s 2)) (hstage0_2 ((s 2).cast nbuf0_2)) (spec0_3.stage (s 3)) (hstage0_3 ((s 3).cast nbuf0_3)) (spec0_4.stage (s 4)) (hstage0_4 ((s 4).cast nbuf0_4)) (spec0_5.stage (s 5)) (hstage0_5 ((s 5).cast nbuf0_5))
    (iblk m c 0 t) (iblk m c 1 t) (iblk m c 2 t) (iblk m c 3 t) (iblk m c 4 t) T d)
  isplitl [HB HT HY HV HW]
  · isplitl [HB]; · iexact HB
    isplitl [HT]; · iexact HT
    isplitl [HY]; · iexact HY
    isplitl [HV]; · iexact HV
    iexact HW
  isplitl [HS]; · iexact HS
  iintro ⟨⟨HB, HT, HY, HV, HW⟩, HS⟩
  isplitl [HB HT HY HV HP]
  · isplitl [HB]
    · iexists _; iexact HB
    isplitl [HP]; · iexact HP
    isplitl [HV]; · iexact HV
    isplitl [HY]; · iexact HY
    iexact HT
  isplitl [HW]; · iexact HW
  iexact HS

/-- The body's obligation. -/
theorem body_obligation (T : InRange (F := F) (tb0 m)) (c : Dev nD) :
    Pipeline.BodyObligationLoose (dats m 0 c) defs₀ Variants.none () Set.univ := by
  intro t
  have e0 := point_run m T c t ((cfgM m).slots t)
  rw [bigSep_W0, bigSep_W0]
  refine Entails.trans ?_ (e0.trans (wp_mono _ _ _ fun _ => ?_))
  · show iprop(Inv m c ∗ (dats m 0 c).owesAt () t.castSucc
      ∗ (∃ d, owns c (spec0_0.stage ((cfgM m).slots t (0 : Fin 6))) fullShare ((dats m 0 c).before (0 : Fin 6) t d))
      ∗ (∃ d, owns c (spec0_1.stage ((cfgM m).slots t (1 : Fin 6))) fullShare ((dats m 0 c).before (1 : Fin 6) t d))
      ∗ (∃ d, owns c (spec0_2.stage ((cfgM m).slots t (2 : Fin 6))) fullShare ((dats m 0 c).before (2 : Fin 6) t d))
      ∗ (∃ d, owns c (spec0_3.stage ((cfgM m).slots t (3 : Fin 6))) fullShare ((dats m 0 c).before (3 : Fin 6) t d))
      ∗ (∃ d, owns c (spec0_4.stage ((cfgM m).slots t (4 : Fin 6))) fullShare ((dats m 0 c).before (4 : Fin 6) t d))
      ∗ (∃ d, owns c (spec0_5.stage ((cfgM m).slots t (5 : Fin 6))) fullShare ((dats m 0 c).before (5 : Fin 6) t d))) ⊢ _
    iintro ⟨HI, ⟨%W, -, HW⟩, ⟨%d0, H0⟩, ⟨%d1, H1⟩, ⟨%d2, H2⟩, ⟨%d3, H3⟩, ⟨%d4, H4⟩, %d5, H5⟩
    rw [before0 m c t d0, before1 m c t d1, before2 m c t d2, before3 m c t d3, before4 m c t d4]
    isplitl [HI]; · iexact HI
    isplitl [HW]
    · iexists W; iexact HW
    iexists _
    isplitl [H0]; · iexact H0
    isplitl [H1]; · iexact H1
    isplitl [H2]; · iexact H2
    isplitl [H3]; · iexact H3
    isplitl [H4]; · iexact H4
    iexact H5
  · show _ ⊢ iprop(Inv m c ∗ (dats m 0 c).owesAt () t.succ
      ∗ owns c (spec0_0.stage ((cfgM m).slots t (0 : Fin 6))) fullShare ((dats m 0 c).after (0 : Fin 6) t)
      ∗ owns c (spec0_1.stage ((cfgM m).slots t (1 : Fin 6))) fullShare ((dats m 0 c).after (1 : Fin 6) t)
      ∗ owns c (spec0_2.stage ((cfgM m).slots t (2 : Fin 6))) fullShare ((dats m 0 c).after (2 : Fin 6) t)
      ∗ owns c (spec0_3.stage ((cfgM m).slots t (3 : Fin 6))) fullShare ((dats m 0 c).after (3 : Fin 6) t)
      ∗ owns c (spec0_4.stage ((cfgM m).slots t (4 : Fin 6))) fullShare ((dats m 0 c).after (4 : Fin 6) t)
      ∗ owns c (spec0_5.stage ((cfgM m).slots t (5 : Fin 6))) fullShare ((dats m 0 c).after (5 : Fin 6) t))
    rw [after0, after1, after2, after3, after4, after5]
    iintro ⟨HI, ⟨%W, HW⟩, HS⟩
    isplitl [HI]; · iexact HI
    isplitl [HW]
    · unfold Pipeline.Dat.owesAt Pipeline.owesWithin Pipeline.Dat.bound
      iexists W
      isplitr
      · ipureintro; exact fun _ _ => Or.inl trivial
      iexact HW
    iexact HS

/-! ## The launch -/

theorem enter (c : Dev nD) :
    iprop(Pipeline.ΦDRG osem0 spec0 H0 R0 (V m) (V m) c ∗ Pipeline.ΦT pre0 (tbl m) c) ⊢ (Inv m c : sProp 𝕄) := by
  rw [Pipeline.ΦDRG_eq, scopedRest0_eq, ownSems0_eq, PhiT0_eq, show (H0 : Finset (Ref sig .tc)) = {main_arg3} from rfl, Idealize.SL.BI.bigSep_singleton]
  unfold Inv
  iintro ⟨⟨Hsc, Hr, HV, HY, -⟩, HT⟩
  isplitl [Hsc]; · iexact Hsc
  isplitl [Hr]; · iexact Hr
  isplitl [HV]; · iexact HV
  isplitl [HY]; · iexact HY
  iexact HT

theorem leave (c : Dev nD) : (Inv m c : sProp 𝕄) ⊢ Pipeline.ΦDRG osem0 spec0 H0 R0 (V m) (V m) c := by
  rw [Pipeline.ΦDRG_eq, scopedRest0_eq, ownSems0_eq, show (H0 : Finset (Ref sig .tc)) = {main_arg3} from rfl, Idealize.SL.BI.bigSep_singleton]
  unfold Inv Pipeline.routed
  rw [show (R0 : Finset (Ref sig .tc)) = ∅ from rfl, Idealize.SL.BI.bigSep_empty]
  iintro ⟨Hsc, Hr, HV, HY, -⟩
  isplitl [Hsc]; · iexact Hsc
  isplitl [Hr]; · iexact Hr
  isplitl [HV]; · iexact HV
  isplitl [HY]; · iexact HY
  exact Idealize.SL.BI.Entails.refl _

set_option backward.isDefEq.respectTransparency.types false in
/-- The run: every execution ends, each window's array as the points leave it, every other array as the call found it,
    every semaphore at zero. -/
theorem run_main (T : InRange (F := F) (tb0 m)) :
    θ_run defs (onTc (τ := τ) (main (F := F))) (s₀ m ρ) (fun r =>
      Pipeline.FramePostRG (Pipeline.pin (pcfgs (F := F)) (fun _ => adm m)) (dats m) 0 R0 (V m) (V m) r ∧ r.2.sem = fun _ => 0) :=
  Pipeline.θ_run_frameP_dmaRG pcfgs (fun _ => adm m) (dats m) (0 : Fin 1) launch0 osem0 defs₀ Variants.none ownSemFacts0 H0 R0 H0_sub R0_sub m ρ main
    (hbody := fun c => body_obligation m T c) (hshare := fun c => (dats m 0 c).share_full fun _ => rfl)
    (howed := fun _ _ => rfl) (V := V m) (hmain := hmain m Variants.none) (hA := fun _ _ => rfl) (hpf := V_pre m) (G := V m)
    (hin := fun c => enter m c) (hout := fun c => leave m c) (Q' := fun r => Pipeline.FramePostRG (Pipeline.pin (pcfgs (F := F)) (fun _ => adm m)) (dats m) 0 R0 (V m) (V m) r ∧ r.2.sem = fun _ => 0)
    (hQ' := fun _ h => h)

end Cert.Kernel3Ideal.Combined

end
-- ==== Proof.CombTables.lean ====
/-
  What the host's operations leave before the combination's call: the arguments as they were, the table of rows, and the
  scale and shift as rows.
-/
module

public import proofs.«01_k».proof.Proof.CombRun
public import proofs.«01_k».proof.Proof.Cells
public import Idealize.ShloMosaic.Lib.StableHlo.Run
public import Idealize.ShloMosaic.Lib.Pipeline.ValueKit.Geometry

@[expose] public section

noncomputable section

namespace Cert.Kernel3Ideal.Combined

open Idealize.ShloMosaic Idealize.ShloMosaic.TcCoe Idealize.ShloMosaic.ValueIdx Idealize.ShloMosaic.Routing
open Idealize.ShloMosaic.StableHlo
open Idealize.SL.Sem
open Cert.Kernel3Ideal.Gen Cert.Routes

variable {F : FTy → Type} [FloatOps F]
variable (m : (ℓ : Loc nD τ sig) → Buf (Elt F) ℓ) (ρ : Dev nD → PrngReg)

set_option maxRecDepth 8192 in
set_option maxHeartbeats 2000000 in
theorem V_args (c : Dev nD) : V m c main_arg0 = m (c, Proc.devRef .tc main_arg0) ∧ V m c main_arg1 = m (c, Proc.devRef .tc main_arg1)
    ∧ V m c main_arg2 = m (c, Proc.devRef .tc main_arg2) ∧ V m c main_arg3 = m (c, Proc.devRef .tc main_arg3)
    ∧ V m c main_arg4 = m (c, Proc.devRef .tc main_arg4) ∧ V m c main_arg5 = m (c, Proc.devRef .tc main_arg5)
    ∧ V m c main_arg6 = m (c, Proc.devRef .tc main_arg6) ∧ V m c main_arg7 = m (c, Proc.devRef .tc main_arg7)
    ∧ V m c main_arg8 = m (c, Proc.devRef .tc main_arg8) := by
  refine ⟨?_, ?_, ?_, ?_, ?_, ?_, ?_, ?_, ?_⟩ <;>
  · unfold V hostSegs
    simp only [List.flatten_cons, List.flatten_nil, List.append_nil, hostOps0, hostOps0_1, hostOps0_2, hostOps0_3, hostOps0_4, hostOps0_5, hostOps0_6, List.cons_append,
      List.nil_append, TRef.binary, TRef.nullary, TRef.ternary, TRef.unary, TRef.toBuf, TRef.ofBuf, cast_eq]
    after_results_simp <;> rfl

set_option maxRecDepth 8192 in
set_option maxHeartbeats 2000000 in
theorem V_scale (c : Dev nD) : V m c main_v19 = shapeCast S1x1024 (m (c, Proc.devRef .tc main_arg7)) shapeCasts_S1024_S1x1024
    ∧ V m c main_v20 = shapeCast S1x1024 (m (c, Proc.devRef .tc main_arg8)) shapeCasts_S1024_S1x1024 := by
  refine ⟨?_, ?_⟩ <;>
  · unfold V hostSegs
    simp only [List.flatten_cons, List.flatten_nil, List.append_nil, hostOps0, hostOps0_1, hostOps0_2, hostOps0_3, hostOps0_4, hostOps0_5, hostOps0_6, List.cons_append,
      List.nil_append, TRef.binary, TRef.nullary, TRef.ternary, TRef.unary, TRef.toBuf, TRef.ofBuf, cast_eq]
    after_results_simp <;> rfl

set_option maxRecDepth 8192 in
set_option maxHeartbeats 2000000 in
theorem tb0_eq : tb0 m = rowsW bcast_S_S32 bcast_S_S_ reduceWindows_S32_S32_w32s1p31_0 h_S_ bcast_S16384x2_S16384x2x1_0_1 bcast_S32_S1x1x32_2
    bcast_S16384x2x1_S16384x2x32_0_1_2 bcast_S1x1x32_S16384x2x32_0_1_2 bcast_S32_S16384x2x32_2 bcast_S_S16384x2x32
    reducesTo_S16384x2x32_S16384x2_d2 shapeCasts_S16384x2_S32768 (m ((0 : Dev nD), Proc.devRef .tc main_arg0)) (m ((0 : Dev nD), Proc.devRef .tc main_arg1))
    (m ((0 : Dev nD), Proc.devRef .tc main_arg2)) := by
  unfold tb0 V hostSegs
  simp only [List.flatten_cons, List.flatten_nil, List.append_nil, hostOps0, hostOps0_1, hostOps0_2, hostOps0_3, hostOps0_4, hostOps0_5, hostOps0_6, List.cons_append,
    List.nil_append, TRef.binary, TRef.nullary, TRef.ternary, TRef.unary, TRef.toBuf, TRef.ofBuf, cast_eq]
  after_results_simp <;> rfl

/-- The arguments are a routing. -/
abbrev RoutedAt (e : ℕ → ℕ) : Prop := Routed (m ((0 : Dev nD), Proc.devRef .tc main_arg0)) (m ((0 : Dev nD), Proc.devRef .tc main_arg1)) (m ((0 : Dev nD), Proc.devRef .tc main_arg2)) e

variable {m} {e : ℕ → ℕ} (R : RoutedAt m e)
include R

theorem dw_toNat (r : ℕ) (hr : r < 32768) : (dw (F := F) (tb0 m) r).toNat = dst e r := by
  have hd := dst_lt R.lt hr
  rw [dw_at (F := F) (tb0 m) r hr, tb0_eq]
  exact (congrArg BitVec.toNat (rowsW_at _ _ _ _ _ _ _ _ _ _ _ _ R ⟨r, hr⟩)).trans (toNat_ofNat (show dst e r < 2 ^ 32 by omega))

theorem inRange : InRange (F := F) (tb0 m) := fun r hr => by rw [dw_toNat R r hr]; exact dst_lt R.lt hr

/-- The run, its arguments as they were. -/
theorem run_args (ρ : Dev nD → PrngReg) : θ_run defs (onTc (τ := τ) (main (F := F))) (s₀ m ρ)
    (fun r => (∀ c : Dev nD,
        r.2.mem ((c.tc : Thread nD τ).loc main_v21) = (dats m 0 c).arrAt (5 : Fin 6) (cfgM m).N
        ∧ r.2.mem ((c.tc : Thread nD τ).loc main_arg0) = m ((c.tc : Thread nD τ).loc main_arg0)
        ∧ r.2.mem ((c.tc : Thread nD τ).loc main_arg1) = m ((c.tc : Thread nD τ).loc main_arg1)
        ∧ r.2.mem ((c.tc : Thread nD τ).loc main_arg2) = m ((c.tc : Thread nD τ).loc main_arg2)
        ∧ r.2.mem ((c.tc : Thread nD τ).loc main_arg3) = m ((c.tc : Thread nD τ).loc main_arg3)
        ∧ r.2.mem ((c.tc : Thread nD τ).loc main_arg4) = m ((c.tc : Thread nD τ).loc main_arg4)
        ∧ r.2.mem ((c.tc : Thread nD τ).loc main_arg5) = m ((c.tc : Thread nD τ).loc main_arg5)
        ∧ r.2.mem ((c.tc : Thread nD τ).loc main_arg6) = m ((c.tc : Thread nD τ).loc main_arg6)
        ∧ r.2.mem ((c.tc : Thread nD τ).loc main_arg7) = m ((c.tc : Thread nD τ).loc main_arg7)
        ∧ r.2.mem ((c.tc : Thread nD τ).loc main_arg8) = m ((c.tc : Thread nD τ).loc main_arg8))
      ∧ r.2.sem = fun _ => 0) := by
  refine (θ_run defs _ _).mono (fun r h => ⟨fun c => ?_, h.2⟩) (run_main m ρ (inRange R))
  obtain ⟨v0, v1, v2, v3, v4, v5, v6, v7, v8⟩ := V_args m c
  have hr := (h.1.toR c).2
  have hw := (h.1.toR c).1
  exact ⟨hw (5 : Fin 6), (hr main_arg0 (by decide : main_arg0 ∈ Pipeline.restRefs sig spec0 \ R0)).trans v0,
    (hr main_arg1 (by decide : main_arg1 ∈ Pipeline.restRefs sig spec0 \ R0)).trans v1,
    (hr main_arg2 (by decide : main_arg2 ∈ Pipeline.restRefs sig spec0 \ R0)).trans v2,
    (hr main_arg3 (by decide : main_arg3 ∈ Pipeline.restRefs sig spec0 \ R0)).trans v3,
    ((hw (1 : Fin 6)).trans ((dats m 0 c).arrAt_in (1 : Fin 6) rfl _)).trans v4,
    ((hw (0 : Fin 6)).trans ((dats m 0 c).arrAt_in (0 : Fin 6) rfl _)).trans v5,
    ((hw (2 : Fin 6)).trans ((dats m 0 c).arrAt_in (2 : Fin 6) rfl _)).trans v6,
    (hr main_arg7 (by decide : main_arg7 ∈ Pipeline.restRefs sig spec0 \ R0)).trans v7,
    (hr main_arg8 (by decide : main_arg8 ∈ Pipeline.restRefs sig spec0 \ R0)).trans v8⟩

end Cert.Kernel3Ideal.Combined

end
-- ==== Proof.CombNorm.lean ====
/-
  The combination's payloads, read at an index over the reals.
-/
module

public import proofs.«01_k».proof.Proof.ProjRows
public import proofs.«01_k».proof.Proof.Gen.Kernel3Ideal.Skeleton
public import proofs.«01_k».proof.Proof.Places

@[expose] public section

noncomputable section

namespace Cert.Combination

open Idealize.ShloMosaic Idealize.ShloMosaic.TcCoe
open Cert.Projection

/-- A row normalised, scaled and shifted. -/
def scaled (f g b : Fin 1024 → EReal) (d : Fin 1024) : EReal :=
  (f d - mean f) * Ideal.rsqrt (mean (fun e => (f e - mean f) * (f e - mean f)) + Ideal.ofBits .f32 0x3727C5AC#32) * g d + b d

/-- The stream's row and its gate's share of the two experts' rows. -/
def mixed (x gt u v : Fin 1024 → EReal) (p q : EReal) (d : Fin 1024) : EReal :=
  Ideal.ofBits .f32 0x3F9837F0#32 * x d + gt d * (p * u d + q * v d)

/-- A token of the stream among all the tokens. -/
def tok (b : Fin 2) (r : Fin 8192) : Fin 16384 := ⟨b.val * 8192 + r.val, by omega⟩

/-- The row of the experts' outputs a token's expert `k` left. -/
def own (e : ℕ → ℕ) (b : Fin 2) (r : Fin 8192) (k : ℕ) : Fin 49152 := ⟨Cert.Routes.dst e ((b.val * 8192 + r.val) * 2 + k) % 49152, Nat.mod_lt _ (by decide)⟩

/-- A row of the stream after the experts, before it is normalised. -/
def blended (e : ℕ → ℕ) (ys : (⟨2, ![49152, 1024]⟩ : Shape).Idx → EReal) (w : (⟨2, ![16384, 128]⟩ : Shape).Idx → EReal)
    (x : (⟨3, ![2, 8192, 1024]⟩ : Shape).Idx → EReal) (gt : (⟨3, ![2, 1, 1024]⟩ : Shape).Idx → EReal) (b : Fin 2) (r : Fin 8192) : Fin 1024 → EReal :=
  mixed (fun d => x (ix3 b r d)) (fun d => gt (ix3 b 0 d)) (fun d => ys (ix2 (own e b r 0) d)) (fun d => ys (ix2 (own e b r 1) d))
    (w (ix2 (tok b r) 4)) (w (ix2 (tok b r) 5))

/-- The result. -/
def combined (e : ℕ → ℕ) (ys : (⟨2, ![49152, 1024]⟩ : Shape).Idx → EReal) (w : (⟨2, ![16384, 128]⟩ : Shape).Idx → EReal)
    (x : (⟨3, ![2, 8192, 1024]⟩ : Shape).Idx → EReal) (gt : (⟨3, ![2, 1, 1024]⟩ : Shape).Idx → EReal) (g b : (⟨1, ![1024]⟩ : Shape).Idx → EReal)
    (i : (⟨3, ![2, 8192, 1024]⟩ : Shape).Idx) : EReal :=
  scaled (blended e ys w x gt (i 0) (i 1)) (fun d => g (ix1 d)) (fun d => b (ix1 d)) (i 2)

end Cert.Combination

namespace Cert.Kernel3Ideal.Combined

open Idealize.ShloMosaic Idealize.ShloMosaic.TcCoe
open Cert.Kernel3Ideal.Gen Cert.Projection Cert.Combination

theorem pay2_at (r : Vec Ideal S1024x128 .f32) (u v x : Vec Ideal S1x1024x1024 .f32) (gt : Vec Ideal S1x1x1024 .f32) (a d : Fin 1024) :
    k0_pay2 r u v x gt (ix2 a d) = mixed (fun e => x (ix3 0 a e)) (fun e => gt (ix3 0 0 e)) (fun e => u (ix3 0 a e)) (fun e => v (ix3 0 a e))
      (r (ix2 a 4)) (r (ix2 a 5)) d := by
  pointwise [k0_pay2, mixed]

theorem pay3_at (r : Vec Ideal S1024x128 .f32) (u v x : Vec Ideal S1x1024x1024 .f32) (gt : Vec Ideal S1x1x1024 .f32) (a : Fin 1024) :
    k0_pay3 r u v x gt (ix2 a 0) = ∑ d : Fin 1024, k0_pay2 r u v x gt (ix2 a d) := by
  pointwise [k0_pay3]

theorem pay1_at (y : Vec Ideal S1024x1024 .f32) (s : Vec Ideal S1024x1 .f32) (g b : Vec Ideal S1x1024 .f32) (a d : Fin 1024)
    (hs : s (ix2 a 0) = ∑ e : Fin 1024, y (ix2 a e)) :
    k0_pay1 y s g b (ix3 0 a d) = scaled (fun e => y (ix2 a e)) (fun e => g (ix2 0 e)) (fun e => b (ix2 0 e)) d := by
  unfold scaled mean
  rw [← hs]
  pointwise [k0_pay1]

end Cert.Kernel3Ideal.Combined

end
-- ==== Proof.CombValue.lean ====
/-
  What the combination's call leaves in its result, over the reals.
-/
module

public import proofs.«01_k».proof.Proof.CombTables
public import proofs.«01_k».proof.Proof.CombNorm
public import Idealize.ShloMosaic.Lib.Pipeline.ValueKit.Tiles

@[expose] public section

noncomputable section

namespace Cert.Kernel3Ideal.Combined

open Idealize.ShloMosaic Idealize.ShloMosaic.TcCoe
open Idealize.SL.Sem
open Cert.Kernel3Ideal.Gen Cert.Combination Cert.Routes
open Idealize.ShloMosaic.Pipeline (Dat Cfg Window)

/-! ## The windows' blocks -/

theorem index0 (t : Fin grid0.N) : cc0_transform_0 (grid0.coords t) = ![t.val / 8, t.val % 8, 0] := by
  have h : ∀ t : Fin grid0.N, cc0_transform_0 (grid0.coords t) = ![t.val / 8, t.val % 8, 0] := by decide +kernel
  exact h t
theorem index1 (t : Fin grid0.N) : cc0_transform_1 (grid0.coords t) = ![t.val, 0] := by
  have h : ∀ t : Fin grid0.N, cc0_transform_1 (grid0.coords t) = ![t.val, 0] := by decide +kernel
  exact h t
theorem index2 (t : Fin grid0.N) : cc0_transform_2 (grid0.coords t) = ![t.val / 8, 0, 0] := by
  have h : ∀ t : Fin grid0.N, cc0_transform_2 (grid0.coords t) = ![t.val / 8, 0, 0] := by decide +kernel
  exact h t
theorem index3 (t : Fin grid0.N) : cc0_transform_3 (grid0.coords t) = ![0, 0] := by
  have h : ∀ t : Fin grid0.N, cc0_transform_3 (grid0.coords t) = ![0, 0] := by decide +kernel
  exact h t
theorem index4 (t : Fin grid0.N) : cc0_transform_4 (grid0.coords t) = ![0, 0] := by
  have h : ∀ t : Fin grid0.N, cc0_transform_4 (grid0.coords t) = ![0, 0] := by decide +kernel
  exact h t
theorem index6 (t : Fin grid0.N) : cc0_transform_6 (grid0.coords t) = ![t.val / 8, t.val % 8, 0] := by
  have h : ∀ t : Fin grid0.N, cc0_transform_6 (grid0.coords t) = ![t.val / 8, t.val % 8, 0] := by decide +kernel
  exact h t
theorem pt_val (t : Fin grid0.N) : pt (grid0.coords t) = t.val := by
  have h : ∀ t : Fin grid0.N, pt (grid0.coords t) = t.val := by decide +kernel
  exact h t

/-- A point's batch. -/
def bat (t : Fin grid0.N) : Fin 2 := ⟨t.val / 8, by have := t_lt t; omega⟩
/-- A row of a point's block, in the whole array. -/
def row (t : Fin grid0.N) (a : Fin 1024) : Fin 8192 := ⟨t.val % 8 * 1024 + a.val, by omega⟩

theorem tok_val (t : Fin grid0.N) (a : Fin 1024) : (tok (bat t) (row t a)).val = t.val * 1024 + a.val := by
  show t.val / 8 * 8192 + (t.val % 8 * 1024 + a.val) = _; omega

section
variable {F : FTy → Type} [FloatOps F]
variable (m : (ℓ : Loc nD τ sig) → Buf (Elt F) ℓ) (c : Dev nD)

theorem iblk0_at (t : Fin grid0.N) (a d : Fin 1024) :
    iblk m c 0 t (ix3 (n0 := 1) (n1 := 1024) (n2 := 1024) 0 a d) = m (c, Proc.devRef .tc main_arg5) (ix3 (n0 := 2) (n1 := 8192) (n2 := 1024) (bat t) (row t a) d) := by
  refine Eq.trans ?_ (congrFun (V_args m c).2.2.2.2.2.1 _)
  show V m c main_arg5 _ = V m c main_arg5 _
  congr 1
  funext x
  have e := index0 t
  apply Fin.ext
  refine (Window.rect_emb_val ((cfgM m).win 0) t _ x).trans ?_
  show cc0_transform_0 (grid0.coords t) x * _ + _ = _
  rw [e]
  fin_cases x
  · show t.val / 8 * 1 + 0 = t.val / 8; omega
  · show t.val % 8 * 1024 + a.val = t.val % 8 * 1024 + a.val; rfl
  · show 0 * 1024 + d.val = d.val; omega

theorem iblk1_at (t : Fin grid0.N) (a : Fin 1024) (d : Fin 128) :
    iblk m c 1 t (ix2 (n0 := 1024) (n1 := 128) a d) = m (c, Proc.devRef .tc main_arg4) (ix2 (n0 := 16384) (n1 := 128) (tok (bat t) (row t a)) d) := by
  refine Eq.trans ?_ (congrFun (V_args m c).2.2.2.2.1 _)
  show V m c main_arg4 _ = V m c main_arg4 _
  congr 1
  funext x
  have e := index1 t
  have ht := tok_val t a
  apply Fin.ext
  refine (Window.rect_emb_val ((cfgM m).win 1) t _ x).trans ?_
  show cc0_transform_1 (grid0.coords t) x * _ + _ = _
  rw [e]
  fin_cases x
  · exact ht.symm
  · show 0 * 128 + d.val = d.val; omega

theorem iblk2_at (t : Fin grid0.N) (d : Fin 1024) :
    iblk m c 2 t (ix3 (n0 := 1) (n1 := 1) (n2 := 1024) 0 0 d) = m (c, Proc.devRef .tc main_arg6) (ix3 (n0 := 2) (n1 := 1) (n2 := 1024) (bat t) 0 d) := by
  refine Eq.trans ?_ (congrFun (V_args m c).2.2.2.2.2.2.1 _)
  show V m c main_arg6 _ = V m c main_arg6 _
  congr 1
  funext x
  have e := index2 t
  apply Fin.ext
  refine (Window.rect_emb_val ((cfgM m).win 2) t _ x).trans ?_
  show cc0_transform_2 (grid0.coords t) x * _ + _ = _
  rw [e]
  fin_cases x
  · show t.val / 8 * 1 + 0 = t.val / 8; omega
  · rfl
  · show 0 * 1024 + d.val = d.val; omega

theorem cast_row (v : S1024.Idx → Elt F .f32) (d : Fin 1024) : shapeCast S1x1024 v shapeCasts_S1024_S1x1024 (ix2 0 d) = v (ix1 d) := by
  refine shapeCast_apply _ shapeCasts_S1024_S1x1024 _ _ ?_
  rw [Shape.rowMajor_val_one, Shape.rowMajor_val_two]
  show d.val = 0 * 1024 + d.val
  omega

theorem iblk3_at (t : Fin grid0.N) (d : Fin 1024) :
    iblk m c 3 t (ix2 (n0 := 1) (n1 := 1024) 0 d) = m (c, Proc.devRef .tc main_arg7) (ix1 (n0 := 1024) d) := by
  refine Eq.trans ?_ ((congrFun (V_scale m c).1 (ix2 (n0 := 1) (n1 := 1024) 0 d)).trans (cast_row _ d))
  show V m c main_v19 _ = V m c main_v19 _
  congr 1
  funext x
  have e := index3 t
  apply Fin.ext
  refine (Window.rect_emb_val ((cfgM m).win 3) t _ x).trans ?_
  show cc0_transform_3 (grid0.coords t) x * _ + _ = _
  rw [e]
  fin_cases x
  · rfl
  · show 0 * 1024 + d.val = d.val; omega

theorem iblk4_at (t : Fin grid0.N) (d : Fin 1024) :
    iblk m c 4 t (ix2 (n0 := 1) (n1 := 1024) 0 d) = m (c, Proc.devRef .tc main_arg8) (ix1 (n0 := 1024) d) := by
  refine Eq.trans ?_ ((congrFun (V_scale m c).2 (ix2 (n0 := 1) (n1 := 1024) 0 d)).trans (cast_row _ d))
  show V m c main_v20 _ = V m c main_v20 _
  congr 1
  funext x
  have e := index4 t
  apply Fin.ext
  refine (Window.rect_emb_val ((cfgM m).win 4) t _ x).trans ?_
  show cc0_transform_4 (grid0.coords t) x * _ + _ = _
  rw [e]
  fin_cases x
  · rfl
  · show 0 * 1024 + d.val = d.val; omega
end

theorem zero2 : (![0, 0] : Fin 2 → ℕ) = fun _ => 0 := by decide
theorem zero3 : (![0, 0, 0] : Fin 3 → ℕ) = fun _ => 0 := by decide

theorem outOf_at (x : Vec Ideal S1x1024x1024 .f32) (r : Vec Ideal S1024x128 .f32) (gt : Vec Ideal S1x1x1024 .f32) (g b : Vec Ideal S1x1024 .f32)
    (y : Vec Ideal S2x1024x1024 .f32) (a d : Fin 1024) :
    outOf x r gt g b y (ix3 0 a d) = scaled (mixed (fun e => x (ix3 0 a e)) (fun e => gt (ix3 0 0 e)) (fun e => y (ix3 0 a e)) (fun e => y (ix3 1 a e))
      (r (ix2 a 4)) (r (ix2 a 5))) (fun e => g (ix2 0 e)) (fun e => b (ix2 0 e)) d := by
  have h0 : ∀ e : Fin 1024, View.ld y rB0 (ix3 (n0 := 1) (n1 := 1024) (n2 := 1024) 0 a e) = y (ix3 0 a e) := fun e =>
    View.ld_unit_apply_of y ![0, 0, 0] S1x1024x1024.size inb_S2x1024x1024_S1x1024x1024_0_0_0 _ _ fun x => by
      fin_cases x
      · rfl
      · show a.val = 0 + a.val; omega
      · show e.val = 0 + e.val; omega
  have h1 : ∀ e : Fin 1024, View.ld y rB1 (ix3 (n0 := 1) (n1 := 1024) (n2 := 1024) 0 a e) = y (ix3 1 a e) := fun e =>
    View.ld_unit_apply_of y ![1, 0, 0] S1x1024x1024.size inb_S2x1024x1024_S1x1024x1024_1_0_0 _ _ fun x => by
      fin_cases x
      · rfl
      · show a.val = 0 + a.val; omega
      · show e.val = 0 + e.val; omega
  have hx : View.ld x rX = x := View.ld_unit_zero zero3 _ _
  have hr : View.ld r rR = r := View.ld_unit_zero zero2 _ _
  have hgt : View.ld gt rG = gt := View.ld_unit_zero zero3 _ _
  have hg : View.ld g rN = g := View.ld_unit_zero zero2 _ _
  have hb : View.ld b rN = b := View.ld_unit_zero zero2 _ _
  unfold outOf
  rw [View.canon_unit_zero zero3, hx, hr, hgt, hg, hb,
    pay1_at _ _ _ _ _ _ (pay3_at _ _ _ _ _ _)]
  congr 1
  funext e
  rw [pay2_at]
  simp only [h0, h1]

variable (m : (ℓ : Loc nD τ sig) → Buf (Elt Ideal) ℓ) (c : Dev nD)

abbrev A3 : Vec Ideal S49152x1024 .f32 := m (c, Proc.devRef .tc main_arg3)
abbrev A4 : Vec Ideal S16384x128 .f32 := m (c, Proc.devRef .tc main_arg4)
abbrev A5 : Vec Ideal S2x8192x1024 .f32 := m (c, Proc.devRef .tc main_arg5)
abbrev A6 : Vec Ideal S2x1x1024 .f32 := m (c, Proc.devRef .tc main_arg6)
abbrev A7 : Vec Ideal S1024 .f32 := m (c, Proc.devRef .tc main_arg7)
abbrev A8 : Vec Ideal S1024 .f32 := m (c, Proc.devRef .tc main_arg8)

variable {m} {e : ℕ → ℕ} (R : RoutedAt m e)
include R

theorem gath_at (t : Fin grid0.N) (a d : Fin 1024) (s : Fin 2) :
    gath (F := Ideal) (tb0 m) (V m c main_arg3) (pt (grid0.coords t)) (ix3 s a d) = A3 m c (ix2 (own e (bat t) (row t a) s.val) d) := by
  have ht := t_lt t
  have hk := tok_val t a
  refine Eq.trans ?_ (congrFun (V_args m c).2.2.2.1 _)
  unfold gath
  refine congrArg (V m c main_arg3) ?_
  refine congrArg (fun z => ix2 (n0 := 49152) (n1 := 1024) z d) (Fin.ext ?_)
  show rowAt (F := Ideal) (tb0 m) (pt (grid0.coords t)) (2 * a.val + s.val) % 49152 = dst e ((tok (bat t) (row t a)).val * 2 + s.val) % 49152
  unfold rowAt
  rw [pt_val, hk, dw_toNat R _ (by omega)]
  congr 2
  omega

theorem outAt_at (t : Fin grid0.N) (a d : Fin 1024) :
    outAt m c t (ix3 0 a d) = combined e (A3 m c) (A4 m c) (A5 m c) (A6 m c) (A7 m c) (A8 m c) (ix3 (bat t) (row t a) d) := by
  have e0 : ∀ d : Fin 1024, iblk m c 0 t (ix3 (n0 := 1) (n1 := 1024) (n2 := 1024) 0 a d) = A5 m c (ix3 (bat t) (row t a) d) := fun d => iblk0_at m c t a d
  have e1 : ∀ d : Fin 128, iblk m c 1 t (ix2 (n0 := 1024) (n1 := 128) a d) = A4 m c (ix2 (tok (bat t) (row t a)) d) := fun d => iblk1_at m c t a d
  have e2 : ∀ d : Fin 1024, iblk m c 2 t (ix3 (n0 := 1) (n1 := 1) (n2 := 1024) 0 0 d) = A6 m c (ix3 (bat t) 0 d) := fun d => iblk2_at m c t d
  have e3 : ∀ d : Fin 1024, iblk m c 3 t (ix2 (n0 := 1) (n1 := 1024) 0 d) = A7 m c (ix1 d) := fun d => iblk3_at m c t d
  have e4 : ∀ d : Fin 1024, iblk m c 4 t (ix2 (n0 := 1) (n1 := 1024) 0 d) = A8 m c (ix1 d) := fun d => iblk4_at m c t d
  unfold outAt
  refine (outOf_at (iblk m c 0 t) (iblk m c 1 t) (iblk m c 2 t) (iblk m c 3 t) (iblk m c 4 t) _ a d).trans ?_
  show _ = scaled (blended e (A3 m c) (A4 m c) (A5 m c) (A6 m c) (bat t) (row t a)) (fun d => A7 m c (ix1 d)) (fun d => A8 m c (ix1 d)) d
  rw [funext e3, funext e4, funext e0, funext e2, e1, e1, funext fun d => gath_at c R t a d 0, funext fun d => gath_at c R t a d 1]
  rfl

omit R in
/-- The output's blocks are written back at every point, and are all of the array. -/
theorem covers5 : ((cfgM m).win 5).Covers := by
  refine ⟨fun a => ?_, fun β => ?_⟩
  · fin_cases a
    · exact (by decide : 0 < 1)
    · exact (by decide : 0 < 1024)
    · exact (by decide : 0 < 1024)
  · have h0 : (β (0 : Fin 3)).val < (2 + 1 - 1) / 1 := (β (0 : Fin 3)).isLt
    have h1 : (β (1 : Fin 3)).val < (8192 + 1024 - 1) / 1024 := (β (1 : Fin 3)).isLt
    have h2 : (β (2 : Fin 3)).val < (1024 + 1024 - 1) / 1024 := (β (2 : Fin 3)).isLt
    norm_num at h0 h1 h2
    have hN : grid0.N = 16 := N_0
    have hf : ∀ t : Fin grid0.N, Window.flushOf grid0 true cc0_transform_6 t = true := by decide +kernel
    refine ⟨(⟨(β (0 : Fin 3)).val * 8 + (β (1 : Fin 3)).val, by omega⟩ : Fin grid0.N), hf _, fun a => ⟨?_, Or.inl rfl⟩⟩
    refine (congrFun (index6 ⟨(β (0 : Fin 3)).val * 8 + (β (1 : Fin 3)).val, by omega⟩) a).trans ?_
    fin_cases a
    · show ((β (0 : Fin 3)).val * 8 + (β (1 : Fin 3)).val) / 8 = (β (0 : Fin 3)).val; omega
    · show ((β (0 : Fin 3)).val * 8 + (β (1 : Fin 3)).val) % 8 = (β (1 : Fin 3)).val; omega
    · show 0 = (β (2 : Fin 3)).val; omega

theorem out_eq : (dats m 0 c).arrAt (5 : Fin 6) (cfgM m).N = combined e (A3 m c) (A4 m c) (A5 m c) (A6 m c) (A7 m c) (A8 m c) := by
  refine (dats m 0 c).arrAt_eq_of_covers (5 : Fin 6) _ covers5 fun t hf y => ?_
  have e6 := index6 t
  have em : ∀ x, (((((cfgM m).win 5).blk t).view.emb y : S2x8192x1024.Idx) x).val
      = cc0_transform_6 (grid0.coords t) x * S1x1024x1024.size x + (y x).val := fun x => Window.rect_emb_val ((cfgM m).win 5) t y x
  have hy0 : (y 0).val = 0 := Nat.lt_one_iff.1 (y 0).isLt
  have key := outAt_at c R t (y 1) (y 2)
  refine Eq.trans ?_ (key.trans ?_)
  · show (dats m 0 c).after (5 : Fin 6) t y = _
    rw [after5]
    refine congrArg (outAt m c t) ((eq_ix3 (n0 := 1) (n1 := 1024) (n2 := 1024) y).trans ?_)
    exact congrArg (fun z => ix3 (n0 := 1) (n1 := 1024) (n2 := 1024) z (y 1) (y 2)) (Fin.ext hy0)
  · refine congrArg (combined e (A3 m c) (A4 m c) (A5 m c) (A6 m c) (A7 m c) (A8 m c)) ?_
    funext x
    apply Fin.ext
    refine Eq.trans ?_ (em x).symm
    rw [e6]
    fin_cases x
    · show t.val / 8 = t.val / 8 * 1 + (y 0).val; omega
    · rfl
    · show (y 2).val = 0 * 1024 + (y 2).val; omega

end Cert.Kernel3Ideal.Combined

end
-- ==== Proof.CombRef.lean ====
/-
  The combination's reference, read at an index over the reals.
-/
module

public import proofs.«01_k».proof.Proof.Gen.Reference3Ideal.Run
public import proofs.«01_k».proof.Proof.CombNorm
public import proofs.«01_k».proof.Proof.RefValue
public import Idealize.ShloMosaic.Lib.KernelVsHost
public import Idealize.ShloMosaic.Lib.Quiescent

@[expose] public section

noncomputable section

namespace Cert.Combination

open Idealize.ShloMosaic

/-- The dimension numbers of `x[i]` for a vector `i` of row numbers of a matrix `x`. -/
def takeRow (R N C : ℕ) (h : GatherDims.WF ⟨2, ![R, C]⟩ ⟨2, ![N, 1]⟩ ⟨2, ![N, C]⟩ [1] [0] [] [0] [] 1 ![1, C]) : GatherDims ⟨2, ![R, C]⟩ ⟨2, ![N, 1]⟩ ⟨2, ![N, C]⟩ where
  offsetDims := [1]
  collapsedSliceDims := [0]
  operandBatchingDims := []
  startIndicesBatchingDims := []
  startIndexMap := [0]
  indexVectorDim := 1
  sliceSizes := ![1, C]
  wf := h

/-- Row `n` of the result is the row its word, read signed and kept within the matrix, names. -/
theorem takeRow_at {α : Type} {R N C : ℕ} (h : GatherDims.WF ⟨2, ![R, C]⟩ ⟨2, ![N, 1]⟩ ⟨2, ![N, C]⟩ [1] [0] [] [0] [] 1 ![1, C])
    (x : (⟨2, ![R, C]⟩ : Shape).Idx → α) (idx : IVec ⟨2, ![N, 1]⟩ 32) (n : Fin N) (c : Fin C) (r : Fin R)
    (hr : min (idx (ix2 n (0 : Fin 1))).toInt.toNat (R - 1) = r.val) :
    Host.gather (takeRow R N C h) x idx (ix2 n c) = x (ix2 r c) := by
  unfold Host.gather
  congr 1
  funext a
  refine Fin.ext ?_
  show (takeRow R N C h).start (ix2 n c) idx a + (takeRow R N C h).batchCoord (ix2 n c) a + (takeRow R N C h).offCoord (ix2 n c) a = _
  rw [GatherDims.batchCoord_eq_zero _ _ _ List.not_mem_nil, Nat.add_zero]
  have h01 : a = 0 ∨ a = 1 := by
    match a with
    | ⟨0, _⟩ => exact Or.inl rfl
    | ⟨1, _⟩ => exact Or.inr rfl
  rcases h01 with rfl | rfl
  · rw [GatherDims.offCoord_eq_zero _ _ _ (fun h => ((GatherDims.mem_sKept _ _).mp h).1 (List.mem_singleton.mpr rfl)), Nat.add_zero]
    unfold GatherDims.start
    rw [dif_pos (show (0 : Fin 2) ∈ (takeRow R N C h).startIndexMap from List.mem_singleton.mpr rfl)]
    have hsi : (takeRow R N C h).siIdx (ix2 n c) ⟨List.idxOf (0 : Fin 2) (takeRow R N C h).startIndexMap,
        List.idxOf_lt_length_iff.2 (List.mem_singleton.mpr rfl)⟩ = ix2 n (0 : Fin 1) := by
      funext b; refine Fin.ext ?_
      match b with
      | ⟨0, _⟩ => rfl
      | ⟨1, _⟩ => rfl
    rw [hsi]
    exact hr
  · have hs : (takeRow R N C h).start (ix2 n c) idx 1 = 0 := by
      unfold GatherDims.start
      rw [dif_neg (show (1 : Fin 2) ∉ (takeRow R N C h).startIndexMap from
        fun h => (show (1 : Fin 2) ≠ 0 by decide) (List.mem_singleton.1 h))]
    have hk : (takeRow R N C h).sKept = [1] := rfl
    rw [hs, Nat.zero_add]
    unfold GatherDims.offCoord
    rw [dif_pos (by rw [hk]; exact List.mem_singleton.2 rfl)]
    rfl

end Cert.Combination

namespace Cert.Reference3Ideal.Combined

open Idealize.ShloMosaic Idealize.ShloMosaic.TcCoe Idealize.SL.Sem
open Cert.Reference3Ideal Cert.Reference3Ideal.Gen Cert.Projection Cert.Combination Cert.Routes

/-- The experts' rows, by token and expert. -/
def ownT (ys : FVec Ideal S49152x1024 .f32) (p : IVec S32768 32) : FVec Ideal S2x8192x2x1024 .f32 :=
  shapeCast _ (Host.gather gather_S49152x1024_S32768x1_S32768x1024_1_0_n_n_0_1_11024 ys (broadcastInDim S32768x1 ![0] bcast_S32768_S32768x1_0 p)) shapeCasts_S32768x1024_S2x8192x2x1024

/-- Their weights. -/
def weightT (w : FVec Ideal S16384x128 .f32) : FVec Ideal S2x8192x2x1 .f32 :=
  shapeCast _ (extractStridedSlice S16384x2 ![0, 4] w slices_S16384x128_S16384x2_0_4) shapeCasts_S16384x2_S2x8192x2x1

/-- The rows before they are normalised. -/
def blendT (o : FVec Ideal S2x8192x2x1024 .f32) (v : FVec Ideal S2x8192x2x1 .f32) (x : FVec Ideal S2x8192x1024 .f32) (gt : FVec Ideal S2x1x1024 .f32) : FVec Ideal S2x8192x1024 .f32 :=
  addf (mulf (broadcastInDim S2x8192x1024 ![] bcast_S_S2x8192x1024 (constant S_ .f32 0x3F9837F0#32)) x) (mulf (broadcastInDim S2x8192x1024 ![0, 1, 2] bcast_S2x1x1024_S2x8192x1024_0_1_2 gt) (Host.reduceAdd (mulf (broadcastInDim S2x8192x2x1024 ![0, 1, 2, 3] bcast_S2x8192x2x1_S2x8192x2x1024_0_1_2_3 v) o) (constant S_ .f32 0x00000000#32) reducesTo_S2x8192x2x1024_S2x8192x1024_d2 h_S_))

/-- Their means. -/
def meanT (y : FVec Ideal S2x8192x1024 .f32) : FVec Ideal S2x8192x1 .f32 :=
  Host.divf (broadcastInDim S2x8192x1 ![0, 1] bcast_S2x8192_S2x8192x1_0_1 (Host.reduceAdd y (constant S_ .f32 0x00000000#32) reducesTo_S2x8192x1024_S2x8192_d2 h_S_)) (broadcastInDim S2x8192x1 ![] bcast_S_S2x8192x1 (constant S_ .f32 0x44800000#32))

/-- The rows less their means. -/
def lessT (y : FVec Ideal S2x8192x1024 .f32) : FVec Ideal S2x8192x1024 .f32 :=
  subf y (broadcastInDim S2x8192x1024 ![0, 1, 2] bcast_S2x8192x1_S2x8192x1024_0_1_2 (meanT y))

/-- The rows normalised, scaled and shifted. -/
def normT (y : FVec Ideal S2x8192x1024 .f32) (g b : FVec Ideal S1024 .f32) : FVec Ideal S2x8192x1024 .f32 :=
  addf (mulf (mulf (lessT y) (broadcastInDim S2x8192x1024 ![0, 1, 2] bcast_S2x8192x1_S2x8192x1024_0_1_2 (Host.rsqrt (addf (meanT (mulf (lessT y) (lessT y))) (broadcastInDim S2x8192x1 ![] bcast_S_S2x8192x1 (constant S_ .f32 0x3727C5AC#32)))))) (broadcastInDim S2x8192x1024 ![0, 1, 2] bcast_S1x1x1024_S2x8192x1024_0_1_2 (broadcastInDim S1x1x1024 ![2] bcast_S1024_S1x1x1024_2 g))) (broadcastInDim S2x8192x1024 ![0, 1, 2] bcast_S1x1x1024_S2x8192x1024_0_1_2 (broadcastInDim S1x1x1024 ![2] bcast_S1024_S1x1x1024_2 b))

theorem norm_at (y : FVec Ideal S2x8192x1024 .f32) (g b : FVec Ideal S1024 .f32) (i : Fin 2) (r : Fin 8192) (d : Fin 1024) :
    normT y g b (ix3 i r d) = scaled (fun e => y (ix3 i r e)) (fun e => g (ix1 e)) (fun e => b (ix1 e)) d := by
  pointwise [normT, lessT, meanT, scaled, mean]

theorem blend_at (o : FVec Ideal S2x8192x2x1024 .f32) (v : FVec Ideal S2x8192x2x1 .f32) (x : FVec Ideal S2x8192x1024 .f32) (gt : FVec Ideal S2x1x1024 .f32)
    (i : Fin 2) (r : Fin 8192) (d : Fin 1024) :
    blendT o v x gt (ix3 i r d) = Ideal.ofBits .f32 0x3F9837F0#32 * x (ix3 i r d) + gt (ix3 i 0 d) * ∑ k : Fin 2, v (ix4 i r k 0) * o (ix4 i r k d) := by
  pointwise [blendT]

theorem weight_at (w : FVec Ideal S16384x128 .f32) (i : Fin 2) (r : Fin 8192) (k : Fin 2) : weightT w (ix4 i r k 0) = w (ix2 (tok i r) ⟨4 + k.val, by omega⟩) := by
  unfold weightT
  refine (shapeCast_apply _ shapeCasts_S16384x2_S2x8192x2x1 _ (ix2 (tok i r) k) ?_).trans ?_
  · rw [Shape.rowMajor_val_four, Shape.rowMajor_val_two]
    show (i.val * 8192 + r.val) * 2 + k.val = ((i.val * 8192 + r.val) * 2 + k.val) * 1 + 0
    omega
  · show w _ = w _
    congr 1
    funext a
    apply Fin.ext
    match a with
    | ⟨0, _⟩ => show 0 + (i.val * 8192 + r.val) = i.val * 8192 + r.val; omega
    | ⟨1, _⟩ => rfl

theorem own_at (ys : FVec Ideal S49152x1024 .f32) (p : IVec S32768 32) (e : ℕ → ℕ) (he : ∀ r < 32768, e r < 32)
    (hp : ∀ r : Fin 32768, p (ix1 r) = BitVec.ofNat 32 (dst e r.val)) (i : Fin 2) (r : Fin 8192) (k : Fin 2) (d : Fin 1024) :
    ownT ys p (ix4 i r k d) = ys (ix2 (own e i r k.val) d) := by
  have hn : (i.val * 8192 + r.val) * 2 + k.val < 32768 := by omega
  have hd := dst_lt he hn
  unfold ownT
  refine (shapeCast_apply _ shapeCasts_S32768x1024_S2x8192x2x1024 _ (ix2 (⟨(i.val * 8192 + r.val) * 2 + k.val, hn⟩ : Fin 32768) d) ?_).trans ?_
  · rw [Shape.rowMajor_val_four, Shape.rowMajor_val_two]
    rfl
  · refine takeRow_at gather_S49152x1024_S32768x1_S32768x1024_1_0_n_n_0_1_11024_wf ys _ _ d (own e i r k.val) ?_
    have hb : broadcastInDim S32768x1 ![0] bcast_S32768_S32768x1_0 p (ix2 (⟨(i.val * 8192 + r.val) * 2 + k.val, hn⟩ : Fin 32768) (0 : Fin 1)) = BitVec.ofNat 32 (dst e ((i.val * 8192 + r.val) * 2 + k.val)) :=
      (Routing.bcCol bcast_S32768_S32768x1_0 p _).trans (hp _)
    rw [hb, StableHlo.Predicate.toInt_ofNat_small _ (by omega)]
    show min (dst e _) (49152 - 1) = dst e _ % 49152
    rw [Nat.mod_eq_of_lt hd]
    omega

/-- The reference's result. -/
theorem term_eq (ys : FVec Ideal S49152x1024 .f32) (p : IVec S32768 32) (w : FVec Ideal S16384x128 .f32) (x : FVec Ideal S2x8192x1024 .f32) (gt : FVec Ideal S2x1x1024 .f32)
    (g b : FVec Ideal S1024 .f32) (e : ℕ → ℕ) (he : ∀ r < 32768, e r < 32) (hp : ∀ r : Fin 32768, p (ix1 r) = BitVec.ofNat 32 (dst e r.val)) :
    normT (blendT (ownT ys p) (weightT w) x gt) g b = combined e ys w x gt g b := by
  funext y
  obtain ⟨i, r, d, rfl⟩ : ∃ (i : Fin 2) (r : Fin 8192) (d : Fin 1024), y = ix3 i r d := ⟨y 0, y 1, y 2, eq_ix3 y⟩
  rw [norm_at]
  show _ = scaled (blended e ys w x gt i r) (fun d => g (ix1 d)) (fun d => b (ix1 d)) d
  congr 1
  funext d
  rw [blend_at, Fin.sum_univ_two, weight_at, weight_at, own_at ys p e he hp, own_at ys p e he hp]
  rfl

variable (m : (ℓ : Loc nD τ sig) → Buf (Elt Ideal) ℓ) (ρ : Dev nD → PrngReg)

set_option maxRecDepth 8192 in
set_option maxHeartbeats 1000000 in
theorem value (c : Dev nD) (e : ℕ → ℕ) {a1 : IVec (Routing.shape2 16384 2) 32} {a2 : IVec (Routing.shape1 32) 32} (R : Routed (m ((c.tc : Thread nD τ).loc main_arg0)) a1 a2 e) :
    Value.res_main_v69 m c = combined e (m ((c.tc : Thread nD τ).loc main_arg3)) (m ((c.tc : Thread nD τ).loc main_arg4)) (m ((c.tc : Thread nD τ).loc main_arg5))
      (m ((c.tc : Thread nD τ).loc main_arg6)) (m ((c.tc : Thread nD τ).loc main_arg7)) (m ((c.tc : Thread nD τ).loc main_arg8)) := by
  have hp := goesW_at bcast_S32768_S32768x1_0 bcast_S32_S1x32_1 bcast_S32768x1_S32768x32_0_1 bcast_S1x32_S32768x32_0_1 natLt_1_32 bcast_S_S_
    bcast_S_S32768x32 reduceWindows_S32768x32_S32768x32_w32768s1p32767_0_w1s1p0_0 reducesTo_S32768x32_S32768_d1 h_S_ bcast_S_S32
    reduceWindows_S32_S32_w32s1p31_0 slices_S32768x32_S1x32_32767_0 shapeCasts_S1x32_S32 bcast_S_S32768 gather_S32_S32768x1_S32768_n_0_n_n_0_1_1
    rfl rfl rfl rfl e R.lt
    (shapeCast (Routing.shape1 32768) (m ((c.tc : Thread nD τ).loc main_arg0)) shapeCasts_S16384x2_S32768) (flat_at R _)
  refine Eq.trans ?_ (term_eq _ _ (m ((c.tc : Thread nD τ).loc main_arg4)) _ _ _ _ e R.lt hp)
  unfold Value.res_main_v69
  rfl

/-- Its frame. -/
theorem frame : θ_run defs (onTc (τ := τ) (main (F := Ideal))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8))
    ∧ r.2.sem = fun _ => 0) :=
  (θ_run defs _ _).mono (fun r k => ⟨fun c => (k c).2, sem_eq_zero_of_no_sems (by decide) r.2⟩) (Value.run (F := Ideal) m ρ)

end Cert.Reference3Ideal.Combined

end
-- ==== Proof.CombSame.lean ====
/-
  The combination's text and its idealization's are one text.
-/
module

public import proofs.«01_k».proof.Proof.Gen.Kernel3
public import proofs.«01_k».proof.Proof.Gen.Kernel3Ideal

@[expose] public section

noncomputable section

namespace Cert.CombSame

open Idealize.ShloMosaic

variable {F : FTy → Type} [FloatOps F]

set_option maxRecDepth 100000 in
set_option maxHeartbeats 4000000 in
theorem main : Cert.Kernel3.main (F := F) = Cert.Kernel3Ideal.main (F := F) := rfl

set_option maxRecDepth 100000 in
set_option maxHeartbeats 4000000 in
theorem body : Cert.Kernel3.cc0_combine_ln (F := F) = Cert.Kernel3Ideal.cc0_combine_ln (F := F) := rfl

/-- The body at two namings of the staging buffers that are one. -/
theorem stages (i : Cert.Kernel3Ideal.grid0.Coords)
    (t : Memref Cert.Kernel3Ideal.sig .tc .smem Cert.Kernel3Ideal.S32768 .i32) (pt : t.IsWhole)
    {a3 b3 : Memref Cert.Kernel3Ideal.sig .tc .vmem Cert.Kernel3Ideal.S1x1024x1024 .f32} (h3 : a3 = b3) (p3 : a3.IsWhole) (q3 : b3.IsWhole)
    {a4 b4 : Memref Cert.Kernel3Ideal.sig .tc .vmem Cert.Kernel3Ideal.S1024x128 .f32} (h4 : a4 = b4) (p4 : a4.IsWhole) (q4 : b4.IsWhole)
    {a5 b5 : Memref Cert.Kernel3Ideal.sig .tc .vmem Cert.Kernel3Ideal.S1x1x1024 .f32} (h5 : a5 = b5) (p5 : a5.IsWhole) (q5 : b5.IsWhole)
    {a6 b6 : Memref Cert.Kernel3Ideal.sig .tc .vmem Cert.Kernel3Ideal.S1x1024 .f32} (h6 : a6 = b6) (p6 : a6.IsWhole) (q6 : b6.IsWhole)
    {a7 b7 : Memref Cert.Kernel3Ideal.sig .tc .vmem Cert.Kernel3Ideal.S1x1024 .f32} (h7 : a7 = b7) (p7 : a7.IsWhole) (q7 : b7.IsWhole)
    (y : Memref Cert.Kernel3Ideal.sig .tc .hbm Cert.Kernel3Ideal.S49152x1024 .f32) (py : y.IsWhole)
    {a9 b9 : Memref Cert.Kernel3Ideal.sig .tc .vmem Cert.Kernel3Ideal.S1x1024x1024 .f32} (h9 : a9 = b9) (p9 : a9.IsWhole) (q9 : b9.IsWhole)
    (z : Memref Cert.Kernel3Ideal.sig .tc .vmem Cert.Kernel3Ideal.S2x1024x1024 .f32) (pz : z.IsWhole) :
    Cert.Kernel3Ideal.cc0_combine_ln (F := F) i t pt a3 p3 a4 p4 a5 p5 a6 p6 a7 p7 y py a9 p9 z pz Cert.Kernel3Ideal.cc0_scratch1
      = Cert.Kernel3Ideal.cc0_combine_ln (F := F) i t pt b3 q3 b4 q4 b5 q5 b6 q6 b7 q7 y py b9 q9 z pz Cert.Kernel3Ideal.cc0_scratch1 := by
  subst h3 h4 h5 h6 h7 h9; rfl

theorem stage0 (x : Fin Cert.Kernel3Ideal.spec0_0.nbuf) : Cert.Kernel3.spec0_0.stage x = Cert.Kernel3Ideal.spec0_0.stage x := by
  match x with
  | ⟨0, _⟩ => rfl
  | ⟨1, _⟩ => rfl

theorem stage1 (x : Fin Cert.Kernel3Ideal.spec0_1.nbuf) : Cert.Kernel3.spec0_1.stage x = Cert.Kernel3Ideal.spec0_1.stage x := by
  match x with
  | ⟨0, _⟩ => rfl
  | ⟨1, _⟩ => rfl

theorem stage2 (x : Fin Cert.Kernel3Ideal.spec0_2.nbuf) : Cert.Kernel3.spec0_2.stage x = Cert.Kernel3Ideal.spec0_2.stage x := by
  match x with
  | ⟨0, _⟩ => rfl
  | ⟨1, _⟩ => rfl

theorem stage3 (x : Fin Cert.Kernel3Ideal.spec0_3.nbuf) : Cert.Kernel3.spec0_3.stage x = Cert.Kernel3Ideal.spec0_3.stage x := by
  match x with
  | ⟨0, _⟩ => rfl

theorem stage4 (x : Fin Cert.Kernel3Ideal.spec0_4.nbuf) : Cert.Kernel3.spec0_4.stage x = Cert.Kernel3Ideal.spec0_4.stage x := by
  match x with
  | ⟨0, _⟩ => rfl

theorem stage5 (x : Fin Cert.Kernel3Ideal.spec0_5.nbuf) : Cert.Kernel3.spec0_5.stage x = Cert.Kernel3Ideal.spec0_5.stage x := by
  match x with
  | ⟨0, _⟩ => rfl
  | ⟨1, _⟩ => rfl

set_option maxRecDepth 100000 in
set_option maxHeartbeats 4000000 in
theorem defs₀ : Cert.Kernel3.defs₀ (F := F) = Cert.Kernel3Ideal.defs₀ (F := F) := by
  unfold Cert.Kernel3.defs₀ Cert.Kernel3Ideal.defs₀
  rw [body]
  refine congrArg _ (funext fun l => funext fun a => ?_)
  match l, a with
  | ⟨0, _⟩, (t, s) =>
    exact stages (F := F) (Cert.Kernel3Ideal.grid0.coords t) _ _ (stage0 (s 0)) _ _ (stage1 (s 1)) _ _ (stage2 (s 2)) _ _ (stage3 (s 3)) _ _
      (stage4 (s 4)) _ _ _ _ (stage5 (s 5)) _ _ _ _
  | ⟨_ + 1, h⟩, _ => exact absurd h (Nat.not_lt.2 (Nat.le_add_left _ _))

set_option maxRecDepth 100000 in
set_option maxHeartbeats 4000000 in
theorem defs : Cert.Kernel3.defs (F := F) = Cert.Kernel3Ideal.defs (F := F) := by
  unfold Cert.Kernel3.defs Cert.Kernel3Ideal.defs
  rw [defs₀]
  rfl

end Cert.CombSame

end
-- ==== Proof.ExpBody.lean ====
/-
  The body of the experts' products at a block: its expert's weights taken into the scratches where the expert changes, then
  the block's products, or zeros where the block holds no row.
-/
module

public import proofs.«01_k».proof.Proof.Gen.Kernel4Ideal.Skeleton
public import proofs.«01_k».proof.Proof.Gen.Kernel4Ideal.Launch
public import proofs.«01_k».proof.Proof.Step
public import Idealize.ShloMosaic.Lib.Tactic
public import Idealize.ShloMosaic.Lib.Exec
public import Idealize.ShloMosaic.Lib.ValueIdx
public import Idealize.ShloMosaic.Lib.Pipeline.FrameValue
public import Idealize.ShloMosaic.Lib.Pipeline.FrameBody

@[expose] public section

noncomputable section

namespace Cert.Kernel4Ideal.Expert

open Idealize.ShloMosaic Idealize.ShloMosaic.TcCoe Idealize.ShloMosaic.Tactic
open Idealize.SL Idealize.SL.RA
open Idealize.SL.BI (sProp bigSep)
open scoped Idealize.SL.BI
open Idealize.SL.BI.BIBase Idealize.SL.BI.Laws Idealize.SL.ProofMode Idealize.SL.Sem
open Dispatch Cert.Kernel4Ideal.Gen

variable {F : FTy → Type} [FloatOps F]

local notation "𝕄" => MT nD τ sig Unit (Elt F) ℕ (Idealize.ShloMosaic.UR sig nD τ) ℕ

/-- The two tables, whole: each block's expert, and how many rows it holds. -/
abbrev teM : Memref sig .tc .smem S96 .i32 := Memref.whole main_v20
abbrev tnM : Memref sig .tc .smem S96 .i32 := Memref.whole main_v31

/-- A table's word at place `n`. -/
def wd (g : S96.Idx → BitVec 32) (n : ℕ) : BitVec 32 := g (ValueIdx.ix1 (n := 96) ⟨n % 96, Nat.mod_lt _ (by decide)⟩)

theorem wd_lt (g : S96.Idx → BitVec 32) (n : Fin 96) : wd g n.val = g (ValueIdx.ix1 n) := by
  unfold wd
  exact congrArg (fun z => g (ValueIdx.ix1 z)) (Fin.ext (Nat.mod_eq_of_lt n.isLt))

theorem idx_eq (g : S96.Idx → BitVec 32) (z : S96.Idx) (n : ℕ) (h : (z 0).val = n) : g z = wd g n := by
  have hn : n < 96 := h ▸ (z 0).isLt
  unfold wd
  congr 1
  funext a
  fin_cases a
  exact Fin.ext (h.trans (Nat.mod_eq_of_lt hn).symm)

theorem read_te (g : S96.Idx → Elt F .i32) (off : Fin 1 → ℕ) (hin : ∀ a, off a + S1.size a ≤ S96.size a) (n : ℕ) (h : off 0 = n)
    (x : S1.Idx) : (teM.access (Rect.unit (s := S96) off S1.size hin)).read (Elt F) g x = wd g n := by
  refine idx_eq g _ n ?_
  have hx : (x 0).val = 0 := by have : (x 0).val < 1 := (x 0).isLt; omega
  show off 0 + 1 * (x 0).val = n
  omega

theorem read_tn (g : S96.Idx → Elt F .i32) (off : Fin 1 → ℕ) (hin : ∀ a, off a + S1.size a ≤ S96.size a) (n : ℕ) (h : off 0 = n)
    (x : S1.Idx) : (tnM.access (Rect.unit (s := S96) off S1.size hin)).read (Elt F) g x = wd g n := by
  refine idx_eq g _ n ?_
  have hx : (x 0).val = 0 := by have : (x 0).val < 1 := (x 0).isLt; omega
  show off 0 + 1 * (x 0).val = n
  omega

theorem off1 (i : grid0.Coords) : k0_off1 i 0 = (i 0).val := congrFun (k0_off1_eq i) 0
theorem off2 (i : grid0.Coords) : k0_off2 i 0 = (i 0).val - 1 := by
  have h : ∀ i : grid0.Coords, k0_off2 i 0 = (i 0).val - 1 := by decide +kernel
  exact h i
theorem off3 (i : grid0.Coords) : k0_off3 i 0 = (i 0).val := congrFun (k0_off3_eq i) 0
theorem off4 (i : grid0.Coords) : k0_off4 i 0 = (i 0).val := congrFun (k0_off4_eq i) 0

/-- Whether a block takes its weights anew. -/
def k0_cond1 (i : grid0.Coords) (u v : BitVec 32) : BitVec 1 :=
  Scalar.cmpi .ne (Scalar.extui (Scalar.ori (Scalar.cmpi .eq (BitVec.ofNat 32 (i 0).val) 0#32) (Scalar.cmpi .ne u v)) : BitVec 32) 0#32

/-! ## The accesses -/

abbrev rA : Rect S1x1024x512 := Rect.unit (s := S1x1024x512) ![0, 0, 0] S1x1024x512.size inb_S1x1024x512_S1x1024x512_0_0_0
abbrev rB : Rect S1x512x1024 := Rect.unit (s := S1x512x1024) ![0, 0, 0] S1x512x1024.size inb_S1x512x1024_S1x512x1024_0_0_0
abbrev rS : Rect S1024x512 := Rect.unit (s := S1024x512) ![0, 0] S1024x512.size inb_S1024x512_S1024x512_0_0
abbrev rO : Rect S512x1024 := Rect.unit (s := S512x1024) ![0, 0] S512x1024.size inb_S512x1024_S512x1024_0_0

/-! ## What the branches leave -/

def upOf (w : Vec F S1x1024x512 .f32) : Vec F S1024x512 .bf16 := View.canon [⟨rS, k0_pay1 (View.ld w rA)⟩]
def gateOf (w : Vec F S1x1024x512 .f32) : Vec F S1024x512 .bf16 := View.canon [⟨rS, k0_pay2 (View.ld w rA)⟩]
def downOf (w : Vec F S1x512x1024 .f32) : Vec F S512x1024 .bf16 := View.canon [⟨rO, k0_pay3 (View.ld w rB)⟩]

/-- The block's products. -/
def prodOf (x : Vec F S512x1024 .f32) (a b : Vec F S1024x512 .bf16) (d : Vec F S512x1024 .bf16) : Vec F S512x1024 .f32 :=
  View.canon [⟨rO, k0_pay4 (View.ld x rO) (View.ld a rS) (View.ld b rS) (View.ld d rO)⟩]
/-- A block of no rows. -/
def zeroOf : Vec F S512x1024 .f32 := View.canon [⟨rO, k0_pay5⟩]

theorem coverS (p : Vec F S1024x512 .bf16) (y : S1024x512.Idx) : ∃ pc ∈ ([⟨rS, p⟩] : List (View.Piece (Elt F) S1024x512 .bf16)), y ∈ pc.1.set :=
  View.cover_of_tiled [⟨rS, p⟩] S1024x512.size (by rfl) y
theorem coverO {e : EltTy} (p : Vec F S512x1024 e) (y : S512x1024.Idx) : ∃ pc ∈ ([⟨rO, p⟩] : List (View.Piece (Elt F) S512x1024 e)), y ∈ pc.1.set :=
  View.cover_of_tiled [⟨rO, p⟩] S512x1024.size (by rfl) y

variable (c : Dev nD) (i : grid0.Coords) (te tn : S96.Idx → BitVec 32) (q : PosShare TreeShare)
  (arg3 : Memref sig .tc .vmem S512x1024 .f32) (harg3 : arg3.IsWhole) (arg4 : Memref sig .tc .vmem S1x1024x512 .f32) (harg4 : arg4.IsWhole)
  (arg5 : Memref sig .tc .vmem S1x1024x512 .f32) (harg5 : arg5.IsWhole) (arg6 : Memref sig .tc .vmem S1x512x1024 .f32) (harg6 : arg6.IsWhole)
  (arg7 : Memref sig .tc .vmem S512x1024 .f32) (harg7 : arg7.IsWhole) (arg8 : Memref sig .tc .vmem S1024x512 .bf16) (harg8 : arg8.IsWhole)
  (arg9 : Memref sig .tc .vmem S1024x512 .bf16) (harg9 : arg9.IsWhole) (arg10 : Memref sig .tc .vmem S512x1024 .bf16) (harg10 : arg10.IsWhole)
  (x : Vec F S512x1024 .f32) (w1 w3 : Vec F S1x1024x512 .f32) (w2 : Vec F S1x512x1024 .f32)

/-- A table's word, read. -/
theorem load_te {α : Type} {Q : α → sProp 𝕄} {off : Fin 1 → ℕ} {hin : ∀ a, off a + S1.size a ≤ S96.size a} {h1 : (Rect.unit (s := S96) off S1.size hin).shape.numel = 1}
    {hp : EltTy.packing .i32 = 1} {k : Elt F .i32 → Prog (TpuEff nD τ sig (Elt F) Λ₀ (c : Thread nD τ).2) α}
    (n : ℕ) (h : off 0 = n) :
    (teM.view.loc (c : Thread nD τ) ↦{q} te : sProp 𝕄)
      ⊢ iprop(((teM.view.loc (c : Thread nD τ) ↦{q} te) -∗ wp frame (wpE defs₀ Variants.none (c : Thread nD τ) none) Set.univ (k (wd te n)) Q)
          -∗ wp frame (wpE defs₀ Variants.none (c : Thread nD τ) none) Set.univ (smemLoad teM (Rect.unit (s := S96) off S1.size hin) h1 hp >>= k) Q) := by
  have e := read_te (F := F) te off hin n h (Shape.Idx.first (h1.symm ▸ Nat.one_pos))
  rw [← e, wp_bind]
  iintro H Hk
  unfold smemLoad
  iapply (wp_smemLoadElt Variants.none (c : Thread nD τ) none Set.univ (m := teM) (r := Rect.unit (s := S96) off S1.size hin) (f := te) (q := q) (Finset.subset_univ _)) $$ H
  iintro H
  rw [wp_ret]
  imodintro
  iapply Hk; iexact H
theorem load_tn {α : Type} {Q : α → sProp 𝕄} {off : Fin 1 → ℕ} {hin : ∀ a, off a + S1.size a ≤ S96.size a} {h1 : (Rect.unit (s := S96) off S1.size hin).shape.numel = 1}
    {hp : EltTy.packing .i32 = 1} {k : Elt F .i32 → Prog (TpuEff nD τ sig (Elt F) Λ₀ (c : Thread nD τ).2) α}
    (n : ℕ) (h : off 0 = n) :
    (tnM.view.loc (c : Thread nD τ) ↦{q} tn : sProp 𝕄)
      ⊢ iprop(((tnM.view.loc (c : Thread nD τ) ↦{q} tn) -∗ wp frame (wpE defs₀ Variants.none (c : Thread nD τ) none) Set.univ (k (wd tn n)) Q)
          -∗ wp frame (wpE defs₀ Variants.none (c : Thread nD τ) none) Set.univ (smemLoad tnM (Rect.unit (s := S96) off S1.size hin) h1 hp >>= k) Q) := by
  have e := read_tn (F := F) tn off hin n h (Shape.Idx.first (h1.symm ▸ Nat.one_pos))
  rw [← e, wp_bind]
  iintro H Hk
  unfold smemLoad
  iapply (wp_smemLoadElt Variants.none (c : Thread nD τ) none Set.univ (m := tnM) (r := Rect.unit (s := S96) off S1.size hin) (f := tn) (q := q) (Finset.subset_univ _)) $$ H
  iintro H
  rw [wp_ret]
  imodintro
  iapply Hk; iexact H

theorem load_tn' {Q : Elt F .i32 → sProp 𝕄} {off : Fin 1 → ℕ} {hin : ∀ a, off a + S1.size a ≤ S96.size a} {hp} {z} (n : ℕ) (h : off 0 = n) :
    (tnM.view.loc (c : Thread nD τ) ↦{q} tn : sProp 𝕄)
      ⊢ iprop(((tnM.view.loc (c : Thread nD τ) ↦{q} tn) -∗ Q (wd tn n))
          -∗ wp frame (wpE (defs₀ (F := F)) Variants.none (c : Thread nD τ) none) Set.univ
            (Prog.op (TpuEff.load tnM (Rect.unit (s := S96) off S1.size hin).toLoadRect hp) fun f => Prog.ret (f z)) Q) := by
  rw [← read_tn (F := F) tn off hin n h z]
  iintro H Hk
  iapply (wp_smemLoadElt Variants.none (c : Thread nD τ) none Set.univ (m := tnM) (r := Rect.unit (s := S96) off S1.size hin) (f := tn) (q := q)
    (hw := View.loads_smem_one rfl rfl) (x := z) (k := Prog.ret) (Finset.subset_univ _)) $$ H
  iintro H
  rw [wp_ret]
  imodintro
  iapply Hk; iexact H

/-- The tables. -/
abbrev Tabs : sProp 𝕄 := iprop((teM.view.loc (c : Thread nD τ) ↦{q} te) ∗ (tnM.view.loc (c : Thread nD τ) ↦{q} tn))
/-- The windows. -/
abbrev Wins (d : Vec F S512x1024 .f32) : sProp 𝕄 :=
  iprop(owns (c : Thread nD τ) arg3 fullShare x ∗ owns (c : Thread nD τ) arg4 fullShare w1 ∗ owns (c : Thread nD τ) arg5 fullShare w3
    ∗ owns (c : Thread nD τ) arg6 fullShare w2 ∗ owns (c : Thread nD τ) arg7 fullShare d)
/-- The scratches. -/
abbrev Held3 (a b : Vec F S1024x512 .bf16) (d : Vec F S512x1024 .bf16) : sProp 𝕄 :=
  iprop(owns (c : Thread nD τ) arg8 fullShare a ∗ owns (c : Thread nD τ) arg9 fullShare b ∗ owns (c : Thread nD τ) arg10 fullShare d)

abbrev bodyProg : Prog (TpuEff nD τ sig (Elt F) Λ₀ .tc) PUnit :=
  cc0_moe_experts (F := F) i teM (Memref.isWhole_whole _) tnM (Memref.isWhole_whole _) arg3 harg3 arg4 harg4 arg5 harg5 arg6 harg6 arg7 harg7 arg8 harg8 arg9 harg9 arg10 harg10

/-- At a block of rows whose expert is new. -/
theorem body_load (K : PUnit → sProp 𝕄) (a b : Vec F S1024x512 .bf16) (e d : Vec F S512x1024 _) (h1 : k0_cond1 i (wd te (i 0).val) (wd te ((i 0).val - 1)) = 1#1)
    (h2 : k0_cond2 (wd tn (i 0).val) = 1#1) (h3 : ¬ k0_cond3 (wd tn (i 0).val) = 1#1) :
    iprop(Tabs c te tn q ∗ Wins c arg3 arg4 arg5 arg6 arg7 x w1 w3 w2 d ∗ Held3 c arg8 arg9 arg10 a b e
        ∗ (iprop(Tabs c te tn q ∗ Wins c arg3 arg4 arg5 arg6 arg7 x w1 w3 w2 (prodOf x (upOf w1) (gateOf w3) (downOf w2)) ∗ Held3 c arg8 arg9 arg10 (upOf w1) (gateOf w3) (downOf w2)) -∗ K ⟨⟩))
      ⊢ wp frame (wpE (defs₀ (F := F)) Variants.none c none) Set.univ
        (bodyProg i arg3 harg3 arg4 harg4 arg5 harg5 arg6 harg6 arg7 harg7 arg8 harg8 arg9 harg9 arg10 harg10) K := by
  unfold bodyProg
  rw [cc0_moe_experts_eq_skeleton]; unfold cc0_moe_experts_skel
  unfold k0_cond1 at h1
  unfold Tabs Wins Held3 owns
  iintro ⟨⟨HE, HN⟩, ⟨⟨%f3, %hf3, H3⟩, ⟨%f4, %hf4, H4⟩, ⟨%f5, %hf5, H5⟩, ⟨%f6, %hf6, H6⟩, ⟨%f7, -, H7⟩⟩, ⟨⟨%f8, %hf8, H8⟩, ⟨%f9, %hf9, H9⟩, ⟨%f10, %hf10, H10⟩⟩, Hk⟩
  subst hf3 hf4 hf5 hf6 hf8 hf9 hf10
  iapply (load_te c te q (i 0).val (off1 i)) $$ HE
  iintro HE
  iapply (load_te c te q ((i 0).val - 1) (off2 i)) $$ HE
  iintro HE
  simp only [if_pos h1]
  sl_exec
  iapply (load_tn' c tn q (i 0).val (off3 i)) $$ HN
  iintro HN
  simp only [dif_pos h2]
  sl_exec
  iapply (load_tn' c tn q (i 0).val (off4 i)) $$ HN
  iintro HN
  simp only [dif_neg h3]
  sl_exec
  sl_step
  iapply Hk
  isplitl [HE HN]
  · isplitl [HE]; · iexact HE
    iexact HN
  isplitl [H3 H4 H5 H6 H7]
  · isplitl [H3]
    · iexists f3; isplitr; · ipureintro; rfl
      iexact H3
    isplitl [H4]
    · iexists f4; isplitr; · ipureintro; rfl
      iexact H4
    isplitl [H5]
    · iexists f5; isplitr; · ipureintro; rfl
      iexact H5
    isplitl [H6]
    · iexists f6; isplitr; · ipureintro; rfl
      iexact H6
    iexists _; isplitr
    swap; · iexact H7
    ipureintro
    refine (View.read_writes_eq_canon _ _ _ (coverO _)).trans ?_
    unfold prodOf
    rw [show View.ld (upOf (arg4.view.read (Elt F) f4)) rS = _ from (View.readCov_eq_canon' arg8.view _ _).symm,
      show View.ld (gateOf (arg5.view.read (Elt F) f5)) rS = _ from (View.readCov_eq_canon' arg9.view _ _).symm,
      show View.ld (downOf (arg6.view.read (Elt F) f6)) rO = _ from (View.readCov_eq_canon' arg10.view _ _).symm]
    rfl
  isplitl [H8]
  · iexists _; isplitr
    swap; · iexact H8
    ipureintro
    exact View.read_writes_eq_canon _ _ _ (coverS _)
  isplitl [H9]
  · iexists _; isplitr
    swap; · iexact H9
    ipureintro
    exact View.read_writes_eq_canon _ _ _ (coverS _)
  iexists _; isplitr
  swap; · iexact H10
  ipureintro
  exact View.read_writes_eq_canon _ _ _ (coverO _)

/-- At a block of rows whose expert is the last block's. -/
theorem body_keep (K : PUnit → sProp 𝕄) (a b : Vec F S1024x512 .bf16) (e d : Vec F S512x1024 _) (h1 : ¬ k0_cond1 i (wd te (i 0).val) (wd te ((i 0).val - 1)) = 1#1)
    (h2 : k0_cond2 (wd tn (i 0).val) = 1#1) (h3 : ¬ k0_cond3 (wd tn (i 0).val) = 1#1) :
    iprop(Tabs c te tn q ∗ Wins c arg3 arg4 arg5 arg6 arg7 x w1 w3 w2 d ∗ Held3 c arg8 arg9 arg10 a b e
        ∗ (iprop(Tabs c te tn q ∗ Wins c arg3 arg4 arg5 arg6 arg7 x w1 w3 w2 (prodOf x a b e) ∗ Held3 c arg8 arg9 arg10 a b e) -∗ K ⟨⟩))
      ⊢ wp frame (wpE (defs₀ (F := F)) Variants.none c none) Set.univ
        (bodyProg i arg3 harg3 arg4 harg4 arg5 harg5 arg6 harg6 arg7 harg7 arg8 harg8 arg9 harg9 arg10 harg10) K := by
  unfold bodyProg
  rw [cc0_moe_experts_eq_skeleton]; unfold cc0_moe_experts_skel
  unfold k0_cond1 at h1
  unfold Tabs Wins Held3 owns
  iintro ⟨⟨HE, HN⟩, ⟨⟨%f3, %hf3, H3⟩, ⟨%f4, %hf4, H4⟩, ⟨%f5, %hf5, H5⟩, ⟨%f6, %hf6, H6⟩, ⟨%f7, -, H7⟩⟩, ⟨⟨%f8, %hf8, H8⟩, ⟨%f9, %hf9, H9⟩, ⟨%f10, %hf10, H10⟩⟩, Hk⟩
  subst hf3 hf4 hf5 hf6 hf8 hf9 hf10
  iapply (load_te c te q (i 0).val (off1 i)) $$ HE
  iintro HE
  iapply (load_te c te q ((i 0).val - 1) (off2 i)) $$ HE
  iintro HE
  simp only [if_neg h1]
  sl_exec
  iapply (load_tn' c tn q (i 0).val (off3 i)) $$ HN
  iintro HN
  simp only [dif_pos h2]
  sl_exec
  iapply (load_tn' c tn q (i 0).val (off4 i)) $$ HN
  iintro HN
  simp only [dif_neg h3]
  sl_exec
  sl_step
  iapply Hk
  isplitl [HE HN]
  · isplitl [HE]; · iexact HE
    iexact HN
  isplitl [H3 H4 H5 H6 H7]
  · isplitl [H3]
    · iexists f3; isplitr; · ipureintro; rfl
      iexact H3
    isplitl [H4]
    · iexists f4; isplitr; · ipureintro; rfl
      iexact H4
    isplitl [H5]
    · iexists f5; isplitr; · ipureintro; rfl
      iexact H5
    isplitl [H6]
    · iexists f6; isplitr; · ipureintro; rfl
      iexact H6
    iexists _; isplitr
    swap; · iexact H7
    ipureintro
    exact View.read_writes_eq_canon _ _ _ (coverO _)
  isplitl [H8]
  · iexists f8; isplitr; · ipureintro; rfl
    iexact H8
  isplitl [H9]
  · iexists f9; isplitr; · ipureintro; rfl
    iexact H9
  iexists f10; isplitr; · ipureintro; rfl
  iexact H10

/-- At a block of no rows whose expert is new. -/
theorem body_load_zero (K : PUnit → sProp 𝕄) (a b : Vec F S1024x512 .bf16) (e d : Vec F S512x1024 _) (h1 : k0_cond1 i (wd te (i 0).val) (wd te ((i 0).val - 1)) = 1#1)
    (h2 : ¬ k0_cond2 (wd tn (i 0).val) = 1#1) (h3 : k0_cond3 (wd tn (i 0).val) = 1#1) :
    iprop(Tabs c te tn q ∗ Wins c arg3 arg4 arg5 arg6 arg7 x w1 w3 w2 d ∗ Held3 c arg8 arg9 arg10 a b e
        ∗ (iprop(Tabs c te tn q ∗ Wins c arg3 arg4 arg5 arg6 arg7 x w1 w3 w2 zeroOf ∗ Held3 c arg8 arg9 arg10 (upOf w1) (gateOf w3) (downOf w2)) -∗ K ⟨⟩))
      ⊢ wp frame (wpE (defs₀ (F := F)) Variants.none c none) Set.univ
        (bodyProg i arg3 harg3 arg4 harg4 arg5 harg5 arg6 harg6 arg7 harg7 arg8 harg8 arg9 harg9 arg10 harg10) K := by
  unfold bodyProg
  rw [cc0_moe_experts_eq_skeleton]; unfold cc0_moe_experts_skel
  unfold k0_cond1 at h1
  unfold Tabs Wins Held3 owns
  iintro ⟨⟨HE, HN⟩, ⟨⟨%f3, %hf3, H3⟩, ⟨%f4, %hf4, H4⟩, ⟨%f5, %hf5, H5⟩, ⟨%f6, %hf6, H6⟩, ⟨%f7, -, H7⟩⟩, ⟨⟨%f8, %hf8, H8⟩, ⟨%f9, %hf9, H9⟩, ⟨%f10, %hf10, H10⟩⟩, Hk⟩
  subst hf3 hf4 hf5 hf6 hf8 hf9 hf10
  iapply (load_te c te q (i 0).val (off1 i)) $$ HE
  iintro HE
  iapply (load_te c te q ((i 0).val - 1) (off2 i)) $$ HE
  iintro HE
  simp only [if_pos h1]
  sl_exec
  iapply (load_tn' c tn q (i 0).val (off3 i)) $$ HN
  iintro HN
  simp only [dif_neg h2]
  sl_exec
  iapply (load_tn' c tn q (i 0).val (off4 i)) $$ HN
  iintro HN
  simp only [dif_pos h3]
  sl_exec
  sl_step
  iapply Hk
  isplitl [HE HN]
  · isplitl [HE]; · iexact HE
    iexact HN
  isplitl [H3 H4 H5 H6 H7]
  · isplitl [H3]
    · iexists f3; isplitr; · ipureintro; rfl
      iexact H3
    isplitl [H4]
    · iexists f4; isplitr; · ipureintro; rfl
      iexact H4
    isplitl [H5]
    · iexists f5; isplitr; · ipureintro; rfl
      iexact H5
    isplitl [H6]
    · iexists f6; isplitr; · ipureintro; rfl
      iexact H6
    iexists _; isplitr
    swap; · iexact H7
    ipureintro
    exact View.read_writes_eq_canon _ _ _ (coverO _)
  isplitl [H8]
  · iexists _; isplitr
    swap; · iexact H8
    ipureintro
    exact View.read_writes_eq_canon _ _ _ (coverS _)
  isplitl [H9]
  · iexists _; isplitr
    swap; · iexact H9
    ipureintro
    exact View.read_writes_eq_canon _ _ _ (coverS _)
  iexists _; isplitr
  swap; · iexact H10
  ipureintro
  exact View.read_writes_eq_canon _ _ _ (coverO _)

/-- At a block of no rows whose expert is the last block's. -/
theorem body_keep_zero (K : PUnit → sProp 𝕄) (a b : Vec F S1024x512 .bf16) (e d : Vec F S512x1024 _) (h1 : ¬ k0_cond1 i (wd te (i 0).val) (wd te ((i 0).val - 1)) = 1#1)
    (h2 : ¬ k0_cond2 (wd tn (i 0).val) = 1#1) (h3 : k0_cond3 (wd tn (i 0).val) = 1#1) :
    iprop(Tabs c te tn q ∗ Wins c arg3 arg4 arg5 arg6 arg7 x w1 w3 w2 d ∗ Held3 c arg8 arg9 arg10 a b e
        ∗ (iprop(Tabs c te tn q ∗ Wins c arg3 arg4 arg5 arg6 arg7 x w1 w3 w2 zeroOf ∗ Held3 c arg8 arg9 arg10 a b e) -∗ K ⟨⟩))
      ⊢ wp frame (wpE (defs₀ (F := F)) Variants.none c none) Set.univ
        (bodyProg i arg3 harg3 arg4 harg4 arg5 harg5 arg6 harg6 arg7 harg7 arg8 harg8 arg9 harg9 arg10 harg10) K := by
  unfold bodyProg
  rw [cc0_moe_experts_eq_skeleton]; unfold cc0_moe_experts_skel
  unfold k0_cond1 at h1
  unfold Tabs Wins Held3 owns
  iintro ⟨⟨HE, HN⟩, ⟨⟨%f3, %hf3, H3⟩, ⟨%f4, %hf4, H4⟩, ⟨%f5, %hf5, H5⟩, ⟨%f6, %hf6, H6⟩, ⟨%f7, -, H7⟩⟩, ⟨⟨%f8, %hf8, H8⟩, ⟨%f9, %hf9, H9⟩, ⟨%f10, %hf10, H10⟩⟩, Hk⟩
  subst hf3 hf4 hf5 hf6 hf8 hf9 hf10
  iapply (load_te c te q (i 0).val (off1 i)) $$ HE
  iintro HE
  iapply (load_te c te q ((i 0).val - 1) (off2 i)) $$ HE
  iintro HE
  simp only [if_neg h1]
  sl_exec
  iapply (load_tn' c tn q (i 0).val (off3 i)) $$ HN
  iintro HN
  simp only [dif_neg h2]
  sl_exec
  iapply (load_tn' c tn q (i 0).val (off4 i)) $$ HN
  iintro HN
  simp only [dif_pos h3]
  sl_exec
  sl_step
  iapply Hk
  isplitl [HE HN]
  · isplitl [HE]; · iexact HE
    iexact HN
  isplitl [H3 H4 H5 H6 H7]
  · isplitl [H3]
    · iexists f3; isplitr; · ipureintro; rfl
      iexact H3
    isplitl [H4]
    · iexists f4; isplitr; · ipureintro; rfl
      iexact H4
    isplitl [H5]
    · iexists f5; isplitr; · ipureintro; rfl
      iexact H5
    isplitl [H6]
    · iexists f6; isplitr; · ipureintro; rfl
      iexact H6
    iexists _; isplitr
    swap; · iexact H7
    ipureintro
    exact View.read_writes_eq_canon _ _ _ (coverO _)
  isplitl [H8]
  · iexists f8; isplitr; · ipureintro; rfl
    iexact H8
  isplitl [H9]
  · iexists f9; isplitr; · ipureintro; rfl
    iexact H9
  iexists f10; isplitr; · ipureintro; rfl
  iexact H10

end Cert.Kernel4Ideal.Expert

end
-- ==== Proof.ExpWords.lean ====
/-
  The tables of the experts' blocks: whose rows each block holds, and how many places of it are filled.
-/
module

public import proofs.«01_k».proof.Proof.Gen.Kernel4Ideal
public import proofs.«01_k».proof.Proof.Words

@[expose] public section

noncomputable section

namespace Cert.Kernel4Ideal.Expert

open Idealize.ShloMosaic Idealize.ShloMosaic.Routing Cert.Routes Cert.Kernel4Ideal.Gen

/-- Where each block begins. -/
def loW : IVec S96 32 := muli (iotaInDim S96 32 0) (broadcastInDim S96 ![] bcast_S_S96 (constantI S_ 32 512#32))

/-- Whose rows each block holds. -/
def exW (cn : IVec S32 32) : IVec S96 32 :=
  minsi (Host.reduce IntOp.addi (extui 32 (cmpi .sge (broadcastInDim S96x32 ![0, 1] bcast_S96x1_S96x32_0_1 (broadcastInDim S96x1 ![0] bcast_S96_S96x1_0 loW))
      (broadcastInDim S96x32 ![0, 1] bcast_S1x32_S96x32_0_1 (broadcastInDim S1x32 ![1] bcast_S32_S1x32_1 (endW bcast_S_S32 bcast_S_S_ reduceWindows_S32_S32_w32s1p31_0 h_S_ cn)))) natLt_1_32)
      (constantI S_ 32 0#32) reducesTo_S96x32_S96_d1 h_S_) (broadcastInDim S96 ![] bcast_S_S96 (constantI S_ 32 31#32))

/-- Where that expert's rows end, from the block's beginning. -/
def leftW (cn : IVec S32 32) : IVec S96 32 :=
  subi (Host.reduce IntOp.addi (select (cmpi .eq (broadcastInDim S96x32 ![0, 1] bcast_S96x1_S96x32_0_1 (broadcastInDim S96x1 ![0] bcast_S96_S96x1_0 (exW cn)))
      (broadcastInDim S96x32 ![0, 1] bcast_S1x32_S96x32_0_1 (broadcastInDim S1x32 ![1] bcast_S32_S1x32_1 (iotaInDim S32 32 0))))
      (broadcastInDim S96x32 ![1] bcast_S32_S96x32_1 (addi (startW bcast_S_S32 bcast_S_S_ reduceWindows_S32_S32_w32s1p31_0 h_S_ cn) cn))
      (broadcastInDim S96x32 ![] bcast_S_S96x32 (constantI S_ 32 0#32))) (constantI S_ 32 0#32) reducesTo_S96x32_S96_d1 h_S_) loW

/-- How many of a block's places are filled. -/
def fillW (cn : IVec S32 32) : IVec S96 32 :=
  minsi (broadcastInDim S96 ![] bcast_S_S96 (constantI S_ 32 512#32)) (maxsi (broadcastInDim S96 ![] bcast_S_S96 (constantI S_ 32 0#32)) (leftW cn))

theorem fold_le {ι : Type} [DecidableEq ι] (S : Finset ι) (f : ι → BitVec 32) (h : ∀ i, (f i).toNat ≤ 1) (hs : S.card < 2 ^ 31) :
    (S.fold IntOp.addi 0#32 f).toNat ≤ S.card := by
  induction S using Finset.cons_induction with
  | empty => exact Nat.zero_le _
  | cons a S ha ih =>
    rw [Finset.card_cons] at hs ⊢
    have := ih (by omega)
    have h1 := h a
    rw [Finset.fold_cons]
    show (f a + S.fold IntOp.addi 0#32 f).toNat ≤ _
    rw [BitVec.toNat_add]
    exact le_trans (Nat.mod_le _ _) (by omega)

theorem min31 (v : BitVec 32) (h : v.toNat < 2 ^ 31) : (IntOp.minsi v 31#32).toNat ≤ 31 := by
  unfold IntOp.minsi
  split
  · next e =>
    have e' := (BitVec.slt_iff_toInt_lt).1 e
    rw [BitVec.toInt_eq_toNat_of_lt (by omega), show (31#32 : BitVec 32).toInt = 31 from by decide] at e'
    omega
  · decide

theorem exW_lt (cn : IVec S32 32) (i : S96.Idx) : (exW cn i).toNat < 32 := by
  classical
  show (IntOp.minsi (Host.reduce IntOp.addi _ _ reducesTo_S96x32_S96_d1 h_S_ i) (broadcastInDim S96 ![] bcast_S_S96 (constantI S_ 32 31#32) i)).toNat < 32
  rw [show broadcastInDim S96 ![] bcast_S_S96 (constantI S_ 32 31#32) i = 31#32 from bc0 _ _ _]
  refine Nat.lt_succ_of_le (min31 _ ?_)
  rw [Host.reduce_eq_fold]
  have hc : (Finset.univ.filter fun j : S96x32.Idx => reducesTo_S96x32_S96_d1.drop j = i).card ≤ 3072 :=
    le_trans (Finset.card_le_univ _) (by rw [Shape.card_idx]; decide)
  refine lt_of_le_of_lt (fold_le _ _ (fun j => ?_) (by omega)) (by omega)
  show ((_ : BitVec 1).setWidth 32).toNat ≤ 1
  rw [BitVec.toNat_setWidth]
  refine le_trans (Nat.mod_le _ _) ?_
  omega

theorem cond2_iff (w : BitVec 32) : k0_cond2 w = 1#1 ↔ 0 < w.toInt := by
  have h : k0_cond2 w = BitVec.ofBool ((0#32).slt w) := by
    show IntOp.cmpi .ne ((BitVec.ofBool ((0#32).slt w)).setWidth 32) 0#32 = _
    cases (0#32).slt w <;> decide
  rw [h]
  have e : ((0#32).slt w = true) ↔ 0 < w.toInt := BitVec.slt_iff_toInt_lt
  rw [← e]
  cases (0#32).slt w <;> decide

theorem cond3_iff (w : BitVec 32) : k0_cond3 w = 1#1 ↔ w = 0#32 := by
  have h : k0_cond3 w = BitVec.ofBool (w == 0#32) := by
    show IntOp.cmpi .ne ((BitVec.ofBool (w == 0#32)).setWidth 32) 0#32 = _
    cases (w == 0#32) <;> decide
  rw [h, ← beq_iff_eq (a := w)]
  cases (w == 0#32) <;> decide

theorem fill_npos (z : BitVec 32) (h : ¬ 0 < z.toInt) : IntOp.minsi 512#32 (IntOp.maxsi 0#32 z) = 0#32 := by
  have e : IntOp.maxsi 0#32 z = 0#32 := by
    unfold IntOp.maxsi
    split
    · rfl
    · next e =>
      have e' : ¬ z.toInt < (0#32 : BitVec 32).toInt := fun x => e (BitVec.slt_iff_toInt_lt.2 x)
      have z0 : (0#32 : BitVec 32).toInt = 0 := by decide
      exact BitVec.eq_of_toInt_eq (by omega)
  rw [e]; decide

theorem fill_pos (z : BitVec 32) (h : 0 < z.toInt) : 0 < (IntOp.minsi 512#32 (IntOp.maxsi 0#32 z)).toInt := by
  have e : IntOp.maxsi 0#32 z = z := by
    unfold IntOp.maxsi
    split
    · next e =>
      have e' := BitVec.slt_iff_toInt_lt.1 e
      have z0 : (0#32 : BitVec 32).toInt = 0 := by decide
      omega
    · rfl
  rw [e]
  unfold IntOp.minsi
  split
  · decide
  · exact h

/-- A block with places filled is computed, any other is zeros. -/
theorem conds (cn : IVec S32 32) (i : S96.Idx) :
    (0 < (leftW cn i).toInt → k0_cond2 (fillW cn i) = 1#1 ∧ ¬ k0_cond3 (fillW cn i) = 1#1)
    ∧ (¬ 0 < (leftW cn i).toInt → ¬ k0_cond2 (fillW cn i) = 1#1 ∧ k0_cond3 (fillW cn i) = 1#1) := by
  have e : fillW cn i = IntOp.minsi 512#32 (IntOp.maxsi 0#32 (leftW cn i)) := by
    show IntOp.minsi (broadcastInDim S96 ![] bcast_S_S96 (constantI S_ 32 512#32) i) (IntOp.maxsi (broadcastInDim S96 ![] bcast_S_S96 (constantI S_ 32 0#32) i) _) = _
    rw [show broadcastInDim S96 ![] bcast_S_S96 (constantI S_ 32 512#32) i = 512#32 from bc0 _ _ _,
      show broadcastInDim S96 ![] bcast_S_S96 (constantI S_ 32 0#32) i = 0#32 from bc0 _ _ _]
  rw [e, cond2_iff, cond3_iff]
  refine ⟨fun h => ⟨fill_pos _ h, fun x => ?_⟩, fun h => ⟨?_, fill_npos _ h⟩⟩
  · have := fill_pos _ h
    rw [x] at this
    exact absurd this (by decide)
  · rw [fill_npos _ h]; decide

end Cert.Kernel4Ideal.Expert

end
-- ==== Proof.ExpKit.lean ====
/-
  The launch of the experts' products: the host operations before it, the tables they leave, and the blocks the tables choose.
-/
module

public import proofs.«01_k».proof.Proof.ExpBody
public import proofs.«01_k».proof.Proof.ExpWords
public import Idealize.ShloMosaic.Lib.StableHlo.Run
public import Idealize.ShloMosaic.Lib.Pipeline.ValueKit.Geometry

@[expose] public section

noncomputable section

namespace Cert.Kernel4Ideal.Expert

open Idealize.ShloMosaic Idealize.ShloMosaic.TcCoe Idealize.ShloMosaic.Tactic
open Idealize.ShloMosaic.StableHlo
open Idealize.SL Idealize.SL.RA
open Idealize.SL.BI
open scoped Idealize.SL.BI
open Idealize.SL.BI.BIBase Idealize.SL.BI.Laws Idealize.SL.ProofMode Idealize.SL.Sem
open Cert.Kernel4Ideal.Gen

variable {F : FTy → Type} [FloatOps F]

local notation "𝕄" => MT nD τ sig Unit (Elt F) ℕ (Idealize.ShloMosaic.UR sig nD τ) ℕ

/-- The host operations before the call, stretch by stretch. -/
abbrev hostSegs : List (List (HloOp τ sig (Elt F))) :=
  [hostOps0, hostOps0_1, hostOps0_2, hostOps0_3, hostOps0_4, hostOps0_5, hostOps0_6, hostOps0_7]

theorem hostSegs_sub : (hostSegs (F := F)).Forall fun ops => ops.Forall fun op => op.bufs ⊆ StableHlo.tcRefs τ sig := by
  simp only [List.Forall]
  exact ⟨hostOps0_sub, hostOps0_1_sub, hostOps0_2_sub, hostOps0_3_sub, hostOps0_4_sub, hostOps0_5_sub, hostOps0_6_sub, hostOps0_7_sub⟩

/-- None of them makes a buffer of its own. -/
theorem hostSegs_fresh : (hostSegs (F := F)).Forall fun ops => ops.Forall fun op => op.fresh = ∅ := by
  simp only [List.Forall]
  refine ⟨?_, ?_, ?_, ?_, ?_, ?_, ?_, ?_⟩ <;> (repeat' constructor)

variable (m : (ℓ : Loc nD τ sig) → Buf (Elt F) ℓ) (ρ : Dev nD → PrngReg)

/-- The contents of every buffer when the call is entered. -/
def V (c : Dev nD) (b : Ref sig .tc) : Buf (Elt F) ((c : Thread nD τ).loc b) :=
  StableHlo.after (List.flatten hostSegs) (fun b => m (c, b)) b

/-- The program is the host operations and then the call. -/
theorem hmain (𝒱₀ : Variants) :
    Pipeline.HMainP (Ix := Unit) (Name := ℕ) (U := UR sig nD τ) (Lvl := ℕ) pcfgs 0 defs₀ 𝒱₀ m main (V m) :=
  Pipeline.hmainP_prefixes pcfgs 0 defs₀ 𝒱₀ m main hostSegs hostSegs_sub hostSegs_fresh main_chain

set_option maxRecDepth 8192 in
set_option maxHeartbeats 2000000 in
theorem V_args (c : Dev nD) : V m c main_arg0 = m (c, Proc.devRef .tc main_arg0) ∧ V m c main_arg1 = m (c, Proc.devRef .tc main_arg1)
    ∧ V m c main_arg2 = m (c, Proc.devRef .tc main_arg2) ∧ V m c main_arg3 = m (c, Proc.devRef .tc main_arg3)
    ∧ V m c main_arg4 = m (c, Proc.devRef .tc main_arg4) := by
  refine ⟨?_, ?_, ?_, ?_, ?_⟩ <;>
  · unfold V hostSegs
    simp only [List.flatten_cons, List.flatten_nil, List.append_nil, hostOps0, hostOps0_1, hostOps0_2, hostOps0_3, hostOps0_4, hostOps0_5, hostOps0_6, hostOps0_7, List.cons_append,
      List.nil_append, TRef.binary, TRef.nullary, TRef.ternary, TRef.unary, TRef.toBuf, TRef.ofBuf, cast_eq]
    after_results_simp <;> rfl

/-- The counts. -/
abbrev cnt : IVec S32 32 := m ((0 : Dev nD), Proc.devRef .tc main_arg0)

set_option maxRecDepth 8192 in
set_option maxHeartbeats 2000000 in
theorem V_ex : V m (0 : Dev nD) main_v20 = exW (cnt m) := by
  unfold V hostSegs
  simp only [List.flatten_cons, List.flatten_nil, List.append_nil, hostOps0, hostOps0_1, hostOps0_2, hostOps0_3, hostOps0_4, hostOps0_5, hostOps0_6, hostOps0_7, List.cons_append,
    List.nil_append, TRef.binary, TRef.nullary, TRef.ternary, TRef.unary, TRef.toBuf, TRef.ofBuf, cast_eq]
  after_results_simp <;> rfl

set_option maxRecDepth 8192 in
set_option maxHeartbeats 2000000 in
theorem V_fill : V m (0 : Dev nD) main_v31 = fillW (cnt m) := by
  unfold V hostSegs
  simp only [List.flatten_cons, List.flatten_nil, List.append_nil, hostOps0, hostOps0_1, hostOps0_2, hostOps0_3, hostOps0_4, hostOps0_5, hostOps0_6, hostOps0_7, List.cons_append,
    List.nil_append, TRef.binary, TRef.nullary, TRef.ternary, TRef.unary, TRef.toBuf, TRef.ofBuf, cast_eq]
  after_results_simp <;> rfl

/-- The tables as the call finds them. -/
def tbl : pre0.Contents (Elt F) := fun j => V m (0 : Dev nD) (pre0.ref j)

theorem V_pre (c : Dev nD) (j : Fin 2) : V m c (pre0.ref j) = tbl m j := by
  obtain rfl : c = 0 := Subsingleton.elim _ _; rfl

/-- Each block's expert. -/
abbrev te0 : S96.Idx → BitVec 32 := exW (cnt m)
/-- How many of its places are filled. -/
abbrev tn0 : S96.Idx → BitVec 32 := fillW (cnt m)

theorem tbl0 : (tbl m 0 : S96.Idx → BitVec 32) = te0 m := V_ex m
theorem tbl1 : (tbl m 1 : S96.Idx → BitVec 32) = tn0 m := V_fill m

theorem te0_lt (n : ℕ) : (wd (te0 m) n).toNat < 32 := exW_lt _ _

theorem at0 (i : grid0.Coords) (h : ∀ a, k0_off1 i a + S1.size a ≤ S96.size a) :
    (tbl m).at 0 (Rect.unit (s := S96) (k0_off1 i) S1.size h) numel1_S1 = wd (te0 m) (i 0).val := by
  rw [← tbl0]
  exact read_te (F := F) (tbl m 0) (k0_off1 i) h _ (off1 i) _

theorem ix1_eq (i : grid0.Coords) : cc0_transform_1 k0_off1_inb numel1_S1 (tbl m) i = ![(wd (te0 m) (i 0).val).toNat, 0, 0] := by
  rw [← at0 m i (k0_off1_inb i)]; rfl
theorem ix2_eq (i : grid0.Coords) : cc0_transform_2 k0_off1_inb numel1_S1 (tbl m) i = ![(wd (te0 m) (i 0).val).toNat, 0, 0] := by
  rw [← at0 m i (k0_off1_inb i)]; rfl
theorem ix3_eq (i : grid0.Coords) : cc0_transform_3 k0_off1_inb numel1_S1 (tbl m) i = ![(wd (te0 m) (i 0).val).toNat, 0, 0] := by
  rw [← at0 m i (k0_off1_inb i)]; rfl

/-- The tables choose blocks of the weights. -/
theorem ok : ok0 (tbl m) := by
  refine ⟨fun i => ⟨fun a => ?_, .inl rfl⟩, fun i => ⟨fun a => ?_, .inl rfl⟩, fun i => ⟨fun a => ?_, .inl rfl⟩⟩
  · rw [ix1_eq]
    have := te0_lt m (i 0).val
    fin_cases a
    · show ((wd (te0 m) (i 0).val).toNat + 1) * 1 ≤ 32; omega
    · show (0 + 1) * 1024 ≤ 1024; omega
    · show (0 + 1) * 512 ≤ 512; omega
  · rw [ix2_eq]
    have := te0_lt m (i 0).val
    fin_cases a
    · show ((wd (te0 m) (i 0).val).toNat + 1) * 1 ≤ 32; omega
    · show (0 + 1) * 1024 ≤ 1024; omega
    · show (0 + 1) * 512 ≤ 512; omega
  · rw [ix3_eq]
    have := te0_lt m (i 0).val
    fin_cases a
    · show ((wd (te0 m) (i 0).val).toNat + 1) * 1 ≤ 32; omega
    · show (0 + 1) * 512 ≤ 512; omega
    · show (0 + 1) * 1024 ≤ 1024; omega

abbrev adm : (pcfg0 (F := F)).Adm := ⟨tbl m, ok m⟩
abbrev cfgM : Pipeline.Cfg sig Λ₀ := cfg0 (adm m)

/-- The tables' halves the call lends the body. -/
theorem PhiT0_eq (c : Dev nD) : (Pipeline.ΦT pre0 (tbl m) c : sProp 𝕄) = Tabs c (te0 m) (tn0 m) fullShare.right := by
  unfold Pipeline.ΦT Pipeline.prefHeld
  rw [show (Finset.univ : Finset (Fin 2)) = {(0 : Fin 2), 1} from by decide, bigSep_insert (by decide), bigSep_singleton, Tabs, ← tbl0, ← tbl1]
  rfl

end Cert.Kernel4Ideal.Expert

end
-- ==== Proof.ExpRun.lean ====
/-
  The run of the experts' products: it ends with every block of its output at what its point computes, the weights in the
  scratches at every point those of the point's expert.
-/
module

public import proofs.«01_k».proof.Proof.ExpKit

@[expose] public section

noncomputable section

namespace Cert.Kernel4Ideal.Expert

open Idealize.ShloMosaic Idealize.ShloMosaic.TcCoe Idealize.ShloMosaic.Tactic
open Idealize.SL Idealize.SL.RA
open Idealize.SL.BI (sProp bigSep)
open scoped Idealize.SL.BI
open Idealize.SL.BI.BIBase Idealize.SL.BI.Laws Idealize.SL.ProofMode Idealize.SL.Sem
open Cert.Kernel4Ideal.Gen
open Idealize.ShloMosaic.Pipeline (Dat Cfg Window BodyObligation)

variable {F : FTy → Type} [FloatOps F]

local notation "𝕄" => MT nD τ sig Unit (Elt F) ℕ (Idealize.ShloMosaic.UR sig nD τ) ℕ

variable (m : (ℓ : Loc nD τ sig) → Buf (Elt F) ℓ) (ρ : Dev nD → PrngReg)

attribute [local irreducible] tbl V exW fillW leftW

theorem coord (t : Fin grid0.N) : (grid0.coords t 0).val = t.val := by
  have h : ∀ t : Fin grid0.N, (grid0.coords t 0).val = t.val := by decide +kernel
  exact h t

theorem t_lt (t : Fin grid0.N) : t.val < 96 := lt_of_lt_of_eq t.isLt N_0

/-- A window's block at a point. -/
def iblk (c : Dev nD) (w : Fin 5) (t : Fin (cfgM m).N) : (((cfgM m).win w).xblock ((cfgM m).grid.coords t)).Idx → Elt F ((cfgM m).win w).elt :=
  (((cfgM m).win w).blk t).view.read (Elt F) (V m c (Pipeline.arrRef spec0 w))

/-- The weights at a point. -/
def upAt (c : Dev nD) (t : Fin (cfgM m).N) : Vec F S1024x512 .bf16 := upOf (iblk m c 1 t)
def gateAt (c : Dev nD) (t : Fin (cfgM m).N) : Vec F S1024x512 .bf16 := gateOf (iblk m c 2 t)
def downAt (c : Dev nD) (t : Fin (cfgM m).N) : Vec F S512x1024 .bf16 := downOf (iblk m c 3 t)

/-- Whether a block holds a row. -/
def filled (n : ℕ) : Prop := 0 < (wd (leftW (cnt m)) n).toInt
instance (n : ℕ) : Decidable (filled m n) := by unfold filled; infer_instance

/-- The output's block after its point. -/
def outAt (c : Dev nD) (t : Fin (cfgM m).N) : Vec F S512x1024 .f32 :=
  if filled m t.val then prodOf (iblk m c 0 t) (upAt m c t) (gateAt m c t) (downAt m c t) else zeroOf

theorem conds_at (n : ℕ) : (filled m n → k0_cond2 (wd (tn0 m) n) = 1#1 ∧ ¬ k0_cond3 (wd (tn0 m) n) = 1#1)
    ∧ (¬ filled m n → ¬ k0_cond2 (wd (tn0 m) n) = 1#1 ∧ k0_cond3 (wd (tn0 m) n) = 1#1) := conds (cnt m) _

/-- What the scratches hold after `n` points: the weights of the point before. -/
def Held (c : Dev nD) (n : Fin (grid0.N + 1)) (a b : Vec F S1024x512 .bf16) (d : Vec F S512x1024 .bf16) : Prop :=
  ∀ t : Fin grid0.N, t.val + 1 = n.val → a = upAt m c t ∧ b = gateAt m c t ∧ d = downAt m c t

/-- What the body carries from point to point. -/
def Inv (c : Dev nD) (n : Fin (grid0.N + 1)) : sProp 𝕄 :=
  iprop((∃ a b d, ⌜Held m c n a b d⌝ ∗ Held3 c (Memref.whole cc0_scratch0) (Memref.whole cc0_scratch1) (Memref.whole cc0_scratch2) a b d)
    ∗ (∃ r, prngReg c r) ∗ Tabs c (te0 m) (tn0 m) fullShare.right)

/-- The run's data. -/
def dats (p : Fin 1) (c : Dev nD) : Pipeline.Dat τ (Elt F) Unit ℕ (UR sig nD τ) ℕ (Pipeline.pin (pcfgs (F := F)) (fun _ => adm m) p) c :=
  match p with
  | 0 => { A := fun w => V m c (Pipeline.arrRef spec0 w)
           after := fun w t => match w with
             | ⟨0, _⟩ => iblk m c 0 t
             | ⟨1, _⟩ => iblk m c 1 t
             | ⟨2, _⟩ => iblk m c 2 t
             | ⟨3, _⟩ => iblk m c 3 t
             | ⟨4, _⟩ => outAt m c t
           Φ := fun t => Inv m c t
           q := fun _ => fullShare
           owed := fun _ => 0 }
  | ⟨_ + 1, h⟩ => absurd h (Nat.not_lt.2 (Nat.le_add_left _ _))

theorem after0 (c : Dev nD) (t : Fin (cfgM m).N) : (dats m 0 c).after (0 : Fin 5) t = iblk m c 0 t := by dsimp only [dats]
theorem after1 (c : Dev nD) (t : Fin (cfgM m).N) : (dats m 0 c).after (1 : Fin 5) t = iblk m c 1 t := by dsimp only [dats]
theorem after2 (c : Dev nD) (t : Fin (cfgM m).N) : (dats m 0 c).after (2 : Fin 5) t = iblk m c 2 t := by dsimp only [dats]
theorem after3 (c : Dev nD) (t : Fin (cfgM m).N) : (dats m 0 c).after (3 : Fin 5) t = iblk m c 3 t := by dsimp only [dats]
theorem after4 (c : Dev nD) (t : Fin (cfgM m).N) : (dats m 0 c).after (4 : Fin 5) t = outAt m c t := by dsimp only [dats]
theorem before0 (c : Dev nD) (t : Fin (cfgM m).N) (d) : (dats m 0 c).before (0 : Fin 5) t d = iblk m c 0 t :=
  (dats m 0 c).before_in_eq_fetched (0 : Fin 5) rfl (fun _ => rfl) (fun _ _ _ => rfl) (fun _ => rfl) t d
theorem before1 (c : Dev nD) (t : Fin (cfgM m).N) (d) : (dats m 0 c).before (1 : Fin 5) t d = iblk m c 1 t :=
  (dats m 0 c).before_in_eq_fetched (1 : Fin 5) rfl (fun _ => rfl) (fun _ _ _ => rfl) (fun _ => rfl) t d
theorem before2 (c : Dev nD) (t : Fin (cfgM m).N) (d) : (dats m 0 c).before (2 : Fin 5) t d = iblk m c 2 t :=
  (dats m 0 c).before_in_eq_fetched (2 : Fin 5) rfl (fun _ => rfl) (fun _ _ _ => rfl) (fun _ => rfl) t d
theorem before3 (c : Dev nD) (t : Fin (cfgM m).N) (d) : (dats m 0 c).before (3 : Fin 5) t d = iblk m c 3 t :=
  (dats m 0 c).before_in_eq_fetched (3 : Fin 5) rfl (fun _ => rfl) (fun _ _ _ => rfl) (fun _ => rfl) t d

theorem index1 (t : Fin grid0.N) : ((cfgM m).win 1).index t = ![(wd (te0 m) t.val).toNat, 0, 0] :=
  (ix1_eq m (grid0.coords t)).trans (by rw [coord])
theorem index2 (t : Fin grid0.N) : ((cfgM m).win 2).index t = ![(wd (te0 m) t.val).toNat, 0, 0] :=
  (ix2_eq m (grid0.coords t)).trans (by rw [coord])
theorem index3 (t : Fin grid0.N) : ((cfgM m).win 3).index t = ![(wd (te0 m) t.val).toNat, 0, 0] :=
  (ix3_eq m (grid0.coords t)).trans (by rw [coord])

theorem index_eq (w : Fin 5) (t t' : Fin grid0.N) (hw : w = 1 ∨ w = 2 ∨ w = 3) (h : wd (te0 m) t.val = wd (te0 m) t'.val) :
    ((cfgM m).win w).index t = ((cfgM m).win w).index t' := by
  obtain rfl | rfl | rfl := hw
  · exact (index1 m t).trans (by rw [h]; exact (index1 m t').symm)
  · exact (index2 m t).trans (by rw [h]; exact (index2 m t').symm)
  · exact (index3 m t).trans (by rw [h]; exact (index3 m t').symm)

/-- Two points of one expert have the same weights. -/
theorem same1 (c : Dev nD) (t t' : Fin grid0.N) (h : wd (te0 m) t.val = wd (te0 m) t'.val) : iblk m c 1 t = iblk m c 1 t' :=
  (dats m 0 c).fetched_congr (1 : Fin 5) (t := t) (t' := t') (index_eq m 1 t t' (.inl rfl) h) rfl (iblk m c 1 t)
theorem same2 (c : Dev nD) (t t' : Fin grid0.N) (h : wd (te0 m) t.val = wd (te0 m) t'.val) : iblk m c 2 t = iblk m c 2 t' :=
  (dats m 0 c).fetched_congr (2 : Fin 5) (t := t) (t' := t') (index_eq m 2 t t' (.inr (.inl rfl)) h) rfl (iblk m c 2 t)
theorem same3 (c : Dev nD) (t t' : Fin grid0.N) (h : wd (te0 m) t.val = wd (te0 m) t'.val) : iblk m c 3 t = iblk m c 3 t' :=
  (dats m 0 c).fetched_congr (3 : Fin 5) (t := t) (t' := t') (index_eq m 3 t t' (.inr (.inr rfl)) h) rfl (iblk m c 3 t)

/-- A block that does not take its weights anew is not the first, and its expert is the last block's. -/
theorem keeps (i : grid0.Coords) (u v : BitVec 32) (h : ¬ k0_cond1 i u v = 1#1) : (i 0).val ≠ 0 ∧ u = v := by
  have e : k0_cond1 i u v = IntOp.ori (IntOp.cmpi .eq (BitVec.ofNat 32 (i 0).val) 0#32) (IntOp.cmpi .ne u v) := by
    show IntOp.cmpi .ne ((IntOp.ori (IntOp.cmpi .eq (BitVec.ofNat 32 (i 0).val) 0#32) (IntOp.cmpi .ne u v)).setWidth 32) 0#32 = _
    generalize IntOp.ori (IntOp.cmpi .eq (BitVec.ofNat 32 (i 0).val) 0#32) (IntOp.cmpi .ne u v) = b
    revert b; decide
  rw [e] at h
  constructor
  · intro h0
    apply h
    rw [h0]
    generalize IntOp.cmpi .ne u v = b
    revert b; decide
  · by_contra hne
    apply h
    rw [show IntOp.cmpi .ne u v = 1#1 from by show BitVec.ofBool (u != v) = 1#1; rw [bne_iff_ne.mpr hne]; rfl]
    generalize IntOp.cmpi .eq (BitVec.ofNat 32 (i 0).val) 0#32 = b
    revert b; decide

theorem held_succ (c : Dev nD) (t : Fin grid0.N) : Held m c t.succ (upAt m c t) (gateAt m c t) (downAt m c t) := fun t' e => by
  have : t' = t := Fin.ext (by simpa using e)
  rw [this]
  exact ⟨rfl, rfl, rfl⟩

theorem held_same (c : Dev nD) (t : Fin grid0.N) (h0 : t.val ≠ 0) (h : wd (te0 m) t.val = wd (te0 m) (t.val - 1))
    (a b : Vec F S1024x512 .bf16) (d : Vec F S512x1024 .bf16) (hf : Held m c t.castSucc a b d) : a = upAt m c t ∧ b = gateAt m c t ∧ d = downAt m c t := by
  obtain ⟨ha, hb, hd⟩ := hf ⟨t.val - 1, Nat.lt_of_le_of_lt (Nat.sub_le _ _) t.isLt⟩ (by show t.val - 1 + 1 = t.val; omega)
  have e : wd (te0 m) t.val = wd (te0 m) (⟨t.val - 1, Nat.lt_of_le_of_lt (Nat.sub_le _ _) t.isLt⟩ : Fin grid0.N).val := h
  refine ⟨ha.trans ?_, hb.trans ?_, hd.trans ?_⟩
  · unfold upAt; exact congrArg upOf (same1 m c _ _ e).symm
  · unfold gateAt; exact congrArg gateOf (same2 m c _ _ e).symm
  · unfold downAt; exact congrArg downOf (same3 m c _ _ e).symm

theorem atD1 (off : Fin 1 → ℕ) (n : ℕ) (h : off 0 = n) (hn : n < 96) : (tbl m).atD 1 off = wd (tn0 m) n := by
  have hb : ∀ a : Fin 1, off a + 1 ≤ S96.size a := fun a => by
    obtain rfl : a = 0 := Subsingleton.elim _ _
    show off 0 + 1 ≤ 96; omega
  refine (dif_pos (c := ∀ a : Fin 1, off a + 1 ≤ S96.size a) hb).trans ?_
  rw [← tbl1]
  exact idx_eq (tbl m 1) _ n h

/-- Every point leaves its block. -/
theorem idle4 (t : Fin (cfgM m).N) : (cfgM m).idle (4 : Fin 5) ((cfgM m).grid.coords t) = false := by
  have e3 := atD1 m (k0_off3 (grid0.coords t)) t.val ((off3 _).trans (coord t)) (t_lt t)
  have e4 := atD1 m (k0_off4 (grid0.coords t)) t.val ((off4 _).trans (coord t)) (t_lt t)
  have h : idle0 (tbl m) (4 : Fin 5) (grid0.coords t) = false := by
    show (!(k0_cond2 ((tbl m).atD 1 (k0_off3 (grid0.coords t))) == 1#1) && !(k0_cond3 ((tbl m).atD 1 (k0_off4 (grid0.coords t))) == 1#1)) = false
    rw [e3, e4]
    by_cases h : filled m t.val
    · rw [((conds_at m t.val).1 h).1]; rfl
    · rw [((conds_at m t.val).2 h).2]; simp
  exact h

theorem leaves4 (c : Dev nD) (t : Fin (cfgM m).N) :
    (dats m 0 c).leavesExact (4 : Fin 5) t = owns (c : Thread nD τ) (spec0_4.stage ((cfgM m).slots t (4 : Fin 5))) fullShare (outAt m c t) := by
  unfold Dat.leavesExact
  rw [show (Pipeline.pin (pcfgs (F := F)) (fun _ => adm m) 0).idle (4 : Fin 5) ((Pipeline.pin (pcfgs (F := F)) (fun _ => adm m) 0).grid.coords t) = false from idle4 m t, after4]

/-! ## The body's obligation -/

/-- The windows' buffers at a point, the output's at `d`. -/
abbrev Stages (c : Dev nD) (t : Fin (cfgM m).N) (s : (w : Fin 5) → Fin (spec0 w).nbuf) (d : Vec F S512x1024 .f32) : sProp 𝕄 :=
  Wins c (spec0_0.stage (s 0)) (spec0_1.stage (s 1)) (spec0_2.stage (s 2)) (spec0_3.stage (s 3)) (spec0_4.stage (s 4))
    (iblk m c 0 t) (iblk m c 1 t) (iblk m c 2 t) (iblk m c 3 t) d

/-- The body at a point. -/
abbrev bodyAt (t : Fin (cfgM m).N) (s : (w : Fin 5) → Fin (spec0 w).nbuf) : Prog (TpuEff nD τ sig (Elt F) Λ₀ .tc) PUnit :=
  bodyProg (grid0.coords t) (spec0_0.stage (s 0)) (hstage0_0 ((s 0).cast nbuf0_0)) (spec0_1.stage (s 1)) (hstage0_1 ((s 1).cast nbuf0_1)) (spec0_2.stage (s 2)) (hstage0_2 ((s 2).cast nbuf0_2)) (spec0_3.stage (s 3)) (hstage0_3 ((s 3).cast nbuf0_3)) (spec0_4.stage (s 4)) (hstage0_4 ((s 4).cast nbuf0_4)) (Memref.whole cc0_scratch0) (Memref.isWhole_whole _) (Memref.whole cc0_scratch1) (Memref.isWhole_whole _) (Memref.whole cc0_scratch2) (Memref.isWhole_whole _)

theorem point_run (c : Dev nD) (t : Fin (cfgM m).N) (s : (w : Fin 5) → Fin (spec0 w).nbuf) (d : Vec F S512x1024 .f32)
    (a b : Vec F S1024x512 .bf16) (e : Vec F S512x1024 .bf16) (hf : Held m c t.castSucc a b e) (K : PUnit → sProp 𝕄) :
    (iprop(Tabs c (te0 m) (tn0 m) fullShare.right ∗ Stages m c t s d ∗ Held3 c (Memref.whole cc0_scratch0) (Memref.whole cc0_scratch1) (Memref.whole cc0_scratch2) a b e
        ∗ (iprop(Tabs c (te0 m) (tn0 m) fullShare.right ∗ Stages m c t s (outAt m c t)
          ∗ Held3 c (Memref.whole cc0_scratch0) (Memref.whole cc0_scratch1) (Memref.whole cc0_scratch2) (upAt m c t) (gateAt m c t) (downAt m c t)) -∗ K ⟨⟩)) : sProp 𝕄)
      ⊢ wp frame (wpE (defs₀ (F := F)) Variants.none c none) Set.univ (bodyAt m t s) K := by
  have hc := coord t
  by_cases h2 : filled m t.val
  · have ho : outAt m c t = prodOf (iblk m c 0 t) (upAt m c t) (gateAt m c t) (downAt m c t) := if_pos h2
    obtain ⟨g2, g3⟩ := (conds_at m t.val).1 h2
    rw [← hc] at g2 g3
    rw [ho]
    by_cases h1 : k0_cond1 (grid0.coords t) (wd (te0 m) (grid0.coords t 0).val) (wd (te0 m) ((grid0.coords t 0).val - 1)) = 1#1
    · exact body_load c (grid0.coords t) (te0 m) (tn0 m) fullShare.right (spec0_0.stage (s 0)) (hstage0_0 ((s 0).cast nbuf0_0)) (spec0_1.stage (s 1)) (hstage0_1 ((s 1).cast nbuf0_1)) (spec0_2.stage (s 2)) (hstage0_2 ((s 2).cast nbuf0_2)) (spec0_3.stage (s 3)) (hstage0_3 ((s 3).cast nbuf0_3)) (spec0_4.stage (s 4)) (hstage0_4 ((s 4).cast nbuf0_4)) _ _ _ _ _ _ (iblk m c 0 t) (iblk m c 1 t) (iblk m c 2 t) (iblk m c 3 t) K a b e d h1 g2 g3
    · obtain ⟨k0, k1⟩ := keeps _ _ _ h1
      rw [hc] at k0 k1
      obtain ⟨rfl, rfl, rfl⟩ := held_same m c t k0 k1 a b e hf
      exact body_keep c (grid0.coords t) (te0 m) (tn0 m) fullShare.right (spec0_0.stage (s 0)) (hstage0_0 ((s 0).cast nbuf0_0)) (spec0_1.stage (s 1)) (hstage0_1 ((s 1).cast nbuf0_1)) (spec0_2.stage (s 2)) (hstage0_2 ((s 2).cast nbuf0_2)) (spec0_3.stage (s 3)) (hstage0_3 ((s 3).cast nbuf0_3)) (spec0_4.stage (s 4)) (hstage0_4 ((s 4).cast nbuf0_4)) _ _ _ _ _ _ (iblk m c 0 t) (iblk m c 1 t) (iblk m c 2 t) (iblk m c 3 t) K _ _ _ d h1 g2 g3
  · have ho : outAt m c t = zeroOf := if_neg h2
    obtain ⟨g2, g3⟩ := (conds_at m t.val).2 h2
    rw [← hc] at g2 g3
    rw [ho]
    by_cases h1 : k0_cond1 (grid0.coords t) (wd (te0 m) (grid0.coords t 0).val) (wd (te0 m) ((grid0.coords t 0).val - 1)) = 1#1
    · exact body_load_zero c (grid0.coords t) (te0 m) (tn0 m) fullShare.right (spec0_0.stage (s 0)) (hstage0_0 ((s 0).cast nbuf0_0)) (spec0_1.stage (s 1)) (hstage0_1 ((s 1).cast nbuf0_1)) (spec0_2.stage (s 2)) (hstage0_2 ((s 2).cast nbuf0_2)) (spec0_3.stage (s 3)) (hstage0_3 ((s 3).cast nbuf0_3)) (spec0_4.stage (s 4)) (hstage0_4 ((s 4).cast nbuf0_4)) _ _ _ _ _ _ (iblk m c 0 t) (iblk m c 1 t) (iblk m c 2 t) (iblk m c 3 t) K a b e d h1 g2 g3
    · obtain ⟨k0, k1⟩ := keeps _ _ _ h1
      rw [hc] at k0 k1
      obtain ⟨rfl, rfl, rfl⟩ := held_same m c t k0 k1 a b e hf
      exact body_keep_zero c (grid0.coords t) (te0 m) (tn0 m) fullShare.right (spec0_0.stage (s 0)) (hstage0_0 ((s 0).cast nbuf0_0)) (spec0_1.stage (s 1)) (hstage0_1 ((s 1).cast nbuf0_1)) (spec0_2.stage (s 2)) (hstage0_2 ((s 2).cast nbuf0_2)) (spec0_3.stage (s 3)) (hstage0_3 ((s 3).cast nbuf0_3)) (spec0_4.stage (s 4)) (hstage0_4 ((s 4).cast nbuf0_4)) _ _ _ _ _ _ (iblk m c 0 t) (iblk m c 1 t) (iblk m c 2 t) (iblk m c 3 t) K _ _ _ d h1 g2 g3

def bodyPre (c : Dev nD) (t : Fin (cfgM m).N) : sProp 𝕄 :=
  iprop(Inv m c t.castSucc ∗ (dats m 0 c).owesAt () t.castSucc
    ∗ (∃ d, owns (c : Thread nD τ) (spec0_0.stage ((cfgM m).slots t (0 : Fin 5))) fullShare ((dats m 0 c).before (0 : Fin 5) t d))
    ∗ (∃ d, owns (c : Thread nD τ) (spec0_1.stage ((cfgM m).slots t (1 : Fin 5))) fullShare ((dats m 0 c).before (1 : Fin 5) t d))
    ∗ (∃ d, owns (c : Thread nD τ) (spec0_2.stage ((cfgM m).slots t (2 : Fin 5))) fullShare ((dats m 0 c).before (2 : Fin 5) t d))
    ∗ (∃ d, owns (c : Thread nD τ) (spec0_3.stage ((cfgM m).slots t (3 : Fin 5))) fullShare ((dats m 0 c).before (3 : Fin 5) t d))
    ∗ (∃ d, owns (c : Thread nD τ) (spec0_4.stage ((cfgM m).slots t (4 : Fin 5))) fullShare ((dats m 0 c).before (4 : Fin 5) t d)))

def bodyPost (c : Dev nD) (t : Fin (cfgM m).N) : sProp 𝕄 :=
  iprop(Inv m c t.succ ∗ (dats m 0 c).owesAt () t.succ
    ∗ owns (c : Thread nD τ) (spec0_0.stage ((cfgM m).slots t (0 : Fin 5))) fullShare ((dats m 0 c).after (0 : Fin 5) t)
    ∗ owns (c : Thread nD τ) (spec0_1.stage ((cfgM m).slots t (1 : Fin 5))) fullShare ((dats m 0 c).after (1 : Fin 5) t)
    ∗ owns (c : Thread nD τ) (spec0_2.stage ((cfgM m).slots t (2 : Fin 5))) fullShare ((dats m 0 c).after (2 : Fin 5) t)
    ∗ owns (c : Thread nD τ) (spec0_3.stage ((cfgM m).slots t (3 : Fin 5))) fullShare ((dats m 0 c).after (3 : Fin 5) t)
    ∗ (dats m 0 c).leavesExact (4 : Fin 5) t)

theorem sound_body (c : Dev nD) (t : Fin (cfgM m).N) :
    bodyPre m c t ⊢ wp frame (wpE (defs₀ (F := F)) Variants.none c none) Set.univ (bodyAt m t ((cfgM m).slots t)) (fun _ => bodyPost m c t) := by
  unfold bodyPre bodyPost
  simp only [before0, before1, before2, before3]
  rw [leaves4, after0, after1, after2, after3, show (dats m 0 c).owesAt () t.succ = (dats m 0 c).owesAt () t.castSucc from rfl]
  unfold Inv
  iintro ⟨⟨⟨%a, %b, %e, %hf, HS⟩, Hr, HT⟩, Ho, ⟨%d0, H0⟩, ⟨%d1, H1⟩, ⟨%d2, H2⟩, ⟨%d3, H3⟩, ⟨%d4, H4⟩⟩
  iapply (point_run m c t ((cfgM m).slots t) _ a b e hf)
  isplitl [HT]; · iexact HT
  isplitl [H0 H1 H2 H3 H4]
  · isplitl [H0]; · iexact H0
    isplitl [H1]; · iexact H1
    isplitl [H2]; · iexact H2
    isplitl [H3]; · iexact H3
    iexact H4
  isplitl [HS]; · iexact HS
  iintro ⟨HT, ⟨H0, H1, H2, H3, H4⟩, HS⟩
  isplitl [HS Hr HT]
  · isplitl [HS]
    · iexists (upAt m c t), (gateAt m c t), (downAt m c t)
      isplitr
      · ipureintro; exact held_succ m c t
      iexact HS
    isplitl [Hr]; · iexact Hr
    iexact HT
  isplitl [Ho]; · iexact Ho
  isplitl [H0]; · iexact H0
  isplitl [H1]; · iexact H1
  isplitl [H2]; · iexact H2
  isplitl [H3]; · iexact H3
  iexact H4

theorem body_obligation (c : Dev nD) : BodyObligation (dats (F := F) m 0 c) (defs₀ (F := F)) Variants.none () Set.univ := fun t => by
  rw [bigSep_W0, bigSep_W0]
  exact triple_restated (sound_body m c t) rfl .rfl fun _ => .rfl

/-! ## The launch -/

theorem enter (c : Dev nD) : iprop(Pipeline.ΦA spec0 c ∗ Pipeline.ΦT pre0 (tbl m) c) ⊢ (Inv m c 0 : sProp 𝕄) := by
  rw [PhiT0_eq]
  unfold Pipeline.ΦA Inv Held3
  rw [scopedRest0_eq]
  simp only [owns_whole]
  iintro ⟨⟨⟨⟨%f, H0⟩, ⟨%g, H1⟩, ⟨%h, H2⟩⟩, Hr⟩, HT⟩
  isplitl [H0 H1 H2]
  · iexists f, g, h
    isplitr
    · ipureintro; exact fun _ e => absurd e (Nat.succ_ne_zero _)
    isplitl [H0]; · iexact H0
    isplitl [H1]; · iexact H1
    iexact H2
  isplitl [Hr]; · iexact Hr
  iexact HT

theorem leave (c : Dev nD) : (Inv m c (Fin.last grid0.N) : sProp 𝕄) ⊢ Pipeline.ΦA spec0 c := by
  unfold Pipeline.ΦA Inv Held3
  rw [scopedRest0_eq]
  simp only [owns_whole]
  iintro ⟨⟨%f, %g, %h, -, H0, H1, H2⟩, Hr, -⟩
  isplitl [H0 H1 H2]
  · isplitl [H0]; · iexists f; iexact H0
    isplitl [H1]; · iexists g; iexact H1
    iexists h; iexact H2
  iexact Hr

set_option backward.isDefEq.respectTransparency.types false in
/-- The run: every execution ends, each window's array as the points leave it, every other array as the call found it,
    every semaphore at zero. -/
theorem run_main : θ_run defs (onTc (τ := τ) (main (F := F))) (s₀ m ρ) (fun r =>
      Pipeline.FramePost (Pipeline.pin (pcfgs (F := F)) (fun _ => adm m)) (dats m) 0 (V m) r ∧ r.2.sem = fun _ => 0) :=
  Pipeline.θ_run_frameP_track pcfgs (fun _ => adm m) (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := fun _ _ => rfl) (hpf := V_pre m)
    (hin := fun c => enter m c) (hout := fun c => leave m c) (Q' := fun r => Pipeline.FramePost (Pipeline.pin (pcfgs (F := F)) (fun _ => adm m)) (dats m) 0 (V m) r ∧ r.2.sem = fun _ => 0)
    (hQ' := fun _ h => h)

set_option maxHeartbeats 1000000 in
/-- The run, its arguments as they were. -/
theorem run_args : θ_run defs (onTc (τ := τ) (main (F := F))) (s₀ m ρ)
    (fun r => (∀ c : Dev nD,
        r.2.mem ((c.tc : Thread nD τ).loc main_v32) = (dats m 0 c).arrAt (4 : Fin 5) (cfgM m).N
        ∧ r.2.mem ((c.tc : Thread nD τ).loc main_arg0) = m ((c.tc : Thread nD τ).loc main_arg0)
        ∧ r.2.mem ((c.tc : Thread nD τ).loc main_arg1) = m ((c.tc : Thread nD τ).loc main_arg1)
        ∧ r.2.mem ((c.tc : Thread nD τ).loc main_arg2) = m ((c.tc : Thread nD τ).loc main_arg2)
        ∧ r.2.mem ((c.tc : Thread nD τ).loc main_arg3) = m ((c.tc : Thread nD τ).loc main_arg3)
        ∧ r.2.mem ((c.tc : Thread nD τ).loc main_arg4) = m ((c.tc : Thread nD τ).loc main_arg4))
      ∧ r.2.sem = fun _ => 0) := by
  refine (θ_run defs _ _).mono (fun r h => ⟨fun c => ?_, h.2⟩) (run_main m ρ)
  obtain ⟨v0, v1, v2, v3, v4⟩ := V_args m c
  have hr := (h.1 c).2
  have hw := (h.1 c).1
  exact ⟨hw (4 : Fin 5), (hr main_arg0 (by decide : main_arg0 ∈ Pipeline.restRefs sig spec0)).trans v0,
    ((hw (0 : Fin 5)).trans ((dats m 0 c).arrAt_in (0 : Fin 5) rfl _)).trans v1,
    ((hw (1 : Fin 5)).trans ((dats m 0 c).arrAt_in (1 : Fin 5) rfl _)).trans v2,
    ((hw (2 : Fin 5)).trans ((dats m 0 c).arrAt_in (2 : Fin 5) rfl _)).trans v3,
    ((hw (3 : Fin 5)).trans ((dats m 0 c).arrAt_in (3 : Fin 5) rfl _)).trans v4⟩

end Cert.Kernel4Ideal.Expert

end
-- ==== Proof.ExpRows.lean ====
/-
  The experts' products: what they are over the reals, and the body's payloads read at an index.
-/
module

public import proofs.«01_k».proof.Proof.ExpWords
public import proofs.«01_k».proof.Proof.Gen.Kernel4Ideal.Skeleton
public import Idealize.ShloMosaic.Lib.Pointwise

@[expose] public section

noncomputable section

namespace Cert.Experts

open Idealize.ShloMosaic Idealize.ShloMosaic.TcCoe

/-- The product of one row with one column of the first layer's weights. -/
def along (x w : Fin 1024 → EReal) : EReal := ∑ k : Fin 1024, x k * w k

/-- The gated activation. -/
def act (u v : EReal) : EReal := u * Ideal.logistic u * v

/-- One entry of a filled row: `u`, `v` the first layer's columns, `w` the second's. -/
def through (x : Fin 1024 → EReal) (u v : Fin 512 → Fin 1024 → EReal) (w : Fin 512 → EReal) : EReal :=
  ∑ f : Fin 512, act (along x (u f)) (along x (v f)) * w f

/-- The block of a row. -/
def blockOf (r : Fin 49152) : Fin 96 := ⟨r.val / 512, by omega⟩

/-- The expert of a block. -/
def expertOf (cn : IVec ⟨1, ![32]⟩ 32) (i : Fin 96) : Fin 32 := ⟨(Cert.Kernel4Ideal.Expert.exW cn (ix1 i)).toNat, Cert.Kernel4Ideal.Expert.exW_lt cn _⟩

/-- The experts' products: the rows of a block through its expert, zeros in a block past the expert's last row. -/
def products (cn : IVec ⟨1, ![32]⟩ 32) (x : (⟨2, ![49152, 1024]⟩ : Shape).Idx → EReal) (w1 w3 : (⟨3, ![32, 1024, 512]⟩ : Shape).Idx → EReal)
    (w2 : (⟨3, ![32, 512, 1024]⟩ : Shape).Idx → EReal) (y : (⟨2, ![49152, 1024]⟩ : Shape).Idx) : EReal :=
  if 0 < (Cert.Kernel4Ideal.Expert.leftW cn (ix1 (blockOf (y 0)))).toInt then
    through (fun k => x (ix2 (y 0) k)) (fun f k => w1 (ix3 (expertOf cn (blockOf (y 0))) k f)) (fun f k => w3 (ix3 (expertOf cn (blockOf (y 0))) k f))
      (fun f => w2 (ix3 (expertOf cn (blockOf (y 0))) f (y 1)))
  else 0

theorem half_eq : Ideal.ofBits .f32 0x3F000000#32 = ((1 / 2 : ℝ) : EReal) := by
  simp [Ideal.ofBits, Ideal.ieee, -EReal.coe_mul]; norm_num

theorem half_tanh (x : EReal) : ((1 / 2 : ℝ) : EReal) + ((1 / 2 : ℝ) : EReal) * Ideal.tanh (((1 / 2 : ℝ) : EReal) * x) = Ideal.logistic x := by
  induction x with
  | bot =>
    rw [EReal.coe_mul_bot_of_pos (by norm_num), Ideal.tanh_bot, Ideal.logistic_bot, mul_neg, mul_one, ← EReal.coe_neg, ← EReal.coe_add]
    norm_num
  | top =>
    rw [EReal.coe_mul_top_of_pos (by norm_num), Ideal.tanh_top, Ideal.logistic_top, mul_one, ← EReal.coe_add]
    norm_num
  | coe r =>
    rw [← EReal.coe_mul, Ideal.tanh_coe, Ideal.logistic_coe, ← EReal.coe_mul, ← EReal.coe_add]
    refine congrArg _ ?_
    have h := Real.exp_pos (1 / 2 * r)
    have e : Real.exp (-r) = (Real.exp (1 / 2 * r))⁻¹ * (Real.exp (1 / 2 * r))⁻¹ := by
      rw [← Real.exp_neg, ← Real.exp_add]; congr 1; ring
    rw [Real.tanh_eq_sinh_div_cosh, Real.sinh_eq, Real.cosh_eq, Real.exp_neg, e]
    field_simp
    ring

end Cert.Experts

namespace Cert.Kernel4Ideal.Expert

open Idealize.ShloMosaic Idealize.ShloMosaic.TcCoe
open Cert.Kernel4Ideal.Gen Cert.Experts

theorem pay1_at (w : Vec Ideal S1x1024x512 .f32) (k : Fin 1024) (f : Fin 512) : k0_pay1 w (ix2 k f) = w (ix3 0 k f) := by
  pointwise [k0_pay1]
theorem pay2_at (w : Vec Ideal S1x1024x512 .f32) (k : Fin 1024) (f : Fin 512) : k0_pay2 w (ix2 k f) = w (ix3 0 k f) := by
  pointwise [k0_pay2]
theorem pay3_at (w : Vec Ideal S1x512x1024 .f32) (f : Fin 512) (d : Fin 1024) : k0_pay3 w (ix2 f d) = w (ix3 0 f d) := by
  pointwise [k0_pay3]
theorem pay5_at (r : Fin 512) (d : Fin 1024) : k0_pay5 (F := Ideal) (ix2 r d) = 0 := by
  pointwise [k0_pay5]

theorem pay4_at (x : Vec Ideal S512x1024 .f32) (u v : Vec Ideal S1024x512 .bf16) (w : Vec Ideal S512x1024 .bf16) (r : Fin 512) (d : Fin 1024) :
    k0_pay4 x u v w (ix2 r d) = through (fun k => x (ix2 r k)) (fun f k => u (ix2 k f)) (fun f k => v (ix2 k f)) (fun f => w (ix2 f d)) := by
  have h : k0_pay4 x u v w (ix2 r d) = ∑ f : Fin 512, (along (fun k => x (ix2 r k)) (fun k => u (ix2 k f))
      * (Ideal.ofBits .f32 0x3F000000#32 + Ideal.ofBits .f32 0x3F000000#32 * Ideal.tanh (Ideal.ofBits .f32 0x3F000000#32 * along (fun k => x (ix2 r k)) (fun k => u (ix2 k f))))
      * along (fun k => x (ix2 r k)) (fun k => v (ix2 k f))) * w (ix2 f d) := by
    pointwise [k0_pay4, along]
  rw [h]
  simp only [half_eq, half_tanh]
  rfl

end Cert.Kernel4Ideal.Expert

end
-- ==== Proof.ExpValue.lean ====
/-
  What the experts' call leaves in its result, over the reals.
-/
module

public import proofs.«01_k».proof.Proof.ExpRun
public import proofs.«01_k».proof.Proof.ExpRows
public import Idealize.ShloMosaic.Lib.Pipeline.ValueKit.Tiles

@[expose] public section

noncomputable section

namespace Cert.Kernel4Ideal.Expert

open Idealize.ShloMosaic Idealize.ShloMosaic.TcCoe
open Idealize.SL.Sem
open Cert.Kernel4Ideal.Gen Cert.Experts
open Idealize.ShloMosaic.Pipeline (Dat Cfg Window)

attribute [local irreducible] tbl V exW fillW leftW

/-! ## The windows' blocks -/

theorem index0 (t : Fin grid0.N) : cc0_transform_0 (grid0.coords t) = ![t.val, 0] := by
  have h : ∀ t : Fin grid0.N, cc0_transform_0 (grid0.coords t) = ![t.val, 0] := by decide +kernel
  exact h t
theorem index4 (t : Fin grid0.N) : cc0_transform_4 (grid0.coords t) = ![t.val, 0] := by
  have h : ∀ t : Fin grid0.N, cc0_transform_4 (grid0.coords t) = ![t.val, 0] := by decide +kernel
  exact h t

/-- A point's block. -/
def blk (t : Fin grid0.N) : Fin 96 := ⟨t.val, t_lt t⟩
/-- A row of a point's block, in the whole array. -/
def row (t : Fin grid0.N) (a : Fin 512) : Fin 49152 := ⟨t.val * 512 + a.val, by have := t_lt t; omega⟩

theorem blockOf_row (t : Fin grid0.N) (a : Fin 512) : blockOf (row t a) = blk t := by
  apply Fin.ext
  show (t.val * 512 + a.val) / 512 = t.val
  omega

section
variable {F : FTy → Type} [FloatOps F]
variable (m : (ℓ : Loc nD τ sig) → Buf (Elt F) ℓ) (c : Dev nD)

theorem iblk0_at (t : Fin grid0.N) (a : Fin 512) (d : Fin 1024) :
    iblk m c 0 t (ix2 (n0 := 512) (n1 := 1024) a d) = m (c, Proc.devRef .tc main_arg1) (ix2 (n0 := 49152) (n1 := 1024) (row t a) d) := by
  refine Eq.trans ?_ (congrFun (V_args m c).2.1 _)
  show V m c main_arg1 _ = V m c main_arg1 _
  refine congrArg (V m c main_arg1) ?_
  funext x
  have e := index0 t
  apply Fin.ext
  refine (Window.rect_emb_val ((cfgM m).win 0) t _ x).trans ?_
  show cc0_transform_0 (grid0.coords t) x * _ + _ = _
  rw [e]
  fin_cases x
  · rfl
  · show 0 * 1024 + d.val = d.val; omega

theorem iblk1_at (t : Fin grid0.N) (a : Fin 1024) (d : Fin 512) :
    iblk m c 1 t (ix3 (n0 := 1) (n1 := 1024) (n2 := 512) 0 a d) = m (c, Proc.devRef .tc main_arg2) (ix3 (n0 := 32) (n1 := 1024) (n2 := 512) (expertOf (cnt m) (blk t)) a d) := by
  refine Eq.trans ?_ (congrFun ((V_args m c).2.2.1) _)
  show V m c main_arg2 _ = V m c main_arg2 _
  refine congrArg (V m c main_arg2) ?_
  funext x
  have e := index1 m t
  apply Fin.ext
  refine (Window.rect_emb_val ((cfgM m).win 1) t _ x).trans ?_
  rw [e]
  fin_cases x
  · show (wd (te0 m) t.val).toNat * 1 + 0 = (exW (cnt m) (ix1 (blk t))).toNat
    rw [Nat.mul_one, Nat.add_zero, ← idx_eq (exW (cnt m)) (ix1 (blk t)) t.val rfl]
  · show 0 * 1024 + a.val = a.val; omega
  · show 0 * 512 + d.val = d.val; omega

theorem iblk2_at (t : Fin grid0.N) (a : Fin 1024) (d : Fin 512) :
    iblk m c 2 t (ix3 (n0 := 1) (n1 := 1024) (n2 := 512) 0 a d) = m (c, Proc.devRef .tc main_arg3) (ix3 (n0 := 32) (n1 := 1024) (n2 := 512) (expertOf (cnt m) (blk t)) a d) := by
  refine Eq.trans ?_ (congrFun ((V_args m c).2.2.2.1) _)
  show V m c main_arg3 _ = V m c main_arg3 _
  refine congrArg (V m c main_arg3) ?_
  funext x
  have e := index2 m t
  apply Fin.ext
  refine (Window.rect_emb_val ((cfgM m).win 2) t _ x).trans ?_
  rw [e]
  fin_cases x
  · show (wd (te0 m) t.val).toNat * 1 + 0 = (exW (cnt m) (ix1 (blk t))).toNat
    rw [Nat.mul_one, Nat.add_zero, ← idx_eq (exW (cnt m)) (ix1 (blk t)) t.val rfl]
  · show 0 * 1024 + a.val = a.val; omega
  · show 0 * 512 + d.val = d.val; omega

theorem iblk3_at (t : Fin grid0.N) (a : Fin 512) (d : Fin 1024) :
    iblk m c 3 t (ix3 (n0 := 1) (n1 := 512) (n2 := 1024) 0 a d) = m (c, Proc.devRef .tc main_arg4) (ix3 (n0 := 32) (n1 := 512) (n2 := 1024) (expertOf (cnt m) (blk t)) a d) := by
  refine Eq.trans ?_ (congrFun ((V_args m c).2.2.2.2) _)
  show V m c main_arg4 _ = V m c main_arg4 _
  refine congrArg (V m c main_arg4) ?_
  funext x
  have e := index3 m t
  apply Fin.ext
  refine (Window.rect_emb_val ((cfgM m).win 3) t _ x).trans ?_
  rw [e]
  fin_cases x
  · show (wd (te0 m) t.val).toNat * 1 + 0 = (exW (cnt m) (ix1 (blk t))).toNat
    rw [Nat.mul_one, Nat.add_zero, ← idx_eq (exW (cnt m)) (ix1 (blk t)) t.val rfl]
  · show 0 * 512 + a.val = a.val; omega
  · show 0 * 1024 + d.val = d.val; omega
end

theorem zero2 : (![0, 0] : Fin 2 → ℕ) = fun _ => 0 := by decide
theorem zero3 : (![0, 0, 0] : Fin 3 → ℕ) = fun _ => 0 := by decide

theorem upOf_at (w : Vec Ideal S1x1024x512 .f32) (k : Fin 1024) (f : Fin 512) : upOf w (ix2 k f) = w (ix3 0 k f) := by
  have h : View.ld w rA = w := View.ld_unit_zero zero3 _ _
  unfold upOf
  rw [View.canon_unit_zero zero2, h, pay1_at]
theorem gateOf_at (w : Vec Ideal S1x1024x512 .f32) (k : Fin 1024) (f : Fin 512) : gateOf w (ix2 k f) = w (ix3 0 k f) := by
  have h : View.ld w rA = w := View.ld_unit_zero zero3 _ _
  unfold gateOf
  rw [View.canon_unit_zero zero2, h, pay2_at]
theorem downOf_at (w : Vec Ideal S1x512x1024 .f32) (f : Fin 512) (d : Fin 1024) : downOf w (ix2 f d) = w (ix3 0 f d) := by
  have h : View.ld w rB = w := View.ld_unit_zero zero3 _ _
  unfold downOf
  rw [View.canon_unit_zero zero2, h, pay3_at]
theorem zeroOf_at (r : Fin 512) (d : Fin 1024) : zeroOf (F := Ideal) (ix2 r d) = 0 := by
  unfold zeroOf
  rw [View.canon_unit_zero zero2, pay5_at]
theorem prodOf_at (x : Vec Ideal S512x1024 .f32) (u v : Vec Ideal S1024x512 .bf16) (w : Vec Ideal S512x1024 .bf16) (r : Fin 512) (d : Fin 1024) :
    prodOf x u v w (ix2 r d) = through (fun k => x (ix2 r k)) (fun f k => u (ix2 k f)) (fun f k => v (ix2 k f)) (fun f => w (ix2 f d)) := by
  have hx : View.ld x rO = x := View.ld_unit_zero zero2 _ _
  have hu : View.ld u rS = u := View.ld_unit_zero zero2 _ _
  have hv : View.ld v rS = v := View.ld_unit_zero zero2 _ _
  have hw : View.ld w rO = w := View.ld_unit_zero zero2 _ _
  unfold prodOf
  rw [View.canon_unit_zero zero2, hx, hu, hv, hw, pay4_at]

variable (m : (ℓ : Loc nD τ sig) → Buf (Elt Ideal) ℓ) (c : Dev nD)

abbrev A1 : Vec Ideal S49152x1024 .f32 := m (c, Proc.devRef .tc main_arg1)
abbrev A2 : Vec Ideal S32x1024x512 .f32 := m (c, Proc.devRef .tc main_arg2)
abbrev A3 : Vec Ideal S32x1024x512 .f32 := m (c, Proc.devRef .tc main_arg3)
abbrev A4 : Vec Ideal S32x512x1024 .f32 := m (c, Proc.devRef .tc main_arg4)

theorem outAt_at (t : Fin grid0.N) (a : Fin 512) (d : Fin 1024) :
    outAt m c t (ix2 a d) = products (cnt m) (A1 m c) (A2 m c) (A3 m c) (A4 m c) (ix2 (row t a) d) := by
  have e0 : ∀ k : Fin 1024, iblk m c 0 t (ix2 (n0 := 512) (n1 := 1024) a k) = A1 m c (ix2 (row t a) k) := fun k => iblk0_at m c t a k
  have e1 : ∀ (k : Fin 1024) (f : Fin 512), upAt m c t (ix2 k f) = A2 m c (ix3 (expertOf (cnt m) (blk t)) k f) := fun k f => (upOf_at _ k f).trans (iblk1_at m c t k f)
  have e2 : ∀ (k : Fin 1024) (f : Fin 512), gateAt m c t (ix2 k f) = A3 m c (ix3 (expertOf (cnt m) (blk t)) k f) := fun k f => (gateOf_at _ k f).trans (iblk2_at m c t k f)
  have e3 : ∀ (f : Fin 512) (d : Fin 1024), downAt m c t (ix2 f d) = A4 m c (ix3 (expertOf (cnt m) (blk t)) f d) := fun f d => (downOf_at _ f d).trans (iblk3_at m c t f d)
  show _ = if 0 < (leftW (cnt m) (ix1 (blockOf (row t a)))).toInt then
    through (fun k => A1 m c (ix2 (row t a) k)) (fun f k => A2 m c (ix3 (expertOf (cnt m) (blockOf (row t a))) k f)) (fun f k => A3 m c (ix3 (expertOf (cnt m) (blockOf (row t a))) k f))
      (fun f => A4 m c (ix3 (expertOf (cnt m) (blockOf (row t a))) f d)) else 0
  rw [blockOf_row]
  have hw : leftW (cnt m) (ix1 (blk t)) = wd (leftW (cnt m)) t.val := idx_eq (leftW (cnt m)) (ix1 (blk t)) t.val rfl
  rw [hw]
  by_cases h : filled m t.val
  · rw [show outAt m c t = _ from if_pos h, if_pos (show 0 < (wd (leftW (cnt m)) t.val).toInt from h), prodOf_at]
    simp only [e0, e1, e2, e3]
  · rw [show outAt m c t = _ from if_neg h, if_neg (show ¬ 0 < (wd (leftW (cnt m)) t.val).toInt from h), zeroOf_at]

/-- The output's blocks are written back at every point, and are all of the array. -/
theorem covers4 : ((cfgM m).win 4).Covers := by
  refine ⟨fun a => ?_, fun β => ?_⟩
  · fin_cases a
    · exact (by decide : 0 < 512)
    · exact (by decide : 0 < 1024)
  · have h0 : (β (0 : Fin 2)).val < (49152 + 512 - 1) / 512 := (β (0 : Fin 2)).isLt
    have h1 : (β (1 : Fin 2)).val < (1024 + 1024 - 1) / 1024 := (β (1 : Fin 2)).isLt
    norm_num at h0 h1
    have hN : grid0.N = 96 := N_0
    have hf : ∀ t : Fin grid0.N, Window.flushOf grid0 true cc0_transform_4 t = true := by decide +kernel
    refine ⟨(⟨(β (0 : Fin 2)).val, by omega⟩ : Fin grid0.N), hf _, fun a => ⟨?_, Or.inl rfl⟩⟩
    refine (congrFun (index4 ⟨(β (0 : Fin 2)).val, by omega⟩) a).trans ?_
    fin_cases a
    · rfl
    · show 0 = (β (1 : Fin 2)).val; omega

theorem out_eq : (dats m 0 c).arrAt (4 : Fin 5) (cfgM m).N = products (cnt m) (A1 m c) (A2 m c) (A3 m c) (A4 m c) := by
  refine (dats m 0 c).arrAt_eq_of_covers (4 : Fin 5) _ (covers4 m) fun t hf y => ?_
  have e4 := index4 t
  have em : ∀ x, (((((cfgM m).win 4).blk t).view.emb y : S49152x1024.Idx) x).val
      = cc0_transform_4 (grid0.coords t) x * S512x1024.size x + (y x).val := fun x => Window.rect_emb_val ((cfgM m).win 4) t y x
  have key := outAt_at m c t (y 0) (y 1)
  refine Eq.trans ?_ (key.trans ?_)
  · show (dats m 0 c).after (4 : Fin 5) t y = _
    rw [after4]
    exact congrArg (outAt m c t) (eq_ix2 (n0 := 512) (n1 := 1024) y)
  · refine congrArg (products (cnt m) (A1 m c) (A2 m c) (A3 m c) (A4 m c)) ?_
    funext x
    apply Fin.ext
    refine Eq.trans ?_ (em x).symm
    rw [e4]
    fin_cases x
    · rfl
    · show (y 1).val = 0 * 1024 + (y 1).val; omega

end Cert.Kernel4Ideal.Expert

end
-- ==== Proof.ExpRef.lean ====
/-
  The experts' products' reference, read at an index over the reals.
-/
module

public import proofs.«01_k».proof.Proof.Gen.Reference4Ideal.Run
public import proofs.«01_k».proof.Proof.ExpRows
public import Idealize.ShloMosaic.Lib.KernelVsHost
public import Idealize.ShloMosaic.Lib.Quiescent

@[expose] public section

noncomputable section

namespace Cert.Experts

open Idealize.ShloMosaic

/-- The dimension numbers of `x[i]` for a vector `i` of indices of a stack `x` of matrices. -/
def takeMat (R N A C : ℕ) (h : GatherDims.WF ⟨3, ![R, A, C]⟩ ⟨2, ![N, 1]⟩ ⟨3, ![N, A, C]⟩ [1, 2] [0] [] [0] [] 1 ![1, A, C]) :
    GatherDims ⟨3, ![R, A, C]⟩ ⟨2, ![N, 1]⟩ ⟨3, ![N, A, C]⟩ where
  offsetDims := [1, 2]
  collapsedSliceDims := [0]
  operandBatchingDims := []
  startIndicesBatchingDims := []
  startIndexMap := [0]
  indexVectorDim := 1
  sliceSizes := ![1, A, C]
  wf := h

/-- Matrix `n` of the result is the matrix its word, read signed and kept within the stack, names. -/
theorem takeMat_at {α : Type} {R N A C : ℕ} (h : GatherDims.WF ⟨3, ![R, A, C]⟩ ⟨2, ![N, 1]⟩ ⟨3, ![N, A, C]⟩ [1, 2] [0] [] [0] [] 1 ![1, A, C])
    (x : (⟨3, ![R, A, C]⟩ : Shape).Idx → α) (idx : IVec ⟨2, ![N, 1]⟩ 32) (n : Fin N) (a : Fin A) (c : Fin C) (r : Fin R)
    (hr : min (idx (ix2 n (0 : Fin 1))).toInt.toNat (R - 1) = r.val) :
    Host.gather (takeMat R N A C h) x idx (ix3 n a c) = x (ix3 r a c) := by
  unfold Host.gather
  congr 1
  funext b
  refine Fin.ext ?_
  show (takeMat R N A C h).start (ix3 n a c) idx b + (takeMat R N A C h).batchCoord (ix3 n a c) b + (takeMat R N A C h).offCoord (ix3 n a c) b = _
  rw [GatherDims.batchCoord_eq_zero _ _ _ List.not_mem_nil, Nat.add_zero]
  have h01 : b = 0 ∨ b = 1 ∨ b = 2 := by
    match b with
    | ⟨0, _⟩ => exact Or.inl rfl
    | ⟨1, _⟩ => exact Or.inr (Or.inl rfl)
    | ⟨2, _⟩ => exact Or.inr (Or.inr rfl)
  have hk : (takeMat R N A C h).sKept = [1, 2] := rfl
  rcases h01 with rfl | rfl | rfl
  · rw [GatherDims.offCoord_eq_zero _ _ _ (fun h => ((GatherDims.mem_sKept _ _).mp h).1 (List.mem_singleton.mpr rfl)), Nat.add_zero]
    unfold GatherDims.start
    rw [dif_pos (show (0 : Fin 3) ∈ (takeMat R N A C h).startIndexMap from List.mem_singleton.mpr rfl)]
    have hsi : (takeMat R N A C h).siIdx (ix3 n a c) ⟨List.idxOf (0 : Fin 3) (takeMat R N A C h).startIndexMap,
        List.idxOf_lt_length_iff.2 (List.mem_singleton.mpr rfl)⟩ = ix2 n (0 : Fin 1) := by
      funext b; refine Fin.ext ?_
      match b with
      | ⟨0, _⟩ => rfl
      | ⟨1, _⟩ => rfl
    rw [hsi]
    exact hr
  · have hs : (takeMat R N A C h).start (ix3 n a c) idx 1 = 0 := by
      unfold GatherDims.start
      rw [dif_neg (show (1 : Fin 3) ∉ (takeMat R N A C h).startIndexMap from
        fun h => (show (1 : Fin 3) ≠ 0 by decide) (List.mem_singleton.1 h))]
    rw [hs, Nat.zero_add]
    unfold GatherDims.offCoord
    rw [dif_pos (by rw [hk]; exact List.mem_cons_self)]
    rfl
  · have hs : (takeMat R N A C h).start (ix3 n a c) idx 2 = 0 := by
      unfold GatherDims.start
      rw [dif_neg (show (2 : Fin 3) ∉ (takeMat R N A C h).startIndexMap from
        fun h => (show (2 : Fin 3) ≠ 0 by decide) (List.mem_singleton.1 h))]
    rw [hs, Nat.zero_add]
    unfold GatherDims.offCoord
    rw [dif_pos (by rw [hk]; exact List.mem_cons_of_mem _ (List.mem_singleton.2 rfl))]
    rfl

end Cert.Experts

namespace Cert.Reference4Ideal.Expert

open Idealize.ShloMosaic Idealize.ShloMosaic.TcCoe Idealize.SL.Sem
open Cert.Reference4Ideal Cert.Reference4Ideal.Gen Cert.Experts
open Cert.Kernel4Ideal.Expert (exW leftW exW_lt)

/-- The blocks' experts as the gathers take them. -/
def exT (e : IVec S96 32) : IVec S96x1 32 := broadcastInDim S96x1 ![0] bcast_S96_S96x1_0 e

def upper (w : FVec Ideal S32x1024x512 .f32) (e : IVec S96 32) : FVec Ideal S96x1024x512 .f32 :=
  Host.gather gather_S32x1024x512_S96x1_S96x1024x512_12_0_n_n_0_1_11024512 w (exT e)
def lower (w : FVec Ideal S32x512x1024 .f32) (e : IVec S96 32) : FVec Ideal S96x512x1024 .f32 :=
  Host.gather gather_S32x512x1024_S96x1_S96x512x1024_12_0_n_n_0_1_15121024 w (exT e)

/-- The rows by block. -/
def rowsT (x : FVec Ideal S49152x1024 .f32) : FVec Ideal S96x512x1024 .f32 := shapeCast _ x shapeCasts_S49152x1024_S96x512x1024

def layer (x : FVec Ideal S96x512x1024 .f32) (w : FVec Ideal S96x1024x512 .f32) : FVec Ideal S96x512x512 .f32 :=
  Host.dotGeneral dot_S96x512x1024_S96x1024x512_S96x512x512_2_1_1_2_0_0 none x w

def actT (u v : FVec Ideal S96x512x512 .f32) : FVec Ideal S96x512x512 .f32 :=
  mulf (mulf u (Host.divf (broadcastInDim S96x512x512 ![] bcast_S_S96x512x512 (constant S_ .f32 0x3F800000#32))
    (addf (broadcastInDim S96x512x512 ![] bcast_S_S96x512x512 (constant S_ .f32 0x3F800000#32)) (Host.exp (Host.negf u))))) v

def throughT (h : FVec Ideal S96x512x512 .f32) (w : FVec Ideal S96x512x1024 .f32) : FVec Ideal S96x512x1024 .f32 :=
  Host.dotGeneral dot_S96x512x512_S96x512x1024_S96x512x1024_2_1_1_2_0_0 none h w

def maskT (l : IVec S96 32) : IVec S96x512x1024 1 :=
  broadcastInDim S96x512x1024 ![0, 1, 2] bcast_S96x1x1_S96x512x1024_0_1_2 (broadcastInDim S96x1x1 ![0] bcast_S96_S96x1x1_0 (cmpi .sgt l (broadcastInDim S96 ![] bcast_S_S96 (constantI S_ 32 0#32))))

def noneT : FVec Ideal S96x512x1024 .f32 := broadcastInDim S96x512x1024 ![] bcast_S_S96x512x1024 (id (constant S_ .f32 0x00000000#32))

/-- The reference's result. -/
def resultT (cn : IVec S32 32) (x : FVec Ideal S49152x1024 .f32) (w1 w3 : FVec Ideal S32x1024x512 .f32) (w2 : FVec Ideal S32x512x1024 .f32) : FVec Ideal S49152x1024 .f32 :=
  shapeCast _ (select (maskT (leftW cn)) (throughT (actT (layer (rowsT x) (upper w1 (exW cn))) (layer (rowsT x) (upper w3 (exW cn)))) (lower w2 (exW cn))) noneT) shapeCasts_S96x512x1024_S49152x1024

theorem ex_min (cn : IVec S32 32) (i : Fin 96) : min (exT (exW cn) (ix2 i (0 : Fin 1))).toInt.toNat (32 - 1) = (expertOf cn i).val := by
  have e : exT (exW cn) (ix2 i (0 : Fin 1)) = exW cn (ix1 i) := by pointwise [exT]
  have h := exW_lt cn (ix1 i)
  rw [e, BitVec.toInt_eq_toNat_of_lt (by omega)]
  show min (exW cn (ix1 i)).toNat 31 = (exW cn (ix1 i)).toNat
  omega

theorem upper_at (w : FVec Ideal S32x1024x512 .f32) (cn : IVec S32 32) (i : Fin 96) (k : Fin 1024) (f : Fin 512) :
    upper w (exW cn) (ix3 i k f) = w (ix3 (expertOf cn i) k f) :=
  takeMat_at gather_S32x1024x512_S96x1_S96x1024x512_12_0_n_n_0_1_11024512_wf w _ i k f (expertOf cn i) (ex_min cn i)
theorem lower_at (w : FVec Ideal S32x512x1024 .f32) (cn : IVec S32 32) (i : Fin 96) (f : Fin 512) (d : Fin 1024) :
    lower w (exW cn) (ix3 i f d) = w (ix3 (expertOf cn i) f d) :=
  takeMat_at gather_S32x512x1024_S96x1_S96x512x1024_12_0_n_n_0_1_15121024_wf w _ i f d (expertOf cn i) (ex_min cn i)

theorem layer_at (x : FVec Ideal S96x512x1024 .f32) (w : FVec Ideal S96x1024x512 .f32) (i : Fin 96) (r f : Fin 512) :
    layer x w (ix3 i r f) = along (fun k => x (ix3 i r k)) (fun k => w (ix3 i k f)) := by
  pointwise [layer, along]

theorem act_at (u v : FVec Ideal S96x512x512 .f32) (i : Fin 96) (r f : Fin 512) : actT u v (ix3 i r f) = act (u (ix3 i r f)) (v (ix3 i r f)) := by
  pointwise [actT, act, Ideal.logistic]

theorem through_at (h : FVec Ideal S96x512x512 .f32) (w : FVec Ideal S96x512x1024 .f32) (i : Fin 96) (r : Fin 512) (d : Fin 1024) :
    throughT h w (ix3 i r d) = ∑ f : Fin 512, h (ix3 i r f) * w (ix3 i f d) := by
  pointwise [throughT]

theorem none_at (i : Fin 96) (r : Fin 512) (d : Fin 1024) : noneT (ix3 i r d) = 0 := by
  pointwise [noneT, id_eq]

theorem mask_at (l : IVec S96 32) (i : Fin 96) (r : Fin 512) (d : Fin 1024) : maskT l (ix3 i r d) = IntOp.cmpi .sgt (l (ix1 i)) 0#32 := by
  pointwise [maskT]

/-- A row within its block. -/
def place (n : Fin 49152) : Fin 512 := ⟨n.val % 512, Nat.mod_lt _ (by decide)⟩

theorem rows_at (x : FVec Ideal S49152x1024 .f32) (n : Fin 49152) (k : Fin 1024) : rowsT x (ix3 (blockOf n) (place n) k) = x (ix2 n k) := by
  unfold rowsT
  refine shapeCast_apply _ shapeCasts_S49152x1024_S96x512x1024 _ _ ?_
  rw [Shape.rowMajor_val_two, Shape.rowMajor_val_three]
  show n.val * 1024 + k.val = (n.val / 512 * 512 + n.val % 512) * 1024 + k.val
  omega

theorem result_eq (cn : IVec S32 32) (x : FVec Ideal S49152x1024 .f32) (w1 w3 : FVec Ideal S32x1024x512 .f32) (w2 : FVec Ideal S32x512x1024 .f32) :
    resultT cn x w1 w3 w2 = products cn x w1 w3 w2 := by
  funext y
  obtain ⟨n, d, rfl⟩ : ∃ (n : Fin 49152) (d : Fin 1024), y = ix2 n d := ⟨y 0, y 1, eq_ix2 y⟩
  unfold resultT
  refine (shapeCast_apply _ shapeCasts_S96x512x1024_S49152x1024 _ (ix3 (blockOf n) (place n) d) ?_).trans ?_
  · rw [Shape.rowMajor_val_two, Shape.rowMajor_val_three]
    show (n.val / 512 * 512 + n.val % 512) * 1024 + d.val = n.val * 1024 + d.val
    omega
  show (if maskT (leftW cn) (ix3 (blockOf n) (place n) d) = 1#1 then _ else _) = _
  rw [mask_at]
  have hm : IntOp.cmpi .sgt (leftW cn (ix1 (blockOf n))) 0#32 = 1#1 ↔ 0 < (leftW cn (ix1 (blockOf n))).toInt := by
    show BitVec.ofBool ((0#32).slt (leftW cn (ix1 (blockOf n)))) = 1#1 ↔ _
    rw [show (0 : ℤ) = (0#32 : BitVec 32).toInt from rfl, ← BitVec.slt_iff_toInt_lt]
    cases (0#32).slt (leftW cn (ix1 (blockOf n))) <;> decide
  show _ = if 0 < (leftW cn (ix1 (blockOf n))).toInt then _ else _
  by_cases h : 0 < (leftW cn (ix1 (blockOf n))).toInt
  · rw [if_pos (hm.2 h), if_pos h, through_at]
    show _ = through (fun k => x (ix2 n k)) (fun f k => w1 (ix3 (expertOf cn (blockOf n)) k f)) (fun f k => w3 (ix3 (expertOf cn (blockOf n)) k f)) (fun f => w2 (ix3 (expertOf cn (blockOf n)) f d))
    unfold through
    refine Finset.sum_congr rfl fun f _ => ?_
    rw [act_at, layer_at, layer_at, lower_at]
    simp only [rows_at, upper_at]
  · rw [if_neg (fun e => h (hm.1 e)), if_neg h, none_at]

variable (m : (ℓ : Loc nD τ sig) → Buf (Elt Ideal) ℓ) (ρ : Dev nD → PrngReg)

set_option maxRecDepth 8192 in
set_option maxHeartbeats 2000000 in
theorem value (c : Dev nD) :
    Value.res_out0 m c = products (m ((c.tc : Thread nD τ).loc main_arg0)) (m ((c.tc : Thread nD τ).loc main_arg1)) (m ((c.tc : Thread nD τ).loc main_arg2))
      (m ((c.tc : Thread nD τ).loc main_arg3)) (m ((c.tc : Thread nD τ).loc main_arg4)) := by
  refine Eq.trans ?_ (result_eq _ _ _ _ _)
  unfold Value.res_out0 Value.res_main_v44
  rfl

/-- Its frame. -/
theorem frame : θ_run defs (onTc (τ := τ) (main (F := Ideal))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
    ∧ r.2.sem = fun _ => 0) :=
  (θ_run defs _ _).mono (fun r k => ⟨fun c => (k c).2, sem_eq_zero_of_no_sems (by decide) r.2⟩) (Value.run (F := Ideal) m ρ)

end Cert.Reference4Ideal.Expert

end
-- ==== Proof.ExpSame.lean ====
/-
  The experts' products' text and its idealization's are one text.
-/
module

public import proofs.«01_k».proof.Proof.Gen.Kernel4
public import proofs.«01_k».proof.Proof.Gen.Kernel4Ideal

@[expose] public section

noncomputable section

namespace Cert.ExpSame

open Idealize.ShloMosaic

variable {F : FTy → Type} [FloatOps F]

set_option maxRecDepth 100000 in
set_option maxHeartbeats 4000000 in
theorem main : Cert.Kernel4.main (F := F) = Cert.Kernel4Ideal.main (F := F) := rfl

set_option maxRecDepth 100000 in
set_option maxHeartbeats 4000000 in
theorem body : Cert.Kernel4.cc0_moe_experts (F := F) = Cert.Kernel4Ideal.cc0_moe_experts (F := F) := rfl

/-- The body at two namings of the staging buffers that are one. -/
theorem stages (i : Cert.Kernel4Ideal.grid0.Coords)
    (t : Memref Cert.Kernel4Ideal.sig .tc .smem Cert.Kernel4Ideal.S96 .i32) (pt : t.IsWhole) (u : Memref Cert.Kernel4Ideal.sig .tc .smem Cert.Kernel4Ideal.S96 .i32) (pu : u.IsWhole)
    {a3 b3 : Memref Cert.Kernel4Ideal.sig .tc .vmem Cert.Kernel4Ideal.S512x1024 .f32} (h3 : a3 = b3) (p3 : a3.IsWhole) (q3 : b3.IsWhole)
    {a4 b4 : Memref Cert.Kernel4Ideal.sig .tc .vmem Cert.Kernel4Ideal.S1x1024x512 .f32} (h4 : a4 = b4) (p4 : a4.IsWhole) (q4 : b4.IsWhole)
    {a5 b5 : Memref Cert.Kernel4Ideal.sig .tc .vmem Cert.Kernel4Ideal.S1x1024x512 .f32} (h5 : a5 = b5) (p5 : a5.IsWhole) (q5 : b5.IsWhole)
    {a6 b6 : Memref Cert.Kernel4Ideal.sig .tc .vmem Cert.Kernel4Ideal.S1x512x1024 .f32} (h6 : a6 = b6) (p6 : a6.IsWhole) (q6 : b6.IsWhole)
    {a7 b7 : Memref Cert.Kernel4Ideal.sig .tc .vmem Cert.Kernel4Ideal.S512x1024 .f32} (h7 : a7 = b7) (p7 : a7.IsWhole) (q7 : b7.IsWhole)
    (x : Memref Cert.Kernel4Ideal.sig .tc .vmem Cert.Kernel4Ideal.S1024x512 .bf16) (px : x.IsWhole) (y : Memref Cert.Kernel4Ideal.sig .tc .vmem Cert.Kernel4Ideal.S1024x512 .bf16) (py : y.IsWhole)
    (z : Memref Cert.Kernel4Ideal.sig .tc .vmem Cert.Kernel4Ideal.S512x1024 .bf16) (pz : z.IsWhole) :
    Cert.Kernel4Ideal.cc0_moe_experts (F := F) i t pt u pu a3 p3 a4 p4 a5 p5 a6 p6 a7 p7 x px y py z pz
      = Cert.Kernel4Ideal.cc0_moe_experts (F := F) i t pt u pu b3 q3 b4 q4 b5 q5 b6 q6 b7 q7 x px y py z pz := by
  subst h3 h4 h5 h6 h7; rfl

theorem stage0 (x : Fin Cert.Kernel4Ideal.spec0_0.nbuf) : Cert.Kernel4.spec0_0.stage x = Cert.Kernel4Ideal.spec0_0.stage x := by
  match x with
  | ⟨0, _⟩ => rfl
  | ⟨1, _⟩ => rfl

theorem stage1 (x : Fin Cert.Kernel4Ideal.spec0_1.nbuf) : Cert.Kernel4.spec0_1.stage x = Cert.Kernel4Ideal.spec0_1.stage x := by
  match x with
  | ⟨0, _⟩ => rfl
  | ⟨1, _⟩ => rfl

theorem stage2 (x : Fin Cert.Kernel4Ideal.spec0_2.nbuf) : Cert.Kernel4.spec0_2.stage x = Cert.Kernel4Ideal.spec0_2.stage x := by
  match x with
  | ⟨0, _⟩ => rfl
  | ⟨1, _⟩ => rfl

theorem stage3 (x : Fin Cert.Kernel4Ideal.spec0_3.nbuf) : Cert.Kernel4.spec0_3.stage x = Cert.Kernel4Ideal.spec0_3.stage x := by
  match x with
  | ⟨0, _⟩ => rfl
  | ⟨1, _⟩ => rfl

theorem stage4 (x : Fin Cert.Kernel4Ideal.spec0_4.nbuf) : Cert.Kernel4.spec0_4.stage x = Cert.Kernel4Ideal.spec0_4.stage x := by
  match x with
  | ⟨0, _⟩ => rfl
  | ⟨1, _⟩ => rfl

set_option maxRecDepth 100000 in
set_option maxHeartbeats 4000000 in
theorem defs₀ : Cert.Kernel4.defs₀ (F := F) = Cert.Kernel4Ideal.defs₀ (F := F) := by
  unfold Cert.Kernel4.defs₀ Cert.Kernel4Ideal.defs₀
  rw [body]
  refine congrArg _ (funext fun l => funext fun a => ?_)
  match l, a with
  | ⟨0, _⟩, (t, s) =>
    exact stages (F := F) (Cert.Kernel4Ideal.grid0.coords t) _ _ _ _ (stage0 (s 0)) _ _ (stage1 (s 1)) _ _ (stage2 (s 2)) _ _ (stage3 (s 3)) _ _
      (stage4 (s 4)) _ _ _ _ _ _ _ _
  | ⟨_ + 1, h⟩, _ => exact absurd h (Nat.not_lt.2 (Nat.le_add_left _ _))

set_option maxRecDepth 100000 in
set_option maxHeartbeats 4000000 in
theorem defs : Cert.Kernel4.defs (F := F) = Cert.Kernel4Ideal.defs (F := F) := by
  unfold Cert.Kernel4.defs Cert.Kernel4Ideal.defs
  rw [defs₀]
  rfl

end Cert.ExpSame

end
-- ==== Proof.Ranked3.lean ====
/-
  The combination's precondition read back: the experts are below 32, every assignment's rank is its place among its expert's, and the counts
  are the numbers of assignments.
-/
module

public import proofs.«01_k».proof.Proof.Places
public import proofs.«01_k».proof.Pre_ranked3

@[expose] public section

noncomputable section

namespace Cert.Routes

open Idealize.ShloMosaic Idealize.ShloMosaic.ValueIdx Idealize.ShloMosaic.Routing
open Cert.Pre_ranked3 Cert.Pre_ranked3.Facts

variable {F : FTy → Type} [FloatOps F] [Cert.Pre_ranked3.Facts]

theorem routed_of_pre3 (a0 a1 : IVec (shape2 16384 2) 32) (a2 : IVec (shape1 32) 32) (a3 : FVec F Cert.Pre_ranked3.S49152x1024 .f32)
    (a4 : FVec F Cert.Pre_ranked3.S16384x128 .f32) (a5 : FVec F Cert.Pre_ranked3.S2x8192x1024 .f32) (a6 : FVec F Cert.Pre_ranked3.S2x1x1024 .f32) (a7 a8 : FVec F Cert.Pre_ranked3.S1024 .f32)
    (h : Cert.Pre_ranked3.fn (F := F) a0 a1 a2 a3 a4 a5 a6 a7 a8 = fun _ => 1#1) : Routed a0 a1 a2 (chosen a0) := by
  have h := congrFun h ix0
  haveI : Subsingleton (shape0).Idx := ⟨fun a b => funext fun i => i.elim0⟩
  have h' : IntOp.andi (IntOp.andi (IntOp.andi
      (Host.reduce IntOp.andi (cmpi .sge a0 (broadcastInDim (shape2 16384 2) ![] bcast_S_S16384x2 (constantI shape0 32 0#32)))
        (constantI shape0 1 1#1) reducesTo_S16384x2_S_d0_1 h_S_ ix0)
      (Host.reduce IntOp.andi (cmpi .slt a0 (broadcastInDim (shape2 16384 2) ![] bcast_S_S16384x2 (constantI shape0 32 32#32)))
        (constantI shape0 1 1#1) reducesTo_S16384x2_S_d0_1 h_S_ ix0))
      (Host.reduce IntOp.andi (cmpi .eq (shapeCast (shape1 32768) a1 shapeCasts_S16384x2_S32768)
          (placeW bcast_S32768_S32768x1_0 bcast_S32_S1x32_1 bcast_S32768x1_S32768x32_0_1 bcast_S1x32_S32768x32_0_1 natLt_1_32 bcast_S_S_
            bcast_S_S32768x32 reduceWindows_S32768x32_S32768x32_w32768s1p32767_0_w1s1p0_0 reducesTo_S32768x32_S32768_d1 h_S_
            (shapeCast (shape1 32768) a0 shapeCasts_S16384x2_S32768)))
        (constantI shape0 1 1#1) reducesTo_S32768_S_d0 h_S_ ix0))
      (Host.reduce IntOp.andi (cmpi .eq a2 (shapeCast (shape1 32) (extractStridedSlice (shape2 1 32) ![32767, 0]
          (uptoW bcast_S32768_S32768x1_0 bcast_S32_S1x32_1 bcast_S32768x1_S32768x32_0_1 bcast_S1x32_S32768x32_0_1 natLt_1_32 bcast_S_S_
            reduceWindows_S32768x32_S32768x32_w32768s1p32767_0_w1s1p0_0 h_S_
            (shapeCast (shape1 32768) a0 shapeCasts_S16384x2_S32768)) slices_S32768x32_S1x32_32767_0) shapeCasts_S1x32_S32))
        (constantI shape0 1 1#1) reducesTo_S32_S_d0 h_S_ ix0) = 1#1 := h
  obtain ⟨h, hcnt⟩ := IntOp.andi_eq_one.1 h'
  obtain ⟨h, hrank⟩ := IntOp.andi_eq_one.1 h
  obtain ⟨hge, hlt⟩ := IntOp.andi_eq_one.1 h
  have hge := Host.reduce_andi_all _ _ _ _ _ hge
  have hlt := Host.reduce_andi_all _ _ _ _ _ hlt
  have hrank := Host.reduce_andi_all _ _ _ _ _ hrank
  have hcnt := Host.reduce_andi_all _ _ _ _ _ hcnt
  have hw : ∀ i : (shape2 16384 2).Idx, (a0 i).toNat < 32 := by
    intro i
    have h1 : IntOp.cmpi .sge (a0 i) 0#32 = 1#1 := by
      have h := hge i
      show IntOp.cmpi .sge (a0 i) _ = 1#1
      exact (congrArg (IntOp.cmpi .sge (a0 i)) (bc0 bcast_S_S16384x2 (constantI shape0 32 0#32) i).symm).trans h
    have h2 : IntOp.cmpi .slt (a0 i) 32#32 = 1#1 :=
      (congrArg (IntOp.cmpi .slt (a0 i)) (bc0 bcast_S_S16384x2 (constantI shape0 32 32#32) i).symm).trans (hlt i)
    have h3 : (a0 i).toInt ≥ 0 := by
      have h := (StableHlo.Predicate.ofBool_eq_one_iff _).1 h1
      simpa [BitVec.sle] using h
    have h4 : (a0 i).toInt < 32 := by
      have h := (StableHlo.Predicate.ofBool_eq_one_iff _).1 h2
      simpa [BitVec.slt] using h
    have h5 := BitVec.toInt_eq_toNat_cond (a0 i)
    have h6 := (a0 i).isLt
    split at h5 <;> omega
  have hlt32 : ∀ r < 32768, chosen a0 r < 32 := fun r _ => hw _
  have hid : ∀ (t : Fin 16384) (s : Fin 2), a0 (ix2 t s) = BitVec.ofNat 32 (chosen a0 (t.val * 2 + s.val)) := by
    intro t s
    rw [chosen_at, BitVec.ofNat_toNat, BitVec.setWidth_eq]
  have hev : ∀ r : Fin 32768, shapeCast (shape1 32768) a0 shapeCasts_S16384x2_S32768 (ix1 r) = BitVec.ofNat 32 (chosen a0 r.val) := by
    intro r
    have hr := r.isLt
    have hd : r.val / 2 * 2 + r.val % 2 = r.val := by omega
    rw [cast21 a0 _ ⟨r.val / 2, by omega⟩ ⟨r.val % 2, by omega⟩ r hd.symm, hid]
    show BitVec.ofNat 32 (chosen a0 (r.val / 2 * 2 + r.val % 2)) = _
    rw [hd]
  refine ⟨hlt32, hid, fun t s => ?_, fun x => ?_⟩
  · have ht := t.isLt
    have hs := s.isLt
    have h := StableHlo.Predicate.cmpi_eq_iff.1 (hrank (ix1 ⟨t.val * 2 + s.val, by omega⟩))
    rw [cast21 a1 _ t s ⟨t.val * 2 + s.val, by omega⟩ rfl, placeW_at _ _ _ _ _ _ _ _ _ _ (chosen a0) hlt32 _ hev] at h
    exact h
  · have h := StableHlo.Predicate.cmpi_eq_iff.1 (hcnt (ix1 x))
    rw [cast21 _ _ 0 x x (by simp), slice_last, uptoW_at _ _ _ _ _ _ _ _ (chosen a0) hlt32 _ hev] at h
    exact h

end Cert.Routes

end
-- ==== Proof.lean ====
/-
  The claims: the dispatch lays every token's row at its place, and the reference's array is the same; the
  projection leaves the reference's two arrays; the combination of the experts' outputs leaves the reference's array, and so
  do the experts.
-/
module

public import proofs.«01_k».proof.Defs
public import proofs.«01_k».proof.Proof.Gen.Kernel
public import proofs.«01_k».proof.Proof.Gen.Kernel.Skeleton
public import proofs.«01_k».proof.Proof.Gen.Kernel.Loops
public import proofs.«01_k».proof.Proof.Gen.Kernel.Launch
public import proofs.«01_k».proof.Proof.Gen.Kernel.Flash
public import proofs.«01_k».proof.Proof.Gen.KernelIdeal
public import proofs.«01_k».proof.Proof.Gen.KernelIdeal.Skeleton
public import proofs.«01_k».proof.Proof.Gen.KernelIdeal.Loops
public import proofs.«01_k».proof.Proof.Gen.KernelIdeal.Launch
public import proofs.«01_k».proof.Proof.Gen.KernelIdeal.Flash
public import proofs.«01_k».proof.Proof.Gen.ReferenceIdeal
public import proofs.«01_k».proof.Proof.Gen.Reference
public import proofs.«01_k».proof.Proof.Gen.ReferenceIdeal.Run
public import proofs.«01_k».proof.Proof.Gen.Reference.Run
public import proofs.«01_k».proof.Proof.Gen.Pre_ranked
public import proofs.«01_k».proof.Proof.Gen.Reference2Ideal.Run
public import proofs.«01_k».proof.Proof.Gen.Kernel2
public import proofs.«01_k».proof.Proof.Gen.Kernel2.Skeleton
public import proofs.«01_k».proof.Proof.Gen.Kernel2.Launch
public import proofs.«01_k».proof.Proof.Gen.Kernel2Ideal
public import proofs.«01_k».proof.Proof.Gen.Kernel2Ideal.Skeleton
public import proofs.«01_k».proof.Proof.Gen.Kernel2Ideal.Launch
public import proofs.«01_k».proof.Proof.Gen.Kernel3
public import proofs.«01_k».proof.Proof.Gen.Kernel3.Skeleton
public import proofs.«01_k».proof.Proof.Gen.Kernel3.Launch
public import proofs.«01_k».proof.Proof.Gen.Kernel3Ideal
public import proofs.«01_k».proof.Proof.Gen.Kernel3Ideal.Skeleton
public import proofs.«01_k».proof.Proof.Gen.Kernel3Ideal.Launch
public import proofs.«01_k».proof.Proof.Gen.Reference3Ideal.Run
public import proofs.«01_k».proof.Proof.Gen.Pre_ranked3
public import proofs.«01_k».proof.Proof.Gen.Kernel4
public import proofs.«01_k».proof.Proof.Gen.Kernel4.Skeleton
public import proofs.«01_k».proof.Proof.Gen.Kernel4.Launch
public import proofs.«01_k».proof.Proof.Gen.Kernel4Ideal
public import proofs.«01_k».proof.Proof.Gen.Kernel4Ideal.Skeleton
public import proofs.«01_k».proof.Proof.Gen.Kernel4Ideal.Launch
public import proofs.«01_k».proof.Proof.Gen.Reference4Ideal.Run
public import Idealize.ShloMosaic.Adequacy
public import Idealize.ShloMosaic.Init
public import proofs.«01_k».proof.Proof.Out
public import proofs.«01_k».proof.Proof.Ranked
public import proofs.«01_k».proof.Proof.RefValue
public import proofs.«01_k».proof.Proof.SameBody
public import proofs.«01_k».proof.Proof.SameMain
public import proofs.«01_k».proof.Proof.ProjValue
public import proofs.«01_k».proof.Proof.ProjRef
public import proofs.«01_k».proof.Proof.ProjSame
public import proofs.«01_k».proof.Proof.CombValue
public import proofs.«01_k».proof.Proof.CombRef
public import proofs.«01_k».proof.Proof.CombSame
public import proofs.«01_k».proof.Proof.ExpValue
public import proofs.«01_k».proof.Proof.ExpRef
public import proofs.«01_k».proof.Proof.ExpSame
public import proofs.«01_k».proof.Proof.Ranked3

@[expose] public section

noncomputable section

namespace Cert.Proof

open Idealize.ShloMosaic Idealize.ShloMosaic.TcCoe Idealize.SL.Sem Cert.Routes

/-- The precondition, read on the kernel's memory. -/
theorem routed {F : FTy → Type} [FloatOps F] (m : (ℓ : Loc Cert.KernelIdeal.nD Cert.KernelIdeal.τ Cert.KernelIdeal.sig) → Buf (Elt F) ℓ)
    (h : Cert.Pre_ranked.fn (F := F) (m (((0 : Dev Cert.KernelIdeal.nD).tc : Thread Cert.KernelIdeal.nD Cert.KernelIdeal.τ).loc Cert.KernelIdeal.main_arg0))
      (m (((0 : Dev Cert.KernelIdeal.nD).tc : Thread Cert.KernelIdeal.nD Cert.KernelIdeal.τ).loc Cert.KernelIdeal.main_arg1))
      (m (((0 : Dev Cert.KernelIdeal.nD).tc : Thread Cert.KernelIdeal.nD Cert.KernelIdeal.τ).loc Cert.KernelIdeal.main_arg2))
      (m (((0 : Dev Cert.KernelIdeal.nD).tc : Thread Cert.KernelIdeal.nD Cert.KernelIdeal.τ).loc Cert.KernelIdeal.main_arg3)) = fun _ => 1#1) :
    Cert.KernelIdeal.Dispatched.RoutedAt m (chosen (m (((0 : Dev Cert.KernelIdeal.nD).tc : Thread Cert.KernelIdeal.nD Cert.KernelIdeal.τ).loc Cert.KernelIdeal.main_arg0))) :=
  routed_of_pre _ _ _ _ h

theorem frame_kernel_ideal : Cert.quiescent_KernelIdeal := fun m ρ hpre =>
  (θ_run Cert.KernelIdeal.defs _ _).mono (fun _ h => ⟨fun c => (h.1 c).2, h.2⟩) (Cert.KernelIdeal.Dispatched.run_value (routed m (hpre 0)) ρ)

/-- The kernel's own run, at the bits: its text is its idealization's. -/
theorem run_bits (m : (ℓ : Loc Cert.Kernel.nD Cert.Kernel.τ Cert.Kernel.sig) → Buf (Elt Bits) ℓ) (ρ : Dev Cert.Kernel.nD → PrngReg)
    {Q : _ → Prop} (h : θ_run (Cert.KernelIdeal.defs (F := Bits)) (onTc (τ := Cert.KernelIdeal.τ) (Cert.KernelIdeal.main (F := Bits))) ⟨m, fun _ => 0, ρ⟩ Q) :
    θ_run (Cert.Kernel.defs (F := Bits)) (onTc (τ := Cert.Kernel.τ) (Cert.Kernel.main (F := Bits))) ⟨m, fun _ => 0, ρ⟩ Q := by
  rw [Cert.Same.defs, Cert.Same.main]
  exact h

theorem frame_kernel : Cert.quiescent_Kernel := by
  intro m ρ hpre
  refine run_bits m ρ ?_
  exact (θ_run Cert.KernelIdeal.defs _ _).mono (fun _ h => ⟨fun c => (h.1 c).2, h.2⟩)
    (Cert.KernelIdeal.Dispatched.run_value (F := Bits) (routed (F := Bits) m (hpre 0)) ρ)

theorem algebraic : Cert.algebraic_KernelIdeal_ReferenceIdeal := by
  intro m ρ m' ρ' hpre hagree
  have R := routed m (hpre 0)
  refine ⟨fun c => rowsOf (F := Ideal) (chosen (m (((0 : Dev Cert.KernelIdeal.nD).tc : Thread Cert.KernelIdeal.nD Cert.KernelIdeal.τ).loc Cert.KernelIdeal.main_arg0)))
    (m ((c.tc : Thread Cert.KernelIdeal.nD Cert.KernelIdeal.τ).loc Cert.KernelIdeal.main_arg3)), ?_, ?_⟩
  · exact (θ_run Cert.KernelIdeal.defs _ _).mono (fun _ h c => h.1 c) (Cert.KernelIdeal.Dispatched.run_value R ρ)
  · refine (θ_run Cert.ReferenceIdeal.defs _ _).mono (fun _ h c => ⟨(h c).1.trans ?_, (h c).2⟩) (Cert.ReferenceIdeal.Value.run (F := Ideal) m' ρ')
    obtain rfl : c = 0 := Subsingleton.elim (α := Fin 1) _ _
    have ha := hagree 0
    refine (ideal_value (F := Ideal) m' 0 _ (a1 := m (((0 : Dev Cert.KernelIdeal.nD).tc : Thread Cert.KernelIdeal.nD Cert.KernelIdeal.τ).loc Cert.KernelIdeal.main_arg1)) (a2 := m (((0 : Dev Cert.KernelIdeal.nD).tc : Thread Cert.KernelIdeal.nD Cert.KernelIdeal.τ).loc Cert.KernelIdeal.main_arg2)) (by rw [ha.1]; exact R)).trans ?_
    exact congrArg _ ha.2.2.2

theorem bitexact : Cert.bitexact_Kernel_Reference := by
  intro m ρ m' ρ' hpre hagree
  have R := routed (F := Bits) m (hpre 0)
  refine ⟨fun c => rowsOf (F := Bits) (chosen (m (((0 : Dev Cert.Kernel.nD).tc : Thread Cert.Kernel.nD Cert.Kernel.τ).loc Cert.Kernel.main_arg0)))
    (m ((c.tc : Thread Cert.Kernel.nD Cert.Kernel.τ).loc Cert.Kernel.main_arg3)), ?_, ?_⟩
  · refine run_bits m ρ ?_
    exact (θ_run Cert.KernelIdeal.defs _ _).mono (fun _ h c => h.1 c) (Cert.KernelIdeal.Dispatched.run_value R ρ)
  · refine (θ_run Cert.Reference.defs _ _).mono (fun _ h c => ⟨(h c).1.trans ?_, (h c).2⟩) (Cert.Reference.Value.run (F := Bits) m' ρ')
    obtain rfl : c = 0 := Subsingleton.elim (α := Fin 1) _ _
    have ha := hagree 0
    refine (plain_value (F := Bits) m' 0 _ (a1 := m (((0 : Dev Cert.KernelIdeal.nD).tc : Thread Cert.KernelIdeal.nD Cert.KernelIdeal.τ).loc Cert.KernelIdeal.main_arg1)) (a2 := m (((0 : Dev Cert.KernelIdeal.nD).tc : Thread Cert.KernelIdeal.nD Cert.KernelIdeal.τ).loc Cert.KernelIdeal.main_arg2)) (by rw [ha.1]; exact R)).trans ?_
    exact congrArg _ ha.2.2.2

theorem frame_proj_ideal : Cert.quiescent_Kernel2Ideal := fun m ρ _ =>
  (θ_run Cert.Kernel2Ideal.defs _ _).mono (fun _ h => ⟨fun c => (h.1 c).2.2, h.2⟩) (Cert.Kernel2Ideal.Projected.run_args m ρ)

/-- The projection's own run, at the bits: its text is its idealization's. -/
theorem proj_bits (m : (ℓ : Loc Cert.Kernel2.nD Cert.Kernel2.τ Cert.Kernel2.sig) → Buf (Elt Bits) ℓ) (ρ : Dev Cert.Kernel2.nD → PrngReg)
    {Q : _ → Prop} (h : θ_run (Cert.Kernel2Ideal.defs (F := Bits)) (onTc (τ := Cert.Kernel2Ideal.τ) (Cert.Kernel2Ideal.main (F := Bits))) ⟨m, fun _ => 0, ρ⟩ Q) :
    θ_run (Cert.Kernel2.defs (F := Bits)) (onTc (τ := Cert.Kernel2.τ) (Cert.Kernel2.main (F := Bits))) ⟨m, fun _ => 0, ρ⟩ Q := by
  rw [Cert.ProjSame.defs, Cert.ProjSame.main]
  exact h

theorem frame_proj : Cert.quiescent_Kernel2 := by
  intro m ρ _
  refine proj_bits m ρ ?_
  exact (θ_run Cert.Kernel2Ideal.defs _ _).mono (fun _ h => ⟨fun c => (h.1 c).2.2, h.2⟩)
    (Cert.Kernel2Ideal.Projected.run_args (F := Bits) m ρ)

theorem algebraic_proj : Cert.algebraic_Kernel2Ideal_Reference2Ideal := by
  intro m ρ m' ρ' _ hagree
  refine ⟨fun c => Cert.Projection.wide (m ((c.tc : Thread Cert.Kernel2Ideal.nD Cert.Kernel2Ideal.τ).loc Cert.Kernel2Ideal.main_arg0))
      (m ((c.tc : Thread Cert.Kernel2Ideal.nD Cert.Kernel2Ideal.τ).loc Cert.Kernel2Ideal.main_arg1))
      (m ((c.tc : Thread Cert.Kernel2Ideal.nD Cert.Kernel2Ideal.τ).loc Cert.Kernel2Ideal.main_arg2))
      (m ((c.tc : Thread Cert.Kernel2Ideal.nD Cert.Kernel2Ideal.τ).loc Cert.Kernel2Ideal.main_arg3)),
    fun c => Cert.Projection.narrow (m ((c.tc : Thread Cert.Kernel2Ideal.nD Cert.Kernel2Ideal.τ).loc Cert.Kernel2Ideal.main_arg0))
      (m ((c.tc : Thread Cert.Kernel2Ideal.nD Cert.Kernel2Ideal.τ).loc Cert.Kernel2Ideal.main_arg1))
      (m ((c.tc : Thread Cert.Kernel2Ideal.nD Cert.Kernel2Ideal.τ).loc Cert.Kernel2Ideal.main_arg2))
      (m ((c.tc : Thread Cert.Kernel2Ideal.nD Cert.Kernel2Ideal.τ).loc Cert.Kernel2Ideal.main_arg3)), ?_, ?_⟩
  · exact (θ_run Cert.Kernel2Ideal.defs _ _).mono (fun _ h c => h.1 c) (Cert.Kernel2Ideal.Projected.run_value m ρ)
  · refine (θ_run Cert.Reference2Ideal.defs _ _).mono (fun _ h c => ?_) (Cert.Reference2Ideal.Projected.run_value m' ρ')
    obtain ⟨e0, e1, e2, e3⟩ := hagree c
    obtain ⟨k0, k1, k2⟩ := h c
    rw [e0, e1, e2, e3] at k0 k1
    exact ⟨k0, k1, k2⟩

/-- The combination's precondition, read on its memory. -/
theorem routed3 {F : FTy → Type} [FloatOps F] (m : (ℓ : Loc Cert.Kernel3Ideal.nD Cert.Kernel3Ideal.τ Cert.Kernel3Ideal.sig) → Buf (Elt F) ℓ)
    (h : Cert.Pre_ranked3.fn (F := F) (m (((0 : Dev Cert.Kernel3Ideal.nD).tc : Thread Cert.Kernel3Ideal.nD Cert.Kernel3Ideal.τ).loc Cert.Kernel3Ideal.main_arg0))
      (m (((0 : Dev Cert.Kernel3Ideal.nD).tc : Thread Cert.Kernel3Ideal.nD Cert.Kernel3Ideal.τ).loc Cert.Kernel3Ideal.main_arg1))
      (m (((0 : Dev Cert.Kernel3Ideal.nD).tc : Thread Cert.Kernel3Ideal.nD Cert.Kernel3Ideal.τ).loc Cert.Kernel3Ideal.main_arg2))
      (m (((0 : Dev Cert.Kernel3Ideal.nD).tc : Thread Cert.Kernel3Ideal.nD Cert.Kernel3Ideal.τ).loc Cert.Kernel3Ideal.main_arg3))
      (m (((0 : Dev Cert.Kernel3Ideal.nD).tc : Thread Cert.Kernel3Ideal.nD Cert.Kernel3Ideal.τ).loc Cert.Kernel3Ideal.main_arg4))
      (m (((0 : Dev Cert.Kernel3Ideal.nD).tc : Thread Cert.Kernel3Ideal.nD Cert.Kernel3Ideal.τ).loc Cert.Kernel3Ideal.main_arg5))
      (m (((0 : Dev Cert.Kernel3Ideal.nD).tc : Thread Cert.Kernel3Ideal.nD Cert.Kernel3Ideal.τ).loc Cert.Kernel3Ideal.main_arg6))
      (m (((0 : Dev Cert.Kernel3Ideal.nD).tc : Thread Cert.Kernel3Ideal.nD Cert.Kernel3Ideal.τ).loc Cert.Kernel3Ideal.main_arg7))
      (m (((0 : Dev Cert.Kernel3Ideal.nD).tc : Thread Cert.Kernel3Ideal.nD Cert.Kernel3Ideal.τ).loc Cert.Kernel3Ideal.main_arg8)) = fun _ => 1#1) :
    Cert.Kernel3Ideal.Combined.RoutedAt m (chosen (m (((0 : Dev Cert.Kernel3Ideal.nD).tc : Thread Cert.Kernel3Ideal.nD Cert.Kernel3Ideal.τ).loc Cert.Kernel3Ideal.main_arg0))) :=
  routed_of_pre3 _ _ _ _ _ _ _ _ _ h

theorem frame_comb_ideal : Cert.quiescent_Kernel3Ideal := fun m ρ hpre =>
  (θ_run Cert.Kernel3Ideal.defs _ _).mono (fun _ h => ⟨fun c => (h.1 c).2, h.2⟩) (Cert.Kernel3Ideal.Combined.run_args (routed3 m (hpre 0)) ρ)

/-- The combination's own run, at the bits: its text is its idealization's. -/
theorem comb_bits (m : (ℓ : Loc Cert.Kernel3.nD Cert.Kernel3.τ Cert.Kernel3.sig) → Buf (Elt Bits) ℓ) (ρ : Dev Cert.Kernel3.nD → PrngReg)
    {Q : _ → Prop} (h : θ_run (Cert.Kernel3Ideal.defs (F := Bits)) (onTc (τ := Cert.Kernel3Ideal.τ) (Cert.Kernel3Ideal.main (F := Bits))) ⟨m, fun _ => 0, ρ⟩ Q) :
    θ_run (Cert.Kernel3.defs (F := Bits)) (onTc (τ := Cert.Kernel3.τ) (Cert.Kernel3.main (F := Bits))) ⟨m, fun _ => 0, ρ⟩ Q := by
  rw [Cert.CombSame.defs, Cert.CombSame.main]
  exact h

theorem frame_comb : Cert.quiescent_Kernel3 := by
  intro m ρ hpre
  refine comb_bits m ρ ?_
  exact (θ_run Cert.Kernel3Ideal.defs _ _).mono (fun _ h => ⟨fun c => (h.1 c).2, h.2⟩)
    (Cert.Kernel3Ideal.Combined.run_args (F := Bits) (routed3 (F := Bits) m (hpre 0)) ρ)

theorem algebraic_comb : Cert.algebraic_Kernel3Ideal_Reference3Ideal := by
  intro m ρ m' ρ' hpre hagree
  have R := routed3 m (hpre 0)
  refine ⟨fun c => Cert.Combination.combined (chosen (m (((0 : Dev Cert.Kernel3Ideal.nD).tc : Thread Cert.Kernel3Ideal.nD Cert.Kernel3Ideal.τ).loc Cert.Kernel3Ideal.main_arg0)))
    (m ((c.tc : Thread Cert.Kernel3Ideal.nD Cert.Kernel3Ideal.τ).loc Cert.Kernel3Ideal.main_arg3)) (m ((c.tc : Thread Cert.Kernel3Ideal.nD Cert.Kernel3Ideal.τ).loc Cert.Kernel3Ideal.main_arg4)) (m ((c.tc : Thread Cert.Kernel3Ideal.nD Cert.Kernel3Ideal.τ).loc Cert.Kernel3Ideal.main_arg5)) (m ((c.tc : Thread Cert.Kernel3Ideal.nD Cert.Kernel3Ideal.τ).loc Cert.Kernel3Ideal.main_arg6)) (m ((c.tc : Thread Cert.Kernel3Ideal.nD Cert.Kernel3Ideal.τ).loc Cert.Kernel3Ideal.main_arg7)) (m ((c.tc : Thread Cert.Kernel3Ideal.nD Cert.Kernel3Ideal.τ).loc Cert.Kernel3Ideal.main_arg8)), ?_, ?_⟩
  · exact (θ_run Cert.Kernel3Ideal.defs _ _).mono (fun _ h c => ⟨(h.1 c).1.trans (Cert.Kernel3Ideal.Combined.out_eq c R), (h.1 c).2⟩) (Cert.Kernel3Ideal.Combined.run_args R ρ)
  · refine (θ_run Cert.Reference3Ideal.defs _ _).mono (fun _ h c => ⟨(h c).1.trans ?_, (h c).2⟩) (Cert.Reference3Ideal.Value.run (F := Ideal) m' ρ')
    obtain rfl : c = 0 := Subsingleton.elim (α := Fin 1) _ _
    obtain ⟨e0, e1, e2, e3, e4, e5, e6, e7, e8⟩ := hagree 0
    refine (Cert.Reference3Ideal.Combined.value m' 0 _ (a1 := (m (((0 : Dev Cert.Kernel3Ideal.nD).tc : Thread Cert.Kernel3Ideal.nD Cert.Kernel3Ideal.τ).loc Cert.Kernel3Ideal.main_arg1))) (a2 := (m (((0 : Dev Cert.Kernel3Ideal.nD).tc : Thread Cert.Kernel3Ideal.nD Cert.Kernel3Ideal.τ).loc Cert.Kernel3Ideal.main_arg2))) (by rw [e0]; exact R)).trans ?_
    rw [e3, e4, e5, e6, e7, e8]

theorem frame_exp_ideal : Cert.quiescent_Kernel4Ideal := fun m ρ _ =>
  (θ_run Cert.Kernel4Ideal.defs _ _).mono (fun _ h => ⟨fun c => (h.1 c).2, h.2⟩) (Cert.Kernel4Ideal.Expert.run_args m ρ)

/-- The experts' own run, at the bits: its text is its idealization's. -/
theorem exp_bits (m : (ℓ : Loc Cert.Kernel4.nD Cert.Kernel4.τ Cert.Kernel4.sig) → Buf (Elt Bits) ℓ) (ρ : Dev Cert.Kernel4.nD → PrngReg)
    {Q : _ → Prop} (h : θ_run (Cert.Kernel4Ideal.defs (F := Bits)) (onTc (τ := Cert.Kernel4Ideal.τ) (Cert.Kernel4Ideal.main (F := Bits))) ⟨m, fun _ => 0, ρ⟩ Q) :
    θ_run (Cert.Kernel4.defs (F := Bits)) (onTc (τ := Cert.Kernel4.τ) (Cert.Kernel4.main (F := Bits))) ⟨m, fun _ => 0, ρ⟩ Q := by
  rw [Cert.ExpSame.defs, Cert.ExpSame.main]
  exact h

theorem frame_exp : Cert.quiescent_Kernel4 := by
  intro m ρ _
  refine exp_bits m ρ ?_
  exact (θ_run Cert.Kernel4Ideal.defs _ _).mono (fun _ h => ⟨fun c => (h.1 c).2, h.2⟩)
    (Cert.Kernel4Ideal.Expert.run_args (F := Bits) m ρ)

theorem algebraic_exp : Cert.algebraic_Kernel4Ideal_Reference4Ideal := by
  intro m ρ m' ρ' _ hagree
  refine ⟨fun c => Cert.Experts.products (m ((c.tc : Thread Cert.Kernel4Ideal.nD Cert.Kernel4Ideal.τ).loc Cert.Kernel4Ideal.main_arg0))
    (m ((c.tc : Thread Cert.Kernel4Ideal.nD Cert.Kernel4Ideal.τ).loc Cert.Kernel4Ideal.main_arg1))
    (m ((c.tc : Thread Cert.Kernel4Ideal.nD Cert.Kernel4Ideal.τ).loc Cert.Kernel4Ideal.main_arg2))
    (m ((c.tc : Thread Cert.Kernel4Ideal.nD Cert.Kernel4Ideal.τ).loc Cert.Kernel4Ideal.main_arg3))
    (m ((c.tc : Thread Cert.Kernel4Ideal.nD Cert.Kernel4Ideal.τ).loc Cert.Kernel4Ideal.main_arg4)), ?_, ?_⟩
  · refine (θ_run Cert.Kernel4Ideal.defs _ _).mono (fun _ h c => ⟨(h.1 c).1.trans ?_, (h.1 c).2⟩) (Cert.Kernel4Ideal.Expert.run_args m ρ)
    obtain rfl : c = 0 := Subsingleton.elim (α := Fin 1) _ _
    exact Cert.Kernel4Ideal.Expert.out_eq m 0
  · refine (θ_run Cert.Reference4Ideal.defs _ _).mono (fun _ h c => ⟨(h c).1.trans ?_, (h c).2⟩) (Cert.Reference4Ideal.Value.run (F := Ideal) m' ρ')
    obtain ⟨e0, e1, e2, e3, e4⟩ := hagree c
    refine (Cert.Reference4Ideal.Expert.value m' c).trans ?_
    rw [e0, e1, e2, e3, e4]

theorem claim : Cert.Claim :=
  ⟨Cert.Kernel.Gen.facts, Cert.KernelIdeal.Gen.facts, Cert.ReferenceIdeal.Gen.facts, Cert.Reference.Gen.facts,
    Cert.Kernel2.Gen.facts, Cert.Kernel2Ideal.Gen.facts, Cert.Reference2Ideal.Gen.facts, Cert.Kernel3.Gen.facts, Cert.Kernel3Ideal.Gen.facts,
    Cert.Reference3Ideal.Gen.facts, Cert.Kernel4.Gen.facts, Cert.Kernel4Ideal.Gen.facts, Cert.Reference4Ideal.Gen.facts, Cert.Pre_ranked.Gen.facts, Cert.Pre_ranked3.Gen.facts,
    frame_kernel, frame_kernel_ideal, fun m ρ _ => frame_ideal m ρ, fun m ρ _ => frame_ideal m ρ, fun m ρ _ => frame_plain m ρ,
    frame_proj, frame_proj_ideal, fun m ρ _ => Cert.Reference2Ideal.Projected.frame m ρ,
    frame_comb, frame_comb_ideal, fun m ρ _ => Cert.Reference3Ideal.Combined.frame m ρ, fun m ρ _ => Cert.Reference3Ideal.Combined.frame m ρ,
    frame_exp, frame_exp_ideal, fun m ρ _ => Cert.Reference4Ideal.Expert.frame m ρ,
    trivial, algebraic, bitexact, trivial, algebraic_proj, trivial, algebraic_comb, trivial, algebraic_exp⟩

end Cert.Proof

end
